-- ==== Defs.lean ====
def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mixer_in_bwd_finite [hPre_mixer_in_bwd_finite : Cert.Pre_mixer_in_bwd_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mixer_in_bwd_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mixer_in_bwd_finite [hPre_mixer_in_bwd_finite : Cert.Pre_mixer_in_bwd_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mixer_in_bwd_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_bwd_finite [hPre_ffn_bwd_finite : Cert.Pre_ffn_bwd_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8)) (m ((c.tc : Thread Cert.FfnBwdRefIdeal.nD Cert.FfnBwdRefIdeal.τ).loc Cert.FfnBwdRefIdeal.main_arg9))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_fwd_finite [hPre_ffn_fwd_finite : Cert.Pre_ffn_fwd_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9)) (m ((c.tc : Thread Cert.FfnFwdIdeal.nD Cert.FfnFwdIdeal.τ).loc Cert.FfnFwdIdeal.main_arg10))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_fwd_finite [hPre_ffn_fwd_finite : Cert.Pre_ffn_fwd_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_fwd_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9)) (m ((c.tc : Thread Cert.FfnFwdRefIdeal.nD Cert.FfnFwdRefIdeal.τ).loc Cert.FfnFwdRefIdeal.main_arg10))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mixer_out_bwd_finite [hPre_mixer_out_bwd_finite : Cert.Pre_mixer_out_bwd_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mixer_out_bwd_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mixer_out_bwd_finite [hPre_mixer_out_bwd_finite : Cert.Pre_mixer_out_bwd_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mixer_out_bwd_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9))) = (fun _ => 1#1)

def Pre_SsmParamBwd (m : (ℓ : Loc Cert.SsmParamBwd.nD Cert.SsmParamBwd.τ Cert.SsmParamBwd.sig) → Buf (Elt Bits) ℓ) : Prop :=
  True

def Pre_SsmParamBwdIdeal (m : (ℓ : Loc Cert.SsmParamBwdIdeal.nD Cert.SsmParamBwdIdeal.τ Cert.SsmParamBwdIdeal.sig) → Buf (Elt Ideal) ℓ) : Prop :=
  True

def Pre_SsmParamBwdIdeal_ssm_param_bwd_finite [hPre_ssm_param_bwd_finite : Cert.Pre_ssm_param_bwd_finite.Facts] (m : (ℓ : Loc Cert.SsmParamBwdIdeal.nD Cert.SsmParamBwdIdeal.τ Cert.SsmParamBwdIdeal.sig) → Buf (Elt Ideal) ℓ) : Prop :=
  ∀ c : Dev Cert.SsmParamBwdIdeal.nD,
    (Cert.Pre_ssm_param_bwd_finite.fn (F := Ideal) (m ((c.tc : Thread Cert.SsmParamBwdIdeal.nD Cert.SsmParamBwdIdeal.τ).loc Cert.SsmParamBwdIdeal.main_arg0)) (m ((c.tc : Thread Cert.SsmParamBwdIdeal.nD Cert.SsmParamBwdIdeal.τ).loc Cert.SsmParamBwdIdeal.main_arg1)) (m ((c.tc : Thread Cert.SsmParamBwdIdeal.nD Cert.SsmParamBwdIdeal.τ).loc Cert.SsmParamBwdIdeal.main_arg2)) (m ((c.tc : Thread Cert.SsmParamBwdIdeal.nD Cert.SsmParamBwdIdeal.τ).loc Cert.SsmParamBwdIdeal.main_arg3)) (m ((c.tc : Thread Cert.SsmParamBwdIdeal.nD Cert.SsmParamBwdIdeal.τ).loc Cert.SsmParamBwdIdeal.main_arg4)) (m ((c.tc : Thread Cert.SsmParamBwdIdeal.nD Cert.SsmParamBwdIdeal.τ).loc Cert.SsmParamBwdIdeal.main_arg5)) (m ((c.tc : Thread Cert.SsmParamBwdIdeal.nD Cert.SsmParamBwdIdeal.τ).loc Cert.SsmParamBwdIdeal.main_arg6)) (m ((c.tc : Thread Cert.SsmParamBwdIdeal.nD Cert.SsmParamBwdIdeal.τ).loc Cert.SsmParamBwdIdeal.main_arg7)) (m ((c.tc : Thread Cert.SsmParamBwdIdeal.nD Cert.SsmParamBwdIdeal.τ).loc Cert.SsmParamBwdIdeal.main_arg8)) (m ((c.tc : Thread Cert.SsmParamBwdIdeal.nD Cert.SsmParamBwdIdeal.τ).loc Cert.SsmParamBwdIdeal.main_arg9))) = (fun _ => 1#1)

def Pre_SsmParamBwdRefIdeal (m : (ℓ : Loc Cert.SsmParamBwdRefIdeal.nD Cert.SsmParamBwdRefIdeal.τ Cert.SsmParamBwdRefIdeal.sig) → Buf (Elt Ideal) ℓ) : Prop :=
  True

def Pre_SsmParamBwdRefIdeal_ssm_param_bwd_finite [hPre_ssm_param_bwd_finite : Cert.Pre_ssm_param_bwd_finite.Facts] (m : (ℓ : Loc Cert.SsmParamBwdRefIdeal.nD Cert.SsmParamBwdRefIdeal.τ Cert.SsmParamBwdRefIdeal.sig) → Buf (Elt Ideal) ℓ) : Prop :=
  ∀ c : Dev Cert.SsmParamBwdRefIdeal.nD,
    (Cert.Pre_ssm_param_bwd_finite.fn (F := Ideal) (m ((c.tc : Thread Cert.SsmParamBwdRefIdeal.nD Cert.SsmParamBwdRefIdeal.τ).loc Cert.SsmParamBwdRefIdeal.main_arg0)) (m ((c.tc : Thread Cert.SsmParamBwdRefIdeal.nD Cert.SsmParamBwdRefIdeal.τ).loc Cert.SsmParamBwdRefIdeal.main_arg1)) (m ((c.tc : Thread Cert.SsmParamBwdRefIdeal.nD Cert.SsmParamBwdRefIdeal.τ).loc Cert.SsmParamBwdRefIdeal.main_arg2)) (m ((c.tc : Thread Cert.SsmParamBwdRefIdeal.nD Cert.SsmParamBwdRefIdeal.τ).loc Cert.SsmParamBwdRefIdeal.main_arg3)) (m ((c.tc : Thread Cert.SsmParamBwdRefIdeal.nD Cert.SsmParamBwdRefIdeal.τ).loc Cert.SsmParamBwdRefIdeal.main_arg4)) (m ((c.tc : Thread Cert.SsmParamBwdRefIdeal.nD Cert.SsmParamBwdRefIdeal.τ).loc Cert.SsmParamBwdRefIdeal.main_arg5)) (m ((c.tc : Thread Cert.SsmParamBwdRefIdeal.nD Cert.SsmParamBwdRefIdeal.τ).loc Cert.SsmParamBwdRefIdeal.main_arg6)) (m ((c.tc : Thread Cert.SsmParamBwdRefIdeal.nD Cert.SsmParamBwdRefIdeal.τ).loc Cert.SsmParamBwdRefIdeal.main_arg7)) (m ((c.tc : Thread Cert.SsmParamBwdRefIdeal.nD Cert.SsmParamBwdRefIdeal.τ).loc Cert.SsmParamBwdRefIdeal.main_arg8)) (m ((c.tc : Thread Cert.SsmParamBwdRefIdeal.nD Cert.SsmParamBwdRefIdeal.τ).loc Cert.SsmParamBwdRefIdeal.main_arg9))) = (fun _ => 1#1)

def Pre_SsmFwd (m : (ℓ : Loc Cert.SsmFwd.nD Cert.SsmFwd.τ Cert.SsmFwd.sig) → Buf (Elt Bits) ℓ) : Prop :=
  True

def Pre_SsmFwdIdeal (m : (ℓ : Loc Cert.SsmFwdIdeal.nD Cert.SsmFwdIdeal.τ Cert.SsmFwdIdeal.sig) → Buf (Elt Ideal) ℓ) : Prop :=
  True

def Pre_SsmFwdIdeal_ssm_fwd_finite [hPre_ssm_fwd_finite : Cert.Pre_ssm_fwd_finite.Facts] (m : (ℓ : Loc Cert.SsmFwdIdeal.nD Cert.SsmFwdIdeal.τ Cert.SsmFwdIdeal.sig) → Buf (Elt Ideal) ℓ) : Prop :=
  ∀ c : Dev Cert.SsmFwdIdeal.nD,
    (Cert.Pre_ssm_fwd_finite.fn (F := Ideal) (m ((c.tc : Thread Cert.SsmFwdIdeal.nD Cert.SsmFwdIdeal.τ).loc Cert.SsmFwdIdeal.main_arg0)) (m ((c.tc : Thread Cert.SsmFwdIdeal.nD Cert.SsmFwdIdeal.τ).loc Cert.SsmFwdIdeal.main_arg1)) (m ((c.tc : Thread Cert.SsmFwdIdeal.nD Cert.SsmFwdIdeal.τ).loc Cert.SsmFwdIdeal.main_arg2)) (m ((c.tc : Thread Cert.SsmFwdIdeal.nD Cert.SsmFwdIdeal.τ).loc Cert.SsmFwdIdeal.main_arg3)) (m ((c.tc : Thread Cert.SsmFwdIdeal.nD Cert.SsmFwdIdeal.τ).loc Cert.SsmFwdIdeal.main_arg4)) (m ((c.tc : Thread Cert.SsmFwdIdeal.nD Cert.SsmFwdIdeal.τ).loc Cert.SsmFwdIdeal.main_arg5)) (m ((c.tc : Thread Cert.SsmFwdIdeal.nD Cert.SsmFwdIdeal.τ).loc Cert.SsmFwdIdeal.main_arg6)) (m ((c.tc : Thread Cert.SsmFwdIdeal.nD Cert.SsmFwdIdeal.τ).loc Cert.SsmFwdIdeal.main_arg7))) = (fun _ => 1#1)

def Pre_SsmFwdRefIdeal (m : (ℓ : Loc Cert.SsmFwdRefIdeal.nD Cert.SsmFwdRefIdeal.τ Cert.SsmFwdRefIdeal.sig) → Buf (Elt Ideal) ℓ) : Prop :=
  True

def Pre_SsmFwdRefIdeal_ssm_fwd_finite [hPre_ssm_fwd_finite : Cert.Pre_ssm_fwd_finite.Facts] (m : (ℓ : Loc Cert.SsmFwdRefIdeal.nD Cert.SsmFwdRefIdeal.τ Cert.SsmFwdRefIdeal.sig) → Buf (Elt Ideal) ℓ) : Prop :=
  ∀ c : Dev Cert.SsmFwdRefIdeal.nD,
    (Cert.Pre_ssm_fwd_finite.fn (F := Ideal) (m ((c.tc : Thread Cert.SsmFwdRefIdeal.nD Cert.SsmFwdRefIdeal.τ).loc Cert.SsmFwdRefIdeal.main_arg0)) (m ((c.tc : Thread Cert.SsmFwdRefIdeal.nD Cert.SsmFwdRefIdeal.τ).loc Cert.SsmFwdRefIdeal.main_arg1)) (m ((c.tc : Thread Cert.SsmFwdRefIdeal.nD Cert.SsmFwdRefIdeal.τ).loc Cert.SsmFwdRefIdeal.main_arg2)) (m ((c.tc : Thread Cert.SsmFwdRefIdeal.nD Cert.SsmFwdRefIdeal.τ).loc Cert.SsmFwdRefIdeal.main_arg3)) (m ((c.tc : Thread Cert.SsmFwdRefIdeal.nD Cert.SsmFwdRefIdeal.τ).loc Cert.SsmFwdRefIdeal.main_arg4)) (m ((c.tc : Thread Cert.SsmFwdRefIdeal.nD Cert.SsmFwdRefIdeal.τ).loc Cert.SsmFwdRefIdeal.main_arg5)) (m ((c.tc : Thread Cert.SsmFwdRefIdeal.nD Cert.SsmFwdRefIdeal.τ).loc Cert.SsmFwdRefIdeal.main_arg6)) (m ((c.tc : Thread Cert.SsmFwdRefIdeal.nD Cert.SsmFwdRefIdeal.τ).loc Cert.SsmFwdRefIdeal.main_arg7))) = (fun _ => 1#1)

def Pre_SsmPrep (m : (ℓ : Loc Cert.SsmPrep.nD Cert.SsmPrep.τ Cert.SsmPrep.sig) → Buf (Elt Bits) ℓ) : Prop :=
  True

def Pre_SsmPrepIdeal (m : (ℓ : Loc Cert.SsmPrepIdeal.nD Cert.SsmPrepIdeal.τ Cert.SsmPrepIdeal.sig) → Buf (Elt Ideal) ℓ) : Prop :=
  True

def Pre_SsmPrepRefIdeal (m : (ℓ : Loc Cert.SsmPrepRefIdeal.nD Cert.SsmPrepRefIdeal.τ Cert.SsmPrepRefIdeal.sig) → Buf (Elt Ideal) ℓ) : Prop :=
  True

def Pre_MixInFwd (m : (ℓ : Loc Cert.MixInFwd.nD Cert.MixInFwd.τ Cert.MixInFwd.sig) → Buf (Elt Bits) ℓ) : Prop :=
  True

def Pre_MixInFwdIdeal (m : (ℓ : Loc Cert.MixInFwdIdeal.nD Cert.MixInFwdIdeal.τ Cert.MixInFwdIdeal.sig) → Buf (Elt Ideal) ℓ) : Prop :=
  True

def Pre_MixInFwdRefIdeal (m : (ℓ : Loc Cert.MixInFwdRefIdeal.nD Cert.MixInFwdRefIdeal.τ Cert.MixInFwdRefIdeal.sig) → Buf (Elt Ideal) ℓ) : Prop :=
  True

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInIdeal_pre_mixer_in_bwd_finite [hMixInIdeal : Cert.MixInIdeal.Facts] [hPre_mixer_in_bwd_finite : Cert.Pre_mixer_in_bwd_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mixer_in_bwd_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_MixInRefIdeal_pre_mixer_in_bwd_finite [hMixInRefIdeal : Cert.MixInRefIdeal.Facts] [hPre_mixer_in_bwd_finite : Cert.Pre_mixer_in_bwd_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mixer_in_bwd_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7)
      ∧ r.2.mem ((c.tc : Thread Cert.FfnBwd.nD Cert.FfnBwd.τ).loc Cert.FfnBwd.main_arg8) = m ((c.tc : Thread Cert.FfnBwd.nD Cert.FfnBwd.τ).loc Cert.FfnBwd.main_arg8)
      ∧ r.2.mem ((c.tc : Thread Cert.FfnBwd.nD Cert.FfnBwd.τ).loc Cert.FfnBwd.main_arg9) = m ((c.tc : Thread Cert.FfnBwd.nD Cert.FfnBwd.τ).loc Cert.FfnBwd.main_arg9))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8)
      ∧ r.2.mem ((c.tc : Thread Cert.FfnBwdRefIdeal.nD Cert.FfnBwdRefIdeal.τ).loc Cert.FfnBwdRefIdeal.main_arg9) = m ((c.tc : Thread Cert.FfnBwdRefIdeal.nD Cert.FfnBwdRefIdeal.τ).loc Cert.FfnBwdRefIdeal.main_arg9))
      ∧ r.2.sem = fun _ => 0)

def quiescent_FfnBwdRefIdeal_pre_ffn_bwd_finite [hFfnBwdRefIdeal : Cert.FfnBwdRefIdeal.Facts] [hPre_ffn_bwd_finite : Cert.Pre_ffn_bwd_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_bwd_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8)
      ∧ r.2.mem ((c.tc : Thread Cert.FfnBwdRefIdeal.nD Cert.FfnBwdRefIdeal.τ).loc Cert.FfnBwdRefIdeal.main_arg9) = m ((c.tc : Thread Cert.FfnBwdRefIdeal.nD Cert.FfnBwdRefIdeal.τ).loc Cert.FfnBwdRefIdeal.main_arg9))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8)
      ∧ r.2.mem ((c.tc : Thread Cert.FfnFwd.nD Cert.FfnFwd.τ).loc Cert.FfnFwd.main_arg9) = m ((c.tc : Thread Cert.FfnFwd.nD Cert.FfnFwd.τ).loc Cert.FfnFwd.main_arg9)
      ∧ r.2.mem ((c.tc : Thread Cert.FfnFwd.nD Cert.FfnFwd.τ).loc Cert.FfnFwd.main_arg10) = m ((c.tc : Thread Cert.FfnFwd.nD Cert.FfnFwd.τ).loc Cert.FfnFwd.main_arg10))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
      ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ r.2.sem = fun _ => 0)

def quiescent_FfnFwdIdeal_pre_ffn_fwd_finite [hFfnFwdIdeal : Cert.FfnFwdIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_fwd_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
      ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9)
      ∧ r.2.mem ((c.tc : Thread Cert.FfnFwdRefIdeal.nD Cert.FfnFwdRefIdeal.τ).loc Cert.FfnFwdRefIdeal.main_arg10) = m ((c.tc : Thread Cert.FfnFwdRefIdeal.nD Cert.FfnFwdRefIdeal.τ).loc Cert.FfnFwdRefIdeal.main_arg10))
      ∧ r.2.sem = fun _ => 0)

def quiescent_FfnFwdRefIdeal_pre_ffn_fwd_finite [hFfnFwdRefIdeal : Cert.FfnFwdRefIdeal.Facts] [hPre_ffn_fwd_finite : Cert.Pre_ffn_fwd_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_fwd_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9)
      ∧ r.2.mem ((c.tc : Thread Cert.FfnFwdRefIdeal.nD Cert.FfnFwdRefIdeal.τ).loc Cert.FfnFwdRefIdeal.main_arg10) = m ((c.tc : Thread Cert.FfnFwdRefIdeal.nD Cert.FfnFwdRefIdeal.τ).loc Cert.FfnFwdRefIdeal.main_arg10))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutIdeal_pre_mixer_out_bwd_finite [hMixOutIdeal : Cert.MixOutIdeal.Facts] [hPre_mixer_out_bwd_finite : Cert.Pre_mixer_out_bwd_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mixer_out_bwd_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def quiescent_MixOutRefIdeal_pre_mixer_out_bwd_finite [hMixOutRefIdeal : Cert.MixOutRefIdeal.Facts] [hPre_mixer_out_bwd_finite : Cert.Pre_mixer_out_bwd_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mixer_out_bwd_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9))
      ∧ r.2.sem = fun _ => 0)

def quiescent_SsmParamBwd [hSsmParamBwd : Cert.SsmParamBwd.Facts] : Prop :=
  ∀ (m : (ℓ : Loc Cert.SsmParamBwd.nD Cert.SsmParamBwd.τ Cert.SsmParamBwd.sig) → Buf (Elt Bits) ℓ) (g : Dev Cert.SsmParamBwd.nD → PrngReg), Pre_SsmParamBwd m →
    θ_run (Cert.SsmParamBwd.defs (F := Bits)) (onTc (τ := Cert.SsmParamBwd.τ) (Cert.SsmParamBwd.main (F := Bits))) ⟨m, fun _ => 0, g⟩ (fun r => (∀ c : Dev Cert.SsmParamBwd.nD,
      r.2.mem ((c.tc : Thread Cert.SsmParamBwd.nD Cert.SsmParamBwd.τ).loc Cert.SsmParamBwd.main_arg0) = m ((c.tc : Thread Cert.SsmParamBwd.nD Cert.SsmParamBwd.τ).loc Cert.SsmParamBwd.main_arg0)
      ∧ r.2.mem ((c.tc : Thread Cert.SsmParamBwd.nD Cert.SsmParamBwd.τ).loc Cert.SsmParamBwd.main_arg1) = m ((c.tc : Thread Cert.SsmParamBwd.nD Cert.SsmParamBwd.τ).loc Cert.SsmParamBwd.main_arg1)
      ∧ r.2.mem ((c.tc : Thread Cert.SsmParamBwd.nD Cert.SsmParamBwd.τ).loc Cert.SsmParamBwd.main_arg2) = m ((c.tc : Thread Cert.SsmParamBwd.nD Cert.SsmParamBwd.τ).loc Cert.SsmParamBwd.main_arg2)
      ∧ r.2.mem ((c.tc : Thread Cert.SsmParamBwd.nD Cert.SsmParamBwd.τ).loc Cert.SsmParamBwd.main_arg3) = m ((c.tc : Thread Cert.SsmParamBwd.nD Cert.SsmParamBwd.τ).loc Cert.SsmParamBwd.main_arg3)
      ∧ r.2.mem ((c.tc : Thread Cert.SsmParamBwd.nD Cert.SsmParamBwd.τ).loc Cert.SsmParamBwd.main_arg4) = m ((c.tc : Thread Cert.SsmParamBwd.nD Cert.SsmParamBwd.τ).loc Cert.SsmParamBwd.main_arg4)
      ∧ r.2.mem ((c.tc : Thread Cert.SsmParamBwd.nD Cert.SsmParamBwd.τ).loc Cert.SsmParamBwd.main_arg5) = m ((c.tc : Thread Cert.SsmParamBwd.nD Cert.SsmParamBwd.τ).loc Cert.SsmParamBwd.main_arg5)
      ∧ r.2.mem ((c.tc : Thread Cert.SsmParamBwd.nD Cert.SsmParamBwd.τ).loc Cert.SsmParamBwd.main_arg6) = m ((c.tc : Thread Cert.SsmParamBwd.nD Cert.SsmParamBwd.τ).loc Cert.SsmParamBwd.main_arg6)
      ∧ r.2.mem ((c.tc : Thread Cert.SsmParamBwd.nD Cert.SsmParamBwd.τ).loc Cert.SsmParamBwd.main_arg7) = m ((c.tc : Thread Cert.SsmParamBwd.nD Cert.SsmParamBwd.τ).loc Cert.SsmParamBwd.main_arg7)
      ∧ r.2.mem ((c.tc : Thread Cert.SsmParamBwd.nD Cert.SsmParamBwd.τ).loc Cert.SsmParamBwd.main_arg8) = m ((c.tc : Thread Cert.SsmParamBwd.nD Cert.SsmParamBwd.τ).loc Cert.SsmParamBwd.main_arg8)
      ∧ r.2.mem ((c.tc : Thread Cert.SsmParamBwd.nD Cert.SsmParamBwd.τ).loc Cert.SsmParamBwd.main_arg9) = m ((c.tc : Thread Cert.SsmParamBwd.nD Cert.SsmParamBwd.τ).loc Cert.SsmParamBwd.main_arg9))
      ∧ r.2.sem = fun _ => 0)

def quiescent_SsmParamBwdIdeal [hSsmParamBwdIdeal : Cert.SsmParamBwdIdeal.Facts] : Prop :=
  ∀ (m : (ℓ : Loc Cert.SsmParamBwdIdeal.nD Cert.SsmParamBwdIdeal.τ Cert.SsmParamBwdIdeal.sig) → Buf (Elt Ideal) ℓ) (g : Dev Cert.SsmParamBwdIdeal.nD → PrngReg), Pre_SsmParamBwdIdeal m →
    θ_run (Cert.SsmParamBwdIdeal.defs (F := Ideal)) (onTc (τ := Cert.SsmParamBwdIdeal.τ) (Cert.SsmParamBwdIdeal.main (F := Ideal))) ⟨m, fun _ => 0, g⟩ (fun r => (∀ c : Dev Cert.SsmParamBwdIdeal.nD,
      r.2.mem ((c.tc : Thread Cert.SsmParamBwdIdeal.nD Cert.SsmParamBwdIdeal.τ).loc Cert.SsmParamBwdIdeal.main_arg0) = m ((c.tc : Thread Cert.SsmParamBwdIdeal.nD Cert.SsmParamBwdIdeal.τ).loc Cert.SsmParamBwdIdeal.main_arg0)
      ∧ r.2.mem ((c.tc : Thread Cert.SsmParamBwdIdeal.nD Cert.SsmParamBwdIdeal.τ).loc Cert.SsmParamBwdIdeal.main_arg1) = m ((c.tc : Thread Cert.SsmParamBwdIdeal.nD Cert.SsmParamBwdIdeal.τ).loc Cert.SsmParamBwdIdeal.main_arg1)
      ∧ r.2.mem ((c.tc : Thread Cert.SsmParamBwdIdeal.nD Cert.SsmParamBwdIdeal.τ).loc Cert.SsmParamBwdIdeal.main_arg2) = m ((c.tc : Thread Cert.SsmParamBwdIdeal.nD Cert.SsmParamBwdIdeal.τ).loc Cert.SsmParamBwdIdeal.main_arg2)
      ∧ r.2.mem ((c.tc : Thread Cert.SsmParamBwdIdeal.nD Cert.SsmParamBwdIdeal.τ).loc Cert.SsmParamBwdIdeal.main_arg3) = m ((c.tc : Thread Cert.SsmParamBwdIdeal.nD Cert.SsmParamBwdIdeal.τ).loc Cert.SsmParamBwdIdeal.main_arg3)
      ∧ r.2.mem ((c.tc : Thread Cert.SsmParamBwdIdeal.nD Cert.SsmParamBwdIdeal.τ).loc Cert.SsmParamBwdIdeal.main_arg4) = m ((c.tc : Thread Cert.SsmParamBwdIdeal.nD Cert.SsmParamBwdIdeal.τ).loc Cert.SsmParamBwdIdeal.main_arg4)
      ∧ r.2.mem ((c.tc : Thread Cert.SsmParamBwdIdeal.nD Cert.SsmParamBwdIdeal.τ).loc Cert.SsmParamBwdIdeal.main_arg5) = m ((c.tc : Thread Cert.SsmParamBwdIdeal.nD Cert.SsmParamBwdIdeal.τ).loc Cert.SsmParamBwdIdeal.main_arg5)
      ∧ r.2.mem ((c.tc : Thread Cert.SsmParamBwdIdeal.nD Cert.SsmParamBwdIdeal.τ).loc Cert.SsmParamBwdIdeal.main_arg6) = m ((c.tc : Thread Cert.SsmParamBwdIdeal.nD Cert.SsmParamBwdIdeal.τ).loc Cert.SsmParamBwdIdeal.main_arg6)
      ∧ r.2.mem ((c.tc : Thread Cert.SsmParamBwdIdeal.nD Cert.SsmParamBwdIdeal.τ).loc Cert.SsmParamBwdIdeal.main_arg7) = m ((c.tc : Thread Cert.SsmParamBwdIdeal.nD Cert.SsmParamBwdIdeal.τ).loc Cert.SsmParamBwdIdeal.main_arg7)
      ∧ r.2.mem ((c.tc : Thread Cert.SsmParamBwdIdeal.nD Cert.SsmParamBwdIdeal.τ).loc Cert.SsmParamBwdIdeal.main_arg8) = m ((c.tc : Thread Cert.SsmParamBwdIdeal.nD Cert.SsmParamBwdIdeal.τ).loc Cert.SsmParamBwdIdeal.main_arg8)
      ∧ r.2.mem ((c.tc : Thread Cert.SsmParamBwdIdeal.nD Cert.SsmParamBwdIdeal.τ).loc Cert.SsmParamBwdIdeal.main_arg9) = m ((c.tc : Thread Cert.SsmParamBwdIdeal.nD Cert.SsmParamBwdIdeal.τ).loc Cert.SsmParamBwdIdeal.main_arg9))
      ∧ r.2.sem = fun _ => 0)

def quiescent_SsmParamBwdIdeal_pre_ssm_param_bwd_finite [hSsmParamBwdIdeal : Cert.SsmParamBwdIdeal.Facts] [hPre_ssm_param_bwd_finite : Cert.Pre_ssm_param_bwd_finite.Facts] : Prop :=
  ∀ (m : (ℓ : Loc Cert.SsmParamBwdIdeal.nD Cert.SsmParamBwdIdeal.τ Cert.SsmParamBwdIdeal.sig) → Buf (Elt Ideal) ℓ) (g : Dev Cert.SsmParamBwdIdeal.nD → PrngReg), Pre_SsmParamBwdIdeal_ssm_param_bwd_finite m →
    θ_run (Cert.SsmParamBwdIdeal.defs (F := Ideal)) (onTc (τ := Cert.SsmParamBwdIdeal.τ) (Cert.SsmParamBwdIdeal.main (F := Ideal))) ⟨m, fun _ => 0, g⟩ (fun r => (∀ c : Dev Cert.SsmParamBwdIdeal.nD,
      r.2.mem ((c.tc : Thread Cert.SsmParamBwdIdeal.nD Cert.SsmParamBwdIdeal.τ).loc Cert.SsmParamBwdIdeal.main_arg0) = m ((c.tc : Thread Cert.SsmParamBwdIdeal.nD Cert.SsmParamBwdIdeal.τ).loc Cert.SsmParamBwdIdeal.main_arg0)
      ∧ r.2.mem ((c.tc : Thread Cert.SsmParamBwdIdeal.nD Cert.SsmParamBwdIdeal.τ).loc Cert.SsmParamBwdIdeal.main_arg1) = m ((c.tc : Thread Cert.SsmParamBwdIdeal.nD Cert.SsmParamBwdIdeal.τ).loc Cert.SsmParamBwdIdeal.main_arg1)
      ∧ r.2.mem ((c.tc : Thread Cert.SsmParamBwdIdeal.nD Cert.SsmParamBwdIdeal.τ).loc Cert.SsmParamBwdIdeal.main_arg2) = m ((c.tc : Thread Cert.SsmParamBwdIdeal.nD Cert.SsmParamBwdIdeal.τ).loc Cert.SsmParamBwdIdeal.main_arg2)
      ∧ r.2.mem ((c.tc : Thread Cert.SsmParamBwdIdeal.nD Cert.SsmParamBwdIdeal.τ).loc Cert.SsmParamBwdIdeal.main_arg3) = m ((c.tc : Thread Cert.SsmParamBwdIdeal.nD Cert.SsmParamBwdIdeal.τ).loc Cert.SsmParamBwdIdeal.main_arg3)
      ∧ r.2.mem ((c.tc : Thread Cert.SsmParamBwdIdeal.nD Cert.SsmParamBwdIdeal.τ).loc Cert.SsmParamBwdIdeal.main_arg4) = m ((c.tc : Thread Cert.SsmParamBwdIdeal.nD Cert.SsmParamBwdIdeal.τ).loc Cert.SsmParamBwdIdeal.main_arg4)
      ∧ r.2.mem ((c.tc : Thread Cert.SsmParamBwdIdeal.nD Cert.SsmParamBwdIdeal.τ).loc Cert.SsmParamBwdIdeal.main_arg5) = m ((c.tc : Thread Cert.SsmParamBwdIdeal.nD Cert.SsmParamBwdIdeal.τ).loc Cert.SsmParamBwdIdeal.main_arg5)
      ∧ r.2.mem ((c.tc : Thread Cert.SsmParamBwdIdeal.nD Cert.SsmParamBwdIdeal.τ).loc Cert.SsmParamBwdIdeal.main_arg6) = m ((c.tc : Thread Cert.SsmParamBwdIdeal.nD Cert.SsmParamBwdIdeal.τ).loc Cert.SsmParamBwdIdeal.main_arg6)
      ∧ r.2.mem ((c.tc : Thread Cert.SsmParamBwdIdeal.nD Cert.SsmParamBwdIdeal.τ).loc Cert.SsmParamBwdIdeal.main_arg7) = m ((c.tc : Thread Cert.SsmParamBwdIdeal.nD Cert.SsmParamBwdIdeal.τ).loc Cert.SsmParamBwdIdeal.main_arg7)
      ∧ r.2.mem ((c.tc : Thread Cert.SsmParamBwdIdeal.nD Cert.SsmParamBwdIdeal.τ).loc Cert.SsmParamBwdIdeal.main_arg8) = m ((c.tc : Thread Cert.SsmParamBwdIdeal.nD Cert.SsmParamBwdIdeal.τ).loc Cert.SsmParamBwdIdeal.main_arg8)
      ∧ r.2.mem ((c.tc : Thread Cert.SsmParamBwdIdeal.nD Cert.SsmParamBwdIdeal.τ).loc Cert.SsmParamBwdIdeal.main_arg9) = m ((c.tc : Thread Cert.SsmParamBwdIdeal.nD Cert.SsmParamBwdIdeal.τ).loc Cert.SsmParamBwdIdeal.main_arg9))
      ∧ r.2.sem = fun _ => 0)

def quiescent_SsmParamBwdRefIdeal [hSsmParamBwdRefIdeal : Cert.SsmParamBwdRefIdeal.Facts] : Prop :=
  ∀ (m : (ℓ : Loc Cert.SsmParamBwdRefIdeal.nD Cert.SsmParamBwdRefIdeal.τ Cert.SsmParamBwdRefIdeal.sig) → Buf (Elt Ideal) ℓ) (g : Dev Cert.SsmParamBwdRefIdeal.nD → PrngReg), Pre_SsmParamBwdRefIdeal m →
    θ_run (Cert.SsmParamBwdRefIdeal.defs (F := Ideal)) (onTc (τ := Cert.SsmParamBwdRefIdeal.τ) (Cert.SsmParamBwdRefIdeal.main (F := Ideal))) ⟨m, fun _ => 0, g⟩ (fun r => (∀ c : Dev Cert.SsmParamBwdRefIdeal.nD,
      r.2.mem ((c.tc : Thread Cert.SsmParamBwdRefIdeal.nD Cert.SsmParamBwdRefIdeal.τ).loc Cert.SsmParamBwdRefIdeal.main_arg0) = m ((c.tc : Thread Cert.SsmParamBwdRefIdeal.nD Cert.SsmParamBwdRefIdeal.τ).loc Cert.SsmParamBwdRefIdeal.main_arg0)
      ∧ r.2.mem ((c.tc : Thread Cert.SsmParamBwdRefIdeal.nD Cert.SsmParamBwdRefIdeal.τ).loc Cert.SsmParamBwdRefIdeal.main_arg1) = m ((c.tc : Thread Cert.SsmParamBwdRefIdeal.nD Cert.SsmParamBwdRefIdeal.τ).loc Cert.SsmParamBwdRefIdeal.main_arg1)
      ∧ r.2.mem ((c.tc : Thread Cert.SsmParamBwdRefIdeal.nD Cert.SsmParamBwdRefIdeal.τ).loc Cert.SsmParamBwdRefIdeal.main_arg2) = m ((c.tc : Thread Cert.SsmParamBwdRefIdeal.nD Cert.SsmParamBwdRefIdeal.τ).loc Cert.SsmParamBwdRefIdeal.main_arg2)
      ∧ r.2.mem ((c.tc : Thread Cert.SsmParamBwdRefIdeal.nD Cert.SsmParamBwdRefIdeal.τ).loc Cert.SsmParamBwdRefIdeal.main_arg3) = m ((c.tc : Thread Cert.SsmParamBwdRefIdeal.nD Cert.SsmParamBwdRefIdeal.τ).loc Cert.SsmParamBwdRefIdeal.main_arg3)
      ∧ r.2.mem ((c.tc : Thread Cert.SsmParamBwdRefIdeal.nD Cert.SsmParamBwdRefIdeal.τ).loc Cert.SsmParamBwdRefIdeal.main_arg4) = m ((c.tc : Thread Cert.SsmParamBwdRefIdeal.nD Cert.SsmParamBwdRefIdeal.τ).loc Cert.SsmParamBwdRefIdeal.main_arg4)
      ∧ r.2.mem ((c.tc : Thread Cert.SsmParamBwdRefIdeal.nD Cert.SsmParamBwdRefIdeal.τ).loc Cert.SsmParamBwdRefIdeal.main_arg5) = m ((c.tc : Thread Cert.SsmParamBwdRefIdeal.nD Cert.SsmParamBwdRefIdeal.τ).loc Cert.SsmParamBwdRefIdeal.main_arg5)
      ∧ r.2.mem ((c.tc : Thread Cert.SsmParamBwdRefIdeal.nD Cert.SsmParamBwdRefIdeal.τ).loc Cert.SsmParamBwdRefIdeal.main_arg6) = m ((c.tc : Thread Cert.SsmParamBwdRefIdeal.nD Cert.SsmParamBwdRefIdeal.τ).loc Cert.SsmParamBwdRefIdeal.main_arg6)
      ∧ r.2.mem ((c.tc : Thread Cert.SsmParamBwdRefIdeal.nD Cert.SsmParamBwdRefIdeal.τ).loc Cert.SsmParamBwdRefIdeal.main_arg7) = m ((c.tc : Thread Cert.SsmParamBwdRefIdeal.nD Cert.SsmParamBwdRefIdeal.τ).loc Cert.SsmParamBwdRefIdeal.main_arg7)
      ∧ r.2.mem ((c.tc : Thread Cert.SsmParamBwdRefIdeal.nD Cert.SsmParamBwdRefIdeal.τ).loc Cert.SsmParamBwdRefIdeal.main_arg8) = m ((c.tc : Thread Cert.SsmParamBwdRefIdeal.nD Cert.SsmParamBwdRefIdeal.τ).loc Cert.SsmParamBwdRefIdeal.main_arg8)
      ∧ r.2.mem ((c.tc : Thread Cert.SsmParamBwdRefIdeal.nD Cert.SsmParamBwdRefIdeal.τ).loc Cert.SsmParamBwdRefIdeal.main_arg9) = m ((c.tc : Thread Cert.SsmParamBwdRefIdeal.nD Cert.SsmParamBwdRefIdeal.τ).loc Cert.SsmParamBwdRefIdeal.main_arg9))
      ∧ r.2.sem = fun _ => 0)

def quiescent_SsmParamBwdRefIdeal_pre_ssm_param_bwd_finite [hSsmParamBwdRefIdeal : Cert.SsmParamBwdRefIdeal.Facts] [hPre_ssm_param_bwd_finite : Cert.Pre_ssm_param_bwd_finite.Facts] : Prop :=
  ∀ (m : (ℓ : Loc Cert.SsmParamBwdRefIdeal.nD Cert.SsmParamBwdRefIdeal.τ Cert.SsmParamBwdRefIdeal.sig) → Buf (Elt Ideal) ℓ) (g : Dev Cert.SsmParamBwdRefIdeal.nD → PrngReg), Pre_SsmParamBwdRefIdeal_ssm_param_bwd_finite m →
    θ_run (Cert.SsmParamBwdRefIdeal.defs (F := Ideal)) (onTc (τ := Cert.SsmParamBwdRefIdeal.τ) (Cert.SsmParamBwdRefIdeal.main (F := Ideal))) ⟨m, fun _ => 0, g⟩ (fun r => (∀ c : Dev Cert.SsmParamBwdRefIdeal.nD,
      r.2.mem ((c.tc : Thread Cert.SsmParamBwdRefIdeal.nD Cert.SsmParamBwdRefIdeal.τ).loc Cert.SsmParamBwdRefIdeal.main_arg0) = m ((c.tc : Thread Cert.SsmParamBwdRefIdeal.nD Cert.SsmParamBwdRefIdeal.τ).loc Cert.SsmParamBwdRefIdeal.main_arg0)
      ∧ r.2.mem ((c.tc : Thread Cert.SsmParamBwdRefIdeal.nD Cert.SsmParamBwdRefIdeal.τ).loc Cert.SsmParamBwdRefIdeal.main_arg1) = m ((c.tc : Thread Cert.SsmParamBwdRefIdeal.nD Cert.SsmParamBwdRefIdeal.τ).loc Cert.SsmParamBwdRefIdeal.main_arg1)
      ∧ r.2.mem ((c.tc : Thread Cert.SsmParamBwdRefIdeal.nD Cert.SsmParamBwdRefIdeal.τ).loc Cert.SsmParamBwdRefIdeal.main_arg2) = m ((c.tc : Thread Cert.SsmParamBwdRefIdeal.nD Cert.SsmParamBwdRefIdeal.τ).loc Cert.SsmParamBwdRefIdeal.main_arg2)
      ∧ r.2.mem ((c.tc : Thread Cert.SsmParamBwdRefIdeal.nD Cert.SsmParamBwdRefIdeal.τ).loc Cert.SsmParamBwdRefIdeal.main_arg3) = m ((c.tc : Thread Cert.SsmParamBwdRefIdeal.nD Cert.SsmParamBwdRefIdeal.τ).loc Cert.SsmParamBwdRefIdeal.main_arg3)
      ∧ r.2.mem ((c.tc : Thread Cert.SsmParamBwdRefIdeal.nD Cert.SsmParamBwdRefIdeal.τ).loc Cert.SsmParamBwdRefIdeal.main_arg4) = m ((c.tc : Thread Cert.SsmParamBwdRefIdeal.nD Cert.SsmParamBwdRefIdeal.τ).loc Cert.SsmParamBwdRefIdeal.main_arg4)
      ∧ r.2.mem ((c.tc : Thread Cert.SsmParamBwdRefIdeal.nD Cert.SsmParamBwdRefIdeal.τ).loc Cert.SsmParamBwdRefIdeal.main_arg5) = m ((c.tc : Thread Cert.SsmParamBwdRefIdeal.nD Cert.SsmParamBwdRefIdeal.τ).loc Cert.SsmParamBwdRefIdeal.main_arg5)
      ∧ r.2.mem ((c.tc : Thread Cert.SsmParamBwdRefIdeal.nD Cert.SsmParamBwdRefIdeal.τ).loc Cert.SsmParamBwdRefIdeal.main_arg6) = m ((c.tc : Thread Cert.SsmParamBwdRefIdeal.nD Cert.SsmParamBwdRefIdeal.τ).loc Cert.SsmParamBwdRefIdeal.main_arg6)
      ∧ r.2.mem ((c.tc : Thread Cert.SsmParamBwdRefIdeal.nD Cert.SsmParamBwdRefIdeal.τ).loc Cert.SsmParamBwdRefIdeal.main_arg7) = m ((c.tc : Thread Cert.SsmParamBwdRefIdeal.nD Cert.SsmParamBwdRefIdeal.τ).loc Cert.SsmParamBwdRefIdeal.main_arg7)
      ∧ r.2.mem ((c.tc : Thread Cert.SsmParamBwdRefIdeal.nD Cert.SsmParamBwdRefIdeal.τ).loc Cert.SsmParamBwdRefIdeal.main_arg8) = m ((c.tc : Thread Cert.SsmParamBwdRefIdeal.nD Cert.SsmParamBwdRefIdeal.τ).loc Cert.SsmParamBwdRefIdeal.main_arg8)
      ∧ r.2.mem ((c.tc : Thread Cert.SsmParamBwdRefIdeal.nD Cert.SsmParamBwdRefIdeal.τ).loc Cert.SsmParamBwdRefIdeal.main_arg9) = m ((c.tc : Thread Cert.SsmParamBwdRefIdeal.nD Cert.SsmParamBwdRefIdeal.τ).loc Cert.SsmParamBwdRefIdeal.main_arg9))
      ∧ r.2.sem = fun _ => 0)

def quiescent_SsmFwd [hSsmFwd : Cert.SsmFwd.Facts] : Prop :=
  ∀ (m : (ℓ : Loc Cert.SsmFwd.nD Cert.SsmFwd.τ Cert.SsmFwd.sig) → Buf (Elt Bits) ℓ) (g : Dev Cert.SsmFwd.nD → PrngReg), Pre_SsmFwd m →
    θ_run (Cert.SsmFwd.defs (F := Bits)) (onTc (τ := Cert.SsmFwd.τ) (Cert.SsmFwd.main (F := Bits))) ⟨m, fun _ => 0, g⟩ (fun r => (∀ c : Dev Cert.SsmFwd.nD,
      r.2.mem ((c.tc : Thread Cert.SsmFwd.nD Cert.SsmFwd.τ).loc Cert.SsmFwd.main_arg0) = m ((c.tc : Thread Cert.SsmFwd.nD Cert.SsmFwd.τ).loc Cert.SsmFwd.main_arg0)
      ∧ r.2.mem ((c.tc : Thread Cert.SsmFwd.nD Cert.SsmFwd.τ).loc Cert.SsmFwd.main_arg1) = m ((c.tc : Thread Cert.SsmFwd.nD Cert.SsmFwd.τ).loc Cert.SsmFwd.main_arg1)
      ∧ r.2.mem ((c.tc : Thread Cert.SsmFwd.nD Cert.SsmFwd.τ).loc Cert.SsmFwd.main_arg2) = m ((c.tc : Thread Cert.SsmFwd.nD Cert.SsmFwd.τ).loc Cert.SsmFwd.main_arg2)
      ∧ r.2.mem ((c.tc : Thread Cert.SsmFwd.nD Cert.SsmFwd.τ).loc Cert.SsmFwd.main_arg3) = m ((c.tc : Thread Cert.SsmFwd.nD Cert.SsmFwd.τ).loc Cert.SsmFwd.main_arg3)
      ∧ r.2.mem ((c.tc : Thread Cert.SsmFwd.nD Cert.SsmFwd.τ).loc Cert.SsmFwd.main_arg4) = m ((c.tc : Thread Cert.SsmFwd.nD Cert.SsmFwd.τ).loc Cert.SsmFwd.main_arg4)
      ∧ r.2.mem ((c.tc : Thread Cert.SsmFwd.nD Cert.SsmFwd.τ).loc Cert.SsmFwd.main_arg5) = m ((c.tc : Thread Cert.SsmFwd.nD Cert.SsmFwd.τ).loc Cert.SsmFwd.main_arg5)
      ∧ r.2.mem ((c.tc : Thread Cert.SsmFwd.nD Cert.SsmFwd.τ).loc Cert.SsmFwd.main_arg6) = m ((c.tc : Thread Cert.SsmFwd.nD Cert.SsmFwd.τ).loc Cert.SsmFwd.main_arg6)
      ∧ r.2.mem ((c.tc : Thread Cert.SsmFwd.nD Cert.SsmFwd.τ).loc Cert.SsmFwd.main_arg7) = m ((c.tc : Thread Cert.SsmFwd.nD Cert.SsmFwd.τ).loc Cert.SsmFwd.main_arg7))
      ∧ r.2.sem = fun _ => 0)

def quiescent_SsmFwdIdeal [hSsmFwdIdeal : Cert.SsmFwdIdeal.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg), Pre_SsmFwdIdeal m →
    θ_run (Cert.SsmFwdIdeal.defs (F := Ideal)) (onTc (τ := Cert.SsmFwdIdeal.τ) (Cert.SsmFwdIdeal.main (F := Ideal))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
      ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
      ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
      ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4)
      ∧ r.2.mem ((c.tc : Thread Cert.SsmFwdIdeal.nD Cert.SsmFwdIdeal.τ).loc Cert.SsmFwdIdeal.main_arg5) = m ((c.tc : Thread Cert.SsmFwdIdeal.nD Cert.SsmFwdIdeal.τ).loc Cert.SsmFwdIdeal.main_arg5)
      ∧ r.2.mem ((c.tc : Thread Cert.SsmFwdIdeal.nD Cert.SsmFwdIdeal.τ).loc Cert.SsmFwdIdeal.main_arg6) = m ((c.tc : Thread Cert.SsmFwdIdeal.nD Cert.SsmFwdIdeal.τ).loc Cert.SsmFwdIdeal.main_arg6)
      ∧ r.2.mem ((c.tc : Thread Cert.SsmFwdIdeal.nD Cert.SsmFwdIdeal.τ).loc Cert.SsmFwdIdeal.main_arg7) = m ((c.tc : Thread Cert.SsmFwdIdeal.nD Cert.SsmFwdIdeal.τ).loc Cert.SsmFwdIdeal.main_arg7))
      ∧ r.2.sem = fun _ => 0)

def quiescent_SsmFwdIdeal_pre_ssm_fwd_finite [hSsmFwdIdeal : Cert.SsmFwdIdeal.Facts] [hPre_ssm_fwd_finite : Cert.Pre_ssm_fwd_finite.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg), Pre_SsmFwdIdeal_ssm_fwd_finite m →
    θ_run (Cert.SsmFwdIdeal.defs (F := Ideal)) (onTc (τ := Cert.SsmFwdIdeal.τ) (Cert.SsmFwdIdeal.main (F := Ideal))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
      ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
      ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
      ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4)
      ∧ r.2.mem ((c.tc : Thread Cert.SsmFwdIdeal.nD Cert.SsmFwdIdeal.τ).loc Cert.SsmFwdIdeal.main_arg5) = m ((c.tc : Thread Cert.SsmFwdIdeal.nD Cert.SsmFwdIdeal.τ).loc Cert.SsmFwdIdeal.main_arg5)
      ∧ r.2.mem ((c.tc : Thread Cert.SsmFwdIdeal.nD Cert.SsmFwdIdeal.τ).loc Cert.SsmFwdIdeal.main_arg6) = m ((c.tc : Thread Cert.SsmFwdIdeal.nD Cert.SsmFwdIdeal.τ).loc Cert.SsmFwdIdeal.main_arg6)
      ∧ r.2.mem ((c.tc : Thread Cert.SsmFwdIdeal.nD Cert.SsmFwdIdeal.τ).loc Cert.SsmFwdIdeal.main_arg7) = m ((c.tc : Thread Cert.SsmFwdIdeal.nD Cert.SsmFwdIdeal.τ).loc Cert.SsmFwdIdeal.main_arg7))
      ∧ r.2.sem = fun _ => 0)

def quiescent_SsmFwdRefIdeal [hSsmFwdRefIdeal : Cert.SsmFwdRefIdeal.Facts] : Prop :=
  ∀ (m : (ℓ : Loc Cert.SsmFwdRefIdeal.nD Cert.SsmFwdRefIdeal.τ Cert.SsmFwdRefIdeal.sig) → Buf (Elt Ideal) ℓ) (g : Dev Cert.SsmFwdRefIdeal.nD → PrngReg), Pre_SsmFwdRefIdeal m →
    θ_run (Cert.SsmFwdRefIdeal.defs (F := Ideal)) (onTc (τ := Cert.SsmFwdRefIdeal.τ) (Cert.SsmFwdRefIdeal.main (F := Ideal))) ⟨m, fun _ => 0, g⟩ (fun r => (∀ c : Dev Cert.SsmFwdRefIdeal.nD,
      r.2.mem ((c.tc : Thread Cert.SsmFwdRefIdeal.nD Cert.SsmFwdRefIdeal.τ).loc Cert.SsmFwdRefIdeal.main_arg0) = m ((c.tc : Thread Cert.SsmFwdRefIdeal.nD Cert.SsmFwdRefIdeal.τ).loc Cert.SsmFwdRefIdeal.main_arg0)
      ∧ r.2.mem ((c.tc : Thread Cert.SsmFwdRefIdeal.nD Cert.SsmFwdRefIdeal.τ).loc Cert.SsmFwdRefIdeal.main_arg1) = m ((c.tc : Thread Cert.SsmFwdRefIdeal.nD Cert.SsmFwdRefIdeal.τ).loc Cert.SsmFwdRefIdeal.main_arg1)
      ∧ r.2.mem ((c.tc : Thread Cert.SsmFwdRefIdeal.nD Cert.SsmFwdRefIdeal.τ).loc Cert.SsmFwdRefIdeal.main_arg2) = m ((c.tc : Thread Cert.SsmFwdRefIdeal.nD Cert.SsmFwdRefIdeal.τ).loc Cert.SsmFwdRefIdeal.main_arg2)
      ∧ r.2.mem ((c.tc : Thread Cert.SsmFwdRefIdeal.nD Cert.SsmFwdRefIdeal.τ).loc Cert.SsmFwdRefIdeal.main_arg3) = m ((c.tc : Thread Cert.SsmFwdRefIdeal.nD Cert.SsmFwdRefIdeal.τ).loc Cert.SsmFwdRefIdeal.main_arg3)
      ∧ r.2.mem ((c.tc : Thread Cert.SsmFwdRefIdeal.nD Cert.SsmFwdRefIdeal.τ).loc Cert.SsmFwdRefIdeal.main_arg4) = m ((c.tc : Thread Cert.SsmFwdRefIdeal.nD Cert.SsmFwdRefIdeal.τ).loc Cert.SsmFwdRefIdeal.main_arg4)
      ∧ r.2.mem ((c.tc : Thread Cert.SsmFwdRefIdeal.nD Cert.SsmFwdRefIdeal.τ).loc Cert.SsmFwdRefIdeal.main_arg5) = m ((c.tc : Thread Cert.SsmFwdRefIdeal.nD Cert.SsmFwdRefIdeal.τ).loc Cert.SsmFwdRefIdeal.main_arg5)
      ∧ r.2.mem ((c.tc : Thread Cert.SsmFwdRefIdeal.nD Cert.SsmFwdRefIdeal.τ).loc Cert.SsmFwdRefIdeal.main_arg6) = m ((c.tc : Thread Cert.SsmFwdRefIdeal.nD Cert.SsmFwdRefIdeal.τ).loc Cert.SsmFwdRefIdeal.main_arg6)
      ∧ r.2.mem ((c.tc : Thread Cert.SsmFwdRefIdeal.nD Cert.SsmFwdRefIdeal.τ).loc Cert.SsmFwdRefIdeal.main_arg7) = m ((c.tc : Thread Cert.SsmFwdRefIdeal.nD Cert.SsmFwdRefIdeal.τ).loc Cert.SsmFwdRefIdeal.main_arg7))
      ∧ r.2.sem = fun _ => 0)

def quiescent_SsmFwdRefIdeal_pre_ssm_fwd_finite [hSsmFwdRefIdeal : Cert.SsmFwdRefIdeal.Facts] [hPre_ssm_fwd_finite : Cert.Pre_ssm_fwd_finite.Facts] : Prop :=
  ∀ (m : (ℓ : Loc Cert.SsmFwdRefIdeal.nD Cert.SsmFwdRefIdeal.τ Cert.SsmFwdRefIdeal.sig) → Buf (Elt Ideal) ℓ) (g : Dev Cert.SsmFwdRefIdeal.nD → PrngReg), Pre_SsmFwdRefIdeal_ssm_fwd_finite m →
    θ_run (Cert.SsmFwdRefIdeal.defs (F := Ideal)) (onTc (τ := Cert.SsmFwdRefIdeal.τ) (Cert.SsmFwdRefIdeal.main (F := Ideal))) ⟨m, fun _ => 0, g⟩ (fun r => (∀ c : Dev Cert.SsmFwdRefIdeal.nD,
      r.2.mem ((c.tc : Thread Cert.SsmFwdRefIdeal.nD Cert.SsmFwdRefIdeal.τ).loc Cert.SsmFwdRefIdeal.main_arg0) = m ((c.tc : Thread Cert.SsmFwdRefIdeal.nD Cert.SsmFwdRefIdeal.τ).loc Cert.SsmFwdRefIdeal.main_arg0)
      ∧ r.2.mem ((c.tc : Thread Cert.SsmFwdRefIdeal.nD Cert.SsmFwdRefIdeal.τ).loc Cert.SsmFwdRefIdeal.main_arg1) = m ((c.tc : Thread Cert.SsmFwdRefIdeal.nD Cert.SsmFwdRefIdeal.τ).loc Cert.SsmFwdRefIdeal.main_arg1)
      ∧ r.2.mem ((c.tc : Thread Cert.SsmFwdRefIdeal.nD Cert.SsmFwdRefIdeal.τ).loc Cert.SsmFwdRefIdeal.main_arg2) = m ((c.tc : Thread Cert.SsmFwdRefIdeal.nD Cert.SsmFwdRefIdeal.τ).loc Cert.SsmFwdRefIdeal.main_arg2)
      ∧ r.2.mem ((c.tc : Thread Cert.SsmFwdRefIdeal.nD Cert.SsmFwdRefIdeal.τ).loc Cert.SsmFwdRefIdeal.main_arg3) = m ((c.tc : Thread Cert.SsmFwdRefIdeal.nD Cert.SsmFwdRefIdeal.τ).loc Cert.SsmFwdRefIdeal.main_arg3)
      ∧ r.2.mem ((c.tc : Thread Cert.SsmFwdRefIdeal.nD Cert.SsmFwdRefIdeal.τ).loc Cert.SsmFwdRefIdeal.main_arg4) = m ((c.tc : Thread Cert.SsmFwdRefIdeal.nD Cert.SsmFwdRefIdeal.τ).loc Cert.SsmFwdRefIdeal.main_arg4)
      ∧ r.2.mem ((c.tc : Thread Cert.SsmFwdRefIdeal.nD Cert.SsmFwdRefIdeal.τ).loc Cert.SsmFwdRefIdeal.main_arg5) = m ((c.tc : Thread Cert.SsmFwdRefIdeal.nD Cert.SsmFwdRefIdeal.τ).loc Cert.SsmFwdRefIdeal.main_arg5)
      ∧ r.2.mem ((c.tc : Thread Cert.SsmFwdRefIdeal.nD Cert.SsmFwdRefIdeal.τ).loc Cert.SsmFwdRefIdeal.main_arg6) = m ((c.tc : Thread Cert.SsmFwdRefIdeal.nD Cert.SsmFwdRefIdeal.τ).loc Cert.SsmFwdRefIdeal.main_arg6)
      ∧ r.2.mem ((c.tc : Thread Cert.SsmFwdRefIdeal.nD Cert.SsmFwdRefIdeal.τ).loc Cert.SsmFwdRefIdeal.main_arg7) = m ((c.tc : Thread Cert.SsmFwdRefIdeal.nD Cert.SsmFwdRefIdeal.τ).loc Cert.SsmFwdRefIdeal.main_arg7))
      ∧ r.2.sem = fun _ => 0)

def quiescent_SsmPrep [hSsmPrep : Cert.SsmPrep.Facts] : Prop :=
  ∀ (m : (ℓ : Loc Cert.SsmPrep.nD Cert.SsmPrep.τ Cert.SsmPrep.sig) → Buf (Elt Bits) ℓ) (g : Dev Cert.SsmPrep.nD → PrngReg), Pre_SsmPrep m →
    θ_run (Cert.SsmPrep.defs (F := Bits)) (onTc (τ := Cert.SsmPrep.τ) (Cert.SsmPrep.main (F := Bits))) ⟨m, fun _ => 0, g⟩ (fun r => (∀ c : Dev Cert.SsmPrep.nD,
      r.2.mem ((c.tc : Thread Cert.SsmPrep.nD Cert.SsmPrep.τ).loc Cert.SsmPrep.main_arg0) = m ((c.tc : Thread Cert.SsmPrep.nD Cert.SsmPrep.τ).loc Cert.SsmPrep.main_arg0)
      ∧ r.2.mem ((c.tc : Thread Cert.SsmPrep.nD Cert.SsmPrep.τ).loc Cert.SsmPrep.main_arg1) = m ((c.tc : Thread Cert.SsmPrep.nD Cert.SsmPrep.τ).loc Cert.SsmPrep.main_arg1)
      ∧ r.2.mem ((c.tc : Thread Cert.SsmPrep.nD Cert.SsmPrep.τ).loc Cert.SsmPrep.main_arg2) = m ((c.tc : Thread Cert.SsmPrep.nD Cert.SsmPrep.τ).loc Cert.SsmPrep.main_arg2)
      ∧ r.2.mem ((c.tc : Thread Cert.SsmPrep.nD Cert.SsmPrep.τ).loc Cert.SsmPrep.main_arg3) = m ((c.tc : Thread Cert.SsmPrep.nD Cert.SsmPrep.τ).loc Cert.SsmPrep.main_arg3)
      ∧ r.2.mem ((c.tc : Thread Cert.SsmPrep.nD Cert.SsmPrep.τ).loc Cert.SsmPrep.main_arg4) = m ((c.tc : Thread Cert.SsmPrep.nD Cert.SsmPrep.τ).loc Cert.SsmPrep.main_arg4))
      ∧ r.2.sem = fun _ => 0)

def quiescent_SsmPrepIdeal [hSsmPrepIdeal : Cert.SsmPrepIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg), Pre_SsmPrepIdeal m →
    θ_run (Cert.SsmPrepIdeal.defs (F := Ideal)) (onTc (τ := Cert.SsmPrepIdeal.τ) (Cert.SsmPrepIdeal.main (F := Ideal))) ⟨m, fun _ => 0, g⟩ (fun r => (∀ c : Dev Cert.SsmPrepIdeal.nD,
      r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
      ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
      ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
      ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
      ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4))
      ∧ r.2.sem = fun _ => 0)

def quiescent_SsmPrepRefIdeal [hSsmPrepRefIdeal : Cert.SsmPrepRefIdeal.Facts] : Prop :=
  ∀ (m : (ℓ : Loc Cert.SsmPrepRefIdeal.nD Cert.SsmPrepRefIdeal.τ Cert.SsmPrepRefIdeal.sig) → Buf (Elt Ideal) ℓ) (g : Dev Cert.SsmPrepRefIdeal.nD → PrngReg), Pre_SsmPrepRefIdeal m →
    θ_run (Cert.SsmPrepRefIdeal.defs (F := Ideal)) (onTc (τ := Cert.SsmPrepRefIdeal.τ) (Cert.SsmPrepRefIdeal.main (F := Ideal))) ⟨m, fun _ => 0, g⟩ (fun r => (∀ c : Dev Cert.SsmPrepRefIdeal.nD,
      r.2.mem ((c.tc : Thread Cert.SsmPrepRefIdeal.nD Cert.SsmPrepRefIdeal.τ).loc Cert.SsmPrepRefIdeal.main_arg0) = m ((c.tc : Thread Cert.SsmPrepRefIdeal.nD Cert.SsmPrepRefIdeal.τ).loc Cert.SsmPrepRefIdeal.main_arg0)
      ∧ r.2.mem ((c.tc : Thread Cert.SsmPrepRefIdeal.nD Cert.SsmPrepRefIdeal.τ).loc Cert.SsmPrepRefIdeal.main_arg1) = m ((c.tc : Thread Cert.SsmPrepRefIdeal.nD Cert.SsmPrepRefIdeal.τ).loc Cert.SsmPrepRefIdeal.main_arg1)
      ∧ r.2.mem ((c.tc : Thread Cert.SsmPrepRefIdeal.nD Cert.SsmPrepRefIdeal.τ).loc Cert.SsmPrepRefIdeal.main_arg2) = m ((c.tc : Thread Cert.SsmPrepRefIdeal.nD Cert.SsmPrepRefIdeal.τ).loc Cert.SsmPrepRefIdeal.main_arg2)
      ∧ r.2.mem ((c.tc : Thread Cert.SsmPrepRefIdeal.nD Cert.SsmPrepRefIdeal.τ).loc Cert.SsmPrepRefIdeal.main_arg3) = m ((c.tc : Thread Cert.SsmPrepRefIdeal.nD Cert.SsmPrepRefIdeal.τ).loc Cert.SsmPrepRefIdeal.main_arg3)
      ∧ r.2.mem ((c.tc : Thread Cert.SsmPrepRefIdeal.nD Cert.SsmPrepRefIdeal.τ).loc Cert.SsmPrepRefIdeal.main_arg4) = m ((c.tc : Thread Cert.SsmPrepRefIdeal.nD Cert.SsmPrepRefIdeal.τ).loc Cert.SsmPrepRefIdeal.main_arg4))
      ∧ r.2.sem = fun _ => 0)

def quiescent_MixInFwd [hMixInFwd : Cert.MixInFwd.Facts] : Prop :=
  ∀ (m : (ℓ : Loc Cert.MixInFwd.nD Cert.MixInFwd.τ Cert.MixInFwd.sig) → Buf (Elt Bits) ℓ) (g : Dev Cert.MixInFwd.nD → PrngReg), Pre_MixInFwd m →
    θ_run (Cert.MixInFwd.defs (F := Bits)) (onTc (τ := Cert.MixInFwd.τ) (Cert.MixInFwd.main (F := Bits))) ⟨m, fun _ => 0, g⟩ (fun r => (∀ c : Dev Cert.MixInFwd.nD,
      r.2.mem ((c.tc : Thread Cert.MixInFwd.nD Cert.MixInFwd.τ).loc Cert.MixInFwd.main_arg0) = m ((c.tc : Thread Cert.MixInFwd.nD Cert.MixInFwd.τ).loc Cert.MixInFwd.main_arg0)
      ∧ r.2.mem ((c.tc : Thread Cert.MixInFwd.nD Cert.MixInFwd.τ).loc Cert.MixInFwd.main_arg1) = m ((c.tc : Thread Cert.MixInFwd.nD Cert.MixInFwd.τ).loc Cert.MixInFwd.main_arg1)
      ∧ r.2.mem ((c.tc : Thread Cert.MixInFwd.nD Cert.MixInFwd.τ).loc Cert.MixInFwd.main_arg2) = m ((c.tc : Thread Cert.MixInFwd.nD Cert.MixInFwd.τ).loc Cert.MixInFwd.main_arg2)
      ∧ r.2.mem ((c.tc : Thread Cert.MixInFwd.nD Cert.MixInFwd.τ).loc Cert.MixInFwd.main_arg3) = m ((c.tc : Thread Cert.MixInFwd.nD Cert.MixInFwd.τ).loc Cert.MixInFwd.main_arg3)
      ∧ r.2.mem ((c.tc : Thread Cert.MixInFwd.nD Cert.MixInFwd.τ).loc Cert.MixInFwd.main_arg4) = m ((c.tc : Thread Cert.MixInFwd.nD Cert.MixInFwd.τ).loc Cert.MixInFwd.main_arg4))
      ∧ r.2.sem = fun _ => 0)

def quiescent_MixInFwdIdeal [hMixInFwdIdeal : Cert.MixInFwdIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg), Pre_MixInFwdIdeal m →
    θ_run (Cert.MixInFwdIdeal.defs (F := Ideal)) (onTc (τ := Cert.MixInFwdIdeal.τ) (Cert.MixInFwdIdeal.main (F := Ideal))) ⟨m, fun _ => 0, g⟩ (fun r => (∀ c : Dev Cert.MixInFwdIdeal.nD,
      r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
      ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
      ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2)
      ∧ r.2.mem ((c.tc : Thread Cert.MixInFwdIdeal.nD Cert.MixInFwdIdeal.τ).loc Cert.MixInFwdIdeal.main_arg3) = m ((c.tc : Thread Cert.MixInFwdIdeal.nD Cert.MixInFwdIdeal.τ).loc Cert.MixInFwdIdeal.main_arg3)
      ∧ r.2.mem ((c.tc : Thread Cert.MixInFwdIdeal.nD Cert.MixInFwdIdeal.τ).loc Cert.MixInFwdIdeal.main_arg4) = m ((c.tc : Thread Cert.MixInFwdIdeal.nD Cert.MixInFwdIdeal.τ).loc Cert.MixInFwdIdeal.main_arg4))
      ∧ r.2.sem = fun _ => 0)

def quiescent_MixInFwdRefIdeal [hMixInFwdRefIdeal : Cert.MixInFwdRefIdeal.Facts] : Prop :=
  ∀ (m : (ℓ : Loc Cert.MixInFwdRefIdeal.nD Cert.MixInFwdRefIdeal.τ Cert.MixInFwdRefIdeal.sig) → Buf (Elt Ideal) ℓ) (g : Dev Cert.MixInFwdRefIdeal.nD → PrngReg), Pre_MixInFwdRefIdeal m →
    θ_run (Cert.MixInFwdRefIdeal.defs (F := Ideal)) (onTc (τ := Cert.MixInFwdRefIdeal.τ) (Cert.MixInFwdRefIdeal.main (F := Ideal))) ⟨m, fun _ => 0, g⟩ (fun r => (∀ c : Dev Cert.MixInFwdRefIdeal.nD,
      r.2.mem ((c.tc : Thread Cert.MixInFwdRefIdeal.nD Cert.MixInFwdRefIdeal.τ).loc Cert.MixInFwdRefIdeal.main_arg0) = m ((c.tc : Thread Cert.MixInFwdRefIdeal.nD Cert.MixInFwdRefIdeal.τ).loc Cert.MixInFwdRefIdeal.main_arg0)
      ∧ r.2.mem ((c.tc : Thread Cert.MixInFwdRefIdeal.nD Cert.MixInFwdRefIdeal.τ).loc Cert.MixInFwdRefIdeal.main_arg1) = m ((c.tc : Thread Cert.MixInFwdRefIdeal.nD Cert.MixInFwdRefIdeal.τ).loc Cert.MixInFwdRefIdeal.main_arg1)
      ∧ r.2.mem ((c.tc : Thread Cert.MixInFwdRefIdeal.nD Cert.MixInFwdRefIdeal.τ).loc Cert.MixInFwdRefIdeal.main_arg2) = m ((c.tc : Thread Cert.MixInFwdRefIdeal.nD Cert.MixInFwdRefIdeal.τ).loc Cert.MixInFwdRefIdeal.main_arg2)
      ∧ r.2.mem ((c.tc : Thread Cert.MixInFwdRefIdeal.nD Cert.MixInFwdRefIdeal.τ).loc Cert.MixInFwdRefIdeal.main_arg3) = m ((c.tc : Thread Cert.MixInFwdRefIdeal.nD Cert.MixInFwdRefIdeal.τ).loc Cert.MixInFwdRefIdeal.main_arg3)
      ∧ r.2.mem ((c.tc : Thread Cert.MixInFwdRefIdeal.nD Cert.MixInFwdRefIdeal.τ).loc Cert.MixInFwdRefIdeal.main_arg4) = m ((c.tc : Thread Cert.MixInFwdRefIdeal.nD Cert.MixInFwdRefIdeal.τ).loc Cert.MixInFwdRefIdeal.main_arg4))
      ∧ r.2.sem = fun _ => 0)

def preserves_MixIn_MixInIdeal : Prop :=
  True

def algebraic_MixInIdeal_MixInRefIdeal_pre_mixer_in_bwd_finite [hMixInIdeal : Cert.MixInIdeal.Facts] [hMixInRefIdeal : Cert.MixInRefIdeal.Facts] [hPre_mixer_in_bwd_finite : Cert.Pre_mixer_in_bwd_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mixer_in_bwd_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v7_0)) (v1 : (c : Dev Cert.MixInIdeal.nD) → Buf (Elt Ideal) ((c.tc : Thread Cert.MixInIdeal.nD Cert.MixInIdeal.τ).loc Cert.MixInIdeal.main_v7_1)) (v2 : (c : Dev Cert.MixInIdeal.nD) → Buf (Elt Ideal) ((c.tc : Thread Cert.MixInIdeal.nD Cert.MixInIdeal.τ).loc Cert.MixInIdeal.main_v7_2)) (v3 : (c : Dev Cert.MixInIdeal.nD) → Buf (Elt Ideal) ((c.tc : Thread Cert.MixInIdeal.nD Cert.MixInIdeal.τ).loc Cert.MixInIdeal.main_v7_3)) (v4 : (c : Dev Cert.MixInIdeal.nD) → Buf (Elt Ideal) ((c.tc : Thread Cert.MixInIdeal.nD Cert.MixInIdeal.τ).loc Cert.MixInIdeal.main_v7_4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7_0) = v0 c
          ∧ r.2.mem ((c.tc : Thread Cert.MixInIdeal.nD Cert.MixInIdeal.τ).loc Cert.MixInIdeal.main_v7_1) = v1 c
          ∧ r.2.mem ((c.tc : Thread Cert.MixInIdeal.nD Cert.MixInIdeal.τ).loc Cert.MixInIdeal.main_v7_2) = v2 c
          ∧ r.2.mem ((c.tc : Thread Cert.MixInIdeal.nD Cert.MixInIdeal.τ).loc Cert.MixInIdeal.main_v7_3) = v3 c
          ∧ r.2.mem ((c.tc : Thread Cert.MixInIdeal.nD Cert.MixInIdeal.τ).loc Cert.MixInIdeal.main_v7_4) = v4 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v65) = v0 c
          ∧ r.2.mem ((c.tc : Thread Cert.MixInRefIdeal.nD Cert.MixInRefIdeal.τ).loc Cert.MixInRefIdeal.main_v67) = v1 c
          ∧ r.2.mem ((c.tc : Thread Cert.MixInRefIdeal.nD Cert.MixInRefIdeal.τ).loc Cert.MixInRefIdeal.main_v68) = v2 c
          ∧ r.2.mem ((c.tc : Thread Cert.MixInRefIdeal.nD Cert.MixInRefIdeal.τ).loc Cert.MixInRefIdeal.main_v69) = v3 c
          ∧ r.2.mem ((c.tc : Thread Cert.MixInRefIdeal.nD Cert.MixInRefIdeal.τ).loc Cert.MixInRefIdeal.main_v66) = v4 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7))

def preserves_FfnBwd_FfnBwdIdeal : Prop :=
  True

def algebraic_FfnBwdIdeal_FfnBwdRefIdeal_pre_ffn_bwd_finite [hFfnBwdIdeal : Cert.FfnBwdIdeal.Facts] [hFfnBwdRefIdeal : Cert.FfnBwdRefIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_bwd_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)
      ∧ m' ((c.tc : Thread Cert.FfnBwdRefIdeal.nD Cert.FfnBwdRefIdeal.τ).loc Cert.FfnBwdRefIdeal.main_arg8) = m ((c.tc : Thread Cert.FfnBwdIdeal.nD Cert.FfnBwdIdeal.τ).loc Cert.FfnBwdIdeal.main_arg8)
      ∧ m' ((c.tc : Thread Cert.FfnBwdRefIdeal.nD Cert.FfnBwdRefIdeal.τ).loc Cert.FfnBwdRefIdeal.main_arg9) = m ((c.tc : Thread Cert.FfnBwdIdeal.nD Cert.FfnBwdIdeal.τ).loc Cert.FfnBwdIdeal.main_arg9)) →
    ∃ (v0 : (c : Dev Cert.FfnBwdIdeal.nD) → Buf (Elt Ideal) ((c.tc : Thread Cert.FfnBwdIdeal.nD Cert.FfnBwdIdeal.τ).loc Cert.FfnBwdIdeal.main_v69_0)) (v1 : (c : Dev Cert.FfnBwdIdeal.nD) → Buf (Elt Ideal) ((c.tc : Thread Cert.FfnBwdIdeal.nD Cert.FfnBwdIdeal.τ).loc Cert.FfnBwdIdeal.main_v69_1)) (v2 : (c : Dev Cert.FfnBwdIdeal.nD) → Buf (Elt Ideal) ((c.tc : Thread Cert.FfnBwdIdeal.nD Cert.FfnBwdIdeal.τ).loc Cert.FfnBwdIdeal.main_v69_2)) (v3 : (c : Dev Cert.FfnBwdIdeal.nD) → Buf (Elt Ideal) ((c.tc : Thread Cert.FfnBwdIdeal.nD Cert.FfnBwdIdeal.τ).loc Cert.FfnBwdIdeal.main_v69_3)) (v4 : (c : Dev Cert.FfnBwdIdeal.nD) → Buf (Elt Ideal) ((c.tc : Thread Cert.FfnBwdIdeal.nD Cert.FfnBwdIdeal.τ).loc Cert.FfnBwdIdeal.main_v69_4)) (v5 : (c : Dev Cert.FfnBwdIdeal.nD) → Buf (Elt Ideal) ((c.tc : Thread Cert.FfnBwdIdeal.nD Cert.FfnBwdIdeal.τ).loc Cert.FfnBwdIdeal.main_v69_5)) (v6 : (c : Dev Cert.FfnBwdIdeal.nD) → Buf (Elt Ideal) ((c.tc : Thread Cert.FfnBwdIdeal.nD Cert.FfnBwdIdeal.τ).loc Cert.FfnBwdIdeal.main_v69_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v69_0) = v0 c
          ∧ r.2.mem ((c.tc : Thread Cert.FfnBwdIdeal.nD Cert.FfnBwdIdeal.τ).loc Cert.FfnBwdIdeal.main_v69_1) = v1 c
          ∧ r.2.mem ((c.tc : Thread Cert.FfnBwdIdeal.nD Cert.FfnBwdIdeal.τ).loc Cert.FfnBwdIdeal.main_v69_2) = v2 c
          ∧ r.2.mem ((c.tc : Thread Cert.FfnBwdIdeal.nD Cert.FfnBwdIdeal.τ).loc Cert.FfnBwdIdeal.main_v69_3) = v3 c
          ∧ r.2.mem ((c.tc : Thread Cert.FfnBwdIdeal.nD Cert.FfnBwdIdeal.τ).loc Cert.FfnBwdIdeal.main_v69_4) = v4 c
          ∧ r.2.mem ((c.tc : Thread Cert.FfnBwdIdeal.nD Cert.FfnBwdIdeal.τ).loc Cert.FfnBwdIdeal.main_v69_5) = v5 c
          ∧ r.2.mem ((c.tc : Thread Cert.FfnBwdIdeal.nD Cert.FfnBwdIdeal.τ).loc Cert.FfnBwdIdeal.main_v69_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
          ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
          ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v135) = v0 c
          ∧ r.2.mem ((c.tc : Thread Cert.FfnBwdRefIdeal.nD Cert.FfnBwdRefIdeal.τ).loc Cert.FfnBwdRefIdeal.main_v136) = v1 c
          ∧ r.2.mem ((c.tc : Thread Cert.FfnBwdRefIdeal.nD Cert.FfnBwdRefIdeal.τ).loc Cert.FfnBwdRefIdeal.main_v137) = v2 c
          ∧ r.2.mem ((c.tc : Thread Cert.FfnBwdRefIdeal.nD Cert.FfnBwdRefIdeal.τ).loc Cert.FfnBwdRefIdeal.main_v138) = v3 c
          ∧ r.2.mem ((c.tc : Thread Cert.FfnBwdRefIdeal.nD Cert.FfnBwdRefIdeal.τ).loc Cert.FfnBwdRefIdeal.main_v134) = v4 c
          ∧ r.2.mem ((c.tc : Thread Cert.FfnBwdRefIdeal.nD Cert.FfnBwdRefIdeal.τ).loc Cert.FfnBwdRefIdeal.main_v139) = v5 c
          ∧ r.2.mem ((c.tc : Thread Cert.FfnBwdRefIdeal.nD Cert.FfnBwdRefIdeal.τ).loc Cert.FfnBwdRefIdeal.main_v101) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7)
          ∧ r.2.mem ((c.tc : Thread Cert.FfnBwdRefIdeal.nD Cert.FfnBwdRefIdeal.τ).loc Cert.FfnBwdRefIdeal.main_arg8) = m' ((c.tc : Thread Cert.FfnBwdRefIdeal.nD Cert.FfnBwdRefIdeal.τ).loc Cert.FfnBwdRefIdeal.main_arg8)
          ∧ r.2.mem ((c.tc : Thread Cert.FfnBwdRefIdeal.nD Cert.FfnBwdRefIdeal.τ).loc Cert.FfnBwdRefIdeal.main_arg9) = m' ((c.tc : Thread Cert.FfnBwdRefIdeal.nD Cert.FfnBwdRefIdeal.τ).loc Cert.FfnBwdRefIdeal.main_arg9))

def preserves_FfnFwd_FfnFwdIdeal : Prop :=
  True

def algebraic_FfnFwdIdeal_FfnFwdRefIdeal_pre_ffn_fwd_finite [hFfnFwdIdeal : Cert.FfnFwdIdeal.Facts] [hFfnFwdRefIdeal : Cert.FfnFwdRefIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_fwd_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)
      ∧ m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8)
      ∧ m' ((c.tc : Thread Cert.FfnFwdRefIdeal.nD Cert.FfnFwdRefIdeal.τ).loc Cert.FfnFwdRefIdeal.main_arg9) = m ((c.tc : Thread Cert.FfnFwdIdeal.nD Cert.FfnFwdIdeal.τ).loc Cert.FfnFwdIdeal.main_arg9)
      ∧ m' ((c.tc : Thread Cert.FfnFwdRefIdeal.nD Cert.FfnFwdRefIdeal.τ).loc Cert.FfnFwdRefIdeal.main_arg10) = m ((c.tc : Thread Cert.FfnFwdIdeal.nD Cert.FfnFwdIdeal.τ).loc Cert.FfnFwdIdeal.main_arg10)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)) (v5 : (c : Dev Cert.FfnFwdIdeal.nD) → Buf (Elt Ideal) ((c.tc : Thread Cert.FfnFwdIdeal.nD Cert.FfnFwdIdeal.τ).loc Cert.FfnFwdIdeal.main_v10_5)) (v6 : (c : Dev Cert.FfnFwdIdeal.nD) → Buf (Elt Ideal) ((c.tc : Thread Cert.FfnFwdIdeal.nD Cert.FfnFwdIdeal.τ).loc Cert.FfnFwdIdeal.main_v10_6)) (v7 : (c : Dev Cert.FfnFwdIdeal.nD) → Buf (Elt Ideal) ((c.tc : Thread Cert.FfnFwdIdeal.nD Cert.FfnFwdIdeal.τ).loc Cert.FfnFwdIdeal.main_v10_7)) (v8 : (c : Dev Cert.FfnFwdIdeal.nD) → Buf (Elt Ideal) ((c.tc : Thread Cert.FfnFwdIdeal.nD Cert.FfnFwdIdeal.τ).loc Cert.FfnFwdIdeal.main_v10_8)) (v9 : (c : Dev Cert.FfnFwdIdeal.nD) → Buf (Elt Ideal) ((c.tc : Thread Cert.FfnFwdIdeal.nD Cert.FfnFwdIdeal.τ).loc Cert.FfnFwdIdeal.main_v10_9)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_v10_5) = v5 c
          ∧ r.2.mem ((c.tc : Thread Cert.FfnFwdIdeal.nD Cert.FfnFwdIdeal.τ).loc Cert.FfnFwdIdeal.main_v10_6) = v6 c
          ∧ r.2.mem ((c.tc : Thread Cert.FfnFwdIdeal.nD Cert.FfnFwdIdeal.τ).loc Cert.FfnFwdIdeal.main_v10_7) = v7 c
          ∧ r.2.mem ((c.tc : Thread Cert.FfnFwdIdeal.nD Cert.FfnFwdIdeal.τ).loc Cert.FfnFwdIdeal.main_v10_8) = v8 c
          ∧ r.2.mem ((c.tc : Thread Cert.FfnFwdIdeal.nD Cert.FfnFwdIdeal.τ).loc Cert.FfnFwdIdeal.main_v10_9) = v9 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
          ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9)
          ∧ r.2.mem ((c.tc : Thread Cert.FfnFwdIdeal.nD Cert.FfnFwdIdeal.τ).loc Cert.FfnFwdIdeal.main_arg10) = m ((c.tc : Thread Cert.FfnFwdIdeal.nD Cert.FfnFwdIdeal.τ).loc Cert.FfnFwdIdeal.main_arg10))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v120) = v0 c
          ∧ r.2.mem ((c.tc : Thread Cert.FfnFwdRefIdeal.nD Cert.FfnFwdRefIdeal.τ).loc Cert.FfnFwdRefIdeal.main_v121) = v1 c
          ∧ r.2.mem ((c.tc : Thread Cert.FfnFwdRefIdeal.nD Cert.FfnFwdRefIdeal.τ).loc Cert.FfnFwdRefIdeal.main_v122) = v2 c
          ∧ r.2.mem ((c.tc : Thread Cert.FfnFwdRefIdeal.nD Cert.FfnFwdRefIdeal.τ).loc Cert.FfnFwdRefIdeal.main_v123) = v3 c
          ∧ r.2.mem ((c.tc : Thread Cert.FfnFwdRefIdeal.nD Cert.FfnFwdRefIdeal.τ).loc Cert.FfnFwdRefIdeal.main_v124) = v4 c
          ∧ r.2.mem ((c.tc : Thread Cert.FfnFwdRefIdeal.nD Cert.FfnFwdRefIdeal.τ).loc Cert.FfnFwdRefIdeal.main_v125) = v5 c
          ∧ r.2.mem ((c.tc : Thread Cert.FfnFwdRefIdeal.nD Cert.FfnFwdRefIdeal.τ).loc Cert.FfnFwdRefIdeal.main_v113) = v6 c
          ∧ r.2.mem ((c.tc : Thread Cert.FfnFwdRefIdeal.nD Cert.FfnFwdRefIdeal.τ).loc Cert.FfnFwdRefIdeal.main_v126) = v7 c
          ∧ r.2.mem ((c.tc : Thread Cert.FfnFwdRefIdeal.nD Cert.FfnFwdRefIdeal.τ).loc Cert.FfnFwdRefIdeal.main_v127) = v8 c
          ∧ r.2.mem ((c.tc : Thread Cert.FfnFwdRefIdeal.nD Cert.FfnFwdRefIdeal.τ).loc Cert.FfnFwdRefIdeal.main_v128) = v9 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7)
          ∧ r.2.mem ((c.tc : Thread Cert.FfnFwdRefIdeal.nD Cert.FfnFwdRefIdeal.τ).loc Cert.FfnFwdRefIdeal.main_arg8) = m' ((c.tc : Thread Cert.FfnFwdRefIdeal.nD Cert.FfnFwdRefIdeal.τ).loc Cert.FfnFwdRefIdeal.main_arg8)
          ∧ r.2.mem ((c.tc : Thread Cert.FfnFwdRefIdeal.nD Cert.FfnFwdRefIdeal.τ).loc Cert.FfnFwdRefIdeal.main_arg9) = m' ((c.tc : Thread Cert.FfnFwdRefIdeal.nD Cert.FfnFwdRefIdeal.τ).loc Cert.FfnFwdRefIdeal.main_arg9)
          ∧ r.2.mem ((c.tc : Thread Cert.FfnFwdRefIdeal.nD Cert.FfnFwdRefIdeal.τ).loc Cert.FfnFwdRefIdeal.main_arg10) = m' ((c.tc : Thread Cert.FfnFwdRefIdeal.nD Cert.FfnFwdRefIdeal.τ).loc Cert.FfnFwdRefIdeal.main_arg10))

def preserves_MixOut_MixOutIdeal : Prop :=
  IdealRules.named_const.Statement Cert.MixOutIdeal.κ "gelu_a" .f32 0x3D372713#32 ((8943 / 200000 : ℝ) : EReal)
  ∧ IdealRules.named_const.Statement Cert.MixOutIdeal.κ "gelu_3a" .f32 0x3E095D4F#32 ((26829 / 200000 : ℝ) : EReal)

def algebraic_MixOutIdeal_MixOutRefIdeal_pre_mixer_out_bwd_finite [hMixOutIdeal : Cert.MixOutIdeal.Facts] [hMixOutRefIdeal : Cert.MixOutRefIdeal.Facts] [hPre_mixer_out_bwd_finite : Cert.Pre_mixer_out_bwd_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mixer_out_bwd_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v119_0)) (v1 : (c : Dev Cert.MixOutIdeal.nD) → Buf (Elt Ideal) ((c.tc : Thread Cert.MixOutIdeal.nD Cert.MixOutIdeal.τ).loc Cert.MixOutIdeal.main_v119_1)) (v2 : (c : Dev Cert.MixOutIdeal.nD) → Buf (Elt Ideal) ((c.tc : Thread Cert.MixOutIdeal.nD Cert.MixOutIdeal.τ).loc Cert.MixOutIdeal.main_v119_2)) (v3 : (c : Dev Cert.MixOutIdeal.nD) → Buf (Elt Ideal) ((c.tc : Thread Cert.MixOutIdeal.nD Cert.MixOutIdeal.τ).loc Cert.MixOutIdeal.main_v119_3)) (v4 : (c : Dev Cert.MixOutIdeal.nD) → Buf (Elt Ideal) ((c.tc : Thread Cert.MixOutIdeal.nD Cert.MixOutIdeal.τ).loc Cert.MixOutIdeal.main_v119_4)) (v5 : (c : Dev Cert.MixOutIdeal.nD) → Buf (Elt Ideal) ((c.tc : Thread Cert.MixOutIdeal.nD Cert.MixOutIdeal.τ).loc Cert.MixOutIdeal.main_v119_5)) (v6 : (c : Dev Cert.MixOutIdeal.nD) → Buf (Elt Ideal) ((c.tc : Thread Cert.MixOutIdeal.nD Cert.MixOutIdeal.τ).loc Cert.MixOutIdeal.main_v119_6)) (v7 : (c : Dev Cert.MixOutIdeal.nD) → Buf (Elt Ideal) ((c.tc : Thread Cert.MixOutIdeal.nD Cert.MixOutIdeal.τ).loc Cert.MixOutIdeal.main_v119_7)) (v8 : (c : Dev Cert.MixOutIdeal.nD) → Buf (Elt Ideal) ((c.tc : Thread Cert.MixOutIdeal.nD Cert.MixOutIdeal.τ).loc Cert.MixOutIdeal.main_v119_8)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v119_0) = v0 c
          ∧ r.2.mem ((c.tc : Thread Cert.MixOutIdeal.nD Cert.MixOutIdeal.τ).loc Cert.MixOutIdeal.main_v119_1) = v1 c
          ∧ r.2.mem ((c.tc : Thread Cert.MixOutIdeal.nD Cert.MixOutIdeal.τ).loc Cert.MixOutIdeal.main_v119_2) = v2 c
          ∧ r.2.mem ((c.tc : Thread Cert.MixOutIdeal.nD Cert.MixOutIdeal.τ).loc Cert.MixOutIdeal.main_v119_3) = v3 c
          ∧ r.2.mem ((c.tc : Thread Cert.MixOutIdeal.nD Cert.MixOutIdeal.τ).loc Cert.MixOutIdeal.main_v119_4) = v4 c
          ∧ r.2.mem ((c.tc : Thread Cert.MixOutIdeal.nD Cert.MixOutIdeal.τ).loc Cert.MixOutIdeal.main_v119_5) = v5 c
          ∧ r.2.mem ((c.tc : Thread Cert.MixOutIdeal.nD Cert.MixOutIdeal.τ).loc Cert.MixOutIdeal.main_v119_6) = v6 c
          ∧ r.2.mem ((c.tc : Thread Cert.MixOutIdeal.nD Cert.MixOutIdeal.τ).loc Cert.MixOutIdeal.main_v119_7) = v7 c
          ∧ r.2.mem ((c.tc : Thread Cert.MixOutIdeal.nD Cert.MixOutIdeal.τ).loc Cert.MixOutIdeal.main_v119_8) = v8 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v246) = v0 c
          ∧ r.2.mem ((c.tc : Thread Cert.MixOutRefIdeal.nD Cert.MixOutRefIdeal.τ).loc Cert.MixOutRefIdeal.main_v214) = v1 c
          ∧ r.2.mem ((c.tc : Thread Cert.MixOutRefIdeal.nD Cert.MixOutRefIdeal.τ).loc Cert.MixOutRefIdeal.main_v247) = v2 c
          ∧ r.2.mem ((c.tc : Thread Cert.MixOutRefIdeal.nD Cert.MixOutRefIdeal.τ).loc Cert.MixOutRefIdeal.main_v248) = v3 c
          ∧ r.2.mem ((c.tc : Thread Cert.MixOutRefIdeal.nD Cert.MixOutRefIdeal.τ).loc Cert.MixOutRefIdeal.main_v225) = v4 c
          ∧ r.2.mem ((c.tc : Thread Cert.MixOutRefIdeal.nD Cert.MixOutRefIdeal.τ).loc Cert.MixOutRefIdeal.main_v249) = v5 c
          ∧ r.2.mem ((c.tc : Thread Cert.MixOutRefIdeal.nD Cert.MixOutRefIdeal.τ).loc Cert.MixOutRefIdeal.main_v250) = v6 c
          ∧ r.2.mem ((c.tc : Thread Cert.MixOutRefIdeal.nD Cert.MixOutRefIdeal.τ).loc Cert.MixOutRefIdeal.main_v215) = v7 c
          ∧ r.2.mem ((c.tc : Thread Cert.MixOutRefIdeal.nD Cert.MixOutRefIdeal.τ).loc Cert.MixOutRefIdeal.main_v251) = v8 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9))

def preserves_SsmParamBwd_SsmParamBwdIdeal : Prop :=
  True

def algebraic_SsmParamBwdIdeal_SsmParamBwdRefIdeal_pre_ssm_param_bwd_finite [hSsmParamBwdIdeal : Cert.SsmParamBwdIdeal.Facts] [hSsmParamBwdRefIdeal : Cert.SsmParamBwdRefIdeal.Facts] [hPre_ssm_param_bwd_finite : Cert.Pre_ssm_param_bwd_finite.Facts] : Prop :=
  ∀ (m : (ℓ : Loc Cert.SsmParamBwdIdeal.nD Cert.SsmParamBwdIdeal.τ Cert.SsmParamBwdIdeal.sig) → Buf (Elt Ideal) ℓ) (g : Dev Cert.SsmParamBwdIdeal.nD → PrngReg)
    (m' : (ℓ : Loc Cert.SsmParamBwdRefIdeal.nD Cert.SsmParamBwdRefIdeal.τ Cert.SsmParamBwdRefIdeal.sig) → Buf (Elt Ideal) ℓ) (g' : Dev Cert.SsmParamBwdRefIdeal.nD → PrngReg), Pre_SsmParamBwdIdeal_ssm_param_bwd_finite m →
    (∀ c : Dev Cert.SsmParamBwdIdeal.nD,
      m' ((c.tc : Thread Cert.SsmParamBwdRefIdeal.nD Cert.SsmParamBwdRefIdeal.τ).loc Cert.SsmParamBwdRefIdeal.main_arg0) = m ((c.tc : Thread Cert.SsmParamBwdIdeal.nD Cert.SsmParamBwdIdeal.τ).loc Cert.SsmParamBwdIdeal.main_arg0)
      ∧ m' ((c.tc : Thread Cert.SsmParamBwdRefIdeal.nD Cert.SsmParamBwdRefIdeal.τ).loc Cert.SsmParamBwdRefIdeal.main_arg1) = m ((c.tc : Thread Cert.SsmParamBwdIdeal.nD Cert.SsmParamBwdIdeal.τ).loc Cert.SsmParamBwdIdeal.main_arg1)
      ∧ m' ((c.tc : Thread Cert.SsmParamBwdRefIdeal.nD Cert.SsmParamBwdRefIdeal.τ).loc Cert.SsmParamBwdRefIdeal.main_arg2) = m ((c.tc : Thread Cert.SsmParamBwdIdeal.nD Cert.SsmParamBwdIdeal.τ).loc Cert.SsmParamBwdIdeal.main_arg2)
      ∧ m' ((c.tc : Thread Cert.SsmParamBwdRefIdeal.nD Cert.SsmParamBwdRefIdeal.τ).loc Cert.SsmParamBwdRefIdeal.main_arg3) = m ((c.tc : Thread Cert.SsmParamBwdIdeal.nD Cert.SsmParamBwdIdeal.τ).loc Cert.SsmParamBwdIdeal.main_arg3)
      ∧ m' ((c.tc : Thread Cert.SsmParamBwdRefIdeal.nD Cert.SsmParamBwdRefIdeal.τ).loc Cert.SsmParamBwdRefIdeal.main_arg4) = m ((c.tc : Thread Cert.SsmParamBwdIdeal.nD Cert.SsmParamBwdIdeal.τ).loc Cert.SsmParamBwdIdeal.main_arg4)
      ∧ m' ((c.tc : Thread Cert.SsmParamBwdRefIdeal.nD Cert.SsmParamBwdRefIdeal.τ).loc Cert.SsmParamBwdRefIdeal.main_arg5) = m ((c.tc : Thread Cert.SsmParamBwdIdeal.nD Cert.SsmParamBwdIdeal.τ).loc Cert.SsmParamBwdIdeal.main_arg5)
      ∧ m' ((c.tc : Thread Cert.SsmParamBwdRefIdeal.nD Cert.SsmParamBwdRefIdeal.τ).loc Cert.SsmParamBwdRefIdeal.main_arg6) = m ((c.tc : Thread Cert.SsmParamBwdIdeal.nD Cert.SsmParamBwdIdeal.τ).loc Cert.SsmParamBwdIdeal.main_arg6)
      ∧ m' ((c.tc : Thread Cert.SsmParamBwdRefIdeal.nD Cert.SsmParamBwdRefIdeal.τ).loc Cert.SsmParamBwdRefIdeal.main_arg7) = m ((c.tc : Thread Cert.SsmParamBwdIdeal.nD Cert.SsmParamBwdIdeal.τ).loc Cert.SsmParamBwdIdeal.main_arg7)
      ∧ m' ((c.tc : Thread Cert.SsmParamBwdRefIdeal.nD Cert.SsmParamBwdRefIdeal.τ).loc Cert.SsmParamBwdRefIdeal.main_arg8) = m ((c.tc : Thread Cert.SsmParamBwdIdeal.nD Cert.SsmParamBwdIdeal.τ).loc Cert.SsmParamBwdIdeal.main_arg8)
      ∧ m' ((c.tc : Thread Cert.SsmParamBwdRefIdeal.nD Cert.SsmParamBwdRefIdeal.τ).loc Cert.SsmParamBwdRefIdeal.main_arg9) = m ((c.tc : Thread Cert.SsmParamBwdIdeal.nD Cert.SsmParamBwdIdeal.τ).loc Cert.SsmParamBwdIdeal.main_arg9)) →
    ∃ (v0 : (c : Dev Cert.SsmParamBwdIdeal.nD) → Buf (Elt Ideal) ((c.tc : Thread Cert.SsmParamBwdIdeal.nD Cert.SsmParamBwdIdeal.τ).loc Cert.SsmParamBwdIdeal.main_v24_0)) (v1 : (c : Dev Cert.SsmParamBwdIdeal.nD) → Buf (Elt Ideal) ((c.tc : Thread Cert.SsmParamBwdIdeal.nD Cert.SsmParamBwdIdeal.τ).loc Cert.SsmParamBwdIdeal.main_v24_1)) (v2 : (c : Dev Cert.SsmParamBwdIdeal.nD) → Buf (Elt Ideal) ((c.tc : Thread Cert.SsmParamBwdIdeal.nD Cert.SsmParamBwdIdeal.τ).loc Cert.SsmParamBwdIdeal.main_v24_2)) (v3 : (c : Dev Cert.SsmParamBwdIdeal.nD) → Buf (Elt Ideal) ((c.tc : Thread Cert.SsmParamBwdIdeal.nD Cert.SsmParamBwdIdeal.τ).loc Cert.SsmParamBwdIdeal.main_v24_3)) (v4 : (c : Dev Cert.SsmParamBwdIdeal.nD) → Buf (Elt Ideal) ((c.tc : Thread Cert.SsmParamBwdIdeal.nD Cert.SsmParamBwdIdeal.τ).loc Cert.SsmParamBwdIdeal.main_v24_4)) (v5 : (c : Dev Cert.SsmParamBwdIdeal.nD) → Buf (Elt Ideal) ((c.tc : Thread Cert.SsmParamBwdIdeal.nD Cert.SsmParamBwdIdeal.τ).loc Cert.SsmParamBwdIdeal.main_v24_5)),
      θ_run (Cert.SsmParamBwdIdeal.defs (F := Ideal)) (onTc (τ := Cert.SsmParamBwdIdeal.τ) (Cert.SsmParamBwdIdeal.main (F := Ideal))) ⟨m, fun _ => 0, g⟩ (fun r => ∀ c : Dev Cert.SsmParamBwdIdeal.nD,
          r.2.mem ((c.tc : Thread Cert.SsmParamBwdIdeal.nD Cert.SsmParamBwdIdeal.τ).loc Cert.SsmParamBwdIdeal.main_v24_0) = v0 c
          ∧ r.2.mem ((c.tc : Thread Cert.SsmParamBwdIdeal.nD Cert.SsmParamBwdIdeal.τ).loc Cert.SsmParamBwdIdeal.main_v24_1) = v1 c
          ∧ r.2.mem ((c.tc : Thread Cert.SsmParamBwdIdeal.nD Cert.SsmParamBwdIdeal.τ).loc Cert.SsmParamBwdIdeal.main_v24_2) = v2 c
          ∧ r.2.mem ((c.tc : Thread Cert.SsmParamBwdIdeal.nD Cert.SsmParamBwdIdeal.τ).loc Cert.SsmParamBwdIdeal.main_v24_3) = v3 c
          ∧ r.2.mem ((c.tc : Thread Cert.SsmParamBwdIdeal.nD Cert.SsmParamBwdIdeal.τ).loc Cert.SsmParamBwdIdeal.main_v24_4) = v4 c
          ∧ r.2.mem ((c.tc : Thread Cert.SsmParamBwdIdeal.nD Cert.SsmParamBwdIdeal.τ).loc Cert.SsmParamBwdIdeal.main_v24_5) = v5 c
          ∧ r.2.mem ((c.tc : Thread Cert.SsmParamBwdIdeal.nD Cert.SsmParamBwdIdeal.τ).loc Cert.SsmParamBwdIdeal.main_arg0) = m ((c.tc : Thread Cert.SsmParamBwdIdeal.nD Cert.SsmParamBwdIdeal.τ).loc Cert.SsmParamBwdIdeal.main_arg0)
          ∧ r.2.mem ((c.tc : Thread Cert.SsmParamBwdIdeal.nD Cert.SsmParamBwdIdeal.τ).loc Cert.SsmParamBwdIdeal.main_arg1) = m ((c.tc : Thread Cert.SsmParamBwdIdeal.nD Cert.SsmParamBwdIdeal.τ).loc Cert.SsmParamBwdIdeal.main_arg1)
          ∧ r.2.mem ((c.tc : Thread Cert.SsmParamBwdIdeal.nD Cert.SsmParamBwdIdeal.τ).loc Cert.SsmParamBwdIdeal.main_arg2) = m ((c.tc : Thread Cert.SsmParamBwdIdeal.nD Cert.SsmParamBwdIdeal.τ).loc Cert.SsmParamBwdIdeal.main_arg2)
          ∧ r.2.mem ((c.tc : Thread Cert.SsmParamBwdIdeal.nD Cert.SsmParamBwdIdeal.τ).loc Cert.SsmParamBwdIdeal.main_arg3) = m ((c.tc : Thread Cert.SsmParamBwdIdeal.nD Cert.SsmParamBwdIdeal.τ).loc Cert.SsmParamBwdIdeal.main_arg3)
          ∧ r.2.mem ((c.tc : Thread Cert.SsmParamBwdIdeal.nD Cert.SsmParamBwdIdeal.τ).loc Cert.SsmParamBwdIdeal.main_arg4) = m ((c.tc : Thread Cert.SsmParamBwdIdeal.nD Cert.SsmParamBwdIdeal.τ).loc Cert.SsmParamBwdIdeal.main_arg4)
          ∧ r.2.mem ((c.tc : Thread Cert.SsmParamBwdIdeal.nD Cert.SsmParamBwdIdeal.τ).loc Cert.SsmParamBwdIdeal.main_arg5) = m ((c.tc : Thread Cert.SsmParamBwdIdeal.nD Cert.SsmParamBwdIdeal.τ).loc Cert.SsmParamBwdIdeal.main_arg5)
          ∧ r.2.mem ((c.tc : Thread Cert.SsmParamBwdIdeal.nD Cert.SsmParamBwdIdeal.τ).loc Cert.SsmParamBwdIdeal.main_arg6) = m ((c.tc : Thread Cert.SsmParamBwdIdeal.nD Cert.SsmParamBwdIdeal.τ).loc Cert.SsmParamBwdIdeal.main_arg6)
          ∧ r.2.mem ((c.tc : Thread Cert.SsmParamBwdIdeal.nD Cert.SsmParamBwdIdeal.τ).loc Cert.SsmParamBwdIdeal.main_arg7) = m ((c.tc : Thread Cert.SsmParamBwdIdeal.nD Cert.SsmParamBwdIdeal.τ).loc Cert.SsmParamBwdIdeal.main_arg7)
          ∧ r.2.mem ((c.tc : Thread Cert.SsmParamBwdIdeal.nD Cert.SsmParamBwdIdeal.τ).loc Cert.SsmParamBwdIdeal.main_arg8) = m ((c.tc : Thread Cert.SsmParamBwdIdeal.nD Cert.SsmParamBwdIdeal.τ).loc Cert.SsmParamBwdIdeal.main_arg8)
          ∧ r.2.mem ((c.tc : Thread Cert.SsmParamBwdIdeal.nD Cert.SsmParamBwdIdeal.τ).loc Cert.SsmParamBwdIdeal.main_arg9) = m ((c.tc : Thread Cert.SsmParamBwdIdeal.nD Cert.SsmParamBwdIdeal.τ).loc Cert.SsmParamBwdIdeal.main_arg9))
      ∧ θ_run (Cert.SsmParamBwdRefIdeal.defs (F := Ideal)) (onTc (τ := Cert.SsmParamBwdRefIdeal.τ) (Cert.SsmParamBwdRefIdeal.main (F := Ideal))) ⟨m', fun _ => 0, g'⟩ (fun r => ∀ c : Dev Cert.SsmParamBwdRefIdeal.nD,
          r.2.mem ((c.tc : Thread Cert.SsmParamBwdRefIdeal.nD Cert.SsmParamBwdRefIdeal.τ).loc Cert.SsmParamBwdRefIdeal.main_v136) = v0 c
          ∧ r.2.mem ((c.tc : Thread Cert.SsmParamBwdRefIdeal.nD Cert.SsmParamBwdRefIdeal.τ).loc Cert.SsmParamBwdRefIdeal.main_v137) = v1 c
          ∧ r.2.mem ((c.tc : Thread Cert.SsmParamBwdRefIdeal.nD Cert.SsmParamBwdRefIdeal.τ).loc Cert.SsmParamBwdRefIdeal.main_v138) = v2 c
          ∧ r.2.mem ((c.tc : Thread Cert.SsmParamBwdRefIdeal.nD Cert.SsmParamBwdRefIdeal.τ).loc Cert.SsmParamBwdRefIdeal.main_v140) = v3 c
          ∧ r.2.mem ((c.tc : Thread Cert.SsmParamBwdRefIdeal.nD Cert.SsmParamBwdRefIdeal.τ).loc Cert.SsmParamBwdRefIdeal.main_v142) = v4 c
          ∧ r.2.mem ((c.tc : Thread Cert.SsmParamBwdRefIdeal.nD Cert.SsmParamBwdRefIdeal.τ).loc Cert.SsmParamBwdRefIdeal.main_v144) = v5 c
          ∧ r.2.mem ((c.tc : Thread Cert.SsmParamBwdRefIdeal.nD Cert.SsmParamBwdRefIdeal.τ).loc Cert.SsmParamBwdRefIdeal.main_arg0) = m' ((c.tc : Thread Cert.SsmParamBwdRefIdeal.nD Cert.SsmParamBwdRefIdeal.τ).loc Cert.SsmParamBwdRefIdeal.main_arg0)
          ∧ r.2.mem ((c.tc : Thread Cert.SsmParamBwdRefIdeal.nD Cert.SsmParamBwdRefIdeal.τ).loc Cert.SsmParamBwdRefIdeal.main_arg1) = m' ((c.tc : Thread Cert.SsmParamBwdRefIdeal.nD Cert.SsmParamBwdRefIdeal.τ).loc Cert.SsmParamBwdRefIdeal.main_arg1)
          ∧ r.2.mem ((c.tc : Thread Cert.SsmParamBwdRefIdeal.nD Cert.SsmParamBwdRefIdeal.τ).loc Cert.SsmParamBwdRefIdeal.main_arg2) = m' ((c.tc : Thread Cert.SsmParamBwdRefIdeal.nD Cert.SsmParamBwdRefIdeal.τ).loc Cert.SsmParamBwdRefIdeal.main_arg2)
          ∧ r.2.mem ((c.tc : Thread Cert.SsmParamBwdRefIdeal.nD Cert.SsmParamBwdRefIdeal.τ).loc Cert.SsmParamBwdRefIdeal.main_arg3) = m' ((c.tc : Thread Cert.SsmParamBwdRefIdeal.nD Cert.SsmParamBwdRefIdeal.τ).loc Cert.SsmParamBwdRefIdeal.main_arg3)
          ∧ r.2.mem ((c.tc : Thread Cert.SsmParamBwdRefIdeal.nD Cert.SsmParamBwdRefIdeal.τ).loc Cert.SsmParamBwdRefIdeal.main_arg4) = m' ((c.tc : Thread Cert.SsmParamBwdRefIdeal.nD Cert.SsmParamBwdRefIdeal.τ).loc Cert.SsmParamBwdRefIdeal.main_arg4)
          ∧ r.2.mem ((c.tc : Thread Cert.SsmParamBwdRefIdeal.nD Cert.SsmParamBwdRefIdeal.τ).loc Cert.SsmParamBwdRefIdeal.main_arg5) = m' ((c.tc : Thread Cert.SsmParamBwdRefIdeal.nD Cert.SsmParamBwdRefIdeal.τ).loc Cert.SsmParamBwdRefIdeal.main_arg5)
          ∧ r.2.mem ((c.tc : Thread Cert.SsmParamBwdRefIdeal.nD Cert.SsmParamBwdRefIdeal.τ).loc Cert.SsmParamBwdRefIdeal.main_arg6) = m' ((c.tc : Thread Cert.SsmParamBwdRefIdeal.nD Cert.SsmParamBwdRefIdeal.τ).loc Cert.SsmParamBwdRefIdeal.main_arg6)
          ∧ r.2.mem ((c.tc : Thread Cert.SsmParamBwdRefIdeal.nD Cert.SsmParamBwdRefIdeal.τ).loc Cert.SsmParamBwdRefIdeal.main_arg7) = m' ((c.tc : Thread Cert.SsmParamBwdRefIdeal.nD Cert.SsmParamBwdRefIdeal.τ).loc Cert.SsmParamBwdRefIdeal.main_arg7)
          ∧ r.2.mem ((c.tc : Thread Cert.SsmParamBwdRefIdeal.nD Cert.SsmParamBwdRefIdeal.τ).loc Cert.SsmParamBwdRefIdeal.main_arg8) = m' ((c.tc : Thread Cert.SsmParamBwdRefIdeal.nD Cert.SsmParamBwdRefIdeal.τ).loc Cert.SsmParamBwdRefIdeal.main_arg8)
          ∧ r.2.mem ((c.tc : Thread Cert.SsmParamBwdRefIdeal.nD Cert.SsmParamBwdRefIdeal.τ).loc Cert.SsmParamBwdRefIdeal.main_arg9) = m' ((c.tc : Thread Cert.SsmParamBwdRefIdeal.nD Cert.SsmParamBwdRefIdeal.τ).loc Cert.SsmParamBwdRefIdeal.main_arg9))

def preserves_SsmFwd_SsmFwdIdeal : Prop :=
  True

def algebraic_SsmFwdIdeal_SsmFwdRefIdeal_pre_ssm_fwd_finite [hSsmFwdIdeal : Cert.SsmFwdIdeal.Facts] [hSsmFwdRefIdeal : Cert.SsmFwdRefIdeal.Facts] [hPre_ssm_fwd_finite : Cert.Pre_ssm_fwd_finite.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg)
    (m' : (ℓ : Loc Cert.SsmFwdRefIdeal.nD Cert.SsmFwdRefIdeal.τ Cert.SsmFwdRefIdeal.sig) → Buf (Elt Ideal) ℓ) (g' : Dev Cert.SsmFwdRefIdeal.nD → PrngReg), Pre_SsmFwdIdeal_ssm_fwd_finite m →
    (∀ c : Dev Cert.SsmFwdIdeal.nD,
      m' ((c.tc : Thread Cert.SsmFwdRefIdeal.nD Cert.SsmFwdRefIdeal.τ).loc Cert.SsmFwdRefIdeal.main_arg0) = m ((c.tc : Thread Cert.SsmFwdIdeal.nD Cert.SsmFwdIdeal.τ).loc Cert.SsmFwdIdeal.main_arg0)
      ∧ m' ((c.tc : Thread Cert.SsmFwdRefIdeal.nD Cert.SsmFwdRefIdeal.τ).loc Cert.SsmFwdRefIdeal.main_arg1) = m ((c.tc : Thread Cert.SsmFwdIdeal.nD Cert.SsmFwdIdeal.τ).loc Cert.SsmFwdIdeal.main_arg1)
      ∧ m' ((c.tc : Thread Cert.SsmFwdRefIdeal.nD Cert.SsmFwdRefIdeal.τ).loc Cert.SsmFwdRefIdeal.main_arg2) = m ((c.tc : Thread Cert.SsmFwdIdeal.nD Cert.SsmFwdIdeal.τ).loc Cert.SsmFwdIdeal.main_arg2)
      ∧ m' ((c.tc : Thread Cert.SsmFwdRefIdeal.nD Cert.SsmFwdRefIdeal.τ).loc Cert.SsmFwdRefIdeal.main_arg3) = m ((c.tc : Thread Cert.SsmFwdIdeal.nD Cert.SsmFwdIdeal.τ).loc Cert.SsmFwdIdeal.main_arg3)
      ∧ m' ((c.tc : Thread Cert.SsmFwdRefIdeal.nD Cert.SsmFwdRefIdeal.τ).loc Cert.SsmFwdRefIdeal.main_arg4) = m ((c.tc : Thread Cert.SsmFwdIdeal.nD Cert.SsmFwdIdeal.τ).loc Cert.SsmFwdIdeal.main_arg4)
      ∧ m' ((c.tc : Thread Cert.SsmFwdRefIdeal.nD Cert.SsmFwdRefIdeal.τ).loc Cert.SsmFwdRefIdeal.main_arg5) = m ((c.tc : Thread Cert.SsmFwdIdeal.nD Cert.SsmFwdIdeal.τ).loc Cert.SsmFwdIdeal.main_arg5)
      ∧ m' ((c.tc : Thread Cert.SsmFwdRefIdeal.nD Cert.SsmFwdRefIdeal.τ).loc Cert.SsmFwdRefIdeal.main_arg6) = m ((c.tc : Thread Cert.SsmFwdIdeal.nD Cert.SsmFwdIdeal.τ).loc Cert.SsmFwdIdeal.main_arg6)
      ∧ m' ((c.tc : Thread Cert.SsmFwdRefIdeal.nD Cert.SsmFwdRefIdeal.τ).loc Cert.SsmFwdRefIdeal.main_arg7) = m ((c.tc : Thread Cert.SsmFwdIdeal.nD Cert.SsmFwdIdeal.τ).loc Cert.SsmFwdIdeal.main_arg7)) →
    ∃ (v0 : (c : Dev Cert.SsmFwdIdeal.nD) → Buf (Elt Ideal) ((c.tc : Thread Cert.SsmFwdIdeal.nD Cert.SsmFwdIdeal.τ).loc Cert.SsmFwdIdeal.main_v106_0)) (v1 : (c : Dev Cert.SsmFwdIdeal.nD) → Buf (Elt Ideal) ((c.tc : Thread Cert.SsmFwdIdeal.nD Cert.SsmFwdIdeal.τ).loc Cert.SsmFwdIdeal.main_v106_1)) (v2 : (c : Dev Cert.SsmFwdIdeal.nD) → Buf (Elt Ideal) ((c.tc : Thread Cert.SsmFwdIdeal.nD Cert.SsmFwdIdeal.τ).loc Cert.SsmFwdIdeal.main_v106_2)) (v3 : (c : Dev Cert.SsmFwdIdeal.nD) → Buf (Elt Ideal) ((c.tc : Thread Cert.SsmFwdIdeal.nD Cert.SsmFwdIdeal.τ).loc Cert.SsmFwdIdeal.main_v106_3)),
      θ_run (Cert.SsmFwdIdeal.defs (F := Ideal)) (onTc (τ := Cert.SsmFwdIdeal.τ) (Cert.SsmFwdIdeal.main (F := Ideal))) ⟨m, fun _ => 0, g⟩ (fun r => ∀ c : Dev Cert.SsmFwdIdeal.nD,
          r.2.mem ((c.tc : Thread Cert.SsmFwdIdeal.nD Cert.SsmFwdIdeal.τ).loc Cert.SsmFwdIdeal.main_v106_0) = v0 c
          ∧ r.2.mem ((c.tc : Thread Cert.SsmFwdIdeal.nD Cert.SsmFwdIdeal.τ).loc Cert.SsmFwdIdeal.main_v106_1) = v1 c
          ∧ r.2.mem ((c.tc : Thread Cert.SsmFwdIdeal.nD Cert.SsmFwdIdeal.τ).loc Cert.SsmFwdIdeal.main_v106_2) = v2 c
          ∧ r.2.mem ((c.tc : Thread Cert.SsmFwdIdeal.nD Cert.SsmFwdIdeal.τ).loc Cert.SsmFwdIdeal.main_v106_3) = v3 c
          ∧ r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
          ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
          ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
          ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
          ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4)
          ∧ r.2.mem ((c.tc : Thread Cert.SsmFwdIdeal.nD Cert.SsmFwdIdeal.τ).loc Cert.SsmFwdIdeal.main_arg5) = m ((c.tc : Thread Cert.SsmFwdIdeal.nD Cert.SsmFwdIdeal.τ).loc Cert.SsmFwdIdeal.main_arg5)
          ∧ r.2.mem ((c.tc : Thread Cert.SsmFwdIdeal.nD Cert.SsmFwdIdeal.τ).loc Cert.SsmFwdIdeal.main_arg6) = m ((c.tc : Thread Cert.SsmFwdIdeal.nD Cert.SsmFwdIdeal.τ).loc Cert.SsmFwdIdeal.main_arg6)
          ∧ r.2.mem ((c.tc : Thread Cert.SsmFwdIdeal.nD Cert.SsmFwdIdeal.τ).loc Cert.SsmFwdIdeal.main_arg7) = m ((c.tc : Thread Cert.SsmFwdIdeal.nD Cert.SsmFwdIdeal.τ).loc Cert.SsmFwdIdeal.main_arg7))
      ∧ θ_run (Cert.SsmFwdRefIdeal.defs (F := Ideal)) (onTc (τ := Cert.SsmFwdRefIdeal.τ) (Cert.SsmFwdRefIdeal.main (F := Ideal))) ⟨m', fun _ => 0, g'⟩ (fun r => ∀ c : Dev Cert.SsmFwdRefIdeal.nD,
          r.2.mem ((c.tc : Thread Cert.SsmFwdRefIdeal.nD Cert.SsmFwdRefIdeal.τ).loc Cert.SsmFwdRefIdeal.main_v26) = v0 c
          ∧ r.2.mem ((c.tc : Thread Cert.SsmFwdRefIdeal.nD Cert.SsmFwdRefIdeal.τ).loc Cert.SsmFwdRefIdeal.main_v37) = v1 c
          ∧ r.2.mem ((c.tc : Thread Cert.SsmFwdRefIdeal.nD Cert.SsmFwdRefIdeal.τ).loc Cert.SsmFwdRefIdeal.main_v39) = v2 c
          ∧ r.2.mem ((c.tc : Thread Cert.SsmFwdRefIdeal.nD Cert.SsmFwdRefIdeal.τ).loc Cert.SsmFwdRefIdeal.main_v41) = v3 c
          ∧ r.2.mem ((c.tc : Thread Cert.SsmFwdRefIdeal.nD Cert.SsmFwdRefIdeal.τ).loc Cert.SsmFwdRefIdeal.main_arg0) = m' ((c.tc : Thread Cert.SsmFwdRefIdeal.nD Cert.SsmFwdRefIdeal.τ).loc Cert.SsmFwdRefIdeal.main_arg0)
          ∧ r.2.mem ((c.tc : Thread Cert.SsmFwdRefIdeal.nD Cert.SsmFwdRefIdeal.τ).loc Cert.SsmFwdRefIdeal.main_arg1) = m' ((c.tc : Thread Cert.SsmFwdRefIdeal.nD Cert.SsmFwdRefIdeal.τ).loc Cert.SsmFwdRefIdeal.main_arg1)
          ∧ r.2.mem ((c.tc : Thread Cert.SsmFwdRefIdeal.nD Cert.SsmFwdRefIdeal.τ).loc Cert.SsmFwdRefIdeal.main_arg2) = m' ((c.tc : Thread Cert.SsmFwdRefIdeal.nD Cert.SsmFwdRefIdeal.τ).loc Cert.SsmFwdRefIdeal.main_arg2)
          ∧ r.2.mem ((c.tc : Thread Cert.SsmFwdRefIdeal.nD Cert.SsmFwdRefIdeal.τ).loc Cert.SsmFwdRefIdeal.main_arg3) = m' ((c.tc : Thread Cert.SsmFwdRefIdeal.nD Cert.SsmFwdRefIdeal.τ).loc Cert.SsmFwdRefIdeal.main_arg3)
          ∧ r.2.mem ((c.tc : Thread Cert.SsmFwdRefIdeal.nD Cert.SsmFwdRefIdeal.τ).loc Cert.SsmFwdRefIdeal.main_arg4) = m' ((c.tc : Thread Cert.SsmFwdRefIdeal.nD Cert.SsmFwdRefIdeal.τ).loc Cert.SsmFwdRefIdeal.main_arg4)
          ∧ r.2.mem ((c.tc : Thread Cert.SsmFwdRefIdeal.nD Cert.SsmFwdRefIdeal.τ).loc Cert.SsmFwdRefIdeal.main_arg5) = m' ((c.tc : Thread Cert.SsmFwdRefIdeal.nD Cert.SsmFwdRefIdeal.τ).loc Cert.SsmFwdRefIdeal.main_arg5)
          ∧ r.2.mem ((c.tc : Thread Cert.SsmFwdRefIdeal.nD Cert.SsmFwdRefIdeal.τ).loc Cert.SsmFwdRefIdeal.main_arg6) = m' ((c.tc : Thread Cert.SsmFwdRefIdeal.nD Cert.SsmFwdRefIdeal.τ).loc Cert.SsmFwdRefIdeal.main_arg6)
          ∧ r.2.mem ((c.tc : Thread Cert.SsmFwdRefIdeal.nD Cert.SsmFwdRefIdeal.τ).loc Cert.SsmFwdRefIdeal.main_arg7) = m' ((c.tc : Thread Cert.SsmFwdRefIdeal.nD Cert.SsmFwdRefIdeal.τ).loc Cert.SsmFwdRefIdeal.main_arg7))

def preserves_SsmPrep_SsmPrepIdeal : Prop :=
  True

def algebraic_SsmPrepIdeal_SsmPrepRefIdeal [hSsmPrepIdeal : Cert.SsmPrepIdeal.Facts] [hSsmPrepRefIdeal : Cert.SsmPrepRefIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg)
    (m' : (ℓ : Loc Cert.SsmPrepRefIdeal.nD Cert.SsmPrepRefIdeal.τ Cert.SsmPrepRefIdeal.sig) → Buf (Elt Ideal) ℓ) (g' : Dev Cert.SsmPrepRefIdeal.nD → PrngReg), Pre_SsmPrepIdeal m →
    (∀ c : Dev Cert.SsmPrepIdeal.nD,
      m' ((c.tc : Thread Cert.SsmPrepRefIdeal.nD Cert.SsmPrepRefIdeal.τ).loc Cert.SsmPrepRefIdeal.main_arg0) = m ((c.tc : Thread Cert.SsmPrepIdeal.nD Cert.SsmPrepIdeal.τ).loc Cert.SsmPrepIdeal.main_arg0)
      ∧ m' ((c.tc : Thread Cert.SsmPrepRefIdeal.nD Cert.SsmPrepRefIdeal.τ).loc Cert.SsmPrepRefIdeal.main_arg1) = m ((c.tc : Thread Cert.SsmPrepIdeal.nD Cert.SsmPrepIdeal.τ).loc Cert.SsmPrepIdeal.main_arg1)
      ∧ m' ((c.tc : Thread Cert.SsmPrepRefIdeal.nD Cert.SsmPrepRefIdeal.τ).loc Cert.SsmPrepRefIdeal.main_arg2) = m ((c.tc : Thread Cert.SsmPrepIdeal.nD Cert.SsmPrepIdeal.τ).loc Cert.SsmPrepIdeal.main_arg2)
      ∧ m' ((c.tc : Thread Cert.SsmPrepRefIdeal.nD Cert.SsmPrepRefIdeal.τ).loc Cert.SsmPrepRefIdeal.main_arg3) = m ((c.tc : Thread Cert.SsmPrepIdeal.nD Cert.SsmPrepIdeal.τ).loc Cert.SsmPrepIdeal.main_arg3)
      ∧ m' ((c.tc : Thread Cert.SsmPrepRefIdeal.nD Cert.SsmPrepRefIdeal.τ).loc Cert.SsmPrepRefIdeal.main_arg4) = m ((c.tc : Thread Cert.SsmPrepIdeal.nD Cert.SsmPrepIdeal.τ).loc Cert.SsmPrepIdeal.main_arg4)) →
    ∃ (v0 : (c : Dev Cert.SsmPrepIdeal.nD) → Buf (Elt Ideal) ((c.tc : Thread Cert.SsmPrepIdeal.nD Cert.SsmPrepIdeal.τ).loc Cert.SsmPrepIdeal.main_v14_0)) (v1 : (c : Dev Cert.SsmPrepIdeal.nD) → Buf (Elt Ideal) ((c.tc : Thread Cert.SsmPrepIdeal.nD Cert.SsmPrepIdeal.τ).loc Cert.SsmPrepIdeal.main_v14_1)) (v2 : (c : Dev Cert.SsmPrepIdeal.nD) → Buf (Elt Ideal) ((c.tc : Thread Cert.SsmPrepIdeal.nD Cert.SsmPrepIdeal.τ).loc Cert.SsmPrepIdeal.main_v14_2)) (v3 : (c : Dev Cert.SsmPrepIdeal.nD) → Buf (Elt Ideal) ((c.tc : Thread Cert.SsmPrepIdeal.nD Cert.SsmPrepIdeal.τ).loc Cert.SsmPrepIdeal.main_v14_3)),
      θ_run (Cert.SsmPrepIdeal.defs (F := Ideal)) (onTc (τ := Cert.SsmPrepIdeal.τ) (Cert.SsmPrepIdeal.main (F := Ideal))) ⟨m, fun _ => 0, g⟩ (fun r => ∀ c : Dev Cert.SsmPrepIdeal.nD,
          r.2.mem ((c.tc : Thread Cert.SsmPrepIdeal.nD Cert.SsmPrepIdeal.τ).loc Cert.SsmPrepIdeal.main_v14_0) = v0 c
          ∧ r.2.mem ((c.tc : Thread Cert.SsmPrepIdeal.nD Cert.SsmPrepIdeal.τ).loc Cert.SsmPrepIdeal.main_v14_1) = v1 c
          ∧ r.2.mem ((c.tc : Thread Cert.SsmPrepIdeal.nD Cert.SsmPrepIdeal.τ).loc Cert.SsmPrepIdeal.main_v14_2) = v2 c
          ∧ r.2.mem ((c.tc : Thread Cert.SsmPrepIdeal.nD Cert.SsmPrepIdeal.τ).loc Cert.SsmPrepIdeal.main_v14_3) = v3 c
          ∧ r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
          ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
          ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
          ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
          ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4))
      ∧ θ_run (Cert.SsmPrepRefIdeal.defs (F := Ideal)) (onTc (τ := Cert.SsmPrepRefIdeal.τ) (Cert.SsmPrepRefIdeal.main (F := Ideal))) ⟨m', fun _ => 0, g'⟩ (fun r => ∀ c : Dev Cert.SsmPrepRefIdeal.nD,
          r.2.mem ((c.tc : Thread Cert.SsmPrepRefIdeal.nD Cert.SsmPrepRefIdeal.τ).loc Cert.SsmPrepRefIdeal.main_v43) = v0 c
          ∧ r.2.mem ((c.tc : Thread Cert.SsmPrepRefIdeal.nD Cert.SsmPrepRefIdeal.τ).loc Cert.SsmPrepRefIdeal.main_v44) = v1 c
          ∧ r.2.mem ((c.tc : Thread Cert.SsmPrepRefIdeal.nD Cert.SsmPrepRefIdeal.τ).loc Cert.SsmPrepRefIdeal.main_v46) = v2 c
          ∧ r.2.mem ((c.tc : Thread Cert.SsmPrepRefIdeal.nD Cert.SsmPrepRefIdeal.τ).loc Cert.SsmPrepRefIdeal.main_v48) = v3 c
          ∧ r.2.mem ((c.tc : Thread Cert.SsmPrepRefIdeal.nD Cert.SsmPrepRefIdeal.τ).loc Cert.SsmPrepRefIdeal.main_arg0) = m' ((c.tc : Thread Cert.SsmPrepRefIdeal.nD Cert.SsmPrepRefIdeal.τ).loc Cert.SsmPrepRefIdeal.main_arg0)
          ∧ r.2.mem ((c.tc : Thread Cert.SsmPrepRefIdeal.nD Cert.SsmPrepRefIdeal.τ).loc Cert.SsmPrepRefIdeal.main_arg1) = m' ((c.tc : Thread Cert.SsmPrepRefIdeal.nD Cert.SsmPrepRefIdeal.τ).loc Cert.SsmPrepRefIdeal.main_arg1)
          ∧ r.2.mem ((c.tc : Thread Cert.SsmPrepRefIdeal.nD Cert.SsmPrepRefIdeal.τ).loc Cert.SsmPrepRefIdeal.main_arg2) = m' ((c.tc : Thread Cert.SsmPrepRefIdeal.nD Cert.SsmPrepRefIdeal.τ).loc Cert.SsmPrepRefIdeal.main_arg2)
          ∧ r.2.mem ((c.tc : Thread Cert.SsmPrepRefIdeal.nD Cert.SsmPrepRefIdeal.τ).loc Cert.SsmPrepRefIdeal.main_arg3) = m' ((c.tc : Thread Cert.SsmPrepRefIdeal.nD Cert.SsmPrepRefIdeal.τ).loc Cert.SsmPrepRefIdeal.main_arg3)
          ∧ r.2.mem ((c.tc : Thread Cert.SsmPrepRefIdeal.nD Cert.SsmPrepRefIdeal.τ).loc Cert.SsmPrepRefIdeal.main_arg4) = m' ((c.tc : Thread Cert.SsmPrepRefIdeal.nD Cert.SsmPrepRefIdeal.τ).loc Cert.SsmPrepRefIdeal.main_arg4))

def preserves_MixInFwd_MixInFwdIdeal : Prop :=
  True

def algebraic_MixInFwdIdeal_MixInFwdRefIdeal [hMixInFwdIdeal : Cert.MixInFwdIdeal.Facts] [hMixInFwdRefIdeal : Cert.MixInFwdRefIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg)
    (m' : (ℓ : Loc Cert.MixInFwdRefIdeal.nD Cert.MixInFwdRefIdeal.τ Cert.MixInFwdRefIdeal.sig) → Buf (Elt Ideal) ℓ) (g' : Dev Cert.MixInFwdRefIdeal.nD → PrngReg), Pre_MixInFwdIdeal m →
    (∀ c : Dev Cert.MixInFwdIdeal.nD,
      m' ((c.tc : Thread Cert.MixInFwdRefIdeal.nD Cert.MixInFwdRefIdeal.τ).loc Cert.MixInFwdRefIdeal.main_arg0) = m ((c.tc : Thread Cert.MixInFwdIdeal.nD Cert.MixInFwdIdeal.τ).loc Cert.MixInFwdIdeal.main_arg0)
      ∧ m' ((c.tc : Thread Cert.MixInFwdRefIdeal.nD Cert.MixInFwdRefIdeal.τ).loc Cert.MixInFwdRefIdeal.main_arg1) = m ((c.tc : Thread Cert.MixInFwdIdeal.nD Cert.MixInFwdIdeal.τ).loc Cert.MixInFwdIdeal.main_arg1)
      ∧ m' ((c.tc : Thread Cert.MixInFwdRefIdeal.nD Cert.MixInFwdRefIdeal.τ).loc Cert.MixInFwdRefIdeal.main_arg2) = m ((c.tc : Thread Cert.MixInFwdIdeal.nD Cert.MixInFwdIdeal.τ).loc Cert.MixInFwdIdeal.main_arg2)
      ∧ m' ((c.tc : Thread Cert.MixInFwdRefIdeal.nD Cert.MixInFwdRefIdeal.τ).loc Cert.MixInFwdRefIdeal.main_arg3) = m ((c.tc : Thread Cert.MixInFwdIdeal.nD Cert.MixInFwdIdeal.τ).loc Cert.MixInFwdIdeal.main_arg3)
      ∧ m' ((c.tc : Thread Cert.MixInFwdRefIdeal.nD Cert.MixInFwdRefIdeal.τ).loc Cert.MixInFwdRefIdeal.main_arg4) = m ((c.tc : Thread Cert.MixInFwdIdeal.nD Cert.MixInFwdIdeal.τ).loc Cert.MixInFwdIdeal.main_arg4)) →
    ∃ (v0 : (c : Dev Cert.MixInFwdIdeal.nD) → Buf (Elt Ideal) ((c.tc : Thread Cert.MixInFwdIdeal.nD Cert.MixInFwdIdeal.τ).loc Cert.MixInFwdIdeal.main_v4_0)) (v1 : (c : Dev Cert.MixInFwdIdeal.nD) → Buf (Elt Ideal) ((c.tc : Thread Cert.MixInFwdIdeal.nD Cert.MixInFwdIdeal.τ).loc Cert.MixInFwdIdeal.main_v4_1)),
      θ_run (Cert.MixInFwdIdeal.defs (F := Ideal)) (onTc (τ := Cert.MixInFwdIdeal.τ) (Cert.MixInFwdIdeal.main (F := Ideal))) ⟨m, fun _ => 0, g⟩ (fun r => ∀ c : Dev Cert.MixInFwdIdeal.nD,
          r.2.mem ((c.tc : Thread Cert.MixInFwdIdeal.nD Cert.MixInFwdIdeal.τ).loc Cert.MixInFwdIdeal.main_v4_0) = v0 c
          ∧ r.2.mem ((c.tc : Thread Cert.MixInFwdIdeal.nD Cert.MixInFwdIdeal.τ).loc Cert.MixInFwdIdeal.main_v4_1) = v1 c
          ∧ r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
          ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
          ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2)
          ∧ r.2.mem ((c.tc : Thread Cert.MixInFwdIdeal.nD Cert.MixInFwdIdeal.τ).loc Cert.MixInFwdIdeal.main_arg3) = m ((c.tc : Thread Cert.MixInFwdIdeal.nD Cert.MixInFwdIdeal.τ).loc Cert.MixInFwdIdeal.main_arg3)
          ∧ r.2.mem ((c.tc : Thread Cert.MixInFwdIdeal.nD Cert.MixInFwdIdeal.τ).loc Cert.MixInFwdIdeal.main_arg4) = m ((c.tc : Thread Cert.MixInFwdIdeal.nD Cert.MixInFwdIdeal.τ).loc Cert.MixInFwdIdeal.main_arg4))
      ∧ θ_run (Cert.MixInFwdRefIdeal.defs (F := Ideal)) (onTc (τ := Cert.MixInFwdRefIdeal.τ) (Cert.MixInFwdRefIdeal.main (F := Ideal))) ⟨m', fun _ => 0, g'⟩ (fun r => ∀ c : Dev Cert.MixInFwdRefIdeal.nD,
          r.2.mem ((c.tc : Thread Cert.MixInFwdRefIdeal.nD Cert.MixInFwdRefIdeal.τ).loc Cert.MixInFwdRefIdeal.main_v28) = v0 c
          ∧ r.2.mem ((c.tc : Thread Cert.MixInFwdRefIdeal.nD Cert.MixInFwdRefIdeal.τ).loc Cert.MixInFwdRefIdeal.main_v25) = v1 c
          ∧ r.2.mem ((c.tc : Thread Cert.MixInFwdRefIdeal.nD Cert.MixInFwdRefIdeal.τ).loc Cert.MixInFwdRefIdeal.main_arg0) = m' ((c.tc : Thread Cert.MixInFwdRefIdeal.nD Cert.MixInFwdRefIdeal.τ).loc Cert.MixInFwdRefIdeal.main_arg0)
          ∧ r.2.mem ((c.tc : Thread Cert.MixInFwdRefIdeal.nD Cert.MixInFwdRefIdeal.τ).loc Cert.MixInFwdRefIdeal.main_arg1) = m' ((c.tc : Thread Cert.MixInFwdRefIdeal.nD Cert.MixInFwdRefIdeal.τ).loc Cert.MixInFwdRefIdeal.main_arg1)
          ∧ r.2.mem ((c.tc : Thread Cert.MixInFwdRefIdeal.nD Cert.MixInFwdRefIdeal.τ).loc Cert.MixInFwdRefIdeal.main_arg2) = m' ((c.tc : Thread Cert.MixInFwdRefIdeal.nD Cert.MixInFwdRefIdeal.τ).loc Cert.MixInFwdRefIdeal.main_arg2)
          ∧ r.2.mem ((c.tc : Thread Cert.MixInFwdRefIdeal.nD Cert.MixInFwdRefIdeal.τ).loc Cert.MixInFwdRefIdeal.main_arg3) = m' ((c.tc : Thread Cert.MixInFwdRefIdeal.nD Cert.MixInFwdRefIdeal.τ).loc Cert.MixInFwdRefIdeal.main_arg3)
          ∧ r.2.mem ((c.tc : Thread Cert.MixInFwdRefIdeal.nD Cert.MixInFwdRefIdeal.τ).loc Cert.MixInFwdRefIdeal.main_arg4) = m' ((c.tc : Thread Cert.MixInFwdRefIdeal.nD Cert.MixInFwdRefIdeal.τ).loc Cert.MixInFwdRefIdeal.main_arg4))

def Claim : Prop :=
  ∃ (hMixIn : Cert.MixIn.Facts) (hMixInIdeal : Cert.MixInIdeal.Facts) (hMixInRefIdeal : Cert.MixInRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hMixOut : Cert.MixOut.Facts) (hMixOutIdeal : Cert.MixOutIdeal.Facts) (hMixOutRefIdeal : Cert.MixOutRefIdeal.Facts) (hSsmParamBwd : Cert.SsmParamBwd.Facts) (hSsmParamBwdIdeal : Cert.SsmParamBwdIdeal.Facts) (hSsmParamBwdRefIdeal : Cert.SsmParamBwdRefIdeal.Facts) (hSsmFwd : Cert.SsmFwd.Facts) (hSsmFwdIdeal : Cert.SsmFwdIdeal.Facts) (hSsmFwdRefIdeal : Cert.SsmFwdRefIdeal.Facts) (hSsmPrep : Cert.SsmPrep.Facts) (hSsmPrepIdeal : Cert.SsmPrepIdeal.Facts) (hSsmPrepRefIdeal : Cert.SsmPrepRefIdeal.Facts) (hMixInFwd : Cert.MixInFwd.Facts) (hMixInFwdIdeal : Cert.MixInFwdIdeal.Facts) (hMixInFwdRefIdeal : Cert.MixInFwdRefIdeal.Facts) (hPre_mixer_in_bwd_finite : Cert.Pre_mixer_in_bwd_finite.Facts) (hPre_ffn_bwd_finite : Cert.Pre_ffn_bwd_finite.Facts) (hPre_ffn_fwd_finite : Cert.Pre_ffn_fwd_finite.Facts) (hPre_mixer_out_bwd_finite : Cert.Pre_mixer_out_bwd_finite.Facts) (hPre_ssm_param_bwd_finite : Cert.Pre_ssm_param_bwd_finite.Facts) (hPre_ssm_fwd_finite : Cert.Pre_ssm_fwd_finite.Facts),
    quiescent_MixIn (hMixIn := hMixIn)
    ∧ quiescent_MixInIdeal (hMixInIdeal := hMixInIdeal)
    ∧ quiescent_MixInIdeal_pre_mixer_in_bwd_finite (hMixInIdeal := hMixInIdeal) (hPre_mixer_in_bwd_finite := hPre_mixer_in_bwd_finite)
    ∧ quiescent_MixInRefIdeal (hMixInRefIdeal := hMixInRefIdeal)
    ∧ quiescent_MixInRefIdeal_pre_mixer_in_bwd_finite (hMixInRefIdeal := hMixInRefIdeal) (hPre_mixer_in_bwd_finite := hPre_mixer_in_bwd_finite)
    ∧ quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdRefIdeal (hFfnBwdRefIdeal := hFfnBwdRefIdeal)
    ∧ quiescent_FfnBwdRefIdeal_pre_ffn_bwd_finite (hFfnBwdRefIdeal := hFfnBwdRefIdeal) (hPre_ffn_bwd_finite := hPre_ffn_bwd_finite)
    ∧ quiescent_FfnFwd (hFfnFwd := hFfnFwd)
    ∧ quiescent_FfnFwdIdeal (hFfnFwdIdeal := hFfnFwdIdeal)
    ∧ quiescent_FfnFwdIdeal_pre_ffn_fwd_finite (hFfnFwdIdeal := hFfnFwdIdeal) (hPre_ffn_fwd_finite := hPre_ffn_fwd_finite)
    ∧ quiescent_FfnFwdRefIdeal (hFfnFwdRefIdeal := hFfnFwdRefIdeal)
    ∧ quiescent_FfnFwdRefIdeal_pre_ffn_fwd_finite (hFfnFwdRefIdeal := hFfnFwdRefIdeal) (hPre_ffn_fwd_finite := hPre_ffn_fwd_finite)
    ∧ quiescent_MixOut (hMixOut := hMixOut)
    ∧ quiescent_MixOutIdeal (hMixOutIdeal := hMixOutIdeal)
    ∧ quiescent_MixOutIdeal_pre_mixer_out_bwd_finite (hMixOutIdeal := hMixOutIdeal) (hPre_mixer_out_bwd_finite := hPre_mixer_out_bwd_finite)
    ∧ quiescent_MixOutRefIdeal (hMixOutRefIdeal := hMixOutRefIdeal)
    ∧ quiescent_MixOutRefIdeal_pre_mixer_out_bwd_finite (hMixOutRefIdeal := hMixOutRefIdeal) (hPre_mixer_out_bwd_finite := hPre_mixer_out_bwd_finite)
    ∧ quiescent_SsmParamBwd (hSsmParamBwd := hSsmParamBwd)
    ∧ quiescent_SsmParamBwdIdeal (hSsmParamBwdIdeal := hSsmParamBwdIdeal)
    ∧ quiescent_SsmParamBwdIdeal_pre_ssm_param_bwd_finite (hSsmParamBwdIdeal := hSsmParamBwdIdeal) (hPre_ssm_param_bwd_finite := hPre_ssm_param_bwd_finite)
    ∧ quiescent_SsmParamBwdRefIdeal (hSsmParamBwdRefIdeal := hSsmParamBwdRefIdeal)
    ∧ quiescent_SsmParamBwdRefIdeal_pre_ssm_param_bwd_finite (hSsmParamBwdRefIdeal := hSsmParamBwdRefIdeal) (hPre_ssm_param_bwd_finite := hPre_ssm_param_bwd_finite)
    ∧ quiescent_SsmFwd (hSsmFwd := hSsmFwd)
    ∧ quiescent_SsmFwdIdeal (hSsmFwdIdeal := hSsmFwdIdeal)
    ∧ quiescent_SsmFwdIdeal_pre_ssm_fwd_finite (hSsmFwdIdeal := hSsmFwdIdeal) (hPre_ssm_fwd_finite := hPre_ssm_fwd_finite)
    ∧ quiescent_SsmFwdRefIdeal (hSsmFwdRefIdeal := hSsmFwdRefIdeal)
    ∧ quiescent_SsmFwdRefIdeal_pre_ssm_fwd_finite (hSsmFwdRefIdeal := hSsmFwdRefIdeal) (hPre_ssm_fwd_finite := hPre_ssm_fwd_finite)
    ∧ quiescent_SsmPrep (hSsmPrep := hSsmPrep)
    ∧ quiescent_SsmPrepIdeal (hSsmPrepIdeal := hSsmPrepIdeal)
    ∧ quiescent_SsmPrepRefIdeal (hSsmPrepRefIdeal := hSsmPrepRefIdeal)
    ∧ quiescent_MixInFwd (hMixInFwd := hMixInFwd)
    ∧ quiescent_MixInFwdIdeal (hMixInFwdIdeal := hMixInFwdIdeal)
    ∧ quiescent_MixInFwdRefIdeal (hMixInFwdRefIdeal := hMixInFwdRefIdeal)
    ∧ preserves_MixIn_MixInIdeal
    ∧ algebraic_MixInIdeal_MixInRefIdeal_pre_mixer_in_bwd_finite (hMixInIdeal := hMixInIdeal) (hMixInRefIdeal := hMixInRefIdeal) (hPre_mixer_in_bwd_finite := hPre_mixer_in_bwd_finite)
    ∧ preserves_FfnBwd_FfnBwdIdeal
    ∧ algebraic_FfnBwdIdeal_FfnBwdRefIdeal_pre_ffn_bwd_finite (hFfnBwdIdeal := hFfnBwdIdeal) (hFfnBwdRefIdeal := hFfnBwdRefIdeal) (hPre_ffn_bwd_finite := hPre_ffn_bwd_finite)
    ∧ preserves_FfnFwd_FfnFwdIdeal
    ∧ algebraic_FfnFwdIdeal_FfnFwdRefIdeal_pre_ffn_fwd_finite (hFfnFwdIdeal := hFfnFwdIdeal) (hFfnFwdRefIdeal := hFfnFwdRefIdeal) (hPre_ffn_fwd_finite := hPre_ffn_fwd_finite)
    ∧ preserves_MixOut_MixOutIdeal
    ∧ algebraic_MixOutIdeal_MixOutRefIdeal_pre_mixer_out_bwd_finite (hMixOutIdeal := hMixOutIdeal) (hMixOutRefIdeal := hMixOutRefIdeal) (hPre_mixer_out_bwd_finite := hPre_mixer_out_bwd_finite)
    ∧ preserves_SsmParamBwd_SsmParamBwdIdeal
    ∧ algebraic_SsmParamBwdIdeal_SsmParamBwdRefIdeal_pre_ssm_param_bwd_finite (hSsmParamBwdIdeal := hSsmParamBwdIdeal) (hSsmParamBwdRefIdeal := hSsmParamBwdRefIdeal) (hPre_ssm_param_bwd_finite := hPre_ssm_param_bwd_finite)
    ∧ preserves_SsmFwd_SsmFwdIdeal
    ∧ algebraic_SsmFwdIdeal_SsmFwdRefIdeal_pre_ssm_fwd_finite (hSsmFwdIdeal := hSsmFwdIdeal) (hSsmFwdRefIdeal := hSsmFwdRefIdeal) (hPre_ssm_fwd_finite := hPre_ssm_fwd_finite)
    ∧ preserves_SsmPrep_SsmPrepIdeal
    ∧ algebraic_SsmPrepIdeal_SsmPrepRefIdeal (hSsmPrepIdeal := hSsmPrepIdeal) (hSsmPrepRefIdeal := hSsmPrepRefIdeal)
    ∧ preserves_MixInFwd_MixInFwdIdeal
    ∧ algebraic_MixInFwdIdeal_MixInFwdRefIdeal (hMixInFwdIdeal := hMixInFwdIdeal) (hMixInFwdRefIdeal := hMixInFwdRefIdeal)
-- ==== Pre_ffn_bwd_finite.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x2816 : S_.BroadcastsInDim S1x3x2816 (![] : Fin 0 → Fin S1x3x2816.rank)
  reducesTo_S1x3x2816_S_d0_1_2 : S1x3x2816.ReducesTo [0, 1, 2] S_
  bcast_S_S1x2816 : S_.BroadcastsInDim S1x2816 (![] : Fin 0 → Fin S1x2816.rank)
  reducesTo_S1x2816_S_d0_1 : S1x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_arg9 : FVec F S4x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4x2048x1024 .f32 := Host.absf main_arg9
  let main_cst_14 : FVec F S_ .f32 := constant S_ .f32 0x7F800000#32
  let main_v33 : FVec F S4x2048x1024 .f32 := broadcastInDim S4x2048x1024 ![] bcast_S_S4x2048x1024 main_cst_14
  let main_v34 : IVec S4x2048x1024 1 := cmpf .olt main_v32 main_v33
  let main_c_15 : IVec S_ 1 := constantI S_ 1 1#1
  let main_v35 : IVec S_ 1 := (fun x v => Host.reduce IntOp.andi x v reducesTo_S4x2048x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024x5632 .f32) (main_arg5 : FVec F S1x3x2816 .f32) (main_arg6 : FVec F S1x2816 .f32) (main_arg7 : FVec F S1x2816x1024 .f32) (main_arg9 : FVec F S4x2048x1024 .f32) (main_v3 : IVec S_ 1) (main_v7 : IVec S_ 1) (main_v11 : IVec S_ 1) (main_v15 : IVec S_ 1) : IVec S_ 1 :=
  let main_v16 : FVec F S1x1024x5632 .f32 := Host.absf main_arg4
  let main_cst_6 : FVec F S_ .f32 := constant S_ .f32 0x7F800000#32
  let main_v17 : FVec F S1x1024x5632 .f32 := broadcastInDim S1x1024x5632 ![] bcast_S_S1x1024x5632 main_cst_6
  let main_v18 : IVec S1x1024x5632 1 := cmpf .olt main_v16 main_v17
  let main_c_7 : IVec S_ 1 := constantI S_ 1 1#1
  let main_v19 : IVec S_ 1 := (fun x v => Host.reduce IntOp.andi x v reducesTo_S1x1024x5632_S_d0_1_2 h_S_) main_v18 main_c_7
  let main_v20 : FVec F S1x3x2816 .f32 := Host.absf main_arg5
  let main_cst_8 : FVec F S_ .f32 := constant S_ .f32 0x7F800000#32
  let main_v21 : FVec F S1x3x2816 .f32 := broadcastInDim S1x3x2816 ![] bcast_S_S1x3x2816 main_cst_8
  let main_v22 : IVec S1x3x2816 1 := cmpf .olt main_v20 main_v21
  let main_c_9 : IVec S_ 1 := constantI S_ 1 1#1
  let main_v23 : IVec S_ 1 := (fun x v => Host.reduce IntOp.andi x v reducesTo_S1x3x2816_S_d0_1_2 h_S_) main_v22 main_c_9
  let main_v24 : FVec F S1x2816 .f32 := Host.absf main_arg6
  let main_cst_10 : FVec F S_ .f32 := constant S_ .f32 0x7F800000#32
  let main_v25 : FVec F S1x2816 .f32 := broadcastInDim S1x2816 ![] bcast_S_S1x2816 main_cst_10
  let main_v26 : IVec S1x2816 1 := cmpf .olt main_v24 main_v25
  let main_c_11 : IVec S_ 1 := constantI S_ 1 1#1
  let main_v27 : IVec S_ 1 := (fun x v => Host.reduce IntOp.andi x v reducesTo_S1x2816_S_d0_1 h_S_) main_v26 main_c_11
  let main_v28 : FVec F S1x2816x1024 .f32 := Host.absf main_arg7
  let main_cst_12 : FVec F S_ .f32 := constant S_ .f32 0x7F800000#32
  let main_v29 : FVec F S1x2816x1024 .f32 := broadcastInDim S1x2816x1024 ![] bcast_S_S1x2816x1024 main_cst_12
  let main_v30 : IVec S1x2816x1024 1 := cmpf .olt main_v28 main_v29
  let main_c_13 : IVec S_ 1 := constantI S_ 1 1#1
  let main_v31 : IVec S_ 1 := (fun x v => Host.reduce IntOp.andi x v reducesTo_S1x2816x1024_S_d0_1_2 h_S_) main_v30 main_c_13
  fn_part2 (F := F) main_arg9 main_v3 main_v7 main_v11 main_v15 main_v19 main_v23 main_v27 main_v31

def fn {F : FTy → Type} [FloatOps F] (main_arg0 : FVec F S4x2048x1024 .f32) (main_arg1 : FVec F S4x1024 .f32) (main_arg2 : FVec F S4x1024 .f32) (main_arg3 : FVec F S1x1024 .f32) (main_arg4 : FVec F S1x1024x5632 .f32) (main_arg5 : FVec F S1x3x2816 .f32) (main_arg6 : FVec F S1x2816 .f32) (main_arg7 : FVec F S1x2816x1024 .f32) (main_arg8 : FVec F S4x2048x1024 .f32) (main_arg9 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg9 main_v3 main_v7 main_v11 main_v15
-- ==== Pre_ffn_fwd_finite.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x2816 : S_.BroadcastsInDim S1x3x2816 (![] : Fin 0 → Fin S1x3x2816.rank)
  reducesTo_S1x3x2816_S_d0_1_2 : S1x3x2816.ReducesTo [0, 1, 2] S_
  bcast_S_S1x2816 : S_.BroadcastsInDim S1x2816 (![] : Fin 0 → Fin S1x2816.rank)
  reducesTo_S1x2816_S_d0_1 : S1x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x2816 .f32) (main_arg9 : FVec F S1x2816x1024 .f32) (main_arg10 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x2816 .f32 := Host.absf main_arg8
  let main_cst_14 : FVec F S_ .f32 := constant S_ .f32 0x7F800000#32
  let main_v33 : FVec F S1x2816 .f32 := broadcastInDim S1x2816 ![] bcast_S_S1x2816 main_cst_14
  let main_v34 : IVec S1x2816 1 := cmpf .olt main_v32 main_v33
  let main_c_15 : IVec S_ 1 := constantI S_ 1 1#1
  let main_v35 : IVec S_ 1 := (fun x v => Host.reduce IntOp.andi x v reducesTo_S1x2816_S_d0_1 h_S_) main_v34 main_c_15
  let main_v36 : FVec F S1x2816x1024 .f32 := Host.absf main_arg9
  let main_cst_16 : FVec F S_ .f32 := constant S_ .f32 0x7F800000#32
  let main_v37 : FVec F S1x2816x1024 .f32 := broadcastInDim S1x2816x1024 ![] bcast_S_S1x2816x1024 main_cst_16
  let main_v38 : IVec S1x2816x1024 1 := cmpf .olt main_v36 main_v37
  let main_c_17 : IVec S_ 1 := constantI S_ 1 1#1
  let main_v39 : IVec S_ 1 := (fun x v => Host.reduce IntOp.andi x v reducesTo_S1x2816x1024_S_d0_1_2 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S4x1024 .f32) (main_arg5 : FVec F S1x1024 .f32) (main_arg6 : FVec F S1x1024x5632 .f32) (main_arg7 : FVec F S1x3x2816 .f32) (main_arg8 : FVec F S1x2816 .f32) (main_arg9 : FVec F S1x2816x1024 .f32) (main_arg10 : FVec F S1024 .f32) (main_v3 : IVec S_ 1) (main_v7 : IVec S_ 1) (main_v11 : IVec S_ 1) (main_v15 : IVec S_ 1) : IVec S_ 1 :=
  let main_v16 : FVec F S4x1024 .f32 := Host.absf main_arg4
  let main_cst_6 : FVec F S_ .f32 := constant S_ .f32 0x7F800000#32
  let main_v17 : FVec F S4x1024 .f32 := broadcastInDim S4x1024 ![] bcast_S_S4x1024 main_cst_6
  let main_v18 : IVec S4x1024 1 := cmpf .olt main_v16 main_v17
  let main_c_7 : IVec S_ 1 := constantI S_ 1 1#1
  let main_v19 : IVec S_ 1 := (fun x v => Host.reduce IntOp.andi x v reducesTo_S4x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024x5632 .f32 := Host.absf main_arg6
  let main_cst_10 : FVec F S_ .f32 := constant S_ .f32 0x7F800000#32
  let main_v25 : FVec F S1x1024x5632 .f32 := broadcastInDim S1x1024x5632 ![] bcast_S_S1x1024x5632 main_cst_10
  let main_v26 : IVec S1x1024x5632 1 := cmpf .olt main_v24 main_v25
  let main_c_11 : IVec S_ 1 := constantI S_ 1 1#1
  let main_v27 : IVec S_ 1 := (fun x v => Host.reduce IntOp.andi x v reducesTo_S1x1024x5632_S_d0_1_2 h_S_) main_v26 main_c_11
  let main_v28 : FVec F S1x3x2816 .f32 := Host.absf main_arg7
  let main_cst_12 : FVec F S_ .f32 := constant S_ .f32 0x7F800000#32
  let main_v29 : FVec F S1x3x2816 .f32 := broadcastInDim S1x3x2816 ![] bcast_S_S1x3x2816 main_cst_12
  let main_v30 : IVec S1x3x2816 1 := cmpf .olt main_v28 main_v29
  let main_c_13 : IVec S_ 1 := constantI S_ 1 1#1
  let main_v31 : IVec S_ 1 := (fun x v => Host.reduce IntOp.andi x v reducesTo_S1x3x2816_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S4x2048x1024 .f32) (main_arg1 : FVec F S4x2048x1024 .f32) (main_arg2 : FVec F S4x1024 .f32) (main_arg3 : FVec F S4x1024 .f32) (main_arg4 : FVec F S4x1024 .f32) (main_arg5 : FVec F S1x1024 .f32) (main_arg6 : FVec F S1x1024x5632 .f32) (main_arg7 : FVec F S1x3x2816 .f32) (main_arg8 : FVec F S1x2816 .f32) (main_arg9 : FVec F S1x2816x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S4x1024 .f32 := Host.absf main_arg3
  let main_cst_4 : FVec F S_ .f32 := constant S_ .f32 0x7F800000#32
  let main_v13 : FVec F S4x1024 .f32 := broadcastInDim S4x1024 ![] bcast_S_S4x1024 main_cst_4
  let main_v14 : IVec S4x1024 1 := cmpf .olt main_v12 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_arg4 main_arg5 main_arg6 main_arg7 main_arg8 main_arg9 main_arg10 main_v3 main_v7 main_v11 main_v15
-- ==== Pre_mixer_in_bwd_finite.lean ====
abbrev S4x2048x1024 : Shape := ⟨3, ![4, 2048, 1024]⟩
abbrev S4x1024 : Shape := ⟨2, ![4, 1024]⟩
abbrev S1x1024 : Shape := ⟨2, ![1, 1024]⟩
abbrev S1x1024x1024 : Shape := ⟨3, ![1, 1024, 1024]⟩
abbrev S4x2048x512 : Shape := ⟨3, ![4, 2048, 512]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_arg6 : FVec F S4x2048x512 .f32) (main_arg7 : FVec F S4x2048x512 .f32) (main_v3 : IVec S_ 1) (main_v7 : IVec S_ 1) (main_v11 : IVec S_ 1) (main_v15 : IVec S_ 1) : IVec S_ 1 :=
  let main_v16 : FVec F S4x2048x512 .f32 := Host.absf main_arg6
  let main_cst_6 : FVec F S_ .f32 := constant S_ .f32 0x7F800000#32
  let main_v17 : FVec F S4x2048x512 .f32 := broadcastInDim S4x2048x512 ![] bcast_S_S4x2048x512 main_cst_6
  let main_v18 : IVec S4x2048x512 1 := cmpf .olt main_v16 main_v17
  let main_c_7 : IVec S_ 1 := constantI S_ 1 1#1
  let main_v19 : IVec S_ 1 := (fun x v => Host.reduce IntOp.andi x v reducesTo_S4x2048x512_S_d0_1_2 h_S_) main_v18 main_c_7
  let main_v20 : FVec F S4x2048x512 .f32 := Host.absf main_arg7
  let main_cst_8 : FVec F S_ .f32 := constant S_ .f32 0x7F800000#32
  let main_v21 : FVec F S4x2048x512 .f32 := broadcastInDim S4x2048x512 ![] bcast_S_S4x2048x512 main_cst_8
  let main_v22 : IVec S4x2048x512 1 := cmpf .olt main_v20 main_v21
  let main_c_9 : IVec S_ 1 := constantI S_ 1 1#1
  let main_v23 : IVec S_ 1 := (fun x v => Host.reduce IntOp.andi x v reducesTo_S4x2048x512_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x1024 .f32) (main_arg1 : FVec F S4x1024 .f32) (main_arg2 : FVec F S4x1024 .f32) (main_arg3 : FVec F S1x1024 .f32) (main_arg4 : FVec F S1x1024x1024 .f32) (main_arg5 : FVec F S4x2048x1024 .f32) (main_arg6 : FVec F S4x2048x512 .f32) (main_arg7 : FVec F S4x2048x512 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1024 .f32 := Host.absf main_arg2
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : FVec F S1x1024 .f32 := Host.absf main_arg3
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024x1024 .f32 := Host.absf main_arg4
  let main_cst_4 : FVec F S_ .f32 := constant S_ .f32 0x7F800000#32
  let main_v13 : FVec F S1x1024x1024 .f32 := broadcastInDim S1x1024x1024 ![] bcast_S_S1x1024x1024 main_cst_4
  let main_v14 : IVec S1x1024x1024 1 := cmpf .olt main_v12 main_v13
  let main_c_5 : IVec S_ 1 := constantI S_ 1 1#1
  let main_v15 : IVec S_ 1 := (fun x v => Host.reduce IntOp.andi x v reducesTo_S1x1024x1024_S_d0_1_2 h_S_) main_v14 main_c_5
  fn_part1 (F := F) main_arg6 main_arg7 main_v3 main_v7 main_v11 main_v15
-- ==== Pre_mixer_out_bwd_finite.lean ====
abbrev S4x2048x512 : Shape := ⟨3, ![4, 2048, 512]⟩
abbrev S4x1024 : Shape := ⟨2, ![4, 1024]⟩
abbrev S1x512x1024 : Shape := ⟨3, ![1, 512, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part2 {F : FTy → Type} [FloatOps F] (main_arg9 : FVec F S4x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4x2048x1024 .f32 := Host.absf main_arg9
  let main_cst_14 : FVec F S_ .f32 := constant S_ .f32 0x7F800000#32
  let main_v33 : FVec F S4x2048x1024 .f32 := broadcastInDim S4x2048x1024 ![] bcast_S_S4x2048x1024 main_cst_14
  let main_v34 : IVec S4x2048x1024 1 := cmpf .olt main_v32 main_v33
  let main_c_15 : IVec S_ 1 := constantI S_ 1 1#1
  let main_v35 : IVec S_ 1 := (fun x v => Host.reduce IntOp.andi x v reducesTo_S4x2048x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x4x128x128 .f32) (main_arg7 : FVec F S1x512 .f32) (main_arg8 : FVec F S1x1024x1024 .f32) (main_arg9 : FVec F S4x2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x4x128x128 .f32 := Host.absf main_arg5
  let main_cst_8 : FVec F S_ .f32 := constant S_ .f32 0x7F800000#32
  let main_v21 : FVec F S1x4x128x128 .f32 := broadcastInDim S1x4x128x128 ![] bcast_S_S1x4x128x128 main_cst_8
  let main_v22 : IVec S1x4x128x128 1 := cmpf .olt main_v20 main_v21
  let main_c_9 : IVec S_ 1 := constantI S_ 1 1#1
  let main_v23 : IVec S_ 1 := (fun x v => Host.reduce IntOp.andi x v reducesTo_S1x4x128x128_S_d0_1_2_3 h_S_) main_v22 main_c_9
  let main_v24 : FVec F S1x512 .f32 := Host.absf main_arg7
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : FVec F S1x1024x1024 .f32 := Host.absf main_arg8
  let main_cst_12 : FVec F S_ .f32 := constant S_ .f32 0x7F800000#32
  let main_v29 : FVec F S1x1024x1024 .f32 := broadcastInDim S1x1024x1024 ![] bcast_S_S1x1024x1024 main_cst_12
  let main_v30 : IVec S1x1024x1024 1 := cmpf .olt main_v28 main_v29
  let main_c_13 : IVec S_ 1 := constantI S_ 1 1#1
  let main_v31 : IVec S_ 1 := (fun x v => Host.reduce IntOp.andi x v reducesTo_S1x1024x1024_S_d0_1_2 h_S_) main_v30 main_c_13
  fn_part2 (F := F) main_arg9 main_v3 main_v7 main_v11 main_v15 main_v19 main_v23 main_v27 main_v31

def fn {F : FTy → Type} [FloatOps F] (main_arg0 : FVec F S4x2048x512 .f32) (main_arg1 : FVec F S4x2048x512 .f32) (main_arg2 : FVec F S4x1024 .f32) (main_arg3 : FVec F S1x512x1024 .f32) (main_arg4 : FVec F S1x1024 .f32) (main_arg5 : FVec F S1x4x128x128 .f32) (main_arg6 : FVec F S1x4x128 .f32) (main_arg7 : FVec F S1x512 .f32) (main_arg8 : FVec F S1x1024x1024 .f32) (main_arg9 : FVec F S4x2048x1024 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S1x512x1024 .f32 := Host.absf main_arg3
  let main_cst_4 : FVec F S_ .f32 := constant S_ .f32 0x7F800000#32
  let main_v13 : FVec F S1x512x1024 .f32 := broadcastInDim S1x512x1024 ![] bcast_S_S1x512x1024 main_cst_4
  let main_v14 : IVec S1x512x1024 1 := cmpf .olt main_v12 main_v13
  let main_c_5 : IVec S_ 1 := constantI S_ 1 1#1
  let main_v15 : IVec S_ 1 := (fun x v => Host.reduce IntOp.andi x v reducesTo_S1x512x1024_S_d0_1_2 h_S_) main_v14 main_c_5
  fn_part1 (F := F) main_arg4 main_arg5 main_arg7 main_arg8 main_arg9 main_v3 main_v7 main_v11 main_v15
-- ==== Pre_ssm_fwd_finite.lean ====
abbrev S4x2048x512 : Shape := ⟨3, ![4, 2048, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part1 {F : FTy → Type} [FloatOps F] (main_arg4 : FVec F S32x64x16 .f32) (main_arg6 : FVec F S32x16x64 .f32) (main_v3 : IVec S_ 1) (main_v7 : IVec S_ 1) (main_v11 : IVec S_ 1) (main_v15 : IVec S_ 1) : IVec S_ 1 :=
  let main_v16 : FVec F S32x64x16 .f32 := Host.absf main_arg4
  let main_cst_6 : FVec F S_ .f32 := constant S_ .f32 0x7F800000#32
  let main_v17 : FVec F S32x64x16 .f32 := broadcastInDim S32x64x16 ![] bcast_S_S32x64x16 main_cst_6
  let main_v18 : IVec S32x64x16 1 := cmpf .olt main_v16 main_v17
  let main_c_7 : IVec S_ 1 := constantI S_ 1 1#1
  let main_v19 : IVec S_ 1 := (fun x v => Host.reduce IntOp.andi x v reducesTo_S32x64x16_S_d0_1_2 h_S_) main_v18 main_c_7
  let main_v20 : FVec F S32x16x64 .f32 := Host.absf main_arg6
  let main_cst_8 : FVec F S_ .f32 := constant S_ .f32 0x7F800000#32
  let main_v21 : FVec F S32x16x64 .f32 := broadcastInDim S32x16x64 ![] bcast_S_S32x16x64 main_cst_8
  let main_v22 : IVec S32x16x64 1 := cmpf .olt main_v20 main_v21
  let main_c_9 : IVec S_ 1 := constantI S_ 1 1#1
  let main_v23 : IVec S_ 1 := (fun x v => Host.reduce IntOp.andi x v reducesTo_S32x16x64_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x512 .f32) (main_arg1 : FVec F S32x64 .f32) (main_arg2 : FVec F S32x64 .f32) (main_arg3 : FVec F S32x64x16 .f32) (main_arg4 : FVec F S32x64x16 .f32) (main_arg5 : FVec F S32x16x64 .f32) (main_arg6 : FVec F S32x16x64 .f32) (main_arg7 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : FVec F S32x64 .f32 := Host.absf main_arg2
  let main_cst_2 : FVec F S_ .f32 := constant S_ .f32 0x7F800000#32
  let main_v9 : FVec F S32x64 .f32 := broadcastInDim S32x64 ![] bcast_S_S32x64 main_cst_2
  let main_v10 : IVec S32x64 1 := cmpf .olt main_v8 main_v9
  let main_c_3 : IVec S_ 1 := constantI S_ 1 1#1
  let main_v11 : IVec S_ 1 := (fun x v => Host.reduce IntOp.andi x v reducesTo_S32x64_S_d0_1 h_S_) main_v10 main_c_3
  let main_v12 : FVec F S32x64x16 .f32 := Host.absf main_arg3
  let main_cst_4 : FVec F S_ .f32 := constant S_ .f32 0x7F800000#32
  let main_v13 : FVec F S32x64x16 .f32 := broadcastInDim S32x64x16 ![] bcast_S_S32x64x16 main_cst_4
  let main_v14 : IVec S32x64x16 1 := cmpf .olt main_v12 main_v13
  let main_c_5 : IVec S_ 1 := constantI S_ 1 1#1
  let main_v15 : IVec S_ 1 := (fun x v => Host.reduce IntOp.andi x v reducesTo_S32x64x16_S_d0_1_2 h_S_) main_v14 main_c_5
  fn_part1 (F := F) main_arg4 main_arg6 main_v3 main_v7 main_v11 main_v15
-- ==== Pre_ssm_param_bwd_finite.lean ====
abbrev S1x32x64 : Shape := ⟨3, ![1, 32, 64]⟩
abbrev S1x32 : Shape := ⟨2, ![1, 32]⟩
abbrev S1x32x64x16 : Shape := ⟨4, ![1, 32, 64, 16]⟩
abbrev S4x32x64 : Shape := ⟨3, ![4, 32, 64]⟩
abbrev S32x64x16 : Shape := ⟨3, ![32, 64, 16]⟩
abbrev S4x512 : Shape := ⟨2, ![4, 512]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_
  bcast_S_S4x32x64 : S_.BroadcastsInDim S4x32x64 (![] : Fin 0 → Fin S4x32x64.rank)
  reducesTo_S4x32x64_S_d0_1_2 : S4x32x64.ReducesTo [0, 1, 2] S_
  bcast_S_S32x64x16 : S_.BroadcastsInDim S32x64x16 (![] : Fin 0 → Fin S32x64x16.rank)
  reducesTo_S32x64x16_S_d0_1_2 : S32x64x16.ReducesTo [0, 1, 2] S_

variable [Facts]

def fn_part2 {F : FTy → Type} [FloatOps F] (main_arg8 : FVec F S32x64x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S32x64x16 .f32 := Host.absf main_arg8
  let main_cst_14 : FVec F S_ .f32 := constant S_ .f32 0x7F800000#32
  let main_v33 : FVec F S32x64x16 .f32 := broadcastInDim S32x64x16 ![] bcast_S_S32x64x16 main_cst_14
  let main_v34 : IVec S32x64x16 1 := cmpf .olt main_v32 main_v33
  let main_c_15 : IVec S_ 1 := constantI S_ 1 1#1
  let main_v35 : IVec S_ 1 := (fun x v => Host.reduce IntOp.andi x v reducesTo_S32x64x16_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x32x64x16 .f32) (main_arg5 : FVec F S4x32x64 .f32) (main_arg6 : FVec F S4x32x64 .f32) (main_arg7 : FVec F S32x64x16 .f32) (main_arg8 : FVec F S32x64x16 .f32) (main_v3 : IVec S_ 1) (main_v7 : IVec S_ 1) (main_v11 : IVec S_ 1) (main_v15 : IVec S_ 1) : IVec S_ 1 :=
  let main_v16 : FVec F S1x32x64x16 .f32 := Host.absf main_arg4
  let main_cst_6 : FVec F S_ .f32 := constant S_ .f32 0x7F800000#32
  let main_v17 : FVec F S1x32x64x16 .f32 := broadcastInDim S1x32x64x16 ![] bcast_S_S1x32x64x16 main_cst_6
  let main_v18 : IVec S1x32x64x16 1 := cmpf .olt main_v16 main_v17
  let main_c_7 : IVec S_ 1 := constantI S_ 1 1#1
  let main_v19 : IVec S_ 1 := (fun x v => Host.reduce IntOp.andi x v reducesTo_S1x32x64x16_S_d0_1_2_3 h_S_) main_v18 main_c_7
  let main_v20 : FVec F S4x32x64 .f32 := Host.absf main_arg5
  let main_cst_8 : FVec F S_ .f32 := constant S_ .f32 0x7F800000#32
  let main_v21 : FVec F S4x32x64 .f32 := broadcastInDim S4x32x64 ![] bcast_S_S4x32x64 main_cst_8
  let main_v22 : IVec S4x32x64 1 := cmpf .olt main_v20 main_v21
  let main_c_9 : IVec S_ 1 := constantI S_ 1 1#1
  let main_v23 : IVec S_ 1 := (fun x v => Host.reduce IntOp.andi x v reducesTo_S4x32x64_S_d0_1_2 h_S_) main_v22 main_c_9
  let main_v24 : FVec F S4x32x64 .f32 := Host.absf main_arg6
  let main_cst_10 : FVec F S_ .f32 := constant S_ .f32 0x7F800000#32
  let main_v25 : FVec F S4x32x64 .f32 := broadcastInDim S4x32x64 ![] bcast_S_S4x32x64 main_cst_10
  let main_v26 : IVec S4x32x64 1 := cmpf .olt main_v24 main_v25
  let main_c_11 : IVec S_ 1 := constantI S_ 1 1#1
  let main_v27 : IVec S_ 1 := (fun x v => Host.reduce IntOp.andi x v reducesTo_S4x32x64_S_d0_1_2 h_S_) main_v26 main_c_11
  let main_v28 : FVec F S32x64x16 .f32 := Host.absf main_arg7
  let main_cst_12 : FVec F S_ .f32 := constant S_ .f32 0x7F800000#32
  let main_v29 : FVec F S32x64x16 .f32 := broadcastInDim S32x64x16 ![] bcast_S_S32x64x16 main_cst_12
  let main_v30 : IVec S32x64x16 1 := cmpf .olt main_v28 main_v29
  let main_c_13 : IVec S_ 1 := constantI S_ 1 1#1
  let main_v31 : IVec S_ 1 := (fun x v => Host.reduce IntOp.andi x v reducesTo_S32x64x16_S_d0_1_2 h_S_) main_v30 main_c_13
  fn_part2 (F := F) main_arg8 main_v3 main_v7 main_v11 main_v15 main_v19 main_v23 main_v27 main_v31

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) (main_arg5 : FVec F S4x32x64 .f32) (main_arg6 : FVec F S4x32x64 .f32) (main_arg7 : FVec F S32x64x16 .f32) (main_arg8 : FVec F S32x64x16 .f32) (main_arg9 : FVec F S4x512 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : FVec F S1x32 .f32 := Host.absf main_arg2
  let main_cst_2 : FVec F S_ .f32 := constant S_ .f32 0x7F800000#32
  let main_v9 : FVec F S1x32 .f32 := broadcastInDim S1x32 ![] bcast_S_S1x32 main_cst_2
  let main_v10 : IVec S1x32 1 := cmpf .olt main_v8 main_v9
  let main_c_3 : IVec S_ 1 := constantI S_ 1 1#1
  let main_v11 : IVec S_ 1 := (fun x v => Host.reduce IntOp.andi x v reducesTo_S1x32_S_d0_1 h_S_) main_v10 main_c_3
  let main_v12 : FVec F S1x32x64x16 .f32 := Host.absf main_arg3
  let main_cst_4 : FVec F S_ .f32 := constant S_ .f32 0x7F800000#32
  let main_v13 : FVec F S1x32x64x16 .f32 := broadcastInDim S1x32x64x16 ![] bcast_S_S1x32x64x16 main_cst_4
  let main_v14 : IVec S1x32x64x16 1 := cmpf .olt main_v12 main_v13
  let main_c_5 : IVec S_ 1 := constantI S_ 1 1#1
  let main_v15 : IVec S_ 1 := (fun x v => Host.reduce IntOp.andi x v reducesTo_S1x32x64x16_S_d0_1_2_3 h_S_) main_v14 main_c_5
  fn_part1 (F := F) main_arg4 main_arg5 main_arg6 main_arg7 main_arg8 main_v3 main_v7 main_v11 main_v15
-- ==== MixIn.lean ====
abbrev S4x2048x1024 : Shape := ⟨3, ![4, 2048, 1024]⟩
abbrev S4x1024 : Shape := ⟨2, ![4, 1024]⟩
abbrev S1x1024 : Shape := ⟨2, ![1, 1024]⟩
abbrev S1x1024x1024 : Shape := ⟨3, ![1, 1024, 1024]⟩
abbrev S4x2048x512 : Shape := ⟨3, ![4, 2048, 512]⟩
abbrev S2048x4x512 : Shape := ⟨3, ![2048, 4, 512]⟩
abbrev S2048x2048 : Shape := ⟨2, ![2048, 2048]⟩
abbrev S4x1x1024 : Shape := ⟨3, ![4, 1, 1024]⟩
abbrev S1024x1024 : Shape := ⟨2, ![1024, 1024]⟩
abbrev S1024x512 : Shape := ⟨2, ![1024, 512]⟩
abbrev S1x1024x512 : Shape := ⟨3, ![1, 1024, 512]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 20
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x1024, .f32⟩
  | .hbm, ⟨5, _⟩ => ⟨S4x2048x1024, .f32⟩
  | .hbm, ⟨6, _⟩ => ⟨S4x2048x512, .f32⟩
  | .hbm, ⟨7, _⟩ => ⟨S4x2048x512, .f32⟩
  | .hbm, ⟨8, _⟩ => ⟨S2048x4x512, .f32⟩
  | .hbm, ⟨9, _⟩ => ⟨S2048x2048, .f32⟩
  | .hbm, ⟨10, _⟩ => ⟨S2048x2048, .bf16⟩
  | .hbm, ⟨11, _⟩ => ⟨S4x1x1024, .f32⟩
  | .hbm, ⟨12, _⟩ => ⟨S4x1x1024, .f32⟩
  | .hbm, ⟨13, _⟩ => ⟨S1024x1024, .f32⟩
  | .hbm, ⟨14, _⟩ => ⟨S1024x1024, .bf16⟩
  | .hbm, ⟨15, _⟩ => ⟨S4x2048x1024, .f32⟩
  | .hbm, ⟨16, _⟩ => ⟨S1024x1024, .f32⟩
  | .hbm, ⟨17, _⟩ => ⟨S4x1x1024, .f32⟩
  | .hbm, ⟨18, _⟩ => ⟨S4x1x1024, .f32⟩
  | .hbm, ⟨19, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MixInRefIdeal.lean ====
abbrev S4x2048x1024 : Shape := ⟨3, ![4, 2048, 1024]⟩
abbrev S4x1024 : Shape := ⟨2, ![4, 1024]⟩
abbrev S1x1024 : Shape := ⟨2, ![1, 1024]⟩
abbrev S1x1024x1024 : Shape := ⟨3, ![1, 1024, 1024]⟩
abbrev S4x2048x512 : Shape := ⟨3, ![4, 2048, 512]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x1024 : Shape := ⟨2, ![1024, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x1024, .f32⟩
  | .hbm, ⟨5, _⟩ => ⟨S4x2048x1024, .f32⟩
  | .hbm, ⟨6, _⟩ => ⟨S4x2048x512, .f32⟩
  | .hbm, ⟨7, _⟩ => ⟨S4x2048x512, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S1024x1024, .f32⟩
  | .hbm, ⟨39, _⟩ => ⟨S4x2048x1024, .f32⟩
  | .hbm, ⟨40, _⟩ => ⟨S4x2048x512, .f32⟩
  | .hbm, ⟨41, _⟩ => ⟨S4x2048x512, .f32⟩
  | .hbm, ⟨42, _⟩ => ⟨S_, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S1024x1024, .f32⟩
  | .hbm, ⟨48, _⟩ => ⟨S1024x1024, .f32⟩
  | .hbm, ⟨49, _⟩ => ⟨S4x2048x1024, .f32⟩
  | .hbm, ⟨50, _⟩ => ⟨S1x1024x1024, .f32⟩
  | .hbm, ⟨51, _⟩ => ⟨S_, .f32⟩
  | .hbm, ⟨52, _⟩ => ⟨S4x1024, .f32⟩
  | .hbm, ⟨53, _⟩ => ⟨S4x1x1024, .f32⟩
  | .hbm, ⟨54, _⟩ => ⟨S_, .f32⟩
  | .hbm, ⟨55, _⟩ => ⟨S4x1024, .f32⟩
  | .hbm, ⟨56, _⟩ => ⟨S4x2048x1024, .f32⟩
  | .hbm, ⟨57, _⟩ => ⟨S_, .f32⟩
  | .hbm, ⟨58, _⟩ => ⟨S4x1024, .f32⟩
  | .hbm, ⟨59, _⟩ => ⟨S4x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S4x1024, .f32⟩
  | .hbm, ⟨64, _⟩ => ⟨S4x2048x1024, .f32⟩
  | .hbm, ⟨65, _⟩ => ⟨S_, .f32⟩
  | .hbm, ⟨66, _⟩ => ⟨S1024, .f32⟩
  | .hbm, ⟨67, _⟩ => ⟨S1x1x1024, .f32⟩
  | .hbm, ⟨68, _⟩ => ⟨S4x2048x1024, .f32⟩
  | .hbm, ⟨69, _⟩ => ⟨S4x2048x1024, .f32⟩
  | .hbm, ⟨70, _⟩ => ⟨S_, .f32⟩
  | .hbm, ⟨71, _⟩ => ⟨S1024, .f32⟩
  | .hbm, ⟨72, _⟩ => ⟨S4x2048x1024, .f32⟩
  | .hbm, ⟨73, _⟩ => ⟨S_, .f32⟩
  | .hbm, ⟨74, _⟩ => ⟨S4x2048, .f32⟩
  | .hbm, ⟨75, _⟩ => ⟨S4x2048x1, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1, .f32⟩
  | .hbm, ⟨80, _⟩ => ⟨S_, .f32⟩
  | .hbm, ⟨81, _⟩ => ⟨S4x2048x1, .f32⟩
  | .hbm, ⟨82, _⟩ => ⟨S4x2048x1, .f32⟩
  | .hbm, ⟨83, _⟩ => ⟨S_, .f32⟩
  | .hbm, ⟨84, _⟩ => ⟨S4x2048, .f32⟩
  | .hbm, ⟨85, _⟩ => ⟨S4x2048x1024, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S1x1024, .f32⟩
  | .hbm, ⟨91, _⟩ => ⟨S1024x1024, .f32⟩
  | .hbm, ⟨92, _⟩ => ⟨S4x1x1024, .f32⟩
  | .hbm, ⟨93, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== FfnBwd.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S2816x1024 : Shape := ⟨2, ![2816, 1024]⟩
abbrev S5632x1024 : Shape := ⟨2, ![5632, 1024]⟩
abbrev S1x256x1024 : Shape := ⟨3, ![1, 256, 1024]⟩
abbrev S1x256x2816 : Shape := ⟨3, ![1, 256, 2816]⟩
abbrev S1x256x5632 : Shape := ⟨3, ![1, 256, 5632]⟩
abbrev S1x264x2816 : Shape := ⟨3, ![1, 264, 2816]⟩
abbrev S1x8x2816 : Shape := ⟨3, ![1, 8, 2816]⟩
abbrev S256x1024 : Shape := ⟨2, ![256, 1024]⟩
abbrev S256x2816 : Shape := ⟨2, ![256, 2816]⟩
abbrev S264x2816 : Shape := ⟨2, ![264, 2816]⟩
abbrev S8x2816 : Shape := ⟨2, ![8, 2816]⟩
abbrev S256 : Shape := ⟨1, ![256]⟩
abbrev S256x1 : Shape := ⟨2, ![256, 1]⟩

abbrev nBuf : Space → Nat
  | .hbm => 99
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S4x2048x1024, .f32⟩
  | .hbm, ⟨9, _⟩ => ⟨S4x2048x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S1024x5632, .f32⟩
  | .hbm, ⟨37, _⟩ => ⟨S4x2048x5632, .f32⟩
  | .hbm, ⟨38, _⟩ => ⟨S4x2048x2816, .f32⟩
  | .hbm, ⟨39, _⟩ => ⟨S4x2048x2816, .f32⟩
  | .hbm, ⟨40, _⟩ => ⟨S3x2816, .f32⟩
  | .hbm, ⟨41, _⟩ => ⟨S2816, .f32⟩
  | .hbm, ⟨42, _⟩ => ⟨S_, .f32⟩
  | .hbm, ⟨43, _⟩ => ⟨S4x2x2816, .f32⟩
  | .hbm, ⟨44, _⟩ => ⟨S4x2050x2816, .f32⟩
  | .hbm, ⟨45, _⟩ => ⟨S4x2048x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S4x2048x2816, .f32⟩
  | .hbm, ⟨59, _⟩ => ⟨S1x2816, .f32⟩
  | .hbm, ⟨60, _⟩ => ⟨S2816, .f32⟩
  | .hbm, ⟨61, _⟩ => ⟨S1x1x2816, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S1x1x2816, .f32⟩
  | .hbm, ⟨66, _⟩ => ⟨S4x2048x2816, .f32⟩
  | .hbm, ⟨67, _⟩ => ⟨S4x2048x2816, .f32⟩
  | .hbm, ⟨68, _⟩ => ⟨S4x2048x2816, .f32⟩
  | .hbm, ⟨69, _⟩ => ⟨S4x2048x2816, .f32⟩
  | .hbm, ⟨70, _⟩ => ⟨S_, .f32⟩
  | .hbm, ⟨71, _⟩ => ⟨S4x2048x2816, .f32⟩
  | .hbm, ⟨72, _⟩ => ⟨S4x2048x2816, .f32⟩
  | .hbm, ⟨73, _⟩ => ⟨S_, .f32⟩
  | .hbm, ⟨74, _⟩ => ⟨S4x2048x2816, .f32⟩
  | .hbm, ⟨75, _⟩ => ⟨S4x2048x2816, .f32⟩
  | .hbm, ⟨76, _⟩ => ⟨S4x2048x2816, .f32⟩
  | .hbm, ⟨77, _⟩ => ⟨S4x2048x2816, .f32⟩
  | .hbm, ⟨78, _⟩ => ⟨S4x2048x1024, .bf16⟩
  | .hbm, ⟨79, _⟩ => ⟨S4x2048x2816, .f32⟩
  | .hbm, ⟨80, _⟩ => ⟨S4x2048x2816, .bf16⟩
  | .hbm, ⟨81, _⟩ => ⟨S4x2048x2816, .bf16⟩
  | .hbm, ⟨82, _⟩ => ⟨S4x2048x2816, .f32⟩
  | .hbm, ⟨83, _⟩ => ⟨S4x2048x2816, .bf16⟩
  | .hbm, ⟨84, _⟩ => ⟨S4x1x1024, .f32⟩
  | .hbm, ⟨85, _⟩ => ⟨S4x1x1024, .f32⟩
  | .hbm, ⟨86, _⟩ => ⟨S3x2816, .f32⟩
  | .hbm, ⟨87, _⟩ => ⟨S2816x1024, .f32⟩
  | .hbm, ⟨88, _⟩ => ⟨S2816x1024, .bf16⟩
  | .hbm, ⟨89, _⟩ => ⟨S1024x5632, .f32⟩
  | .hbm, ⟨90, _⟩ => ⟨S5632x1024, .f32⟩
  | .hbm, ⟨91, _⟩ => ⟨S5632x1024, .bf16⟩
  | .hbm, ⟨92, _⟩ => ⟨S4x2048x5632, .bf16⟩
  | .hbm, ⟨93, _⟩ => ⟨S4x2048x1024, .f32⟩
  | .hbm, ⟨94, _⟩ => ⟨S4x1x1024, .f32⟩
  | .hbm, ⟨95, _⟩ => ⟨S4x1x1024, .f32⟩
  | .hbm, ⟨96, _⟩ => ⟨S1x1024, .f32⟩
  | .hbm, ⟨97, _⟩ => ⟨S3x2816, .f32⟩
  | .hbm, ⟨98, _⟩ => ⟨S1x2816, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x2816, .bf16⟩
  | .local _ .vmem, ⟨3, _⟩ => ⟨S1x256x2816, .bf16⟩
  | .local _ .vmem, ⟨4, _⟩ => ⟨S1x256x2816, .bf16⟩
  | .local _ .vmem, ⟨5, _⟩ => ⟨S1x256x2816, .bf16⟩
  | .local _ .vmem, ⟨6, _⟩ => ⟨S1x256x2816, .bf16⟩
  | .local _ .vmem, ⟨7, _⟩ => ⟨S1x256x2816, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S3x2816, .f32⟩
  | .local _ .vmem, ⟨18, _⟩ => ⟨S2816x1024, .bf16⟩
  | .local _ .vmem, ⟨19, _⟩ => ⟨S5632x1024, .bf16⟩
  | .local _ .vmem, ⟨20, _⟩ => ⟨S1x256x5632, .bf16⟩
  | .local _ .vmem, ⟨21, _⟩ => ⟨S1x256x5632, .bf16⟩
  | .local _ .vmem, ⟨22, _⟩ => ⟨S1x256x1024, .f32⟩
  | .local _ .vmem, ⟨23, _⟩ => ⟨S1x256x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1024, .f32⟩
  | .local _ .vmem, ⟨29, _⟩ => ⟨S3x2816, .f32⟩
  | .local _ .vmem, ⟨30, _⟩ => ⟨S1x2816, .f32⟩
  | .local _ .vmem, ⟨31, _⟩ => ⟨S1x264x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69_0 : Ref sig .tc := ⟨.hbm, 92, rfl⟩
abbrev main_v69_1 : Ref sig .tc := ⟨.hbm, 93, rfl⟩
abbrev main_v69_2 : Ref sig .tc := ⟨.hbm, 94, rfl⟩
abbrev main_v69_3 : Ref sig .tc := ⟨.hbm, 95, rfl⟩
abbrev main_v69_4 : Ref sig .tc := ⟨.hbm, 96, rfl⟩
abbrev main_v69_5 : Ref sig .tc := ⟨.hbm, 97, rfl⟩
abbrev main_v69_6 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S5632x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== FfnBwdRefIdeal.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S2816x1024 : Shape := ⟨2, ![2816, 1024]⟩

abbrev nBuf : Space → Nat
  | .hbm => 195
  | .vmem => 0
  | .smem => 0
  | _ => 0

abbrev hbmTy0_0 (i : Nat) : BufTy := match i % 128 with
  | 0 => ⟨S4x2048x1024, .f32⟩
  | 1 => ⟨S4x1024, .f32⟩
  | 2 => ⟨S4x1024, .f32⟩
  | 3 => ⟨S1x1024, .f32⟩
  | 4 => ⟨S1x1024x5632, .f32⟩
  | 5 => ⟨S1x3x2816, .f32⟩
  | 6 => ⟨S1x2816, .f32⟩
  | 7 => ⟨S1x2816x1024, .f32⟩
  | 8 => ⟨S4x2048x1024, .f32⟩
  | 9 => ⟨S4x2048x1024, .f32⟩
  | 10 => ⟨S1024, .f32⟩
  | 11 => ⟨S4x2048x1024, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x1, .f32⟩
  | 22 => ⟨S4x2048x1, .f32⟩
  | 23 => ⟨S_, .f32⟩
  | 24 => ⟨S4x2048x1, .f32⟩
  | 25 => ⟨S4x2048x1, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S4x1x1024, .f32⟩
  | 32 => ⟨S_, .f32⟩
  | 33 => ⟨S4x1x1024, .f32⟩
  | 34 => ⟨S4x1x1024, .f32⟩
  | 35 => ⟨S4x2048x1024, .f32⟩
  | 36 => ⟨S4x2048x1024, .f32⟩
  | 37 => ⟨S4x1x1024, .f32⟩
  | 38 => ⟨S4x2048x1024, .f32⟩
  | 39 => ⟨S4x2048x1024, .f32⟩
  | 40 => ⟨S1024x5632, .f32⟩
  | 41 => ⟨S4x2048x5632, .f32⟩
  | 42 => ⟨S4x2048x2816, .f32⟩
  | 43 => ⟨S4x2048x2816, .f32⟩
  | 44 => ⟨S3x2816, .f32⟩
  | 45 => ⟨S2816, .f32⟩
  | 46 => ⟨S_, .f32⟩
  | 47 => ⟨S4x2x2816, .f32⟩
  | 48 => ⟨S4x2050x2816, .f32⟩
  | 49 => ⟨S_, .f32⟩
  | 50 => ⟨S4x2x2816, .f32⟩
  | 51 => ⟨S4x2048x2816, .f32⟩
  | 52 => ⟨S1x2816, .f32⟩
  | 53 => ⟨S2816, .f32⟩
  | 54 => ⟨S1x1x2816, .f32⟩
  | 55 => ⟨S4x2048x2816, .f32⟩
  | 56 => ⟨S4x2048x2816, .f32⟩
  | 57 => ⟨S4x2048x2816, .f32⟩
  | 58 => ⟨S1x2816, .f32⟩
  | 59 => ⟨S2816, .f32⟩
  | 60 => ⟨S1x1x2816, .f32⟩
  | 61 => ⟨S4x2048x2816, .f32⟩
  | 62 => ⟨S4x2048x2816, .f32⟩
  | 63 => ⟨S4x2048x2816, .f32⟩
  | 64 => ⟨S4x2048x2816, .f32⟩
  | 65 => ⟨S1x2816, .f32⟩
  | 66 => ⟨S2816, .f32⟩
  | 67 => ⟨S1x1x2816, .f32⟩
  | 68 => ⟨S4x2048x2816, .f32⟩
  | 69 => ⟨S4x2048x2816, .f32⟩
  | 70 => ⟨S4x2048x2816, .f32⟩
  | 71 => ⟨S1x1x2816, .f32⟩
  | 72 => ⟨S4x2048x2816, .f32⟩
  | 73 => ⟨S4x2048x2816, .f32⟩
  | 74 => ⟨S4x2048x2816, .f32⟩
  | 75 => ⟨S4x2048x2816, .f32⟩
  | 76 => ⟨S_, .f32⟩
  | 77 => ⟨S4x2048x2816, .f32⟩
  | 78 => ⟨S4x2048x2816, .f32⟩
  | 79 => ⟨S_, .f32⟩
  | 80 => ⟨S4x2048x2816, .f32⟩
  | 81 => ⟨S4x2048x2816, .f32⟩
  | 82 => ⟨S_, .f32⟩
  | 83 => ⟨S4x2048x2816, .f32⟩
  | 84 => ⟨S4x2048x2816, .f32⟩
  | 85 => ⟨S4x2048x2816, .f32⟩
  | 86 => ⟨S4x2048x2816, .f32⟩
  | 87 => ⟨S4x2048x2816, .f32⟩
  | 88 => ⟨S2816x1024, .f32⟩
  | 89 => ⟨S4x2048x1024, .f32⟩
  | 90 => ⟨S4x2048x2816, .f32⟩
  | 91 => ⟨S4x2048x2816, .f32⟩
  | 92 => ⟨S4x2048x2816, .f32⟩
  | 93 => ⟨S4x2048x2816, .f32⟩
  | 94 => ⟨S4x2048x2816, .f32⟩
  | 95 => ⟨S4x2048x2816, .f32⟩
  | 96 => ⟨S4x2048x2816, .f32⟩
  | 97 => ⟨S_, .f32⟩
  | 98 => ⟨S2816, .f32⟩
  | 99 => ⟨S1x1x2816, .f32⟩
  | 100 => ⟨S_, .f32⟩
  | 101 => ⟨S2816, .f32⟩
  | 102 => ⟨S4x2048x2816, .f32⟩
  | 103 => ⟨S_, .f32⟩
  | 104 => ⟨S2816, .f32⟩
  | 105 => ⟨S1x1x2816, .f32⟩
  | 106 => ⟨S4x2048x2816, .f32⟩
  | 107 => ⟨S4x2048x2816, .f32⟩
  | 108 => ⟨S_, .f32⟩
  | 109 => ⟨S2816, .f32⟩
  | 110 => ⟨S1x2816, .f32⟩
  | 111 => ⟨S_, .f32⟩
  | 112 => ⟨S3x2816, .f32⟩
  | 113 => ⟨S_, .f32⟩
  | 114 => ⟨S4x2050x2816, .f32⟩
  | 115 => ⟨S4x2048x2816, .f32⟩
  | 116 => ⟨S_, .f32⟩
  | 117 => ⟨S2816, .f32⟩
  | 118 => ⟨S1x1x2816, .f32⟩
  | 119 => ⟨S4x2048x2816, .f32⟩
  | 120 => ⟨S4x2048x2816, .f32⟩
  | 121 => ⟨S_, .f32⟩
  | 122 => ⟨S2816, .f32⟩
  | 123 => ⟨S1x2816, .f32⟩
  | 124 => ⟨S_, .f32⟩
  | 125 => ⟨S3x2816, .f32⟩
  | 126 => ⟨S3x2816, .f32⟩
  | 127 => ⟨S_, .f32⟩
  | _ => ⟨S4x2048x1024, .f32⟩

abbrev hbmTy0_1 (i : Nat) : BufTy := match i % 128 with
  | 0 => ⟨S4x2050x2816, .f32⟩
  | 1 => ⟨S4x2050x2816, .f32⟩
  | 2 => ⟨S4x2048x2816, .f32⟩
  | 3 => ⟨S_, .f32⟩
  | 4 => ⟨S2816, .f32⟩
  | 5 => ⟨S1x1x2816, .f32⟩
  | 6 => ⟨S4x2048x2816, .f32⟩
  | 7 => ⟨S4x2048x2816, .f32⟩
  | 8 => ⟨S_, .f32⟩
  | 9 => ⟨S2816, .f32⟩
  | 10 => ⟨S1x2816, .f32⟩
  | 11 => ⟨S_, .f32⟩
  | 12 => ⟨S3x2816, .f32⟩
  | 13 => ⟨S3x2816, .f32⟩
  | 14 => ⟨S_, .f32⟩
  | 15 => ⟨S4x2050x2816, .f32⟩
  | 16 => ⟨S4x2050x2816, .f32⟩
  | 17 => ⟨S4x2x2816, .f32⟩
  | 18 => ⟨S4x2048x2816, .f32⟩
  | 19 => ⟨S1x2816, .f32⟩
  | 20 => ⟨S1x3x2816, .f32⟩
  | 21 => ⟨S4x2048x5632, .f32⟩
  | 22 => ⟨S4x2048x1024, .f32⟩
  | 23 => ⟨S_, .f32⟩
  | 24 => ⟨S4x1024, .f32⟩
  | 25 => ⟨S4x1x1024, .f32⟩
  | 26 => ⟨S_, .f32⟩
  | 27 => ⟨S4x1024, .f32⟩
  | 28 => ⟨S4x2048x1024, .f32⟩
  | 29 => ⟨S_, .f32⟩
  | 30 => ⟨S4x1024, .f32⟩
  | 31 => ⟨S4x1x1024, .f32⟩
  | 32 => ⟨S4x2048x1024, .f32⟩
  | 33 => ⟨S4x2048x1024, .f32⟩
  | 34 => ⟨S_, .f32⟩
  | 35 => ⟨S4x1024, .f32⟩
  | 36 => ⟨S4x2048x1024, .f32⟩
  | 37 => ⟨S_, .f32⟩
  | 38 => ⟨S1024, .f32⟩
  | 39 => ⟨S1x1x1024, .f32⟩
  | 40 => ⟨S4x2048x1024, .f32⟩
  | 41 => ⟨S4x2048x1024, .f32⟩
  | 42 => ⟨S_, .f32⟩
  | 43 => ⟨S1024, .f32⟩
  | 44 => ⟨S4x2048x1024, .f32⟩
  | 45 => ⟨S_, .f32⟩
  | 46 => ⟨S4x2048, .f32⟩
  | 47 => ⟨S4x2048x1, .f32⟩
  | 48 => ⟨S4x2048x1024, .f32⟩
  | 49 => ⟨S4x2048x1024, .f32⟩
  | 50 => ⟨S4x2048x1, .f32⟩
  | 51 => ⟨S_, .f32⟩
  | 52 => ⟨S4x2048x1, .f32⟩
  | 53 => ⟨S4x2048x1, .f32⟩
  | 54 => ⟨S_, .f32⟩
  | 55 => ⟨S4x2048, .f32⟩
  | 56 => ⟨S4x2048x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S1x1024, .f32⟩
  | 62 => ⟨S4x2048x5632, .bf16⟩
  | 63 => ⟨S4x2048x1024, .f32⟩
  | 64 => ⟨S4x1x1024, .f32⟩
  | 65 => ⟨S4x1x1024, .f32⟩
  | 66 => ⟨S3x2816, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_v57_2 : Ref sig .tc := ⟨.hbm, 81, rfl⟩
abbrev main_call0_cst_1 : Ref sig .tc := ⟨.hbm, 82, rfl⟩
abbrev main_call0_v6 : Ref sig .tc := ⟨.hbm, 83, rfl⟩
abbrev main_call0_v7 : Ref sig .tc := ⟨.hbm, 84, rfl⟩
abbrev main_v57_1 : Ref sig .tc := ⟨.hbm, 85, rfl⟩
abbrev main_v57_0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_cst_7 : Ref sig .tc := ⟨.hbm, 100, rfl⟩
abbrev main_v67 : Ref sig .tc := ⟨.hbm, 101, rfl⟩
abbrev main_v68 : Ref sig .tc := ⟨.hbm, 102, rfl⟩
abbrev main_cst_8 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_9 : Ref sig .tc := ⟨.hbm, 108, rfl⟩
abbrev main_v73 : Ref sig .tc := ⟨.hbm, 109, rfl⟩
abbrev main_v74 : Ref sig .tc := ⟨.hbm, 110, rfl⟩
abbrev main_cst_10 : Ref sig .tc := ⟨.hbm, 111, rfl⟩
abbrev main_v75 : Ref sig .tc := ⟨.hbm, 112, rfl⟩
abbrev main_cst_11 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_17 : Ref sig .tc := ⟨.hbm, 136, rfl⟩
abbrev main_v93 : Ref sig .tc := ⟨.hbm, 137, rfl⟩
abbrev main_v94 : Ref sig .tc := ⟨.hbm, 138, rfl⟩
abbrev main_cst_18 : Ref sig .tc := ⟨.hbm, 139, rfl⟩
abbrev main_v95 : Ref sig .tc := ⟨.hbm, 140, rfl⟩
abbrev main_v96 : Ref sig .tc := ⟨.hbm, 141, rfl⟩
abbrev main_cst_19 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_20 : Ref sig .tc := ⟨.hbm, 151, rfl⟩
abbrev main_v105 : Ref sig .tc := ⟨.hbm, 152, rfl⟩
abbrev main_v106 : Ref sig .tc := ⟨.hbm, 153, rfl⟩
abbrev main_cst_21 : Ref sig .tc := ⟨.hbm, 154, rfl⟩
abbrev main_v107 : Ref sig .tc := ⟨.hbm, 155, rfl⟩
abbrev main_v108 : Ref sig .tc := ⟨.hbm, 156, rfl⟩
abbrev main_cst_22 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_23 : Ref sig .tc := ⟨.hbm, 162, rfl⟩
abbrev main_v113 : Ref sig .tc := ⟨.hbm, 163, rfl⟩
abbrev main_v114 : Ref sig .tc := ⟨.hbm, 164, rfl⟩
abbrev main_cst_24 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_25 : Ref sig .tc := ⟨.hbm, 170, rfl⟩
abbrev main_v119 : Ref sig .tc := ⟨.hbm, 171, rfl⟩
abbrev main_v120 : Ref sig .tc := ⟨.hbm, 172, rfl⟩
abbrev main_cst_26 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_27 : Ref sig .tc := ⟨.hbm, 179, rfl⟩
abbrev main_v126 : Ref sig .tc := ⟨.hbm, 180, rfl⟩
abbrev main_v127 : Ref sig .tc := ⟨.hbm, 181, rfl⟩
abbrev main_cst_28 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩

abbrev nD : Nat := 1
abbrev τ : Topo := Topo.v7x

variable {F : FTy → Type} [FloatOps F]
-- ==== FfnFwd.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S4x1x1024 : Shape := ⟨3, ![4, 1, 1024]⟩
abbrev S1024x5632 : Shape := ⟨2, ![1024, 5632]⟩
abbrev S5632x1024 : Shape := ⟨2, ![5632, 1024]⟩
abbrev S3x2816 : Shape := ⟨2, ![3, 2816]⟩
abbrev S2816x1024 : Shape := ⟨2, ![2816, 1024]⟩
abbrev S4x2048x2816 : Shape := ⟨3, ![4, 2048, 2816]⟩
abbrev S1x128 : Shape := ⟨2, ![1, 128]⟩
abbrev S1x256x1024 : Shape := ⟨3, ![1, 256, 1024]⟩
abbrev S1x1x1024 : Shape := ⟨3, ![1, 1, 1024]⟩
abbrev S1x256x2816 : Shape := ⟨3, ![1, 256, 2816]⟩
abbrev S1x264x2816 : Shape := ⟨3, ![1, 264, 2816]⟩
abbrev S1x8x2816 : Shape := ⟨3, ![1, 8, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S264x2816 : Shape := ⟨2, ![264, 2816]⟩
abbrev S8x2816 : Shape := ⟨2, ![8, 2816]⟩
abbrev S1 : Shape := ⟨1, ![1]⟩
abbrev S1x1x1 : Shape := ⟨3, ![1, 1, 1]⟩

abbrev nBuf : Space → Nat
  | .hbm => 31
  | .vmem => 36
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x2816, .f32⟩
  | .hbm, ⟨9, _⟩ => ⟨S1x2816x1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | .hbm, ⟨17, _⟩ => ⟨S3x2816, .f32⟩
  | .hbm, ⟨18, _⟩ => ⟨S2816x1024, .f32⟩
  | .hbm, ⟨19, _⟩ => ⟨S2816x1024, .bf16⟩
  | .hbm, ⟨20, _⟩ => ⟨S1x1024, .f32⟩
  | .hbm, ⟨21, _⟩ => ⟨S4x2048x1024, .bf16⟩
  | .hbm, ⟨22, _⟩ => ⟨S4x2048x2816, .bf16⟩
  | .hbm, ⟨23, _⟩ => ⟨S4x2048x2816, .bf16⟩
  | .hbm, ⟨24, _⟩ => ⟨S4x2048x2816, .bf16⟩
  | .hbm, ⟨25, _⟩ => ⟨S4x2048x2816, .bf16⟩
  | .hbm, ⟨26, _⟩ => ⟨S4x2048x1024, .bf16⟩
  | .hbm, ⟨27, _⟩ => ⟨S4x2048x1024, .f32⟩
  | .hbm, ⟨28, _⟩ => ⟨S1x128, .f32⟩
  | .hbm, ⟨29, _⟩ => ⟨S1x1024, .f32⟩
  | .hbm, ⟨30, _⟩ => ⟨S4x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S5632x1024, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x2816, .bf16⟩
  | .local _ .vmem, ⟨19, _⟩ => ⟨S1x256x2816, .bf16⟩
  | .local _ .vmem, ⟨20, _⟩ => ⟨S1x256x2816, .bf16⟩
  | .local _ .vmem, ⟨21, _⟩ => ⟨S1x256x2816, .bf16⟩
  | .local _ .vmem, ⟨22, _⟩ => ⟨S1x256x2816, .bf16⟩
  | .local _ .vmem, ⟨23, _⟩ => ⟨S1x256x2816, .bf16⟩
  | .local _ .vmem, ⟨24, _⟩ => ⟨S1x256x2816, .bf16⟩
  | .local _ .vmem, ⟨25, _⟩ => ⟨S1x256x2816, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .f32⟩
  | .local _ .vmem, ⟨29, _⟩ => ⟨S1x256x1024, .f32⟩
  | .local _ .vmem, ⟨30, _⟩ => ⟨S1x128, .f32⟩
  | .local _ .vmem, ⟨31, _⟩ => ⟨S1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x264x2816, .f32⟩
  | .local _ .vmem, ⟨35, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg0 : BitVec 32 := BitVec.ofNat 32 (i 0).val
  let c3_i32 : BitVec 32 := 3#32
  let v165 : BitVec 1 := Scalar.cmpi .eq arg0 c3_i32
  let arg1 : BitVec 32 := BitVec.ofNat 32 (i 1).val
  let c7_i32 : BitVec 32 := 7#32
  let v166 : BitVec 1 := Scalar.cmpi .eq arg1 c7_i32
  let v167 : BitVec 1 := Scalar.andi v165 v166
  let v168 : BitVec 32 := Scalar.extui v167
  let c0_i32_90 : BitVec 32 := 0#32
  let v169 : BitVec 1 := Scalar.cmpi .ne v168 c0_i32_90
  v169

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== FfnFwdRefIdeal.lean ====
abbrev S4x2048x1024 : Shape := ⟨3, ![4, 2048, 1024]⟩
abbrev S4x1024 : Shape := ⟨2, ![4, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S3x2816 : Shape := ⟨2, ![3, 2816]⟩
abbrev S2816 : Shape := ⟨1, ![2816]⟩
abbrev S4x2x2816 : Shape := ⟨3, ![4, 2, 2816]⟩
abbrev S4x2050x2816 : Shape := ⟨3, ![4, 2050, 2816]⟩
abbrev S1x1x2816 : Shape := ⟨3, ![1, 1, 2816]⟩
abbrev S2816x1024 : Shape := ⟨2, ![2816, 1024]⟩
abbrev S1x128 : Shape := ⟨2, ![1, 128]⟩

abbrev nBuf : Space → Nat
  | .hbm => 172
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x1024, .f32⟩
  | 3 => ⟨S4x1024, .f32⟩
  | 4 => ⟨S4x1024, .f32⟩
  | 5 => ⟨S1x1024, .f32⟩
  | 6 => ⟨S1x1024x5632, .f32⟩
  | 7 => ⟨S1x3x2816, .f32⟩
  | 8 => ⟨S1x2816, .f32⟩
  | 9 => ⟨S1x2816x1024, .f32⟩
  | 10 => ⟨S1024, .f32⟩
  | 11 => ⟨S1024, .f32⟩
  | 12 => ⟨S4x2048x1024, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048x1, .f32⟩
  | 21 => ⟨S4x2048x1, .f32⟩
  | 22 => ⟨S4x2048x1, .f32⟩
  | 23 => ⟨S4x2048x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x1x1024, .f32⟩
  | 29 => ⟨S_, .f32⟩
  | 30 => ⟨S4x1x1024, .f32⟩
  | 31 => ⟨S4x1x1024, .f32⟩
  | 32 => ⟨S4x2048x1024, .f32⟩
  | 33 => ⟨S4x2048x1024, .f32⟩
  | 34 => ⟨S4x1x1024, .f32⟩
  | 35 => ⟨S4x2048x1024, .f32⟩
  | 36 => ⟨S4x2048x1024, .f32⟩
  | 37 => ⟨S1024x5632, .f32⟩
  | 38 => ⟨S4x2048x5632, .f32⟩
  | 39 => ⟨S4x2048x2816, .f32⟩
  | 40 => ⟨S4x2048x2816, .f32⟩
  | 41 => ⟨S4x2048x2816, .f32⟩
  | 42 => ⟨S4x2048x2816, .f32⟩
  | 43 => ⟨S3x2816, .f32⟩
  | 44 => ⟨S2816, .f32⟩
  | 45 => ⟨S_, .f32⟩
  | 46 => ⟨S4x2x2816, .f32⟩
  | 47 => ⟨S4x2050x2816, .f32⟩
  | 48 => ⟨S4x2048x2816, .f32⟩
  | 49 => ⟨S1x2816, .f32⟩
  | 50 => ⟨S2816, .f32⟩
  | 51 => ⟨S1x1x2816, .f32⟩
  | 52 => ⟨S4x2048x2816, .f32⟩
  | 53 => ⟨S4x2048x2816, .f32⟩
  | 54 => ⟨S4x2048x2816, .f32⟩
  | 55 => ⟨S1x2816, .f32⟩
  | 56 => ⟨S2816, .f32⟩
  | 57 => ⟨S1x1x2816, .f32⟩
  | 58 => ⟨S4x2048x2816, .f32⟩
  | 59 => ⟨S4x2048x2816, .f32⟩
  | 60 => ⟨S4x2048x2816, .f32⟩
  | 61 => ⟨S4x2048x2816, .f32⟩
  | 62 => ⟨S1x2816, .f32⟩
  | 63 => ⟨S2816, .f32⟩
  | 64 => ⟨S1x1x2816, .f32⟩
  | 65 => ⟨S4x2048x2816, .f32⟩
  | 66 => ⟨S4x2048x2816, .f32⟩
  | 67 => ⟨S4x2048x2816, .f32⟩
  | 68 => ⟨S1x1x2816, .f32⟩
  | 69 => ⟨S4x2048x2816, .f32⟩
  | 70 => ⟨S4x2048x2816, .f32⟩
  | 71 => ⟨S4x2048x2816, .f32⟩
  | 72 => ⟨S4x2048x2816, .f32⟩
  | 73 => ⟨S_, .f32⟩
  | 74 => ⟨S4x2048x2816, .f32⟩
  | 75 => ⟨S4x2048x2816, .f32⟩
  | 76 => ⟨S_, .f32⟩
  | 77 => ⟨S4x2048x2816, .f32⟩
  | 78 => ⟨S4x2048x2816, .f32⟩
  | 79 => ⟨S4x2048x2816, .f32⟩
  | 80 => ⟨S4x2048x2816, .f32⟩
  | 81 => ⟨S2816x1024, .f32⟩
  | 82 => ⟨S4x2048x1024, .f32⟩
  | 83 => ⟨S4x1x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S_, .f32⟩
  | 89 => ⟨S4x2048, .f32⟩
  | 90 => ⟨S4x2048x1, .f32⟩
  | 91 => ⟨S_, .f32⟩
  | 92 => ⟨S4x2048x1, .f32⟩
  | 93 => ⟨S4x2048x1, .f32⟩
  | 94 => ⟨S_, .f32⟩
  | 95 => ⟨S4x2048x1, .f32⟩
  | 96 => ⟨S4x2048x1, .f32⟩
  | 97 => ⟨S4x2048x1, .f32⟩
  | 98 => ⟨S4x2048x1, .f32⟩
  | 99 => ⟨S_, .f32⟩
  | 100 => ⟨S4x2048x1, .f32⟩
  | 101 => ⟨S4x2048x1, .f32⟩
  | 102 => ⟨S4x2048x1024, .f32⟩
  | 103 => ⟨S4x2048x1024, .f32⟩
  | 104 => ⟨S1x1x1024, .f32⟩
  | 105 => ⟨S4x2048x1024, .f32⟩
  | 106 => ⟨S4x2048x1024, .f32⟩
  | 107 => ⟨S4x2048x1024, .f32⟩
  | 108 => ⟨S4x2048x1024, .f32⟩
  | 109 => ⟨S_, .f32⟩
  | 110 => ⟨S4x2048x1024, .f32⟩
  | 111 => ⟨S4x2048x1024, .f32⟩
  | 112 => ⟨S_, .f32⟩
  | 113 => ⟨S4x2048, .f32⟩
  | 114 => ⟨S_, .f32⟩
  | 115 => ⟨S4x2048, .f32⟩
  | 116 => ⟨S4x2048, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S4x2048, .f32⟩
  | 125 => ⟨S_, .f32⟩
  | 126 => ⟨S4x2048, .f32⟩
  | 127 => ⟨S4x2048, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S_, .f32⟩
  | 4 => ⟨S1024, .f32⟩
  | 5 => ⟨S1x1x1024, .f32⟩
  | 6 => ⟨S4x2048x1024, .f32⟩
  | 7 => ⟨S4x2048x1024, .f32⟩
  | 8 => ⟨S_, .f32⟩
  | 9 => ⟨S1024, .f32⟩
  | 10 => ⟨S4x2048x1024, .f32⟩
  | 11 => ⟨S_, .f32⟩
  | 12 => ⟨S4x2048, .f32⟩
  | 13 => ⟨S4x2048x1, .f32⟩
  | 14 => ⟨S4x2048x1024, .f32⟩
  | 15 => ⟨S4x2048x1024, .f32⟩
  | 16 => ⟨S4x2048x1, .f32⟩
  | 17 => ⟨S_, .f32⟩
  | 18 => ⟨S4x2048x1, .f32⟩
  | 19 => ⟨S4x2048x1, .f32⟩
  | 20 => ⟨S_, .f32⟩
  | 21 => ⟨S4x2048, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S_, .f32⟩
  | 31 => ⟨S4x1024, .f32⟩
  | 32 => ⟨S4x1x1024, .f32⟩
  | 33 => ⟨S_, .f32⟩
  | 34 => ⟨S4x1024, .f32⟩
  | 35 => ⟨S4x2048x1024, .bf16⟩
  | 36 => ⟨S4x2048x2816, .bf16⟩
  | 37 => ⟨S4x2048x2816, .bf16⟩
  | 38 => ⟨S4x2048x2816, .bf16⟩
  | 39 => ⟨S4x2048x2816, .bf16⟩
  | 40 => ⟨S4x2048x1024, .bf16⟩
  | 41 => ⟨S1x128, .f32⟩
  | 42 => ⟨S1x1024, .f32⟩
  | 43 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_cst_5 : Ref sig .tc := ⟨.hbm, 91, rfl⟩
abbrev main_v66 : Ref sig .tc := ⟨.hbm, 92, rfl⟩
abbrev main_v67 : Ref sig .tc := ⟨.hbm, 93, rfl⟩
abbrev main_cst_6 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_7 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_8 : Ref sig .tc := ⟨.hbm, 109, rfl⟩
abbrev main_v81 : Ref sig .tc := ⟨.hbm, 110, rfl⟩
abbrev main_v82 : Ref sig .tc := ⟨.hbm, 111, rfl⟩
abbrev main_cst_9 : Ref sig .tc := ⟨.hbm, 112, rfl⟩
abbrev main_v83 : Ref sig .tc := ⟨.hbm, 113, rfl⟩
abbrev main_cst_10 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_cst_13 : Ref sig .tc := ⟨.hbm, 121, rfl⟩
abbrev main_cst_14 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_17 : Ref sig .tc := ⟨.hbm, 136, rfl⟩
abbrev main_v99 : Ref sig .tc := ⟨.hbm, 137, rfl⟩
abbrev main_v100 : Ref sig .tc := ⟨.hbm, 138, rfl⟩
abbrev main_cst_18 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_cst_20 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_21 : Ref sig .tc := ⟨.hbm, 158, rfl⟩
abbrev main_v117 : Ref sig .tc := ⟨.hbm, 159, rfl⟩
abbrev main_v118 : Ref sig .tc := ⟨.hbm, 160, rfl⟩
abbrev main_cst_22 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]
-- ==== MixOut.lean ====
abbrev S4x2048x512 : Shape := ⟨3, ![4, 2048, 512]⟩
abbrev S4x1024 : Shape := ⟨2, ![4, 1024]⟩
abbrev S1x512x1024 : Shape := ⟨3, ![1, 512, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩
abbrev S512x1024 : Shape := ⟨2, ![512, 1024]⟩
abbrev S1024 : Shape := ⟨1, ![1024]⟩
abbrev S1x1x1024 : Shape := ⟨3, ![1, 1, 1024]⟩
abbrev S4x128x128 : Shape := ⟨3, ![4, 128, 128]⟩
abbrev S4x128 : Shape := ⟨2, ![4, 128]⟩
abbrev S512 : Shape := ⟨1, ![512]⟩
abbrev S4x1x512 : Shape := ⟨3, ![4, 1, 512]⟩
abbrev S4x2049x512 : Shape := ⟨3, ![4, 2049, 512]⟩
abbrev S2048 : Shape := ⟨1, ![2048]⟩
abbrev S1x2048x1 : Shape := ⟨3, ![1, 2048, 1]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x2048x4x128 : Shape := ⟨4, ![4, 2048, 4, 128]⟩
abbrev S4x128x4x2048 : Shape := ⟨4, ![4, 128, 4, 2048]⟩
abbrev S1x1x4x128 : Shape := ⟨4, ![1, 1, 4, 128]⟩
abbrev S1x1x512 : Shape := ⟨3, ![1, 1, 512]⟩
abbrev S1024x1024 : Shape := ⟨2, ![1024, 1024]⟩
abbrev S2048x4x512 : Shape := ⟨3, ![2048, 4, 512]⟩
abbrev S2048x2048 : Shape := ⟨2, ![2048, 2048]⟩
abbrev S4x1x1024 : Shape := ⟨3, ![4, 1, 1024]⟩
abbrev S1024x512 : Shape := ⟨2, ![1024, 512]⟩
abbrev S1x1024x512 : Shape := ⟨3, ![1, 1024, 512]⟩
abbrev S1x16x512 : Shape := ⟨3, ![1, 16, 512]⟩
abbrev S1040x512 : Shape := ⟨2, ![1040, 512]⟩
abbrev S16x512 : Shape := ⟨2, ![16, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S1040x384 : Shape := ⟨2, ![1040, 384]⟩
abbrev S1040x256 : Shape := ⟨2, ![1040, 256]⟩
abbrev S1040x128 : Shape := ⟨2, ![1040, 128]⟩
abbrev S128 : Shape := ⟨1, ![128]⟩

abbrev nBuf : Space → Nat
  | .hbm => 157
  | .vmem => 34
  | .smem => 0
  | _ => 0

abbrev hbmTy0_0 (i : Nat) : BufTy := match i % 128 with
  | 0 => ⟨S4x2048x512, .f32⟩
  | 1 => ⟨S4x2048x512, .f32⟩
  | 2 => ⟨S4x1024, .f32⟩
  | 3 => ⟨S1x512x1024, .f32⟩
  | 4 => ⟨S1x1024, .f32⟩
  | 5 => ⟨S1x4x128x128, .f32⟩
  | 6 => ⟨S1x4x128, .f32⟩
  | 7 => ⟨S1x512, .f32⟩
  | 8 => ⟨S1x1024x1024, .f32⟩
  | 9 => ⟨S4x2048x1024, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S_, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S4x2048x512, .f32⟩
  | 30 => ⟨S512x1024, .f32⟩
  | 31 => ⟨S4x2048x1024, .f32⟩
  | 32 => ⟨S1024, .f32⟩
  | 33 => ⟨S1x1x1024, .f32⟩
  | 34 => ⟨S4x2048x1024, .f32⟩
  | 35 => ⟨S4x2048x1024, .f32⟩
  | 36 => ⟨S4x2048x512, .f32⟩
  | 37 => ⟨S4x2048x512, .f32⟩
  | 38 => ⟨S4x2048x512, .f32⟩
  | 39 => ⟨S4x2048x512, .f32⟩
  | 40 => ⟨S_, .f32⟩
  | 41 => ⟨S4x2048x512, .f32⟩
  | 42 => ⟨S4x2048x512, .f32⟩
  | 43 => ⟨S_, .f32⟩
  | 44 => ⟨S4x2048x512, .f32⟩
  | 45 => ⟨S4x2048x512, .f32⟩
  | 46 => ⟨S4x2048x512, .f32⟩
  | 47 => ⟨S4x128x128, .f32⟩
  | 48 => ⟨S4x128, .f32⟩
  | 49 => ⟨S512, .f32⟩
  | 50 => ⟨S_, .f32⟩
  | 51 => ⟨S4x1x512, .f32⟩
  | 52 => ⟨S_, .f32⟩
  | 53 => ⟨S_, .f32⟩
  | 54 => ⟨S4x2048x512, .f32⟩
  | 55 => ⟨S4x2049x512, .f32⟩
  | 56 => ⟨S2048, .f32⟩
  | 57 => ⟨S_, .f32⟩
  | 58 => ⟨S2048, .f32⟩
  | 59 => ⟨S2048, .f32⟩
  | 60 => ⟨S1x2048x1, .f32⟩
  | 61 => ⟨S4x2049x128, .f32⟩
  | 62 => ⟨S_, .f32⟩
  | 63 => ⟨S4x1x128, .f32⟩
  | 64 => ⟨S4x2047x128, .f32⟩
  | 65 => ⟨S4x2048x128, .f32⟩
  | 66 => ⟨S4x2048x128, .f32⟩
  | 67 => ⟨S4x2048x128, .f32⟩
  | 68 => ⟨S_, .f32⟩
  | 69 => ⟨S1x2048x1, .f32⟩
  | 70 => ⟨S1x2048x1, .f32⟩
  | 71 => ⟨S4x2048x128, .f32⟩
  | 72 => ⟨S4x2048x128, .f32⟩
  | 73 => ⟨S4x2048x128, .f32⟩
  | 74 => ⟨S4x2048x128, .f32⟩
  | 75 => ⟨S4x2049x128, .f32⟩
  | 76 => ⟨S_, .f32⟩
  | 77 => ⟨S4x3x128, .f32⟩
  | 78 => ⟨S4x2045x128, .f32⟩
  | 79 => ⟨S4x2048x128, .f32⟩
  | 80 => ⟨S4x2048x128, .f32⟩
  | 81 => ⟨S4x2048x128, .f32⟩
  | 82 => ⟨S_, .f32⟩
  | 83 => ⟨S1x2048x1, .f32⟩
  | 84 => ⟨S1x2048x1, .f32⟩
  | 85 => ⟨S4x2048x128, .f32⟩
  | 86 => ⟨S4x2048x128, .f32⟩
  | 87 => ⟨S4x2048x128, .f32⟩
  | 88 => ⟨S4x2048x128, .f32⟩
  | 89 => ⟨S4x2049x128, .f32⟩
  | 90 => ⟨S_, .f32⟩
  | 91 => ⟨S4x7x128, .f32⟩
  | 92 => ⟨S4x2041x128, .f32⟩
  | 93 => ⟨S4x2048x128, .f32⟩
  | 94 => ⟨S4x2048x128, .f32⟩
  | 95 => ⟨S4x2048x128, .f32⟩
  | 96 => ⟨S_, .f32⟩
  | 97 => ⟨S1x2048x1, .f32⟩
  | 98 => ⟨S1x2048x1, .f32⟩
  | 99 => ⟨S4x2048x128, .f32⟩
  | 100 => ⟨S4x2048x128, .f32⟩
  | 101 => ⟨S4x2048x128, .f32⟩
  | 102 => ⟨S4x2048x128, .f32⟩
  | 103 => ⟨S4x2049x128, .f32⟩
  | 104 => ⟨S_, .f32⟩
  | 105 => ⟨S4x15x128, .f32⟩
  | 106 => ⟨S4x2033x128, .f32⟩
  | 107 => ⟨S4x2048x128, .f32⟩
  | 108 => ⟨S4x2048x128, .f32⟩
  | 109 => ⟨S4x2048x128, .f32⟩
  | 110 => ⟨S_, .f32⟩
  | 111 => ⟨S1x2048x1, .f32⟩
  | 112 => ⟨S1x2048x1, .f32⟩
  | 113 => ⟨S4x2048x128, .f32⟩
  | 114 => ⟨S4x2048x128, .f32⟩
  | 115 => ⟨S4x2048x128, .f32⟩
  | 116 => ⟨S4x2048x128, .f32⟩
  | 117 => ⟨S4x2048x1x128, .f32⟩
  | 118 => ⟨S4x2048x1x128, .f32⟩
  | 119 => ⟨S4x2048x1x128, .f32⟩
  | 120 => ⟨S4x2048x1x128, .f32⟩
  | 121 => ⟨S4x2048x4x128, .f32⟩
  | 122 => ⟨S4x128x4x2048, .f32⟩
  | 123 => ⟨S4x2048x4x128, .f32⟩
  | 124 => ⟨S1x1x4x128, .f32⟩
  | 125 => ⟨S4x2048x4x128, .f32⟩
  | 126 => ⟨S4x2048x4x128, .f32⟩
  | 127 => ⟨S4x2048x512, .f32⟩
  | _ => ⟨S4x2048x512, .f32⟩

abbrev hbmTy0_1 (i : Nat) : BufTy := match i % 128 with
  | 0 => ⟨S1x1x512, .f32⟩
  | 1 => ⟨S4x2048x512, .f32⟩
  | 2 => ⟨S4x2048x512, .f32⟩
  | 3 => ⟨S4x2048x1024, .f32⟩
  | 4 => ⟨S1024x1024, .f32⟩
  | 5 => ⟨S4x2048x1024, .f32⟩
  | 6 => ⟨S2048x4x512, .f32⟩
  | 7 => ⟨S2048x2048, .f32⟩
  | 8 => ⟨S2048x2048, .bf16⟩
  | 9 => ⟨S4x2048x1024, .bf16⟩
  | 10 => ⟨S4x2048x1024, .bf16⟩
  | 11 => ⟨S4x1x1024, .f32⟩
  | 12 => ⟨S512x1024, .f32⟩
  | 13 => ⟨S512x1024, .bf16⟩
  | 14 => ⟨S4x128x128, .f32⟩
  | 15 => ⟨S4x128x128, .bf16⟩
  | 16 => ⟨S4x128, .f32⟩
  | 17 => ⟨S1x512, .f32⟩
  | 18 => ⟨S1024x1024, .f32⟩
  | 19 => ⟨S1024x1024, .bf16⟩
  | 20 => ⟨S2048x2048, .bf16⟩
  | 21 => ⟨S4x2048x512, .f32⟩
  | 22 => ⟨S1024x1024, .f32⟩
  | 23 => ⟨S512x1024, .f32⟩
  | 24 => ⟨S1x1024, .f32⟩
  | 25 => ⟨S4x128x128, .f32⟩
  | 26 => ⟨S1x512, .f32⟩
  | 27 => ⟨S1x512, .f32⟩
  | 28 => ⟨S4x1x1024, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x16x512, .f32⟩
  | .local _ .vmem, ⟨11, _⟩ => ⟨S1x16x512, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S1x1024, .f32⟩
  | .local _ .vmem, ⟨16, _⟩ => ⟨S4x128x128, .bf16⟩
  | .local _ .vmem, ⟨17, _⟩ => ⟨S1x512, .f32⟩
  | .local _ .vmem, ⟨18, _⟩ => ⟨S1x512, .f32⟩
  | .local _ .vmem, ⟨19, _⟩ => ⟨S1024x1024, .bf16⟩
  | .local _ .vmem, ⟨20, _⟩ => ⟨S1024x512, .bf16⟩
  | .local _ .vmem, ⟨21, _⟩ => ⟨S1024x512, .bf16⟩
  | .local _ .vmem, ⟨22, _⟩ => ⟨S1x1024x512, .f32⟩
  | .local _ .vmem, ⟨23, _⟩ => ⟨S1x1024x512, .f32⟩
  | .local _ .vmem, ⟨24, _⟩ => ⟨S1024x1024, .f32⟩
  | .local _ .vmem, ⟨25, _⟩ => ⟨S512x1024, .f32⟩
  | .local _ .vmem, ⟨26, _⟩ => ⟨S1x1024, .f32⟩
  | .local _ .vmem, ⟨27, _⟩ => ⟨S4x128x128, .f32⟩
  | .local _ .vmem, ⟨28, _⟩ => ⟨S1x512, .f32⟩
  | .local _ .vmem, ⟨29, _⟩ => ⟨S1x512, .f32⟩
  | .local _ .vmem, ⟨30, _⟩ => ⟨S1x1x1024, .f32⟩
  | .local _ .vmem, ⟨31, _⟩ => ⟨S1x1x1024, .f32⟩
  | .local _ .vmem, ⟨32, _⟩ => ⟨S1040x512, .f32⟩
  | .local _ .vmem, ⟨33, _⟩ => ⟨S1040x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_call0_call0_cst : Ref sig .tc := ⟨.hbm, 52, rfl⟩
abbrev main_call0_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119_0 : Ref sig .tc := ⟨.hbm, 148, rfl⟩
abbrev main_v119_1 : Ref sig .tc := ⟨.hbm, 149, rfl⟩
abbrev main_v119_2 : Ref sig .tc := ⟨.hbm, 150, rfl⟩
abbrev main_v119_3 : Ref sig .tc := ⟨.hbm, 151, rfl⟩
abbrev main_v119_4 : Ref sig .tc := ⟨.hbm, 152, rfl⟩
abbrev main_v119_5 : Ref sig .tc := ⟨.hbm, 153, rfl⟩
abbrev main_v119_6 : Ref sig .tc := ⟨.hbm, 154, rfl⟩
abbrev main_v119_7 : Ref sig .tc := ⟨.hbm, 155, rfl⟩
abbrev main_v119_8 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c64_i32 : BitVec 32 := 64#32
  let v1 : BitVec 32 := Scalar.muli v0 c64_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== MixOutIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== MixOutRefIdeal.lean ====
abbrev S4x2048x512 : Shape := ⟨3, ![4, 2048, 512]⟩
abbrev S4x1024 : Shape := ⟨2, ![4, 1024]⟩
abbrev S1x512x1024 : Shape := ⟨3, ![1, 512, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x512 : Shape := ⟨2, ![1, 512]⟩
abbrev S1x1024x1024 : Shape := ⟨3, ![1, 1024, 1024]⟩
abbrev S4x2048x1024 : Shape := ⟨3, ![4, 2048, 1024]⟩
abbrev S_ : Shape := ⟨0, ![]⟩
abbrev S512x1024 : Shape := ⟨2, ![512, 1024]⟩
abbrev S1024 : Shape := ⟨1, ![1024]⟩
abbrev S1x1x1024 : Shape := ⟨3, ![1, 1, 1024]⟩
abbrev S4x128x128 : Shape := ⟨3, ![4, 128, 128]⟩
abbrev S4x128 : Shape := ⟨2, ![4, 128]⟩
abbrev S512 : Shape := ⟨1, ![512]⟩
abbrev S4x1x512 : Shape := ⟨3, ![4, 1, 512]⟩
abbrev S4x2049x512 : Shape := ⟨3, ![4, 2049, 512]⟩
abbrev S2048 : Shape := ⟨1, ![2048]⟩
abbrev S1x2048x1 : Shape := ⟨3, ![1, 2048, 1]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x2048x4x128 : Shape := ⟨4, ![4, 2048, 4, 128]⟩
abbrev S4x128x4x2048 : Shape := ⟨4, ![4, 128, 4, 2048]⟩
abbrev S1x1x4x128 : Shape := ⟨4, ![1, 1, 4, 128]⟩
abbrev S1x1x512 : Shape := ⟨3, ![1, 1, 512]⟩
abbrev S1024x1024 : Shape := ⟨2, ![1024, 1024]⟩
abbrev S4x1x1024 : Shape := ⟨3, ![4, 1, 1024]⟩
abbrev S4x4x2048x128 : Shape := ⟨4, ![4, 4, 2048, 128]⟩
abbrev S1024x512 : Shape := ⟨2, ![1024, 512]⟩
abbrev S2048x4x512 : Shape := ⟨3, ![2048, 4, 512]⟩
abbrev S2048x2048 : Shape := ⟨2, ![2048, 2048]⟩

abbrev nBuf : Space → Nat
  | .hbm => 321
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x1024, .f32⟩
  | 3 => ⟨S1x512x1024, .f32⟩
  | 4 => ⟨S1x1024, .f32⟩
  | 5 => ⟨S1x4x128x128, .f32⟩
  | 6 => ⟨S1x4x128, .f32⟩
  | 7 => ⟨S1x512, .f32⟩
  | 8 => ⟨S1x1024x1024, .f32⟩
  | 9 => ⟨S4x2048x1024, .f32⟩
  | 10 => ⟨S_, .f32⟩
  | 11 => ⟨S4x2048x1024, .f32⟩
  | 12 => ⟨S4x2048x512, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S_, .f32⟩
  | 19 => ⟨S4x2048x512, .f32⟩
  | 20 => ⟨S4x2048x512, .f32⟩
  | 21 => ⟨S_, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S_, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S4x2048x512, .f32⟩
  | 36 => ⟨S_, .f32⟩
  | 37 => ⟨S4x2048x512, .f32⟩
  | 38 => ⟨S4x2048x512, .f32⟩
  | 39 => ⟨S_, .f32⟩
  | 40 => ⟨S4x2048x512, .f32⟩
  | 41 => ⟨S4x2048x512, .f32⟩
  | 42 => ⟨S4x2048x512, .f32⟩
  | 43 => ⟨S512x1024, .f32⟩
  | 44 => ⟨S4x2048x1024, .f32⟩
  | 45 => ⟨S1024, .f32⟩
  | 46 => ⟨S1x1x1024, .f32⟩
  | 47 => ⟨S4x2048x1024, .f32⟩
  | 48 => ⟨S4x2048x1024, .f32⟩
  | 49 => ⟨S4x2048x512, .f32⟩
  | 50 => ⟨S4x2048x512, .f32⟩
  | 51 => ⟨S4x2048x512, .f32⟩
  | 52 => ⟨S4x2048x512, .f32⟩
  | 53 => ⟨S_, .f32⟩
  | 54 => ⟨S4x2048x512, .f32⟩
  | 55 => ⟨S4x2048x512, .f32⟩
  | 56 => ⟨S_, .f32⟩
  | 57 => ⟨S4x2048x512, .f32⟩
  | 58 => ⟨S4x2048x512, .f32⟩
  | 59 => ⟨S_, .f32⟩
  | 60 => ⟨S4x2048x512, .f32⟩
  | 61 => ⟨S4x2048x512, .f32⟩
  | 62 => ⟨S4x2048x512, .f32⟩
  | 63 => ⟨S4x2048x512, .f32⟩
  | 64 => ⟨S4x128x128, .f32⟩
  | 65 => ⟨S4x128, .f32⟩
  | 66 => ⟨S512, .f32⟩
  | 67 => ⟨S_, .f32⟩
  | 68 => ⟨S4x1x512, .f32⟩
  | 69 => ⟨S_, .f32⟩
  | 70 => ⟨S_, .f32⟩
  | 71 => ⟨S4x2048x512, .f32⟩
  | 72 => ⟨S4x2049x512, .f32⟩
  | 73 => ⟨S_, .f32⟩
  | 74 => ⟨S4x1x512, .f32⟩
  | 75 => ⟨S2048, .f32⟩
  | 76 => ⟨S_, .f32⟩
  | 77 => ⟨S2048, .f32⟩
  | 78 => ⟨S2048, .f32⟩
  | 79 => ⟨S1x2048x1, .f32⟩
  | 80 => ⟨S4x2049x128, .f32⟩
  | 81 => ⟨S_, .f32⟩
  | 82 => ⟨S4x1x128, .f32⟩
  | 83 => ⟨S4x2047x128, .f32⟩
  | 84 => ⟨S4x2048x128, .f32⟩
  | 85 => ⟨S_, .f32⟩
  | 86 => ⟨S4x1x128, .f32⟩
  | 87 => ⟨S4x2048x128, .f32⟩
  | 88 => ⟨S4x2048x128, .f32⟩
  | 89 => ⟨S_, .f32⟩
  | 90 => ⟨S1x2048x1, .f32⟩
  | 91 => ⟨S1x2048x1, .f32⟩
  | 92 => ⟨S4x2048x128, .f32⟩
  | 93 => ⟨S4x2048x128, .f32⟩
  | 94 => ⟨S4x2048x128, .f32⟩
  | 95 => ⟨S4x2048x128, .f32⟩
  | 96 => ⟨S4x2049x128, .f32⟩
  | 97 => ⟨S_, .f32⟩
  | 98 => ⟨S4x3x128, .f32⟩
  | 99 => ⟨S4x2045x128, .f32⟩
  | 100 => ⟨S4x2048x128, .f32⟩
  | 101 => ⟨S_, .f32⟩
  | 102 => ⟨S4x3x128, .f32⟩
  | 103 => ⟨S4x2048x128, .f32⟩
  | 104 => ⟨S4x2048x128, .f32⟩
  | 105 => ⟨S_, .f32⟩
  | 106 => ⟨S1x2048x1, .f32⟩
  | 107 => ⟨S1x2048x1, .f32⟩
  | 108 => ⟨S4x2048x128, .f32⟩
  | 109 => ⟨S4x2048x128, .f32⟩
  | 110 => ⟨S4x2048x128, .f32⟩
  | 111 => ⟨S4x2048x128, .f32⟩
  | 112 => ⟨S4x2049x128, .f32⟩
  | 113 => ⟨S_, .f32⟩
  | 114 => ⟨S4x7x128, .f32⟩
  | 115 => ⟨S4x2041x128, .f32⟩
  | 116 => ⟨S4x2048x128, .f32⟩
  | 117 => ⟨S_, .f32⟩
  | 118 => ⟨S4x7x128, .f32⟩
  | 119 => ⟨S4x2048x128, .f32⟩
  | 120 => ⟨S4x2048x128, .f32⟩
  | 121 => ⟨S_, .f32⟩
  | 122 => ⟨S1x2048x1, .f32⟩
  | 123 => ⟨S1x2048x1, .f32⟩
  | 124 => ⟨S4x2048x128, .f32⟩
  | 125 => ⟨S4x2048x128, .f32⟩
  | 126 => ⟨S4x2048x128, .f32⟩
  | 127 => ⟨S4x2048x128, .f32⟩
  | _ => ⟨S4x2048x512, .f32⟩

abbrev hbmTy0_1 (i : Nat) : BufTy := match i % 128 with
  | 0 => ⟨S4x2049x128, .f32⟩
  | 1 => ⟨S_, .f32⟩
  | 2 => ⟨S4x15x128, .f32⟩
  | 3 => ⟨S4x2033x128, .f32⟩
  | 4 => ⟨S4x2048x128, .f32⟩
  | 5 => ⟨S_, .f32⟩
  | 6 => ⟨S4x15x128, .f32⟩
  | 7 => ⟨S4x2048x128, .f32⟩
  | 8 => ⟨S4x2048x128, .f32⟩
  | 9 => ⟨S_, .f32⟩
  | 10 => ⟨S1x2048x1, .f32⟩
  | 11 => ⟨S1x2048x1, .f32⟩
  | 12 => ⟨S4x2048x128, .f32⟩
  | 13 => ⟨S4x2048x128, .f32⟩
  | 14 => ⟨S4x2048x128, .f32⟩
  | 15 => ⟨S4x2048x128, .f32⟩
  | 16 => ⟨S4x2048x1x128, .f32⟩
  | 17 => ⟨S4x2048x1x128, .f32⟩
  | 18 => ⟨S4x2048x1x128, .f32⟩
  | 19 => ⟨S4x2048x1x128, .f32⟩
  | 20 => ⟨S4x2048x4x128, .f32⟩
  | 21 => ⟨S4x128x4x2048, .f32⟩
  | 22 => ⟨S4x2048x4x128, .f32⟩
  | 23 => ⟨S1x1x4x128, .f32⟩
  | 24 => ⟨S4x2048x4x128, .f32⟩
  | 25 => ⟨S4x2048x4x128, .f32⟩
  | 26 => ⟨S4x2048x512, .f32⟩
  | 27 => ⟨S1x1x512, .f32⟩
  | 28 => ⟨S4x2048x512, .f32⟩
  | 29 => ⟨S4x2048x512, .f32⟩
  | 30 => ⟨S4x2048x1024, .f32⟩
  | 31 => ⟨S1024x1024, .f32⟩
  | 32 => ⟨S4x2048x1024, .f32⟩
  | 33 => ⟨S4x1x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S_, .f32⟩
  | 41 => ⟨S4x1024, .f32⟩
  | 42 => ⟨S4x1x1024, .f32⟩
  | 43 => ⟨S_, .f32⟩
  | 44 => ⟨S4x1024, .f32⟩
  | 45 => ⟨S1024x1024, .f32⟩
  | 46 => ⟨S1024x1024, .f32⟩
  | 47 => ⟨S4x2048x1024, .f32⟩
  | 48 => ⟨S1x1024x1024, .f32⟩
  | 49 => ⟨S4x2048x512, .f32⟩
  | 50 => ⟨S4x2048x512, .f32⟩
  | 51 => ⟨S4x2048x512, .f32⟩
  | 52 => ⟨S_, .f32⟩
  | 53 => ⟨S512, .f32⟩
  | 54 => ⟨S1x1x512, .f32⟩
  | 55 => ⟨S4x2048x512, .f32⟩
  | 56 => ⟨S4x2048x512, .f32⟩
  | 57 => ⟨S_, .f32⟩
  | 58 => ⟨S512, .f32⟩
  | 59 => ⟨S4x2048x4x128, .f32⟩
  | 60 => ⟨S_, .f32⟩
  | 61 => ⟨S4x128, .f32⟩
  | 62 => ⟨S1x1x4x128, .f32⟩
  | 63 => ⟨S_, .f32⟩
  | 64 => ⟨S4x128, .f32⟩
  | 65 => ⟨S4x128x4x2048, .f32⟩
  | 66 => ⟨S4x4x2048x128, .f32⟩
  | 67 => ⟨S4x2048x4x128, .f32⟩
  | 68 => ⟨S4x128x128, .f32⟩
  | 69 => ⟨S4x128x128, .f32⟩
  | 70 => ⟨S4x2048x1x128, .f32⟩
  | 71 => ⟨S4x2048x128, .f32⟩
  | 72 => ⟨S4x2048x1x128, .f32⟩
  | 73 => ⟨S4x2048x128, .f32⟩
  | 74 => ⟨S4x2048x1x128, .f32⟩
  | 75 => ⟨S4x2048x128, .f32⟩
  | 76 => ⟨S4x2048x1x128, .f32⟩
  | 77 => ⟨S4x2048x128, .f32⟩
  | 78 => ⟨S4x2048x128, .f32⟩
  | 79 => ⟨S_, .f32⟩
  | 80 => ⟨S4x2048x512, .f32⟩
  | 81 => ⟨S4x2048x128, .f32⟩
  | 82 => ⟨S4x2048x128, .f32⟩
  | 83 => ⟨S4x2048x128, .f32⟩
  | 84 => ⟨S_, .f32⟩
  | 85 => ⟨S4x2049x128, .f32⟩
  | 86 => ⟨S4x15x128, .f32⟩
  | 87 => ⟨S4x2033x128, .f32⟩
  | 88 => ⟨S_, .f32⟩
  | 89 => ⟨S4x2049x128, .f32⟩
  | 90 => ⟨S4x2049x128, .f32⟩
  | 91 => ⟨S_, .f32⟩
  | 92 => ⟨S4x2049x512, .f32⟩
  | 93 => ⟨S4x2048x128, .f32⟩
  | 94 => ⟨S_, .f32⟩
  | 95 => ⟨S4x2048x512, .f32⟩
  | 96 => ⟨S4x2048x512, .f32⟩
  | 97 => ⟨S4x2048x128, .f32⟩
  | 98 => ⟨S4x2048x128, .f32⟩
  | 99 => ⟨S4x2048x128, .f32⟩
  | 100 => ⟨S_, .f32⟩
  | 101 => ⟨S4x2049x128, .f32⟩
  | 102 => ⟨S4x7x128, .f32⟩
  | 103 => ⟨S4x2041x128, .f32⟩
  | 104 => ⟨S_, .f32⟩
  | 105 => ⟨S4x2049x128, .f32⟩
  | 106 => ⟨S4x2049x128, .f32⟩
  | 107 => ⟨S_, .f32⟩
  | 108 => ⟨S4x2049x512, .f32⟩
  | 109 => ⟨S4x2049x512, .f32⟩
  | 110 => ⟨S4x2048x128, .f32⟩
  | 111 => ⟨S_, .f32⟩
  | 112 => ⟨S4x2048x512, .f32⟩
  | 113 => ⟨S4x2048x512, .f32⟩
  | 114 => ⟨S4x2048x128, .f32⟩
  | 115 => ⟨S4x2048x128, .f32⟩
  | 116 => ⟨S4x2048x128, .f32⟩
  | 117 => ⟨S_, .f32⟩
  | 118 => ⟨S4x2049x128, .f32⟩
  | 119 => ⟨S4x3x128, .f32⟩
  | 120 => ⟨S4x2045x128, .f32⟩
  | 121 => ⟨S_, .f32⟩
  | 122 => ⟨S4x2049x128, .f32⟩
  | 123 => ⟨S4x2049x128, .f32⟩
  | 124 => ⟨S_, .f32⟩
  | 125 => ⟨S4x2049x512, .f32⟩
  | 126 => ⟨S4x2049x512, .f32⟩
  | 127 => ⟨S4x2048x128, .f32⟩
  | _ => ⟨S4x2048x512, .f32⟩

abbrev hbmTy0_2 (i : Nat) : BufTy := match i % 128 with
  | 0 => ⟨S_, .f32⟩
  | 1 => ⟨S4x2048x512, .f32⟩
  | 2 => ⟨S4x2048x512, .f32⟩
  | 3 => ⟨S4x2048x128, .f32⟩
  | 4 => ⟨S4x2048x128, .f32⟩
  | 5 => ⟨S4x2048x128, .f32⟩
  | 6 => ⟨S_, .f32⟩
  | 7 => ⟨S4x2049x128, .f32⟩
  | 8 => ⟨S4x1x128, .f32⟩
  | 9 => ⟨S4x2047x128, .f32⟩
  | 10 => ⟨S_, .f32⟩
  | 11 => ⟨S4x2049x128, .f32⟩
  | 12 => ⟨S4x2049x128, .f32⟩
  | 13 => ⟨S_, .f32⟩
  | 14 => ⟨S4x2049x512, .f32⟩
  | 15 => ⟨S4x2049x512, .f32⟩
  | 16 => ⟨S4x1x512, .f32⟩
  | 17 => ⟨S4x2048x512, .f32⟩
  | 18 => ⟨S_, .f32⟩
  | 19 => ⟨S_, .f32⟩
  | 20 => ⟨S4x2048x512, .f32⟩
  | 21 => ⟨S4x2048x512, .f32⟩
  | 22 => ⟨S1x512, .f32⟩
  | 23 => ⟨S1x4x128, .f32⟩
  | 24 => ⟨S1x4x128x128, .f32⟩
  | 25 => ⟨S4x2048x512, .f32⟩
  | 26 => ⟨S4x2048x512, .f32⟩
  | 27 => ⟨S4x2048x512, .f32⟩
  | 28 => ⟨S4x2048x1024, .f32⟩
  | 29 => ⟨S_, .f32⟩
  | 30 => ⟨S1024, .f32⟩
  | 31 => ⟨S1x1x1024, .f32⟩
  | 32 => ⟨S_, .f32⟩
  | 33 => ⟨S1024, .f32⟩
  | 34 => ⟨S1x1024, .f32⟩
  | 35 => ⟨S1024x512, .f32⟩
  | 36 => ⟨S512x1024, .f32⟩
  | 37 => ⟨S4x2048x512, .f32⟩
  | 38 => ⟨S1x512x1024, .f32⟩
  | 39 => ⟨S4x2048x512, .f32⟩
  | 40 => ⟨S4x2048x512, .f32⟩
  | 41 => ⟨S_, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S4x2048x512, .f32⟩
  | 56 => ⟨S4x2048x512, .f32⟩
  | 57 => ⟨S2048x4x512, .f32⟩
  | 58 => ⟨S2048x2048, .f32⟩
  | 59 => ⟨S2048x2048, .bf16⟩
  | 60 => ⟨S1024x1024, .f32⟩
  | 61 => ⟨S512x1024, .f32⟩
  | 62 => ⟨S4x128x128, .f32⟩
  | 63 => ⟨S1x512, .f32⟩
  | 64 => ⟨S4x1x1024, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_call0_call0_cst : Ref sig .tc := ⟨.hbm, 69, rfl⟩
abbrev main_call0_call0_v0 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_19 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_21 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_22 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_23 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_24 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_25 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_26 : Ref sig .tc := ⟨.hbm, 168, rfl⟩
abbrev main_v129 : Ref sig .tc := ⟨.hbm, 169, rfl⟩
abbrev main_v130 : Ref sig .tc := ⟨.hbm, 170, rfl⟩
abbrev main_cst_27 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_28 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_29 : Ref sig .tc := ⟨.hbm, 185, rfl⟩
abbrev main_v143 : Ref sig .tc := ⟨.hbm, 186, rfl⟩
abbrev main_v144 : Ref sig .tc := ⟨.hbm, 187, rfl⟩
abbrev main_cst_30 : Ref sig .tc := ⟨.hbm, 188, rfl⟩
abbrev main_v145 : Ref sig .tc := ⟨.hbm, 189, rfl⟩
abbrev main_v146 : Ref sig .tc := ⟨.hbm, 190, rfl⟩
abbrev main_cst_31 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_32 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_33 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_34 : Ref sig .tc := ⟨.hbm, 216, rfl⟩
abbrev main_v169 : Ref sig .tc := ⟨.hbm, 217, rfl⟩
abbrev main_v170 : Ref sig .tc := ⟨.hbm, 218, rfl⟩
abbrev main_cst_35 : Ref sig .tc := ⟨.hbm, 219, rfl⟩
abbrev main_v171 : Ref sig .tc := ⟨.hbm, 220, rfl⟩
abbrev main_v172 : Ref sig .tc := ⟨.hbm, 221, rfl⟩
abbrev main_cst_36 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_37 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_38 : Ref sig .tc := ⟨.hbm, 232, rfl⟩
abbrev main_v181 : Ref sig .tc := ⟨.hbm, 233, rfl⟩
abbrev main_v182 : Ref sig .tc := ⟨.hbm, 234, rfl⟩
abbrev main_cst_39 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_40 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_41 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_cst_42 : Ref sig .tc := ⟨.hbm, 249, rfl⟩
abbrev main_v194 : Ref sig .tc := ⟨.hbm, 250, rfl⟩
abbrev main_v195 : Ref sig .tc := ⟨.hbm, 251, rfl⟩
abbrev main_cst_43 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_44 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_45 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_cst_46 : Ref sig .tc := ⟨.hbm, 266, rfl⟩
abbrev main_v207 : Ref sig .tc := ⟨.hbm, 267, rfl⟩
abbrev main_v208 : Ref sig .tc := ⟨.hbm, 268, rfl⟩
abbrev main_cst_47 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_call1_call0_cst : Ref sig .tc := ⟨.hbm, 274, rfl⟩
abbrev main_call1_call0_v0 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_48 : Ref sig .tc := ⟨.hbm, 285, rfl⟩
abbrev main_v222 : Ref sig .tc := ⟨.hbm, 286, rfl⟩
abbrev main_v223 : Ref sig .tc := ⟨.hbm, 287, rfl⟩
abbrev main_cst_49 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_cst_50 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_cst_51 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_cst_52 : Ref sig .tc := ⟨.hbm, 305, rfl⟩
abbrev main_v238 : Ref sig .tc := ⟨.hbm, 306, rfl⟩
abbrev main_v239 : Ref sig .tc := ⟨.hbm, 307, rfl⟩
abbrev main_cst_53 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩

abbrev nD : Nat := 1
abbrev τ : Topo := Topo.v7x

variable {F : FTy → Type} [FloatOps F]
-- ==== SsmParamBwd.lean ====
abbrev S1x32x64 : Shape := ⟨3, ![1, 32, 64]⟩
abbrev S1x32 : Shape := ⟨2, ![1, 32]⟩
abbrev S1x32x64x16 : Shape := ⟨4, ![1, 32, 64, 16]⟩
abbrev S4x32x64 : Shape := ⟨3, ![4, 32, 64]⟩
abbrev S32x64x16 : Shape := ⟨3, ![32, 64, 16]⟩
abbrev S4x512 : Shape := ⟨2, ![4, 512]⟩
abbrev S32x64 : Shape := ⟨2, ![32, 64]⟩
abbrev S1x2048 : Shape := ⟨2, ![1, 2048]⟩
abbrev S32 : Shape := ⟨1, ![32]⟩
abbrev S2048 : Shape := ⟨1, ![2048]⟩
abbrev S16x32x64 : Shape := ⟨3, ![16, 32, 64]⟩
abbrev S16x2048 : Shape := ⟨2, ![16, 2048]⟩
abbrev S8x1024 : Shape := ⟨2, ![8, 1024]⟩
abbrev S1x8x1024 : Shape := ⟨3, ![1, 8, 1024]⟩
abbrev S2x8x1024 : Shape := ⟨3, ![2, 8, 1024]⟩
abbrev S8x256 : Shape := ⟨2, ![8, 256]⟩
abbrev S1x512 : Shape := ⟨2, ![1, 512]⟩
abbrev S1x1x1024 : Shape := ⟨3, ![1, 1, 1024]⟩
abbrev S1x1024 : Shape := ⟨2, ![1, 1024]⟩
abbrev S1x256 : Shape := ⟨2, ![1, 256]⟩

abbrev nBuf : Space → Nat
  | .hbm => 40
  | .vmem => 15
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S4x32x64, .f32⟩
  | .hbm, ⟨6, _⟩ => ⟨S4x32x64, .f32⟩
  | .hbm, ⟨7, _⟩ => ⟨S32x64x16, .f32⟩
  | .hbm, ⟨8, _⟩ => ⟨S32x64x16, .f32⟩
  | .hbm, ⟨9, _⟩ => ⟨S4x512, .f32⟩
  | .hbm, ⟨10, _⟩ => ⟨S32x64, .f32⟩
  | .hbm, ⟨11, _⟩ => ⟨S1x2048, .f32⟩
  | .hbm, ⟨12, _⟩ => ⟨S32x64, .f32⟩
  | .hbm, ⟨13, _⟩ => ⟨S1x2048, .f32⟩
  | .hbm, ⟨14, _⟩ => ⟨S32, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S32x64x16, .f32⟩
  | .hbm, ⟨19, _⟩ => ⟨S16x32x64, .f32⟩
  | .hbm, ⟨20, _⟩ => ⟨S16x2048, .f32⟩
  | .hbm, ⟨21, _⟩ => ⟨S32x64x16, .f32⟩
  | .hbm, ⟨22, _⟩ => ⟨S16x32x64, .f32⟩
  | .hbm, ⟨23, _⟩ => ⟨S16x2048, .f32⟩
  | .hbm, ⟨24, _⟩ => ⟨S8x1024, .f32⟩
  | .hbm, ⟨25, _⟩ => ⟨S8x1024, .f32⟩
  | .hbm, ⟨26, _⟩ => ⟨S1x8x1024, .f32⟩
  | .hbm, ⟨27, _⟩ => ⟨S1x8x1024, .f32⟩
  | .hbm, ⟨28, _⟩ => ⟨S2x8x1024, .f32⟩
  | .hbm, ⟨29, _⟩ => ⟨S16x32x64, .f32⟩
  | .hbm, ⟨30, _⟩ => ⟨S16x2048, .f32⟩
  | .hbm, ⟨31, _⟩ => ⟨S16x32x64, .f32⟩
  | .hbm, ⟨32, _⟩ => ⟨S16x2048, .f32⟩
  | .hbm, ⟨33, _⟩ => ⟨S8x256, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S16x2048, .f32⟩
  | .hbm, ⟨38, _⟩ => ⟨S16x2048, .f32⟩
  | .hbm, ⟨39, _⟩ => ⟨S1x512, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S2x8x1024, .f32⟩
  | .local _ .vmem, ⟨6, _⟩ => ⟨S16x2048, .f32⟩
  | .local _ .vmem, ⟨7, _⟩ => ⟨S16x2048, .f32⟩
  | .local _ .vmem, ⟨8, _⟩ => ⟨S8x256, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S16x2048, .f32⟩
  | .local _ .vmem, ⟨13, _⟩ => ⟨S16x2048, .f32⟩
  | .local _ .vmem, ⟨14, _⟩ => ⟨S1x512, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SsmParamBwdRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S4x32x64 : Shape := ⟨3, ![4, 32, 64]⟩
abbrev S32x64x16 : Shape := ⟨3, ![32, 64, 16]⟩
abbrev S4x512 : Shape := ⟨2, ![4, 512]⟩
abbrev S32 : Shape := ⟨1, ![32]⟩
abbrev S32x1 : Shape := ⟨2, ![32, 1]⟩
abbrev S32x64 : Shape := ⟨2, ![32, 64]⟩
abbrev S_ : Shape := ⟨0, ![]⟩
abbrev S32x64x1 : Shape := ⟨3, ![32, 64, 1]⟩
abbrev S1x2048 : Shape := ⟨2, ![1, 2048]⟩
abbrev S16x32x64 : Shape := ⟨3, ![16, 32, 64]⟩
abbrev S16x2048 : Shape := ⟨2, ![16, 2048]⟩
abbrev S512 : Shape := ⟨1, ![512]⟩
abbrev S1x512 : Shape := ⟨2, ![1, 512]⟩

abbrev nBuf : Space → Nat
  | .hbm => 168
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S4x32x64, .f32⟩
  | 6 => ⟨S4x32x64, .f32⟩
  | 7 => ⟨S32x64x16, .f32⟩
  | 8 => ⟨S32x64x16, .f32⟩
  | 9 => ⟨S4x512, .f32⟩
  | 10 => ⟨S32, .f32⟩
  | 11 => ⟨S32x1, .f32⟩
  | 12 => ⟨S32x64, .f32⟩
  | 13 => ⟨S_, .f32⟩
  | 14 => ⟨S32x64, .f32⟩
  | 15 => ⟨S_, .f32⟩
  | 16 => ⟨S32x64, .f32⟩
  | 17 => ⟨S32x64, .f32⟩
  | 18 => ⟨S32x64, .f32⟩
  | 19 => ⟨S32x64x16, .f32⟩
  | 20 => ⟨S32x64x16, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64x1, .f32⟩
  | 47 => ⟨S32x64, .f32⟩
  | 48 => ⟨S_, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S_, .f32⟩
  | 56 => ⟨S32x64, .f32⟩
  | 57 => ⟨S32x64, .f32⟩
  | 58 => ⟨S32x64x1, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S32x64x16, .f32⟩
  | 71 => ⟨S32x64x16, .f32⟩
  | 72 => ⟨S32x64x16, .f32⟩
  | 73 => ⟨S32x64x16, .f32⟩
  | 74 => ⟨S_, .f32⟩
  | 75 => ⟨S32x64, .f32⟩
  | 76 => ⟨S32x64x1, .f32⟩
  | 77 => ⟨S32x64x16, .f32⟩
  | 78 => ⟨S32x64x16, .f32⟩
  | 79 => ⟨S32x64x16, .f32⟩
  | 80 => ⟨S_, .f32⟩
  | 81 => ⟨S32x64, .f32⟩
  | 82 => ⟨S32x64x1, .f32⟩
  | 83 => ⟨S32x64x16, .f32⟩
  | 84 => ⟨S32x64x16, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S32x64x1, .f32⟩
  | 93 => ⟨S32x64x16, .f32⟩
  | 94 => ⟨S32x64x16, .f32⟩
  | 95 => ⟨S32x64x16, .f32⟩
  | 96 => ⟨S32x64x16, .f32⟩
  | 97 => ⟨S_, .f32⟩
  | 98 => ⟨S32x64, .f32⟩
  | 99 => ⟨S32x64x1, .f32⟩
  | 100 => ⟨S32x64x1, .f32⟩
  | 101 => ⟨S_, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S_, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S1x2048, .f32⟩
  | 31 => ⟨S1x2048, .f32⟩
  | 32 => ⟨S1x2048, .f32⟩
  | 33 => ⟨S16x32x64, .f32⟩
  | 34 => ⟨S16x2048, .f32⟩
  | 35 => ⟨S16x32x64, .f32⟩
  | 36 => ⟨S16x2048, .f32⟩
  | 37 => ⟨S_, .f32⟩
  | 38 => ⟨S512, .f32⟩
  | 39 => ⟨S1x512, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_5 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_7 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_10 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_11 : Ref sig .tc := ⟨.hbm, 165, rfl⟩
abbrev main_v143 : Ref sig .tc := ⟨.hbm, 166, rfl⟩
abbrev main_v144 : Ref sig .tc := ⟨.hbm, 167, rfl⟩

abbrev nD : Nat := 1
abbrev τ : Topo := Topo.v7x

variable {F : FTy → Type} [FloatOps F]
-- ==== SsmFwd.lean ====
abbrev S4x2048x512 : Shape := ⟨3, ![4, 2048, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S2x1024 : Shape := ⟨2, ![2, 1024]⟩
abbrev S1x2x1x1024 : Shape := ⟨4, ![1, 2, 1, 1024]⟩
abbrev S4x2x1x1024 : Shape := ⟨4, ![4, 2, 1, 1024]⟩
abbrev S8x1024 : Shape := ⟨2, ![8, 1024]⟩
abbrev S1x8x1024 : Shape := ⟨3, ![1, 8, 1024]⟩
abbrev S2x8x1024 : Shape := ⟨3, ![2, 8, 1024]⟩
abbrev S16x32x64 : Shape := ⟨3, ![16, 32, 64]⟩
abbrev S16x2048 : Shape := ⟨2, ![16, 2048]⟩
abbrev S16x2x16x64 : Shape := ⟨4, ![16, 2, 16, 64]⟩
abbrev S2x16x16x64 : Shape := ⟨4, ![2, 16, 16, 64]⟩
abbrev S16x16 : Shape := ⟨2, ![16, 16]⟩
abbrev S_ : Shape := ⟨0, ![]⟩
abbrev S2x16x16x1x64 : Shape := ⟨5, ![2, 16, 16, 1, 64]⟩
abbrev S16x1x16x1 : Shape := ⟨4, ![16, 1, 16, 1]⟩
abbrev S1x16x1x16x1 : Shape := ⟨5, ![1, 16, 1, 16, 1]⟩
abbrev S2x16x16x16x64 : Shape := ⟨5, ![2, 16, 16, 16, 64]⟩
abbrev S2x256x1024 : Shape := ⟨3, ![2, 256, 1024]⟩
abbrev S1x256x1024 : Shape := ⟨3, ![1, 256, 1024]⟩
abbrev S256x1024 : Shape := ⟨2, ![256, 1024]⟩
abbrev S256x4096 : Shape := ⟨2, ![256, 4096]⟩
abbrev S2x16x64x16 : Shape := ⟨4, ![2, 16, 64, 16]⟩
abbrev S2x16x64x1x16 : Shape := ⟨5, ![2, 16, 64, 1, 16]⟩
abbrev S2x16x64x16x16 : Shape := ⟨5, ![2, 16, 64, 16, 16]⟩
abbrev S2x1024x256 : Shape := ⟨3, ![2, 1024, 256]⟩
abbrev S1x1024x256 : Shape := ⟨3, ![1, 1024, 256]⟩
abbrev S1024x256 : Shape := ⟨2, ![1024, 256]⟩
abbrev S1024x512 : Shape := ⟨2, ![1024, 512]⟩
abbrev S2048x512 : Shape := ⟨2, ![2048, 512]⟩
abbrev S2x256 : Shape := ⟨2, ![2, 256]⟩
abbrev S1x2x1x256 : Shape := ⟨4, ![1, 2, 1, 256]⟩
abbrev S4x2x1x256 : Shape := ⟨4, ![4, 2, 1, 256]⟩
abbrev S8x256 : Shape := ⟨2, ![8, 256]⟩
abbrev S2048x4x512 : Shape := ⟨3, ![2048, 4, 512]⟩
abbrev S16384x256 : Shape := ⟨2, ![16384, 256]⟩
abbrev S16x2x8x1024 : Shape := ⟨4, ![16, 2, 8, 1024]⟩
abbrev S16384x1024 : Shape := ⟨2, ![16384, 1024]⟩
abbrev S1x2x8x1024 : Shape := ⟨4, ![1, 2, 8, 1024]⟩
abbrev S1024x1024 : Shape := ⟨2, ![1024, 1024]⟩
abbrev S128x8x1024 : Shape := ⟨3, ![128, 8, 1024]⟩
abbrev S1024x1 : Shape := ⟨2, ![1024, 1]⟩
abbrev S256x512 : Shape := ⟨2, ![256, 512]⟩
abbrev S128x8x512 : Shape := ⟨3, ![128, 8, 512]⟩
abbrev S1x8x512 : Shape := ⟨3, ![1, 8, 512]⟩
abbrev S8x512 : Shape := ⟨2, ![8, 512]⟩
abbrev S128x8x256 : Shape := ⟨3, ![128, 8, 256]⟩
abbrev S1x8x256 : Shape := ⟨3, ![1, 8, 256]⟩

abbrev nBuf : Space → Nat
  | .hbm => 122
  | .vmem => 17
  | .smem => 0
  | _ => 0

abbrev bufTy : (tb : Table) → Fin (tcTables nBuf tb) → BufTy
  | .hbm, ⟨0, _⟩ => ⟨S4x2048x512, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S512, .f32⟩
  | .hbm, ⟨8, _⟩ => ⟨S2x1024, .f32⟩
  | .hbm, ⟨9, _⟩ => ⟨S1x2x1x1024, .f32⟩
  | .hbm, ⟨10, _⟩ => ⟨S4x2x1x1024, .f32⟩
  | .hbm, ⟨11, _⟩ => ⟨S8x1024, .f32⟩
  | .hbm, ⟨12, _⟩ => ⟨S2x1024, .f32⟩
  | .hbm, ⟨13, _⟩ => ⟨S1x2x1x1024, .f32⟩
  | .hbm, ⟨14, _⟩ => ⟨S4x2x1x1024, .f32⟩
  | .hbm, ⟨15, _⟩ => ⟨S8x1024, .f32⟩
  | .hbm, ⟨16, _⟩ => ⟨S1x8x1024, .f32⟩
  | .hbm, ⟨17, _⟩ => ⟨S1x8x1024, .f32⟩
  | .hbm, ⟨18, _⟩ => ⟨S2x8x1024, .f32⟩
  | .hbm, ⟨19, _⟩ => ⟨S16x32x64, .f32⟩
  | .hbm, ⟨20, _⟩ => ⟨S16x2048, .f32⟩
  | .hbm, ⟨21, _⟩ => ⟨S16x32x64, .f32⟩
  | .hbm, ⟨22, _⟩ => ⟨S16x2048, .f32⟩
  | .hbm, ⟨23, _⟩ => ⟨S16x2x16x64, .f32⟩
  | .hbm, ⟨24, _⟩ => ⟨S2x16x16x64, .f32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x16, .f32⟩
  | .hbm, ⟨32, _⟩ => ⟨S2x16x16x1x64, .f32⟩
  | .hbm, ⟨33, _⟩ => ⟨S16x1x16x1, .f32⟩
  | .hbm, ⟨34, _⟩ => ⟨S1x16x1x16x1, .f32⟩
  | .hbm, ⟨35, _⟩ => ⟨S2x16x16x16x64, .f32⟩
  | .hbm, ⟨36, _⟩ => ⟨S2x16x16x16x64, .f32⟩
  | .hbm, ⟨37, _⟩ => ⟨S2x16x16x16x64, .f32⟩
  | .hbm, ⟨38, _⟩ => ⟨S2x256x1024, .f32⟩
  | .hbm, ⟨39, _⟩ => ⟨S16x2x16x64, .f32⟩
  | .hbm, ⟨40, _⟩ => ⟨S2x16x16x64, .f32⟩
  | .hbm, ⟨41, _⟩ => ⟨S16x16, .i32⟩
  | .hbm, ⟨42, _⟩ => ⟨S16x16, .i32⟩
  | .hbm, ⟨43, _⟩ => ⟨S_, .i32⟩
  | .hbm, ⟨44, _⟩ => ⟨S16x16, .i32⟩
  | .hbm, ⟨45, _⟩ => ⟨S16x16, .i32⟩
  | .hbm, ⟨46, _⟩ => ⟨S16x16, .i1⟩
  | .hbm, ⟨47, _⟩ => ⟨S16x16, .f32⟩
  | .hbm, ⟨48, _⟩ => ⟨S2x16x16x1x64, .f32⟩
  | .hbm, ⟨49, _⟩ => ⟨S16x1x16x1, .f32⟩
  | .hbm, ⟨50, _⟩ => ⟨S1x16x1x16x1, .f32⟩
  | .hbm, ⟨51, _⟩ => ⟨S2x16x16x16x64, .f32⟩
  | .hbm, ⟨52, _⟩ => ⟨S2x16x16x16x64, .f32⟩
  | .hbm, ⟨53, _⟩ => ⟨S2x16x16x16x64, .f32⟩
  | .hbm, ⟨54, _⟩ => ⟨S2x256x1024, .f32⟩
  | .hbm, ⟨55, _⟩ => ⟨S1x256x1024, .f32⟩
  | .hbm, ⟨56, _⟩ => ⟨S256x1024, .f32⟩
  | .hbm, ⟨57, _⟩ => ⟨S1x256x1024, .f32⟩
  | .hbm, ⟨58, _⟩ => ⟨S256x1024, .f32⟩
  | .hbm, ⟨59, _⟩ => ⟨S1x256x1024, .f32⟩
  | .hbm, ⟨60, _⟩ => ⟨S256x1024, .f32⟩
  | .hbm, ⟨61, _⟩ => ⟨S1x256x1024, .f32⟩
  | .hbm, ⟨62, _⟩ => ⟨S256x1024, .f32⟩
  | .hbm, ⟨63, _⟩ => ⟨S256x4096, .f32⟩
  | .hbm, ⟨64, _⟩ => ⟨S256x4096, .bf16⟩
  | .hbm, ⟨65, _⟩ => ⟨S2x16x16x64, .f32⟩
  | .hbm, ⟨66, _⟩ => ⟨S2x16x64x16, .f32⟩
  | .hbm, ⟨67, _⟩ => ⟨S16x16, .i32⟩
  | .hbm, ⟨68, _⟩ => ⟨S16x16, .i32⟩
  | .hbm, ⟨69, _⟩ => ⟨S_, .i32⟩
  | .hbm, ⟨70, _⟩ => ⟨S16x16, .i32⟩
  | .hbm, ⟨71, _⟩ => ⟨S16x16, .i32⟩
  | .hbm, ⟨72, _⟩ => ⟨S16x16, .i1⟩
  | .hbm, ⟨73, _⟩ => ⟨S16x16, .f32⟩
  | .hbm, ⟨74, _⟩ => ⟨S2x16x64x1x16, .f32⟩
  | .hbm, ⟨75, _⟩ => ⟨S16x1x16x1, .f32⟩
  | .hbm, ⟨76, _⟩ => ⟨S1x16x1x16x1, .f32⟩
  | .hbm, ⟨77, _⟩ => ⟨S2x16x64x16x16, .f32⟩
  | .hbm, ⟨78, _⟩ => ⟨S2x16x64x16x16, .f32⟩
  | .hbm, ⟨79, _⟩ => ⟨S2x16x64x16x16, .f32⟩
  | .hbm, ⟨80, _⟩ => ⟨S2x1024x256, .f32⟩
  | .hbm, ⟨81, _⟩ => ⟨S2x16x16x64, .f32⟩
  | .hbm, ⟨82, _⟩ => ⟨S2x16x64x16, .f32⟩
  | .hbm, ⟨83, _⟩ => ⟨S16x16, .i32⟩
  | .hbm, ⟨84, _⟩ => ⟨S16x16, .i32⟩
  | .hbm, ⟨85, _⟩ => ⟨S_, .i32⟩
  | .hbm, ⟨86, _⟩ => ⟨S16x16, .i32⟩
  | .hbm, ⟨87, _⟩ => ⟨S16x16, .i32⟩
  | .hbm, ⟨88, _⟩ => ⟨S16x16, .i1⟩
  | .hbm, ⟨89, _⟩ => ⟨S16x16, .f32⟩
  | .hbm, ⟨90, _⟩ => ⟨S2x16x64x1x16, .f32⟩
  | .hbm, ⟨91, _⟩ => ⟨S16x1x16x1, .f32⟩
  | .hbm, ⟨92, _⟩ => ⟨S1x16x1x16x1, .f32⟩
  | .hbm, ⟨93, _⟩ => ⟨S2x16x64x16x16, .f32⟩
  | .hbm, ⟨94, _⟩ => ⟨S2x16x64x16x16, .f32⟩
  | .hbm, ⟨95, _⟩ => ⟨S2x16x64x16x16, .f32⟩
  | .hbm, ⟨96, _⟩ => ⟨S2x1024x256, .f32⟩
  | .hbm, ⟨97, _⟩ => ⟨S1x1024x256, .f32⟩
  | .hbm, ⟨98, _⟩ => ⟨S1024x256, .f32⟩
  | .hbm, ⟨99, _⟩ => ⟨S1x1024x256, .f32⟩
  | .hbm, ⟨100, _⟩ => ⟨S1024x256, .f32⟩
  | .hbm, ⟨101, _⟩ => ⟨S1024x512, .f32⟩
  | .hbm, ⟨102, _⟩ => ⟨S1x1024x256, .f32⟩
  | .hbm, ⟨103, _⟩ => ⟨S1024x256, .f32⟩
  | .hbm, ⟨104, _⟩ => ⟨S1024x256, .f32⟩
  | .hbm, ⟨105, _⟩ => ⟨S1x1024x256, .f32⟩
  | .hbm, ⟨106, _⟩ => ⟨S1024x256, .f32⟩
  | .hbm, ⟨107, _⟩ => ⟨S1024x256, .f32⟩
  | .hbm, ⟨108, _⟩ => ⟨S1024x512, .f32⟩
  | .hbm, ⟨109, _⟩ => ⟨S2048x512, .f32⟩
  | .hbm, ⟨110, _⟩ => ⟨S2048x512, .bf16⟩
  | .hbm, ⟨111, _⟩ => ⟨S2x256, .f32⟩
  | .hbm, ⟨112, _⟩ => ⟨S1x2x1x256, .f32⟩
  | .hbm, ⟨113, _⟩ => ⟨S4x2x1x256, .f32⟩
  | .hbm, ⟨114, _⟩ => ⟨S8x256, .f32⟩
  | .hbm, ⟨115, _⟩ => ⟨S2048x4x512, .f32⟩
  | .hbm, ⟨116, _⟩ => ⟨S16384x256, .f32⟩
  | .hbm, ⟨117, _⟩ => ⟨S16384x256, .bf16⟩
  | .hbm, ⟨118, _⟩ => ⟨S16384x256, .bf16⟩
  | .hbm, ⟨119, _⟩ => ⟨S16x2x8x1024, .f32⟩
  | .hbm, ⟨120, _⟩ => ⟨S16384x1024, .bf16⟩
  | .hbm, ⟨121, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S256x4096, .bf16⟩
  | .local _ .vmem, ⟨3, _⟩ => ⟨S2048x512, .bf16⟩
  | .local _ .vmem, ⟨4, _⟩ => ⟨S2x8x1024, .f32⟩
  | .local _ .vmem, ⟨5, _⟩ => ⟨S8x256, .f32⟩
  | .local _ .vmem, ⟨6, _⟩ => ⟨S1024x256, .bf16⟩
  | .local _ .vmem, ⟨7, _⟩ => ⟨S1024x256, .bf16⟩
  | .local _ .vmem, ⟨8, _⟩ => ⟨S1x2x8x1024, .f32⟩
  | .local _ .vmem, ⟨9, _⟩ => ⟨S1x2x8x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S128x8x1024, .f32⟩
  | .local _ .vmem, ⟨15, _⟩ => ⟨S128x8x1024, .f32⟩
  | .local _ .vmem, ⟨16, _⟩ => ⟨S2x8x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c_1 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_c_2 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106_0 : Ref sig .tc := ⟨.hbm, 118, rfl⟩
abbrev main_v106_1 : Ref sig .tc := ⟨.hbm, 119, rfl⟩
abbrev main_v106_2 : Ref sig .tc := ⟨.hbm, 120, rfl⟩
abbrev main_v106_3 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_53 : BitVec 32 := 0#32
  let c128_i32 : BitVec 32 := 128#32
  let v89 : BitVec 32 := Scalar.addi c0_i32_53 c128_i32
  let c1_i32_54 : BitVec 32 := 1#32
  ⟨c0_i32_53, v89, c1_i32_54⟩
def k0_off1 (k0_t1 : Fin k0_t1_loop.trips) : Fin 3 → Nat :=
  let c0_i32_53 : BitVec 32 := 0#32
  let c1_i32_54 : BitVec 32 := 1#32
  let arg13 : BitVec 32 := Scf.iv c0_i32_53 c1_i32_54 k0_t1
  let v146 : Index := Scalar.indexCast arg13
  let c0_104 : Index := 0#32
  let c0_105 : Index := 0#32
  ![v146.toNat, 0, 0]
@[reducible] def k0_t2_loop : Scf.Loop 32 :=
  let c0_i32_74 : BitVec 32 := 0#32
  let c128_i32_75 : BitVec 32 := 128#32
  let v105 : BitVec 32 := Scalar.addi c0_i32_74 c128_i32_75
  let c1_i32_76 : BitVec 32 := 1#32
  ⟨c0_i32_74, v105, c1_i32_76⟩
def k0_off2 (k0_t2 : Fin k0_t2_loop.trips) : Fin 3 → Nat :=
  let c0_i32_74 : BitVec 32 := 0#32
  let c1_i32_76 : BitVec 32 := 1#32
  let arg13 : BitVec 32 := Scf.iv c0_i32_74 c1_i32_76 k0_t2
  let v146 : Index := Scalar.indexCast arg13
  let c0_104 : Index := 0#32
  let c512_105 : Index := 512#32
  ![v146.toNat, 0, 512]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsmFwdRefIdeal.lean ====
abbrev S4x2048x512 : Shape := ⟨3, ![4, 2048, 512]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S4x32x64 : Shape := ⟨3, ![4, 32, 64]⟩
abbrev S4x512 : Shape := ⟨2, ![4, 512]⟩
abbrev S4x2048x32x16 : Shape := ⟨4, ![4, 2048, 32, 16]⟩
abbrev S32x64x4x2048 : Shape := ⟨4, ![32, 64, 4, 2048]⟩
abbrev S4x2048x32x64 : Shape := ⟨4, ![4, 2048, 32, 64]⟩
abbrev S_ : Shape := ⟨0, ![]⟩
abbrev S2048x4x32x64 : Shape := ⟨4, ![2048, 4, 32, 64]⟩
abbrev S1x4x32x64 : Shape := ⟨4, ![1, 4, 32, 64]⟩
abbrev S32x16x2048x4 : Shape := ⟨4, ![32, 16, 2048, 4]⟩
abbrev S4x1x512 : Shape := ⟨3, ![4, 1, 512]⟩
abbrev S2048x4x512 : Shape := ⟨3, ![2048, 4, 512]⟩
abbrev S16384x256 : Shape := ⟨2, ![16384, 256]⟩
abbrev S1x8x1024 : Shape := ⟨3, ![1, 8, 1024]⟩
abbrev S2048x8x1024 : Shape := ⟨3, ![2048, 8, 1024]⟩
abbrev S15x8x1024 : Shape := ⟨3, ![15, 8, 1024]⟩
abbrev S16x8x1024 : Shape := ⟨3, ![16, 8, 1024]⟩
abbrev S16x1x8x1024 : Shape := ⟨4, ![16, 1, 8, 1024]⟩
abbrev S16x2x8x1024 : Shape := ⟨4, ![16, 2, 8, 1024]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S512, .f32⟩
  | .hbm, ⟨8, _⟩ => ⟨S4x32x64, .f32⟩
  | .hbm, ⟨9, _⟩ => ⟨S4x32x64, .f32⟩
  | .hbm, ⟨10, _⟩ => ⟨S4x512, .f32⟩
  | .hbm, ⟨11, _⟩ => ⟨S4x2048x32x16, .f32⟩
  | .hbm, ⟨12, _⟩ => ⟨S32x64x4x2048, .f32⟩
  | .hbm, ⟨13, _⟩ => ⟨S4x2048x32x64, .f32⟩
  | .hbm, ⟨14, _⟩ => ⟨S32x64x4x2048, .f32⟩
  | .hbm, ⟨15, _⟩ => ⟨S4x2048x32x64, .f32⟩
  | .hbm, ⟨16, _⟩ => ⟨S_, .f32⟩
  | .hbm, ⟨17, _⟩ => ⟨S4x32x64, .f32⟩
  | .hbm, ⟨18, _⟩ => ⟨S2048x4x32x64, .f32⟩
  | .hbm, ⟨19, _⟩ => ⟨S2048x4x32x64, .f32⟩
  | .hbm, ⟨20, _⟩ => ⟨S_, .f32⟩
  | .hbm, ⟨21, _⟩ => ⟨S2048x4x32x64, .f32⟩
  | .hbm, ⟨22, _⟩ => ⟨S_, .f32⟩
  | .hbm, ⟨23, _⟩ => ⟨S2048x4x32x64, .f32⟩
  | .hbm, ⟨24, _⟩ => ⟨S_, .i32⟩
  | .hbm, ⟨25, _⟩ => ⟨S2048x4x32x64, .f32⟩
  | .hbm, ⟨26, _⟩ => ⟨S2048x4x32x64, .f32⟩
  | .hbm, ⟨27, _⟩ => ⟨S4x32x64, .f32⟩
  | .hbm, ⟨28, _⟩ => ⟨S4x32x64, .f32⟩
  | .hbm, ⟨29, _⟩ => ⟨S_, .i32⟩
  | .hbm, ⟨30, _⟩ => ⟨S4x32x64, .f32⟩
  | .hbm, ⟨31, _⟩ => ⟨S4x32x64, .f32⟩
  | .hbm, ⟨32, _⟩ => ⟨S2048x4x32x64, .f32⟩
  | .hbm, ⟨33, _⟩ => ⟨S2048x4x32x64, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x4x32x64, .f32⟩
  | .hbm, ⟨40, _⟩ => ⟨S4x32x64, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x4x32x64, .f32⟩
  | .hbm, ⟨45, _⟩ => ⟨S4x32x64, .f32⟩
  | .hbm, ⟨46, _⟩ => ⟨S4x32x64, .f32⟩
  | .hbm, ⟨47, _⟩ => ⟨S4x32x64, .f32⟩
  | .hbm, ⟨48, _⟩ => ⟨S4x32x64, .f32⟩
  | .hbm, ⟨49, _⟩ => ⟨S4x32x64, .f32⟩
  | .hbm, ⟨50, _⟩ => ⟨S4x32x64, .f32⟩
  | .hbm, ⟨51, _⟩ => ⟨S4x32x64, .f32⟩
  | .hbm, ⟨52, _⟩ => ⟨S4x32x64, .f32⟩
  | .hbm, ⟨53, _⟩ => ⟨S4x32x64, .f32⟩
  | .hbm, ⟨54, _⟩ => ⟨S1x4x32x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S2048x4x32x64, .f32⟩
  | .hbm, ⟨59, _⟩ => ⟨S1x4x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S2048x4x32x64, .f32⟩
  | .hbm, ⟨64, _⟩ => ⟨S_, .i32⟩
  | .hbm, ⟨65, _⟩ => ⟨S_, .i32⟩
  | .hbm, ⟨66, _⟩ => ⟨S32x16x2048x4, .f32⟩
  | .hbm, ⟨67, _⟩ => ⟨S4x2048x32x16, .f32⟩
  | .hbm, ⟨68, _⟩ => ⟨S32x16x2048x4, .f32⟩
  | .hbm, ⟨69, _⟩ => ⟨S4x2048x32x16, .f32⟩
  | .hbm, ⟨70, _⟩ => ⟨S4x2048x32x16, .f32⟩
  | .hbm, ⟨71, _⟩ => ⟨S4x2048x512, .f32⟩
  | .hbm, ⟨72, _⟩ => ⟨S4x1x512, .f32⟩
  | .hbm, ⟨73, _⟩ => ⟨S4x2048x512, .f32⟩
  | .hbm, ⟨74, _⟩ => ⟨S4x2048x512, .f32⟩
  | .hbm, ⟨75, _⟩ => ⟨S4x2048x512, .f32⟩
  | .hbm, ⟨76, _⟩ => ⟨S2048x4x512, .f32⟩
  | .hbm, ⟨77, _⟩ => ⟨S16384x256, .f32⟩
  | .hbm, ⟨78, _⟩ => ⟨S16384x256, .bf16⟩
  | .hbm, ⟨79, _⟩ => ⟨S_, .f32⟩
  | .hbm, ⟨80, _⟩ => ⟨S1x8x1024, .f32⟩
  | .hbm, ⟨81, _⟩ => ⟨S2048x8x1024, .f32⟩
  | .hbm, ⟨82, _⟩ => ⟨S15x8x1024, .f32⟩
  | .hbm, ⟨83, _⟩ => ⟨S16x8x1024, .f32⟩
  | .hbm, ⟨84, _⟩ => ⟨S_, .f32⟩
  | .hbm, ⟨85, _⟩ => ⟨S1x8x1024, .f32⟩
  | .hbm, ⟨86, _⟩ => ⟨S2048x8x1024, .f32⟩
  | .hbm, ⟨87, _⟩ => ⟨S15x8x1024, .f32⟩
  | .hbm, ⟨88, _⟩ => ⟨S16x8x1024, .f32⟩
  | .hbm, ⟨89, _⟩ => ⟨S16x1x8x1024, .f32⟩
  | .hbm, ⟨90, _⟩ => ⟨S16x1x8x1024, .f32⟩
  | .hbm, ⟨91, _⟩ => ⟨S16x2x8x1024, .f32⟩
  | .hbm, ⟨92, _⟩ => ⟨S16384x1024, .f32⟩
  | .hbm, ⟨93, _⟩ => ⟨S16384x1024, .bf16⟩
  | .hbm, ⟨94, _⟩ => ⟨S16384x1024, .f32⟩
  | .hbm, ⟨95, _⟩ => ⟨S16384x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_c : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v13_6 : Ref sig .tc := ⟨.hbm, 31, rfl⟩
abbrev main_v13_7 : Ref sig .tc := ⟨.hbm, 32, rfl⟩
abbrev main_v13_8 : Ref sig .tc := ⟨.hbm, 33, rfl⟩
abbrev main_while0c_c_12 : Ref sig .tc := ⟨.hbm, 34, rfl⟩
abbrev main_while0c_v42 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v42 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_v46 : Ref sig .tc := ⟨.hbm, 48, rfl⟩
abbrev main_while0b_v47 : Ref sig .tc := ⟨.hbm, 49, rfl⟩
abbrev main_while0b_v48 : Ref sig .tc := ⟨.hbm, 50, rfl⟩
abbrev main_while0b_v49 : Ref sig .tc := ⟨.hbm, 51, rfl⟩
abbrev main_while0b_v50 : Ref sig .tc := ⟨.hbm, 52, rfl⟩
abbrev main_while0b_v51 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_v52 : Ref sig .tc := ⟨.hbm, 58, rfl⟩
abbrev main_while0b_call3_v0 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_v53 : Ref sig .tc := ⟨.hbm, 63, rfl⟩
abbrev main_while0b_c_12 : Ref sig .tc := ⟨.hbm, 64, rfl⟩
abbrev main_while0b_v54 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_2 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_3 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩

abbrev nD : Nat := 1
abbrev τ : Topo := Topo.v7x

variable {F : FTy → Type} [FloatOps F]

abbrev main_while0_count : Scf.Loop 32 := ⟨0#32, 2048#32, 1#32⟩
-- ==== SsmPrep.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S1x2048 : Shape := ⟨2, ![1, 2048]⟩
abbrev S32 : Shape := ⟨1, ![32]⟩
abbrev S2048 : Shape := ⟨1, ![2048]⟩
abbrev S32x64x16 : Shape := ⟨3, ![32, 64, 16]⟩
abbrev S16x32x64 : Shape := ⟨3, ![16, 32, 64]⟩
abbrev S16x2048 : Shape := ⟨2, ![16, 2048]⟩

abbrev nBuf : Space → Nat
  | .hbm => 23
  | .vmem => 9
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S1x2048, .f32⟩
  | .hbm, ⟨7, _⟩ => ⟨S32x64, .f32⟩
  | .hbm, ⟨8, _⟩ => ⟨S1x2048, .f32⟩
  | .hbm, ⟨9, _⟩ => ⟨S32, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S32x64x16, .f32⟩
  | .hbm, ⟨14, _⟩ => ⟨S16x32x64, .f32⟩
  | .hbm, ⟨15, _⟩ => ⟨S16x2048, .f32⟩
  | .hbm, ⟨16, _⟩ => ⟨S32x64x16, .f32⟩
  | .hbm, ⟨17, _⟩ => ⟨S16x32x64, .f32⟩
  | .hbm, ⟨18, _⟩ => ⟨S16x2048, .f32⟩
  | .hbm, ⟨19, _⟩ => ⟨S1x2048, .f32⟩
  | .hbm, ⟨20, _⟩ => ⟨S1x2048, .f32⟩
  | .hbm, ⟨21, _⟩ => ⟨S16x2048, .f32⟩
  | .hbm, ⟨22, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SsmPrepRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32 : Shape := ⟨1, ![32]⟩
abbrev S32x1 : Shape := ⟨2, ![32, 1]⟩
abbrev S32x64x16 : Shape := ⟨3, ![32, 64, 16]⟩
abbrev S_ : Shape := ⟨0, ![]⟩
abbrev S32x64x1 : Shape := ⟨3, ![32, 64, 1]⟩
abbrev S1x2048 : Shape := ⟨2, ![1, 2048]⟩
abbrev S16x32x64 : Shape := ⟨3, ![16, 32, 64]⟩
abbrev S16x2048 : Shape := ⟨2, ![16, 2048]⟩

abbrev nBuf : Space → Nat
  | .hbm => 56
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32, .f32⟩
  | .hbm, ⟨8, _⟩ => ⟨S32x1, .f32⟩
  | .hbm, ⟨9, _⟩ => ⟨S32x64, .f32⟩
  | .hbm, ⟨10, _⟩ => ⟨S32x64x16, .f32⟩
  | .hbm, ⟨11, _⟩ => ⟨S32x64x16, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64x1, .f32⟩
  | .hbm, ⟨32, _⟩ => ⟨S32x64, .f32⟩
  | .hbm, ⟨33, _⟩ => ⟨S_, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64x1, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32x64x16, .f32⟩
  | .hbm, ⟨50, _⟩ => ⟨S1x2048, .f32⟩
  | .hbm, ⟨51, _⟩ => ⟨S1x2048, .f32⟩
  | .hbm, ⟨52, _⟩ => ⟨S16x32x64, .f32⟩
  | .hbm, ⟨53, _⟩ => ⟨S16x2048, .f32⟩
  | .hbm, ⟨54, _⟩ => ⟨S16x32x64, .f32⟩
  | .hbm, ⟨55, _⟩ => ⟨S16x2048, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== MixInFwd.lean ====
abbrev S4x2048x1024 : Shape := ⟨3, ![4, 2048, 1024]⟩
abbrev S4x1024 : Shape := ⟨2, ![4, 1024]⟩
abbrev S1x1024 : Shape := ⟨2, ![1, 1024]⟩
abbrev S1x1024x1024 : Shape := ⟨3, ![1, 1024, 1024]⟩
abbrev S4x1x1024 : Shape := ⟨3, ![4, 1, 1024]⟩
abbrev S1024x1024 : Shape := ⟨2, ![1024, 1024]⟩
abbrev S2048x2048 : Shape := ⟨2, ![2048, 2048]⟩
abbrev S4x2048x512 : Shape := ⟨3, ![4, 2048, 512]⟩
abbrev S1x1x1024 : Shape := ⟨3, ![1, 1, 1024]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x1024, .f32⟩
  | .hbm, ⟨5, _⟩ => ⟨S4x1x1024, .f32⟩
  | .hbm, ⟨6, _⟩ => ⟨S4x1x1024, .f32⟩
  | .hbm, ⟨7, _⟩ => ⟨S1024x1024, .f32⟩
  | .hbm, ⟨8, _⟩ => ⟨S1024x1024, .bf16⟩
  | .hbm, ⟨9, _⟩ => ⟨S2048x2048, .bf16⟩
  | .hbm, ⟨10, _⟩ => ⟨S4x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1x1024x512, .f32⟩
  | .local _ .vmem, ⟨11, _⟩ => ⟨S1x1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixInFwdRefIdeal.lean ====
abbrev S4x2048x1024 : Shape := ⟨3, ![4, 2048, 1024]⟩
abbrev S4x1024 : Shape := ⟨2, ![4, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x1024 : Shape := ⟨2, ![1024, 1024]⟩
abbrev S4x2048x512 : Shape := ⟨3, ![4, 2048, 512]⟩
abbrev S2048x4x512 : Shape := ⟨3, ![2048, 4, 512]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S1024x1024, .f32⟩
  | .hbm, ⟨32, _⟩ => ⟨S4x2048x1024, .f32⟩
  | .hbm, ⟨33, _⟩ => ⟨S4x2048x512, .f32⟩
  | .hbm, ⟨34, _⟩ => ⟨S4x2048x512, .f32⟩
  | .hbm, ⟨35, _⟩ => ⟨S2048x4x512, .f32⟩
  | .hbm, ⟨36, _⟩ => ⟨S2048x2048, .f32⟩
  | .hbm, ⟨37, _⟩ => ⟨S2048x2048, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Shared.Reals.lean ====
/- Sums over the two leading axes, finite extended reals, and the gradient of a root-mean-square norm over the reals. -/
module

public import Idealize.ShloMosaic.Lib.Pointwise
public import Idealize.ShloMosaic.Lib.IdealHost
public import Idealize.ShloMosaic.Lib.ReduceAll

@[expose] public section

noncomputable section

open Idealize.ShloMosaic
open scoped BigOperators

namespace Cert.Shared

/-! ### A host sum over the two leading axes of a rank 3 array -/

section lead
variable {n0 n1 n2 : Nat} {t : Shape} (h : (⟨3, ![n0, n1, n2]⟩ : Shape).ReducesTo [0, 1] t)
include h

theorem lead_rank : t.rank = 1 := h.1
theorem lead_lt : 0 < t.rank := lead_rank h ▸ (by decide)
theorem lead_size : t.size ⟨0, lead_lt h⟩ = n2 := h.2 ⟨0, lead_lt h⟩

/-- The indices that drop to `j` keep its coordinate on the last axis. -/
theorem lead_fiber (j : t.Idx) (i : (⟨3, ![n0, n1, n2]⟩ : Shape).Idx) :
    h.drop i = j ↔ ∃ k : Fin n0 × Fin n1, ix3 k.1 k.2 ⟨(j ⟨0, lead_lt h⟩).val, Shape.coordLt (j ⟨0, lead_lt h⟩) (lead_size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lead_lt h⟩)).symm
  · rintro ⟨k, rfl⟩
    funext b
    apply Fin.ext
    match b with
    | ⟨0, _⟩ => rfl
    | ⟨_ + 1, hb⟩ => exact absurd hb (by have := lead_rank h; omega)

/-- A host sum over the two leading axes is a double sum. -/
theorem hostReduceAdd_lead (v : (⟨3, ![n0, n1, n2]⟩ : Shape).Idx → EReal) (init : EReal) (j : t.Idx) :
    Ideal.hostReduceAdd h v init j
      = init + ∑ a : Fin n0, ∑ b : Fin n1, v (ix3 a b ⟨(j ⟨0, lead_lt h⟩).val, Shape.coordLt (j ⟨0, lead_lt h⟩) (lead_size h)⟩) := by
  refine congrArg (init + ·) ((Finset.sum_filter_eq_sum_of_fiber _
    (fun k : Fin n0 × Fin n1 => ix3 k.1 k.2 ⟨(j ⟨0, lead_lt h⟩).val, Shape.coordLt (j ⟨0, lead_lt h⟩) (lead_size h)⟩)
    (fun _ _ e => Prod.ext (congrFun e 0) (congrFun e 1)) (lead_fiber h j) v).trans ?_)
  simp only [Fintype.sum_prod_type]

end lead

/-! ### Constants -/

theorem f32_1024 : Ideal.ofBits .f32 0x44800000#32 = ((1024 : ℝ) : EReal) := by
  simp [Ideal.ofBits, Ideal.ieee, -EReal.coe_mul]; norm_num

theorem f32_neg_half : Ideal.ofBits .f32 0xBF000000#32 = ((-(1 / 2) : ℝ) : EReal) := by
  simp [Ideal.ofBits, Ideal.ieee, -EReal.coe_mul, -EReal.coe_neg]; norm_num

theorem f32_top : Ideal.ofBits .f32 0x7F800000#32 = ⊤ := by
  simp [Ideal.ofBits, Ideal.ieee]

/-- The norms' small constant. -/
def eps : ℝ := 8796093 * 2 ^ (-43 : ℤ)

theorem eps_pos : 0 < eps := by unfold eps; positivity

theorem f32_eps : Ideal.ofBits .f32 0x358637BD#32 = ((eps : ℝ) : EReal) := by
  unfold eps
  simp [Ideal.ofBits, Ideal.ieee, -EReal.coe_mul]

/-! ### Finite extended reals -/

/-- The value is a real number. -/
def Real' (a : EReal) : Prop := ∃ r : ℝ, a = (r : EReal)

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem Real'.coe (r : ℝ) : Real' (r : EReal) := ⟨r, rfl⟩
theorem Real'.zero : Real' 0 := ⟨0, rfl⟩
theorem Real'.one : Real' 1 := ⟨1, rfl⟩
theorem Real'.add {a b : EReal} : Real' a → Real' b → Real' (a + b) := by
  rintro ⟨x, rfl⟩ ⟨y, rfl⟩; exact ⟨x + y, (EReal.coe_add x y).symm⟩
theorem Real'.sub {a b : EReal} : Real' a → Real' b → Real' (a - b) := by
  rintro ⟨x, rfl⟩ ⟨y, rfl⟩; exact ⟨x - y, (EReal.coe_sub x y).symm⟩
theorem Real'.neg {a : EReal} : Real' a → Real' (-a) := by
  rintro ⟨x, rfl⟩; exact ⟨-x, (EReal.coe_neg x).symm⟩
theorem Real'.mul {a b : EReal} : Real' a → Real' b → Real' (a * b) := by
  rintro ⟨x, rfl⟩ ⟨y, rfl⟩; exact ⟨x * y, (EReal.coe_mul x y).symm⟩
theorem Real'.sum {ι : Type*} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

/-- A value whose absolute value lies below the infinity is real. -/
theorem real_of_abs_lt {a : EReal} (h : max a (-a) < ⊤) : Real' a := by
  induction a with
  | bot => simp at h
  | top => simp at h
  | coe r => exact ⟨r, rfl⟩

instance : Subsingleton (⟨0, ![]⟩ : Shape).Idx := ⟨fun a b => funext fun i => i.elim0⟩

/-- A conjunction of two predicates that holds, split. -/
theorem and_split {s : Shape} {a b : IVec s 1} {i : s.Idx} (h : andi a b i = 1#1) : a i = 1#1 ∧ b i = 1#1 :=
  IntOp.andi_eq_one.1 h

/-- What `jnp.all(jnp.abs(a) < inf)` says of each element. -/
theorem real_of_all {s t u : Shape} [Subsingleton t.Idx] {axes : List (Fin s.rank)} {φ : FTy} {a b : FVec Ideal s φ}
    {init : u.Idx → BitVec 1} {h : s.ReducesTo axes t} {hu : 0 < u.numel} {j : t.Idx}
    (e : Host.reduce IntOp.andi (cmpf .olt (Host.absf a) b) init h hu j = 1#1) (hb : ∀ i, b i = ⊤) (i : s.Idx) : Real' (a i) := by
  have h1 := Host.reduce_andi_all _ init h hu j e i
  refine real_of_abs_lt ?_
  have h2 : Ideal.cmp .olt (max (a i) (-(a i))) (b i) = 1#1 := h1
  rw [hb i] at h2
  by_contra hn
  simp [Ideal.cmp, hn] at h2

/-! ### The gradient of a root-mean-square norm -/

theorem mean_sq_pos {n : Nat} (X : Fin n → ℝ) {c e : ℝ} (hc : 0 < c) (he : 0 < e) : 0 < (∑ k, X k * X k) * (1 / c) + e :=
  add_pos_of_nonneg_of_pos (mul_nonneg (Finset.sum_nonneg fun k _ => mul_self_nonneg _) (by positivity)) he

/-- The inverse root of a mean square plus a positive constant is real. -/
theorem rsqrt_mean_sq {n : Nat} (X : Fin n → ℝ) {c e : ℝ} (hc : 0 < c) (he : 0 < e) :
    Ideal.rsqrt (Ideal.div (∑ k, (X k : EReal) * (X k : EReal)) (c : EReal) + (e : EReal))
      = (((Real.sqrt ((∑ k, X k * X k) * (1 / c) + e))⁻¹ : ℝ) : EReal) := by
  have hp := mean_sq_pos X hc he
  simp only [← EReal.coe_mul, ← coe_sum]
  rw [Ideal.div_coe hc.ne', ← EReal.coe_mul, ← EReal.coe_add, Ideal.rsqrt_coe, if_neg (not_lt.2 hp.le), if_neg hp.ne']

/-- The gradient of the norm, as differentiation writes it, is the gradient in the usual closed form. -/
theorem norm_grad {n : Nat} (x u : Fin n → EReal) (hx : ∀ k, Real' (x k)) (hu : ∀ k, Real' (u k)) (D : EReal) {c e : ℝ} (hc : 0 < c)
    (he : 0 < e) {v q : EReal} (hv : v = Ideal.div (∑ k, x k * x k) (c : EReal) + (e : EReal))
    (hq : q = Ideal.div ((∑ k, x k * u k) * (((-(1 / 2) : ℝ) : EReal) * Ideal.div (Ideal.rsqrt v) v)) (c : EReal)) (k : Fin n) :
    D + u k * Ideal.rsqrt v + x k * q + q * x k
      = D + Ideal.rsqrt v * (u k - x k * Ideal.rsqrt v * Ideal.div (∑ j, u j * (x j * Ideal.rsqrt v)) (c : EReal)) := by
  choose X hX using hx
  choose U hU using hu
  have hp := mean_sq_pos X hc he
  set V : ℝ := (∑ k, X k * X k) * (1 / c) + e with hV
  have hr : Ideal.rsqrt v = (((Real.sqrt V)⁻¹ : ℝ) : EReal) := by
    rw [hv]; simp only [hX]; exact rsqrt_mean_sq X hc he
  have hv' : v = ((V : ℝ) : EReal) := by
    rw [hv]; simp only [hX, ← EReal.coe_mul, ← coe_sum]
    rw [Ideal.div_coe hc.ne', ← EReal.coe_mul, ← EReal.coe_add]
  rw [hr, hv'] at hq
  rw [hr]
  subst hq
  simp only [hX, hU, ← EReal.coe_mul, ← coe_sum, ← EReal.coe_sub, Ideal.div_coe hc.ne', Ideal.div_coe hp.ne']
  rw [add_assoc, add_assoc, ← EReal.coe_add, ← EReal.coe_add]
  congr 2
  have hs : Real.sqrt V * Real.sqrt V = V := Real.mul_self_sqrt hp.le
  have hs0 : Real.sqrt V ≠ 0 := (Real.sqrt_pos.2 hp).ne'
  have e1 : 1 / V = (Real.sqrt V)⁻¹ * (Real.sqrt V)⁻¹ := by rw [← mul_inv, hs, one_div]
  rw [e1]
  have e2 : ∑ j, U j * (X j * (Real.sqrt V)⁻¹) = (∑ j, X j * U j) * (Real.sqrt V)⁻¹ := by
    rw [Finset.sum_mul]; exact Finset.sum_congr rfl fun j _ => by ring
  rw [e2]
  ring

end Cert.Shared

end
-- ==== Proof.MixInMath.Ref.lean ====
/- The reference's five results read at an index, as sums over the reference's arguments. -/
module

public import proofs.«01_k».proof.Proof.Gen.MixInRefIdeal.Read
public import Idealize.ShloMosaic.Lib.Pointwise
public import proofs.«01_k».proof.Proof.Shared.Reals

@[expose] public section

set_option maxRecDepth 16384

noncomputable section

open Idealize.ShloMosaic Idealize.ShloMosaic.TcCoe Idealize.SL.Sem

namespace Cert.MixInMath

open Cert.MixInRefIdeal Cert.MixInRefIdeal.Gen Cert.MixInRefIdeal.Read

variable (x dx1 : FVec Ideal S4x2048x1024 .f32) (sh sc : FVec Ideal S4x1024 .f32) (g : FVec Ideal S1x1024 .f32)
  (w : FVec Ideal S1x1024x1024 .f32) (du dp : FVec Ideal S4x2048x512 .f32)

/-- The mean square of a token's features plus the norm's small constant. -/
def var (b : Fin 4) (t : Fin 2048) : EReal :=
  Ideal.div (∑ k : Fin 1024, x (ix3 b t k) * x (ix3 b t k)) (Ideal.ofBits .f32 0x44800000#32) + Ideal.ofBits .f32 0x358637BD#32

/-- The normalised features. -/
def xhat (b : Fin 4) (t : Fin 2048) (k : Fin 1024) : EReal := x (ix3 b t k) * Ideal.rsqrt (var x b t)

/-- The two cotangents side by side. -/
def dz (b : Fin 4) (t : Fin 2048) (j : Fin 1024) : EReal :=
  if h : (j : ℕ) < 512 then du (ix3 b t ⟨j, h⟩) else dp (ix3 b t ⟨(j : ℕ) - 512, by omega⟩)

/-- The cotangent of the modulated features. -/
def dh (b : Fin 4) (t : Fin 2048) (k : Fin 1024) : EReal := ∑ j : Fin 1024, dz du dp b t j * w (ix3 0 k j)

/-- The modulated features. -/
def hid (b : Fin 4) (t : Fin 2048) (k : Fin 1024) : EReal :=
  xhat x b t k * g (ix2 0 k) * (1 + sc (ix2 b k)) + sh (ix2 b k)

theorem ref_var (b : Fin 4) (t : Fin 2048) : val_main_v7 (F := Ideal) x (ix3 b t 0) = var x b t := by
  pointwise [val_main_v7, val_main_v6, val_main_v5, val_main_v4, val_main_v3, val_main_v2, val_main_v1, val_main_cst, val_main_cst_0,
    val_main_cst_1, var]

theorem ref_xhat (b : Fin 4) (t : Fin 2048) (k : Fin 1024) : val_main_v13 (F := Ideal) x (ix3 b t k) = xhat x b t k := by
  pointwise [val_main_v13, val_main_v12, val_main_v8, ref_var, xhat]

theorem ref_dz (b : Fin 4) (t : Fin 2048) (j : Fin 1024) : val_main_v31 (F := Ideal) du dp (ix3 b t j) = dz du dp b t j := by
  pointwise [val_main_v31, val_main_v30, val_main_v29, val_main_cst_4, val_main_cst_5, dz]
  by_cases h : (j : ℕ) < 512
  · rw [dif_neg (by omega), dif_pos h, dif_pos h, zero_add]
  · rw [dif_pos (by omega), dif_neg h, dif_neg h, add_zero]

theorem ref_dh (b : Fin 4) (t : Fin 2048) (k : Fin 1024) : val_main_v34 (F := Ideal) w du dp (ix3 b t k) = dh w du dp b t k := by
  pointwise [val_main_v34, val_main_v25, ref_dz, dh]

theorem ref_hid (b : Fin 4) (t : Fin 2048) (k : Fin 1024) : val_main_v24 (F := Ideal) x sh sc g (ix3 b t k) = hid x sh sc g b t k := by
  pointwise [val_main_v24, val_main_v23, val_main_v22, val_main_v21, val_main_v20, val_main_v19, val_main_v18, val_main_v17, val_main_cst_3,
    val_main_v16, val_main_v15, val_main_v14, val_main_v0, ref_xhat, hid]

/-- The gradient of the weights: a product summed over every token. -/
theorem ref_dw (k j : Fin 1024) : val_main_v67 (F := Ideal) x sh sc g du dp (ix2 k j)
    = ∑ b : Fin 4, ∑ t : Fin 2048, hid x sh sc g b t k * dz du dp b t j := by
  pointwise [val_main_v67, val_main_v35, val_main_v33, val_main_v32, ref_dz, ref_hid]
  exact Finset.sum_congr rfl fun _ _ => Finset.sum_congr rfl fun _ _ => mul_comm _ _

/-- The gradient of the shift. -/
theorem ref_dsh (b : Fin 4) (k : Fin 1024) : val_main_v68 (F := Ideal) w du dp (ix3 b 0 k) = ∑ t : Fin 2048, dh w du dp b t k := by
  pointwise [val_main_v68, val_main_v38, val_main_v37, val_main_v36, val_main_cst_6, val_main_cst_7, ref_dh]
  exact Fin.sum_univ_one _

/-- The gradient of the scale. -/
theorem ref_dsc (b : Fin 4) (k : Fin 1024) : val_main_v69 (F := Ideal) x g w du dp (ix3 b 0 k)
    = ∑ t : Fin 2048, dh w du dp b t k * (xhat x b t k * g (ix2 0 k)) := by
  pointwise [val_main_v69, val_main_v44, val_main_v41, val_main_v40, val_main_v39, val_main_cst_8, val_main_cst_9, ref_dh,
    val_main_v16, val_main_v15, val_main_v14, val_main_v0, ref_xhat]
  exact (Fin.sum_univ_one _).trans (Finset.sum_congr rfl fun _ _ => mul_comm _ _)

/-- The gradient of the norm's gain. -/
theorem ref_dg (k : Fin 1024) : val_main_v66 (F := Ideal) x sc w du dp (ix2 0 k)
    = ∑ b : Fin 4, ∑ t : Fin 2048, dh w du dp b t k * (1 + sc (ix2 b k)) * xhat x b t k := by
  pointwise [val_main_v66, val_main_v50, val_main_v47, val_main_v46, val_main_v45, val_main_v43, val_main_v42, val_main_v19, val_main_v18,
    val_main_v17, val_main_cst_3, val_main_cst_10, val_main_cst_11, ref_dh, ref_xhat, Shared.hostReduceAdd_lead]
  rw [Fin.sum_univ_one, Fin.sum_univ_one]
  exact Finset.sum_congr rfl fun _ _ => Finset.sum_congr rfl fun _ _ => mul_comm _ _

/-- What reaches each feature through the mean square. -/
def back (b : Fin 4) (t : Fin 2048) : EReal :=
  Ideal.div ((∑ k : Fin 1024, x (ix3 b t k) * (dh w du dp b t k * (1 + sc (ix2 b k)) * g (ix2 0 k)))
    * (Ideal.ofBits .f32 0xBF000000#32 * Ideal.div (Ideal.rsqrt (var x b t)) (var x b t))) (Ideal.ofBits .f32 0x44800000#32)

/-- The gradient of the input, as the reference writes it. -/
theorem ref_dx (b : Fin 4) (t : Fin 2048) (k : Fin 1024) : val_main_v65 (F := Ideal) x sc g w dx1 du dp (ix3 b t k)
    = dx1 (ix3 b t k) + dh w du dp b t k * (1 + sc (ix2 b k)) * g (ix2 0 k) * Ideal.rsqrt (var x b t) + x (ix3 b t k) * back x sc g w du dp b t
      + back x sc g w du dp b t * x (ix3 b t k) := by
  pointwise [val_main_v65, val_main_v64, val_main_v63, val_main_v62, val_main_v61, val_main_v60, val_main_v59, val_main_v58, val_main_v57,
    val_main_v56, val_main_v55, val_main_v54, val_main_v53, val_main_v52, val_main_v51, val_main_v49, val_main_v48, val_main_v43, val_main_v42,
    val_main_v19, val_main_v18, val_main_v17, val_main_cst_3, val_main_cst_12, val_main_cst_13, val_main_cst_14, ref_dh, val_main_v14, val_main_v0,
    val_main_v11, val_main_v10, val_main_v9, val_main_v8, val_main_cst_2, ref_var]
  rw [Fin.sum_univ_one]
  simp only [ref_var]
  rfl

/-- The gradient of the input, in the usual closed form. -/
def kdx (b : Fin 4) (t : Fin 2048) (k : Fin 1024) : EReal :=
  dx1 (ix3 b t k) + Ideal.rsqrt (var x b t) * (dh w du dp b t k * (1 + sc (ix2 b k)) * g (ix2 0 k)
    - xhat x b t k * Ideal.div (∑ j : Fin 1024, dh w du dp b t j * (1 + sc (ix2 b j)) * g (ix2 0 j) * xhat x b t j)
        (Ideal.ofBits .f32 0x44800000#32))

open Shared in
/-- The two forms of the gradient of the input agree when everything but the incoming gradient is finite. -/
theorem dx_eq (hx : ∀ i, Real' (x i)) (hsc : ∀ i, Real' (sc i)) (hg : ∀ i, Real' (g i)) (hw : ∀ i, Real' (w i))
    (hdu : ∀ i, Real' (du i)) (hdp : ∀ i, Real' (dp i)) (b : Fin 4) (t : Fin 2048) (k : Fin 1024) :
    val_main_v65 (F := Ideal) x sc g w dx1 du dp (ix3 b t k) = kdx x dx1 sc g w du dp b t k := by
  have hdz : ∀ j, Real' (dz du dp b t j) := fun j => by unfold dz; split; exacts [hdu _, hdp _]
  have hu : ∀ k, Real' (dh w du dp b t k * (1 + sc (ix2 b k)) * g (ix2 0 k)) := fun k =>
    (((Real'.sum _ fun j => (hdz j).mul (hw _)).mul (Real'.one.add (hsc _))).mul (hg _))
  rw [ref_dx]
  refine norm_grad (fun k => x (ix3 b t k)) (fun k => dh w du dp b t k * (1 + sc (ix2 b k)) * g (ix2 0 k)) (fun k => hx _) hu
    (dx1 (ix3 b t k)) (c := 1024) (by norm_num) eps_pos (by rw [var, f32_1024, f32_eps]) (by rw [back, f32_1024, f32_neg_half]) k |>.trans ?_
  rw [kdx, f32_1024]
  rfl

end Cert.MixInMath

end
-- ==== Proof.MixInMath.Kernel.lean ====
/- The kernel's blocks and payloads at one grid point, read as the reference's quantities at the point's tokens. -/
module

public import proofs.«01_k».proof.Proof.Gen.MixInIdeal.Frame
public import proofs.«01_k».proof.Proof.Gen.MixInIdeal.Value
public import proofs.«01_k».proof.Proof.MixInMath.Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.MixInMath

open Cert.MixInIdeal Cert.MixInIdeal.Gen

variable (m : (ℓ : Loc nD τ sig) → Buf (Elt Ideal) ℓ) (c : Dev nD)

/-- The kernel's arguments. -/
abbrev aX : FVec Ideal S4x2048x1024 .f32 := m ((c : Thread nD τ).loc main_arg0)
abbrev aSh : FVec Ideal S4x1024 .f32 := m ((c : Thread nD τ).loc main_arg1)
abbrev aSc : FVec Ideal S4x1024 .f32 := m ((c : Thread nD τ).loc main_arg2)
abbrev aG : FVec Ideal S1x1024 .f32 := m ((c : Thread nD τ).loc main_arg3)
abbrev aW : FVec Ideal S1x1024x1024 .f32 := m ((c : Thread nD τ).loc main_arg4)
abbrev aD : FVec Ideal S4x2048x1024 .f32 := m ((c : Thread nD τ).loc main_arg5)
abbrev aU : FVec Ideal S4x2048x512 .f32 := m ((c : Thread nD τ).loc main_arg6)
abbrev aP : FVec Ideal S4x2048x512 .f32 := m ((c : Thread nD τ).loc main_arg7)

/-- Every window's block at a grid point. -/
theorem idx : ∀ t : Fin cfg0.N, win0_0.index t = ![t.val % 2, t.val / 2]
    ∧ win0_1.index t = ![t.val / 2, t.val % 2, 0]
    ∧ win0_2.index t = ![t.val / 2, t.val % 2, 0]
    ∧ win0_3.index t = ![t.val / 2, t.val % 2, 0]
    ∧ win0_4.index t = ![t.val / 2, 0, 0]
    ∧ win0_5.index t = ![t.val / 2, 0, 0]
    ∧ win0_6.index t = ![0, 0]
    ∧ win0_7.index t = ![0, 0]
    ∧ win0_8.index t = ![t.val / 2, t.val % 2, 0]
    ∧ win0_9.index t = ![0, 0]
    ∧ win0_10.index t = ![t.val / 2, 0, 0]
    ∧ win0_11.index t = ![t.val / 2, 0, 0]
    ∧ win0_12.index t = ![0, 0] :=
  (by decide +kernel : ∀ t : Fin grid0.N, _)

theorem lt8 (t : Fin cfg0.N) : t.val < 8 := lt_of_lt_of_eq t.2 N_0

/-- The batch row and the token of a grid point's row. -/
def row (t : Fin cfg0.N) : Fin 4 := ⟨t.val / 2, by have := lt8 t; omega⟩
def tok (t : Fin cfg0.N) (r : Fin 1024) : Fin 2048 := ⟨(t.val % 2) * 1024 + r, by omega⟩

section blocks
variable (t : Fin cfg0.N) (r k : Fin 1024) (j : Fin 512)

theorem rd0 : iblk m c 0 t (ix2 r j) = aU m c (ix3 (row t) (tok t r) j) := by
  blk_simp [iblk, idx t]
  entry_read
  pointwise
  blk_point [idx t, row, tok]
theorem rd1 : iblk m c 1 t (ix3 0 r j) = aP m c (ix3 (row t) (tok t r) j) := by blk_point [iblk, V, idx t, row, tok]
theorem rd2 : iblk m c 2 t (ix3 0 r k) = aX m c (ix3 (row t) (tok t r) k) := by blk_point [iblk, V, idx t, row, tok]
theorem rd3 : iblk m c 3 t (ix3 0 r k) = aD m c (ix3 (row t) (tok t r) k) := by blk_point [iblk, V, idx t, row, tok]
theorem rd4 : iblk m c 4 t (ix3 0 0 k) = aSh m c (ix2 (row t) k) := by blk_point [iblk, V, idx t, row, tok]
theorem rd5 : iblk m c 5 t (ix3 0 0 k) = aSc m c (ix2 (row t) k) := by blk_point [iblk, V, idx t, row, tok]
theorem rd6 : iblk m c 6 t (ix2 0 k) = aG m c (ix2 0 k) := by blk_point [iblk, V, idx t, row, tok]
theorem rd7 : iblk m c 7 t (ix2 r k) = aW m c (ix3 0 r k) := by blk_point [iblk, V, idx t, row, tok]
end blocks

end Cert.MixInMath

end
-- ==== Proof.MixInMath.Pay.lean ====
/- The kernel's payloads at one grid point: each step's values, and what the step adds to each accumulated result. -/
module

public import proofs.«01_k».proof.Proof.MixInMath.Kernel

@[expose] public section

set_option maxRecDepth 16384

noncomputable section

open Idealize.ShloMosaic Idealize.ShloMosaic.TcCoe Idealize.SL.Sem
open Idealize.ShloMosaic.Pipeline (Dat)
open scoped BigOperators

namespace Cert.MixInMath

open Cert.MixInIdeal Cert.MixInIdeal.Gen

variable (m : (ℓ : Loc nD τ sig) → Buf (Elt Ideal) ℓ) (c : Dev nD) (t : Fin cfg0.N) (r k j : Fin 1024)

theorem p8 : k0_pay8 (iblk m c 0 t) (iblk m c 1 t) (ix2 r j) = dz (aU m c) (aP m c) (row t) (tok t r) j := by
  pointwise [k0_pay8, rd0, rd1, dz]
theorem p10 : k0_pay10 (iblk m c 2 t) (ix2 r 0) = Ideal.rsqrt (var (aX m c) (row t) (tok t r)) := by
  pointwise [k0_pay10, k0_pay9, rd2, var]
theorem p11 : k0_pay11 (iblk m c 2 t) (ix2 r k) = xhat (aX m c) (row t) (tok t r) k := by
  pointwise [k0_pay11, k0_pay9, rd2, p10, xhat]
theorem p12 : k0_pay12 (iblk m c 5 t) (ix2 0 k) = aSc m c (ix2 (row t) k) := by
  pointwise [k0_pay12, rd5]
theorem p13 : k0_pay13 (iblk m c 2 t) (iblk m c 6 t) (ix2 r k) = xhat (aX m c) (row t) (tok t r) k * aG m c (ix2 0 k) := by
  pointwise [k0_pay13, p11, rd6]
theorem p14 : k0_pay14 (iblk m c 5 t) (ix2 r k) = 1 + aSc m c (ix2 (row t) k) := by
  pointwise [k0_pay14, p12]
theorem p16 : k0_pay16 (k0_pay8 (iblk m c 0 t) (iblk m c 1 t)) (iblk m c 7 t) (ix2 r k)
    = dh (aW m c) (aU m c) (aP m c) (row t) (tok t r) k := by
  pointwise [k0_pay16, p8, rd7, dh]

/-- One step's addition to the gradient of the weights. -/
theorem p15 (acc : FVec Ideal S1024x1024 .f32) : k0_pay15 (k0_pay8 (iblk m c 0 t) (iblk m c 1 t)) (k0_pay13 (iblk m c 2 t) (iblk m c 6 t))
    (k0_pay14 (iblk m c 5 t)) (iblk m c 4 t) acc (ix2 k j)
    = acc (ix2 k j) + ∑ r : Fin 1024, hid (aX m c) (aSh m c) (aSc m c) (aG m c) (row t) (tok t r) k * dz (aU m c) (aP m c) (row t) (tok t r) j := by
  pointwise [k0_pay15, p8, p13, p14, rd4, hid]

/-- One step's addition to the gradient of the shift. -/
theorem p17 (acc : FVec Ideal S1x1x1024 .f32) : k0_pay17 (k0_pay8 (iblk m c 0 t) (iblk m c 1 t)) (iblk m c 7 t) acc (ix3 0 0 k)
    = acc (ix3 0 0 k) + ∑ r : Fin 1024, dh (aW m c) (aU m c) (aP m c) (row t) (tok t r) k := by
  pointwise [k0_pay17, p16]

/-- One step's addition to the gradient of the scale. -/
theorem p18 (acc : FVec Ideal S1x1x1024 .f32) : k0_pay18 (k0_pay8 (iblk m c 0 t) (iblk m c 1 t))
    (k0_pay13 (iblk m c 2 t) (iblk m c 6 t)) (iblk m c 7 t) acc (ix3 0 0 k)
    = acc (ix3 0 0 k) + ∑ r : Fin 1024, dh (aW m c) (aU m c) (aP m c) (row t) (tok t r) k
        * (xhat (aX m c) (row t) (tok t r) k * aG m c (ix2 0 k)) := by
  pointwise [k0_pay18, p16, p13]

theorem p1 : k0_pay1 (k0_pay12 (iblk m c 5 t)) (k0_pay16 (k0_pay8 (iblk m c 0 t) (iblk m c 1 t)) (iblk m c 7 t))
    (1 : EReal) (ix2 r k)
    = dh (aW m c) (aU m c) (aP m c) (row t) (tok t r) k * (1 + aSc m c (ix2 (row t) k)) := by
  pointwise [k0_pay1, p12, p16]

/-- One step's addition to the gradient of the norm's gain. -/
theorem p2 (acc : FVec Ideal S1x1024 .f32) : k0_pay2 (k0_pay11 (iblk m c 2 t)) (k0_pay12 (iblk m c 5 t))
    (k0_pay16 (k0_pay8 (iblk m c 0 t) (iblk m c 1 t)) (iblk m c 7 t)) (Scalar.ofBits (F := Ideal) .f32 0x3F800000#32) acc (ix2 0 k)
    = acc (ix2 0 k) + ∑ r : Fin 1024, dh (aW m c) (aU m c) (aP m c) (row t) (tok t r) k * (1 + aSc m c (ix2 (row t) k))
        * xhat (aX m c) (row t) (tok t r) k := by
  pointwise [k0_pay2, p1, p11]

/-- What one step writes of the gradient of the input. -/
theorem p3 : k0_pay3 (k0_pay10 (iblk m c 2 t)) (k0_pay11 (iblk m c 2 t)) (iblk m c 6 t) (k0_pay12 (iblk m c 5 t))
    (k0_pay16 (k0_pay8 (iblk m c 0 t) (iblk m c 1 t)) (iblk m c 7 t)) (Scalar.ofBits (F := Ideal) .f32 0x3F800000#32) (iblk m c 3 t) (ix3 0 r k)
    = kdx (aX m c) (aD m c) (aSc m c) (aG m c) (aW m c) (aU m c) (aP m c) (row t) (tok t r) k := by
  pointwise [k0_pay3, p1, p10, p11, rd3, rd6, kdx]

end Cert.MixInMath

end
-- ==== Proof.MixInMath.Final.lean ====
/- The kernel's five result arrays after the run. -/
module

public import proofs.«01_k».proof.Proof.MixInMath.Pay

@[expose] public section

set_option maxRecDepth 16384

noncomputable section

open Idealize.ShloMosaic Idealize.ShloMosaic.TcCoe Idealize.SL.Sem
open Idealize.ShloMosaic.Pipeline (Dat)
open scoped BigOperators

namespace Cert.MixInMath

open Cert.MixInIdeal Cert.MixInIdeal.Gen

variable (m : (ℓ : Loc nD τ sig) → Buf (Elt Ideal) ℓ) (c : Dev nD)

theorem z4 (j) : k0_pay4 (F := Ideal) j = 0 := by pointwise [k0_pay4]
theorem z5 (j) : k0_pay5 (F := Ideal) j = 0 := by pointwise [k0_pay5]
theorem z6 (j) : k0_pay6 (F := Ideal) j = 0 := by pointwise [k0_pay6]
theorem z7 (j) : k0_pay7 (F := Ideal) j = 0 := by pointwise [k0_pay7]

/-- The steps of one batch row's run. -/
theorem row_run (t : Fin cfg0.N) (s : Fin 2) (h : 2 * (t.val / 2) + s.val < cfg0.N) : row ⟨2 * (t.val / 2) + s.val, h⟩ = row t :=
  Fin.ext (by simp only [row]; omega)
theorem tok_run (t : Fin cfg0.N) (s : Fin 2) (h : 2 * (t.val / 2) + s.val < cfg0.N) (k : Fin 1024) (hl : s.val * 1024 + k.val < 2048) :
    tok ⟨2 * (t.val / 2) + s.val, h⟩ k = ⟨s.val * 1024 + k.val, hl⟩ :=
  Fin.ext (by simp only [tok]; omega)

/-- The gradient of the input: every step writes its own tokens. -/
theorem final_8 : (dats m 0 c).arrAt 8 (cfgs 0).N
    = fun i : S4x2048x1024.Idx => kdx (aX m c) (aD m c) (aSc m c) (aG m c) (aW m c) (aU m c) (aP m c) (i 0) (i 1) (i 2) := by
  refine (dats m 0 c).arrAt_eq_of_covers 8 _ (by decide +kernel) fun t hf y => ?_
  blk_simp; rw [after0_8]
  have key : (outsAt0 m c t.val t.isLt).1 y = kdx (aX m c) (aD m c) (aSc m c) (aG m c) (aW m c) (aU m c) (aP m c) (row t) (tok t (y 1)) (y 2) := by
    have hy : y = ix3 0 (y 1) (y 2) := by blk_ext
    by_cases h0 : t.val % 8 = 0
    · have h1 : t.val % 2 = 0 := by omega
      rw [outsAt0_A m c t h0 h1]; frame_out; rw [hy]; exact p3 m c t _ _
    · by_cases h1 : t.val % 2 = 0
      · rw [outsAt0_C m c t h0 h1]; frame_out; rw [hy]; exact p3 m c t _ _
      · rw [outsAt0_B m c t h0 h1]; frame_out; rw [hy]; exact p3 m c t _ _
  have hi : (win0_8.blk t).view.emb y = ix3 (row t) (tok t (y 1)) (y 2) := by blk_ext [idx t, row, tok]
  rw [hi]
  exact key

/-- The gradient of the weights: one block, added into at every step. -/
theorem final_9 : (dats m 0 c).arrAt 9 (cfgs 0).N
    = fun i : S1024x1024.Idx => ∑ b : Fin 4, ∑ s : Fin 2048, hid (aX m c) (aSh m c) (aSc m c) (aG m c) b s (i 0) * dz (aU m c) (aP m c) b s (i 1) := by
  refine (dats m 0 c).arrAt_eq_of_after_last 9 t0_7 (by decide +kernel) _ fun j => ?_
  blk_simp
  rw [after0_9, Pipeline.eq_sum_fin_of_reset_step_apply_last (fun n h => (outsAt0 m c n h).2.1) 8 (fun _ => 0)
    (fun t j => ∑ r : Fin 1024, hid (aX m c) (aSh m c) (aSc m c) (aG m c) (row t) (tok t r) (j 0) * dz (aU m c) (aP m c) (row t) (tok t r) (j 1))
    (fun t h j => by
      have hj : j = ix2 (j 0) (j 1) := by blk_ext
      have h1 : t.val % 2 = 0 := by omega
      rw [outsAt0_A m c t h h1]; frame_out; rw [hj]; refine (p15 m c t _ _ _).trans ?_; rw [z4]; rfl)
    (fun t h j => by
      have hj : j = ix2 (j 0) (j 1) := by blk_ext
      by_cases h1 : t.val % 2 = 0
      · rw [outsAt0_C m c t h h1]; frame_out; rw [hj]; exact p15 m c t _ _ _
      · rw [outsAt0_B m c t h h1]; frame_out; rw [hj]; exact p15 m c t _ _ _)
    (le_of_eq N_0) t0_7 rfl j, zero_add]
  exact Fin.sum_points_lanes_congr 2 fun t k ha hl => rfl

/-- The gradient of the norm's gain: one block, added into at every step. -/
theorem final_12 : (dats m 0 c).arrAt 12 (cfgs 0).N
    = fun i : S1x1024.Idx => ∑ b : Fin 4, ∑ s : Fin 2048, dh (aW m c) (aU m c) (aP m c) b s (i 1) * (1 + aSc m c (ix2 b (i 1)))
        * xhat (aX m c) b s (i 1) := by
  refine (dats m 0 c).arrAt_eq_of_after_last 12 t0_7 (by decide +kernel) _ fun j => ?_
  blk_simp
  rw [after0_12, Pipeline.eq_sum_fin_of_reset_step_apply_last (fun n h => (outsAt0 m c n h).2.2.2.2) 8 (fun _ => 0)
    (fun t j => ∑ r : Fin 1024, dh (aW m c) (aU m c) (aP m c) (row t) (tok t r) (j 1) * (1 + aSc m c (ix2 (row t) (j 1)))
        * xhat (aX m c) (row t) (tok t r) (j 1))
    (fun t h j => by
      have hj : j = ix2 0 (j 1) := by blk_ext
      have h1 : t.val % 2 = 0 := by omega
      rw [outsAt0_A m c t h h1]; frame_out; rw [hj]; refine (p2 m c t _ _).trans ?_; rw [z5]; rfl)
    (fun t h j => by
      have hj : j = ix2 0 (j 1) := by blk_ext
      by_cases h1 : t.val % 2 = 0
      · rw [outsAt0_C m c t h h1]; frame_out; rw [hj]; exact p2 m c t _ _
      · rw [outsAt0_B m c t h h1]; frame_out; rw [hj]; exact p2 m c t _ _)
    (le_of_eq N_0) t0_7 rfl j, zero_add]
  exact Fin.sum_points_lanes_congr 2 fun t k ha hl => rfl

/-- The gradient of the shift: one block per batch row, added into over the row's steps. -/
theorem final_10 : (dats m 0 c).arrAt 10 (cfgs 0).N
    = fun i : S4x1x1024.Idx => ∑ s : Fin 2048, dh (aW m c) (aU m c) (aP m c) (i 0) s (i 2) := by
  refine (dats m 0 c).arrAt_eq_of_covers 10 _ (by decide +kernel) fun t hf y => ?_
  blk_simp
  rw [after0_10, Pipeline.eq_sum_fin_of_reset_step_apply_of_flush (fun n h => (outsAt0 m c n h).2.2.1) 2 (fun _ => 0)
    (fun t j => ∑ r : Fin 1024, dh (aW m c) (aU m c) (aP m c) (row t) (tok t r) (j 2))
    (fun t h j => by
      have hj : j = ix3 0 0 (j 2) := by blk_ext
      by_cases h1 : t.val % 8 = 0
      · rw [outsAt0_A m c t h1 h]; frame_out; rw [hj]; refine (p17 m c t _ _).trans ?_; rw [z6]; rfl
      · rw [outsAt0_C m c t h1 h]; frame_out; rw [hj]; refine (p17 m c t _ _).trans ?_; rw [z6]; rfl)
    (fun t h j => by
      have hj : j = ix3 0 0 (j 2) := by blk_ext
      rw [outsAt0_B m c t (by omega) h]; frame_out; rw [hj]; exact p17 m c t _ _)
    t ((flush0_10 t).mp hf) _, zero_add]
  have hi : (win0_10.blk t).view.emb y = ix3 (row t) 0 (y 2) := by blk_ext [idx t, row, tok]
  rw [hi]
  refine Fin.sum_mul_add_congr fun s k hl => ?_
  rw [row_run, tok_run _ _ _ _ hl]
  rfl

/-- The gradient of the scale: one block per batch row, added into over the row's steps. -/
theorem final_11 : (dats m 0 c).arrAt 11 (cfgs 0).N
    = fun i : S4x1x1024.Idx => ∑ s : Fin 2048, dh (aW m c) (aU m c) (aP m c) (i 0) s (i 2)
        * (xhat (aX m c) (i 0) s (i 2) * aG m c (ix2 0 (i 2))) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 2 (fun _ => 0)
    (fun t j => ∑ r : Fin 1024, dh (aW m c) (aU m c) (aP m c) (row t) (tok t r) (j 2)
        * (xhat (aX m c) (row t) (tok t r) (j 2) * aG m c (ix2 0 (j 2))))
    (fun t h j => by
      have hj : j = ix3 0 0 (j 2) := by blk_ext
      by_cases h1 : t.val % 8 = 0
      · rw [outsAt0_A m c t h1 h]; frame_out; rw [hj]; refine (p18 m c t _ _).trans ?_; rw [z7]; rfl
      · rw [outsAt0_C m c t h1 h]; frame_out; rw [hj]; refine (p18 m c t _ _).trans ?_; rw [z7]; rfl)
    (fun t h j => by
      have hj : j = ix3 0 0 (j 2) := by blk_ext
      rw [outsAt0_B m c t (by omega) h]; frame_out; rw [hj]; exact p18 m c t _ _)
    t ((flush0_11 t).mp hf) _, zero_add]
  have hi : (win0_11.blk t).view.emb y = ix3 (row t) 0 (y 2) := by blk_ext [idx t, row, tok]
  rw [hi]
  refine Fin.sum_mul_add_congr fun s k hl => ?_
  rw [row_run, tok_run _ _ _ _ hl]
  rfl

end Cert.MixInMath

end
-- ==== Proof.MixInMath.Claim.lean ====
/- The kernel's five results are the reference's, under the stated finiteness. -/
module

public import proofs.«01_k».proof.Defs
public import proofs.«01_k».proof.Proof.Gen.Pre_mixer_in_bwd_finite
public import proofs.«01_k».proof.Proof.Gen.MixInRefIdeal.Run
public import proofs.«01_k».proof.Proof.MixInMath.Final

@[expose] public section

set_option maxRecDepth 16384

noncomputable section

open Idealize.ShloMosaic Idealize.ShloMosaic.TcCoe Idealize.SL.Sem

namespace Cert.MixInMath

open Shared

/-- What the precondition says of the arguments. -/
theorem args_real {x dx1 : FVec Ideal Cert.MixInIdeal.S4x2048x1024 .f32} {sh sc : FVec Ideal Cert.MixInIdeal.S4x1024 .f32}
    {g : FVec Ideal Cert.MixInIdeal.S1x1024 .f32} {w : FVec Ideal Cert.MixInIdeal.S1x1024x1024 .f32}
    {du dp : FVec Ideal Cert.MixInIdeal.S4x2048x512 .f32}
    (h : Cert.Pre_mixer_in_bwd_finite.fn (F := Ideal) x sh sc g w dx1 du dp = fun _ => 1#1) :
    (∀ i, Real' (x i)) ∧ (∀ i, Real' (sc i)) ∧ (∀ i, Real' (g i)) ∧ (∀ i, Real' (w i)) ∧ (∀ i, Real' (du i)) ∧ (∀ i, Real' (dp i)) := by
  obtain ⟨h, hdp⟩ := and_split (congrFun h ix0)
  obtain ⟨h, hdu⟩ := and_split h
  obtain ⟨h, hw⟩ := and_split h
  obtain ⟨h, hg⟩ := and_split h
  obtain ⟨hx, hsc⟩ := and_split h
  exact ⟨real_of_all hx fun _ => f32_top, real_of_all hsc fun _ => f32_top, real_of_all hg fun _ => f32_top,
    real_of_all hw fun _ => f32_top, real_of_all hdu fun _ => f32_top, real_of_all hdp fun _ => f32_top⟩

theorem algebraic : Cert.algebraic_MixInIdeal_MixInRefIdeal_pre_mixer_in_bwd_finite := by
  intro m g m' g' hpre hagree
  refine ⟨_, _, _, _, _, Cert.MixInIdeal.Value.run_blocks m g, θ_run_mono (Cert.MixInRefIdeal.Value.run m' g') fun r h c => ?_⟩
  obtain ⟨hx, hsc, hg, hw, hdu, hdp⟩ := args_real (hpre c)
  obtain ⟨e0, e1, e2, e3, e4, e5, e6, e7⟩ := hagree c
  refine ⟨(h c).1.trans ?_, (h c).2.1.trans ?_, (h c).2.2.1.trans ?_, (h c).2.2.2.1.trans ?_, (h c).2.2.2.2.1.trans ?_, (h c).2.2.2.2.2⟩
  · refine (Cert.MixInRefIdeal.Read.val_main_v65_eq m' c).trans ?_
    rw [e0, e2, e3, e4, e5, e6, e7]
    refine Eq.trans ?_ (final_8 m c).symm
    funext i
    idx_vars i
    exact dx_eq _ _ _ _ _ _ _ hx hsc hg hw hdu hdp _ _ _
  · refine (Cert.MixInRefIdeal.Read.val_main_v67_eq _ _ _ _ _ _).trans ?_
    rw [e0, e1, e2, e3, e6, e7]
    refine Eq.trans ?_ (final_9 m c).symm
    funext i
    idx_vars i
    exact ref_dw _ _ _ _ _ _ _ _
  · refine (Cert.MixInRefIdeal.Read.val_main_v68_eq _ _ _).trans ?_
    rw [e4, e6, e7]
    refine Eq.trans ?_ (final_10 m c).symm
    funext i
    exact (congrArg _ (show i = ix3 (i 0) 0 (i 2) by blk_ext)).trans (ref_dsh _ _ _ _ _)
  · refine (Cert.MixInRefIdeal.Read.val_main_v69_eq _ _ _ _ _).trans ?_
    rw [e0, e3, e4, e6, e7]
    refine Eq.trans ?_ (final_11 m c).symm
    funext i
    exact (congrArg _ (show i = ix3 (i 0) 0 (i 2) by blk_ext)).trans (ref_dsc _ _ _ _ _ _ _)
  · refine (Cert.MixInRefIdeal.Read.val_main_v66_eq _ _ _ _ _).trans ?_
    rw [e0, e2, e4, e6, e7]
    refine Eq.trans ?_ (final_12 m c).symm
    funext i
    exact (congrArg _ (show i = ix2 0 (i 1) by blk_ext)).trans (ref_dg _ _ _ _ _ _)

end Cert.MixInMath

end
-- ==== Proof.FfnBwdRun.RunB.lean ====
/- The body's run at the grid points of case B. -/
module

public import proofs.«01_k».proof.Proof.Gen.FfnBwdIdeal.Frame.RunA

@[expose] public section

-- membership in a rectangle of production extents (`View.cover_of_tiled`): the elaborator's structural look
-- recurses once per coordinate of the long axes
set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in each result's block in case B, with the run that finds them. -/
noncomputable def kernelRun0_B (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : ¬cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo14 : Vec F S1x1x1024 .f32) (xo15 : Vec F S1x1x1024 .f32) (xo16 : Vec F S1x1024 .f32) (xo17 : Vec F S3x2816 .f32) (xo18 : Vec F S1x2816 .f32) (xs0 : Vec F S1x264x2816 .f32) :
    Σ' (L12 : List (View.Piece (Elt F) S1x256x5632 .bf16)), Σ' (L13 : List (View.Piece (Elt F) S1x256x1024 .f32)), Σ' (L14 : List (View.Piece (Elt F) S1x1x1024 .f32)), Σ' (L15 : List (View.Piece (Elt F) S1x1x1024 .f32)), Σ' (L16 : List (View.Piece (Elt F) S1x1024 .f32)), Σ' (L17 : List (View.Piece (Elt F) S3x2816 .f32)), Σ' (L18 : List (View.Piece (Elt F) S1x2816 .f32)), { LS0 : List (View.Piece (Elt F) S1x264x2816 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg18.eq_unread hf16; obtain rfl := harg19.eq_unread hf17; obtain rfl := harg20.eq_unread hf18; obtain rfl := harg21.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.FfnBwdIdeal.Gen

end
-- ==== Proof.FfnBwdRun.Outs.lean ====
/- What each grid point leaves in the results' blocks and in the carried scratch. -/
module

public import proofs.«01_k».proof.Proof.FfnBwdRun.RunC
public import Idealize.ShloMosaic.Lib.Claim

@[expose] public section

-- membership in a rectangle of production extents (`View.cover_of_tiled`): the elaborator's structural look
-- recurses once per coordinate of the long axes
set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section caseA
variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : cond0_0 i) (hc1 : cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16)

/-- The pieces stored there cover the block. -/
theorem cover0_A_12 (y : S1x256x5632.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 S1x256x2816.size (by sl_kernel_rfl) y

/-- What the case leaves there. -/
def out0_A_12 : Vec F S1x256x5632 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1)

/-- The pieces stored there cover the block. -/
theorem cover0_A_13 (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 S1x256x1024.size (by sl_kernel_rfl) y

/-- What the case leaves there. -/
def out0_A_13 : Vec F S1x256x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1)

/-- The pieces stored there cover the block. -/
theorem cover0_A_14 (y : S1x1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1 S1x1x1024.size (by sl_kernel_rfl) y

/-- What the case leaves there. -/
def out0_A_14 : Vec F S1x1x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1)

/-- The pieces stored there cover the block. -/
theorem cover0_A_15 (y : S1x1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1 S1x1x1024.size (by sl_kernel_rfl) y

/-- What the case leaves there. -/
def out0_A_15 : Vec F S1x1x1024 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1)

/-- The pieces stored there cover the block. -/
theorem cover0_A_16 (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 S1x1024.size (by sl_kernel_rfl) y

/-- What the case leaves there. -/
def out0_A_16 : Vec F S1x1024 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1)

/-- The pieces stored there cover the block. -/
theorem cover0_A_17 (y : S3x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 ![1, 2816] (by sl_kernel_rfl) y

/-- What the case leaves there. -/
def out0_A_17 : Vec F S3x2816 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1)

/-- The pieces stored there cover the block. -/
theorem cover0_A_18 (y : S1x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1 S1x2816.size (by sl_kernel_rfl) y

/-- What the case leaves there. -/
def out0_A_18 : Vec F S1x2816 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.1)

/-- The pieces stored there cover the block. -/
theorem scover0_A_0 (y : S1x264x2816.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1 ![1, 8, 2816] (by sl_kernel_rfl) y

/-- What the case leaves there. -/
def sout0_A_0 : Vec F S1x264x2816 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1)

end caseA

section caseB
variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : ¬cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo14 : Vec F S1x1x1024 .f32) (xo15 : Vec F S1x1x1024 .f32) (xo16 : Vec F S1x1024 .f32) (xo17 : Vec F S3x2816 .f32) (xo18 : Vec F S1x2816 .f32) (xs0 : Vec F S1x264x2816 .f32)

/-- The pieces stored there cover the block. -/
theorem cover0_B_12 (y : S1x256x5632.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1 S1x256x2816.size (by sl_kernel_rfl) y

/-- What the case leaves there. -/
def out0_B_12 : Vec F S1x256x5632 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).1)

/-- The pieces stored there cover the block. -/
theorem cover0_B_13 (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1 S1x256x1024.size (by sl_kernel_rfl) y

/-- What the case leaves there. -/
def out0_B_13 : Vec F S1x256x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.1)

/-- The pieces stored there cover the block. -/
theorem cover0_B_14 (y : S1x1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1 S1x1x1024.size (by sl_kernel_rfl) y

/-- What the case leaves there. -/
def out0_B_14 : Vec F S1x1x1024 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.1)

/-- The pieces stored there cover the block. -/
theorem cover0_B_15 (y : S1x1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1 S1x1x1024.size (by sl_kernel_rfl) y

/-- What the case leaves there. -/
def out0_B_15 : Vec F S1x1x1024 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.1)

/-- The pieces stored there cover the block. -/
theorem cover0_B_16 (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1 S1x1024.size (by sl_kernel_rfl) y

/-- What the case leaves there. -/
def out0_B_16 : Vec F S1x1024 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.1)

/-- The pieces stored there cover the block. -/
theorem cover0_B_17 (y : S3x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1 S1x2816.size (by sl_kernel_rfl) y

/-- What the case leaves there. -/
def out0_B_17 : Vec F S3x2816 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.1)

/-- The pieces stored there cover the block. -/
theorem cover0_B_18 (y : S1x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1 S1x2816.size (by sl_kernel_rfl) y

/-- What the case leaves there. -/
def out0_B_18 : Vec F S1x2816 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.1)

/-- The pieces stored there cover the block. -/
theorem scover0_B_0 (y : S1x264x2816.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1 ![1, 8, 2816] (by sl_kernel_rfl) y

/-- What the case leaves there. -/
def sout0_B_0 : Vec F S1x264x2816 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo14 xo15 xo16 xo17 xo18 xs0).2.2.2.2.2.2.2.1)

end caseB

section caseC
variable (c : Dev nD) (i : grid0.Coords) (arg2 : Memref sig .tc .vmem S1x256x1024 .bf16) (harg2 : arg2.IsWhole) (arg3 : Memref sig .tc .vmem S1x256x2816 .bf16) (harg3 : arg3.IsWhole) (arg4 : Memref sig .tc .vmem S1x256x2816 .bf16) (harg4 : arg4.IsWhole) (arg5 : Memref sig .tc .vmem S1x256x2816 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S3x2816 .f32) (harg11 : arg11.IsWhole) (arg12 : Memref sig .tc .vmem S2816x1024 .bf16) (harg12 : arg12.IsWhole) (arg13 : Memref sig .tc .vmem S5632x1024 .bf16) (harg13 : arg13.IsWhole) (arg14 : Memref sig .tc .vmem S1x256x5632 .bf16) (harg14 : arg14.IsWhole) (arg15 : Memref sig .tc .vmem S1x256x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1024 .f32) (harg18 : arg18.IsWhole) (arg19 : Memref sig .tc .vmem S3x2816 .f32) (harg19 : arg19.IsWhole) (arg20 : Memref sig .tc .vmem S1x2816 .f32) (harg20 : arg20.IsWhole) (arg21 : Memref sig .tc .vmem S1x264x2816 .f32) (harg21 : arg21.IsWhole) (hc0 : ¬cond0_0 i) (hc1 : cond0_1 i)
    (x0 : Vec F S1x256x1024 .bf16) (x1 : Vec F S1x256x2816 .bf16) (x2 : Vec F S1x256x2816 .bf16) (x3 : Vec F S1x256x2816 .bf16) (x4 : Vec F S1x256x1024 .f32) (x5 : Vec F S1x256x1024 .f32) (x6 : Vec F S1x1x1024 .f32) (x7 : Vec F S1x1x1024 .f32) (x8 : Vec F S1x1024 .f32) (x9 : Vec F S3x2816 .f32) (x10 : Vec F S2816x1024 .bf16) (x11 : Vec F S5632x1024 .bf16) (xo16 : Vec F S1x1024 .f32) (xo17 : Vec F S3x2816 .f32) (xo18 : Vec F S1x2816 .f32)

/-- The pieces stored there cover the block. -/
theorem cover0_C_12 (y : S1x256x5632.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1 S1x256x2816.size (by sl_kernel_rfl) y

/-- What the case leaves there. -/
def out0_C_12 : Vec F S1x256x5632 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).1)

/-- The pieces stored there cover the block. -/
theorem cover0_C_13 (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1 S1x256x1024.size (by sl_kernel_rfl) y

/-- What the case leaves there. -/
def out0_C_13 : Vec F S1x256x1024 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.1)

/-- The pieces stored there cover the block. -/
theorem cover0_C_14 (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1 S1x1x1024.size (by sl_kernel_rfl) y

/-- What the case leaves there. -/
def out0_C_14 : Vec F S1x1x1024 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.1)

/-- The pieces stored there cover the block. -/
theorem cover0_C_15 (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1 S1x1x1024.size (by sl_kernel_rfl) y

/-- What the case leaves there. -/
def out0_C_15 : Vec F S1x1x1024 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.1)

/-- The pieces stored there cover the block. -/
theorem cover0_C_16 (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1 S1x1024.size (by sl_kernel_rfl) y

/-- What the case leaves there. -/
def out0_C_16 : Vec F S1x1024 .f32 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.1)

/-- The pieces stored there cover the block. -/
theorem cover0_C_17 (y : S3x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1 S1x2816.size (by sl_kernel_rfl) y

/-- What the case leaves there. -/
def out0_C_17 : Vec F S3x2816 .f32 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.1)

/-- The pieces stored there cover the block. -/
theorem cover0_C_18 (y : S1x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1 S1x2816.size (by sl_kernel_rfl) y

/-- What the case leaves there. -/
def out0_C_18 : Vec F S1x2816 .f32 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.1)

/-- The pieces stored there cover the block. -/
theorem scover0_C_0 (y : S1x264x2816.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1, y ∈ pc.1.set :=
  View.cover_of_tiledBy (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1 ![1, 8, 2816] (by sl_kernel_rfl) y

/-- What the case leaves there. -/
def sout0_C_0 : Vec F S1x264x2816 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xo16 xo17 xo18).2.2.2.2.2.2.2.1)

/-! ## What the outputs hold after each point -/

end caseC

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x5632 .bf16 × Vec F S1x256x1024 .f32 × Vec F S1x1x1024 .f32 × Vec F S1x1x1024 .f32 × Vec F S1x1024 .f32 × Vec F S3x2816 .f32 × Vec F S1x2816 .f32 × Vec F S1x264x2816 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 32 = 0 then
      if h1 : (n + 1) % 8 = 0 then
        (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
      else
        False.elim (by have hN : n + 1 < 32 := lt_of_lt_of_eq hn (show cfg0.N = 32 from N_0); omega)
    else
      if h1 : (n + 1) % 8 = 0 then
        (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, out0_C_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1)
      else
        (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 32 = 0) (h1 : t.val % 8 = 0) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : ¬t.val % 8 = 0) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 8 = 0) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1) := by
  obtain ⟨n, hn⟩ := t
  cases n with
  | zero => exact (by exfalso; (try dsimp only at h0); exact absurd (Nat.zero_mod _) h0)
  | succ n => exact (dif_neg h0).trans ((dif_pos h1).trans rfl)

end Cert.FfnBwdIdeal.Gen

end
-- ==== Proof.FfnBwdRun.Frame.lean ====
/- The kernel's run from any memory, and that it leaves its arguments as they were. -/
module

public import proofs.«01_k».proof.Proof.FfnBwdRun.Outs
public import Idealize.ShloMosaic.Lib.Claim

@[expose] public section

-- membership in a rectangle of production extents (`View.cover_of_tiled`): the elaborator's structural look
-- recurses once per coordinate of the long axes
set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (h1 : ¬t.val % 8 = 0) (d) :
    (dats m 0 c).before 14 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
/-- At a point of case B output 15's current staging buffer holds what the body left at the point before: the point is
    not the first, the buffer was not written back between (`flush0_15`), the window is live and uncut (Lib/Pipeline/Frame.lean
    `Dat.before_out_kept`). -/
theorem before0_15_B (c : Dev nD) (t : Fin cfg0.N) (h0 : ¬t.val % 32 = 0) (h1 : ¬t.val % 8 = 0) (d) :
    (dats m 0 c).before 15 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 32 = 0) (h1 : ¬t.val % 8 = 0) (d) :
    (dats m 0 c).before 16 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (h1 : ¬t.val % 8 = 0) (d) :
    (dats m 0 c).before 17 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 32 = 0) (h1 : ¬t.val % 8 = 0) (d) :
    (dats m 0 c).before 18 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case C output 16's current staging buffer holds what the body left at the point before: the point is
    not the first, the buffer was not written back between (`flush0_16`), the window is live and uncut (Lib/Pipeline/Frame.lean
    `Dat.before_out_kept`). -/
theorem before0_16_C (c : Dev nD) (t : Fin cfg0.N) (h0 : ¬t.val % 32 = 0) (h1 : t.val % 8 = 0) (d) :
    (dats m 0 c).before 16 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case C output 17's current staging buffer holds what the body left at the point before: the point is
    not the first, the buffer was not written back between (`flush0_17`), the window is live and uncut (Lib/Pipeline/Frame.lean
    `Dat.before_out_kept`). -/
theorem before0_17_C (c : Dev nD) (t : Fin cfg0.N) (h0 : ¬t.val % 32 = 0) (h1 : t.val % 8 = 0) (d) :
    (dats m 0 c).before 17 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case C output 18's current staging buffer holds what the body left at the point before: the point is
    not the first, the buffer was not written back between (`flush0_18`), the window is live and uncut (Lib/Pipeline/Frame.lean
    `Dat.before_out_kept`). -/
theorem before0_18_C (c : Dev nD) (t : Fin cfg0.N) (h0 : ¬t.val % 32 = 0) (h1 : t.val % 8 = 0) (d) :
    (dats m 0 c).before 18 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 8 = 0
    · by_cases hz : t.val = 0
      · rw [PhiS_castSucc m c t, PhiS_zero m c _ _ hz, PhiA0_eq]
        rw [outsAt0_A m c t h0 h1]
        unfold out0_A_12 out0_A_13 out0_A_14 out0_A_15 out0_A_16 out0_A_17 out0_A_18 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 8 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_16_C m c t h0 h1, before0_17_C m c t h0 h1, before0_18_C m c t h0 h1]
        unfold out0_C_12 out0_C_13 out0_C_14 out0_C_15 out0_C_16 out0_C_17 out0_C_18 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexact H16
        isplitl [H17]; · iexact H17
        isplitl [H18]; · iexact H18
        isplitl [HS0]; · iexists _; iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_14_B m c t h0 h1, before0_15_B m c t h0 h1, before0_16_B m c t h0 h1, before0_17_B m c t h0 h1, before0_18_B m c t h0 h1]
        unfold out0_B_12 out0_B_13 out0_B_14 out0_B_15 out0_B_16 out0_B_17 out0_B_18 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexact H14
        isplitl [H15]; · iexact H15
        isplitl [H16]; · iexact H16
        isplitl [H17]; · iexact H17
        isplitl [H18]; · iexact H18
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_FfnBwdIdeal`'s statement (Defs.lean) at any `F` — Proof.lean cites it at `Bits`:
    `theorem Cert.Proof.claim : Cert.Claim := ⟨Cert.FfnBwdIdeal.Gen.facts, fun m ρ _ => Cert.FfnBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.FfnBwdIdeal.Gen

end
-- ==== Proof.FfnBwdRun.Value.lean ====
/- The result arrays after the run. -/
module

public import proofs.«01_k».proof.Proof.FfnBwdRun.Frame
public import Idealize.ShloMosaic.Lib.Pipeline.Value

@[expose] public section

noncomputable section

namespace Cert.FfnBwdIdeal.Value

open Cert.FfnBwdIdeal Cert.FfnBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v69_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v69_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v69_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v69_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v69_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v69_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v69_6) = (dats m 0 c).arrAt 18 cfg0.N :=
  (h c).1 18

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 5 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 5).trans (((dats m 0 c).arrAt_in 5 rfl _).trans ((A_eq m c 5).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 208300 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v69_0) = (dats m 0 c).arrAt 12 cfg0.N
      ∧ r.2.mem ((c : Thread nD τ).loc main_v69_1) = (dats m 0 c).arrAt 13 cfg0.N
      ∧ r.2.mem ((c : Thread nD τ).loc main_v69_2) = (dats m 0 c).arrAt 14 cfg0.N
      ∧ r.2.mem ((c : Thread nD τ).loc main_v69_3) = (dats m 0 c).arrAt 15 cfg0.N
      ∧ r.2.mem ((c : Thread nD τ).loc main_v69_4) = (dats m 0 c).arrAt 16 cfg0.N
      ∧ r.2.mem ((c : Thread nD τ).loc main_v69_5) = (dats m 0 c).arrAt 17 cfg0.N
      ∧ r.2.mem ((c : Thread nD τ).loc main_v69_6) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.FfnBwdIdeal.Value

end
-- ==== Proof.FfnBwdRun.Bits.lean ====
/- The bit-level program and the one read over the extended reals are the same text, so the run written for any
   number type is the run of both. -/
module

public import proofs.«01_k».proof.Proof.FfnBwdRun.Frame
public import proofs.«01_k».proof.Proof.Gen.FfnBwd
public import proofs.«01_k».proof.Defs

@[expose] public section

set_option maxRecDepth 16384

namespace Cert.FfnBwdRun

open Idealize.ShloMosaic Idealize.ShloMosaic.TcCoe Idealize.ShloMosaic.Tactic Idealize.SL.Sem

/-- The frame of the bit-level program, said of the other text's program at the bits. -/
abbrev FrameBits [hI : Cert.FfnBwdIdeal.Facts] : Prop :=
  ∀ (m : (ℓ : Loc Cert.FfnBwdIdeal.nD Cert.FfnBwdIdeal.τ Cert.FfnBwdIdeal.sig) → Buf (Elt Bits) ℓ) (g : Dev Cert.FfnBwdIdeal.nD → PrngReg), True →
    θ_run (Cert.FfnBwdIdeal.defs (F := Bits)) (onTc (τ := Cert.FfnBwdIdeal.τ) (Cert.FfnBwdIdeal.main (F := Bits))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9))
      ∧ r.2.sem = fun _ => 0)

theorem frame_eq [hK : Cert.FfnBwd.Facts] [hI : Cert.FfnBwdIdeal.Facts] :
    Cert.quiescent_FfnBwd = FrameBits := by sl_kernel_rfl

theorem frame_kernel : Cert.quiescent_FfnBwd (hFfnBwd := Cert.FfnBwd.Gen.facts) :=
  (frame_eq (hK := Cert.FfnBwd.Gen.facts) (hI := Cert.FfnBwdIdeal.Gen.facts)).mpr
    fun m g _ => Cert.FfnBwdIdeal.Gen.frame (F := Bits) m g

end Cert.FfnBwdRun
-- ==== Proof.Shared.Norm.lean ====
/- The gradient of the norm over any cotangent, and two rearrangements of finite sums. -/
module

public import proofs.«01_k».proof.Proof.MixInMath.Ref

@[expose] public section

noncomputable section

open Idealize.ShloMosaic Idealize.ShloMosaic.TcCoe Idealize.SL.Sem

namespace Cert.Shared

open Cert.MixInMath (var xhat)

variable (x : FVec Ideal Cert.MixInRefIdeal.S4x2048x1024 .f32) (u : Fin 4 → Fin 2048 → Fin 1024 → EReal)

/-- What reaches each feature through the mean square, over the cotangent `u` of the normalised features. -/
def normBack (b : Fin 4) (t : Fin 2048) : EReal :=
  Ideal.div ((∑ k : Fin 1024, x (ix3 b t k) * u b t k)
    * (Ideal.ofBits .f32 0xBF000000#32 * Ideal.div (Ideal.rsqrt (var x b t)) (var x b t))) (Ideal.ofBits .f32 0x44800000#32)

/-- The gradient of the norm's input in the usual closed form, added to what comes past the norm. -/
def normDx (D : EReal) (b : Fin 4) (t : Fin 2048) (k : Fin 1024) : EReal :=
  D + Ideal.rsqrt (var x b t) * (u b t k - xhat x b t k * Ideal.div (∑ j : Fin 1024, u b t j * xhat x b t j) (Ideal.ofBits .f32 0x44800000#32))

theorem norm_dx (hx : ∀ i, Real' (x i)) (hu : ∀ b t k, Real' (u b t k)) (D : EReal) (b : Fin 4) (t : Fin 2048) (k : Fin 1024) :
    D + u b t k * Ideal.rsqrt (var x b t) + x (ix3 b t k) * normBack x u b t + normBack x u b t * x (ix3 b t k) = normDx x u D b t k := by
  refine norm_grad (fun k => x (ix3 b t k)) (u b t) (fun k => hx _) (hu b t)
    D (c := 1024) (by norm_num) eps_pos (by rw [var, f32_1024, f32_eps]) (by rw [normBack, f32_1024, f32_neg_half]) k |>.trans ?_
  rw [normDx, f32_1024]
  rfl

/-- A sum against earlier values is a sum against later values. -/
theorem sum_shift {n : ℕ} (i : ℕ) (f d : Fin n → EReal) :
    ∑ t : Fin n, (if h : i ≤ t.val then f ⟨t.val - i, by omega⟩ else 0) * d t
      = ∑ t : Fin n, f t * (if h : t.val + i < n then d ⟨t.val + i, h⟩ else 0) := by
  have hl : ∀ t : Fin n, (if h : i ≤ t.val then f ⟨t.val - i, by omega⟩ else 0) * d t
      = ∑ s : Fin n, if t.val = s.val + i then f s * d t else 0 := fun t => by
    split
    · next h =>
      rw [Finset.sum_eq_single ⟨t.val - i, by omega⟩ (fun s _ hs => if_neg fun e => hs (Fin.ext (by simp only; omega))) (by simp)]
      rw [if_pos (by simp only; omega)]
    · next h => rw [zero_mul]; exact (Finset.sum_eq_zero fun s _ => if_neg (by omega)).symm
  have hr : ∀ s : Fin n, f s * (if h : s.val + i < n then d ⟨s.val + i, h⟩ else 0)
      = ∑ t : Fin n, if t.val = s.val + i then f s * d t else 0 := fun s => by
    split
    · next h =>
      rw [Finset.sum_eq_single ⟨s.val + i, h⟩ (fun t _ ht => if_neg fun e => ht (Fin.ext e)) (by simp)]
      rw [if_pos rfl]
    · next h => rw [mul_zero]; exact (Finset.sum_eq_zero fun t _ => if_neg (by omega)).symm
  rw [Finset.sum_congr rfl fun t _ => hl t, Finset.sum_congr rfl fun t _ => hr t, Finset.sum_comm]

/-- A sum over two halves. -/
theorem sum_halves {n : ℕ} (f : Fin (n + n) → EReal) :
    ∑ j : Fin (n + n), f j = ∑ j : Fin n, f ⟨j.val, by omega⟩ + ∑ j : Fin n, f ⟨n + j.val, by omega⟩ := Fin.sum_univ_add f

end Cert.Shared

end
-- ==== Proof.FfnBwdMath.Ref.lean ====
/- The gated channel mixer's forward values and its reference's seven gradients, read at an index. -/
module

public import proofs.«01_k».proof.Proof.Gen.FfnBwdRefIdeal.Read
public import proofs.«01_k».proof.Proof.Shared.Norm

@[expose] public section

set_option maxRecDepth 16384

noncomputable section

open Idealize.ShloMosaic Idealize.ShloMosaic.TcCoe Idealize.SL.Sem

namespace Cert.FfnBwdMath

open Cert.FfnBwdRefIdeal Cert.FfnBwdRefIdeal.Gen Cert.FfnBwdRefIdeal.Read
open Cert.MixInMath (var xhat hid)

variable (x dx2 ddn : FVec Ideal S4x2048x1024 .f32) (sh sc : FVec Ideal S4x1024 .f32) (g : FVec Ideal S1x1024 .f32)
  (wu : FVec Ideal S1x1024x5632 .f32) (wc : FVec Ideal S1x3x2816 .f32) (bc : FVec Ideal S1x2816 .f32) (wd : FVec Ideal S1x2816x1024 .f32)

/-! ### The forward values -/

/-- The product by the first weight. -/
def up (b : Fin 4) (t : Fin 2048) (j : Fin 5632) : EReal := ∑ k : Fin 1024, hid x sh sc g b t k * wu (ix3 0 k j)

/-- Its value half and its gate half. -/
def val (b : Fin 4) (t : Fin 2048) (j : Fin 2816) : EReal := up x sh sc g wu b t ⟨j, by omega⟩
def gate (b : Fin 4) (t : Fin 2048) (j : Fin 2816) : EReal := up x sh sc g wu b t ⟨2816 + j, by omega⟩

/-- The gate half one, two, … tokens earlier; zero before the first token. -/
def gateAt (i : ℕ) (b : Fin 4) (t : Fin 2048) (j : Fin 2816) : EReal :=
  if h : i ≤ t.val then gate x sh sc g wu b ⟨t.val - i, by omega⟩ j else 0

/-- The gate after the causal convolution. -/
def conv (b : Fin 4) (t : Fin 2048) (j : Fin 2816) : EReal :=
  gateAt x sh sc g wu 2 b t j * wc (ix3 0 0 j) + gateAt x sh sc g wu 1 b t j * wc (ix3 0 1 j) + gateAt x sh sc g wu 0 b t j * wc (ix3 0 2 j)
    + bc (ix2 0 j)

/-- The logistic of the gate. -/
def lgt (b : Fin 4) (t : Fin 2048) (j : Fin 2816) : EReal := Ideal.div 1 (1 + Ideal.exp (-conv x sh sc g wu wc bc b t j))

theorem ref_var (b : Fin 4) (t : Fin 2048) : val_main_v7 (F := Ideal) x (ix3 b t 0) = var x b t := by
  pointwise [val_main_v7, val_main_v6, val_main_v5, val_main_v4, val_main_v3, val_main_v2, val_main_v1, val_main_cst, val_main_cst_0,
    val_main_cst_1, var]

theorem ref_xhat (b : Fin 4) (t : Fin 2048) (k : Fin 1024) : val_main_v13 (F := Ideal) x (ix3 b t k) = xhat x b t k := by
  pointwise [val_main_v13, val_main_v12, val_main_v8, ref_var, xhat]

theorem ref_hid (b : Fin 4) (t : Fin 2048) (k : Fin 1024) : val_main_v24 (F := Ideal) x sh sc g (ix3 b t k) = hid x sh sc g b t k := by
  pointwise [val_main_v24, val_main_v23, val_main_v22, val_main_v21, val_main_v20, val_main_v19, val_main_v18, val_main_v17, val_main_cst_3,
    val_main_v16, val_main_v15, val_main_v14, val_main_v0, ref_xhat, hid]

theorem ref_up (b : Fin 4) (t : Fin 2048) (j : Fin 5632) : val_main_v26 (F := Ideal) x sh sc g wu (ix3 b t j) = up x sh sc g wu b t j := by
  pointwise [val_main_v26, val_main_v25, ref_hid, up]

theorem ref_val (b : Fin 4) (t : Fin 2048) (j : Fin 2816) : val_main_v27 (F := Ideal) x sh sc g wu (ix3 b t j) = val x sh sc g wu b t j := by
  pointwise [val_main_v27, ref_up, val]

theorem ref_gate (b : Fin 4) (t : Fin 2048) (j : Fin 2816) : val_main_v28 (F := Ideal) x sh sc g wu (ix3 b t j) = gate x sh sc g wu b t j := by
  pointwise [val_main_v28, ref_up, gate]

theorem ref_gate2 (b : Fin 4) (t : Fin 2048) (j : Fin 2816) : val_main_v34 (F := Ideal) x sh sc g wu (ix3 b t j) = gateAt x sh sc g wu 2 b t j := by
  pointwise [val_main_v34, val_main_v32, val_main_v31, val_main_cst_4, ref_gate, gateAt]
  split <;> split <;> first | omega | rfl | exact congrArg (fun t => gate x sh sc g wu b t j) (Fin.ext (by simp only; omega))

theorem ref_gate1 (b : Fin 4) (t : Fin 2048) (j : Fin 2816) : val_main_v40 (F := Ideal) x sh sc g wu (ix3 b t j) = gateAt x sh sc g wu 1 b t j := by
  pointwise [val_main_v40, val_main_v32, val_main_v31, val_main_cst_4, ref_gate, gateAt]
  split <;> split <;> first | omega | rfl | exact congrArg (fun t => gate x sh sc g wu b t j) (Fin.ext (by simp only; omega))

theorem ref_gate0 (b : Fin 4) (t : Fin 2048) (j : Fin 2816) : val_main_v47 (F := Ideal) x sh sc g wu (ix3 b t j) = gateAt x sh sc g wu 0 b t j := by
  pointwise [val_main_v47, val_main_v32, val_main_v31, val_main_cst_4, ref_gate, gateAt]

theorem ref_conv (b : Fin 4) (t : Fin 2048) (j : Fin 2816) :
    val_main_v56 (F := Ideal) x sh sc g wu wc bc (ix3 b t j) = conv x sh sc g wu wc bc b t j := by
  pointwise [val_main_v56, val_main_v55, val_main_v54, val_main_v53, val_main_v52, val_main_v51, val_main_v50, val_main_v49, val_main_v48,
    val_main_v46, val_main_v45, val_main_v44, val_main_v43, val_main_v42, val_main_v41, val_main_v39, val_main_v38, val_main_v37, val_main_v36,
    val_main_v35, val_main_v30, val_main_v29, ref_gate2, ref_gate1, ref_gate0, conv]

theorem ref_sig (b : Fin 4) (t : Fin 2048) (j : Fin 2816) :
    val_main_v57_2 (F := Ideal) x sh sc g wu wc bc (ix3 b t j) = lgt x sh sc g wu wc bc b t j := by
  pointwise [val_main_v57_2, val_main_call0_v4, val_main_call0_cst_0, val_main_call0_v3, val_main_call0_v2, val_main_call0_cst,
    val_main_call0_v1, val_main_call0_v0, ref_conv, lgt]

/-! ### The gradients -/

/-- The cotangent of the activation. -/
def dact (b : Fin 4) (t : Fin 2048) (j : Fin 2816) : EReal := ∑ k : Fin 1024, ddn (ix3 b t k) * wd (ix3 0 j k)

/-- The cotangent of the value half. -/
def dval (b : Fin 4) (t : Fin 2048) (j : Fin 2816) : EReal :=
  dact ddn wd b t j * (conv x sh sc g wu wc bc b t j * lgt x sh sc g wu wc bc b t j)

/-- The cotangent of the gate after its convolution. -/
def dconv (b : Fin 4) (t : Fin 2048) (j : Fin 2816) : EReal :=
  dact ddn wd b t j * val x sh sc g wu b t j * lgt x sh sc g wu wc bc b t j
    + conv x sh sc g wu wc bc b t j * (dact ddn wd b t j * val x sh sc g wu b t j)
      * (lgt x sh sc g wu wc bc b t j * (1 - lgt x sh sc g wu wc bc b t j))

theorem ref_dact (b : Fin 4) (t : Fin 2048) (j : Fin 2816) : val_main_v61 (F := Ideal) wd ddn (ix3 b t j) = dact ddn wd b t j := by
  pointwise [val_main_v61, val_main_v59, dact]

theorem ref_dval (b : Fin 4) (t : Fin 2048) (j : Fin 2816) :
    val_main_v62 (F := Ideal) x sh sc g wu wc bc wd ddn (ix3 b t j) = dval x ddn sh sc g wu wc bc wd b t j := by
  pointwise [val_main_v62, val_main_v57_0, ref_sig, ref_conv, ref_dact, dval]
  exact mul_comm _ _

theorem ref_dconv (b : Fin 4) (t : Fin 2048) (j : Fin 2816) :
    val_main_v64 (F := Ideal) x sh sc g wu wc bc wd ddn (ix3 b t j) = dconv x ddn sh sc g wu wc bc wd b t j := by
  pointwise [val_main_v64, val_main_call1_v2, val_main_call1_v1, val_main_call1_v0, val_main_v63, val_main_v57_1, val_main_call0_v7,
    val_main_call0_v6, val_main_call0_cst_1, ref_sig, ref_conv, ref_dact, ref_val, dconv]

/-- The same cotangent some tokens later; zero after the last token. -/
def later (i : ℕ) (b : Fin 4) (t : Fin 2048) (j : Fin 2816) : EReal :=
  if h : t.val + i < 2048 then dconv x ddn sh sc g wu wc bc wd b ⟨t.val + i, h⟩ j else 0

/-- The cotangent of the gate half. -/
def dgate (b : Fin 4) (t : Fin 2048) (j : Fin 2816) : EReal :=
  wc (ix3 0 2 j) * dconv x ddn sh sc g wu wc bc wd b t j + wc (ix3 0 1 j) * later x ddn sh sc g wu wc bc wd 1 b t j
    + wc (ix3 0 0 j) * later x ddn sh sc g wu wc bc wd 2 b t j

/-- The cotangent of the first product. -/
def dup (b : Fin 4) (t : Fin 2048) (j : Fin 5632) : EReal :=
  if h : j.val < 2816 then dval x ddn sh sc g wu wc bc wd b t ⟨j, h⟩ else dgate x ddn sh sc g wu wc bc wd b t ⟨j.val - 2816, by omega⟩

/-- The cotangent of the modulated features, and of the normalised features. -/
def dh (b : Fin 4) (t : Fin 2048) (k : Fin 1024) : EReal :=
  ∑ j : Fin 2816, dval x ddn sh sc g wu wc bc wd b t j * wu (ix3 0 k ⟨j, by omega⟩)
    + ∑ j : Fin 2816, dgate x ddn sh sc g wu wc bc wd b t j * wu (ix3 0 k ⟨2816 + j, by omega⟩)

def dn (b : Fin 4) (t : Fin 2048) (k : Fin 1024) : EReal := dh x ddn sh sc g wu wc bc wd b t k * (1 + sc (ix2 b k)) * g (ix2 0 k)

theorem ref_dgate (b : Fin 4) (t : Fin 2048) (j : Fin 2816) :
    val_main_v100 (F := Ideal) x sh sc g wu wc bc wd ddn (ix3 b t j) = dgate x ddn sh sc g wu wc bc wd b t j := by
  pointwise [val_main_v100, val_main_v98, val_main_v97, val_main_v92, val_main_v91, val_main_v87, val_main_v86, val_main_v81, val_main_v80,
    val_main_v76, val_main_v72, val_main_v71, val_main_v50, val_main_v49, val_main_v48, val_main_v43, val_main_v42, val_main_v41,
    val_main_v37, val_main_v36, val_main_v35, val_main_v30, val_main_v29, val_main_cst_11, val_main_cst_15, val_main_cst_19, ref_dconv, dgate, later]
  rw [mul_comm (wc (ix3 0 2 j)), mul_comm (wc (ix3 0 1 j)), mul_comm (wc (ix3 0 0 j))]
  refine congrArg₂ _ (congrArg₂ _ rfl ?_) ?_
  · by_cases h : t.val + 1 < 2048
    · rw [dif_pos h, dif_pos (by omega)]
      exact congrArg (fun t => dconv x ddn sh sc g wu wc bc wd b t j * _) (Fin.ext (by simp only; omega))
    · rw [dif_neg h, dif_neg (by omega), zero_mul]
  · by_cases h : t.val + 2 < 2048
    · rw [dif_pos h, dif_pos (by omega)]
      exact congrArg (fun t => dconv x ddn sh sc g wu wc bc wd b t j * _) (Fin.ext (by simp only; omega))
    · rw [dif_neg h, dif_neg (by omega), zero_mul]

theorem ref_dup (b : Fin 4) (t : Fin 2048) (j : Fin 5632) :
    val_main_v103 (F := Ideal) x sh sc g wu wc bc wd ddn (ix3 b t j) = dup x ddn sh sc g wu wc bc wd b t j := by
  pointwise [val_main_v103, ref_dval, ref_dgate, dup]

theorem ref_out (b : Fin 4) (t : Fin 2048) (j : Fin 5632) :
    val_main_v135 (F := Ideal) x sh sc g wu wc bc wd ddn (ix3 b t j) = dup x ddn sh sc g wu wc bc wd b t j := by
  pointwise [val_main_v135, ref_dup]

theorem ref_dh (b : Fin 4) (t : Fin 2048) (k : Fin 1024) :
    val_main_v104 (F := Ideal) x sh sc g wu wc bc wd ddn (ix3 b t k) = dh x ddn sh sc g wu wc bc wd b t k := by
  pointwise [val_main_v104, val_main_v25, ref_dup]
  refine (Shared.sum_halves (n := 2816) _).trans (congrArg₂ _ (Finset.sum_congr rfl fun j _ => ?_) (Finset.sum_congr rfl fun j _ => ?_))
  · rw [dup, dif_pos j.isLt]
  · rw [dup, dif_neg (by simp)]
    congr 2
    exact Fin.ext (by simp)

theorem ref_dsh (b : Fin 4) (k : Fin 1024) : val_main_v137 (F := Ideal) x sh sc g wu wc bc wd ddn (ix3 b 0 k)
    = ∑ t : Fin 2048, dh x ddn sh sc g wu wc bc wd b t k := by
  pointwise [val_main_v137, val_main_v107, val_main_v106, val_main_v105, val_main_cst_20, val_main_cst_21, ref_dh]
  exact Fin.sum_univ_one _

theorem ref_dsc (b : Fin 4) (k : Fin 1024) : val_main_v138 (F := Ideal) x sh sc g wu wc bc wd ddn (ix3 b 0 k)
    = ∑ t : Fin 2048, dh x ddn sh sc g wu wc bc wd b t k * (xhat x b t k * g (ix2 0 k)) := by
  pointwise [val_main_v138, val_main_v113, val_main_v110, val_main_v109, val_main_v108, val_main_cst_22, val_main_cst_23, ref_dh,
    val_main_v16, val_main_v15, val_main_v14, val_main_v0, ref_xhat]
  exact (Fin.sum_univ_one _).trans (Finset.sum_congr rfl fun _ _ => mul_comm _ _)

theorem ref_dg (k : Fin 1024) : val_main_v134 (F := Ideal) x sh sc g wu wc bc wd ddn (ix2 0 k)
    = ∑ b : Fin 4, ∑ t : Fin 2048, dh x ddn sh sc g wu wc bc wd b t k * (1 + sc (ix2 b k)) * xhat x b t k := by
  pointwise [val_main_v134, val_main_v119, val_main_v116, val_main_v115, val_main_v114, val_main_v112, val_main_v111, val_main_v19, val_main_v18,
    val_main_v17, val_main_cst_3, val_main_cst_24, val_main_cst_25, ref_dh, ref_xhat, Shared.hostReduceAdd_lead]
  rw [Fin.sum_univ_one, Fin.sum_univ_one]
  exact Finset.sum_congr rfl fun _ _ => Finset.sum_congr rfl fun _ _ => mul_comm _ _

theorem ref_dbc (j : Fin 2816) : val_main_v101 (F := Ideal) x sh sc g wu wc bc wd ddn (ix2 0 j)
    = ∑ b : Fin 4, ∑ t : Fin 2048, dconv x ddn sh sc g wu wc bc wd b t j := by
  pointwise [val_main_v101, val_main_v67, val_main_v66, val_main_v65, val_main_cst_6, val_main_cst_7, ref_dconv, Shared.hostReduceAdd_lead]
  rw [Fin.sum_univ_one, Fin.sum_univ_one]

/-- The gradient of the convolution's weights, row by row. -/
theorem ref_dwc (j : Fin 2816) : val_main_v139 (F := Ideal) x sh sc g wu wc bc wd ddn (ix2 0 j)
      = ∑ b : Fin 4, ∑ t : Fin 2048, gate x sh sc g wu b t j * later x ddn sh sc g wu wc bc wd 2 b t j
    ∧ val_main_v139 (F := Ideal) x sh sc g wu wc bc wd ddn (ix2 1 j)
      = ∑ b : Fin 4, ∑ t : Fin 2048, gate x sh sc g wu b t j * later x ddn sh sc g wu wc bc wd 1 b t j
    ∧ val_main_v139 (F := Ideal) x sh sc g wu wc bc wd ddn (ix2 2 j)
      = ∑ b : Fin 4, ∑ t : Fin 2048, gate x sh sc g wu b t j * dconv x ddn sh sc g wu wc bc wd b t j := by
  refine ⟨?_, ?_, ?_⟩ <;>
  pointwise [val_main_v139, val_main_v102, val_main_v96, val_main_v95, val_main_v94, val_main_v93, val_main_v90, val_main_v89, val_main_v88,
    val_main_v85, val_main_v84, val_main_v83, val_main_v82, val_main_v79, val_main_v78, val_main_v77, val_main_v75, val_main_v74, val_main_v73,
    val_main_v70, val_main_v69, val_main_v68, val_main_cst_8, val_main_cst_9, val_main_cst_10, val_main_cst_12, val_main_cst_13, val_main_cst_14,
    val_main_cst_16, val_main_cst_17, val_main_cst_18, ref_dconv, ref_gate0, ref_gate1, ref_gate2, Shared.hostReduceAdd_lead]
  all_goals rw [Fin.sum_univ_one, Fin.sum_univ_one]
  · exact Finset.sum_congr rfl fun b _ => Shared.sum_shift 2 (fun t => gate x sh sc g wu b t j) (fun t => dconv x ddn sh sc g wu wc bc wd b t j)
  · exact Finset.sum_congr rfl fun b _ => Shared.sum_shift 1 (fun t => gate x sh sc g wu b t j) (fun t => dconv x ddn sh sc g wu wc bc wd b t j)
  · exact Finset.sum_congr rfl fun b _ => Finset.sum_congr rfl fun t _ => by rw [gateAt, dif_pos (Nat.zero_le _)]; rfl

theorem ref_dx (b : Fin 4) (t : Fin 2048) (k : Fin 1024) : val_main_v136 (F := Ideal) x sh sc g wu wc bc wd dx2 ddn (ix3 b t k)
    = dx2 (ix3 b t k) + (dn x ddn sh sc g wu wc bc wd b t k * Ideal.rsqrt (var x b t)
      + x (ix3 b t k) * Shared.normBack x (dn x ddn sh sc g wu wc bc wd) b t + Shared.normBack x (dn x ddn sh sc g wu wc bc wd) b t * x (ix3 b t k)) := by
  pointwise [val_main_v136, val_main_v133, val_main_v132, val_main_v131, val_main_v130, val_main_v129, val_main_v128, val_main_v127, val_main_v126,
    val_main_v125, val_main_v124, val_main_v123, val_main_v122, val_main_v121, val_main_v120, val_main_v118, val_main_v117, val_main_v112, val_main_v111,
    val_main_v19, val_main_v18, val_main_v17, val_main_cst_3, val_main_cst_26, val_main_cst_27, val_main_cst_28, ref_dh, val_main_v14, val_main_v0,
    val_main_v11, val_main_v10, val_main_v9, val_main_v8, val_main_cst_2, ref_var, dn]
  rw [Fin.sum_univ_one]
  simp only [ref_var, add_assoc]
  rfl

/-! ### The same values when the arguments are finite -/

open Shared

/-- The cotangent of the convolved gate with its common factor in front. -/
def kconv (b : Fin 4) (t : Fin 2048) (j : Fin 2816) : EReal :=
  dact ddn wd b t j * val x sh sc g wu b t j * (lgt x sh sc g wu wc bc b t j
    + conv x sh sc g wu wc bc b t j * lgt x sh sc g wu wc bc b t j * (1 - lgt x sh sc g wu wc bc b t j))

theorem real_var (hx : ∀ i, Real' (x i)) (b : Fin 4) (t : Fin 2048) : Real' (Ideal.rsqrt (var x b t)) := by
  choose X hX using hx
  rw [var, f32_1024, f32_eps]
  simp only [hX]
  exact ⟨_, rsqrt_mean_sq (fun k => X (ix3 b t k)) (by norm_num) eps_pos⟩

variable (hx : ∀ i, Real' (x i)) (hsh : ∀ i, Real' (sh i)) (hsc : ∀ i, Real' (sc i)) (hg : ∀ i, Real' (g i)) (hwu : ∀ i, Real' (wu i))
  (hwc : ∀ i, Real' (wc i)) (hbc : ∀ i, Real' (bc i)) (hwd : ∀ i, Real' (wd i)) (hddn : ∀ i, Real' (ddn i))

include hx hsh hsc hg hwu in
theorem real_up (b : Fin 4) (t : Fin 2048) (j : Fin 5632) : Real' (up x sh sc g wu b t j) :=
  Real'.sum _ fun k => ((((((hx _).mul (real_var x hx b t)).mul (hg _)).mul (Real'.one.add (hsc _))).add (hsh _)).mul (hwu _))

include hx hsh hsc hg hwu in
theorem real_gateAt (i : ℕ) (b : Fin 4) (t : Fin 2048) (j : Fin 2816) : Real' (gateAt x sh sc g wu i b t j) := by
  unfold gateAt; split; exacts [real_up x sh sc g wu hx hsh hsc hg hwu _ _ _, Real'.zero]

include hx hsh hsc hg hwu hwc hbc in
theorem real_conv (b : Fin 4) (t : Fin 2048) (j : Fin 2816) : Real' (conv x sh sc g wu wc bc b t j) :=
  have h := fun i => real_gateAt x sh sc g wu hx hsh hsc hg hwu i b t j
  (((((h 2).mul (hwc _)).add ((h 1).mul (hwc _))).add ((h 0).mul (hwc _))).add (hbc _))

include hx hsh hsc hg hwu hwc hbc in
theorem real_sig (b : Fin 4) (t : Fin 2048) (j : Fin 2816) : Real' (lgt x sh sc g wu wc bc b t j) := by
  obtain ⟨r, h⟩ := real_conv x sh sc g wu wc bc hx hsh hsc hg hwu hwc hbc b t j
  rw [lgt, h]
  exact ⟨_, Ideal.logistic_coe r⟩

include hwd hddn in
theorem real_dact (b : Fin 4) (t : Fin 2048) (j : Fin 2816) : Real' (dact ddn wd b t j) :=
  Real'.sum _ fun k => (hddn _).mul (hwd _)

include hx hsh hsc hg hwu hwc hbc hwd hddn

theorem dconv_eq (b : Fin 4) (t : Fin 2048) (j : Fin 2816) :
    dconv x ddn sh sc g wu wc bc wd b t j = kconv x ddn sh sc g wu wc bc wd b t j := by
  obtain ⟨s, hs⟩ := real_sig x sh sc g wu wc bc hx hsh hsc hg hwu hwc hbc b t j
  obtain ⟨a, ha⟩ := real_conv x sh sc g wu wc bc hx hsh hsc hg hwu hwc hbc b t j
  obtain ⟨d, hd⟩ := real_dact ddn wd hwd hddn b t j
  obtain ⟨v, hv⟩ := real_up x sh sc g wu hx hsh hsc hg hwu b t ⟨j, by omega⟩
  rw [dconv, kconv, hs, ha, hd, val, hv]
  norm_cast
  ring

theorem real_dconv (b : Fin 4) (t : Fin 2048) (j : Fin 2816) : Real' (dconv x ddn sh sc g wu wc bc wd b t j) := by
  have hs := real_sig x sh sc g wu wc bc hx hsh hsc hg hwu hwc hbc b t j
  have ha := real_conv x sh sc g wu wc bc hx hsh hsc hg hwu hwc hbc b t j
  have hd := (real_dact ddn wd hwd hddn b t j).mul (real_up x sh sc g wu hx hsh hsc hg hwu b t ⟨j, by omega⟩)
  exact (hd.mul hs).add ((ha.mul hd).mul (hs.mul (Real'.one.sub hs)))

theorem real_dn (b : Fin 4) (t : Fin 2048) (k : Fin 1024) : Real' (dn x ddn sh sc g wu wc bc wd b t k) := by
  have hl : ∀ i j, Real' (later x ddn sh sc g wu wc bc wd i b t j) := fun i j => by
    unfold later; split
    exacts [real_dconv x ddn sh sc g wu wc bc wd hx hsh hsc hg hwu hwc hbc hwd hddn _ _ _, Real'.zero]
  refine (((Real'.sum _ fun j => ?_).add (Real'.sum _ fun j => ?_)).mul (Real'.one.add (hsc _))).mul (hg _)
  · exact ((real_dact ddn wd hwd hddn b t j).mul ((real_conv x sh sc g wu wc bc hx hsh hsc hg hwu hwc hbc b t j).mul
      (real_sig x sh sc g wu wc bc hx hsh hsc hg hwu hwc hbc b t j))).mul (hwu _)
  · exact ((((hwc _).mul (real_dconv x ddn sh sc g wu wc bc wd hx hsh hsc hg hwu hwc hbc hwd hddn _ _ _)).add
      ((hwc _).mul (hl _ _))).add ((hwc _).mul (hl _ _))).mul (hwu _)

/-- The gradient of the input in the usual closed form. -/
theorem dx_eq (b : Fin 4) (t : Fin 2048) (k : Fin 1024) : val_main_v136 (F := Ideal) x sh sc g wu wc bc wd dx2 ddn (ix3 b t k)
    = normDx x (dn x ddn sh sc g wu wc bc wd) (dx2 (ix3 b t k)) b t k := by
  rw [ref_dx, ← add_assoc, ← add_assoc]
  exact norm_dx x _ hx (real_dn x ddn sh sc g wu wc bc wd hx hsh hsc hg hwu hwc hbc hwd hddn) _ b t k

end Cert.FfnBwdMath

end
-- ==== Proof.FfnBwdMath.Kernel.lean ====
/- The kernel's blocks and payloads at one grid point, read as the reference's quantities at the point's tokens. -/
module

public import proofs.«01_k».proof.Proof.FfnBwdRun.Value
public import proofs.«01_k».proof.Proof.FfnBwdMath.Ref
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.FfnBwdMath

open Cert.FfnBwdIdeal Cert.FfnBwdIdeal.Gen
open Cert.MixInMath (var xhat hid)

variable (m : (ℓ : Loc nD τ sig) → Buf (Elt Ideal) ℓ) (c : Dev nD)

/-- The kernel's arguments. -/
abbrev aX : FVec Ideal S4x2048x1024 .f32 := m ((c : Thread nD τ).loc main_arg0)
abbrev aSh : FVec Ideal S4x1024 .f32 := m ((c : Thread nD τ).loc main_arg1)
abbrev aSc : FVec Ideal S4x1024 .f32 := m ((c : Thread nD τ).loc main_arg2)
abbrev aG : FVec Ideal S1x1024 .f32 := m ((c : Thread nD τ).loc main_arg3)
abbrev aWu : FVec Ideal S1x1024x5632 .f32 := m ((c : Thread nD τ).loc main_arg4)
abbrev aWc : FVec Ideal S1x3x2816 .f32 := m ((c : Thread nD τ).loc main_arg5)
abbrev aBc : FVec Ideal S1x2816 .f32 := m ((c : Thread nD τ).loc main_arg6)
abbrev aWd : FVec Ideal S1x2816x1024 .f32 := m ((c : Thread nD τ).loc main_arg7)
abbrev aD : FVec Ideal S4x2048x1024 .f32 := m ((c : Thread nD τ).loc main_arg8)
abbrev aN : FVec Ideal S4x2048x1024 .f32 := m ((c : Thread nD τ).loc main_arg9)

/-- Every window's block at a grid point: a batch row's tiles are visited from the last to the first. -/
theorem idx : ∀ t : Fin cfg0.N, win0_0.index t = ![t.val / 8, 7 - t.val % 8, 0]
    ∧ win0_1.index t = ![t.val / 8, 7 - t.val % 8, 0]
    ∧ win0_2.index t = ![t.val / 8, 7 - t.val % 8, 0]
    ∧ win0_3.index t = ![t.val / 8, 7 - t.val % 8, 0]
    ∧ win0_4.index t = ![t.val / 8, 7 - t.val % 8, 0]
    ∧ win0_5.index t = ![t.val / 8, 7 - t.val % 8, 0]
    ∧ win0_6.index t = ![t.val / 8, 0, 0]
    ∧ win0_7.index t = ![t.val / 8, 0, 0]
    ∧ win0_8.index t = ![0, 0]
    ∧ win0_9.index t = ![0, 0]
    ∧ win0_10.index t = ![0, 0]
    ∧ win0_11.index t = ![0, 0]
    ∧ win0_12.index t = ![t.val / 8, 7 - t.val % 8, 0]
    ∧ win0_13.index t = ![t.val / 8, 7 - t.val % 8, 0]
    ∧ win0_14.index t = ![t.val / 8, 0, 0]
    ∧ win0_15.index t = ![t.val / 8, 0, 0]
    ∧ win0_16.index t = ![0, 0]
    ∧ win0_17.index t = ![0, 0]
    ∧ win0_18.index t = ![0, 0] :=
  (by decide +kernel : ∀ t : Fin grid0.N, _)

theorem lt32 (t : Fin cfg0.N) : t.val < 32 := lt_of_lt_of_eq t.2 N_0

/-- The batch row and the token of a grid point's row. -/
def row (t : Fin cfg0.N) : Fin 4 := ⟨t.val / 8, by have := lt32 t; omega⟩
def tok (t : Fin cfg0.N) (r : Fin 256) : Fin 2048 := ⟨(7 - t.val % 8) * 256 + r, by omega⟩

section host

theorem trunc_at {s : Shape} (A : FVec Ideal s .f32) (h) (i : s.Idx) : truncf (F := Ideal) .bf16 A h i = A i := by
  pointwise

/-- The windows' arrays that the host prepares: the saved forward values, the rows and the matrices' other orders. -/
theorem h6 (b : Fin 4) (k : Fin 1024) : V m c main_v61 (ix3 b (0 : Fin 1) k) = aSh m c (ix2 b k) := by
  unfold V; after_reads_at
theorem h7 (b : Fin 4) (k : Fin 1024) : V m c main_v62 (ix3 b (0 : Fin 1) k) = aSc m c (ix2 b k) := by
  unfold V; after_reads_at
theorem h9 (i : Fin 3) (j : Fin 2816) : V m c main_v63 (ix2 i j) = aWc m c (ix3 0 i j) := by
  unfold V; after_reads_at
theorem h10 (j : Fin 2816) (k : Fin 1024) : V m c main_v65 (ix2 j k) = aWd m c (ix3 0 j k) := by
  unfold V; after_reads_at
theorem h11 (j : Fin 5632) (k : Fin 1024) : V m c main_v68 (ix2 j k) = aWu m c (ix3 0 k j) := by
  unfold V; after_reads_at
theorem v1 : V m c main_v57 = truncf (F := Ideal) .bf16 (Cert.FfnBwdRefIdeal.Read.val_main_v28 (F := Ideal) (aX m c) (aSh m c) (aSc m c) (aG m c) (aWu m c)) bitsLt_bf16_f32 := by
  unfold V; after_reads_simp; rfl
theorem h1 (b : Fin 4) (t : Fin 2048) (j : Fin 2816) : V m c main_v57 (ix3 b t j) = gate (aX m c) (aSh m c) (aSc m c) (aG m c) (aWu m c) b t j :=
  (congrFun (v1 m c) _).trans ((trunc_at _ _ _).trans (ref_gate _ _ _ _ _ _ _ _ ))
theorem v2 : V m c main_v58 = truncf (F := Ideal) .bf16 (Cert.FfnBwdRefIdeal.Read.val_main_v56 (F := Ideal) (aX m c) (aSh m c) (aSc m c) (aG m c) (aWu m c) (aWc m c) (aBc m c)) bitsLt_bf16_f32 := by
  unfold V; after_reads_simp; rfl
theorem h2 (b : Fin 4) (t : Fin 2048) (j : Fin 2816) : V m c main_v58 (ix3 b t j) = conv (aX m c) (aSh m c) (aSc m c) (aG m c) (aWu m c) (aWc m c) (aBc m c) b t j :=
  (congrFun (v2 m c) _).trans ((trunc_at _ _ _).trans (ref_conv _ _ _ _ _ _ _ _ _ _ ))
theorem v3 : V m c main_v60 = truncf (F := Ideal) .bf16 (Cert.FfnBwdRefIdeal.Read.val_main_v27 (F := Ideal) (aX m c) (aSh m c) (aSc m c) (aG m c) (aWu m c)) bitsLt_bf16_f32 := by
  unfold V; after_reads_simp; rfl
theorem h3 (b : Fin 4) (t : Fin 2048) (j : Fin 2816) : V m c main_v60 (ix3 b t j) = val (aX m c) (aSh m c) (aSc m c) (aG m c) (aWu m c) b t j :=
  (congrFun (v3 m c) _).trans ((trunc_at _ _ _).trans (ref_val _ _ _ _ _ _ _ _ ))

end host

section blocks
variable (t : Fin cfg0.N) (r : Fin 256) (k : Fin 1024) (j : Fin 2816)

theorem rd4 : iblk m c 4 t (ix3 0 r k) = aX m c (ix3 (row t) (tok t r) k) := by blk_point [iblk, V, idx t, row, tok]
theorem rd5 : iblk m c 5 t (ix3 0 r k) = aD m c (ix3 (row t) (tok t r) k) := by blk_point [iblk, V, idx t, row, tok]
theorem rd8 : iblk m c 8 t (ix2 0 k) = aG m c (ix2 0 k) := by blk_point [iblk, V, idx t, row, tok]
theorem rd0 : iblk m c 0 t (ix3 0 r k) = aN m c (ix3 (row t) (tok t r) k) := by
  blk_simp [iblk, idx t]
  entry_read
  pointwise
  blk_point [idx t, row, tok]
theorem rd6 : iblk m c 6 t (ix3 (0 : Fin 1) (0 : Fin 1) k) = aSh m c (ix2 (row t) k) := by
  have e : (win0_6.blk t).view.emb (ix3 (0 : Fin 1) (0 : Fin 1) k) = (ix3 (row t) (0 : Fin 1) k) := by blk_ext [idx t, row, tok]
  rw [show iblk m c 6 t (ix3 (0 : Fin 1) (0 : Fin 1) k) = V m c main_v61 ((win0_6.blk t).view.emb (ix3 (0 : Fin 1) (0 : Fin 1) k)) from rfl, e]
  exact h6 m c _ _
theorem rd7 : iblk m c 7 t (ix3 (0 : Fin 1) (0 : Fin 1) k) = aSc m c (ix2 (row t) k) := by
  have e : (win0_7.blk t).view.emb (ix3 (0 : Fin 1) (0 : Fin 1) k) = (ix3 (row t) (0 : Fin 1) k) := by blk_ext [idx t, row, tok]
  rw [show iblk m c 7 t (ix3 (0 : Fin 1) (0 : Fin 1) k) = V m c main_v62 ((win0_7.blk t).view.emb (ix3 (0 : Fin 1) (0 : Fin 1) k)) from rfl, e]
  exact h7 m c _ _
theorem rd9 (i : Fin 3) : iblk m c 9 t (ix2 i j) = aWc m c (ix3 0 i j) := by
  have e : (win0_9.blk t).view.emb (ix2 i j) = (ix2 i j) := by blk_ext [idx t, row, tok]
  rw [show iblk m c 9 t (ix2 i j) = V m c main_v63 ((win0_9.blk t).view.emb (ix2 i j)) from rfl, e]
  exact h9 m c _ _
theorem rd10 : iblk m c 10 t (ix2 j k) = aWd m c (ix3 0 j k) := by
  have e : (win0_10.blk t).view.emb (ix2 j k) = (ix2 j k) := by blk_ext [idx t, row, tok]
  rw [show iblk m c 10 t (ix2 j k) = V m c main_v65 ((win0_10.blk t).view.emb (ix2 j k)) from rfl, e]
  exact h10 m c _ _
theorem rd11 (j : Fin 5632) : iblk m c 11 t (ix2 j k) = aWu m c (ix3 0 k j) := by
  have e : (win0_11.blk t).view.emb (ix2 j k) = (ix2 j k) := by blk_ext [idx t, row, tok]
  rw [show iblk m c 11 t (ix2 j k) = V m c main_v68 ((win0_11.blk t).view.emb (ix2 j k)) from rfl, e]
  exact h11 m c _ _
theorem rd1 : iblk m c 1 t (ix3 (0 : Fin 1) r j) = gate (aX m c) (aSh m c) (aSc m c) (aG m c) (aWu m c) (row t) (tok t r) j := by
  have e : (win0_1.blk t).view.emb (ix3 (0 : Fin 1) r j) = (ix3 (row t) (tok t r) j) := by blk_ext [idx t, row, tok]
  rw [show iblk m c 1 t (ix3 (0 : Fin 1) r j) = V m c main_v57 ((win0_1.blk t).view.emb (ix3 (0 : Fin 1) r j)) from rfl, e]
  exact h1 m c _ _ _
theorem rd2 : iblk m c 2 t (ix3 (0 : Fin 1) r j) = conv (aX m c) (aSh m c) (aSc m c) (aG m c) (aWu m c) (aWc m c) (aBc m c) (row t) (tok t r) j := by
  have e : (win0_2.blk t).view.emb (ix3 (0 : Fin 1) r j) = (ix3 (row t) (tok t r) j) := by blk_ext [idx t, row, tok]
  rw [show iblk m c 2 t (ix3 (0 : Fin 1) r j) = V m c main_v58 ((win0_2.blk t).view.emb (ix3 (0 : Fin 1) r j)) from rfl, e]
  exact h2 m c _ _ _
theorem rd3 : iblk m c 3 t (ix3 (0 : Fin 1) r j) = val (aX m c) (aSh m c) (aSc m c) (aG m c) (aWu m c) (row t) (tok t r) j := by
  have e : (win0_3.blk t).view.emb (ix3 (0 : Fin 1) r j) = (ix3 (row t) (tok t r) j) := by blk_ext [idx t, row, tok]
  rw [show iblk m c 3 t (ix3 (0 : Fin 1) r j) = V m c main_v60 ((win0_3.blk t).view.emb (ix3 (0 : Fin 1) r j)) from rfl, e]
  exact h3 m c _ _ _
end blocks

end Cert.FfnBwdMath

end
-- ==== Proof.FfnBwdMath.Pay.lean ====
/- The kernel's payloads at one grid point, in the reference's quantities. -/
module

public import proofs.«01_k».proof.Proof.FfnBwdMath.Kernel

@[expose] public section

set_option maxRecDepth 16384

noncomputable section

open Idealize.ShloMosaic Idealize.ShloMosaic.TcCoe Idealize.SL.Sem
open Idealize.ShloMosaic.Pipeline (Dat)
open scoped BigOperators

namespace Cert.FfnBwdMath

open Cert.FfnBwdIdeal Cert.FfnBwdIdeal.Gen
open Cert.MixInMath (var xhat hid)
open Cert.Shared (normDx)

variable (m : (ℓ : Loc nD τ sig) → Buf (Elt Ideal) ℓ) (c : Dev nD)

/-- The reference's quantities at the kernel's arguments. -/
abbrev qDact := dact (aN m c) (aWd m c)
abbrev qVal := val (aX m c) (aSh m c) (aSc m c) (aG m c) (aWu m c)
abbrev qGate := gate (aX m c) (aSh m c) (aSc m c) (aG m c) (aWu m c)
abbrev qConv := conv (aX m c) (aSh m c) (aSc m c) (aG m c) (aWu m c) (aWc m c) (aBc m c)
abbrev qLgt := lgt (aX m c) (aSh m c) (aSc m c) (aG m c) (aWu m c) (aWc m c) (aBc m c)
abbrev qDval := dval (aX m c) (aN m c) (aSh m c) (aSc m c) (aG m c) (aWu m c) (aWc m c) (aBc m c) (aWd m c)
abbrev qDconv := dconv (aX m c) (aN m c) (aSh m c) (aSc m c) (aG m c) (aWu m c) (aWc m c) (aBc m c) (aWd m c)
abbrev qKconv := kconv (aX m c) (aN m c) (aSh m c) (aSc m c) (aG m c) (aWu m c) (aWc m c) (aBc m c) (aWd m c)
abbrev qLater := later (aX m c) (aN m c) (aSh m c) (aSc m c) (aG m c) (aWu m c) (aWc m c) (aBc m c) (aWd m c)
abbrev qDgate := dgate (aX m c) (aN m c) (aSh m c) (aSc m c) (aG m c) (aWu m c) (aWc m c) (aBc m c) (aWd m c)
abbrev qDup := dup (aX m c) (aN m c) (aSh m c) (aSc m c) (aG m c) (aWu m c) (aWc m c) (aBc m c) (aWd m c)
abbrev qDh := dh (aX m c) (aN m c) (aSh m c) (aSc m c) (aG m c) (aWu m c) (aWc m c) (aBc m c) (aWd m c)
abbrev qDn := dn (aX m c) (aN m c) (aSh m c) (aSc m c) (aG m c) (aWu m c) (aWc m c) (aBc m c) (aWd m c)

variable (t : Fin cfg0.N) (r : Fin 256) (k : Fin 1024) (j : Fin 2816)

theorem p10 : k0_pay10 (F := Ideal) (ix2 r k) = 0 := by pointwise [k0_pay10]
theorem p11 : k0_pay11 (iblk m c 0 t) (iblk m c 10 t) (ix2 r j) = qDact m c (row t) (tok t r) j := by
  pointwise [k0_pay11, rd0, rd10, dact]
theorem p12 : k0_pay12 (iblk m c 1 t) (ix2 r j) = qGate m c (row t) (tok t r) j := by
  pointwise [k0_pay12, rd1]
theorem p13 : k0_pay13 (iblk m c 2 t) (ix2 r j) = qConv m c (row t) (tok t r) j := by
  pointwise [k0_pay13, rd2]
theorem p14 (i : Fin 3) : k0_pay14 (iblk m c 9 t) (ix2 i j) = aWc m c (ix3 0 i j) := by
  pointwise [k0_pay14, rd9]
theorem p15 : k0_pay15 (iblk m c 2 t) (ix2 r j) = qLgt m c (row t) (tok t r) j := by
  pointwise [k0_pay15, p13, lgt]
  rfl
theorem p16 : k0_pay16 (iblk m c 2 t) (ix2 r j) = qConv m c (row t) (tok t r) j * qLgt m c (row t) (tok t r) j := by
  pointwise [k0_pay16, p13, p15]
theorem p17 : k0_pay17 (iblk m c 0 t) (iblk m c 10 t) (iblk m c 2 t) (ix2 r j) = qDval m c (row t) (tok t r) j := by
  pointwise [k0_pay17, p11, p16, dval]
theorem p18 : k0_pay18 (iblk m c 0 t) (iblk m c 10 t) (iblk m c 3 t) (ix2 r j) = qDact m c (row t) (tok t r) j * qVal m c (row t) (tok t r) j := by
  pointwise [k0_pay18, p11, rd3]
theorem p19 : k0_pay19 (iblk m c 2 t) (ix2 r j)
    = qConv m c (row t) (tok t r) j * qLgt m c (row t) (tok t r) j * (1 - qLgt m c (row t) (tok t r) j) := by
  pointwise [k0_pay19, p15, p16]

/-- The convolution's cotangent at a point. -/
abbrev b20 := k0_pay20 (k0_pay15 (iblk m c 2 t)) (k0_pay18 (iblk m c 0 t) (iblk m c 10 t) (iblk m c 3 t)) (k0_pay19 (iblk m c 2 t))

/-- What the scratch holds when the shifted rows are read: the tile's own rows and the next tile's first eight, zero past the row's end. -/
def scr (i : ℕ) (j : Fin 2816) : EReal :=
  if h : (7 - t.val % 8) * 256 + i < 2048 then qDconv m c (row t) ⟨(7 - t.val % 8) * 256 + i, h⟩ j else 0

theorem later_eq (i : ℕ) : scr m c t (r.val + i) j = qLater m c i (row t) (tok t r) j := by
  unfold scr qLater later
  simp only [tok, Nat.add_assoc]

variable (hd : ∀ b t j, qDconv m c b t j = qKconv m c b t j)
include hd

theorem p20 : b20 m c t (ix2 r j) = qDconv m c (row t) (tok t r) j := by
  rw [hd]
  pointwise [k0_pay20, p15, p18, p19, kconv]
theorem p20' : b20 m c t (ix2 r j) = scr m c t r j := by
  rw [p20 m c t r j hd]
  unfold scr
  rw [dif_pos (show (7 - t.val % 8) * 256 + r.val < 2048 from (tok t r).isLt)]
  rfl
theorem p21 : k0_pay21 (k0_pay15 (iblk m c 2 t)) (k0_pay18 (iblk m c 0 t) (iblk m c 10 t) (iblk m c 3 t)) (k0_pay19 (iblk m c 2 t)) (ix3 0 r j)
    = scr m c t r j := by
  refine Eq.trans ?_ (p20' m c t r j hd)
  pointwise [k0_pay21]
theorem p25 (i : Fin 8) : k0_pay25 (k0_pay15 (iblk m c 2 t)) (k0_pay18 (iblk m c 0 t) (iblk m c 10 t) (iblk m c 3 t)) (k0_pay19 (iblk m c 2 t)) (ix3 0 i j)
    = scr m c t i j := by
  refine Eq.trans ?_ (p20' m c t ⟨i, by omega⟩ j hd)
  pointwise [k0_pay25]
theorem p26 (A) : k0_pay26 (k0_pay15 (iblk m c 2 t)) (k0_pay18 (iblk m c 0 t) (iblk m c 10 t) (iblk m c 3 t)) (k0_pay19 (iblk m c 2 t)) A (ix2 0 j)
    = A (ix2 0 j) + ∑ r : Fin 256, qDconv m c (row t) (tok t r) j := by
  pointwise [k0_pay26]
  exact congrArg _ (Finset.sum_congr rfl fun r _ => p20 m c t r j hd)
theorem p31 (A) : k0_pay31 (k0_pay12 (iblk m c 1 t)) (b20 m c t) A (ix2 0 j)
    = A (ix2 0 j) + ∑ r : Fin 256, qGate m c (row t) (tok t r) j * qDconv m c (row t) (tok t r) j := by
  pointwise [k0_pay31, p12]
  exact congrArg _ (Finset.sum_congr rfl fun r _ => by rw [p20 m c t r j hd, mul_comm])

omit hd

variable (S : Vec Ideal S1x264x2816 .f32) (hS : ∀ i : Fin 264, ∀ j, S (ix3 0 i j) = scr m c t i j)
include hS

theorem p23 : k0_pay23 S (ix2 r j) = qLater m c 1 (row t) (tok t r) j := by
  rw [← later_eq, ← hS ⟨r + 1, by omega⟩]
  pointwise [k0_pay23, k0_pay22]
  exact congrArg (fun i => S (ix3 0 i j)) (Fin.ext (by simp only; omega))
theorem p24 : k0_pay24 S (ix2 r j) = qLater m c 2 (row t) (tok t r) j := by
  rw [← later_eq, ← hS ⟨r + 2, by omega⟩]
  pointwise [k0_pay24, k0_pay22]
  exact congrArg (fun i => S (ix3 0 i j)) (Fin.ext (by simp only; omega))
theorem p27 (A) : k0_pay27 (k0_pay12 (iblk m c 1 t)) S A (ix2 0 j)
    = A (ix2 0 j) + ∑ r : Fin 256, qGate m c (row t) (tok t r) j * qLater m c 2 (row t) (tok t r) j := by
  pointwise [k0_pay27, p12]
  exact congrArg _ (Finset.sum_congr rfl fun r _ => by rw [p24 m c t r j S hS, mul_comm])
theorem p30 (A) : k0_pay30 (k0_pay28 A) (k0_pay29 (k0_pay12 (iblk m c 1 t)) S) (ix2 0 j)
    = A (ix2 0 j) + ∑ r : Fin 256, qGate m c (row t) (tok t r) j * qLater m c 1 (row t) (tok t r) j := by
  pointwise [k0_pay30, k0_pay28, k0_pay29, p12]
  exact congrArg _ (Finset.sum_congr rfl fun r _ => by rw [p23 m c t r j S hS, mul_comm])

include hd
theorem p33 : k0_pay33 (k0_pay14 (iblk m c 9 t)) (b20 m c t) (k0_pay23 S) (k0_pay24 S) (ix2 r j) = qDgate m c (row t) (tok t r) j := by
  have h0 := p20 m c t r j hd
  have h1 := p23 m c t r j S hS
  have h2 := p24 m c t r j S hS
  pointwise [k0_pay33, p14, dgate, h0, h1, h2]

theorem p35 : k0_pay35 (k0_pay14 (iblk m c 9 t)) (b20 m c t) (k0_pay23 S) (k0_pay24 S) (ix3 0 r j) = qDgate m c (row t) (tok t r) j := by
  refine Eq.trans ?_ (p33 m c t r j hd S hS)
  pointwise [k0_pay35]

/-- The cotangent of the modulated features at a point. -/
abbrev b36 (A B : Vec Ideal S2816x1024 .bf16) := k0_pay36 (F := Ideal) k0_pay10 (k0_pay14 (iblk m c 9 t))
  (k0_pay17 (iblk m c 0 t) (iblk m c 10 t) (iblk m c 2 t)) (b20 m c t) (k0_pay23 S) (k0_pay24 S) A B

theorem p36 (A B : Vec Ideal S2816x1024 .bf16) (hA : ∀ j k, A (ix2 j k) = aWu m c (ix3 0 k ⟨j, by omega⟩))
    (hB : ∀ j k, B (ix2 j k) = aWu m c (ix3 0 k ⟨2816 + j, by omega⟩)) :
    b36 m c t S A B (ix2 r k) = qDh m c (row t) (tok t r) k := by
  pointwise [k0_pay36, p10, k0_pay32, p17, hA, hB, dh]
  exact congrArg _ (Finset.sum_congr rfl fun j _ => congrArg (· * _) (p33 m c t r j hd S hS))

omit hd hS

theorem p34 : k0_pay34 (k0_pay17 (iblk m c 0 t) (iblk m c 10 t) (iblk m c 2 t)) (ix3 0 r j) = qDval m c (row t) (tok t r) j := by
  pointwise [k0_pay34, k0_pay32, p17]
theorem p37 : k0_pay37 (iblk m c 4 t) (ix2 r k) = aX m c (ix3 (row t) (tok t r) k) := by pointwise [k0_pay37, rd4]
theorem p38 : k0_pay38 (iblk m c 4 t) (ix2 r 0) = Ideal.rsqrt (var (aX m c) (row t) (tok t r)) := by
  pointwise [k0_pay38, p37, var]
theorem p39 : k0_pay39 (iblk m c 4 t) (ix2 r k) = xhat (aX m c) (row t) (tok t r) k := by
  pointwise [k0_pay39, p37, p38, xhat]

variable (H : FVec Ideal S256x1024 .f32) (hH : ∀ r k, H (ix2 r k) = qDh m c (row t) (tok t r) k)
include hH

theorem p40 (A) : k0_pay40 H A (ix3 0 0 k) = A (ix3 0 0 k) + ∑ r : Fin 256, qDh m c (row t) (tok t r) k := by
  pointwise [k0_pay40, hH]
theorem p41 (A) : k0_pay41 H (iblk m c 4 t) (iblk m c 8 t) A (ix3 0 0 k)
    = A (ix3 0 0 k) + ∑ r : Fin 256, qDh m c (row t) (tok t r) k * (xhat (aX m c) (row t) (tok t r) k * aG m c (ix2 0 k)) := by
  pointwise [k0_pay41, hH, p39, rd8]
  simp only [mul_assoc]
theorem p1 : k0_pay1 H (iblk m c 7 t) (ix2 r k) = qDh m c (row t) (tok t r) k * (1 + aSc m c (ix2 (row t) k)) := by
  pointwise [k0_pay1, hH, rd7]
theorem p2 (A) : k0_pay2 H (k0_pay39 (iblk m c 4 t)) (iblk m c 7 t) A (ix2 0 k)
    = A (ix2 0 k) + ∑ r : Fin 256, qDh m c (row t) (tok t r) k * (1 + aSc m c (ix2 (row t) k)) * xhat (aX m c) (row t) (tok t r) k := by
  have h := fun r => p1 m c t r k H hH
  pointwise [k0_pay2, h, p39]
theorem p3 : k0_pay3 H (k0_pay38 (iblk m c 4 t)) (k0_pay39 (iblk m c 4 t)) (iblk m c 8 t) (iblk m c 7 t) (iblk m c 5 t) (ix3 0 r k)
    = normDx (aX m c) (qDn m c) (aD m c (ix3 (row t) (tok t r) k)) (row t) (tok t r) k := by
  have h := fun k => p1 m c t r k H hH
  pointwise [k0_pay3, h, p38, p39, rd5, rd8, normDx, dn]

end Cert.FfnBwdMath

end
-- ==== Proof.FfnBwdMath.Carry.lean ====
/- The scratch that carries the first rows of the later tile's cotangent to the earlier tile. -/
module

public import proofs.«01_k».proof.Proof.FfnBwdMath.Pay
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnBwdMath

open Cert.FfnBwdIdeal Cert.FfnBwdIdeal.Gen

variable (m : (ℓ : Loc nD τ sig) → Buf (Elt Ideal) ℓ) (c : Dev nD) (t : Fin cfg0.N)

/-- The tile's own rows, as they are stored. -/
abbrev own : View.Piece (Elt Ideal) S1x264x2816 .f32 := ⟨Rect.unit ![0, 0, 0] ![1, 256, 2816] inb_S1x264x2816_S1x256x2816_0_0_0,
  k0_pay21 (k0_pay15 (iblk m c 2 t)) (k0_pay18 (iblk m c 0 t) (iblk m c 10 t) (iblk m c 3 t)) (k0_pay19 (iblk m c 2 t))⟩

/-- The scratch as the shifted rows are read, at a batch row's first step and at a later one. -/
abbrev S0 : Vec Ideal S1x264x2816 .f32 := View.readCov (Val := Elt Ideal) (s := S1x264x2816) (e := .f32) (View.whole cc0_scratch0)
  [own m c t, ⟨Rect.unit ![0, 256, 0] ![1, 8, 2816] inb_S1x264x2816_S1x8x2816_0_256_0, k0_pay9 (F := Ideal)⟩]
  (Rect.unit (s := S1x264x2816) ![0, 0, 0] ![1, 264, 2816] inb_S1x264x2816_S1x264x2816_0_0_0).toLoadRect
abbrev S1 (h : (Memref.whole cc0_scratch0).IsWhole) (P : Vec Ideal S1x264x2816 .f32) : Vec Ideal S1x264x2816 .f32 :=
  View.read (Elt Ideal) (View.whole cc0_scratch0) ((View.whole cc0_scratch0).writes (Elt Ideal) (h.unread P) [own m c t])

variable (hd : ∀ b t j, qDconv m c b t j = qKconv m c b t j)
include hd

theorem own_read (f) (L : List (View.Piece (Elt Ideal) S1x264x2816 .f32)) (i : Fin 264) (j : Fin 2816) :
    View.read (Elt Ideal) (View.whole cc0_scratch0) ((View.whole cc0_scratch0).writes (Elt Ideal) f (own m c t :: L)) (ix3 0 i j)
      = if i.val < 256 then scr m c t i j
        else View.read (Elt Ideal) (View.whole cc0_scratch0) ((View.whole cc0_scratch0).writes (Elt Ideal) f L) (ix3 0 i j) := by
  rw [View.read_writes_cons_unit _ _ _ _ _ _ rfl]
  split
  next hr =>
    have hi : i.val < 256 := by have := (hr 1).2; simpa using this
    have e : Rect.unitLocal (s := S1x264x2816) (off := ![0, 0, 0]) (size := ![1, 256, 2816]) (ix3 0 i j) hr = ix3 0 ⟨i, hi⟩ j := by
      funext a; apply Fin.ext; rw [Rect.unitLocal_val]; fin_cases a <;> simp
    rw [if_pos hi]
    exact (congrArg _ e).trans (p21 m c t ⟨i, hi⟩ j hd)
  next hr =>
    rw [if_neg fun hlt => hr fun a => by fin_cases a <;> simp <;> omega]

theorem S0_eq (h1 : t.val % 8 = 0) (i : Fin 264) (j : Fin 2816) : S0 m c t (ix3 0 i j) = scr m c t i j := by
  have e : (Rect.unit (s := S1x264x2816) ![0, 0, 0] ![1, 264, 2816] inb_S1x264x2816_S1x264x2816_0_0_0).toLoadRect.idx (ix3 0 i j) = ix3 0 i j := by
    show (Rect.unit (s := S1x264x2816) ![0, 0, 0] ![1, 264, 2816] inb_S1x264x2816_S1x264x2816_0_0_0).emb (ix3 0 i j) = _
    blk_ext
  unfold S0 View.readCov
  rw [View.readAt_apply, e, own_read m c t hd]
  split
  · rfl
  next hi =>
    have e' : (ix3 0 i j : S1x264x2816.Idx) = (Rect.unit (s := S1x264x2816) ![0, 256, 0] ![1, 8, 2816]
      inb_S1x264x2816_S1x8x2816_0_256_0).emb (ix3 0 ⟨i.val - 256, by omega⟩ j) := by blk_ext
    rw [e']
    refine (View.read_writes_cons_emb _ _ _ _ _ _).trans ?_
    rw [scr, dif_neg (by omega)]
    pointwise [k0_pay9]

theorem S1_eq (h) (P) (h1 : t.val % 8 ≠ 0) (hP : ∀ q : Fin 8, ∀ j, P (ix3 0 ⟨256 + q, by omega⟩ j) = scr m c ⟨t.val - 1, by omega⟩ q j)
    (i : Fin 264) (j : Fin 2816) : S1 m c t h P (ix3 0 i j) = scr m c t i j := by
  unfold S1
  rw [own_read m c t hd]
  split
  · rfl
  next hi =>
    have e : (ix3 0 i j : S1x264x2816.Idx) = ix3 0 ⟨256 + (⟨i.val - 256, by omega⟩ : Fin 8), by simp only; omega⟩ j := by blk_ext
    refine (congrFun (read_unread_whole _ h P) _).trans ?_
    rw [e, hP]
    unfold scr
    have hrow : row ⟨t.val - 1, by omega⟩ = row t := Fin.ext (by simp only [row]; omega)
    have ht : (7 - (t.val - 1) % 8) * 256 + (i.val - 256) = (7 - t.val % 8) * 256 + i.val := by omega
    simp only [ht, hrow]

theorem carry (q : Fin 8) (j : Fin 2816) : (outsAt0 m c t.val t.isLt).2.2.2.2.2.2.2 (ix3 0 ⟨256 + q, by omega⟩ j) = scr m c t q j := by
  have e : (ix3 0 ⟨256 + q, by omega⟩ j : S1x264x2816.Idx)
    = (Rect.unit ![0, 256, 0] ![1, 8, 2816] inb_S1x264x2816_S1x8x2816_0_256_0 : Rect S1x264x2816).emb (ix3 0 q j) := by blk_ext
  by_cases h0 : t.val % 32 = 0
  · have h1 : t.val % 8 = 0 := by omega
    rw [outsAt0_A m c t h0 h1]; frame_out; rw [e]
    exact (View.canon_cons_emb _ _ _ _).trans (p25 m c t j hd q)
  · by_cases h1 : t.val % 8 = 0
    · rw [outsAt0_C m c t h0 h1]; frame_out; rw [e]
      exact (View.canon_cons_emb _ _ _ _).trans (p25 m c t j hd q)
    · rw [outsAt0_B m c t h0 h1]; frame_out; rw [e]
      exact (View.canon_cons_emb _ _ _ _).trans (p25 m c t j hd q)

end Cert.FfnBwdMath

end
-- ==== Proof.FfnBwdMath.Final.lean ====
/- The kernel's seven result arrays after the run. -/
module

public import proofs.«01_k».proof.Proof.FfnBwdMath.Carry

@[expose] public section

set_option maxRecDepth 16384

noncomputable section

open Idealize.ShloMosaic Idealize.ShloMosaic.TcCoe Idealize.SL.Sem
open Idealize.ShloMosaic.Pipeline (Dat)
open scoped BigOperators

namespace Cert.FfnBwdMath

open Cert.FfnBwdIdeal Cert.FfnBwdIdeal.Gen
open Cert.MixInMath (var xhat hid)
open Cert.Shared (normDx)

variable (m : (ℓ : Loc nD τ sig) → Buf (Elt Ideal) ℓ) (c : Dev nD) (t : Fin cfg0.N)

theorem z4 (j) : k0_pay4 (F := Ideal) j = 0 := by pointwise [k0_pay4]
theorem z5 (j) : k0_pay5 (F := Ideal) j = 0 := by pointwise [k0_pay5]
theorem z6 (j) : k0_pay6 (F := Ideal) j = 0 := by pointwise [k0_pay6]
theorem z7 (j) : k0_pay7 (F := Ideal) j = 0 := by pointwise [k0_pay7]
theorem z8 (j) : k0_pay8 (F := Ideal) j = 0 := by pointwise [k0_pay8]

/-- The two halves of the transposed matrix. -/
abbrev wuV : Vec Ideal S2816x1024 .bf16 := View.ld (iblk m c 11 t) (Rect.unit ![0, 0] ![2816, 1024] inb_S5632x1024_S2816x1024_0_0)
abbrev wuG : Vec Ideal S2816x1024 .bf16 := View.ld (iblk m c 11 t) (Rect.unit ![2816, 0] ![2816, 1024] inb_S5632x1024_S2816x1024_2816_0)

theorem wuV_eq (j : Fin 2816) (k : Fin 1024) : wuV m c t (ix2 j k) = aWu m c (ix3 0 k ⟨j, by omega⟩) :=
  (congrArg (iblk m c 11 t) (show (Rect.unit (s := S5632x1024) ![0, 0] ![2816, 1024] inb_S5632x1024_S2816x1024_0_0).emb (ix2 j k)
    = ix2 ⟨j, by omega⟩ k by blk_ext)).trans (rd11 m c t k _)
theorem wuG_eq (j : Fin 2816) (k : Fin 1024) : wuG m c t (ix2 j k) = aWu m c (ix3 0 k ⟨2816 + j, by omega⟩) :=
  (congrArg (iblk m c 11 t) (show (Rect.unit (s := S5632x1024) ![2816, 0] ![2816, 1024] inb_S5632x1024_S2816x1024_2816_0).emb (ix2 j k)
    = ix2 ⟨2816 + j, by omega⟩ k by blk_ext)).trans (rd11 m c t k _)

/-- A sum over the tiles from the last to the first, and their rows, is the sum over the tokens. -/
theorem rev_sum (f : Fin 2048 → EReal) :
    ∑ s : Fin 8, ∑ r : Fin 256, f ⟨(7 - s.val) * 256 + r.val, by omega⟩ = ∑ l : Fin 2048, f l := by
  rw [← Equiv.sum_comp Fin.revPerm fun s : Fin 8 => ∑ r : Fin 256, f ⟨(7 - s.val) * 256 + r.val, by omega⟩]
  refine Fin.sum_mul_add_congr fun s k hl => congrArg f (Fin.ext ?_)
  simp only [Fin.revPerm_apply, Fin.val_rev]
  omega

theorem row_sum (g : Fin 4 → Fin 2048 → EReal) (h : ∀ s : Fin 8, 8 * (t.val / 8) + s.val < cfg0.N) :
    ∑ s : Fin 8, ∑ r : Fin 256, g (row ⟨8 * (t.val / 8) + s.val, h s⟩) (tok ⟨8 * (t.val / 8) + s.val, h s⟩ r) = ∑ l : Fin 2048, g (row t) l := by
  rw [← rev_sum]
  refine Finset.sum_congr rfl fun s _ => Finset.sum_congr rfl fun r _ => congrArg₂ g (Fin.ext ?_) (Fin.ext ?_) <;> simp only [row, tok] <;> omega

theorem all_sum (g : Fin 4 → Fin 2048 → EReal) (h : ∀ s : Fin 32, 32 * (t.val / 32) + s.val < cfg0.N) :
    ∑ s : Fin 32, ∑ r : Fin 256, g (row ⟨32 * (t.val / 32) + s.val, h s⟩) (tok ⟨32 * (t.val / 32) + s.val, h s⟩ r)
      = ∑ b : Fin 4, ∑ l : Fin 2048, g b l := by
  have hb : ∀ b : Fin 4, ∑ l : Fin 2048, g b l = ∑ s : Fin 8, ∑ r : Fin 256, g b ⟨(7 - s.val) * 256 + r.val, by omega⟩ := fun b => (rev_sum _).symm
  have ht := lt32 t
  simp only [hb]
  refine Eq.symm (Fin.sum_mul_add_congr fun b s hl => Finset.sum_congr rfl fun r _ => congrArg₂ g (Fin.ext ?_) (Fin.ext ?_)) <;>
    simp only [row, tok] <;> omega

theorem row_out (o : ℕ) (inb) (i : Fin 3) (h : i.val ≠ o) (j : Fin 2816) :
    (ix2 i j : S3x2816.Idx) ∉ (Rect.unit (s := S3x2816) ![o, 0] ![1, 2816] inb).set := by
  rw [Rect.mem_set_unit]
  intro hm
  have := hm 0
  simp at this
  omega

theorem row_skip (o : ℕ) (inb) (w : (Rect.unit (s := S3x2816) ![o, 0] ![1, 2816] inb).shape.Idx → Elt Ideal .f32)
    (L : List (View.Piece (Elt Ideal) S3x2816 .f32)) (i : Fin 3) (h : i.val ≠ o) (j : Fin 2816) :
    View.canon ((⟨Rect.unit (s := S3x2816) ![o, 0] ![1, 2816] inb, w⟩ : View.Piece (Elt Ideal) S3x2816 .f32) :: L) (ix2 i j) = View.canon L (ix2 i j) :=
  View.canon_cons_of_not_mem _ _ (row_out o inb i h j)

theorem ld_row (X : Vec Ideal S3x2816 .f32) (i : Fin 3) {off : Fin 2 → ℕ} (inb) (ho : off = ![i.val, 0]) (j : Fin 2816) :
    View.ld X (Rect.unit (s := S3x2816) off ![1, 2816] inb) (ix2 0 j) = X (ix2 i j) := by
  subst ho
  exact congrArg X (show (Rect.unit (s := S3x2816) ![i.val, 0] ![1, 2816] inb).emb (ix2 0 j) = ix2 i j by blk_ext)

variable (hd : ∀ b t j, qDconv m c b t j = qKconv m c b t j)
include hd

/-- The scratch at the shifted reads, at a later step of a batch row. -/
theorem S1_at (h) (h1 : t.val % 8 ≠ 0) (i : Fin 264) (j : Fin 2816) :
    S1 m c t h (outsAt0 m c (t.val - 1) (by omega)).2.2.2.2.2.2.2 (ix3 0 i j) = scr m c t i j :=
  S1_eq m c t hd h _ h1 (fun q j => carry m c ⟨t.val - 1, by omega⟩ hd q j) i j

theorem t12 (y : S1x256x5632.Idx) : (outsAt0 m c t.val t.isLt).1 y = qDup m c (row t) (tok t (y 1)) (y 2) := by
  have key : ∀ S : Vec Ideal S1x264x2816 .f32, (∀ i : Fin 264, ∀ j, S (ix3 0 i j) = scr m c t i j) →
      View.canon (Val := Elt Ideal) (s := S1x256x5632) (e := .bf16)
        [⟨Rect.unit ![0, 0, 2816] ![1, 256, 2816] inb_S1x256x5632_S1x256x2816_0_0_2816,
          k0_pay35 (k0_pay14 (iblk m c 9 t)) (b20 m c t) (k0_pay23 S) (k0_pay24 S)⟩,
        ⟨Rect.unit ![0, 0, 0] ![1, 256, 2816] inb_S1x256x5632_S1x256x2816_0_0_0,
          k0_pay34 (k0_pay17 (iblk m c 0 t) (iblk m c 10 t) (iblk m c 2 t))⟩] y = qDup m c (row t) (tok t (y 1)) (y 2) := by
    intro S hS
    canon_tiles x h
    · have hx : x = ix3 0 (x 1) (x 2) := by blk_ext
      have ey : (tok t (y 1) : Fin 2048) = tok t (x 1) := congrArg (tok t) (Fin.ext h1)
      rw [hx, ey]
      refine (p35 m c t _ _ hd S hS).trans ?_
      unfold qDup dup
      rw [dif_neg (by omega)]
      exact congrArg _ (Fin.ext (by simp only; omega))
    · have hx : x = ix3 0 (x 1) (x 2) := by blk_ext
      have ey : (tok t (y 1) : Fin 2048) = tok t (x 1) := congrArg (tok t) (Fin.ext h1)
      rw [hx, ey]
      refine (p34 m c t _ _).trans ?_
      unfold qDup dup
      rw [dif_pos (by omega)]
      exact congrArg _ (Fin.ext h2.symm)
  by_cases h0 : t.val % 32 = 0
  · have h1 : t.val % 8 = 0 := by omega
    rw [outsAt0_A m c t h0 h1]; frame_out; exact key _ (S0_eq m c t hd h1)
  · by_cases h1 : t.val % 8 = 0
    · rw [outsAt0_C m c t h0 h1]; frame_out; exact key _ (S0_eq m c t hd h1)
    · rw [outsAt0_B m c t h0 h1]; frame_out; exact key _ (S1_at m c t hd _ h1)

/-- The cotangent of the features at a point, whatever the step. -/
theorem tH (S : Vec Ideal S1x264x2816 .f32) (hS : ∀ i : Fin 264, ∀ j, S (ix3 0 i j) = scr m c t i j) (r : Fin 256) (k : Fin 1024) :
    b36 m c t S (wuV m c t) (wuG m c t) (ix2 r k) = qDh m c (row t) (tok t r) k :=
  p36 m c t r k hd S hS _ _ (wuV_eq m c t) (wuG_eq m c t)

theorem t13 (y : S1x256x1024.Idx) : (outsAt0 m c t.val t.isLt).2.1 y
    = normDx (aX m c) (qDn m c) (aD m c (ix3 (row t) (tok t (y 1)) (y 2))) (row t) (tok t (y 1)) (y 2) := by
  have hy : y = ix3 0 (y 1) (y 2) := by blk_ext
  by_cases h0 : t.val % 32 = 0
  · have h1 : t.val % 8 = 0 := by omega
    rw [outsAt0_A m c t h0 h1]; frame_out; rw [hy]; exact p3 m c t _ _ _ (tH m c t hd _ (S0_eq m c t hd h1))
  · by_cases h1 : t.val % 8 = 0
    · rw [outsAt0_C m c t h0 h1]; frame_out; rw [hy]; exact p3 m c t _ _ _ (tH m c t hd _ (S0_eq m c t hd h1))
    · rw [outsAt0_B m c t h0 h1]; frame_out; rw [hy]; exact p3 m c t _ _ _ (tH m c t hd _ (S1_at m c t hd _ h1))

/-- One step's addition to the filter's gradient. -/
def qDwc (i : Fin 3) (b : Fin 4) (s : Fin 2048) (j : Fin 2816) : EReal := qGate m c b s j * qLater m c (2 - i.val) b s j

theorem later_zero (b : Fin 4) (s : Fin 2048) (j : Fin 2816) : qLater m c 0 b s j = qDconv m c b s j := by
  unfold qLater later
  exact dif_pos s.isLt

/-- The filter's gradient's three rows as a step stores them. -/
abbrev rows3 (S : Vec Ideal S1x264x2816 .f32) (A0 A1 A2 : Vec Ideal S1x2816 .f32) (L : List (View.Piece (Elt Ideal) S3x2816 .f32)) :
    List (View.Piece (Elt Ideal) S3x2816 .f32) :=
  ⟨Rect.unit ![2, 0] ![1, 2816] inb_S3x2816_S1x2816_2_0, k0_pay31 (k0_pay12 (iblk m c 1 t)) (b20 m c t) A2⟩
    :: ⟨Rect.unit ![1, 0] ![1, 2816] inb_S3x2816_S1x2816_1_0, k0_pay30 (k0_pay28 A1) (k0_pay29 (k0_pay12 (iblk m c 1 t)) S)⟩
    :: ⟨Rect.unit ![0, 0] ![1, 2816] inb_S3x2816_S1x2816_0_0, k0_pay27 (k0_pay12 (iblk m c 1 t)) S A0⟩ :: L

variable (S : Vec Ideal S1x264x2816 .f32) (A0 A1 A2 : Vec Ideal S1x2816 .f32) (L : List (View.Piece (Elt Ideal) S3x2816 .f32)) (j : Fin 2816)

omit hd in
theorem rows3_0 : View.canon (rows3 m c t S A0 A1 A2 L) (ix2 0 j) = k0_pay27 (k0_pay12 (iblk m c 1 t)) S A0 (ix2 0 j) := by
  refine (row_skip 2 inb_S3x2816_S1x2816_2_0 _ _ 0 (by decide) j).trans ?_
  refine (row_skip 1 inb_S3x2816_S1x2816_1_0 _ _ 0 (by decide) j).trans ?_
  rw [show (ix2 0 j : S3x2816.Idx) = (Rect.unit (s := S3x2816) ![0, 0] ![1, 2816] inb_S3x2816_S1x2816_0_0).emb (ix2 0 j) by blk_ext]
  exact View.canon_cons_emb _ _ _ _
omit hd in
theorem rows3_1 : View.canon (rows3 m c t S A0 A1 A2 L) (ix2 1 j)
    = k0_pay30 (k0_pay28 A1) (k0_pay29 (k0_pay12 (iblk m c 1 t)) S) (ix2 0 j) := by
  refine (row_skip 2 inb_S3x2816_S1x2816_2_0 _ _ 1 (by decide) j).trans ?_
  rw [show (ix2 1 j : S3x2816.Idx) = (Rect.unit (s := S3x2816) ![1, 0] ![1, 2816] inb_S3x2816_S1x2816_1_0).emb (ix2 0 j) by blk_ext]
  exact View.canon_cons_emb _ _ _ _
omit hd in
theorem rows3_2 : View.canon (rows3 m c t S A0 A1 A2 L) (ix2 2 j) = k0_pay31 (k0_pay12 (iblk m c 1 t)) (b20 m c t) A2 (ix2 0 j) := by
  rw [show (ix2 2 j : S3x2816.Idx) = (Rect.unit (s := S3x2816) ![2, 0] ![1, 2816] inb_S3x2816_S1x2816_2_0).emb (ix2 0 j) by blk_ext]
  exact View.canon_cons_emb _ _ _ _

theorem rows3_eq (hS : ∀ i : Fin 264, ∀ j, S (ix3 0 i j) = scr m c t i j) (X : Vec Ideal S3x2816 .f32)
    (e0 : ∀ j, A0 (ix2 0 j) = X (ix2 0 j)) (e1 : ∀ j, A1 (ix2 0 j) = X (ix2 1 j)) (e2 : ∀ j, A2 (ix2 0 j) = X (ix2 2 j)) (i : Fin 3) :
    View.canon (rows3 m c t S A0 A1 A2 L) (ix2 i j) = X (ix2 i j) + ∑ r : Fin 256, qDwc m c i (row t) (tok t r) j := by
  fin_cases i
  · exact (rows3_0 m c t S A0 A1 A2 L j).trans ((p27 m c t j S hS A0).trans (congrArg (· + _) (e0 j)))
  · exact (rows3_1 m c t S A0 A1 A2 L j).trans ((p30 m c t j S hS A1).trans (congrArg (· + _) (e1 j)))
  · exact (rows3_2 m c t S A0 A1 A2 L j).trans ((p31 m c t j hd A2).trans (congrArg₂ (· + ·) (e2 j)
      (Finset.sum_congr rfl fun r _ => congrArg _ (later_zero m c hd _ _ _).symm)))

theorem t17A (h0 : t.val % 32 = 0) (i : Fin 3) : (outsAt0 m c t.val t.isLt).2.2.2.2.2.1 (ix2 i j) = ∑ r : Fin 256, qDwc m c i (row t) (tok t r) j := by
  have h1 : t.val % 8 = 0 := by omega
  rw [outsAt0_A m c t h0 h1]; frame_out
  simp (disch := decide) only [↓ View.readCov_skip, ↓ View.readCov_fill]
  refine (rows3_eq m c t hd _ _ _ _ _ j (S0_eq m c t hd h1) (k0_pay5 (F := Ideal)) (fun j => ld_row _ 0 _ rfl j)
    (fun j => ld_row _ 1 _ rfl j) (fun j => ld_row _ 2 _ rfl j) i).trans ?_
  rw [z5, zero_add]
theorem t17 (h0 : t.val % 32 ≠ 0) (i : Fin 3) : (outsAt0 m c t.val t.isLt).2.2.2.2.2.1 (ix2 i j)
    = (outsAt0 m c (t.val - 1) (by omega)).2.2.2.2.2.1 (ix2 i j) + ∑ r : Fin 256, qDwc m c i (row t) (tok t r) j := by
  by_cases h1 : t.val % 8 = 0
  · rw [outsAt0_C m c t h0 h1]; frame_out
    exact rows3_eq m c t hd _ _ _ _ [] j (S0_eq m c t hd h1) _ (fun j => ld_row _ 0 _ rfl j) (fun j => ld_row _ 1 _ rfl j)
      (fun j => ld_row _ 2 _ rfl j) i
  · rw [outsAt0_B m c t h0 h1]; frame_out
    exact rows3_eq m c t hd _ _ _ _ [] j (S1_at m c t hd _ h1) _ (fun j => ld_row _ 0 _ rfl j) (fun j => ld_row _ 1 _ rfl j)
      (fun j => ld_row _ 2 _ rfl j) i

theorem t18 (y : S1x2816.Idx) : (outsAt0 m c t.val t.isLt).2.2.2.2.2.2.1 y
    = (if h : t.val % 32 = 0 then 0 else (outsAt0 m c (t.val - 1) (by omega)).2.2.2.2.2.2.1 y) + ∑ r : Fin 256, qDconv m c (row t) (tok t r) (y 1) := by
  have hy : y = ix2 0 (y 1) := by blk_ext
  by_cases h0 : t.val % 32 = 0
  · have h1 : t.val % 8 = 0 := by omega
    rw [outsAt0_A m c t h0 h1, dif_pos h0]; frame_out; rw [hy]; refine (p26 m c t _ hd _).trans ?_; rw [z6]; rfl
  · rw [dif_neg h0]
    by_cases h1 : t.val % 8 = 0
    · rw [outsAt0_C m c t h0 h1]; frame_out; rw [hy]; exact p26 m c t _ hd _
    · rw [outsAt0_B m c t h0 h1]; frame_out; rw [hy]; exact p26 m c t _ hd _

theorem t16 (y : S1x1024.Idx) : (outsAt0 m c t.val t.isLt).2.2.2.2.1 y
    = (if h : t.val % 32 = 0 then 0 else (outsAt0 m c (t.val - 1) (by omega)).2.2.2.2.1 y)
      + ∑ r : Fin 256, qDh m c (row t) (tok t r) (y 1) * (1 + aSc m c (ix2 (row t) (y 1))) * xhat (aX m c) (row t) (tok t r) (y 1) := by
  have hy : y = ix2 0 (y 1) := by blk_ext
  by_cases h0 : t.val % 32 = 0
  · have h1 : t.val % 8 = 0 := by omega
    rw [outsAt0_A m c t h0 h1, dif_pos h0]; frame_out; rw [hy]
    refine (p2 m c t _ _ (tH m c t hd _ (S0_eq m c t hd h1)) _).trans ?_; rw [z4]; rfl
  · rw [dif_neg h0]
    by_cases h1 : t.val % 8 = 0
    · rw [outsAt0_C m c t h0 h1]; frame_out; rw [hy]; exact p2 m c t _ _ (tH m c t hd _ (S0_eq m c t hd h1)) _
    · rw [outsAt0_B m c t h0 h1]; frame_out; rw [hy]; exact p2 m c t _ _ (tH m c t hd _ (S1_at m c t hd _ h1)) _

theorem t14 (y : S1x1x1024.Idx) : (outsAt0 m c t.val t.isLt).2.2.1 y
    = (if h : t.val % 8 = 0 then 0 else (outsAt0 m c (t.val - 1) (by omega)).2.2.1 y) + ∑ r : Fin 256, qDh m c (row t) (tok t r) (y 2) := by
  have hy : y = ix3 0 0 (y 2) := by blk_ext
  by_cases h1 : t.val % 8 = 0
  · rw [dif_pos h1]
    by_cases h0 : t.val % 32 = 0
    · rw [outsAt0_A m c t h0 h1]; frame_out; rw [hy]
      refine (p40 m c t _ _ (tH m c t hd _ (S0_eq m c t hd h1)) _).trans ?_; rw [z7]; rfl
    · rw [outsAt0_C m c t h0 h1]; frame_out; rw [hy]
      refine (p40 m c t _ _ (tH m c t hd _ (S0_eq m c t hd h1)) _).trans ?_; rw [z7]; rfl
  · have h0 : t.val % 32 ≠ 0 := by omega
    rw [dif_neg h1, outsAt0_B m c t h0 h1]; frame_out; rw [hy]; exact p40 m c t _ _ (tH m c t hd _ (S1_at m c t hd _ h1)) _

theorem t15 (y : S1x1x1024.Idx) : (outsAt0 m c t.val t.isLt).2.2.2.1 y
    = (if h : t.val % 8 = 0 then 0 else (outsAt0 m c (t.val - 1) (by omega)).2.2.2.1 y)
      + ∑ r : Fin 256, qDh m c (row t) (tok t r) (y 2) * (xhat (aX m c) (row t) (tok t r) (y 2) * aG m c (ix2 0 (y 2))) := by
  have hy : y = ix3 0 0 (y 2) := by blk_ext
  by_cases h1 : t.val % 8 = 0
  · rw [dif_pos h1]
    by_cases h0 : t.val % 32 = 0
    · rw [outsAt0_A m c t h0 h1]; frame_out; rw [hy]
      refine (p41 m c t _ _ (tH m c t hd _ (S0_eq m c t hd h1)) _).trans ?_; rw [z8]; rfl
    · rw [outsAt0_C m c t h0 h1]; frame_out; rw [hy]
      refine (p41 m c t _ _ (tH m c t hd _ (S0_eq m c t hd h1)) _).trans ?_; rw [z8]; rfl
  · have h0 : t.val % 32 ≠ 0 := by omega
    rw [dif_neg h1, outsAt0_B m c t h0 h1]; frame_out; rw [hy]; exact p41 m c t _ _ (tH m c t hd _ (S1_at m c t hd _ h1)) _

/-! ## The arrays -/

theorem final_12 : (dats m 0 c).arrAt 12 (cfgs 0).N = fun i : S4x2048x5632.Idx => qDup m c (i 0) (i 1) (i 2) := by
  refine (dats m 0 c).arrAt_eq_of_covers 12 _ (by decide +kernel) fun t hf y => ?_
  blk_simp; rw [after0_12]
  have hi : (win0_12.blk t).view.emb y = ix3 (row t) (tok t (y 1)) (y 2) := by blk_ext [idx t, row, tok]
  rw [hi]
  exact t12 m c t hd y

theorem final_13 : (dats m 0 c).arrAt 13 (cfgs 0).N
    = fun i : S4x2048x1024.Idx => normDx (aX m c) (qDn m c) (aD m c (ix3 (i 0) (i 1) (i 2))) (i 0) (i 1) (i 2) := by
  refine (dats m 0 c).arrAt_eq_of_covers 13 _ (by decide +kernel) fun t hf y => ?_
  blk_simp; rw [after0_13]
  have hi : (win0_13.blk t).view.emb y = ix3 (row t) (tok t (y 1)) (y 2) := by blk_ext [idx t, row, tok]
  rw [hi]
  exact t13 m c t hd y

theorem final_14 : (dats m 0 c).arrAt 14 (cfgs 0).N = fun i : S4x1x1024.Idx => ∑ s : Fin 2048, qDh m c (i 0) s (i 2) := by
  refine (dats m 0 c).arrAt_eq_of_covers 14 _ (by decide +kernel) fun t hf y => ?_
  blk_simp
  rw [after0_14, Pipeline.eq_sum_fin_of_reset_step_apply_of_flush (fun n h => (outsAt0 m c n h).2.2.1) 8 (fun _ => 0)
    (fun t j => ∑ r : Fin 256, qDh m c (row t) (tok t r) (j 2))
    (fun t h j => (t14 m c t hd j).trans (by rw [dif_pos h]))
    (fun t h j => (t14 m c t hd j).trans (by rw [dif_neg h]))
    t ((flush0_14 t).mp hf) _, zero_add]
  have hi : (win0_14.blk t).view.emb y = ix3 (row t) 0 (y 2) := by blk_ext [idx t, row, tok]
  rw [hi]
  exact row_sum t (fun b s => qDh m c b s (y 2)) _

theorem final_15 : (dats m 0 c).arrAt 15 (cfgs 0).N
    = fun i : S4x1x1024.Idx => ∑ s : Fin 2048, qDh m c (i 0) s (i 2) * (xhat (aX m c) (i 0) s (i 2) * aG m c (ix2 0 (i 2))) := by
  refine (dats m 0 c).arrAt_eq_of_covers 15 _ (by decide +kernel) fun t hf y => ?_
  blk_simp
  rw [after0_15, Pipeline.eq_sum_fin_of_reset_step_apply_of_flush (fun n h => (outsAt0 m c n h).2.2.2.1) 8 (fun _ => 0)
    (fun t j => ∑ r : Fin 256, qDh m c (row t) (tok t r) (j 2) * (xhat (aX m c) (row t) (tok t r) (j 2) * aG m c (ix2 0 (j 2))))
    (fun t h j => (t15 m c t hd j).trans (by rw [dif_pos h]))
    (fun t h j => (t15 m c t hd j).trans (by rw [dif_neg h]))
    t ((flush0_15 t).mp hf) _, zero_add]
  have hi : (win0_15.blk t).view.emb y = ix3 (row t) 0 (y 2) := by blk_ext [idx t, row, tok]
  rw [hi]
  exact row_sum t (fun b s => qDh m c b s (y 2) * (xhat (aX m c) b s (y 2) * aG m c (ix2 0 (y 2)))) _

theorem final_16 : (dats m 0 c).arrAt 16 (cfgs 0).N
    = fun i : S1x1024.Idx => ∑ b : Fin 4, ∑ s : Fin 2048, qDh m c b s (i 1) * (1 + aSc m c (ix2 b (i 1))) * xhat (aX m c) b s (i 1) := by
  refine (dats m 0 c).arrAt_eq_of_covers 16 _ (by decide +kernel) fun t hf y => ?_
  blk_simp
  rw [after0_16, Pipeline.eq_sum_fin_of_reset_step_apply_of_flush (fun n h => (outsAt0 m c n h).2.2.2.2.1) 32 (fun _ => 0)
    (fun t j => ∑ r : Fin 256, qDh m c (row t) (tok t r) (j 1) * (1 + aSc m c (ix2 (row t) (j 1))) * xhat (aX m c) (row t) (tok t r) (j 1))
    (fun t h j => (t16 m c t hd j).trans (by rw [dif_pos h]))
    (fun t h j => (t16 m c t hd j).trans (by rw [dif_neg h]))
    t ((flush0_16 t).mp hf) _, zero_add]
  have hi : (win0_16.blk t).view.emb y = ix2 0 (y 1) := by blk_ext [idx t, row, tok]
  rw [hi]
  exact all_sum t (fun b s => qDh m c b s (y 1) * (1 + aSc m c (ix2 b (y 1))) * xhat (aX m c) b s (y 1)) _

theorem final_17 : (dats m 0 c).arrAt 17 (cfgs 0).N
    = fun i : S3x2816.Idx => ∑ b : Fin 4, ∑ s : Fin 2048, qDwc m c (i 0) b s (i 1) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.1) 32 (fun _ => 0)
    (fun t (j : S3x2816.Idx) => ∑ r : Fin 256, qDwc m c (j 0) (row t) (tok t r) (j 1))
    (fun t h j => by
      have hj : j = ix2 (j 0) (j 1) := by blk_ext
      rw [hj, zero_add]; exact t17A m c t hd (j 1) h (j 0))
    (fun t h j => by
      have hj : j = ix2 (j 0) (j 1) := by blk_ext
      rw [hj]; exact t17 m c t hd (j 1) h (j 0))
    t ((flush0_17 t).mp hf) _, zero_add]
  have hi : (win0_17.blk t).view.emb y = ix2 (y 0) (y 1) := by blk_ext [idx t, row, tok]
  rw [hi]
  exact all_sum t (fun b s => qDwc m c (y 0) b s (y 1)) _

theorem final_18 : (dats m 0 c).arrAt 18 (cfgs 0).N = fun i : S1x2816.Idx => ∑ b : Fin 4, ∑ s : Fin 2048, qDconv m c b s (i 1) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2.1) 32 (fun _ => 0)
    (fun t j => ∑ r : Fin 256, qDconv m c (row t) (tok t r) (j 1))
    (fun t h j => (t18 m c t hd j).trans (by rw [dif_pos h]))
    (fun t h j => (t18 m c t hd j).trans (by rw [dif_neg h]))
    t ((flush0_18 t).mp hf) _, zero_add]
  have hi : (win0_18.blk t).view.emb y = ix2 0 (y 1) := by blk_ext [idx t, row, tok]
  rw [hi]
  exact all_sum t (fun b s => qDconv m c b s (y 1)) _

end Cert.FfnBwdMath

end
-- ==== Proof.FfnBwdMath.Claim.lean ====
/- The kernel's seven results are the reference's, under the stated finiteness. -/
module

public import proofs.«01_k».proof.Defs
public import proofs.«01_k».proof.Proof.Gen.Pre_ffn_bwd_finite
public import proofs.«01_k».proof.Proof.Gen.FfnBwdRefIdeal.Run
public import proofs.«01_k».proof.Proof.FfnBwdMath.Final

@[expose] public section

set_option maxRecDepth 16384

noncomputable section

open Idealize.ShloMosaic Idealize.ShloMosaic.TcCoe Idealize.SL.Sem

namespace Cert.FfnBwdMath

open Shared

/-- What the precondition says of the arguments. -/
theorem args_real {x dx2 ddn : FVec Ideal Cert.FfnBwdIdeal.S4x2048x1024 .f32} {sh sc : FVec Ideal Cert.FfnBwdIdeal.S4x1024 .f32}
    {g : FVec Ideal Cert.FfnBwdIdeal.S1x1024 .f32} {wu : FVec Ideal Cert.FfnBwdIdeal.S1x1024x5632 .f32}
    {wc : FVec Ideal Cert.FfnBwdIdeal.S1x3x2816 .f32} {bc : FVec Ideal Cert.FfnBwdIdeal.S1x2816 .f32}
    {wd : FVec Ideal Cert.FfnBwdIdeal.S1x2816x1024 .f32}
    (h : Cert.Pre_ffn_bwd_finite.fn (F := Ideal) x sh sc g wu wc bc wd dx2 ddn = fun _ => 1#1) :
    (∀ i, Real' (x i)) ∧ (∀ i, Real' (sh i)) ∧ (∀ i, Real' (sc i)) ∧ (∀ i, Real' (g i)) ∧ (∀ i, Real' (wu i))
      ∧ (∀ i, Real' (wc i)) ∧ (∀ i, Real' (bc i)) ∧ (∀ i, Real' (wd i)) ∧ (∀ i, Real' (ddn i)) := by
  obtain ⟨h, hddn⟩ := and_split (congrFun h ix0)
  obtain ⟨h, hwd⟩ := and_split h
  obtain ⟨h, hbc⟩ := and_split h
  obtain ⟨h, hwc⟩ := and_split h
  obtain ⟨h, hwu⟩ := and_split h
  obtain ⟨h, hg⟩ := and_split h
  obtain ⟨h, hsc⟩ := and_split h
  obtain ⟨hx, hsh⟩ := and_split h
  exact ⟨real_of_all hx fun _ => f32_top, real_of_all hsh fun _ => f32_top, real_of_all hsc fun _ => f32_top,
    real_of_all hg fun _ => f32_top, real_of_all hwu fun _ => f32_top, real_of_all hwc fun _ => f32_top,
    real_of_all hbc fun _ => f32_top, real_of_all hwd fun _ => f32_top, real_of_all hddn fun _ => f32_top⟩

variable (m : (ℓ : Loc Cert.FfnBwdIdeal.nD Cert.FfnBwdIdeal.τ Cert.FfnBwdIdeal.sig) → Buf (Elt Ideal) ℓ) (c : Dev Cert.FfnBwdIdeal.nD)

/-- The reference's gradient of the shift, as a whole array. -/
theorem whole_dsh : Cert.FfnBwdRefIdeal.Read.val_main_v137 (F := Ideal) (aX m c) (aSh m c) (aSc m c) (aG m c) (aWu m c) (aWc m c) (aBc m c) (aWd m c) (aN m c)
    = fun i => ∑ s : Fin 2048, qDh m c (i 0) s (i 2) := by
  funext i
  have hi : i = ix3 (i 0) 0 (i 2) := by blk_ext
  rw [hi]
  exact ref_dsh _ _ _ _ _ _ _ _ _ _ _

/-- The reference's gradient of the scale, as a whole array. -/
theorem whole_dsc : Cert.FfnBwdRefIdeal.Read.val_main_v138 (F := Ideal) (aX m c) (aSh m c) (aSc m c) (aG m c) (aWu m c) (aWc m c) (aBc m c) (aWd m c) (aN m c)
    = fun i => ∑ s : Fin 2048, qDh m c (i 0) s (i 2) * (MixInMath.xhat (aX m c) (i 0) s (i 2) * aG m c (ix2 0 (i 2))) := by
  funext i
  have hi : i = ix3 (i 0) 0 (i 2) := by blk_ext
  rw [hi]
  exact ref_dsc _ _ _ _ _ _ _ _ _ _ _

/-- The reference's gradient of the norm's gain, as a whole array. -/
theorem whole_dg : Cert.FfnBwdRefIdeal.Read.val_main_v134 (F := Ideal) (aX m c) (aSh m c) (aSc m c) (aG m c) (aWu m c) (aWc m c) (aBc m c) (aWd m c) (aN m c)
    = fun i => ∑ b : Fin 4, ∑ s : Fin 2048, qDh m c b s (i 1) * (1 + aSc m c (ix2 b (i 1))) * MixInMath.xhat (aX m c) b s (i 1) := by
  funext i
  have hi : i = ix2 0 (i 1) := by blk_ext
  rw [hi]
  exact ref_dg _ _ _ _ _ _ _ _ _ _

/-- The reference's gradient of the convolution's bias, as a whole array. -/
theorem whole_dbc : Cert.FfnBwdRefIdeal.Read.val_main_v101 (F := Ideal) (aX m c) (aSh m c) (aSc m c) (aG m c) (aWu m c) (aWc m c) (aBc m c) (aWd m c) (aN m c)
    = fun i => ∑ b : Fin 4, ∑ s : Fin 2048, qDconv m c b s (i 1) := by
  funext i
  have hi : i = ix2 0 (i 1) := by blk_ext
  rw [hi]
  exact ref_dbc _ _ _ _ _ _ _ _ _ _

/-- The reference's gradient of the convolution's weights, as a whole array. -/
theorem whole_dwc (hd : ∀ b t j, qDconv m c b t j = qKconv m c b t j) :
    Cert.FfnBwdRefIdeal.Read.val_main_v139 (F := Ideal) (aX m c) (aSh m c) (aSc m c) (aG m c) (aWu m c) (aWc m c) (aBc m c) (aWd m c) (aN m c)
    = fun i => ∑ b : Fin 4, ∑ s : Fin 2048, qDwc m c (i 0) b s (i 1) := by
  funext i
  have hi : i = ix2 (i 0) (i 1) := by blk_ext
  rw [hi]
  generalize i 0 = a
  generalize i 1 = j
  obtain ⟨r0, r1, r2⟩ := ref_dwc (aX m c) (aN m c) (aSh m c) (aSc m c) (aG m c) (aWu m c) (aWc m c) (aBc m c) (aWd m c) j
  fin_cases a
  · exact r0
  · exact r1
  · exact r2.trans (Finset.sum_congr rfl fun b _ => Finset.sum_congr rfl fun s _ => congrArg _ (later_zero m c hd _ _ _).symm)

set_option maxHeartbeats 2000000 in
theorem algebraic : Cert.algebraic_FfnBwdIdeal_FfnBwdRefIdeal_pre_ffn_bwd_finite := by
  intro m g m' g' hpre hagree
  refine ⟨_, _, _, _, _, _, _, Cert.FfnBwdIdeal.Value.run_blocks m g, θ_run_mono (Cert.FfnBwdRefIdeal.Value.run m' g') fun r h c => ?_⟩
  obtain ⟨hx, hsh, hsc, hg, hwu, hwc, hbc, hwd, hddn⟩ := args_real (hpre c)
  have hd : ∀ b t j, qDconv m c b t j = qKconv m c b t j := fun b t j =>
    dconv_eq _ _ _ _ _ _ _ _ _ hx hsh hsc hg hwu hwc hbc hwd hddn b t j
  obtain ⟨e0, e1, e2, e3, e4, e5, e6, e7, e8, e9⟩ := hagree c
  have f0 : StableHlo.launchContents m' c (Proc.devRef .tc Cert.FfnBwdRefIdeal.main_arg0) = aX m c := e0
  have f1 : StableHlo.launchContents m' c (Proc.devRef .tc Cert.FfnBwdRefIdeal.main_arg1) = aSh m c := e1
  have f2 : StableHlo.launchContents m' c (Proc.devRef .tc Cert.FfnBwdRefIdeal.main_arg2) = aSc m c := e2
  have f3 : StableHlo.launchContents m' c (Proc.devRef .tc Cert.FfnBwdRefIdeal.main_arg3) = aG m c := e3
  have f4 : StableHlo.launchContents m' c (Proc.devRef .tc Cert.FfnBwdRefIdeal.main_arg4) = aWu m c := e4
  have f5 : StableHlo.launchContents m' c (Proc.devRef .tc Cert.FfnBwdRefIdeal.main_arg5) = aWc m c := e5
  have f6 : StableHlo.launchContents m' c (Proc.devRef .tc Cert.FfnBwdRefIdeal.main_arg6) = aBc m c := e6
  have f7 : StableHlo.launchContents m' c (Proc.devRef .tc Cert.FfnBwdRefIdeal.main_arg7) = aWd m c := e7
  have f8 : StableHlo.launchContents m' c (Proc.devRef .tc Cert.FfnBwdRefIdeal.main_arg8) = aD m c := e8
  have f9 : StableHlo.launchContents m' c (Proc.devRef .tc Cert.FfnBwdRefIdeal.main_arg9) = aN m c := e9
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩
  · refine (Cert.FfnBwdRefIdeal.Read.val_main_v135_eq (StableHlo.launchContents m' c)).trans ?_
    rw [f0, f1, f2, f3, f4, f5, f6, f7, f9]
    refine Eq.trans ?_ (final_12 m c hd).symm
    funext i
    idx_vars i
    exact ref_out _ _ _ _ _ _ _ _ _ _ _ _
  · refine (Cert.FfnBwdRefIdeal.Read.val_main_v136_eq (StableHlo.launchContents m' c)).trans ?_
    rw [f0, f1, f2, f3, f4, f5, f6, f7, f8, f9]
    refine Eq.trans ?_ (final_13 m c hd).symm
    funext i
    idx_vars i
    exact dx_eq _ _ _ _ _ _ _ _ _ _ hx hsh hsc hg hwu hwc hbc hwd hddn _ _ _
  · refine (Cert.FfnBwdRefIdeal.Read.val_main_v137_eq (StableHlo.launchContents m' c)).trans ?_
    rw [f0, f1, f2, f3, f4, f5, f6, f7, f9]
    exact (whole_dsh m c).trans (final_14 m c hd).symm
  · refine (Cert.FfnBwdRefIdeal.Read.val_main_v138_eq (StableHlo.launchContents m' c)).trans ?_
    rw [f0, f1, f2, f3, f4, f5, f6, f7, f9]
    exact (whole_dsc m c).trans (final_15 m c hd).symm
  · refine (Cert.FfnBwdRefIdeal.Read.val_main_v134_eq (StableHlo.launchContents m' c)).trans ?_
    rw [f0, f1, f2, f3, f4, f5, f6, f7, f9]
    exact (whole_dg m c).trans (final_16 m c hd).symm
  · refine (Cert.FfnBwdRefIdeal.Read.val_main_v139_eq (StableHlo.launchContents m' c)).trans ?_
    rw [f0, f1, f2, f3, f4, f5, f6, f7, f9]
    exact (whole_dwc m c hd).trans (final_17 m c hd).symm
  · refine (Cert.FfnBwdRefIdeal.Read.val_main_v101_eq (StableHlo.launchContents m' c)).trans ?_
    rw [f0, f1, f2, f3, f4, f5, f6, f7, f9]
    exact (whole_dbc m c).trans (final_18 m c hd).symm

end Cert.FfnBwdMath

end
-- ==== Proof.FfnFwdMath.Ref.lean ====
/- The gated channel mixer's forward step, the loss and the final norm's gradient: the reference's ten results read at an index. -/
module

public import proofs.«01_k».proof.Proof.Gen.FfnFwdRefIdeal.Read
public import proofs.«01_k».proof.Proof.FfnBwdMath.Ref

@[expose] public section

set_option maxRecDepth 16384

noncomputable section

open Idealize.ShloMosaic Idealize.ShloMosaic.TcCoe Idealize.SL.Sem

namespace Cert.FfnFwdMath

open Cert.FfnFwdRefIdeal Cert.FfnFwdRefIdeal.Gen Cert.FfnFwdRefIdeal.Read
open Cert.MixInMath (var xhat hid)
open Cert.FfnBwdMath (up val gate gateAt conv lgt)
open Cert.Shared

variable (x tg : FVec Ideal S4x2048x1024 .f32) (sh sc gt : FVec Ideal S4x1024 .f32) (g : FVec Ideal S1x1024 .f32)
  (wu : FVec Ideal S1x1024x5632 .f32) (wc : FVec Ideal S1x3x2816 .f32) (bc : FVec Ideal S1x2816 .f32) (wd : FVec Ideal S1x2816x1024 .f32)
  (gf : FVec Ideal S1024 .f32)

/-! ### The forward values -/

/-- The activation, and its product by the second weight. -/
def act (b : Fin 4) (t : Fin 2048) (j : Fin 2816) : EReal :=
  conv x sh sc g wu wc bc b t j * lgt x sh sc g wu wc bc b t j * val x sh sc g wu b t j
def down (b : Fin 4) (t : Fin 2048) (k : Fin 1024) : EReal := ∑ j : Fin 2816, act x sh sc g wu wc bc b t j * wd (ix3 0 j k)

/-- The stream after the mixer. -/
def strm : FVec Ideal S4x2048x1024 .f32 := fun i =>
  x i + gt (ix2 (i 0) (i 2)) * down x sh sc g wu wc bc wd (i 0) (i 1) (i 2)

/-- The error of the normalised stream. -/
def err (b : Fin 4) (t : Fin 2048) (k : Fin 1024) : EReal :=
  xhat (strm x sh sc gt g wu wc bc wd) b t k * gf (ix1 k) - tg (ix3 b t k)

/-- The loss, and the cotangents of the normalised stream and of the norm's output. -/
def lossV : EReal := Ideal.ofBits .f32 0x3A000000#32 * ∑ k : Fin 1024, ∑ b : Fin 4, ∑ t : Fin 2048,
  err x tg sh sc gt g wu wc bc wd gf b t k * err x tg sh sc gt g wu wc bc wd gf b t k
def dy (b : Fin 4) (t : Fin 2048) (k : Fin 1024) : EReal := err x tg sh sc gt g wu wc bc wd gf b t k * Ideal.ofBits .f32 0x3A800000#32
def du (b : Fin 4) (t : Fin 2048) (k : Fin 1024) : EReal := dy x tg sh sc gt g wu wc bc wd gf b t k * gf (ix1 k)

/-- The gradient of the stream. -/
def dx2 (b : Fin 4) (t : Fin 2048) (k : Fin 1024) : EReal :=
  normDx (strm x sh sc gt g wu wc bc wd) (du x tg sh sc gt g wu wc bc wd gf) 0 b t k

theorem ref_var (b : Fin 4) (t : Fin 2048) : val_main_v7 (F := Ideal) x (ix3 b t 0) = var x b t := by
  pointwise [val_main_v7, val_main_v6, val_main_v5, val_main_v4, val_main_v3, val_main_v2, val_main_v1, val_main_cst, val_main_cst_0, val_main_cst_1, var]

theorem ref_hid (b : Fin 4) (t : Fin 2048) (k : Fin 1024) : val_main_v21 (F := Ideal) x sh sc g (ix3 b t k) = hid x sh sc g b t k := by
  pointwise [val_main_v21, val_main_v20, val_main_v19, val_main_v18, val_main_v17, val_main_v16, val_main_v15, val_main_cst_2,
    val_main_v14, val_main_v13, val_main_v12, val_main_v11, val_main_v10, val_main_v9, val_main_v8, val_main_v0, ref_var, xhat, hid]

theorem ref_up (b : Fin 4) (t : Fin 2048) (j : Fin 5632) : val_main_v23 (F := Ideal) x sh sc g wu (ix3 b t j) = up x sh sc g wu b t j := by
  pointwise [val_main_v23, val_main_v22, ref_hid, up]

theorem ref_val (b : Fin 4) (t : Fin 2048) (j : Fin 2816) : val_main_v24 (F := Ideal) x sh sc g wu (ix3 b t j) = val x sh sc g wu b t j := by
  pointwise [val_main_v24, ref_up, val]

theorem ref_val' (b : Fin 4) (t : Fin 2048) (j : Fin 2816) : val_main_v26 (F := Ideal) x sh sc g wu (ix3 b t j) = val x sh sc g wu b t j := by
  pointwise [val_main_v26, ref_up, val]

theorem ref_gate (b : Fin 4) (t : Fin 2048) (j : Fin 2816) : val_main_v25 (F := Ideal) x sh sc g wu (ix3 b t j) = gate x sh sc g wu b t j := by
  pointwise [val_main_v25, ref_up, gate]

theorem ref_gate' (b : Fin 4) (t : Fin 2048) (j : Fin 2816) : val_main_v27 (F := Ideal) x sh sc g wu (ix3 b t j) = gate x sh sc g wu b t j := by
  pointwise [val_main_v27, ref_up, gate]

theorem ref_gate2 (b : Fin 4) (t : Fin 2048) (j : Fin 2816) : val_main_v32 (F := Ideal) x sh sc g wu (ix3 b t j) = gateAt x sh sc g wu 2 b t j := by
  pointwise [val_main_v32, val_main_v31, val_main_v30, val_main_cst_3, ref_gate', gateAt]
  split <;> split <;> first | omega | rfl | exact congrArg (fun t => gate x sh sc g wu b t j) (Fin.ext (by simp only; omega))

theorem ref_gate1 (b : Fin 4) (t : Fin 2048) (j : Fin 2816) : val_main_v38 (F := Ideal) x sh sc g wu (ix3 b t j) = gateAt x sh sc g wu 1 b t j := by
  pointwise [val_main_v38, val_main_v31, val_main_v30, val_main_cst_3, ref_gate', gateAt]
  split <;> split <;> first | omega | rfl | exact congrArg (fun t => gate x sh sc g wu b t j) (Fin.ext (by simp only; omega))

theorem ref_gate0 (b : Fin 4) (t : Fin 2048) (j : Fin 2816) : val_main_v45 (F := Ideal) x sh sc g wu (ix3 b t j) = gateAt x sh sc g wu 0 b t j := by
  pointwise [val_main_v45, val_main_v31, val_main_v30, val_main_cst_3, ref_gate', gateAt]

theorem ref_conv (b : Fin 4) (t : Fin 2048) (j : Fin 2816) :
    val_main_v54 (F := Ideal) x sh sc g wu wc bc (ix3 b t j) = conv x sh sc g wu wc bc b t j := by
  pointwise [val_main_v54, val_main_v53, val_main_v52, val_main_v51, val_main_v50, val_main_v49, val_main_v48, val_main_v47, val_main_v46,
    val_main_v44, val_main_v43, val_main_v42, val_main_v41, val_main_v40, val_main_v39, val_main_v37, val_main_v36, val_main_v35, val_main_v34,
    val_main_v33, val_main_v29, val_main_v28, ref_gate2, ref_gate1, ref_gate0, conv]

theorem ref_act (b : Fin 4) (t : Fin 2048) (j : Fin 2816) :
    val_main_v56 (F := Ideal) x sh sc g wu wc bc (ix3 b t j) = act x sh sc g wu wc bc b t j := by
  pointwise [val_main_v56, val_main_v55, val_main_call0_v5, val_main_call0_v4, val_main_call0_cst_0, val_main_call0_v3, val_main_call0_v2,
    val_main_call0_cst, val_main_call0_v1, val_main_call0_v0, ref_conv, ref_val', act, lgt]

theorem ref_down (b : Fin 4) (t : Fin 2048) (k : Fin 1024) :
    val_main_v58 (F := Ideal) x sh sc g wu wc bc wd (ix3 b t k) = down x sh sc g wu wc bc wd b t k := by
  pointwise [val_main_v58, val_main_v57, ref_act, down]

theorem ref_strm (b : Fin 4) (t : Fin 2048) (k : Fin 1024) :
    val_main_v62 (F := Ideal) x sh sc gt g wu wc bc wd (ix3 b t k) = strm x sh sc gt g wu wc bc wd (ix3 b t k) := by
  pointwise [val_main_v62, val_main_v61, val_main_v60, val_main_v59, ref_down, strm]

theorem ref_var2 (b : Fin 4) (t : Fin 2048) :
    val_main_v69 (F := Ideal) x sh sc gt g wu wc bc wd (ix3 b t 0) = var (strm x sh sc gt g wu wc bc wd) b t := by
  pointwise [val_main_v69, val_main_v68, val_main_v67, val_main_v66, val_main_v65, val_main_v64, val_main_v63, val_main_cst_4, val_main_cst_5,
    val_main_cst_6, ref_strm, var]

theorem ref_xhat2 (b : Fin 4) (t : Fin 2048) (k : Fin 1024) :
    val_main_v75 (F := Ideal) x sh sc gt g wu wc bc wd (ix3 b t k) = xhat (strm x sh sc gt g wu wc bc wd) b t k := by
  pointwise [val_main_v75, val_main_v74, val_main_v70, ref_var2, ref_strm, xhat]

theorem ref_err (b : Fin 4) (t : Fin 2048) (k : Fin 1024) :
    val_main_v79 (F := Ideal) x tg sh sc gt g wu wc bc wd gf (ix3 b t k) = err x tg sh sc gt g wu wc bc wd gf b t k := by
  pointwise [val_main_v79, val_main_v78, val_main_v77, val_main_v76, ref_xhat2, err]

/-! ### The gradients -/

theorem f32_two : Ideal.ofBits .f32 0x40000000#32 = ((2 : ℝ) : EReal) := by
  simp [Ideal.ofBits, Ideal.ieee, -EReal.coe_mul]; norm_num
theorem f32_half : Ideal.ofBits .f32 0x3F000000#32 = (((1 / 2) : ℝ) : EReal) := by
  simp [Ideal.ofBits, Ideal.ieee, -EReal.coe_mul]; norm_num
theorem f32_inv : Ideal.ofBits .f32 0x3A800000#32 = (((1 / 1024) : ℝ) : EReal) := by
  simp [Ideal.ofBits, Ideal.ieee, -EReal.coe_mul]; norm_num
theorem f32_half_inv : Ideal.ofBits .f32 0x3A000000#32 = (((1 / 2048) : ℝ) : EReal) := by
  simp [Ideal.ofBits, Ideal.ieee, -EReal.coe_mul]; norm_num

theorem ref_dy (b : Fin 4) (t : Fin 2048) (k : Fin 1024) :
    val_main_v93 (F := Ideal) x tg sh sc gt g wu wc bc wd gf (ix3 b t k) = dy x tg sh sc gt g wu wc bc wd gf b t k := by
  pointwise [val_main_v93, val_main_v92, val_main_v91, val_main_v90, val_main_v89, val_main_v88, val_main_v82, val_main_v81, val_main_cst_8,
    val_main_cst_13, val_main_cst_14, val_main_cst_15, ref_err, dy]
  rw [f32_half, f32_1024, f32_two, f32_inv, Ideal.div_coe (show (1024 : ℝ) ≠ 0 by norm_num), ← mul_assoc, mul_comm]
  simp only [← EReal.coe_mul]
  norm_num

theorem ref_du (b : Fin 4) (t : Fin 2048) (k : Fin 1024) :
    val_main_v98 (F := Ideal) x tg sh sc gt g wu wc bc wd gf (ix3 b t k) = du x tg sh sc gt g wu wc bc wd gf b t k := by
  pointwise [val_main_v98, val_main_v97, val_main_v76, ref_dy, du]

theorem ref_dx2 (b : Fin 4) (t : Fin 2048) (k : Fin 1024) :
    val_main_v113 (F := Ideal) x tg sh sc gt g wu wc bc wd gf (ix3 b t k)
      = du x tg sh sc gt g wu wc bc wd gf b t k * Ideal.rsqrt (var (strm x sh sc gt g wu wc bc wd) b t)
        + strm x sh sc gt g wu wc bc wd (ix3 b t k) * normBack (strm x sh sc gt g wu wc bc wd) (du x tg sh sc gt g wu wc bc wd gf) b t
        + normBack (strm x sh sc gt g wu wc bc wd) (du x tg sh sc gt g wu wc bc wd gf) b t * strm x sh sc gt g wu wc bc wd (ix3 b t k) := by
  pointwise [val_main_v113, val_main_v112, val_main_v111, val_main_v110, val_main_v109, val_main_v108, val_main_v107, val_main_v106, val_main_v105,
    val_main_v104, val_main_v103, val_main_v102, val_main_v101, val_main_v100, val_main_v73, val_main_v72, val_main_v71, val_main_v70,
    val_main_cst_7, val_main_cst_18, val_main_cst_19, val_main_cst_20, ref_du, ref_strm, ref_var2]
  rw [Fin.sum_univ_one]
  simp only [ref_var2]
  rfl

theorem ref_loss (i : S1x128.Idx) : val_main_v126 (F := Ideal) x tg sh sc gt g wu wc bc wd gf i
    = Ideal.ofBits .f32 0x3F000000#32 * ∑ b : Fin 4, ∑ t : Fin 2048, Ideal.div (∑ k : Fin 1024,
      err x tg sh sc gt g wu wc bc wd gf b t k * err x tg sh sc gt g wu wc bc wd gf b t k) (Ideal.ofBits .f32 0x44800000#32) := by
  pointwise [val_main_v126, val_main_v87, val_main_cst_12, val_main_v86, val_main_cst_11, val_main_v85, val_main_v84, val_main_cst_10, val_main_v83,
    val_main_cst_9, val_main_v80, ref_err]

theorem ref_dgf (k : Fin 1024) : val_main_v127 (F := Ideal) x tg sh sc gt g wu wc bc wd gf (ix2 0 k)
    = ∑ b : Fin 4, ∑ t : Fin 2048, dy x tg sh sc gt g wu wc bc wd gf b t k * xhat (strm x sh sc gt g wu wc bc wd) b t k := by
  pointwise [val_main_v127, val_main_v99, val_main_cst_17, val_main_v96, val_main_v95, val_main_cst_16, val_main_v94, ref_dy, ref_xhat2,
    Shared.hostReduceAdd_lead]
  rw [Fin.sum_univ_one, Fin.sum_univ_one]
  exact Finset.sum_congr rfl fun _ _ => Finset.sum_congr rfl fun _ _ => mul_comm _ _

/-! ### The same values when the arguments are finite -/

variable (hx : ∀ i, Real' (x i)) (htg : ∀ i, Real' (tg i)) (hsh : ∀ i, Real' (sh i)) (hsc : ∀ i, Real' (sc i)) (hgt : ∀ i, Real' (gt i))
  (hg : ∀ i, Real' (g i)) (hwu : ∀ i, Real' (wu i)) (hwc : ∀ i, Real' (wc i)) (hbc : ∀ i, Real' (bc i)) (hwd : ∀ i, Real' (wd i))
  (hgf : ∀ i, Real' (gf i))

include hx hsh hsc hgt hg hwu hwc hbc hwd in
theorem real_strm (i : S4x2048x1024.Idx) : Real' (strm x sh sc gt g wu wc bc wd i) :=
  (hx _).add ((hgt _).mul (Real'.sum _ fun j => (((FfnBwdMath.real_conv x sh sc g wu wc bc hx hsh hsc hg hwu hwc hbc _ _ _).mul
    (FfnBwdMath.real_sig x sh sc g wu wc bc hx hsh hsc hg hwu hwc hbc _ _ _)).mul
    (FfnBwdMath.real_up x sh sc g wu hx hsh hsc hg hwu _ _ _)).mul (hwd _)))

include hx htg hsh hsc hgt hg hwu hwc hbc hwd hgf

theorem real_err (b : Fin 4) (t : Fin 2048) (k : Fin 1024) : Real' (err x tg sh sc gt g wu wc bc wd gf b t k) :=
  have h := real_strm x sh sc gt g wu wc bc wd hx hsh hsc hgt hg hwu hwc hbc hwd
  ((((h _).mul (FfnBwdMath.real_var _ h b t)).mul (hgf _)).sub (htg _))

theorem real_du (b : Fin 4) (t : Fin 2048) (k : Fin 1024) : Real' (du x tg sh sc gt g wu wc bc wd gf b t k) :=
  ((real_err x tg sh sc gt g wu wc bc wd gf hx htg hsh hsc hgt hg hwu hwc hbc hwd hgf b t k).mul ⟨_, f32_inv⟩).mul (hgf _)

theorem dx2_eq (b : Fin 4) (t : Fin 2048) (k : Fin 1024) :
    val_main_v113 (F := Ideal) x tg sh sc gt g wu wc bc wd gf (ix3 b t k) = dx2 x tg sh sc gt g wu wc bc wd gf b t k := by
  rw [ref_dx2, dx2, ← norm_dx _ _ (real_strm x sh sc gt g wu wc bc wd hx hsh hsc hgt hg hwu hwc hbc hwd)
    (real_du x tg sh sc gt g wu wc bc wd gf hx htg hsh hsc hgt hg hwu hwc hbc hwd hgf) 0 b t k, zero_add]

theorem ddn_eq (b : Fin 4) (t : Fin 2048) (k : Fin 1024) : val_main_v125 (F := Ideal) x tg sh sc gt g wu wc bc wd gf (ix3 b t k)
    = gt (ix2 b k) * dx2 x tg sh sc gt g wu wc bc wd gf b t k := by
  have h := dx2_eq x tg sh sc gt g wu wc bc wd gf hx htg hsh hsc hgt hg hwu hwc hbc hwd hgf
  pointwise [val_main_v125, val_main_v115, val_main_v114, val_main_v59, h]

theorem dgt_eq (b : Fin 4) (k : Fin 1024) : val_main_v128 (F := Ideal) x tg sh sc gt g wu wc bc wd gf (ix3 b 0 k)
    = ∑ t : Fin 2048, dx2 x tg sh sc gt g wu wc bc wd gf b t k * down x sh sc g wu wc bc wd b t k := by
  have h := dx2_eq x tg sh sc gt g wu wc bc wd gf hx htg hsh hsc hgt hg hwu hwc hbc hwd hgf
  pointwise [val_main_v128, val_main_v119, val_main_cst_22, val_main_v118, val_main_v117, val_main_cst_21, val_main_v116, ref_down, h]
  exact Fin.sum_univ_one _

theorem loss_eq (i : S1x128.Idx) : val_main_v126 (F := Ideal) x tg sh sc gt g wu wc bc wd gf i = lossV x tg sh sc gt g wu wc bc wd gf := by
  rw [ref_loss, lossV]
  choose E hE using real_err x tg sh sc gt g wu wc bc wd gf hx htg hsh hsc hgt hg hwu hwc hbc hwd hgf
  simp only [hE, f32_1024, f32_half, f32_half_inv, ← EReal.coe_mul, ← coe_sum, Ideal.div_coe (show (1024 : ℝ) ≠ 0 by norm_num)]
  congr 1
  have e : ∑ k : Fin 1024, ∑ b : Fin 4, ∑ t : Fin 2048, E b t k * E b t k = ∑ b : Fin 4, ∑ t : Fin 2048, ∑ k : Fin 1024, E b t k * E b t k := by
    rw [Finset.sum_comm]
    exact Finset.sum_congr rfl fun b _ => Finset.sum_comm
  rw [e]
  simp only [← Finset.sum_mul]
  ring

end Cert.FfnFwdMath

end
-- ==== Proof.FfnFwdMath.Kernel.lean ====
/- The kernel's blocks at one grid point, read as the arguments at the point's tokens. -/
module

public import proofs.«01_k».proof.Proof.Gen.FfnFwdIdeal.Frame
public import proofs.«01_k».proof.Proof.FfnFwdMath.Ref
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.FfnFwdMath

open Cert.FfnFwdIdeal Cert.FfnFwdIdeal.Gen

variable (m : (ℓ : Loc nD τ sig) → Buf (Elt Ideal) ℓ) (c : Dev nD)

/-- The kernel's arguments. -/
abbrev aX : FVec Ideal S4x2048x1024 .f32 := m ((c : Thread nD τ).loc main_arg0)
abbrev aT : FVec Ideal S4x2048x1024 .f32 := m ((c : Thread nD τ).loc main_arg1)
abbrev aSh : FVec Ideal S4x1024 .f32 := m ((c : Thread nD τ).loc main_arg2)
abbrev aSc : FVec Ideal S4x1024 .f32 := m ((c : Thread nD τ).loc main_arg3)
abbrev aGt : FVec Ideal S4x1024 .f32 := m ((c : Thread nD τ).loc main_arg4)
abbrev aG : FVec Ideal S1x1024 .f32 := m ((c : Thread nD τ).loc main_arg5)
abbrev aWu : FVec Ideal S1x1024x5632 .f32 := m ((c : Thread nD τ).loc main_arg6)
abbrev aWc : FVec Ideal S1x3x2816 .f32 := m ((c : Thread nD τ).loc main_arg7)
abbrev aBc : FVec Ideal S1x2816 .f32 := m ((c : Thread nD τ).loc main_arg8)
abbrev aWd : FVec Ideal S1x2816x1024 .f32 := m ((c : Thread nD τ).loc main_arg9)
abbrev aGf : FVec Ideal S1024 .f32 := m ((c : Thread nD τ).loc main_arg10)

/-- Every window's block at a grid point. -/
theorem idx : ∀ t : Fin cfg0.N, win0_0.index t = ![t.val / 8, t.val % 8, 0]
    ∧ win0_1.index t = ![t.val / 8, t.val % 8, 0]
    ∧ win0_2.index t = ![t.val / 8, 0, 0]
    ∧ win0_3.index t = ![t.val / 8, 0, 0]
    ∧ win0_4.index t = ![t.val / 8, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val / 8, t.val % 8, 0]
    ∧ win0_12.index t = ![t.val / 8, t.val % 8, 0]
    ∧ win0_13.index t = ![t.val / 8, t.val % 8, 0]
    ∧ win0_14.index t = ![t.val / 8, t.val % 8, 0]
    ∧ win0_15.index t = ![t.val / 8, t.val % 8, 0]
    ∧ win0_16.index t = ![t.val / 8, t.val % 8, 0]
    ∧ win0_17.index t = ![t.val / 8, t.val % 8, 0]
    ∧ win0_18.index t = ![0, 0]
    ∧ win0_19.index t = ![0, 0]
    ∧ win0_20.index t = ![t.val / 8, 0, 0] :=
  (by decide +kernel : ∀ t : Fin grid0.N, _)

theorem lt32 (t : Fin cfg0.N) : t.val < 32 := lt_of_lt_of_eq t.2 N_0

/-- The batch row and the token of a grid point's row. -/
def row (t : Fin cfg0.N) : Fin 4 := ⟨t.val / 8, by have := lt32 t; omega⟩
def tok (t : Fin cfg0.N) (r : Fin 256) : Fin 2048 := ⟨t.val % 8 * 256 + r, by omega⟩

variable (t : Fin cfg0.N) (r : Fin 256) (k : Fin 1024) (j : Fin 2816)

theorem rd0 : iblk m c 0 t (ix3 0 r k) = aX m c (ix3 (row t) (tok t r) k) := by blk_point [iblk, V, idx t, row, tok]
theorem rd1 : iblk m c 1 t (ix3 0 r k) = aT m c (ix3 (row t) (tok t r) k) := by blk_point [iblk, V, idx t, row, tok]
theorem rd5 : iblk m c 5 t (ix2 0 k) = aG m c (ix2 0 k) := by blk_point [iblk, V, idx t, row, tok]
theorem rd8 : iblk m c 8 t (ix2 0 j) = aBc m c (ix2 0 j) := by blk_point [iblk, V, idx t, row, tok]

/-! The windows whose arrays the host prepares: rows with an axis of one, the matrices' other orders. -/

theorem h2 (b : Fin 4) (k : Fin 1024) : V m c main_v0 (ix3 b (0 : Fin 1) k) = aSh m c (ix2 b k) := by
  unfold V; after_reads_at
theorem rd2 : iblk m c 2 t (ix3 (0 : Fin 1) (0 : Fin 1) k) = aSh m c (ix2 (row t) k) := by
  have e : (win0_2.blk t).view.emb (ix3 (0 : Fin 1) (0 : Fin 1) k) = ix3 (row t) (0 : Fin 1) k := by blk_ext [idx t, row, tok]
  rw [show iblk m c 2 t (ix3 (0 : Fin 1) (0 : Fin 1) k) = V m c main_v0 ((win0_2.blk t).view.emb (ix3 (0 : Fin 1) (0 : Fin 1) k)) from rfl, e]
  exact h2 m c _ _
theorem h3 (b : Fin 4) (k : Fin 1024) : V m c main_v1 (ix3 b (0 : Fin 1) k) = aSc m c (ix2 b k) := by
  unfold V; after_reads_at
theorem rd3 : iblk m c 3 t (ix3 (0 : Fin 1) (0 : Fin 1) k) = aSc m c (ix2 (row t) k) := by
  have e : (win0_3.blk t).view.emb (ix3 (0 : Fin 1) (0 : Fin 1) k) = ix3 (row t) (0 : Fin 1) k := by blk_ext [idx t, row, tok]
  rw [show iblk m c 3 t (ix3 (0 : Fin 1) (0 : Fin 1) k) = V m c main_v1 ((win0_3.blk t).view.emb (ix3 (0 : Fin 1) (0 : Fin 1) k)) from rfl, e]
  exact h3 m c _ _
theorem h4 (b : Fin 4) (k : Fin 1024) : V m c main_v2 (ix3 b (0 : Fin 1) k) = aGt m c (ix2 b k) := by
  unfold V; after_reads_at
theorem rd4 : iblk m c 4 t (ix3 (0 : Fin 1) (0 : Fin 1) k) = aGt m c (ix2 (row t) k) := by
  have e : (win0_4.blk t).view.emb (ix3 (0 : Fin 1) (0 : Fin 1) k) = ix3 (row t) (0 : Fin 1) k := by blk_ext [idx t, row, tok]
  rw [show iblk m c 4 t (ix3 (0 : Fin 1) (0 : Fin 1) k) = V m c main_v2 ((win0_4.blk t).view.emb (ix3 (0 : Fin 1) (0 : Fin 1) k)) from rfl, e]
  exact h4 m c _ _
theorem h6 (j : Fin 5632) (k : Fin 1024) : V m c main_v5 (ix2 j k) = aWu m c (ix3 0 k j) := by
  unfold V; after_reads_at
theorem rd6 (j : Fin 5632): iblk m c 6 t (ix2 j k) = aWu m c (ix3 0 k j) := by
  have e : (win0_6.blk t).view.emb (ix2 j k) = ix2 j k := by blk_ext [idx t, row, tok]
  rw [show iblk m c 6 t (ix2 j k) = V m c main_v5 ((win0_6.blk t).view.emb (ix2 j k)) from rfl, e]
  exact h6 m c _ _
theorem h7 (i : Fin 3) (j : Fin 2816) : V m c main_v6 (ix2 i j) = aWc m c (ix3 0 i j) := by
  unfold V; after_reads_at
theorem rd7 (i : Fin 3): iblk m c 7 t (ix2 i j) = aWc m c (ix3 0 i j) := by
  have e : (win0_7.blk t).view.emb (ix2 i j) = ix2 i j := by blk_ext [idx t, row, tok]
  rw [show iblk m c 7 t (ix2 i j) = V m c main_v6 ((win0_7.blk t).view.emb (ix2 i j)) from rfl, e]
  exact h7 m c _ _
theorem h9 (j : Fin 2816) (k : Fin 1024) : V m c main_v8 (ix2 j k) = aWd m c (ix3 0 j k) := by
  unfold V; after_reads_at
theorem rd9 : iblk m c 9 t (ix2 j k) = aWd m c (ix3 0 j k) := by
  have e : (win0_9.blk t).view.emb (ix2 j k) = ix2 j k := by blk_ext [idx t, row, tok]
  rw [show iblk m c 9 t (ix2 j k) = V m c main_v8 ((win0_9.blk t).view.emb (ix2 j k)) from rfl, e]
  exact h9 m c _ _
theorem h10 (k : Fin 1024) : V m c main_v9 (ix2 (0 : Fin 1) k) = aGf m c (ix1 k) := by
  unfold V; after_reads_at
theorem rd10 : iblk m c 10 t (ix2 (0 : Fin 1) k) = aGf m c (ix1 k) := by
  have e : (win0_10.blk t).view.emb (ix2 (0 : Fin 1) k) = ix2 (0 : Fin 1) k := by blk_ext [idx t, row, tok]
  rw [show iblk m c 10 t (ix2 (0 : Fin 1) k) = V m c main_v9 ((win0_10.blk t).view.emb (ix2 (0 : Fin 1) k)) from rfl, e]
  exact h10 m c _

end Cert.FfnFwdMath

end
-- ==== Proof.FfnFwdMath.Pay.lean ====
/- The kernel's payloads at one grid point, in the reference's quantities. -/
module

public import proofs.«01_k».proof.Proof.FfnFwdMath.Kernel

@[expose] public section

set_option maxRecDepth 16384

noncomputable section

open Idealize.ShloMosaic Idealize.ShloMosaic.TcCoe Idealize.SL.Sem
open Idealize.ShloMosaic.Pipeline (Dat)
open scoped BigOperators

namespace Cert.FfnFwdMath

open Cert.FfnFwdIdeal Cert.FfnFwdIdeal.Gen
open Cert.MixInMath (var xhat hid)
open Cert.FfnBwdMath (up val gate gateAt conv lgt)
open Cert.Shared (normDx)

variable (m : (ℓ : Loc nD τ sig) → Buf (Elt Ideal) ℓ) (c : Dev nD)

/-- The reference's quantities at the kernel's arguments. -/
abbrev qHid := hid (aX m c) (aSh m c) (aSc m c) (aG m c)
abbrev qVal := val (aX m c) (aSh m c) (aSc m c) (aG m c) (aWu m c)
abbrev qGate := gate (aX m c) (aSh m c) (aSc m c) (aG m c) (aWu m c)
abbrev qGateAt := gateAt (aX m c) (aSh m c) (aSc m c) (aG m c) (aWu m c)
abbrev qConv := conv (aX m c) (aSh m c) (aSc m c) (aG m c) (aWu m c) (aWc m c) (aBc m c)
abbrev qAct := act (aX m c) (aSh m c) (aSc m c) (aG m c) (aWu m c) (aWc m c) (aBc m c)
abbrev qDown := down (aX m c) (aSh m c) (aSc m c) (aG m c) (aWu m c) (aWc m c) (aBc m c) (aWd m c)
abbrev qStrm := strm (aX m c) (aSh m c) (aSc m c) (aGt m c) (aG m c) (aWu m c) (aWc m c) (aBc m c) (aWd m c)
abbrev qErr := err (aX m c) (aT m c) (aSh m c) (aSc m c) (aGt m c) (aG m c) (aWu m c) (aWc m c) (aBc m c) (aWd m c) (aGf m c)
abbrev qDy := dy (aX m c) (aT m c) (aSh m c) (aSc m c) (aGt m c) (aG m c) (aWu m c) (aWc m c) (aBc m c) (aWd m c) (aGf m c)
abbrev qDu := du (aX m c) (aT m c) (aSh m c) (aSc m c) (aGt m c) (aG m c) (aWu m c) (aWc m c) (aBc m c) (aWd m c) (aGf m c)
abbrev qDx := dx2 (aX m c) (aT m c) (aSh m c) (aSc m c) (aGt m c) (aG m c) (aWu m c) (aWc m c) (aBc m c) (aWd m c) (aGf m c)
abbrev qLoss := lossV (aX m c) (aT m c) (aSh m c) (aSc m c) (aGt m c) (aG m c) (aWu m c) (aWc m c) (aBc m c) (aWd m c) (aGf m c)

variable (t : Fin cfg0.N) (r : Fin 256) (k : Fin 1024) (j : Fin 2816)

/-- The two halves of the transposed matrix. -/
abbrev wuV : Vec Ideal S2816x1024 .bf16 := View.ld (iblk m c 6 t) (Rect.unit ![0, 0] ![2816, 1024] inb_S5632x1024_S2816x1024_0_0)
abbrev wuG : Vec Ideal S2816x1024 .bf16 := View.ld (iblk m c 6 t) (Rect.unit ![2816, 0] ![2816, 1024] inb_S5632x1024_S2816x1024_2816_0)

theorem wuV_eq : wuV m c t (ix2 j k) = aWu m c (ix3 0 k ⟨j, by omega⟩) :=
  (congrArg (iblk m c 6 t) (show (Rect.unit (s := S5632x1024) ![0, 0] ![2816, 1024] inb_S5632x1024_S2816x1024_0_0).emb (ix2 j k)
    = ix2 ⟨j, by omega⟩ k by blk_ext)).trans (rd6 m c t k _)
theorem wuG_eq : wuG m c t (ix2 j k) = aWu m c (ix3 0 k ⟨2816 + j, by omega⟩) :=
  (congrArg (iblk m c 6 t) (show (Rect.unit (s := S5632x1024) ![2816, 0] ![2816, 1024] inb_S5632x1024_S2816x1024_2816_0).emb (ix2 j k)
    = ix2 ⟨2816 + j, by omega⟩ k by blk_ext)).trans (rd6 m c t k _)

theorem p10 : k0_pay10 (iblk m c 0 t) (ix2 r k) = aX m c (ix3 (row t) (tok t r) k) := by
  pointwise [k0_pay10, rd0]

/-- The modulated features, the two halves of their product and the filter at a point. -/
abbrev b11 := k0_pay11 (iblk m c 0 t) (iblk m c 5 t) (iblk m c 3 t) (iblk m c 2 t)
abbrev b14 := k0_pay14 (b11 m c t) (wuV m c t)
abbrev b15 := k0_pay15 (b11 m c t) (wuG m c t)
abbrev b20 := k0_pay20 (iblk m c 7 t)

theorem p11 : b11 m c t (ix2 r k) = qHid m c (row t) (tok t r) k := by
  pointwise [k0_pay11, p10, rd5, rd3, rd2, hid, xhat, var]
theorem p12 : k0_pay12 (b11 m c t) (ix3 0 r k) = qHid m c (row t) (tok t r) k := by
  refine Eq.trans ?_ (p11 m c t r k)
  pointwise [k0_pay12]
theorem p14 : b14 m c t (ix2 r j) = qVal m c (row t) (tok t r) j := by
  have h := p11 m c t r
  pointwise [k0_pay14, h, wuV_eq, val, up]
theorem p15 : b15 m c t (ix2 r j) = qGate m c (row t) (tok t r) j := by
  have h := p11 m c t r
  pointwise [k0_pay15, h, wuG_eq, gate, up]
theorem p16 : k0_pay16 (b11 m c t) (wuV m c t) (ix3 0 r j) = qVal m c (row t) (tok t r) j := by
  refine Eq.trans ?_ (p14 m c t r j)
  pointwise [k0_pay16]
theorem p17 : k0_pay17 (b11 m c t) (wuG m c t) (ix3 0 r j) = qGate m c (row t) (tok t r) j := by
  refine Eq.trans ?_ (p15 m c t r j)
  pointwise [k0_pay17]

/-- What the scratch holds when the shifted rows are read: the eight tokens before the tile, zero before the row's beginning, and the tile's own. -/
def scr (i : ℕ) (j : Fin 2816) : EReal :=
  if h : 8 ≤ t.val % 8 * 256 + i ∧ i < 264 then qGate m c (row t) ⟨t.val % 8 * 256 + i - 8, by omega⟩ j else 0

theorem p18 : k0_pay18 (b11 m c t) (wuG m c t) (ix3 0 r j) = scr m c t (8 + r) j := by
  refine Eq.trans ?_ ((p15 m c t r j).trans ?_)
  · pointwise [k0_pay18]
  · rw [scr, dif_pos (by omega)]
    exact congrArg (fun s => qGate m c (row t) s j) (Fin.ext (by simp only [tok]; omega))
theorem p24 (i : Fin 8) : k0_pay24 (b15 m c t) (ix3 0 i j) = qGate m c (row t) (tok t ⟨248 + i, by omega⟩) j := by
  refine Eq.trans ?_ (p15 m c t ⟨248 + i, by omega⟩ j)
  pointwise [k0_pay24]
theorem p20 (i : Fin 3) : b20 m c t (ix2 i j) = aWc m c (ix3 0 i j) := by
  pointwise [k0_pay20, rd7]

theorem scr_eq (d : ℕ) (hd : d ≤ 8) : scr m c t (8 + r.val - d) j = qGateAt m c d (row t) (tok t r) j := by
  unfold scr qGateAt gateAt
  have hr : r.val < 256 := r.isLt
  by_cases h : d ≤ (tok t r).val
  · rw [dif_pos h, dif_pos (by simp only [tok] at h; omega)]
    exact congrArg (fun s => qGate m c (row t) s j) (Fin.ext (by simp only [tok]; omega))
  · rw [dif_neg h, dif_neg (by simp only [tok] at h; omega)]

theorem p6 (i) : k0_pay6 (F := Ideal) i = 0 := by pointwise [k0_pay6]
theorem p7 (i) : k0_pay7 (F := Ideal) i = 0 := by pointwise [k0_pay7]
theorem p8 (i) : k0_pay8 (F := Ideal) i = 0 := by pointwise [k0_pay8]
theorem p9 (i) : k0_pay9 (F := Ideal) i = 0 := by pointwise [k0_pay9]
theorem p13 (i) : k0_pay13 (F := Ideal) i = 0 := by pointwise [k0_pay13]
theorem p29 : k0_pay29 (iblk m c 4 t) (ix2 0 k) = aGt m c (ix2 (row t) k) := by pointwise [k0_pay29, rd4]
theorem p34 : k0_pay34 (iblk m c 10 t) (ix2 0 k) = aGf m c (ix1 k) := by pointwise [k0_pay34, rd10]
theorem p5 (A) (i : S1x128.Idx) : k0_pay5 (F := Ideal) A i = Ideal.ofBits .f32 0x3A000000#32 * ∑ k : Fin 1024, A (ix2 0 k) := by
  pointwise [k0_pay5]
  rw [Fin.sum_univ_one]

variable (S : Vec Ideal S1x264x2816 .f32)

/-- The values computed from the scratch `S` at a point: the shifted rows, the activation, its product, the stream and its squares. -/
abbrev b21 := k0_pay21 (F := Ideal) S
abbrev b22 := k0_pay22 (F := Ideal) S
abbrev b23 := k0_pay23 (b15 m c t) (b20 m c t) (iblk m c 8 t) (b21 S) (b22 S)
abbrev b26 := k0_pay26 (b14 m c t) (b15 m c t) (b20 m c t) (iblk m c 8 t) (b21 S) (b22 S)
abbrev b28 := k0_pay28 k0_pay13 (b14 m c t) (b15 m c t) (b20 m c t) (iblk m c 8 t) (b21 S) (b22 S) (iblk m c 9 t)
abbrev b30 := k0_pay30 (k0_pay10 (iblk m c 0 t)) k0_pay13 (b14 m c t) (b15 m c t) (b20 m c t) (iblk m c 8 t) (b21 S) (b22 S) (iblk m c 9 t) (iblk m c 4 t)
abbrev b31 := k0_pay31 (k0_pay10 (iblk m c 0 t)) k0_pay13 (b14 m c t) (b15 m c t) (b20 m c t) (iblk m c 8 t) (b21 S) (b22 S) (iblk m c 9 t) (iblk m c 4 t)

variable (hS : ∀ i : Fin 264, ∀ j, S (ix3 0 i j) = scr m c t i j)

theorem conv_order (a b c g h i d : EReal) : a * g + b * h + c * i + d = i * c + h * b + g * a + d := by
  rw [mul_comm a, mul_comm b, mul_comm c]
  abel

include hS

theorem p21 : b21 S (ix2 r j) = qGateAt m c 1 (row t) (tok t r) j := by
  rw [← scr_eq m c t r j 1 (by omega)]
  refine Eq.trans ?_ (hS ⟨8 + r.val - 1, by omega⟩ j)
  pointwise [k0_pay21, k0_pay19]
  all_goals exact congrArg (fun i => S (ix3 0 i j)) (Fin.ext (by simp only; omega))
theorem p22 : b22 S (ix2 r j) = qGateAt m c 2 (row t) (tok t r) j := by
  rw [← scr_eq m c t r j 2 (by omega)]
  refine Eq.trans ?_ (hS ⟨8 + r.val - 2, by omega⟩ j)
  pointwise [k0_pay22, k0_pay19]
  all_goals exact congrArg (fun i => S (ix3 0 i j)) (Fin.ext (by simp only; omega))
theorem p23 : b23 m c t S (ix2 r j) = qConv m c (row t) (tok t r) j := by
  have h1 := p21 m c t r j S hS
  have h2 := p22 m c t r j S hS
  have h0 : qGateAt m c 0 (row t) (tok t r) j = qGate m c (row t) (tok t r) j := dif_pos (Nat.zero_le _)
  have h15 := p15 m c t r j
  pointwise [k0_pay23, h1, h2, h15, p20, rd8, conv, h0]
  exact conv_order _ _ _ _ _ _ _
theorem p25 : k0_pay25 (b15 m c t) (b20 m c t) (iblk m c 8 t) (b21 S) (b22 S) (ix3 0 r j) = qConv m c (row t) (tok t r) j := by
  refine Eq.trans ?_ (p23 m c t r j S hS)
  pointwise [k0_pay25]
theorem p26 : b26 m c t S (ix2 r j) = qAct m c (row t) (tok t r) j := by
  have h := p23 m c t r j S hS
  have h14 := p14 m c t r j
  pointwise [k0_pay26, h, h14, act, lgt]
  rfl
theorem p27 : k0_pay27 (b14 m c t) (b15 m c t) (b20 m c t) (iblk m c 8 t) (b21 S) (b22 S) (ix3 0 r j) = qAct m c (row t) (tok t r) j := by
  refine Eq.trans ?_ (p26 m c t r j S hS)
  pointwise [k0_pay27]
theorem p28 : b28 m c t S (ix2 r k) = qDown m c (row t) (tok t r) k := by
  have h := fun j => p26 m c t r j S hS
  pointwise [k0_pay28, p13, h, rd9, down]
theorem p30 : b30 m c t S (ix2 r k) = qStrm m c (ix3 (row t) (tok t r) k) := by
  have h := p28 m c t r k S hS
  pointwise [k0_pay30, p10, p29, h, strm]
theorem p31 : b31 m c t S (ix2 r 0) = ∑ k : Fin 1024, qStrm m c (ix3 (row t) (tok t r) k) * qStrm m c (ix3 (row t) (tok t r) k) := by
  have h := fun k => p30 m c t r k S hS
  pointwise [k0_pay31, h]

/-- The constant the second norm divides by. -/
abbrev c57 : Ideal .f32 := Ideal.ofBits .f32 0x44800000#32

abbrev b32 := k0_pay32 (b31 m c t S) c57
abbrev b33 := k0_pay33 (b30 m c t S) (b31 m c t S) c57
abbrev b35 := k0_pay35 (b30 m c t S) (b31 m c t S) c57 (iblk m c 10 t) (iblk m c 1 t)
abbrev b37 := k0_pay37 (b30 m c t S) (b31 m c t S) c57 (iblk m c 10 t) (iblk m c 1 t)
abbrev b39 := k0_pay39 (b30 m c t S) (b31 m c t S) c57 (iblk m c 10 t) (iblk m c 1 t)
abbrev b40 := k0_pay40 (b30 m c t S) (b31 m c t S) c57 (iblk m c 10 t) (iblk m c 1 t)
abbrev b1 := k0_pay1 (b32 m c t S) (b33 m c t S) (b39 m c t S) (b40 m c t S)

theorem p32 : b32 m c t S (ix2 r 0) = Ideal.rsqrt (var (qStrm m c) (row t) (tok t r)) := by
  have h := p31 m c t r S hS
  pointwise [k0_pay32, h, var]
theorem p33 : b33 m c t S (ix2 r k) = xhat (qStrm m c) (row t) (tok t r) k := by
  have h := p30 m c t r k S hS
  have h' := p32 m c t r S hS
  pointwise [k0_pay33, h, h', xhat]
theorem p35 : b35 m c t S (ix2 r k) = qErr m c (row t) (tok t r) k := by
  have h := p33 m c t r k S hS
  pointwise [k0_pay35, h, p34, rd1, err]
theorem p37 : b37 m c t S (ix2 r k) = qDy m c (row t) (tok t r) k := by
  have h := p35 m c t r k S hS
  pointwise [k0_pay37, h, dy]
theorem p39 : b39 m c t S (ix2 r k) = qDu m c (row t) (tok t r) k := by
  have h := p37 m c t r k S hS
  pointwise [k0_pay39, h, p34, du]
theorem p40 : b40 m c t S (ix2 r k) = Ideal.div (∑ l : Fin 1024, qDu m c (row t) (tok t r) l * xhat (qStrm m c) (row t) (tok t r) l)
    (Ideal.ofBits .f32 0x44800000#32) := by
  have h := fun k => p39 m c t r k S hS
  have h' := fun k => p33 m c t r k S hS
  pointwise [k0_pay40, h, h']
theorem p1 : b1 m c t S (ix2 r k) = qDx m c (row t) (tok t r) k := by
  have h := p39 m c t r k S hS
  have h' := p33 m c t r k S hS
  have h2 := p32 m c t r S hS
  have h4 := p40 m c t r k S hS
  pointwise [k0_pay1, h, h', h2, h4, dx2, normDx]
theorem p2 : k0_pay2 (b32 m c t S) (b33 m c t S) (b39 m c t S) (b40 m c t S) (ix3 0 r k) = qDx m c (row t) (tok t r) k := by
  refine Eq.trans ?_ (p1 m c t r k S hS)
  pointwise [k0_pay2]
theorem p4 : k0_pay4 (k0_pay29 (iblk m c 4 t)) (b32 m c t S) (b33 m c t S) (b39 m c t S) (b40 m c t S) (ix3 0 r k)
    = aGt m c (ix2 (row t) k) * qDx m c (row t) (tok t r) k := by
  have h := p1 m c t r k S hS
  pointwise [k0_pay4, p29, h]
theorem p3 (A) : k0_pay3 (b28 m c t S) (b32 m c t S) (b33 m c t S) (b39 m c t S) (b40 m c t S) A (ix3 0 0 k)
    = A (ix3 0 0 k) + ∑ r : Fin 256, qDx m c (row t) (tok t r) k * qDown m c (row t) (tok t r) k := by
  have h := fun r => p1 m c t r k S hS
  have h' := fun r => p28 m c t r k S hS
  pointwise [k0_pay3, h, h']
theorem p36 (A) : k0_pay36 (b30 m c t S) (b31 m c t S) c57 (iblk m c 10 t) (iblk m c 1 t) A (ix2 0 k)
    = A (ix2 0 k) + ∑ r : Fin 256, qErr m c (row t) (tok t r) k * qErr m c (row t) (tok t r) k := by
  have h := fun r => p35 m c t r k S hS
  pointwise [k0_pay36, h]
theorem p38 (A) : k0_pay38 (b30 m c t S) (b31 m c t S) c57 (iblk m c 10 t) (iblk m c 1 t) A (ix2 0 k)
    = A (ix2 0 k) + ∑ r : Fin 256, qDy m c (row t) (tok t r) k * xhat (qStrm m c) (row t) (tok t r) k := by
  have h := fun r => p37 m c t r k S hS
  have h' := fun r => p33 m c t r k S hS
  pointwise [k0_pay38, h, h']

end Cert.FfnFwdMath

end
-- ==== Proof.FfnFwdMath.Carry.lean ====
/- The scratch that carries the gate's last rows of a tile to the next. -/
module

public import proofs.«01_k».proof.Proof.FfnFwdMath.Pay
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnFwdMath

open Cert.FfnFwdIdeal Cert.FfnFwdIdeal.Gen
open Cert.MixInMath (var xhat hid)

variable (m : (ℓ : Loc nD τ sig) → Buf (Elt Ideal) ℓ) (c : Dev nD) (t : Fin cfg0.N)

/-- The tile's own rows, as they are stored. -/
abbrev own : View.Piece (Elt Ideal) S1x264x2816 .f32 := ⟨Rect.unit ![0, 8, 0] ![1, 256, 2816] inb_S1x264x2816_S1x256x2816_0_8_0,
  k0_pay18 (b11 m c t) (wuG m c t)⟩

/-- The scratch as the shifted rows are read, at a batch row's first step and at a later one. -/
abbrev S0 : Vec Ideal S1x264x2816 .f32 := View.readCov (Val := Elt Ideal) (s := S1x264x2816) (e := .f32) (View.whole cc0_scratch0)
  [own m c t, ⟨Rect.unit ![0, 0, 0] ![1, 8, 2816] inb_S1x264x2816_S1x8x2816_0_0_0, k0_pay9 (F := Ideal)⟩]
  (Rect.unit (s := S1x264x2816) ![0, 0, 0] ![1, 264, 2816] inb_S1x264x2816_S1x264x2816_0_0_0).toLoadRect
abbrev S1 (h : (Memref.whole cc0_scratch0).IsWhole) (P : Vec Ideal S1x264x2816 .f32) : Vec Ideal S1x264x2816 .f32 :=
  View.read (Elt Ideal) (View.whole cc0_scratch0) ((View.whole cc0_scratch0).writes (Elt Ideal) (h.unread P) [own m c t])

theorem own_read (f) (L : List (View.Piece (Elt Ideal) S1x264x2816 .f32)) (i : Fin 264) (j : Fin 2816) :
    View.read (Elt Ideal) (View.whole cc0_scratch0) ((View.whole cc0_scratch0).writes (Elt Ideal) f (own m c t :: L)) (ix3 0 i j)
      = if 8 ≤ i.val then scr m c t i j
        else View.read (Elt Ideal) (View.whole cc0_scratch0) ((View.whole cc0_scratch0).writes (Elt Ideal) f L) (ix3 0 i j) := by
  rw [View.read_writes_cons_unit _ _ _ _ _ _ rfl]
  split
  next hr =>
    have hi : 8 ≤ i.val := by have := (hr 1).1; simpa using this
    have e : Rect.unitLocal (s := S1x264x2816) (off := ![0, 8, 0]) (size := ![1, 256, 2816]) (ix3 0 i j) hr = ix3 0 (⟨i - 8, by omega⟩ : Fin 256) j := by
      funext a; apply Fin.ext; rw [Rect.unitLocal_val]; fin_cases a <;> simp
    rw [if_pos hi]
    refine (congrArg _ e).trans ((p18 m c t ⟨i - 8, by omega⟩ j).trans ?_)
    exact congrArg (fun n => scr m c t n j) (show 8 + (i.val - 8) = i.val by omega)
  next hr =>
    rw [if_neg fun hlt => hr fun a => by fin_cases a <;> simp <;> omega]

theorem S0_eq (h1 : t.val % 8 = 0) (i : Fin 264) (j : Fin 2816) : S0 m c t (ix3 0 i j) = scr m c t i j := by
  have e : (Rect.unit (s := S1x264x2816) ![0, 0, 0] ![1, 264, 2816] inb_S1x264x2816_S1x264x2816_0_0_0).toLoadRect.idx (ix3 0 i j) = ix3 0 i j := by
    show (Rect.unit (s := S1x264x2816) ![0, 0, 0] ![1, 264, 2816] inb_S1x264x2816_S1x264x2816_0_0_0).emb (ix3 0 i j) = _
    blk_ext
  unfold S0 View.readCov
  rw [View.readAt_apply, e, own_read m c t]
  split
  · rfl
  next hi =>
    have e' : (ix3 0 i j : S1x264x2816.Idx) = (Rect.unit (s := S1x264x2816) ![0, 0, 0] ![1, 8, 2816]
      inb_S1x264x2816_S1x8x2816_0_0_0).emb (ix3 0 ⟨i.val, by omega⟩ j) := by blk_ext
    rw [e']
    refine (View.read_writes_cons_emb _ _ _ _ _ _).trans ?_
    rw [scr, dif_neg (by omega)]
    exact p9 _

theorem S1_eq (h) (P) (h1 : t.val % 8 ≠ 0)
    (hP : ∀ q : Fin 8, ∀ j, P (ix3 0 ⟨q, by omega⟩ j) = qGate m c (row ⟨t.val - 1, by omega⟩) (tok ⟨t.val - 1, by omega⟩ ⟨248 + q, by omega⟩) j)
    (i : Fin 264) (j : Fin 2816) : S1 m c t h P (ix3 0 i j) = scr m c t i j := by
  unfold S1
  rw [own_read m c t]
  split
  · rfl
  next hi =>
    refine (congrFun (read_unread_whole _ h P) _).trans ((hP ⟨i.val, by omega⟩ j).trans ?_)
    rw [scr, dif_pos (by omega)]
    exact congrArg₂ (fun b s => qGate m c b s j) (Fin.ext (by simp only [row]; omega)) (Fin.ext (by simp only [tok]; omega))

theorem carry (q : Fin 8) (j : Fin 2816) : (outsAt0 m c t.val t.isLt).2.2.2.2.2.2.2.2.2.2.1 (ix3 0 ⟨q, by omega⟩ j)
    = qGate m c (row t) (tok t ⟨248 + q, by omega⟩) j := by
  have e : (ix3 0 ⟨q, by omega⟩ j : S1x264x2816.Idx)
    = (Rect.unit ![0, 0, 0] ![1, 8, 2816] inb_S1x264x2816_S1x8x2816_0_0_0 : Rect S1x264x2816).emb (ix3 0 q j) := by blk_ext
  by_cases h0 : t.val % 32 = 0
  · have h1 : t.val % 8 = 0 := by omega
    have h2 : ¬t.val % 32 = 31 := by omega
    rw [outsAt0_A m c t h0 h1 h2]; frame_out; rw [e]; exact (View.canon_cons_emb _ _ _ _).trans (p24 m c t j q)
  · by_cases h1 : t.val % 8 = 0
    · have h2 : ¬t.val % 32 = 31 := by omega
      rw [outsAt0_C m c t h0 h1 h2]; frame_out; rw [e]; exact (View.canon_cons_emb _ _ _ _).trans (p24 m c t j q)
    · by_cases h2 : t.val % 32 = 31
      · rw [outsAt0_D m c t h0 h1 h2]; frame_out; rw [e]; exact (View.canon_cons_emb _ _ _ _).trans (p24 m c t j q)
      · rw [outsAt0_B m c t h0 h1 h2]; frame_out; rw [e]; exact (View.canon_cons_emb _ _ _ _).trans (p24 m c t j q)

/-- The scratch at the shifted reads, at a later step of a batch row. -/
theorem S1_at (h) (h1 : ¬t.val % 8 = 0) (i : Fin 264) (j : Fin 2816) :
    S1 m c t h (outsAt0 m c (t.val - 1) (by omega)).2.2.2.2.2.2.2.2.2.2.1 (ix3 0 i j) = scr m c t i j :=
  S1_eq m c t h _ h1 (fun q j => carry m c ⟨t.val - 1, by omega⟩ q j) i j

end Cert.FfnFwdMath

end
-- ==== Proof.FfnFwdMath.Steps.lean ====
/- What one step leaves in each window. -/
module

public import proofs.«01_k».proof.Proof.FfnFwdMath.Carry

@[expose] public section

set_option maxRecDepth 16384

noncomputable section

open Idealize.ShloMosaic Idealize.ShloMosaic.TcCoe Idealize.SL.Sem
open Idealize.ShloMosaic.Pipeline (Dat)
open scoped BigOperators

namespace Cert.FfnFwdMath

open Cert.FfnFwdIdeal Cert.FfnFwdIdeal.Gen
open Cert.MixInMath (var xhat hid)

variable (m : (ℓ : Loc nD τ sig) → Buf (Elt Ideal) ℓ) (c : Dev nD) (t : Fin cfg0.N)

theorem t11 (y : S1x256x1024.Idx) : (outsAt0 m c t.val t.isLt).1 y = qHid m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p12 m c t _ _
  · by_cases h1 : t.val % 8 = 0
    · have h2 : ¬t.val % 32 = 31 := by omega
      rw [outsAt0_C m c t h0 h1 h2]; frame_out; rw [hy]; exact p12 m c t _ _
    · by_cases h2 : t.val % 32 = 31
      · rw [outsAt0_D m c t h0 h1 h2]; frame_out; rw [hy]; exact p12 m c t _ _
      · rw [outsAt0_B m c t h0 h1 h2]; frame_out; rw [hy]; exact p12 m c t _ _

theorem t12 (y : S1x256x2816.Idx) : (outsAt0 m c t.val t.isLt).2.1 y = qVal m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p16 m c t _ _
  · by_cases h1 : t.val % 8 = 0
    · have h2 : ¬t.val % 32 = 31 := by omega
      rw [outsAt0_C m c t h0 h1 h2]; frame_out; rw [hy]; exact p16 m c t _ _
    · by_cases h2 : t.val % 32 = 31
      · rw [outsAt0_D m c t h0 h1 h2]; frame_out; rw [hy]; exact p16 m c t _ _
      · rw [outsAt0_B m c t h0 h1 h2]; frame_out; rw [hy]; exact p16 m c t _ _

theorem t13 (y : S1x256x2816.Idx) : (outsAt0 m c t.val t.isLt).2.2.1 y = qGate m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p17 m c t _ _
  · by_cases h1 : t.val % 8 = 0
    · have h2 : ¬t.val % 32 = 31 := by omega
      rw [outsAt0_C m c t h0 h1 h2]; frame_out; rw [hy]; exact p17 m c t _ _
    · by_cases h2 : t.val % 32 = 31
      · rw [outsAt0_D m c t h0 h1 h2]; frame_out; rw [hy]; exact p17 m c t _ _
      · rw [outsAt0_B m c t h0 h1 h2]; frame_out; rw [hy]; exact p17 m c t _ _

theorem t14 (y : S1x256x2816.Idx) : (outsAt0 m c t.val t.isLt).2.2.2.1 y = qConv m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p25 m c t _ _ _ (S0_eq m c t h1)
  · by_cases h1 : t.val % 8 = 0
    · have h2 : ¬t.val % 32 = 31 := by omega
      rw [outsAt0_C m c t h0 h1 h2]; frame_out; rw [hy]; exact p25 m c t _ _ _ (S0_eq m c t h1)
    · by_cases h2 : t.val % 32 = 31
      · rw [outsAt0_D m c t h0 h1 h2]; frame_out; rw [hy]; exact p25 m c t _ _ _ (S1_at m c t _ h1)
      · rw [outsAt0_B m c t h0 h1 h2]; frame_out; rw [hy]; exact p25 m c t _ _ _ (S1_at m c t _ h1)

theorem t15 (y : S1x256x2816.Idx) : (outsAt0 m c t.val t.isLt).2.2.2.2.1 y = qAct m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p27 m c t _ _ _ (S0_eq m c t h1)
  · by_cases h1 : t.val % 8 = 0
    · have h2 : ¬t.val % 32 = 31 := by omega
      rw [outsAt0_C m c t h0 h1 h2]; frame_out; rw [hy]; exact p27 m c t _ _ _ (S0_eq m c t h1)
    · by_cases h2 : t.val % 32 = 31
      · rw [outsAt0_D m c t h0 h1 h2]; frame_out; rw [hy]; exact p27 m c t _ _ _ (S1_at m c t _ h1)
      · rw [outsAt0_B m c t h0 h1 h2]; frame_out; rw [hy]; exact p27 m c t _ _ _ (S1_at m c t _ h1)

theorem t16 (y : S1x256x1024.Idx) : (outsAt0 m c t.val t.isLt).2.2.2.2.2.1 y = aGt m c (ix2 (row t) (y 2)) * qDx m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p4 m c t _ _ _ (S0_eq m c t h1)
  · by_cases h1 : t.val % 8 = 0
    · have h2 : ¬t.val % 32 = 31 := by omega
      rw [outsAt0_C m c t h0 h1 h2]; frame_out; rw [hy]; exact p4 m c t _ _ _ (S0_eq m c t h1)
    · by_cases h2 : t.val % 32 = 31
      · rw [outsAt0_D m c t h0 h1 h2]; frame_out; rw [hy]; exact p4 m c t _ _ _ (S1_at m c t _ h1)
      · rw [outsAt0_B m c t h0 h1 h2]; frame_out; rw [hy]; exact p4 m c t _ _ _ (S1_at m c t _ h1)

theorem t17 (y : S1x256x1024.Idx) : (outsAt0 m c t.val t.isLt).2.2.2.2.2.2.1 y = qDx m c (row t) (tok t (y 1)) (y 2) := by
  have hy : y = ix3 0 (y 1) (y 2) := by blk_ext
  by_cases h0 : t.val % 32 = 0
  · have h1 : t.val % 8 = 0 := by omega
    have h2 : ¬t.val % 32 = 31 := by omega
    rw [outsAt0_A m c t h0 h1 h2]; frame_out; rw [hy]; exact p2 m c t _ _ _ (S0_eq m c t h1)
  · by_cases h1 : t.val % 8 = 0
    · have h2 : ¬t.val % 32 = 31 := by omega
      rw [outsAt0_C m c t h0 h1 h2]; frame_out; rw [hy]; exact p2 m c t _ _ _ (S0_eq m c t h1)
    · by_cases h2 : t.val % 32 = 31
      · rw [outsAt0_D m c t h0 h1 h2]; frame_out; rw [hy]; exact p2 m c t _ _ _ (S1_at m c t _ h1)
      · rw [outsAt0_B m c t h0 h1 h2]; frame_out; rw [hy]; exact p2 m c t _ _ _ (S1_at m c t _ h1)

/-- The loss at the last step is read from the lanes' sums as that step leaves them. -/
theorem t18 (h2 : t.val % 32 = 31) (y : S1x128.Idx) : (outsAt0 m c t.val t.isLt).2.2.2.2.2.2.2.1 y
    = Ideal.ofBits .f32 0x3A000000#32 * ∑ k : Fin 1024, (outsAt0 m c t.val t.isLt).2.2.2.2.2.2.2.2.2.2.2 (ix2 0 k) := by
  rw [outsAt0_D m c t (by omega) (by omega) h2]; frame_out; exact p5 _ _

theorem t19 (y : S1x1024.Idx) : (outsAt0 m c t.val t.isLt).2.2.2.2.2.2.2.2.1 y
    = (if h : t.val % 32 = 0 then 0 else (outsAt0 m c (t.val - 1) (by omega)).2.2.2.2.2.2.2.2.1 y) + ∑ r : Fin 256, qDy m c (row t) (tok t r) (y 1) * xhat (qStrm m c) (row t) (tok t r) (y 1) := by
  have hy : y = ix2 0 (y 1) := by blk_ext
  by_cases h0 : t.val % 32 = 0
  · have h1 : t.val % 8 = 0 := by omega
    have h2 : ¬t.val % 32 = 31 := by omega
    rw [outsAt0_A m c t h0 h1 h2]; rw [dif_pos h0]; frame_out; rw [hy]; refine (p38 m c t _ _ (S0_eq m c t h1) _).trans ?_; rw [p7]; rfl
  · by_cases h1 : t.val % 8 = 0
    · have h2 : ¬t.val % 32 = 31 := by omega
      rw [outsAt0_C m c t h0 h1 h2]; rw [dif_neg h0]; frame_out; rw [hy]; exact p38 m c t _ _ (S0_eq m c t h1) _
    · by_cases h2 : t.val % 32 = 31
      · rw [outsAt0_D m c t h0 h1 h2]; rw [dif_neg h0]; frame_out; rw [hy]; exact p38 m c t _ _ (S1_at m c t _ h1) _
      · rw [outsAt0_B m c t h0 h1 h2]; rw [dif_neg h0]; frame_out; rw [hy]; exact p38 m c t _ _ (S1_at m c t _ h1) _

theorem tL (y : S1x1024.Idx) : (outsAt0 m c t.val t.isLt).2.2.2.2.2.2.2.2.2.2.2 y
    = (if h : t.val % 32 = 0 then 0 else (outsAt0 m c (t.val - 1) (by omega)).2.2.2.2.2.2.2.2.2.2.2 y) + ∑ r : Fin 256, qErr m c (row t) (tok t r) (y 1) * qErr m c (row t) (tok t r) (y 1) := by
  have hy : y = ix2 0 (y 1) := by blk_ext
  by_cases h0 : t.val % 32 = 0
  · have h1 : t.val % 8 = 0 := by omega
    have h2 : ¬t.val % 32 = 31 := by omega
    rw [outsAt0_A m c t h0 h1 h2]; rw [dif_pos h0]; frame_out; rw [hy]; refine (p36 m c t _ _ (S0_eq m c t h1) _).trans ?_; rw [p6]; rfl
  · by_cases h1 : t.val % 8 = 0
    · have h2 : ¬t.val % 32 = 31 := by omega
      rw [outsAt0_C m c t h0 h1 h2]; rw [dif_neg h0]; frame_out; rw [hy]; exact (p36 m c t _ _ (S0_eq m c t h1) _).trans (congrArg (· + _) (congrFun (read_unread_whole _ _ _) _))
    · by_cases h2 : t.val % 32 = 31
      · rw [outsAt0_D m c t h0 h1 h2]; rw [dif_neg h0]; frame_out; rw [hy]; exact (p36 m c t _ _ (S1_at m c t _ h1) _).trans (congrArg (· + _) (congrFun (read_unread_whole _ _ _) _))
      · rw [outsAt0_B m c t h0 h1 h2]; rw [dif_neg h0]; frame_out; rw [hy]; exact (p36 m c t _ _ (S1_at m c t _ h1) _).trans (congrArg (· + _) (congrFun (read_unread_whole _ _ _) _))

theorem t20 (y : S1x1x1024.Idx) : (outsAt0 m c t.val t.isLt).2.2.2.2.2.2.2.2.2.1 y
    = (if h : t.val % 8 = 0 then 0 else (outsAt0 m c (t.val - 1) (by omega)).2.2.2.2.2.2.2.2.2.1 y) + ∑ r : Fin 256, qDx m c (row t) (tok t r) (y 2) * qDown m c (row t) (tok t r) (y 2) := by
  have hy : y = ix3 0 0 (y 2) := by blk_ext
  by_cases h0 : t.val % 32 = 0
  · have h1 : t.val % 8 = 0 := by omega
    have h2 : ¬t.val % 32 = 31 := by omega
    rw [outsAt0_A m c t h0 h1 h2]; rw [dif_pos h1]; frame_out; rw [hy]; refine (p3 m c t _ _ (S0_eq m c t h1) _).trans ?_; rw [p8]; rfl
  · by_cases h1 : t.val % 8 = 0
    · have h2 : ¬t.val % 32 = 31 := by omega
      rw [outsAt0_C m c t h0 h1 h2]; rw [dif_pos h1]; frame_out; rw [hy]; refine (p3 m c t _ _ (S0_eq m c t h1) _).trans ?_; rw [p8]; rfl
    · by_cases h2 : t.val % 32 = 31
      · rw [outsAt0_D m c t h0 h1 h2]; rw [dif_neg h1]; frame_out; rw [hy]; exact p3 m c t _ _ (S1_at m c t _ h1) _
      · rw [outsAt0_B m c t h0 h1 h2]; rw [dif_neg h1]; frame_out; rw [hy]; exact p3 m c t _ _ (S1_at m c t _ h1) _

end Cert.FfnFwdMath

end
-- ==== Proof.FfnFwdMath.Final.lean ====
/- The kernel's ten result arrays after the run. -/
module

public import proofs.«01_k».proof.Proof.FfnFwdMath.Steps

@[expose] public section

set_option maxRecDepth 16384

noncomputable section

open Idealize.ShloMosaic Idealize.ShloMosaic.TcCoe Idealize.SL.Sem
open Idealize.ShloMosaic.Pipeline (Dat)
open scoped BigOperators

namespace Cert.FfnFwdMath

open Cert.FfnFwdIdeal Cert.FfnFwdIdeal.Gen
open Cert.MixInMath (var xhat hid)

variable (m : (ℓ : Loc nD τ sig) → Buf (Elt Ideal) ℓ) (c : Dev nD) (t : Fin cfg0.N)

theorem row_sum (g : Fin 4 → Fin 2048 → EReal) (h : ∀ s : Fin 8, 8 * (t.val / 8) + s.val < cfg0.N) :
    ∑ s : Fin 8, ∑ r : Fin 256, g (row ⟨8 * (t.val / 8) + s.val, h s⟩) (tok ⟨8 * (t.val / 8) + s.val, h s⟩ r) = ∑ l : Fin 2048, g (row t) l := by
  refine Fin.sum_mul_add_congr fun s k hl => congrArg₂ g (Fin.ext ?_) (Fin.ext ?_) <;> simp only [row, tok] <;> omega

theorem all_sum (g : Fin 4 → Fin 2048 → EReal) (h : ∀ s : Fin 32, 32 * (t.val / 32) + s.val < cfg0.N) :
    ∑ s : Fin 32, ∑ r : Fin 256, g (row ⟨32 * (t.val / 32) + s.val, h s⟩) (tok ⟨32 * (t.val / 32) + s.val, h s⟩ r)
      = ∑ b : Fin 4, ∑ l : Fin 2048, g b l := by
  have ht := lt32 t
  refine Fin.sum_points_lanes_congr 8 fun s k ha hl => congrArg₂ g (Fin.ext ?_) (Fin.ext ?_) <;> simp only [row, tok] <;> omega

theorem final_11 : (dats m 0 c).arrAt 11 (cfgs 0).N = fun i : S4x2048x1024.Idx => qHid m c (i 0) (i 1) (i 2) := by
  refine (dats m 0 c).arrAt_eq_of_covers 11 _ (by decide +kernel) fun t hf y => ?_
  blk_simp; rw [after0_11]
  have hi : (win0_11.blk t).view.emb y = ix3 (row t) (tok t (y 1)) (y 2) := by blk_ext [idx t, row, tok]
  rw [hi]
  exact t11 m c t y

theorem final_12 : (dats m 0 c).arrAt 12 (cfgs 0).N = fun i : S4x2048x2816.Idx => qVal m c (i 0) (i 1) (i 2) := by
  refine (dats m 0 c).arrAt_eq_of_covers 12 _ (by decide +kernel) fun t hf y => ?_
  blk_simp; rw [after0_12]
  have hi : (win0_12.blk t).view.emb y = ix3 (row t) (tok t (y 1)) (y 2) := by blk_ext [idx t, row, tok]
  rw [hi]
  exact t12 m c t y

theorem final_13 : (dats m 0 c).arrAt 13 (cfgs 0).N = fun i : S4x2048x2816.Idx => qGate m c (i 0) (i 1) (i 2) := by
  refine (dats m 0 c).arrAt_eq_of_covers 13 _ (by decide +kernel) fun t hf y => ?_
  blk_simp; rw [after0_13]
  have hi : (win0_13.blk t).view.emb y = ix3 (row t) (tok t (y 1)) (y 2) := by blk_ext [idx t, row, tok]
  rw [hi]
  exact t13 m c t y

theorem final_14 : (dats m 0 c).arrAt 14 (cfgs 0).N = fun i : S4x2048x2816.Idx => qConv m c (i 0) (i 1) (i 2) := by
  refine (dats m 0 c).arrAt_eq_of_covers 14 _ (by decide +kernel) fun t hf y => ?_
  blk_simp; rw [after0_14]
  have hi : (win0_14.blk t).view.emb y = ix3 (row t) (tok t (y 1)) (y 2) := by blk_ext [idx t, row, tok]
  rw [hi]
  exact t14 m c t y

theorem final_15 : (dats m 0 c).arrAt 15 (cfgs 0).N = fun i : S4x2048x2816.Idx => qAct m c (i 0) (i 1) (i 2) := by
  refine (dats m 0 c).arrAt_eq_of_covers 15 _ (by decide +kernel) fun t hf y => ?_
  blk_simp; rw [after0_15]
  have hi : (win0_15.blk t).view.emb y = ix3 (row t) (tok t (y 1)) (y 2) := by blk_ext [idx t, row, tok]
  rw [hi]
  exact t15 m c t y

theorem final_16 : (dats m 0 c).arrAt 16 (cfgs 0).N = fun i : S4x2048x1024.Idx => aGt m c (ix2 (i 0) (i 2)) * qDx m c (i 0) (i 1) (i 2) := by
  refine (dats m 0 c).arrAt_eq_of_covers 16 _ (by decide +kernel) fun t hf y => ?_
  blk_simp; rw [after0_16]
  have hi : (win0_16.blk t).view.emb y = ix3 (row t) (tok t (y 1)) (y 2) := by blk_ext [idx t, row, tok]
  rw [hi]
  exact t16 m c t y

theorem final_17 : (dats m 0 c).arrAt 17 (cfgs 0).N = fun i : S4x2048x1024.Idx => qDx m c (i 0) (i 1) (i 2) := by
  refine (dats m 0 c).arrAt_eq_of_covers 17 _ (by decide +kernel) fun t hf y => ?_
  blk_simp; rw [after0_17]
  have hi : (win0_17.blk t).view.emb y = ix3 (row t) (tok t (y 1)) (y 2) := by blk_ext [idx t, row, tok]
  rw [hi]
  exact t17 m c t y

theorem final_19 : (dats m 0 c).arrAt 19 (cfgs 0).N = fun i : S1x1024.Idx => ∑ b : Fin 4, ∑ s : Fin 2048, qDy m c b s (i 1) * xhat (qStrm m c) b s (i 1) := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2.2.2.1) 32 (fun _ => 0)
    (fun t y => ∑ r : Fin 256, qDy m c (row t) (tok t r) (y 1) * xhat (qStrm m c) (row t) (tok t r) (y 1))
    (fun t h j => (t19 m c t j).trans (by rw [dif_pos h]))
    (fun t h j => (t19 m c t j).trans (by rw [dif_neg h]))
    t ((flush0_19 t).mp hf) _, zero_add]
  have hi : (win0_19.blk t).view.emb y = ix2 0 (y 1) := by blk_ext [idx t, row, tok]
  rw [hi]
  exact all_sum t (fun b s => qDy m c b s (y 1) * xhat (qStrm m c) b s (y 1)) _

theorem final_20 : (dats m 0 c).arrAt 20 (cfgs 0).N = fun i : S4x1x1024.Idx => ∑ s : Fin 2048, qDx m c (i 0) s (i 2) * qDown m c (i 0) s (i 2) := by
  refine (dats m 0 c).arrAt_eq_of_covers 20 _ (by decide +kernel) fun t hf y => ?_
  blk_simp
  rw [after0_20, Pipeline.eq_sum_fin_of_reset_step_apply_of_flush (fun n h => (outsAt0 m c n h).2.2.2.2.2.2.2.2.2.1) 8 (fun _ => 0)
    (fun t y => ∑ r : Fin 256, qDx m c (row t) (tok t r) (y 2) * qDown m c (row t) (tok t r) (y 2))
    (fun t h j => (t20 m c t j).trans (by rw [dif_pos h]))
    (fun t h j => (t20 m c t j).trans (by rw [dif_neg h]))
    t ((flush0_20 t).mp hf) _, zero_add]
  have hi : (win0_20.blk t).view.emb y = ix3 (row t) 0 (y 2) := by blk_ext [idx t, row, tok]
  rw [hi]
  exact row_sum t (fun b s => qDx m c b s (y 2) * qDown m c b s (y 2)) _

/-- The lanes' sums after the last step. -/
theorem lanes (h2 : t.val % 32 = 31) (k : Fin 1024) : (outsAt0 m c t.val t.isLt).2.2.2.2.2.2.2.2.2.2.2 (ix2 0 k)
    = ∑ b : Fin 4, ∑ s : Fin 2048, qErr m c b s k * qErr m c b s k := by
  rw [Pipeline.eq_sum_fin_of_reset_step_apply_of_flush (fun n h => (outsAt0 m c n h).2.2.2.2.2.2.2.2.2.2.2) 32 (fun _ => 0)
    (fun t y => ∑ r : Fin 256, qErr m c (row t) (tok t r) (y 1) * qErr m c (row t) (tok t r) (y 1))
    (fun t h j => (tL m c t j).trans (by rw [dif_pos h]))
    (fun t h j => (tL m c t j).trans (by rw [dif_neg h]))
    t h2 _, zero_add]
  exact all_sum t (fun b s => qErr m c b s k * qErr m c b s k) _

theorem final_18 : (dats m 0 c).arrAt 18 (cfgs 0).N = fun i : S1x128.Idx => qLoss m c := by
  refine (dats m 0 c).arrAt_eq_of_covers 18 _ (by decide +kernel) fun t hf y => ?_
  have h2 := (flush0_18 t).mp hf
  blk_simp; rw [after0_18]
  refine (t18 m c t h2 y).trans ?_
  exact congrArg _ (Finset.sum_congr rfl fun k _ => lanes m c t h2 k)

end Cert.FfnFwdMath

end
-- ==== Proof.FfnFwdMath.Claim.lean ====
/- The gated channel mixer's forward call with the loss: its results and the plain program's are equal. -/
module

public import proofs.«01_k».proof.Proof.FfnFwdMath.Final
public import proofs.«01_k».proof.Proof.Gen.FfnFwdIdeal.Value
public import proofs.«01_k».proof.Proof.Gen.FfnFwdRefIdeal.Run
public import proofs.«01_k».proof.Proof.Gen.Pre_ffn_fwd_finite
public import proofs.«01_k».proof.Defs

@[expose] public section

set_option maxRecDepth 16384

noncomputable section

open Idealize.ShloMosaic Idealize.ShloMosaic.TcCoe Idealize.SL.Sem

namespace Cert.FfnFwdMath

open Shared

/-- What the precondition says of the arguments. -/
theorem args_real {x : FVec Ideal Cert.FfnFwdIdeal.S4x2048x1024 .f32} {tg : FVec Ideal Cert.FfnFwdIdeal.S4x2048x1024 .f32} {sh : FVec Ideal Cert.FfnFwdIdeal.S4x1024 .f32} {sc : FVec Ideal Cert.FfnFwdIdeal.S4x1024 .f32} {gt : FVec Ideal Cert.FfnFwdIdeal.S4x1024 .f32} {g : FVec Ideal Cert.FfnFwdIdeal.S1x1024 .f32} {wu : FVec Ideal Cert.FfnFwdIdeal.S1x1024x5632 .f32} {wc : FVec Ideal Cert.FfnFwdIdeal.S1x3x2816 .f32} {bc : FVec Ideal Cert.FfnFwdIdeal.S1x2816 .f32} {wd : FVec Ideal Cert.FfnFwdIdeal.S1x2816x1024 .f32} {gf : FVec Ideal Cert.FfnFwdIdeal.S1024 .f32}
    (h : Cert.Pre_ffn_fwd_finite.fn (F := Ideal) x tg sh sc gt g wu wc bc wd gf = fun _ => 1#1) :
    (∀ i, Real' (x i)) ∧ (∀ i, Real' (tg i)) ∧ (∀ i, Real' (sh i)) ∧ (∀ i, Real' (sc i)) ∧ (∀ i, Real' (gt i)) ∧ (∀ i, Real' (g i)) ∧ (∀ i, Real' (wu i)) ∧ (∀ i, Real' (wc i)) ∧ (∀ i, Real' (bc i)) ∧ (∀ i, Real' (wd i)) ∧ (∀ i, Real' (gf i)) := by
  obtain ⟨h, hgf⟩ := and_split (congrFun h ix0)
  obtain ⟨h, hwd⟩ := and_split h
  obtain ⟨h, hbc⟩ := and_split h
  obtain ⟨h, hwc⟩ := and_split h
  obtain ⟨h, hwu⟩ := and_split h
  obtain ⟨h, hg⟩ := and_split h
  obtain ⟨h, hgt⟩ := and_split h
  obtain ⟨h, hsc⟩ := and_split h
  obtain ⟨h, hsh⟩ := and_split h
  obtain ⟨hx, htg⟩ := and_split h
  exact ⟨real_of_all hx fun _ => f32_top, real_of_all htg fun _ => f32_top, real_of_all hsh fun _ => f32_top, real_of_all hsc fun _ => f32_top, real_of_all hgt fun _ => f32_top, real_of_all hg fun _ => f32_top, real_of_all hwu fun _ => f32_top, real_of_all hwc fun _ => f32_top, real_of_all hbc fun _ => f32_top, real_of_all hwd fun _ => f32_top, real_of_all hgf fun _ => f32_top⟩

variable (m : (ℓ : Loc Cert.FfnFwdIdeal.nD Cert.FfnFwdIdeal.τ Cert.FfnFwdIdeal.sig) → Buf (Elt Ideal) ℓ) (c : Dev Cert.FfnFwdIdeal.nD)

theorem trunc_at {s : Shape} (A : FVec Ideal s .f32) (h) (i : s.Idx) : truncf (F := Ideal) .bf16 A h i = A i := by
  pointwise

/-- Every argument is finite. -/
def Finite : Prop := (∀ i, Real' (aX m c i)) ∧ (∀ i, Real' (aT m c i)) ∧ (∀ i, Real' (aSh m c i)) ∧ (∀ i, Real' (aSc m c i)) ∧ (∀ i, Real' (aGt m c i)) ∧ (∀ i, Real' (aG m c i)) ∧ (∀ i, Real' (aWu m c i)) ∧ (∀ i, Real' (aWc m c i)) ∧ (∀ i, Real' (aBc m c i)) ∧ (∀ i, Real' (aWd m c i)) ∧ (∀ i, Real' (aGf m c i))

/-- The reference's features, as a whole array. -/
theorem whole_11 : Cert.FfnFwdRefIdeal.Read.val_main_v120 (F := Ideal) (aX m c) (aSh m c) (aSc m c) (aG m c)
    = fun i => qHid m c (i 0) (i 1) (i 2) := by
  funext i
  have hi : i = ix3 (i 0) (i 1) (i 2) := by blk_ext
  rw [hi]
  exact (trunc_at _ _ _).trans (ref_hid _ _ _ _ _ _ _)

/-- The reference's value half, as a whole array. -/
theorem whole_12 : Cert.FfnFwdRefIdeal.Read.val_main_v121 (F := Ideal) (aX m c) (aSh m c) (aSc m c) (aG m c) (aWu m c)
    = fun i => qVal m c (i 0) (i 1) (i 2) := by
  funext i
  have hi : i = ix3 (i 0) (i 1) (i 2) := by blk_ext
  rw [hi]
  exact (trunc_at _ _ _).trans (ref_val _ _ _ _ _ _ _ _)

/-- The reference's gate half, as a whole array. -/
theorem whole_13 : Cert.FfnFwdRefIdeal.Read.val_main_v122 (F := Ideal) (aX m c) (aSh m c) (aSc m c) (aG m c) (aWu m c)
    = fun i => qGate m c (i 0) (i 1) (i 2) := by
  funext i
  have hi : i = ix3 (i 0) (i 1) (i 2) := by blk_ext
  rw [hi]
  exact (trunc_at _ _ _).trans (ref_gate _ _ _ _ _ _ _ _)

/-- The reference's gate after the convolution, as a whole array. -/
theorem whole_14 : Cert.FfnFwdRefIdeal.Read.val_main_v123 (F := Ideal) (aX m c) (aSh m c) (aSc m c) (aG m c) (aWu m c) (aWc m c) (aBc m c)
    = fun i => qConv m c (i 0) (i 1) (i 2) := by
  funext i
  have hi : i = ix3 (i 0) (i 1) (i 2) := by blk_ext
  rw [hi]
  exact (trunc_at _ _ _).trans (ref_conv _ _ _ _ _ _ _ _ _ _)

/-- The reference's activation, as a whole array. -/
theorem whole_15 : Cert.FfnFwdRefIdeal.Read.val_main_v124 (F := Ideal) (aX m c) (aSh m c) (aSc m c) (aG m c) (aWu m c) (aWc m c) (aBc m c)
    = fun i => qAct m c (i 0) (i 1) (i 2) := by
  funext i
  have hi : i = ix3 (i 0) (i 1) (i 2) := by blk_ext
  rw [hi]
  exact (trunc_at _ _ _).trans (ref_act _ _ _ _ _ _ _ _ _ _)

/-- The reference's cotangent of the mixer's output, as a whole array. -/
theorem whole_16 (h : Finite m c) : Cert.FfnFwdRefIdeal.Read.val_main_v125 (F := Ideal) (aX m c) (aT m c) (aSh m c) (aSc m c) (aGt m c) (aG m c) (aWu m c) (aWc m c) (aBc m c) (aWd m c) (aGf m c)
    = fun i => aGt m c (ix2 (i 0) (i 2)) * qDx m c (i 0) (i 1) (i 2) := by
  obtain ⟨hx, htg, hsh, hsc, hgt, hg, hwu, hwc, hbc, hwd, hgf⟩ := h
  funext i
  have hi : i = ix3 (i 0) (i 1) (i 2) := by blk_ext
  rw [hi]
  exact ddn_eq _ _ _ _ _ _ _ _ _ _ _ hx htg hsh hsc hgt hg hwu hwc hbc hwd hgf _ _ _

/-- The reference's gradient of the stream, as a whole array. -/
theorem whole_17 (h : Finite m c) : Cert.FfnFwdRefIdeal.Read.val_main_v113 (F := Ideal) (aX m c) (aT m c) (aSh m c) (aSc m c) (aGt m c) (aG m c) (aWu m c) (aWc m c) (aBc m c) (aWd m c) (aGf m c)
    = fun i => qDx m c (i 0) (i 1) (i 2) := by
  obtain ⟨hx, htg, hsh, hsc, hgt, hg, hwu, hwc, hbc, hwd, hgf⟩ := h
  funext i
  have hi : i = ix3 (i 0) (i 1) (i 2) := by blk_ext
  rw [hi]
  exact dx2_eq _ _ _ _ _ _ _ _ _ _ _ hx htg hsh hsc hgt hg hwu hwc hbc hwd hgf _ _ _

/-- The reference's loss, as a whole array. -/
theorem whole_18 (h : Finite m c) : Cert.FfnFwdRefIdeal.Read.val_main_v126 (F := Ideal) (aX m c) (aT m c) (aSh m c) (aSc m c) (aGt m c) (aG m c) (aWu m c) (aWc m c) (aBc m c) (aWd m c) (aGf m c)
    = fun i => qLoss m c := by
  obtain ⟨hx, htg, hsh, hsc, hgt, hg, hwu, hwc, hbc, hwd, hgf⟩ := h
  funext i
  exact loss_eq _ _ _ _ _ _ _ _ _ _ _ hx htg hsh hsc hgt hg hwu hwc hbc hwd hgf i

/-- The reference's gradient of the last norm's gain, as a whole array. -/
theorem whole_19 : Cert.FfnFwdRefIdeal.Read.val_main_v127 (F := Ideal) (aX m c) (aT m c) (aSh m c) (aSc m c) (aGt m c) (aG m c) (aWu m c) (aWc m c) (aBc m c) (aWd m c) (aGf m c)
    = fun i => ∑ b : Fin 4, ∑ s : Fin 2048, qDy m c b s (i 1) * MixInMath.xhat (qStrm m c) b s (i 1) := by
  funext i
  have hi : i = ix2 0 (i 1) := by blk_ext
  rw [hi]
  exact ref_dgf _ _ _ _ _ _ _ _ _ _ _ _

/-- The reference's gradient of the second gate, as a whole array. -/
theorem whole_20 (h : Finite m c) : Cert.FfnFwdRefIdeal.Read.val_main_v128 (F := Ideal) (aX m c) (aT m c) (aSh m c) (aSc m c) (aGt m c) (aG m c) (aWu m c) (aWc m c) (aBc m c) (aWd m c) (aGf m c)
    = fun i => ∑ s : Fin 2048, qDx m c (i 0) s (i 2) * qDown m c (i 0) s (i 2) := by
  obtain ⟨hx, htg, hsh, hsc, hgt, hg, hwu, hwc, hbc, hwd, hgf⟩ := h
  funext i
  have hi : i = ix3 (i 0) 0 (i 2) := by blk_ext
  rw [hi]
  exact dgt_eq _ _ _ _ _ _ _ _ _ _ _ hx htg hsh hsc hgt hg hwu hwc hbc hwd hgf _ _

set_option maxHeartbeats 2000000 in
theorem algebraic : Cert.algebraic_FfnFwdIdeal_FfnFwdRefIdeal_pre_ffn_fwd_finite := by
  intro m g m' g' hpre hagree
  refine ⟨_, _, _, _, _, _, _, _, _, _, Cert.FfnFwdIdeal.Value.run_blocks m g, θ_run_mono (Cert.FfnFwdRefIdeal.Value.run m' g') fun r h c => ?_⟩
  have hf : Finite m c := args_real (hpre c)
  obtain ⟨e0, e1, e2, e3, e4, e5, e6, e7, e8, e9, e10⟩ := hagree c
  have f0 : StableHlo.launchContents m' c (Proc.devRef .tc Cert.FfnFwdRefIdeal.main_arg0) = aX m c := e0
  have f1 : StableHlo.launchContents m' c (Proc.devRef .tc Cert.FfnFwdRefIdeal.main_arg1) = aT m c := e1
  have f2 : StableHlo.launchContents m' c (Proc.devRef .tc Cert.FfnFwdRefIdeal.main_arg2) = aSh m c := e2
  have f3 : StableHlo.launchContents m' c (Proc.devRef .tc Cert.FfnFwdRefIdeal.main_arg3) = aSc m c := e3
  have f4 : StableHlo.launchContents m' c (Proc.devRef .tc Cert.FfnFwdRefIdeal.main_arg4) = aGt m c := e4
  have f5 : StableHlo.launchContents m' c (Proc.devRef .tc Cert.FfnFwdRefIdeal.main_arg5) = aG m c := e5
  have f6 : StableHlo.launchContents m' c (Proc.devRef .tc Cert.FfnFwdRefIdeal.main_arg6) = aWu m c := e6
  have f7 : StableHlo.launchContents m' c (Proc.devRef .tc Cert.FfnFwdRefIdeal.main_arg7) = aWc m c := e7
  have f8 : StableHlo.launchContents m' c (Proc.devRef .tc Cert.FfnFwdRefIdeal.main_arg8) = aBc m c := e8
  have f9 : StableHlo.launchContents m' c (Proc.devRef .tc Cert.FfnFwdRefIdeal.main_arg9) = aWd m c := e9
  have f10 : StableHlo.launchContents m' c (Proc.devRef .tc Cert.FfnFwdRefIdeal.main_arg10) = aGf m c := e10
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
  · refine (Cert.FfnFwdRefIdeal.Read.val_main_v120_eq (StableHlo.launchContents m' c)).trans ?_
    rw [f0, f2, f3, f5]
    exact (whole_11 m c).trans (final_11 m c).symm
  · refine (Cert.FfnFwdRefIdeal.Read.val_main_v121_eq (StableHlo.launchContents m' c)).trans ?_
    rw [f0, f2, f3, f5, f6]
    exact (whole_12 m c).trans (final_12 m c).symm
  · refine (Cert.FfnFwdRefIdeal.Read.val_main_v122_eq (StableHlo.launchContents m' c)).trans ?_
    rw [f0, f2, f3, f5, f6]
    exact (whole_13 m c).trans (final_13 m c).symm
  · refine (Cert.FfnFwdRefIdeal.Read.val_main_v123_eq (StableHlo.launchContents m' c)).trans ?_
    rw [f0, f2, f3, f5, f6, f7, f8]
    exact (whole_14 m c).trans (final_14 m c).symm
  · refine (Cert.FfnFwdRefIdeal.Read.val_main_v124_eq (StableHlo.launchContents m' c)).trans ?_
    rw [f0, f2, f3, f5, f6, f7, f8]
    exact (whole_15 m c).trans (final_15 m c).symm
  · refine (Cert.FfnFwdRefIdeal.Read.val_main_v125_eq (StableHlo.launchContents m' c)).trans ?_
    rw [f0, f1, f2, f3, f4, f5, f6, f7, f8, f9, f10]
    exact (whole_16 m c hf).trans (final_16 m c).symm
  · refine (Cert.FfnFwdRefIdeal.Read.val_main_v113_eq (StableHlo.launchContents m' c)).trans ?_
    rw [f0, f1, f2, f3, f4, f5, f6, f7, f8, f9, f10]
    exact (whole_17 m c hf).trans (final_17 m c).symm
  · refine (Cert.FfnFwdRefIdeal.Read.val_main_v126_eq (StableHlo.launchContents m' c)).trans ?_
    rw [f0, f1, f2, f3, f4, f5, f6, f7, f8, f9, f10]
    exact (whole_18 m c hf).trans (final_18 m c).symm
  · refine (Cert.FfnFwdRefIdeal.Read.val_main_v127_eq (StableHlo.launchContents m' c)).trans ?_
    rw [f0, f1, f2, f3, f4, f5, f6, f7, f8, f9, f10]
    exact (whole_19 m c).trans (final_19 m c).symm
  · refine (Cert.FfnFwdRefIdeal.Read.val_main_v128_eq (StableHlo.launchContents m' c)).trans ?_
    rw [f0, f1, f2, f3, f4, f5, f6, f7, f8, f9, f10]
    exact (whole_20 m c hf).trans (final_20 m c).symm

end Cert.FfnFwdMath

end
-- ==== Proof.Shared.Scan.lean ====
/- Running sums along the middle axis, host sums over two leading axes of four, and windows of a running sum. -/
module

public import proofs.«01_k».proof.Proof.Shared.Reals

@[expose] public section

set_option maxRecDepth 16384

noncomputable section

open Idealize.ShloMosaic Idealize.ShloMosaic.TcCoe Idealize.SL.Sem
open scoped BigOperators

namespace Cert.Shared

/-! ### Running sums -/

theorem foldl_add_finRange (n : ℕ) (g : Fin n → EReal) (v : EReal) :
    (List.finRange n).foldl (fun r k => r + g k) v = v + ∑ k, g k := by
  rw [Fin.sum_univ_def]
  generalize List.finRange n = l
  induction l generalizing v with
  | nil => simp
  | cons a l ih => simp only [List.foldl_cons, List.map_cons, List.sum_cons, ih, add_assoc]

/-- The positions of a window over the middle axis alone. -/
def midEquiv (n : ℕ) : Fin n ≃ (⟨3, ![1, n, 1]⟩ : Shape).Idx where
  toFun k := ix3 0 k 0
  invFun i := i 1
  left_inv _ := rfl
  right_inv i := by
    funext a; apply Fin.ext
    match a with
    | ⟨0, _⟩ => exact (Nat.lt_one_iff.1 (i 0).isLt).symm
    | ⟨1, _⟩ => rfl
    | ⟨2, _⟩ => exact (Nat.lt_one_iff.1 (i 2).isLt).symm

/-- A host window sum along the middle axis of three, read at an index. -/
theorem window_mid {a n l : ℕ} (lo hi : Fin 3 → ℕ) (x : (⟨3, ![a, n, l]⟩ : Shape).Idx → EReal) (init : EReal)
    (h : (⟨3, ![a, n, l]⟩ : Shape).ReduceWindows ![1, n, 1] ![1, 1, 1] lo hi ⟨3, ![a, n, l]⟩) (h0 : lo 0 = 0) (h2 : lo 2 = 0)
    (b : Fin a) (t : Fin n) (c : Fin l) :
    Ideal.hostReduceWindowAdd ![1, n, 1] ![1, 1, 1] lo hi h x init (ix3 b t c)
      = init + ∑ k : Fin n, if hk : lo 1 ≤ t.val + k.val ∧ t.val + k.val - lo 1 < n then x (ix3 b ⟨t.val + k.val - lo 1, hk.2⟩ c) else init := by
  unfold Ideal.hostReduceWindowAdd Host.reduceWindow
  refine (foldl_add_finRange _ _ _).trans (congrArg _ ?_)
  refine (Equiv.sum_comp ((midEquiv n).trans (Shape.rowMajor _)) _).symm.trans ?_
  refine Finset.sum_congr rfl fun k _ => ?_
  simp only [Equiv.trans_apply, Equiv.symm_apply_apply]
  by_cases hk : lo 1 ≤ t.val + k.val ∧ t.val + k.val - lo 1 < n
  · rw [dif_pos hk, dif_pos]
    · refine congrArg x ?_
      funext d; apply Fin.ext
      match d with
      | ⟨0, _⟩ => show b.val * 1 + 0 - lo 0 = b.val; omega
      | ⟨1, _⟩ => show t.val * 1 + k.val - lo 1 = t.val + k.val - lo 1; omega
      | ⟨2, _⟩ => show c.val * 1 + 0 - lo 2 = c.val; omega
    · intro d
      match d with
      | ⟨0, _⟩ => show lo 0 ≤ b.val * 1 + 0 ∧ b.val * 1 + 0 - lo 0 < a; omega
      | ⟨1, _⟩ => show lo 1 ≤ t.val * 1 + k.val ∧ t.val * 1 + k.val - lo 1 < n; omega
      | ⟨2, _⟩ => show lo 2 ≤ c.val * 1 + 0 ∧ c.val * 1 + 0 - lo 2 < l; omega
  · rw [dif_neg hk, dif_neg]
    intro hin
    refine hk ?_
    have h1 : lo 1 ≤ t.val * 1 + k.val ∧ t.val * 1 + k.val - lo 1 < n := hin 1
    omega

/-- The running sum from the first entry, and from the last. -/
theorem window_fwd {a n l : ℕ} (lo hi : Fin 3 → ℕ) (x : (⟨3, ![a, n, l]⟩ : Shape).Idx → EReal)
    (h : (⟨3, ![a, n, l]⟩ : Shape).ReduceWindows ![1, n, 1] ![1, 1, 1] lo hi ⟨3, ![a, n, l]⟩) (h0 : lo 0 = 0) (h1 : lo 1 = n - 1) (h2 : lo 2 = 0)
    (b : Fin a) (t : Fin n) (c : Fin l) :
    Ideal.hostReduceWindowAdd ![1, n, 1] ![1, 1, 1] lo hi h x 0 (ix3 b t c) = ∑ s : Fin n, if s.val < t.val + 1 then x (ix3 b s c) else 0 := by
  rw [window_mid lo hi x 0 h h0 h2, zero_add]
  refine Finset.sum_bij_ne_zero (fun k _ _ => ⟨t.val + k.val - (n - 1), by omega⟩) (fun _ _ _ => Finset.mem_univ _) ?_ ?_ ?_
  · intro k _ hk k' _ hk' e
    have hk : lo 1 ≤ t.val + k.val := by by_contra hn; exact hk (dif_neg fun hh => hn hh.1)
    have hk' : lo 1 ≤ t.val + k'.val := by by_contra hn; exact hk' (dif_neg fun hh => hn hh.1)
    have e := congrArg Fin.val e
    simp only at e
    apply Fin.ext; omega
  · intro s _ hs
    have hst : s.val < t.val + 1 := by by_contra hn; exact hs (if_neg hn)
    refine ⟨⟨s.val + (n - 1) - t.val, by omega⟩, Finset.mem_univ _, ?_, Fin.ext (by simp only; omega)⟩
    rw [if_pos hst] at hs
    rw [dif_pos (by simp only; omega)]
    exact fun e => hs ((congrArg (fun s => x (ix3 b s c)) (Fin.ext (by simp only; omega))).trans e)
  · intro k _ hk
    have hk' : lo 1 ≤ t.val + k.val := by by_contra hn; exact hk (dif_neg fun hh => hn hh.1)
    rw [dif_pos (by omega), if_pos (by simp only; omega)]
    exact congrArg (fun s => x (ix3 b s c)) (Fin.ext (by simp only; omega))

theorem window_bwd {a n l : ℕ} (lo hi : Fin 3 → ℕ) (x : (⟨3, ![a, n, l]⟩ : Shape).Idx → EReal)
    (h : (⟨3, ![a, n, l]⟩ : Shape).ReduceWindows ![1, n, 1] ![1, 1, 1] lo hi ⟨3, ![a, n, l]⟩) (h0 : lo 0 = 0) (h1 : lo 1 = 0) (h2 : lo 2 = 0)
    (b : Fin a) (t : Fin n) (c : Fin l) :
    Ideal.hostReduceWindowAdd ![1, n, 1] ![1, 1, 1] lo hi h x 0 (ix3 b t c) = ∑ s : Fin n, if t.val ≤ s.val then x (ix3 b s c) else 0 := by
  rw [window_mid lo hi x 0 h h0 h2, zero_add]
  refine Finset.sum_bij_ne_zero (fun k _ hk => ⟨t.val + k.val, by
      by_contra hn; exact hk (dif_neg fun hh => hn (by omega))⟩) (fun _ _ _ => Finset.mem_univ _) ?_ ?_ ?_
  · intro k _ hk k' _ hk' e
    have e := congrArg Fin.val e
    simp only at e
    apply Fin.ext; omega
  · intro s _ hs
    have hst : t.val ≤ s.val := by by_contra hn; exact hs (if_neg hn)
    refine ⟨⟨s.val - t.val, by omega⟩, Finset.mem_univ _, ?_, Fin.ext (by simp only; omega)⟩
    rw [if_pos hst] at hs
    rw [dif_pos (by simp only; omega)]
    exact fun e => hs ((congrArg (fun s => x (ix3 b s c)) (Fin.ext (by simp only; omega))).trans e)
  · intro k _ hk
    have hk' : t.val + k.val - lo 1 < n := by by_contra hn; exact hk (dif_neg fun hh => hn hh.2)
    rw [dif_pos (by omega), if_pos (by simp only; omega)]
    exact congrArg (fun s => x (ix3 b s c)) (Fin.ext (by simp only; omega))

/-! ### A host sum over the two leading axes of four -/

section lead4
variable {n0 n1 n2 n3 : Nat} (h : (⟨4, ![n0, n1, n2, n3]⟩ : Shape).ReducesTo [0, 1] ⟨2, ![n2, n3]⟩)

theorem lead4_fiber (g : Fin n2) (j : Fin n3) (i : (⟨4, ![n0, n1, n2, n3]⟩ : Shape).Idx) :
    h.drop i = ix2 g j ↔ ∃ k : Fin n0 × Fin n1, ix4 k.1 k.2 g j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

theorem hostReduceAdd_lead4 (v : (⟨4, ![n0, n1, n2, n3]⟩ : Shape).Idx → EReal) (init : EReal) (g : Fin n2) (j : Fin n3) :
    Ideal.hostReduceAdd h v init (ix2 g j) = init + ∑ a : Fin n0, ∑ b : Fin n1, v (ix4 a b g j) := by
  refine congrArg (init + ·) ((Finset.sum_filter_eq_sum_of_fiber _ (fun k : Fin n0 × Fin n1 => ix4 k.1 k.2 g j)
    (fun _ _ e => Prod.ext (congrFun e 0) (congrFun e 1)) (lead4_fiber h g j) v).trans ?_)
  simp only [Fintype.sum_prod_type]

end lead4

/-! ### Windows of real entries -/

/-- The difference of two running sums of real entries is the sum over the window between them. -/
theorem sub_window {n : ℕ} (f : Fin n → EReal) (hf : ∀ s, Real' (f s)) (t w : ℕ) :
    (∑ s : Fin n, if s.val < t + 1 then f s else 0) - (∑ s : Fin n, if s.val < t + 1 - w then f s else 0)
      = ∑ s : Fin n, if s.val ≤ t ∧ t < s.val + w then f s else 0 := by
  choose F hF using hf
  have e : ∀ (p : Prop) [Decidable p] (s : Fin n), (if p then f s else 0) = ((if p then F s else 0 : ℝ) : EReal) := by
    intro p _ s; split <;> simp [hF]
  simp only [e, ← coe_sum, ← EReal.coe_sub, ← Finset.sum_sub_distrib]
  refine congrArg _ (Finset.sum_congr rfl fun s _ => ?_)
  split <;> split <;> split <;> first | omega | ring

/-- The sum from an entry on of the differences of entries and the entries `w` later is the sum over the window that begins there. -/
theorem later_window {n : ℕ} (f : Fin n → EReal) (hf : ∀ s, Real' (f s)) (t w : ℕ) :
    (∑ s : Fin n, if t ≤ s.val then f s + (if h : s.val + w < n then -f ⟨s.val + w, h⟩ else 0) else 0)
      = ∑ s : Fin n, if t ≤ s.val ∧ s.val < t + w then f s else 0 := by
  choose F hF using hf
  have e : ∀ s : Fin n, (if t ≤ s.val then f s + (if h : s.val + w < n then -f ⟨s.val + w, h⟩ else 0) else 0)
      = (((if t ≤ s.val then F s else 0) - (if t ≤ s.val then (if h : s.val + w < n then F ⟨s.val + w, h⟩ else 0) else 0) : ℝ) : EReal) := by
    intro s
    split
    · split
      · rw [hF, hF, ← EReal.coe_neg, ← EReal.coe_add, sub_eq_add_neg]
      · rw [hF]; simp
    · simp
  have e' : ∀ s : Fin n, (if t ≤ s.val ∧ s.val < t + w then f s else 0) = ((if t ≤ s.val ∧ s.val < t + w then F s else 0 : ℝ) : EReal) := by
    intro s; split <;> simp [hF]
  simp only [e, e', ← coe_sum, Finset.sum_sub_distrib]
  refine congrArg _ ?_
  have e2 : (∑ s : Fin n, if t ≤ s.val then (if h : s.val + w < n then F ⟨s.val + w, h⟩ else 0) else 0)
      = ∑ s : Fin n, if t + w ≤ s.val then F s else 0 := by
    refine Finset.sum_bij_ne_zero (fun s _ hs => ⟨s.val + w, by
        by_contra hn; exact hs (by simp [hn])⟩) (fun _ _ _ => Finset.mem_univ _) ?_ ?_ ?_
    · intro k _ _ k' _ _ e
      have e := congrArg Fin.val e
      simp only at e
      apply Fin.ext; omega
    · intro s _ hs
      have hst : t + w ≤ s.val := by by_contra hn; exact hs (if_neg hn)
      rw [if_pos hst] at hs
      refine ⟨⟨s.val - w, by omega⟩, Finset.mem_univ _, ?_, Fin.ext (by simp only; omega)⟩
      rw [if_pos (by simp only; omega), dif_pos (by simp only; omega)]
      exact fun e => hs ((congrArg F (Fin.ext (by simp only; omega))).trans e)
    · intro s _ hs
      have h1 : t ≤ s.val := by by_contra hn; exact hs (if_neg hn)
      have h2 : s.val + w < n := by by_contra hn; exact hs (by simp [hn])
      exact (if_pos h1).trans ((dif_pos h2).trans (if_pos (show t + w ≤ s.val + w by omega)).symm)
  rw [e2, ← Finset.sum_sub_distrib]
  refine Finset.sum_congr rfl fun s _ => ?_
  split <;> split <;> split <;> first | omega | ring

end Cert.Shared

end
-- ==== Proof.MixOutMath.Ref.lean ====
/- The mixer's output stage, its forward values and its reference's nine gradients, read at an index. -/
module

public import proofs.«01_k».proof.Proof.Gen.MixOutRefIdeal.Read
public import proofs.«01_k».proof.Proof.Shared.Scan

@[expose] public section

set_option maxRecDepth 16384

noncomputable section

open Idealize.ShloMosaic Idealize.ShloMosaic.TcCoe Idealize.SL.Sem
open scoped BigOperators

namespace Cert.MixOutMath

open Cert.MixOutRefIdeal Cert.MixOutRefIdeal.Gen Cert.MixOutRefIdeal.Read
open Cert.Shared

variable (y p : FVec Ideal S4x2048x512 .f32) (gt : FVec Ideal S4x1024 .f32) (wg : FVec Ideal S1x512x1024 .f32) (bg : FVec Ideal S1x1024 .f32)
  (wp : FVec Ideal S1x4x128x128 .f32) (bp : FVec Ideal S1x4x128 .f32) (ps : FVec Ideal S1x512 .f32) (wo : FVec Ideal S1x1024x1024 .f32)
  (dx : FVec Ideal S4x2048x1024 .f32)

/-! ### The gated half -/

/-- The hyperbolic tangent inside the gelu. -/
def th (b : Fin 4) (t : Fin 2048) (k : Fin 512) : EReal :=
  Ideal.tanh (Ideal.ofBits .f32 0x3F4C422A#32 * (y (ix3 b t k)
    + Ideal.div (Ideal.ofBits .f32 0x460BBC00#32 * (y (ix3 b t k) * y (ix3 b t k) * y (ix3 b t k))) (Ideal.ofBits .f32 0x48435000#32)))

/-- The gelu. -/
def act (b : Fin 4) (t : Fin 2048) (k : Fin 512) : EReal := y (ix3 b t k) * (Ideal.ofBits .f32 0x3F000000#32 * (1 + th y b t k))

/-- The product by the gated unit's weight. -/
def gl (b : Fin 4) (t : Fin 2048) (j : Fin 1024) : EReal := ∑ k : Fin 512, act y b t k * wg (ix3 0 k j) + bg (ix2 0 j)

/-- Its value half, and the logistic of its gate half. -/
def val (b : Fin 4) (t : Fin 2048) (j : Fin 512) : EReal := gl y wg bg b t ⟨j, by omega⟩
def lgt (b : Fin 4) (t : Fin 2048) (j : Fin 512) : EReal := Ideal.div 1 (1 + Ideal.exp (-gl y wg bg b t ⟨512 + j, by omega⟩))

theorem ref_th (b : Fin 4) (t : Fin 2048) (k : Fin 512) : val_main_v13 (F := Ideal) y (ix3 b t k) = th y b t k := by
  pointwise [val_main_v13, val_main_v12, val_main_v11, val_main_cst_3, val_main_v10, val_main_v9, val_main_v7, val_main_v6, val_main_cst_1,
    val_main_v2, val_main_v1, val_main_v8, val_main_cst_2, th]

theorem ref_act (b : Fin 4) (t : Fin 2048) (k : Fin 512) : val_main_v23 (F := Ideal) y (ix3 b t k) = act y b t k := by
  pointwise [val_main_v23, val_main_v22, val_main_v21, val_main_cst_7, val_main_v20, val_main_v19, val_main_cst_6, ref_th, act]

theorem ref_gl (b : Fin 4) (t : Fin 2048) (j : Fin 1024) : val_main_v29 (F := Ideal) y wg bg (ix3 b t j) = gl y wg bg b t j := by
  pointwise [val_main_v29, val_main_v25, val_main_v24, val_main_v28, val_main_v27, val_main_v26, ref_act, gl]

theorem ref_val (b : Fin 4) (t : Fin 2048) (j : Fin 512) : val_main_v30 (F := Ideal) y wg bg (ix3 b t j) = val y wg bg b t j := by
  pointwise [val_main_v30, ref_gl, val]

theorem ref_lgt (b : Fin 4) (t : Fin 2048) (j : Fin 512) : val_main_v37 (F := Ideal) y wg bg (ix3 b t j) = lgt y wg bg b t j := by
  pointwise [val_main_v37, val_main_v36, val_main_cst_9, val_main_v35, val_main_v34, val_main_cst_8, val_main_v33, val_main_v32, val_main_v31,
    ref_gl, lgt]

/-! ### The pooled half -/

/-- The four windows' lengths, as numbers and as the floats they are compared with. -/
def W : Fin 4 → ℕ := ![2, 4, 8, 16]
def wf : Fin 4 → EReal := ![Ideal.ofBits .f32 0x40000000#32, Ideal.ofBits .f32 0x40800000#32, Ideal.ofBits .f32 0x41000000#32, Ideal.ofBits .f32 0x41800000#32]

/-- The column of a group's lane. -/
def col (g : Fin 4) (j : Fin 128) : Fin 512 := ⟨g.val * 128 + j.val, by omega⟩

/-- How many tokens have been seen, and how many of them a window holds. -/
def pos (t : Fin 2048) : EReal := (((t.val + 1 : ℕ) : ℝ) : EReal)
def cnt (g : Fin 4) (t : Fin 2048) : EReal := min (pos t) (wf g)

/-- The sum of the tokens before the `n`th. -/
def upto (b : Fin 4) (n : ℕ) (c : Fin 512) : EReal := ∑ s : Fin 2048, if s.val < n then p (ix3 b s c) else 0

/-- The sum over a window that ends at a token. -/
def win (w : ℕ) (b : Fin 4) (t : Fin 2048) (c : Fin 512) : EReal := ∑ s : Fin 2048, if s.val ≤ t.val ∧ t.val < s.val + w then p (ix3 b s c) else 0

/-- The window's mean less the token itself. -/
def dev (b : Fin 4) (t : Fin 2048) (g : Fin 4) (j : Fin 128) : EReal := Ideal.div (win p (W g) b t (col g j)) (cnt g t) - p (ix3 b t (col g j))

theorem ref_upto (b : Fin 4) (n : Fin 2049) (c : Fin 512) : val_main_v47 (F := Ideal) p (ix3 b n c) = upto p b n c := by
  have h : ∀ (b : Fin 4) (t : Fin 2048) (c : Fin 512), val_main_v46 (F := Ideal) p (ix3 b t c) = upto p b (t.val + 1) c := fun b t c => by
    refine Eq.trans ?_ (window_fwd _ _ p reduceWindows_S4x2048x512_S4x2048x512_w1s1p0_0_w2048s1p2047_0_w1s1p0_0 rfl rfl rfl b t c)
    unfold val_main_v46 Host.reduceWindowAdd
    rw [Ideal.hostReduceWindowAdd_def]
    refine congrArg (fun z => Ideal.hostReduceWindowAdd _ _ _ _ _ p z _) ?_
    pointwise [val_main_call0_call0_v0, val_main_call0_call0_cst]
  pointwise [val_main_v47, val_main_v45, val_main_cst_11, h]
  split
  · exact (Finset.sum_eq_zero fun s _ => if_neg (by omega)).symm
  · exact congrArg (fun k => upto p b k c) (by omega)

theorem pos_eq (t : Fin 2048) : (1 : EReal) + FloatOps.sitofp (F := Ideal) .f32 (BitVec.ofNat 32 t.val) = pos t := by
  have e : (BitVec.ofNat 32 t.val).toInt = (t.val : ℤ) := by
    have h := t.isLt
    rw [BitVec.toInt_eq_toNat_of_lt (by rw [BitVec.toNat_ofNat]; omega), BitVec.toNat_ofNat]; omega
  show (1 : EReal) + (((BitVec.ofNat 32 t.val).toInt : ℝ) : EReal) = _
  rw [e]; unfold pos; push_cast; rw [add_comm]

theorem lag_window (hp : ∀ i, Real' (p i)) (b : Fin 4) (t w : ℕ) (c : Fin 512) :
    upto p b (t + 1) c - upto p b (t + 1 - w) c = ∑ s : Fin 2048, if s.val ≤ t ∧ t < s.val + w then p (ix3 b s c) else 0 :=
  sub_window (fun s => p (ix3 b s c)) (fun s => hp _) t w

/-- A mean over a window as the reference finds it: a later running sum less an earlier one, which is none at the start. -/
theorem lag (hp : ∀ i, Real' (p i)) (b : Fin 4) (t : Fin 2048) (g : Fin 4) (j : Fin 128) (c : Fin 512) (hc : c = col g j) (k n : ℕ) (hn : n = 1 + t.val)
    (hk : W g = k + 1) (q : EReal) (hq : q = wf g) (m : ℕ) (hm : m = t.val - k) :
    Ideal.div (upto p b n c - (if _ : t.val < k then 0 else upto p b m c))
        (min (1 + FloatOps.sitofp (F := Ideal) .f32 (BitVec.ofNat 32 t.val)) q) - p (ix3 b t c) = dev p b t g j := by
  subst hc hq hm hn
  have h0 : (if _ : t.val < k then 0 else upto p b (t.val - k) (col g j)) = upto p b (t.val + 1 - W g) (col g j) := by
    split
    · exact (Finset.sum_eq_zero fun s _ => if_neg (by omega)).symm
    · exact congrArg (fun k => upto p b k _) (by omega)
  rw [h0, pos_eq, add_comm 1 t.val, lag_window p hp]; rfl

theorem ref_dev (hp : ∀ i, Real' (p i)) (b : Fin 4) (t : Fin 2048) (g : Fin 4) (j : Fin 128) : val_main_v109 (F := Ideal) p (ix4 b t g j) = dev p b t g j := by
  fin_cases g
  · pointwise [val_main_v109, val_main_v105, val_main_v65, val_main_v63, val_main_v59, val_main_v58, val_main_v53, val_main_v56, val_main_v54,
    val_main_cst_14, val_main_v55, val_main_v62, val_main_v61, val_main_v52, val_main_v51, val_main_v50, val_main_cst_13, val_main_v49, val_main_v60,
    val_main_cst_16, val_main_v64, val_main_v106, val_main_v78, val_main_v76, val_main_v72, val_main_v71, val_main_v66, val_main_v69, val_main_v67,
    val_main_cst_17, val_main_v68, val_main_v75, val_main_v74, val_main_v73, val_main_cst_19, val_main_v77, val_main_v107, val_main_v91,
    val_main_v89, val_main_v85, val_main_v84, val_main_v79, val_main_v82, val_main_v80, val_main_cst_20, val_main_v81, val_main_v88, val_main_v87,
    val_main_v86, val_main_cst_22, val_main_v90, val_main_v108, val_main_v104, val_main_v102, val_main_v98, val_main_v97, val_main_v92, val_main_v95,
    val_main_v93, val_main_cst_23, val_main_v94, val_main_v101, val_main_v100, val_main_v99, val_main_cst_25, val_main_v103, ref_upto]
    exact lag p hp b t 0 j _ (Fin.ext (by simp [col])) 1 _ rfl rfl _ rfl _ rfl
  · pointwise [val_main_v109, val_main_v105, val_main_v65, val_main_v63, val_main_v59, val_main_v58, val_main_v53, val_main_v56, val_main_v54,
    val_main_cst_14, val_main_v55, val_main_v62, val_main_v61, val_main_v52, val_main_v51, val_main_v50, val_main_cst_13, val_main_v49, val_main_v60,
    val_main_cst_16, val_main_v64, val_main_v106, val_main_v78, val_main_v76, val_main_v72, val_main_v71, val_main_v66, val_main_v69, val_main_v67,
    val_main_cst_17, val_main_v68, val_main_v75, val_main_v74, val_main_v73, val_main_cst_19, val_main_v77, val_main_v107, val_main_v91,
    val_main_v89, val_main_v85, val_main_v84, val_main_v79, val_main_v82, val_main_v80, val_main_cst_20, val_main_v81, val_main_v88, val_main_v87,
    val_main_v86, val_main_cst_22, val_main_v90, val_main_v108, val_main_v104, val_main_v102, val_main_v98, val_main_v97, val_main_v92, val_main_v95,
    val_main_v93, val_main_cst_23, val_main_v94, val_main_v101, val_main_v100, val_main_v99, val_main_cst_25, val_main_v103, ref_upto]
    exact lag p hp b t 1 j _ (Fin.ext (by simp [col])) 3 _ rfl rfl _ rfl _ rfl
  · pointwise [val_main_v109, val_main_v105, val_main_v65, val_main_v63, val_main_v59, val_main_v58, val_main_v53, val_main_v56, val_main_v54,
    val_main_cst_14, val_main_v55, val_main_v62, val_main_v61, val_main_v52, val_main_v51, val_main_v50, val_main_cst_13, val_main_v49, val_main_v60,
    val_main_cst_16, val_main_v64, val_main_v106, val_main_v78, val_main_v76, val_main_v72, val_main_v71, val_main_v66, val_main_v69, val_main_v67,
    val_main_cst_17, val_main_v68, val_main_v75, val_main_v74, val_main_v73, val_main_cst_19, val_main_v77, val_main_v107, val_main_v91,
    val_main_v89, val_main_v85, val_main_v84, val_main_v79, val_main_v82, val_main_v80, val_main_cst_20, val_main_v81, val_main_v88, val_main_v87,
    val_main_v86, val_main_cst_22, val_main_v90, val_main_v108, val_main_v104, val_main_v102, val_main_v98, val_main_v97, val_main_v92, val_main_v95,
    val_main_v93, val_main_cst_23, val_main_v94, val_main_v101, val_main_v100, val_main_v99, val_main_cst_25, val_main_v103, ref_upto]
    exact lag p hp b t 2 j _ (Fin.ext (by simp [col])) 7 _ rfl rfl _ rfl _ rfl
  · pointwise [val_main_v109, val_main_v105, val_main_v65, val_main_v63, val_main_v59, val_main_v58, val_main_v53, val_main_v56, val_main_v54,
    val_main_cst_14, val_main_v55, val_main_v62, val_main_v61, val_main_v52, val_main_v51, val_main_v50, val_main_cst_13, val_main_v49, val_main_v60,
    val_main_cst_16, val_main_v64, val_main_v106, val_main_v78, val_main_v76, val_main_v72, val_main_v71, val_main_v66, val_main_v69, val_main_v67,
    val_main_cst_17, val_main_v68, val_main_v75, val_main_v74, val_main_v73, val_main_cst_19, val_main_v77, val_main_v107, val_main_v91,
    val_main_v89, val_main_v85, val_main_v84, val_main_v79, val_main_v82, val_main_v80, val_main_cst_20, val_main_v81, val_main_v88, val_main_v87,
    val_main_v86, val_main_cst_22, val_main_v90, val_main_v108, val_main_v104, val_main_v102, val_main_v98, val_main_v97, val_main_v92, val_main_v95,
    val_main_v93, val_main_cst_23, val_main_v94, val_main_v101, val_main_v100, val_main_v99, val_main_cst_25, val_main_v103, ref_upto]
    exact lag p hp b t 3 j _ (Fin.ext (by simp [col])) 15 _ rfl rfl _ rfl _ rfl

/-- The grouped map of the deviations, with its bias. -/
def zl (b : Fin 4) (t : Fin 2048) (g : Fin 4) (j : Fin 128) : EReal := ∑ i : Fin 128, wp (ix4 0 g i j) * dev p b t g i + bp (ix3 0 g j)

theorem ref_zl (hp : ∀ i, Real' (p i)) (b : Fin 4) (t : Fin 2048) (g : Fin 4) (j : Fin 128) : val_main_v114 (F := Ideal) p wp bp (ix4 b t g j) = zl p wp bp b t g j := by
  have h := ref_dev p hp
  pointwise [val_main_v114, val_main_v111, val_main_v110, val_main_v42, val_main_v113, val_main_v112, val_main_v43, h, zl]

/-- The group and the lane of a column. -/
def grp (k : Fin 512) : Fin 4 := ⟨k.val / 128, by omega⟩
def lane (k : Fin 512) : Fin 128 := ⟨k.val % 128, by omega⟩

/-- The two halves side by side. -/
def mc (b : Fin 4) (t : Fin 2048) (k : Fin 1024) : EReal :=
  if h : k.val < 512 then val y wg bg b t ⟨k.val, h⟩ * lgt y wg bg b t ⟨k.val, h⟩
  else zl p wp bp b t (grp ⟨k.val - 512, by omega⟩) (lane ⟨k.val - 512, by omega⟩) * ps (ix2 0 ⟨k.val - 512, by omega⟩)

theorem ref_mc (hp : ∀ i, Real' (p i)) (b : Fin 4) (t : Fin 2048) (k : Fin 1024) : val_main_v119 (F := Ideal) y p wg bg wp bp ps (ix3 b t k) = mc y p wg bg wp bp ps b t k := by
  have h := ref_zl p wp bp hp
  pointwise [val_main_v119, val_main_v41, val_main_v118, val_main_v115, val_main_v117, val_main_v116, val_main_v44, ref_val, ref_lgt, h, mc, grp,
    lane]

/-- The stage's product by its output weight. -/
def mixed (b : Fin 4) (t : Fin 2048) (n : Fin 1024) : EReal := ∑ k : Fin 1024, mc y p wg bg wp bp ps b t k * wo (ix3 0 k n)

theorem ref_mixed (hp : ∀ i, Real' (p i)) (b : Fin 4) (t : Fin 2048) (k : Fin 1024) : val_main_v121 (F := Ideal) y p wg bg wp bp ps wo (ix3 b t k) = mixed y p wg bg wp bp ps wo b t k := by
  have h := ref_mc y p wg bg wp bp ps hp
  pointwise [val_main_v121, val_main_v120, h, mixed]

/-! ### The gradients -/

/-- The product's cotangent, and that of the two halves. -/
def dmx (b : Fin 4) (t : Fin 2048) (n : Fin 1024) : EReal := gt (ix2 b n) * dx (ix3 b t n)
def dmc (b : Fin 4) (t : Fin 2048) (k : Fin 1024) : EReal := ∑ n : Fin 1024, dmx gt dx b t n * wo (ix3 0 k n)

theorem ref_dmx (b : Fin 4) (t : Fin 2048) (n : Fin 1024) : val_main_v127 (F := Ideal) gt dx (ix3 b t n) = dmx gt dx b t n := by
  pointwise [val_main_v127, val_main_v126, val_main_v122, dmx]

theorem ref_dmc (b : Fin 4) (t : Fin 2048) (k : Fin 1024) : val_main_v134 (F := Ideal) gt wo dx (ix3 b t k) = dmc gt wo dx b t k := by
  pointwise [val_main_v134, val_main_v120, ref_dmx, dmc]

theorem ref_dgt (hp : ∀ i, Real' (p i)) (b : Fin 4) (n : Fin 1024) :
    val_main_v251 (F := Ideal) y p wg bg wp bp ps wo dx (ix3 b 0 n) = ∑ t : Fin 2048, dx (ix3 b t n) * mixed y p wg bg wp bp ps wo b t n := by
  have h := ref_mixed y p wg bg wp bp ps wo hp
  pointwise [val_main_v251, val_main_v131, val_main_v130, val_main_v129, val_main_v128, val_main_cst_26, val_main_cst_27, h]
  simp only [Fin.sum_univ_one]

theorem ref_dwo (hp : ∀ i, Real' (p i)) (k n : Fin 1024) :
    val_main_v247 (F := Ideal) y p gt wg bg wp bp ps dx (ix2 k n) = ∑ b : Fin 4, ∑ t : Fin 2048, mc y p wg bg wp bp ps b t k * dmx gt dx b t n := by
  have h := ref_mc y p wg bg wp bp ps hp
  pointwise [val_main_v247, val_main_v135, val_main_v133, val_main_v132, h, ref_dmx]
  exact Finset.sum_congr rfl fun b _ => Finset.sum_congr rfl fun t _ => mul_comm _ _

/-- The column of the pooled half. -/
def hi (k : Fin 512) : Fin 1024 := ⟨512 + k.val, by omega⟩

theorem ref_dps (hp : ∀ i, Real' (p i)) (k : Fin 512) :
    val_main_v215 (F := Ideal) p gt wp bp wo dx (ix2 0 k) = ∑ b : Fin 4, ∑ t : Fin 2048, zl p wp bp b t (grp k) (lane k) * dmc gt wo dx b t (hi k) := by
  have h := ref_zl p wp bp hp
  pointwise [val_main_v215, val_main_v143, val_main_v140, val_main_v139, val_main_v138, val_main_v115, val_main_v137, val_main_cst_28,
    val_main_cst_29, h, ref_dmc, Cert.Shared.hostReduceAdd_lead, grp, lane, hi]
  simp only [Fin.sum_univ_one]

/-- The cotangent of the grouped map, of the deviations, and of a window's sum. -/
def dzl (b : Fin 4) (t : Fin 2048) (g : Fin 4) (j : Fin 128) : EReal := dmc gt wo dx b t (hi (col g j)) * ps (ix2 0 (col g j))
def dz (b : Fin 4) (t : Fin 2048) (g : Fin 4) (i : Fin 128) : EReal := ∑ j : Fin 128, dzl gt ps wo dx b t g j * wp (ix4 0 g i j)
def dq (b : Fin 4) (t : Fin 2048) (g : Fin 4) (i : Fin 128) : EReal := Ideal.div (dz gt wp ps wo dx b t g i) (cnt g t)

theorem ref_dzl (b : Fin 4) (t : Fin 2048) (g : Fin 4) (j : Fin 128) : val_main_v144 (F := Ideal) gt ps wo dx (ix4 b t g j) = dzl gt ps wo dx b t g j := by
  pointwise [val_main_v144, val_main_v142, val_main_v137, val_main_v141, val_main_v116, val_main_v44, ref_dmc, dzl, hi, col]

theorem ref_dbp (g : Fin 4) (j : Fin 128) :
    val_main_v250 (F := Ideal) gt ps wo dx (ix2 0 (col g j)) = ∑ b : Fin 4, ∑ t : Fin 2048, dzl gt ps wo dx b t g j := by
  pointwise [val_main_v250, val_main_v216, val_main_v147, val_main_v146, val_main_v145, val_main_cst_30, val_main_cst_31, ref_dzl,
    hostReduceAdd_lead4, col]
  simp only [Fin.sum_univ_one]

theorem ref_dz (b : Fin 4) (t : Fin 2048) (g : Fin 4) (j : Fin 128) : val_main_v150 (F := Ideal) gt wp ps wo dx (ix4 b t g j) = dz gt wp ps wo dx b t g j := by
  pointwise [val_main_v150, val_main_v149, val_main_v148, val_main_v42, ref_dzl, dz]

theorem ref_dwp (hp : ∀ i, Real' (p i)) (g : Fin 4) (i j : Fin 128) :
    val_main_v249 (F := Ideal) p gt ps wo dx (ix3 g i j) = ∑ b : Fin 4, ∑ t : Fin 2048, dev p b t g i * dzl gt ps wo dx b t g j := by
  have h := ref_dev p hp
  pointwise [val_main_v249, val_main_v217, val_main_v152, val_main_v151, val_main_v148, h, ref_dzl]
  exact Finset.sum_congr rfl fun b _ => Finset.sum_congr rfl fun t _ => mul_comm _ _

/-- The cotangent of the pooled half's input. -/
def dp (b : Fin 4) (t : Fin 2048) (g : Fin 4) (i : Fin 128) : EReal :=
  -dz gt wp ps wo dx b t g i + ∑ s : Fin 2048, if t.val ≤ s.val ∧ s.val < t.val + W g then dq gt wp ps wo dx b s g i else 0

theorem ref_sum (x : FVec Ideal S4x2048x512 .f32) (b : Fin 4) (t : Fin 2048) (c : Fin 512) (z : EReal) (hz : z = 0) :
    Ideal.hostReduceWindowAdd ![1, 2048, 1] ![1, 1, 1] ![0, 0, 0] ![0, 2047, 0] reduceWindows_S4x2048x512_S4x2048x512_w1s1p0_0_w2048s1p0_2047_w1s1p0_0 x z (ix3 b t c)
      = ∑ s : Fin 2048, if t.val ≤ s.val then x (ix3 b s c) else 0 := by
  subst hz
  exact window_bwd _ _ x _ rfl rfl rfl b t c

theorem add_right (a : EReal) {x y : EReal} (h : x = y) : a + x = a + y := congrArg (a + ·) h

theorem ref_dq0 (b : Fin 4) (t : Fin 2048) (i : Fin 128) : val_main_v202 (F := Ideal) gt wp ps wo dx (ix3 b t i) = dq gt wp ps wo dx b t 0 i := by
  pointwise [val_main_v202, val_main_v154, val_main_v153, val_main_v201, val_main_v61, val_main_v52, val_main_v51, val_main_v50, val_main_cst_13,
    val_main_v49, val_main_v60, val_main_cst_16, ref_dz]
  exact congrArg (fun c => Ideal.div _ (min c _)) (pos_eq t)
theorem ref_dq1 (b : Fin 4) (t : Fin 2048) (i : Fin 128) : val_main_v189 (F := Ideal) gt wp ps wo dx (ix3 b t i) = dq gt wp ps wo dx b t 1 i := by
  pointwise [val_main_v189, val_main_v156, val_main_v155, val_main_v188, val_main_v74, val_main_v52, val_main_v51, val_main_v50, val_main_cst_13,
    val_main_v49, val_main_v73, val_main_cst_19, ref_dz]
  exact congrArg (fun c => Ideal.div _ (min c _)) (pos_eq t)
theorem ref_dq2 (b : Fin 4) (t : Fin 2048) (i : Fin 128) : val_main_v176 (F := Ideal) gt wp ps wo dx (ix3 b t i) = dq gt wp ps wo dx b t 2 i := by
  pointwise [val_main_v176, val_main_v158, val_main_v157, val_main_v175, val_main_v87, val_main_v52, val_main_v51, val_main_v50, val_main_cst_13,
    val_main_v49, val_main_v86, val_main_cst_22, ref_dz]
  exact congrArg (fun c => Ideal.div _ (min c _)) (pos_eq t)
theorem ref_dq3 (b : Fin 4) (t : Fin 2048) (i : Fin 128) : val_main_v164 (F := Ideal) gt wp ps wo dx (ix3 b t i) = dq gt wp ps wo dx b t 3 i := by
  pointwise [val_main_v164, val_main_v160, val_main_v159, val_main_v163, val_main_v100, val_main_v52, val_main_v51, val_main_v50, val_main_cst_13,
    val_main_v49, val_main_v99, val_main_cst_25, ref_dz]
  exact congrArg (fun c => Ideal.div _ (min c _)) (pos_eq t)

theorem ref_lead0 (b : Fin 4) (t : Fin 2048) (j : Fin 128) : val_main_v212 (F := Ideal) gt wp ps wo dx (ix3 b t (col 0 j))
    = dq gt wp ps wo dx b t 0 j + if h : t.val + 2 < 2048 then -dq gt wp ps wo dx b ⟨t.val + 2, h⟩ 0 j else 0 := by
  pointwise [val_main_v212, val_main_v210, val_main_v197, val_main_v184, val_main_v171, val_main_v170, val_main_v166, val_main_cst_33, val_main_v169,
    val_main_v168, val_main_v165, val_main_cst_34, val_main_cst_35, val_main_v183, val_main_v182, val_main_v178, val_main_cst_37, val_main_v181,
    val_main_v180, val_main_v177, val_main_cst_38, val_main_cst_39, val_main_v196, val_main_v195, val_main_v191, val_main_cst_41, val_main_v194,
    val_main_v193, val_main_v190, val_main_cst_42, val_main_cst_43, val_main_v209, val_main_v208, val_main_v204, val_main_cst_45, val_main_v207,
    val_main_v206, val_main_v203, val_main_cst_46, val_main_cst_47, ref_dq0, ref_dq1, ref_dq2, ref_dq3, col]
  have hj := j.isLt
  have ht := t.isLt
  simp (disch := omega) only [and_false, false_and, ↓reduceDIte, dif_pos, dif_neg, zero_add, add_zero]
  refine add_right _ ?_
  split <;> split <;> first | omega | rfl | exact congrArg (fun s => -dq gt wp ps wo dx b s 0 j) (Fin.ext (by simp only; omega))

theorem ref_own0 (b : Fin 4) (t : Fin 2048) (j : Fin 128) : val_main_v200 (F := Ideal) gt wp ps wo dx (ix3 b t (col 0 j)) = -dz gt wp ps wo dx b t 0 j := by
  pointwise [val_main_v200, val_main_v187, val_main_v174, val_main_v162, val_main_v161, val_main_v160, val_main_v159, val_main_cst_32, val_main_v173,
    val_main_v172, val_main_v158, val_main_v157, val_main_cst_36, val_main_v186, val_main_v185, val_main_v156, val_main_v155, val_main_cst_40,
    val_main_v199, val_main_v198, val_main_v154, val_main_v153, val_main_cst_44, ref_dz, col]
  have hj := j.isLt
  simp (disch := omega) only [and_false, false_and, ↓reduceDIte, dif_pos, dif_neg, zero_add, add_zero]

theorem ref_lead1 (b : Fin 4) (t : Fin 2048) (j : Fin 128) : val_main_v212 (F := Ideal) gt wp ps wo dx (ix3 b t (col 1 j))
    = dq gt wp ps wo dx b t 1 j + if h : t.val + 4 < 2048 then -dq gt wp ps wo dx b ⟨t.val + 4, h⟩ 1 j else 0 := by
  pointwise [val_main_v212, val_main_v210, val_main_v197, val_main_v184, val_main_v171, val_main_v170, val_main_v166, val_main_cst_33, val_main_v169,
    val_main_v168, val_main_v165, val_main_cst_34, val_main_cst_35, val_main_v183, val_main_v182, val_main_v178, val_main_cst_37, val_main_v181,
    val_main_v180, val_main_v177, val_main_cst_38, val_main_cst_39, val_main_v196, val_main_v195, val_main_v191, val_main_cst_41, val_main_v194,
    val_main_v193, val_main_v190, val_main_cst_42, val_main_cst_43, val_main_v209, val_main_v208, val_main_v204, val_main_cst_45, val_main_v207,
    val_main_v206, val_main_v203, val_main_cst_46, val_main_cst_47, ref_dq0, ref_dq1, ref_dq2, ref_dq3, col]
  have hj := j.isLt
  have ht := t.isLt
  simp (disch := omega) only [and_false, false_and, ↓reduceDIte, dif_pos, dif_neg, zero_add, add_zero]
  refine add_right _ ?_
  split <;> split <;> first | omega | rfl | exact congrArg (fun s => -dq gt wp ps wo dx b s 1 j) (Fin.ext (by simp only; omega))

theorem ref_own1 (b : Fin 4) (t : Fin 2048) (j : Fin 128) : val_main_v200 (F := Ideal) gt wp ps wo dx (ix3 b t (col 1 j)) = -dz gt wp ps wo dx b t 1 j := by
  pointwise [val_main_v200, val_main_v187, val_main_v174, val_main_v162, val_main_v161, val_main_v160, val_main_v159, val_main_cst_32, val_main_v173,
    val_main_v172, val_main_v158, val_main_v157, val_main_cst_36, val_main_v186, val_main_v185, val_main_v156, val_main_v155, val_main_cst_40,
    val_main_v199, val_main_v198, val_main_v154, val_main_v153, val_main_cst_44, ref_dz, col]
  have hj := j.isLt
  simp (disch := omega) only [and_false, false_and, ↓reduceDIte, dif_pos, dif_neg, zero_add, add_zero]

theorem ref_lead2 (b : Fin 4) (t : Fin 2048) (j : Fin 128) : val_main_v212 (F := Ideal) gt wp ps wo dx (ix3 b t (col 2 j))
    = dq gt wp ps wo dx b t 2 j + if h : t.val + 8 < 2048 then -dq gt wp ps wo dx b ⟨t.val + 8, h⟩ 2 j else 0 := by
  pointwise [val_main_v212, val_main_v210, val_main_v197, val_main_v184, val_main_v171, val_main_v170, val_main_v166, val_main_cst_33, val_main_v169,
    val_main_v168, val_main_v165, val_main_cst_34, val_main_cst_35, val_main_v183, val_main_v182, val_main_v178, val_main_cst_37, val_main_v181,
    val_main_v180, val_main_v177, val_main_cst_38, val_main_cst_39, val_main_v196, val_main_v195, val_main_v191, val_main_cst_41, val_main_v194,
    val_main_v193, val_main_v190, val_main_cst_42, val_main_cst_43, val_main_v209, val_main_v208, val_main_v204, val_main_cst_45, val_main_v207,
    val_main_v206, val_main_v203, val_main_cst_46, val_main_cst_47, ref_dq0, ref_dq1, ref_dq2, ref_dq3, col]
  have hj := j.isLt
  have ht := t.isLt
  simp (disch := omega) only [and_false, false_and, ↓reduceDIte, dif_pos, dif_neg, zero_add, add_zero]
  refine add_right _ ?_
  split <;> split <;> first | omega | rfl | exact congrArg (fun s => -dq gt wp ps wo dx b s 2 j) (Fin.ext (by simp only; omega))

theorem ref_own2 (b : Fin 4) (t : Fin 2048) (j : Fin 128) : val_main_v200 (F := Ideal) gt wp ps wo dx (ix3 b t (col 2 j)) = -dz gt wp ps wo dx b t 2 j := by
  pointwise [val_main_v200, val_main_v187, val_main_v174, val_main_v162, val_main_v161, val_main_v160, val_main_v159, val_main_cst_32, val_main_v173,
    val_main_v172, val_main_v158, val_main_v157, val_main_cst_36, val_main_v186, val_main_v185, val_main_v156, val_main_v155, val_main_cst_40,
    val_main_v199, val_main_v198, val_main_v154, val_main_v153, val_main_cst_44, ref_dz, col]
  have hj := j.isLt
  simp (disch := omega) only [and_false, false_and, ↓reduceDIte, dif_pos, dif_neg, zero_add, add_zero]

theorem ref_lead3 (b : Fin 4) (t : Fin 2048) (j : Fin 128) : val_main_v212 (F := Ideal) gt wp ps wo dx (ix3 b t (col 3 j))
    = dq gt wp ps wo dx b t 3 j + if h : t.val + 16 < 2048 then -dq gt wp ps wo dx b ⟨t.val + 16, h⟩ 3 j else 0 := by
  pointwise [val_main_v212, val_main_v210, val_main_v197, val_main_v184, val_main_v171, val_main_v170, val_main_v166, val_main_cst_33, val_main_v169,
    val_main_v168, val_main_v165, val_main_cst_34, val_main_cst_35, val_main_v183, val_main_v182, val_main_v178, val_main_cst_37, val_main_v181,
    val_main_v180, val_main_v177, val_main_cst_38, val_main_cst_39, val_main_v196, val_main_v195, val_main_v191, val_main_cst_41, val_main_v194,
    val_main_v193, val_main_v190, val_main_cst_42, val_main_cst_43, val_main_v209, val_main_v208, val_main_v204, val_main_cst_45, val_main_v207,
    val_main_v206, val_main_v203, val_main_cst_46, val_main_cst_47, ref_dq0, ref_dq1, ref_dq2, ref_dq3, col]
  have hj := j.isLt
  have ht := t.isLt
  simp (disch := omega) only [and_false, false_and, ↓reduceDIte, dif_pos, dif_neg, zero_add, add_zero]
  refine add_right _ ?_
  split <;> split <;> first | omega | rfl | exact congrArg (fun s => -dq gt wp ps wo dx b s 3 j) (Fin.ext (by simp only; omega))

theorem ref_own3 (b : Fin 4) (t : Fin 2048) (j : Fin 128) : val_main_v200 (F := Ideal) gt wp ps wo dx (ix3 b t (col 3 j)) = -dz gt wp ps wo dx b t 3 j := by
  pointwise [val_main_v200, val_main_v187, val_main_v174, val_main_v162, val_main_v161, val_main_v160, val_main_v159, val_main_cst_32, val_main_v173,
    val_main_v172, val_main_v158, val_main_v157, val_main_cst_36, val_main_v186, val_main_v185, val_main_v156, val_main_v155, val_main_cst_40,
    val_main_v199, val_main_v198, val_main_v154, val_main_v153, val_main_cst_44, ref_dz, col]
  have hj := j.isLt
  simp (disch := omega) only [and_false, false_and, ↓reduceDIte, dif_pos, dif_neg, zero_add, add_zero]

theorem ref_dp (b : Fin 4) (t : Fin 2048) (g : Fin 4) (j : Fin 128) (hq : ∀ s, Real' (dq gt wp ps wo dx b s g j)) :
    val_main_v214 (F := Ideal) gt wp ps wo dx (ix3 b t (col g j)) = dp gt wp ps wo dx b t g j := by
  have e : val_main_v213 (F := Ideal) gt wp ps wo dx (ix3 b t (col g j)) = ∑ s : Fin 2048, if t.val ≤ s.val then val_main_v212 (F := Ideal) gt wp ps wo dx (ix3 b s (col g j)) else 0 := by
    refine Eq.trans ?_ (ref_sum _ b t _ 0 rfl)
    unfold val_main_v213 Host.reduceWindowAdd
    rw [Ideal.hostReduceWindowAdd_def]
    refine congrArg (fun z => Ideal.hostReduceWindowAdd _ _ _ _ _ _ z _) ?_
    pointwise [val_main_call1_call0_v0, val_main_call1_call0_cst]
  pointwise [val_main_v214, e]
  fin_cases g
  · refine congr (congrArg _ (ref_own0 gt wp ps wo dx b t j)) (.trans (Finset.sum_congr rfl fun s _ => ?_) (later_window (fun s => dq gt wp ps wo dx b s 0 j) hq t.val 2))
    exact if_congr Iff.rfl (ref_lead0 gt wp ps wo dx b s j) rfl
  · refine congr (congrArg _ (ref_own1 gt wp ps wo dx b t j)) (.trans (Finset.sum_congr rfl fun s _ => ?_) (later_window (fun s => dq gt wp ps wo dx b s 1 j) hq t.val 4))
    exact if_congr Iff.rfl (ref_lead1 gt wp ps wo dx b s j) rfl
  · refine congr (congrArg _ (ref_own2 gt wp ps wo dx b t j)) (.trans (Finset.sum_congr rfl fun s _ => ?_) (later_window (fun s => dq gt wp ps wo dx b s 2 j) hq t.val 8))
    exact if_congr Iff.rfl (ref_lead2 gt wp ps wo dx b s j) rfl
  · refine congr (congrArg _ (ref_own3 gt wp ps wo dx b t j)) (.trans (Finset.sum_congr rfl fun s _ => ?_) (later_window (fun s => dq gt wp ps wo dx b s 3 j) hq t.val 16))
    exact if_congr Iff.rfl (ref_lead3 gt wp ps wo dx b s j) rfl

/-! ### The gated half's gradients -/

/-- The cotangent of the gated unit's product. -/
def dgl (b : Fin 4) (t : Fin 2048) (j : Fin 1024) : EReal :=
  if h : j.val < 512 then dmc gt wo dx b t j * lgt y wg bg b t ⟨j.val, h⟩
  else val y wg bg b t ⟨j.val - 512, by omega⟩ * dmc gt wo dx b t ⟨j.val - 512, by omega⟩
    * (lgt y wg bg b t ⟨j.val - 512, by omega⟩ * (1 - lgt y wg bg b t ⟨j.val - 512, by omega⟩))

theorem ref_dgl (b : Fin 4) (t : Fin 2048) (j : Fin 1024) : val_main_v221 (F := Ideal) y gt wg bg wo dx (ix3 b t j) = dgl y gt wg bg wo dx b t j := by
  pointwise [val_main_v221, val_main_v219, val_main_v136, val_main_v220, val_main_v218, val_main_v40, val_main_v39, val_main_v38, val_main_cst_10,
    ref_val, ref_lgt, ref_dmc, dgl]

theorem ref_dbg (j : Fin 1024) : val_main_v225 (F := Ideal) y gt wg bg wo dx (ix2 0 j) = ∑ b : Fin 4, ∑ t : Fin 2048, dgl y gt wg bg wo dx b t j := by
  pointwise [val_main_v225, val_main_v224, val_main_v223, val_main_v222, val_main_cst_48, val_main_cst_49, ref_dgl, Cert.Shared.hostReduceAdd_lead]
  simp only [Fin.sum_univ_one]

theorem ref_dwg (k : Fin 512) (j : Fin 1024) :
    val_main_v248 (F := Ideal) y gt wg bg wo dx (ix2 k j) = ∑ b : Fin 4, ∑ t : Fin 2048, act y b t k * dgl y gt wg bg wo dx b t j := by
  pointwise [val_main_v248, val_main_v229, val_main_v227, val_main_v226, ref_dgl, ref_act]
  exact Finset.sum_congr rfl fun b _ => Finset.sum_congr rfl fun t _ => mul_comm _ _

/-- The cotangent of the gelu. -/
def da (b : Fin 4) (t : Fin 2048) (k : Fin 512) : EReal := ∑ j : Fin 1024, dgl y gt wg bg wo dx b t j * wg (ix3 0 k j)

theorem ref_da (b : Fin 4) (t : Fin 2048) (k : Fin 512) : val_main_v228 (F := Ideal) y gt wg bg wo dx (ix3 b t k) = da y gt wg bg wo dx b t k := by
  pointwise [val_main_v228, val_main_v24, ref_dgl, da]

/-- The cotangent of the tanh's argument, times the argument's factor. -/
def du (b : Fin 4) (t : Fin 2048) (k : Fin 512) : EReal :=
  Ideal.ofBits .f32 0x3F4C422A#32 * (Ideal.ofBits .f32 0x3F000000#32 * (y (ix3 b t k) * da y gt wg bg wo dx b t k) * ((1 + th y b t k) * (1 - th y b t k)))

/-- The cotangent of the recurrence's result. -/
def dy (b : Fin 4) (t : Fin 2048) (k : Fin 512) : EReal :=
  da y gt wg bg wo dx b t k * (Ideal.ofBits .f32 0x3F000000#32 * (1 + th y b t k)) + du y gt wg bg wo dx b t k
    + Ideal.ofBits .f32 0x460BBC00#32 * Ideal.div (du y gt wg bg wo dx b t k) (Ideal.ofBits .f32 0x48435000#32)
      * (Ideal.ofBits .f32 0x40400000#32 * (y (ix3 b t k) * y (ix3 b t k)))

theorem ref_dy (b : Fin 4) (t : Fin 2048) (k : Fin 512) : val_main_v243 (F := Ideal) y gt wg bg wo dx (ix3 b t k) = dy y gt wg bg wo dx b t k := by
  pointwise [val_main_v243, val_main_v237, val_main_v231, val_main_v22, val_main_v21, val_main_cst_7, val_main_v20, val_main_v19, val_main_cst_6,
    val_main_v236, val_main_v235, val_main_cst_51, val_main_v234, val_main_v233, val_main_v232, val_main_cst_50, val_main_v230, val_main_v18,
    val_main_v15, val_main_v14, val_main_cst_4, val_main_v17, val_main_v16, val_main_cst_5, val_main_v242, val_main_v241, val_main_v240,
    val_main_cst_53, val_main_v239, val_main_v238, val_main_cst_52, val_main_v5, val_main_v4, val_main_cst_0, val_main_v3, ref_da, ref_th, dy, du]

theorem ref_dy2 (t : Fin 2048) (b : Fin 4) (k : Fin 512) :
    val_main_v246 (F := Ideal) y gt wg bg wo dx (ix2 t ⟨b.val * 512 + k.val, by omega⟩) = dy y gt wg bg wo dx b t k := by
  pointwise [val_main_v246, val_main_v245, val_main_v244, ref_dy]

end Cert.MixOutMath

end
-- ==== Proof.MixOutMath.Kernel.lean ====
/- The blocks of the mixer's output stage at one grid point, read at an index. -/
module

public import proofs.«01_k».proof.Proof.Gen.MixOutIdeal.Value
public import proofs.«01_k».proof.Proof.MixOutMath.Ref
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

variable (m : (ℓ : Loc nD τ sig) → Buf (Elt Ideal) ℓ) (c : Dev nD)

/-- The kernel's arguments. -/
abbrev aY : FVec Ideal S4x2048x512 .f32 := m ((c : Thread nD τ).loc main_arg0)
abbrev aP : FVec Ideal S4x2048x512 .f32 := m ((c : Thread nD τ).loc main_arg1)
abbrev aGt : FVec Ideal S4x1024 .f32 := m ((c : Thread nD τ).loc main_arg2)
abbrev aWg : FVec Ideal S1x512x1024 .f32 := m ((c : Thread nD τ).loc main_arg3)
abbrev aBg : FVec Ideal S1x1024 .f32 := m ((c : Thread nD τ).loc main_arg4)
abbrev aWp : FVec Ideal S1x4x128x128 .f32 := m ((c : Thread nD τ).loc main_arg5)
abbrev aBp : FVec Ideal S1x4x128 .f32 := m ((c : Thread nD τ).loc main_arg6)
abbrev aPs : FVec Ideal S1x512 .f32 := m ((c : Thread nD τ).loc main_arg7)
abbrev aWo : FVec Ideal S1x1024x1024 .f32 := m ((c : Thread nD τ).loc main_arg8)
abbrev aDx : FVec Ideal S4x2048x1024 .f32 := m ((c : Thread nD τ).loc main_arg9)

/-- Every window's block at a grid point: a batch row's second half is visited before its first. -/
theorem idx : ∀ t : Fin cfg0.N, win0_0.index t = ![t.val / 2, 1 - t.val % 2, 0]
    ∧ win0_1.index t = ![t.val / 2, 1 - t.val % 2, 0]
    ∧ win0_2.index t = ![t.val / 2, 1 - t.val % 2, 0]
    ∧ win0_3.index t = ![1 - t.val % 2, t.val / 2]
    ∧ win0_4.index t = ![t.val / 2, 1 - t.val % 2, 0]
    ∧ win0_5.index t = ![t.val / 2, (1 - t.val % 2) * 64 - 1, 0]
    ∧ win0_6.index t = ![t.val / 2, 0, 0]
    ∧ win0_7.index t = ![0, 0]
    ∧ win0_8.index t = ![0, 0]
    ∧ win0_9.index t = ![0, 0, 0]
    ∧ win0_10.index t = ![0, 0]
    ∧ win0_11.index t = ![0, 0]
    ∧ win0_12.index t = ![0, 0]
    ∧ win0_13.index t = ![1 - t.val % 2, t.val / 2]
    ∧ win0_14.index t = ![t.val / 2, 1 - t.val % 2, 0]
    ∧ win0_15.index t = ![0, 0]
    ∧ win0_16.index t = ![0, 0]
    ∧ win0_17.index t = ![0, 0]
    ∧ win0_18.index t = ![0, 0, 0]
    ∧ win0_19.index t = ![0, 0]
    ∧ win0_20.index t = ![0, 0]
    ∧ win0_21.index t = ![t.val / 2, 0, 0] :=
  (by decide +kernel : ∀ t : Fin grid0.N, _)

theorem lt8 (t : Fin cfg0.N) : t.val < 8 := lt_of_lt_of_eq t.2 N_0

/-- The batch row and the token of a grid point's row. -/
def row (t : Fin cfg0.N) : Fin 4 := ⟨t.val / 2, by have := lt8 t; omega⟩
def tok (t : Fin cfg0.N) (r : Fin 1024) : Fin 2048 := ⟨(1 - t.val % 2) * 1024 + r, by omega⟩

section host

theorem trunc_at {s : Shape} (A : FVec Ideal s .f32) (h) (i : s.Idx) : truncf (F := Ideal) .bf16 A h i = A i := by
  pointwise

/-- The windows' arrays that the host prepares: the saved forward values, the rows and the matrices' other orders. -/
theorem h3 (b : Fin 4) (t : Fin 2048) (k : Fin 512) : V m c main_v107 (ix2 t ⟨b.val * 512 + k.val, by omega⟩) = aY m c (ix3 b t k) := by
  unfold V; after_reads_at
  exact congrArg (aY m c) (by blk_ext)
theorem h6 (b : Fin 4) (k : Fin 1024) : V m c main_v110 (ix3 b (0 : Fin 1) k) = aGt m c (ix2 b k) := by
  unfold V; after_reads_at
theorem h7 (k : Fin 512) (j : Fin 1024) : V m c main_v112 (ix2 k j) = aWg m c (ix3 0 k j) := by
  unfold V; after_reads_at
theorem h9 (g : Fin 4) (i j : Fin 128) : V m c main_v114 (ix3 g i j) = aWp m c (ix4 0 g i j) := by
  unfold V; after_reads_at
theorem h10 (g : Fin 4) (j : Fin 128) : V m c main_v116 (ix2 0 (col g j)) = aBp m c (ix3 0 g j) := by
  unfold V col; after_reads_at
theorem h12 (k n : Fin 1024) : V m c main_v118 (ix2 k n) = aWo m c (ix3 0 k n) := by
  unfold V; after_reads_at
theorem v1 : V m c main_v108 = truncf (F := Ideal) .bf16 (Cert.MixOutRefIdeal.Read.val_main_v119 (F := Ideal) (aY m c) (aP m c) (aWg m c) (aBg m c) (aWp m c) (aBp m c) (aPs m c)) bitsLt_bf16_f32 := by
  unfold V; after_reads_simp; sl_kernel_rfl
theorem v2 : V m c main_v109 = truncf (F := Ideal) .bf16 (Cert.MixOutRefIdeal.Read.val_main_v121 (F := Ideal) (aY m c) (aP m c) (aWg m c) (aBg m c) (aWp m c) (aBp m c) (aPs m c) (aWo m c)) bitsLt_bf16_f32 := by
  unfold V; after_reads_simp; sl_kernel_rfl

variable (hp : ∀ i, Real' (aP m c i))
include hp
theorem h1 (b : Fin 4) (t : Fin 2048) (k : Fin 1024) :
    V m c main_v108 (ix3 b t k) = mc (aY m c) (aP m c) (aWg m c) (aBg m c) (aWp m c) (aBp m c) (aPs m c) b t k :=
  (congrFun (v1 m c) _).trans ((trunc_at _ _ _).trans (ref_mc _ _ _ _ _ _ _ hp _ _ _))
theorem h2 (b : Fin 4) (t : Fin 2048) (k : Fin 1024) :
    V m c main_v109 (ix3 b t k) = mixed (aY m c) (aP m c) (aWg m c) (aBg m c) (aWp m c) (aBp m c) (aPs m c) (aWo m c) b t k :=
  (congrFun (v2 m c) _).trans ((trunc_at _ _ _).trans (ref_mixed _ _ _ _ _ _ _ _ hp _ _ _))

end host

section blocks
variable (t : Fin cfg0.N) (r : Fin 1024) (k : Fin 512) (n : Fin 1024) (g : Fin 4) (i j : Fin 128)

theorem rd0 : iblk m c 0 t (ix3 0 r n) = aDx m c (ix3 (row t) (tok t r) n) := by blk_point [iblk, V, idx t, row, tok]
theorem rd4 : iblk m c 4 t (ix3 0 r k) = aP m c (ix3 (row t) (tok t r) k) := by blk_point [iblk, V, idx t, row, tok]
theorem rd5 (d : Fin 16) : iblk m c 5 t (ix3 0 d k) = aP m c (ix3 (row t) ⟨((1 - t.val % 2) * 64 - 1) * 16 + d.val, by omega⟩ k) := by
  blk_point [iblk, V, idx t, row, tok]
theorem rd8 : iblk m c 8 t (ix2 0 n) = aBg m c (ix2 0 n) := by blk_point [iblk, V, idx t, row, tok]
theorem rd11 : iblk m c 11 t (ix2 0 k) = aPs m c (ix2 0 k) := by blk_point [iblk, V, idx t, row, tok]
theorem rd3 : iblk m c 3 t (ix2 r k) = aY m c (ix3 (row t) (tok t r) k) := by
  have e : (win0_3.blk t).view.emb (ix2 r k) = ix2 (tok t r) ⟨(row t).val * 512 + k.val, by omega⟩ := by blk_ext [idx t, row, tok]
  rw [show iblk m c 3 t _ = V m c main_v107 ((win0_3.blk t).view.emb (ix2 r k)) from rfl, e]; exact h3 m c _ _ _
theorem rd6 : iblk m c 6 t (ix3 0 0 n) = aGt m c (ix2 (row t) n) := by
  have e : (win0_6.blk t).view.emb (ix3 0 0 n) = ix3 (row t) (0 : Fin 1) n := by blk_ext [idx t, row, tok]
  rw [show iblk m c 6 t _ = V m c main_v110 ((win0_6.blk t).view.emb (ix3 0 0 n)) from rfl, e]; exact h6 m c _ _
theorem rd7 : iblk m c 7 t (ix2 k n) = aWg m c (ix3 0 k n) := by
  have e : (win0_7.blk t).view.emb (ix2 k n) = ix2 k n := by blk_ext [idx t, row, tok]
  rw [show iblk m c 7 t _ = V m c main_v112 ((win0_7.blk t).view.emb (ix2 k n)) from rfl, e]; exact h7 m c _ _
theorem rd9 : iblk m c 9 t (ix3 g i j) = aWp m c (ix4 0 g i j) := by
  have e : (win0_9.blk t).view.emb (ix3 g i j) = ix3 g i j := by blk_ext [idx t, row, tok]
  rw [show iblk m c 9 t _ = V m c main_v114 ((win0_9.blk t).view.emb (ix3 g i j)) from rfl, e]; exact h9 m c _ _ _
theorem rd10 : iblk m c 10 t (ix2 0 (col g j)) = aBp m c (ix3 0 g j) := by
  have e : (win0_10.blk t).view.emb (ix2 0 (col g j)) = ix2 0 (col g j) := by blk_ext [idx t, row, tok]
  rw [show iblk m c 10 t _ = V m c main_v116 ((win0_10.blk t).view.emb (ix2 0 (col g j))) from rfl, e]; exact h10 m c _ _
theorem rd12 (k n : Fin 1024) : iblk m c 12 t (ix2 k n) = aWo m c (ix3 0 k n) := by
  have e : (win0_12.blk t).view.emb (ix2 k n) = ix2 k n := by blk_ext [idx t, row, tok]
  rw [show iblk m c 12 t _ = V m c main_v118 ((win0_12.blk t).view.emb (ix2 k n)) from rfl, e]; exact h12 m c _ _

variable (hp : ∀ i, Real' (aP m c i))
include hp
theorem rd1 : iblk m c 1 t (ix3 0 r n)
    = mc (aY m c) (aP m c) (aWg m c) (aBg m c) (aWp m c) (aBp m c) (aPs m c) (row t) (tok t r) n := by
  have e : (win0_1.blk t).view.emb (ix3 0 r n) = ix3 (row t) (tok t r) n := by blk_ext [idx t, row, tok]
  rw [show iblk m c 1 t _ = V m c main_v108 ((win0_1.blk t).view.emb (ix3 0 r n)) from rfl, e]; exact h1 m c hp _ _ _
theorem rd2 : iblk m c 2 t (ix3 0 r n)
    = mixed (aY m c) (aP m c) (aWg m c) (aBg m c) (aWp m c) (aBp m c) (aPs m c) (aWo m c) (row t) (tok t r) n := by
  have e : (win0_2.blk t).view.emb (ix3 0 r n) = ix3 (row t) (tok t r) n := by blk_ext [idx t, row, tok]
  rw [show iblk m c 2 t _ = V m c main_v109 ((win0_2.blk t).view.emb (ix3 0 r n)) from rfl, e]; exact h2 m c hp _ _ _

end blocks

end Cert.MixOutMath

end
-- ==== Proof.MixOutMath.Pay.lean ====
/- The kernel's payloads at one grid point, in the reference's quantities. -/
module

public import proofs.«01_k».proof.Proof.MixOutMath.Kernel

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

variable (m : (ℓ : Loc nD τ sig) → Buf (Elt Ideal) ℓ) (c : Dev nD)

/-- The reference's quantities at the kernel's arguments. -/
abbrev qMc := mc (aY m c) (aP m c) (aWg m c) (aBg m c) (aWp m c) (aBp m c) (aPs m c)
abbrev qMixed := mixed (aY m c) (aP m c) (aWg m c) (aBg m c) (aWp m c) (aBp m c) (aPs m c) (aWo m c)
abbrev qDmx := dmx (aGt m c) (aDx m c)
abbrev qDmc := dmc (aGt m c) (aWo m c) (aDx m c)
abbrev qDev := dev (aP m c)
abbrev qZl := zl (aP m c) (aWp m c) (aBp m c)
abbrev qDzl := dzl (aGt m c) (aPs m c) (aWo m c) (aDx m c)
abbrev qDz := dz (aGt m c) (aWp m c) (aPs m c) (aWo m c) (aDx m c)
abbrev qDq := dq (aGt m c) (aWp m c) (aPs m c) (aWo m c) (aDx m c)
abbrev qDp := dp (aGt m c) (aWp m c) (aPs m c) (aWo m c) (aDx m c)
abbrev qAct := act (aY m c)
abbrev qVal := val (aY m c) (aWg m c) (aBg m c)
abbrev qLgt := lgt (aY m c) (aWg m c) (aBg m c)
abbrev qDgl := dgl (aY m c) (aGt m c) (aWg m c) (aBg m c) (aWo m c) (aDx m c)
abbrev qDa := da (aY m c) (aGt m c) (aWg m c) (aBg m c) (aWo m c) (aDx m c)
abbrev qDy := dy (aY m c) (aGt m c) (aWg m c) (aBg m c) (aWo m c) (aDx m c)

variable (t : Fin cfg0.N) (r : Fin 1024) (k : Fin 512) (n : Fin 1024) (g : Fin 4) (i j : Fin 128)

/-! ### The product by the output weight -/

theorem p13 : k0_pay13 (iblk m c 0 t) (iblk m c 6 t) (ix2 r n) = qDmx m c (row t) (tok t r) n := by
  pointwise [k0_pay13, k0_pay10, rd0, rd6, dmx]

/-- The cotangents of the product and of the two halves at a point. -/
abbrev b13 := k0_pay13 (iblk m c 0 t) (iblk m c 6 t)
abbrev b15 := k0_pay15 (b13 m c t) (iblk m c 12 t)

theorem p15 : b15 m c t (ix2 r n) = qDmc m c (row t) (tok t r) n := by
  have h := p13 m c t
  pointwise [k0_pay15, h, rd12, dmc]

section saved
variable (hp : ∀ i, Real' (aP m c i))
include hp

theorem p12 (A) : k0_pay12 (iblk m c 0 t) A (iblk m c 2 t) (ix3 0 0 n)
    = A (ix3 0 0 n) + ∑ r : Fin 1024, aDx m c (ix3 (row t) (tok t r) n) * qMixed m c (row t) (tok t r) n := by
  have h := rd2 m c t (hp := hp)
  pointwise [k0_pay12, k0_pay10, rd0, h]

theorem p14 (A) (k : Fin 1024) : k0_pay14 (k0_pay11 (iblk m c 1 t)) (b13 m c t) A (ix2 k n)
    = A (ix2 k n) + ∑ r : Fin 1024, qMc m c (row t) (tok t r) k * qDmx m c (row t) (tok t r) n := by
  have h := rd1 m c t (hp := hp)
  have h' := p13 m c t
  pointwise [k0_pay14, k0_pay11, h, h']
end saved

/-! ### The gated half -/

theorem p68 : k0_pay68 (iblk m c 3 t) (ix2 r k) = aY m c (ix3 (row t) (tok t r) k) := by
  pointwise [k0_pay68, rd3]

/-- The two decimals that the kernel folds into single words. -/
theorem named_a : Named.named (F := Ideal) Cert.MixOutIdeal.κ "gelu_a" (φ := .f32) 0x3D372713#32 = ((8943 / 200000 : ℝ) : EReal) := rfl
theorem named_3a : Named.named (F := Ideal) Cert.MixOutIdeal.κ "gelu_3a" (φ := .f32) 0x3E095D4F#32 = ((26829 / 200000 : ℝ) : EReal) := rfl

theorem f32_8943 : Ideal.ofBits .f32 0x460BBC00#32 = ((8943 : ℝ) : EReal) := by
  simp [Ideal.ofBits, Ideal.ieee, -EReal.coe_mul]; norm_num
theorem f32_200000 : Ideal.ofBits .f32 0x48435000#32 = ((200000 : ℝ) : EReal) := by
  simp [Ideal.ofBits, Ideal.ieee, -EReal.coe_mul]; norm_num
theorem f32_half : Ideal.ofBits .f32 0x3F000000#32 = ((1 / 2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_c : Real' (Ideal.ofBits .f32 0x3F4C422A#32) := by
  refine ⟨(0x4C422A + 2 ^ 23) * 2 ^ (-24 : ℤ), ?_⟩
  simp [Ideal.ofBits, Ideal.ieee, -EReal.coe_mul]; norm_num

/-- The gelu's argument, from either side. -/
theorem arg_eq {y : EReal} (hy : Real' y) : y + ((8943 / 200000 : ℝ) : EReal) * y * y * y
    = y + Ideal.div (Ideal.ofBits .f32 0x460BBC00#32 * (y * y * y)) (Ideal.ofBits .f32 0x48435000#32) := by
  obtain ⟨x, rfl⟩ := hy
  rw [f32_8943, f32_200000]
  simp only [← EReal.coe_mul, ← EReal.coe_add, Ideal.div_coe (by norm_num : (200000 : ℝ) ≠ 0)]
  exact congrArg _ (by ring)

theorem p70 : k0_pay70 (iblk m c 3 t) (ix2 r k) = ((8943 / 200000 : ℝ) : EReal) * aY m c (ix3 (row t) (tok t r) k)
    * aY m c (ix3 (row t) (tok t r) k) * aY m c (ix3 (row t) (tok t r) k) := by
  pointwise [k0_pay70, p68, named_a]

/-- The gated unit's product, from the kernel's pieces. -/
abbrev b72 := k0_pay72 (b15 m c t) (k0_pay68 (iblk m c 3 t)) (k0_pay69 (iblk m c 3 t)) (k0_pay70 (iblk m c 3 t)) (iblk m c 7 t) (iblk m c 8 t)

theorem p72g (A : FVec Ideal S1024x1024 .f32) (B C D : FVec Ideal S1024x512 .f32) (w : Vec Ideal S512x1024 .bf16) (b : Vec Ideal S1x1024 .f32)
    (G : Fin 1024 → Fin 1024 → EReal) (hG : ∀ r n, ∑ x, k0_pay71 B C D (ix2 r x) * w (ix2 x n) + b (ix2 0 n) = G r n) :
    k0_pay72 A B C D w b (ix2 r n) = if h : n.val < 512 then A (ix2 r n) * Ideal.logistic (G r ⟨512 + n.val, by omega⟩)
      else A (ix2 r ⟨n.val - 512, by omega⟩) * G r ⟨n.val - 512, by omega⟩ * Ideal.logistic (G r ⟨512 + (n.val - 512), by omega⟩)
        * (1 - Ideal.logistic (G r ⟨512 + (n.val - 512), by omega⟩)) := by
  pointwise [k0_pay72, hG]

theorem p73g (A : FVec Ideal S1024x1024 .f32) (B C D : FVec Ideal S1024x512 .f32) (w : Vec Ideal S512x1024 .bf16) (b s : Vec Ideal S1x1024 .f32) :
    k0_pay73 A B C D w b s (ix2 0 n) = s (ix2 0 n) + ∑ r : Fin 1024, k0_pay72 A B C D w b (ix2 r n) := by
  pointwise [k0_pay73]

theorem p75g (A : FVec Ideal S1024x1024 .f32) (B C D : FVec Ideal S1024x512 .f32) (w : Vec Ideal S512x1024 .bf16) (b : Vec Ideal S1x1024 .f32) (s : Vec Ideal S512x1024 .f32) :
    k0_pay75 A B C D w b s (ix2 k n) = s (ix2 k n) + ∑ r : Fin 1024, k0_pay71 B C D (ix2 r k) * k0_pay72 A B C D w b (ix2 r n) := by
  pointwise [k0_pay75, k0_pay74]

/-- The last payload: the gelu's cotangent by its derivative. -/
theorem p1g (Y : FVec Ideal S1024x512 .f32) (G : FVec Ideal S1024x1024 .bf16) (w : Vec Ideal S512x1024 .bf16) :
    k0_pay1 Y G w (ix2 r k) = (∑ n : Fin 1024, G (ix2 r n) * w (ix2 k n))
      * (Ideal.ofBits .f32 0x3F000000#32 * (1 + Ideal.tanh (Ideal.ofBits .f32 0x3F4C422A#32 * (Y (ix2 r k) + ((8943 / 200000 : ℝ) : EReal) * Y (ix2 r k) * (Y (ix2 r k) * Y (ix2 r k)))))
        + Ideal.ofBits .f32 0x3F000000#32 * Y (ix2 r k)
          * (1 - Ideal.tanh (Ideal.ofBits .f32 0x3F4C422A#32 * (Y (ix2 r k) + ((8943 / 200000 : ℝ) : EReal) * Y (ix2 r k) * (Y (ix2 r k) * Y (ix2 r k))))
            * Ideal.tanh (Ideal.ofBits .f32 0x3F4C422A#32 * (Y (ix2 r k) + ((8943 / 200000 : ℝ) : EReal) * Y (ix2 r k) * (Y (ix2 r k) * Y (ix2 r k)))))
          * Ideal.ofBits .f32 0x3F4C422A#32 * (1 + ((26829 / 200000 : ℝ) : EReal) * (Y (ix2 r k) * Y (ix2 r k)))) := by
  pointwise [k0_pay1, named_a, named_3a]

/-- The gelu's derivative: the kernel's product is the reference's sum. -/
theorem gelu_grad {y d u : EReal} (hy : Real' y) (hd : Real' d) (hu : Real' u) :
    d * (Ideal.ofBits .f32 0x3F000000#32 * (1 + u) + Ideal.ofBits .f32 0x3F000000#32 * y * (1 - u * u) * Ideal.ofBits .f32 0x3F4C422A#32
        * (1 + ((26829 / 200000 : ℝ) : EReal) * (y * y)))
      = d * (Ideal.ofBits .f32 0x3F000000#32 * (1 + u))
        + Ideal.ofBits .f32 0x3F4C422A#32 * (Ideal.ofBits .f32 0x3F000000#32 * (y * d) * ((1 + u) * (1 - u)))
        + Ideal.ofBits .f32 0x460BBC00#32 * Ideal.div (Ideal.ofBits .f32 0x3F4C422A#32 * (Ideal.ofBits .f32 0x3F000000#32 * (y * d) * ((1 + u) * (1 - u))))
          (Ideal.ofBits .f32 0x48435000#32) * (Ideal.ofBits .f32 0x40400000#32 * (y * y)) := by
  obtain ⟨y, rfl⟩ := hy
  obtain ⟨d, rfl⟩ := hd
  obtain ⟨u, rfl⟩ := hu
  obtain ⟨C, hC⟩ := f32_c
  rw [hC, f32_8943, f32_200000, f32_half, f32_3, show (1 : EReal) = ((1 : ℝ) : EReal) from rfl]
  simp only [← EReal.coe_mul, ← EReal.coe_add, ← EReal.coe_sub, Ideal.div_coe (by norm_num : (200000 : ℝ) ≠ 0)]
  exact congrArg _ (by ring)

theorem tanh_real {a : EReal} (ha : Real' a) : Real' (Ideal.tanh a) := by
  obtain ⟨x, rfl⟩ := ha
  exact ⟨_, Ideal.tanh_coe x⟩

theorem th_real {y : FVec Ideal S4x2048x512 .f32} (hy : ∀ i, Real' (y i)) (b : Fin 4) (t : Fin 2048) (k : Fin 512) : Real' (th y b t k) := by
  have h : Real' (y (ix3 b t k)) := hy _
  refine tanh_real (f32_c.mul ?_)
  rw [← arg_eq h]
  exact h.add (((Real'.coe _).mul h |>.mul h).mul h)

theorem logistic_eq (x : EReal) : Ideal.logistic x = Ideal.div 1 (1 + Ideal.exp (-x)) := rfl
theorem swap_val (a v l : EReal) : a * v * l * (1 - l) = v * a * (l * (1 - l)) := by rw [mul_comm a v, mul_assoc]

section gelu
variable (hy : ∀ i, Real' (aY m c i))
include hy

theorem p71 : k0_pay71 (k0_pay68 (iblk m c 3 t)) (k0_pay69 (iblk m c 3 t)) (k0_pay70 (iblk m c 3 t)) (ix2 r k) = qAct m c (row t) (tok t r) k := by
  have h := p70 m c t
  pointwise [k0_pay71, k0_pay69, p68, h]
  rw [arg_eq (hy _)]
  show _ = qAct m c (row t) (tok t r) k
  unfold qAct act th
  ac_rfl

theorem p72 : b72 m c t (ix2 r n) = qDgl m c (row t) (tok t r) n := by
  have hG : ∀ r n, ∑ x, k0_pay71 (k0_pay68 (iblk m c 3 t)) (k0_pay69 (iblk m c 3 t)) (k0_pay70 (iblk m c 3 t)) (ix2 r x) * iblk m c 7 t (ix2 x n)
      + iblk m c 8 t (ix2 0 n) = gl (aY m c) (aWg m c) (aBg m c) (row t) (tok t r) n := fun r n => by
    rw [rd8]
    exact congrArg (· + _) (Finset.sum_congr rfl fun x _ => congrArg₂ (· * ·) (p71 m c t r x hy) (rd7 m c t x n))
  refine (p72g r n _ _ _ _ _ _ _ hG).trans ?_
  unfold qDgl dgl
  by_cases h : n.val < 512
  · rw [dif_pos h, dif_pos h, p15, logistic_eq]; rfl
  · rw [dif_neg h, dif_neg h, p15, logistic_eq]
    exact swap_val _ _ _

theorem p73 (A) : k0_pay73 (b15 m c t) (k0_pay68 (iblk m c 3 t)) (k0_pay69 (iblk m c 3 t)) (k0_pay70 (iblk m c 3 t)) (iblk m c 7 t) (iblk m c 8 t) A (ix2 0 n)
    = A (ix2 0 n) + ∑ r : Fin 1024, qDgl m c (row t) (tok t r) n :=
  (p73g n _ _ _ _ _ _ _).trans (congrArg _ (Finset.sum_congr rfl fun r _ => p72 m c t r n hy))

theorem p75 (A) : k0_pay75 (b15 m c t) (k0_pay68 (iblk m c 3 t)) (k0_pay69 (iblk m c 3 t)) (k0_pay70 (iblk m c 3 t)) (iblk m c 7 t) (iblk m c 8 t) A (ix2 k n)
    = A (ix2 k n) + ∑ r : Fin 1024, qAct m c (row t) (tok t r) k * qDgl m c (row t) (tok t r) n :=
  (p75g k n _ _ _ _ _ _ _).trans (congrArg _ (Finset.sum_congr rfl fun r _ => congrArg₂ (· * ·) (p71 m c t r k hy) (p72 m c t r n hy)))

theorem p74 : k0_pay74 (b15 m c t) (k0_pay68 (iblk m c 3 t)) (k0_pay69 (iblk m c 3 t)) (k0_pay70 (iblk m c 3 t)) (iblk m c 7 t) (iblk m c 8 t) (ix2 r n)
    = qDgl m c (row t) (tok t r) n := by
  refine Eq.trans ?_ (p72 m c t r n hy)
  pointwise [k0_pay74]

theorem p1 (hda : ∀ b t k, Real' (qDa m c b t k)) :
    k0_pay1 (k0_pay68 (iblk m c 3 t)) (k0_pay74 (b15 m c t) (k0_pay68 (iblk m c 3 t)) (k0_pay69 (iblk m c 3 t)) (k0_pay70 (iblk m c 3 t)) (iblk m c 7 t) (iblk m c 8 t))
      (iblk m c 7 t) (ix2 r k) = qDy m c (row t) (tok t r) k := by
  have hs : ∑ n : Fin 1024, k0_pay74 (b15 m c t) (k0_pay68 (iblk m c 3 t)) (k0_pay69 (iblk m c 3 t)) (k0_pay70 (iblk m c 3 t)) (iblk m c 7 t) (iblk m c 8 t) (ix2 r n)
      * iblk m c 7 t (ix2 k n) = qDa m c (row t) (tok t r) k :=
    Finset.sum_congr rfl fun n _ => congrArg₂ (· * ·) (p74 m c t r n hy) (rd7 m c t k n)
  have hq : Real' (aY m c (ix3 (row t) (tok t r) k)) := hy _
  refine (p1g r k _ _ _).trans ?_
  rw [hs, p68, ← mul_assoc (((8943 / 200000 : ℝ) : EReal) * aY m c (ix3 (row t) (tok t r) k)), arg_eq hq]
  exact gelu_grad hq (hda _ _ _) (th_real hy _ _ _)
end gelu

end Cert.MixOutMath

end
-- ==== Proof.MixOutMath.Pool.lean ====
/- The pooled half's payloads at one grid point, in the reference's quantities. -/
module

public import proofs.«01_k».proof.Proof.MixOutMath.Pay

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

/-! ### A window's sum by its offsets -/

theorem back_sum {n : ℕ} (f : Fin n → EReal) (t : Fin n) (w : ℕ) :
    ∑ d : Fin w, (if h : d.val ≤ t.val then f ⟨t.val - d.val, by omega⟩ else 0) = ∑ s : Fin n, if s.val ≤ t.val ∧ t.val < s.val + w then f s else 0 := by
  refine Finset.sum_bij_ne_zero (fun d _ _ => ⟨t.val - d.val, by omega⟩) (fun _ _ _ => Finset.mem_univ _) ?_ ?_ ?_
  · intro d _ hd d' _ hd' e
    have e := congrArg Fin.val e
    have hd : d.val ≤ t.val := by by_contra hn; exact hd (dif_neg hn)
    have hd' : d'.val ≤ t.val := by by_contra hn; exact hd' (dif_neg hn)
    exact Fin.ext (by simp only at e; omega)
  · intro s _ hs
    have hs' : s.val ≤ t.val ∧ t.val < s.val + w := by by_contra hn; exact hs (if_neg hn)
    have e : (⟨t.val - (t.val - s.val), by omega⟩ : Fin n) = s := Fin.ext (by simp only; omega)
    refine ⟨⟨t.val - s.val, by omega⟩, Finset.mem_univ _, ?_, e⟩
    rw [dif_pos (by simp only; omega), e]
    rwa [if_pos hs'] at hs
  · intro d _ hd
    have h : d.val ≤ t.val := by by_contra hn; exact hd (dif_neg hn)
    rw [dif_pos h, if_pos (by simp only; omega)]

theorem ahead_sum {n : ℕ} (f : Fin n → EReal) (t : Fin n) (w : ℕ) :
    ∑ d : Fin w, (if h : t.val + d.val < n then f ⟨t.val + d.val, h⟩ else 0) = ∑ s : Fin n, if t.val ≤ s.val ∧ s.val < t.val + w then f s else 0 := by
  refine Finset.sum_bij_ne_zero (fun d _ hd => ⟨t.val + d.val, by by_contra hn; exact hd (dif_neg hn)⟩) (fun _ _ _ => Finset.mem_univ _) ?_ ?_ ?_
  · intro d _ hd d' _ hd' e
    have e := congrArg Fin.val e
    exact Fin.ext (by simp only at e; omega)
  · intro s _ hs
    have hs' : t.val ≤ s.val ∧ s.val < t.val + w := by by_contra hn; exact hs (if_neg hn)
    have e : t.val + (s.val - t.val) = s.val := by omega
    refine ⟨⟨s.val - t.val, by omega⟩, Finset.mem_univ _, ?_, Fin.ext e⟩
    rw [dif_pos (by simp only; omega)]
    rw [if_pos hs'] at hs
    simpa only [e] using hs
  · intro d _ hd
    have h : t.val + d.val < n := by by_contra hn; exact hd (dif_neg hn)
    rw [dif_pos h, if_pos (by simp only; omega)]

variable (m : (ℓ : Loc nD τ sig) → Buf (Elt Ideal) ℓ) (c : Dev nD)
variable (t : Fin cfg0.N) (r : Fin 1024) (k : Fin 512) (n : Fin 1024) (g : Fin 4) (i j : Fin 128)

/-! ### The tokens' windows -/

/-- The tile's number as the kernel counts it. -/
abbrev tile : BitVec 32 := Scalar.subi 1#32 (BitVec.ofNat 32 (grid0.coords t 1).val)

theorem tile_eq : ∀ t : Fin cfg0.N, tile t = BitVec.ofNat 32 (1 - t.val % 2) :=
  (by decide +kernel : ∀ t : Fin grid0.N, Scalar.subi 1#32 (BitVec.ofNat 32 (grid0.coords t 1).val) = BitVec.ofNat 32 (1 - t.val % 2))

theorem p19 : k0_pay19 (F := Ideal) (tile t) (ix2 r 0) = pos (tok t r) := by
  rw [tile_eq]
  pointwise [k0_pay19]
  have e : (IntOp.addi (IntOp.addi (Scalar.muli (BitVec.ofNat 32 (1 - t.val % 2)) 1024#32) (BitVec.ofNat 32 r.val)) 1#32).toInt = (((tok t r).val + 1 : ℕ) : ℤ) := by
    rw [show IntOp.addi (IntOp.addi (Scalar.muli (BitVec.ofNat 32 (1 - t.val % 2)) 1024#32) (BitVec.ofNat 32 r.val)) 1#32 = BitVec.ofNat 32 ((tok t r).val + 1) from by
      unfold IntOp.addi Scalar.muli IntOp.muli
      simp only [tok, BitVec.ofNat_add, BitVec.ofNat_mul]]
    have h := (tok t r).isLt
    rw [BitVec.toInt_eq_toNat_of_lt (by rw [BitVec.toNat_ofNat]; omega), BitVec.toNat_ofNat]; omega
  show (((IntOp.addi (IntOp.addi (Scalar.muli (BitVec.ofNat 32 (1 - t.val % 2)) 1024#32) (BitVec.ofNat 32 r.val)) 1#32).toInt : ℝ) : EReal) = _
  rw [e]; unfold pos; norm_cast

/-- What the first scratch holds: the tokens before the tile, and the tile's own. -/
def ext (i : ℕ) (k : Fin 512) : EReal :=
  if h : 16 ≤ (1 - t.val % 2) * 1024 + i ∧ (1 - t.val % 2) * 1024 + i - 16 < 2048 then aP m c (ix3 (row t) ⟨(1 - t.val % 2) * 1024 + i - 16, h.2⟩ k) else 0

theorem p17 (d : Fin 16) : k0_pay17 (tile t) (iblk m c 5 t) (ix2 d k) = ext m c t d k := by
  rw [tile_eq]
  pointwise [k0_pay17, rd5]
  unfold ext
  rcases Nat.mod_two_eq_zero_or_one t.val with h | h
  · have e : (Scalar.extui (Scalar.cmpi CmpIPredicate.sgt (BitVec.ofNat 32 (1 - t.val % 2)) 0#32) : BitVec 32).toInt = 1 := by rw [h]; decide
    rw [dif_pos (by omega), e]
    simp only [Int.cast_one, EReal.coe_one, mul_one]
    exact congrArg (fun s => aP m c (ix3 (row t) s k)) (Fin.ext (by simp only; omega))
  · have e : (Scalar.extui (Scalar.cmpi CmpIPredicate.sgt (BitVec.ofNat 32 (1 - t.val % 2)) 0#32) : BitVec 32).toInt = 0 := by rw [h]; decide
    rw [dif_neg (by omega), e]
    simp only [Int.cast_zero, EReal.coe_zero, mul_zero]

theorem p18 : k0_pay18 (iblk m c 4 t) (ix2 r k) = ext m c t (16 + r.val) k := by
  pointwise [k0_pay18, k0_pay16, rd4]
  unfold ext
  rw [dif_pos (by omega)]
  exact congrArg (fun s => aP m c (ix3 (row t) s k)) (Fin.ext (by simp only [tok]; omega))

/-- A row of the scratch and the rows before it. -/
def back (w i : ℕ) (k : Fin 512) : EReal := ∑ d : Fin w, ext m c t (i - d.val) k

theorem back_one (i : ℕ) : back m c t 1 i k = ext m c t i k := by unfold back; rw [Fin.sum_univ_one]; rfl

theorem back_double (w i : ℕ) : back m c t (w + w) i k = back m c t w i k + back m c t w (i - w) k := by
  unfold back
  rw [Fin.sum_univ_add]
  refine congrArg₂ (· + ·) rfl (Finset.sum_congr rfl fun d _ => ?_)
  rw [Fin.val_natAdd, Nat.sub_sub]

theorem back_win (w : ℕ) (hw : w ≤ 16) : back m c t w (16 + r.val) k = win (aP m c) w (row t) (tok t r) k := by
  unfold back win
  rw [← back_sum (fun s => aP m c (ix3 (row t) s k)) (tok t r) w]
  refine Finset.sum_congr rfl fun d _ => ?_
  have hd := d.isLt
  unfold ext
  by_cases h : d.val ≤ (tok t r).val
  · have h' : d.val ≤ (1 - t.val % 2) * 1024 + r.val := h
    rw [dif_pos h, dif_pos (by omega)]
    exact congrArg (fun s => aP m c (ix3 (row t) s k)) (Fin.ext (by simp only [tok]; omega))
  · have h' : ¬ d.val ≤ (1 - t.val % 2) * 1024 + r.val := h
    rw [dif_neg h, dif_neg (by omega)]

section reads
variable (A : FVec Ideal S1024x512 .f32) (P : FVec Ideal S1024x1 .f32) (B : FVec Ideal S1040x512 .f32) (D : FVec Ideal S1040x256 .f32)

theorem r20 (S : Vec Ideal S1040x512 .f32) (i : Fin 1040) (hi : 1 ≤ i.val) :
    k0_pay20 S (ix2 i k) = S (ix2 i k) + S (ix2 ⟨i.val - 1, by omega⟩ k) := by
  pointwise [k0_pay20]
  exact congrArg (fun s => _ + S (ix2 s k)) (Fin.ext (by simp only; omega))
theorem r23 (i : Fin 1040) (hi : 2 ≤ i.val) (k : Fin 384) :
    k0_pay23 B (ix2 i k) = B (ix2 i ⟨128 + k.val, by omega⟩) + B (ix2 ⟨i.val - 2, by omega⟩ ⟨128 + k.val, by omega⟩) := by
  pointwise [k0_pay23]
  exact congrArg (fun s => _ + B (ix2 s _)) (Fin.ext (by simp only; omega))
theorem r26 (i : Fin 1040) (hi : 4 ≤ i.val) (k : Fin 256) :
    k0_pay26 B (ix2 i k) = k0_pay23 B (ix2 i ⟨128 + k.val, by omega⟩) + k0_pay23 B (ix2 ⟨i.val - 4, by omega⟩ ⟨128 + k.val, by omega⟩) := by
  pointwise [k0_pay26]
  exact congrArg (fun s => _ + k0_pay23 B (ix2 s _)) (Fin.ext (by simp only; omega))
theorem r21 : k0_pay21 A P B (ix2 r j) = Ideal.div (B (ix2 ⟨16 + r.val, by omega⟩ ⟨j.val, by omega⟩)) (min (P (ix2 r 0)) (Ideal.ofBits .f32 0x40000000#32))
    - A (ix2 r ⟨j.val, by omega⟩) := by
  pointwise [k0_pay21]
theorem r24 : k0_pay24 A P B (ix2 r j) = Ideal.div (k0_pay23 B (ix2 ⟨16 + r.val, by omega⟩ ⟨j.val, by omega⟩)) (min (P (ix2 r 0)) (Ideal.ofBits .f32 0x40800000#32))
    - A (ix2 r ⟨128 + j.val, by omega⟩) := by
  pointwise [k0_pay24]
theorem r27 : k0_pay27 A P B (ix2 r j) = Ideal.div (k0_pay26 B (ix2 ⟨16 + r.val, by omega⟩ ⟨j.val, by omega⟩)) (min (P (ix2 r 0)) (Ideal.ofBits .f32 0x41000000#32))
    - A (ix2 r ⟨256 + j.val, by omega⟩) := by
  pointwise [k0_pay27]
theorem r29 : k0_pay29 A P D (ix2 r j) = Ideal.div (D (ix2 ⟨16 + r.val, by omega⟩ ⟨128 + j.val, by omega⟩) + D (ix2 ⟨16 + r.val - 8, by omega⟩ ⟨128 + j.val, by omega⟩))
    (min (P (ix2 r 0)) (Ideal.ofBits .f32 0x41800000#32)) - A (ix2 r ⟨384 + j.val, by omega⟩) := by
  pointwise [k0_pay29]
  exact congrArg (fun s => Ideal.div (_ + D (ix2 s _)) _ - _) (Fin.ext (by simp only; omega))
end reads

theorem own_token : k0_pay16 (iblk m c 4 t) (ix2 r k) = aP m c (ix3 (row t) (tok t r) k) := by pointwise [k0_pay16, rd4]

variable (S : Vec Ideal S1040x512 .f32) (hS : ∀ i : Fin 1040, ∀ k, S (ix2 i k) = ext m c t i k)
include hS

theorem w20 (i : Fin 1040) (hi : 1 ≤ i.val) : k0_pay20 S (ix2 i k) = back m c t 2 i k := by
  rw [r20 k S i hi, hS, hS, back_double m c t k 1, back_one, back_one]
theorem w23 (i : Fin 1040) (hi : 3 ≤ i.val) (k : Fin 384) : k0_pay23 (k0_pay20 S) (ix2 i k) = back m c t 4 i ⟨128 + k.val, by omega⟩ := by
  rw [r23 _ i (by omega), w20 m c t _ S hS _ (by omega), w20 m c t _ S hS _ (by simp only; omega)]
  exact (back_double m c t _ 2 _).symm
theorem w26 (i : Fin 1040) (hi : 7 ≤ i.val) (k : Fin 256) : k0_pay26 (k0_pay20 S) (ix2 i k) = back m c t 8 i ⟨256 + k.val, by omega⟩ := by
  rw [r26 _ i (by omega), w23 m c t S hS _ (by omega), w23 m c t S hS _ (by simp only; omega)]
  have e : (⟨128 + (128 + k.val), by omega⟩ : Fin 512) = ⟨256 + k.val, by omega⟩ := Fin.ext (by simp only; omega)
  exact (congrArg (fun k => back m c t 4 i k + back m c t 4 (i - 4) k) e).trans (back_double m c t _ 4 _).symm

/-- The deviations at a point, group by group. -/
abbrev z0 := k0_pay21 (k0_pay16 (iblk m c 4 t)) (k0_pay19 (F := Ideal) (tile t)) (k0_pay20 S)
abbrev z1 := k0_pay24 (k0_pay16 (iblk m c 4 t)) (k0_pay19 (F := Ideal) (tile t)) (k0_pay20 S)
abbrev z2 := k0_pay27 (k0_pay16 (iblk m c 4 t)) (k0_pay19 (F := Ideal) (tile t)) (k0_pay20 S)
abbrev z3 := k0_pay29 (k0_pay16 (iblk m c 4 t)) (k0_pay19 (F := Ideal) (tile t)) (k0_pay26 (k0_pay20 S))

theorem pz0 : z0 m c t S (ix2 r j) = qDev m c (row t) (tok t r) 0 j := by
  rw [z0, r21, w20 m c t _ S hS _ (by simp only; omega), own_token, p19, back_win m c t r _ 2 (by omega)]
  rw [show (⟨j.val, by omega⟩ : Fin 512) = col 0 j from Fin.ext (by simp [col])]; rfl
theorem pz1 : z1 m c t S (ix2 r j) = qDev m c (row t) (tok t r) 1 j := by
  rw [z1, r24, w23 m c t S hS _ (by simp only; omega), own_token, p19, back_win m c t r _ 4 (by omega)]
  rfl
theorem pz2 : z2 m c t S (ix2 r j) = qDev m c (row t) (tok t r) 2 j := by
  rw [z2, r27, w26 m c t S hS _ (by simp only; omega), own_token, p19, back_win m c t r _ 8 (by omega)]
  rfl
theorem pz3 : z3 m c t S (ix2 r j) = qDev m c (row t) (tok t r) 3 j := by
  rw [z3, r29, w26 m c t S hS _ (by simp only; omega), w26 m c t S hS _ (by simp only; omega), own_token, p19]
  have e : (⟨256 + (128 + j.val), by omega⟩ : Fin 512) = col 3 j := Fin.ext (by simp [col]; omega)
  have h := back_win m c t r (col 3 j) 16 (by omega)
  rw [back_double m c t _ 8] at h
  simp only [e, show (⟨384 + j.val, by omega⟩ : Fin 512) = col 3 j from rfl]
  rw [h]; rfl

omit hS

/-! ### The grouped map and its gradients -/

section reads
variable (A : FVec Ideal S1024x1024 .f32) (Z L : FVec Ideal S1024x128 .f32) (P : FVec Ideal S1024x1 .f32) (w : Vec Ideal S1x128x128 .bf16) (b s : Vec Ideal S1x128 .f32)
  (M : Vec Ideal S1x128x128 .f32) (A5 : FVec Ideal S1024x512 .f32) (B : FVec Ideal S1040x512 .f32) (D : FVec Ideal S1040x256 .f32)

/-- The grouped map of given deviations. -/
def mapped (Z : FVec Ideal S1024x128 .f32) (w : Vec Ideal S1x128x128 .bf16) (b : Vec Ideal S1x128 .f32) (r : Fin 1024) (j : Fin 128) : EReal :=
  ∑ i : Fin 128, Z (ix2 r i) * w (ix3 0 i j) + b (ix2 0 j)

theorem r22 : k0_pay22 A5 P B w b (ix2 r j) = mapped (k0_pay21 A5 P B) w b r j := by pointwise [k0_pay22, mapped]
theorem r25 : k0_pay25 A5 P B w b (ix2 r j) = mapped (k0_pay24 A5 P B) w b r j := by pointwise [k0_pay25, mapped]
theorem r28 : k0_pay28 Z w b (ix2 r j) = mapped Z w b r j := by pointwise [k0_pay28, mapped]
theorem r30 : k0_pay30 A5 P D w b (ix2 r j) = mapped (k0_pay29 A5 P D) w b r j := by pointwise [k0_pay30, mapped]

theorem r31 : k0_pay31 A (ix2 r j) = A (ix2 r ⟨512 + j.val, by omega⟩) := by pointwise [k0_pay31]
theorem r39 : k0_pay39 A (ix2 r j) = A (ix2 r ⟨640 + j.val, by omega⟩) := by pointwise [k0_pay39]
theorem r47 : k0_pay47 A (ix2 r j) = A (ix2 r ⟨768 + j.val, by omega⟩) := by pointwise [k0_pay47]
theorem r57 : k0_pay57 A (ix2 r j) = A (ix2 r ⟨896 + j.val, by omega⟩) := by pointwise [k0_pay57]

theorem r32 : k0_pay32 A Z s (ix2 0 j) = s (ix2 0 j) + ∑ r : Fin 1024, k0_pay31 A (ix2 r j) * Z (ix2 r j) := by pointwise [k0_pay32]
theorem r40 : k0_pay40 A Z s (ix2 0 j) = s (ix2 0 j) + ∑ r : Fin 1024, k0_pay39 A (ix2 r j) * Z (ix2 r j) := by pointwise [k0_pay40]
theorem r50 : k0_pay50 (k0_pay48 s) (k0_pay49 A Z) (ix2 0 j) = s (ix2 0 j) + ∑ r : Fin 1024, k0_pay47 A (ix2 r j) * Z (ix2 r j) := by
  pointwise [k0_pay50, k0_pay48, k0_pay49]
theorem r58 : k0_pay58 Z L s (ix2 0 j) = s (ix2 0 j) + ∑ r : Fin 1024, L (ix2 r j) * Z (ix2 r j) := by pointwise [k0_pay58]

theorem r33 : k0_pay33 A b (ix2 r j) = k0_pay31 A (ix2 r j) * b (ix2 0 j) := by pointwise [k0_pay33]
theorem r41 : k0_pay41 L b (ix2 r j) = L (ix2 r j) * b (ix2 0 j) := by pointwise [k0_pay41]
theorem r51 : k0_pay51 L b (ix2 r j) = L (ix2 r j) * b (ix2 0 j) := by pointwise [k0_pay51]
theorem r59 : k0_pay59 L b (ix2 r j) = L (ix2 r j) * b (ix2 0 j) := by pointwise [k0_pay59]

theorem r34 : k0_pay34 L s (ix2 0 j) = s (ix2 0 j) + ∑ r : Fin 1024, L (ix2 r j) := by pointwise [k0_pay34]
theorem r42 : k0_pay42 L b s (ix2 0 j) = s (ix2 0 j) + ∑ r : Fin 1024, k0_pay41 L b (ix2 r j) := by pointwise [k0_pay42]
theorem r52 : k0_pay52 L b s (ix2 0 j) = s (ix2 0 j) + ∑ r : Fin 1024, k0_pay51 L b (ix2 r j) := by pointwise [k0_pay52]
theorem r60 : k0_pay60 L b s (ix2 0 j) = s (ix2 0 j) + ∑ r : Fin 1024, k0_pay59 L b (ix2 r j) := by pointwise [k0_pay60]

theorem r36 : k0_pay36 Z L M (ix3 0 i j) = M (ix3 0 i j) + ∑ r : Fin 1024, Z (ix2 r i) * L (ix2 r j) := by pointwise [k0_pay36, k0_pay35]
theorem r44 : k0_pay44 Z L b M (ix3 0 i j) = M (ix3 0 i j) + ∑ r : Fin 1024, Z (ix2 r i) * k0_pay41 L b (ix2 r j) := by pointwise [k0_pay44, k0_pay43]
theorem r54 : k0_pay54 Z L b M (ix3 0 i j) = M (ix3 0 i j) + ∑ r : Fin 1024, Z (ix2 r i) * k0_pay51 L b (ix2 r j) := by pointwise [k0_pay54, k0_pay53]
theorem r62 : k0_pay62 Z L b M (ix3 0 i j) = M (ix3 0 i j) + ∑ r : Fin 1024, Z (ix2 r i) * k0_pay59 L b (ix2 r j) := by pointwise [k0_pay62, k0_pay61]

theorem r37 : k0_pay37 L w (ix2 r i) = ∑ j : Fin 128, L (ix2 r j) * w (ix3 0 i j) := by pointwise [k0_pay37, k0_pay35]
theorem r45 : k0_pay45 L b w (ix2 r i) = ∑ j : Fin 128, k0_pay41 L b (ix2 r j) * w (ix3 0 i j) := by pointwise [k0_pay45, k0_pay43]
theorem r55 : k0_pay55 L b w (ix2 r i) = ∑ j : Fin 128, k0_pay51 L b (ix2 r j) * w (ix3 0 i j) := by pointwise [k0_pay55, k0_pay53]
theorem r63 : k0_pay63 L b w (ix2 r i) = ∑ j : Fin 128, k0_pay59 L b (ix2 r j) * w (ix3 0 i j) := by pointwise [k0_pay63, k0_pay61]

theorem r38 : k0_pay38 P L w (ix2 r i) = Ideal.div (k0_pay37 L w (ix2 r i)) (min (P (ix2 r 0)) (Ideal.ofBits .f32 0x40000000#32)) := by pointwise [k0_pay38]
theorem r46 : k0_pay46 P L b w (ix2 r i) = Ideal.div (k0_pay45 L b w (ix2 r i)) (min (P (ix2 r 0)) (Ideal.ofBits .f32 0x40800000#32)) := by pointwise [k0_pay46]
theorem r56 : k0_pay56 P L b w (ix2 r i) = Ideal.div (k0_pay55 L b w (ix2 r i)) (min (P (ix2 r 0)) (Ideal.ofBits .f32 0x41000000#32)) := by pointwise [k0_pay56]
theorem r65 : k0_pay65 (k0_pay64 P L b w) (ix2 r i) = Ideal.div (k0_pay63 L b w (ix2 r i)) (min (P (ix2 r 0)) (Ideal.ofBits .f32 0x41800000#32)) := by
  pointwise [k0_pay65, k0_pay64]
end reads

end Cert.MixOutMath

end
-- ==== Proof.MixOutMath.Carry.lean ====
/- The grouped map and its gradients at a point, and the scratch that carries the first rows of the later tile's quotients to the earlier tile. -/
module

public import proofs.«01_k».proof.Proof.MixOutMath.Pool
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

variable (m : (ℓ : Loc nD τ sig) → Buf (Elt Ideal) ℓ) (c : Dev nD)
variable (t : Fin cfg0.N) (r : Fin 1024) (k : Fin 512) (n : Fin 1024) (g : Fin 4) (i j : Fin 128)

/-! ### The groups' weights, biases and scales -/

abbrev w0 : Vec Ideal S1x128x128 .bf16 := View.ld (iblk m c 9 t) (Rect.unit ![0, 0, 0] ![1, 128, 128] inb_S4x128x128_S1x128x128_0_0_0)
abbrev b0 : Vec Ideal S1x128 .f32 := View.ld (iblk m c 10 t) (Rect.unit ![0, 0] ![1, 128] inb_S1x512_S1x128_0_0)
abbrev s0 : Vec Ideal S1x128 .f32 := View.ld (iblk m c 11 t) (Rect.unit ![0, 0] ![1, 128] inb_S1x512_S1x128_0_0)
abbrev w1 : Vec Ideal S1x128x128 .bf16 := View.ld (iblk m c 9 t) (Rect.unit ![1, 0, 0] ![1, 128, 128] inb_S4x128x128_S1x128x128_1_0_0)
abbrev b1 : Vec Ideal S1x128 .f32 := View.ld (iblk m c 10 t) (Rect.unit ![0, 128] ![1, 128] inb_S1x512_S1x128_0_128)
abbrev s1 : Vec Ideal S1x128 .f32 := View.ld (iblk m c 11 t) (Rect.unit ![0, 128] ![1, 128] inb_S1x512_S1x128_0_128)
abbrev w2 : Vec Ideal S1x128x128 .bf16 := View.ld (iblk m c 9 t) (Rect.unit ![2, 0, 0] ![1, 128, 128] inb_S4x128x128_S1x128x128_2_0_0)
abbrev b2 : Vec Ideal S1x128 .f32 := View.ld (iblk m c 10 t) (Rect.unit ![0, 256] ![1, 128] inb_S1x512_S1x128_0_256)
abbrev s2 : Vec Ideal S1x128 .f32 := View.ld (iblk m c 11 t) (Rect.unit ![0, 256] ![1, 128] inb_S1x512_S1x128_0_256)
abbrev w3 : Vec Ideal S1x128x128 .bf16 := View.ld (iblk m c 9 t) (Rect.unit ![3, 0, 0] ![1, 128, 128] inb_S4x128x128_S1x128x128_3_0_0)
abbrev b3 : Vec Ideal S1x128 .f32 := View.ld (iblk m c 10 t) (Rect.unit ![0, 384] ![1, 128] inb_S1x512_S1x128_0_384)
abbrev s3 : Vec Ideal S1x128 .f32 := View.ld (iblk m c 11 t) (Rect.unit ![0, 384] ![1, 128] inb_S1x512_S1x128_0_384)

theorem ld_mat (X : Vec Ideal S4x128x128 .bf16) (inb) : View.ld X (Rect.unit ![g.val, 0, 0] ![1, 128, 128] inb) (ix3 0 i j) = X (ix3 g i j) :=
  congrArg X (show (Rect.unit (s := S4x128x128) ![g.val, 0, 0] ![1, 128, 128] inb).emb (ix3 0 i j) = ix3 g i j by blk_ext)
theorem ld_lane (X : Vec Ideal S1x512 .f32) (o : ℕ) (inb) (h : o = g.val * 128) : View.ld X (Rect.unit ![0, o] ![1, 128] inb) (ix2 0 j) = X (ix2 0 (col g j)) := by
  subst h; exact congrArg X (show (Rect.unit (s := S1x512) ![0, g.val * 128] ![1, 128] inb).emb (ix2 0 j) = ix2 0 (col g j) by blk_ext [col])

theorem hw0 : w0 m c t (ix3 0 i j) = aWp m c (ix4 0 0 i j) := (ld_mat 0 i j _ _).trans (rd9 ..)
theorem hb0 : b0 m c t (ix2 0 j) = aBp m c (ix3 0 0 j) := (ld_lane 0 j _ _ _ rfl).trans (rd10 ..)
theorem hs0 : s0 m c t (ix2 0 j) = aPs m c (ix2 0 (col 0 j)) := (ld_lane 0 j _ _ _ rfl).trans (rd11 ..)
theorem hw1 : w1 m c t (ix3 0 i j) = aWp m c (ix4 0 1 i j) := (ld_mat 1 i j _ _).trans (rd9 ..)
theorem hb1 : b1 m c t (ix2 0 j) = aBp m c (ix3 0 1 j) := (ld_lane 1 j _ _ _ rfl).trans (rd10 ..)
theorem hs1 : s1 m c t (ix2 0 j) = aPs m c (ix2 0 (col 1 j)) := (ld_lane 1 j _ _ _ rfl).trans (rd11 ..)
theorem hw2 : w2 m c t (ix3 0 i j) = aWp m c (ix4 0 2 i j) := (ld_mat 2 i j _ _).trans (rd9 ..)
theorem hb2 : b2 m c t (ix2 0 j) = aBp m c (ix3 0 2 j) := (ld_lane 2 j _ _ _ rfl).trans (rd10 ..)
theorem hs2 : s2 m c t (ix2 0 j) = aPs m c (ix2 0 (col 2 j)) := (ld_lane 2 j _ _ _ rfl).trans (rd11 ..)
theorem hw3 : w3 m c t (ix3 0 i j) = aWp m c (ix4 0 3 i j) := (ld_mat 3 i j _ _).trans (rd9 ..)
theorem hb3 : b3 m c t (ix2 0 j) = aBp m c (ix3 0 3 j) := (ld_lane 3 j _ _ _ rfl).trans (rd10 ..)
theorem hs3 : s3 m c t (ix2 0 j) = aPs m c (ix2 0 (col 3 j)) := (ld_lane 3 j _ _ _ rfl).trans (rd11 ..)

/-! ### The deviations' scratch -/

/-- The first scratch as the windows' sums read it. -/
abbrev E0 : Vec Ideal S1040x512 .f32 := View.readCov (Val := Elt Ideal) (s := S1040x512) (e := .f32) (View.whole cc0_scratch0)
  [⟨Rect.unit ![16, 0] ![1024, 512] inb_S1040x512_S1024x512_16_0, k0_pay18 (iblk m c 4 t)⟩,
    ⟨Rect.unit ![0, 0] ![16, 512] inb_S1040x512_S16x512_0_0, k0_pay17 (tile t) (iblk m c 5 t)⟩]
  (Rect.unit (s := S1040x512) ![0, 0] ![1040, 512] inb_S1040x512_S1040x512_0_0).toLoadRect

theorem E0_eq (i : Fin 1040) (k : Fin 512) : E0 m c t (ix2 i k) = ext m c t i k := by
  have e : (Rect.unit (s := S1040x512) ![0, 0] ![1040, 512] inb_S1040x512_S1040x512_0_0).toLoadRect.idx (ix2 i k) = ix2 i k := by
    show (Rect.unit (s := S1040x512) ![0, 0] ![1040, 512] inb_S1040x512_S1040x512_0_0).emb (ix2 i k) = _
    blk_ext
  unfold E0 View.readCov
  rw [View.readAt_apply, e]
  by_cases h : i.val < 16
  · have e' : (ix2 i k : S1040x512.Idx) = (Rect.unit (s := S1040x512) ![0, 0] ![16, 512] inb_S1040x512_S16x512_0_0).emb (ix2 ⟨i.val, h⟩ k) := by blk_ext
    rw [View.read_writes_cons_unit _ _ _ _ _ _ rfl, dif_neg (fun hr => by have := (hr 0).1; simp at this; omega), e']
    exact (View.read_writes_cons_emb _ _ _ _ _ _).trans (p17 m c t k ⟨i.val, h⟩)
  · have e' : (ix2 i k : S1040x512.Idx) = (Rect.unit (s := S1040x512) ![16, 0] ![1024, 512] inb_S1040x512_S1024x512_16_0).emb (ix2 ⟨i.val - 16, by omega⟩ k) := by blk_ext
    rw [e']
    refine (View.read_writes_cons_emb _ _ _ _ _ _).trans ((p18 m c t _ k).trans ?_)
    exact congrArg (fun s => ext m c t s k) (by simp only; omega)

/-! ### The map, its cotangent and the steps of its sums -/

/-- The mapped deviations, the cotangents of the scaled map and of the map, group by group. -/
abbrev own := k0_pay16 (iblk m c 4 t)
abbrev seen := k0_pay19 (F := Ideal) (tile t)

abbrev l0 := k0_pay22 (own m c t) (seen t) (k0_pay20 (E0 m c t)) (w0 m c t) (b0 m c t)
abbrev a0 := k0_pay31 (b15 m c t)
abbrev d0 := k0_pay33 (b15 m c t) (s0 m c t)
abbrev l1 := k0_pay25 (own m c t) (seen t) (k0_pay20 (E0 m c t)) (w1 m c t) (b1 m c t)
abbrev a1 := k0_pay39 (b15 m c t)
abbrev d1 := k0_pay41 (a1 m c t) (s1 m c t)
abbrev l2 := k0_pay28 (z2 m c t (E0 m c t)) (w2 m c t) (b2 m c t)
abbrev a2 := k0_pay47 (b15 m c t)
abbrev d2 := k0_pay51 (a2 m c t) (s2 m c t)
abbrev l3 := k0_pay30 (own m c t) (seen t) (k0_pay26 (k0_pay20 (E0 m c t))) (w3 m c t) (b3 m c t)
abbrev a3 := k0_pay57 (b15 m c t)
abbrev d3 := k0_pay59 (a3 m c t) (s3 m c t)

theorem pl0 : l0 m c t (ix2 r j) = qZl m c (row t) (tok t r) 0 j := by
  refine (r22 ..).trans ?_
  unfold mapped
  rw [hb0]
  refine congrArg (· + _) (Finset.sum_congr rfl fun i _ => ?_)
  exact (congrArg₂ (· * ·) (pz0 m c t r i _ (E0_eq m c t)) (hw0 m c t i j)).trans (mul_comm _ _)
theorem pa0 : a0 m c t (ix2 r j) = qDmc m c (row t) (tok t r) (hi (col 0 j)) := by
  refine (r31 ..).trans ((congrArg (fun k => b15 m c t (ix2 r k)) (Fin.ext ?_)).trans (p15 m c t r (hi (col 0 j))))
  simp [hi, col]
theorem pd0 : d0 m c t (ix2 r j) = qDzl m c (row t) (tok t r) 0 j := by
  refine (r33 ..).trans ?_
  exact congrArg₂ (· * ·) (pa0 m c t r j) (hs0 m c t j)
theorem pl1 : l1 m c t (ix2 r j) = qZl m c (row t) (tok t r) 1 j := by
  refine (r25 ..).trans ?_
  unfold mapped
  rw [hb1]
  refine congrArg (· + _) (Finset.sum_congr rfl fun i _ => ?_)
  exact (congrArg₂ (· * ·) (pz1 m c t r i _ (E0_eq m c t)) (hw1 m c t i j)).trans (mul_comm _ _)
theorem pa1 : a1 m c t (ix2 r j) = qDmc m c (row t) (tok t r) (hi (col 1 j)) := by
  refine (r39 ..).trans ((congrArg (fun k => b15 m c t (ix2 r k)) (Fin.ext ?_)).trans (p15 m c t r (hi (col 1 j))))
  simp [hi, col]; omega
theorem pd1 : d1 m c t (ix2 r j) = qDzl m c (row t) (tok t r) 1 j := by
  refine (r41 ..).trans ?_
  exact congrArg₂ (· * ·) (pa1 m c t r j) (hs1 m c t j)
theorem pl2 : l2 m c t (ix2 r j) = qZl m c (row t) (tok t r) 2 j := by
  refine (r28 ..).trans ?_
  unfold mapped
  rw [hb2]
  refine congrArg (· + _) (Finset.sum_congr rfl fun i _ => ?_)
  exact (congrArg₂ (· * ·) (pz2 m c t r i _ (E0_eq m c t)) (hw2 m c t i j)).trans (mul_comm _ _)
theorem pa2 : a2 m c t (ix2 r j) = qDmc m c (row t) (tok t r) (hi (col 2 j)) := by
  refine (r47 ..).trans ((congrArg (fun k => b15 m c t (ix2 r k)) (Fin.ext ?_)).trans (p15 m c t r (hi (col 2 j))))
  simp [hi, col]; omega
theorem pd2 : d2 m c t (ix2 r j) = qDzl m c (row t) (tok t r) 2 j := by
  refine (r51 ..).trans ?_
  exact congrArg₂ (· * ·) (pa2 m c t r j) (hs2 m c t j)
theorem pl3 : l3 m c t (ix2 r j) = qZl m c (row t) (tok t r) 3 j := by
  refine (r30 ..).trans ?_
  unfold mapped
  rw [hb3]
  refine congrArg (· + _) (Finset.sum_congr rfl fun i _ => ?_)
  exact (congrArg₂ (· * ·) (pz3 m c t r i _ (E0_eq m c t)) (hw3 m c t i j)).trans (mul_comm _ _)
theorem pa3 : a3 m c t (ix2 r j) = qDmc m c (row t) (tok t r) (hi (col 3 j)) := by
  refine (r57 ..).trans ((congrArg (fun k => b15 m c t (ix2 r k)) (Fin.ext ?_)).trans (p15 m c t r (hi (col 3 j))))
  simp [hi, col]; omega
theorem pd3 : d3 m c t (ix2 r j) = qDzl m c (row t) (tok t r) 3 j := by
  refine (r59 ..).trans ?_
  exact congrArg₂ (· * ·) (pa3 m c t r j) (hs3 m c t j)

section sums
variable (o : Vec Ideal S1x128 .f32) (M : Vec Ideal S1x128x128 .f32)

theorem ps0 : k0_pay32 (b15 m c t) (l0 m c t) o (ix2 0 j) = o (ix2 0 j) + ∑ r : Fin 1024, qZl m c (row t) (tok t r) 0 j * qDmc m c (row t) (tok t r) (hi (col 0 j)) := by
  refine (r32 ..).trans (add_right _ (Finset.sum_congr rfl fun r _ => ?_))
  exact (congrArg₂ (· * ·) (pa0 m c t r j) (pl0 m c t r j)).trans (mul_comm _ _)
theorem pb0 : k0_pay34 (d0 m c t) o (ix2 0 j) = o (ix2 0 j) + ∑ r : Fin 1024, qDzl m c (row t) (tok t r) 0 j :=
  (r34 ..).trans (add_right _ (Finset.sum_congr rfl fun r _ => pd0 m c t r j))
theorem pw0 : k0_pay36 (z0 m c t (E0 m c t)) (d0 m c t) M (ix3 0 i j) = M (ix3 0 i j) + ∑ r : Fin 1024, qDev m c (row t) (tok t r) 0 i * qDzl m c (row t) (tok t r) 0 j :=
  (r36 ..).trans (add_right _ (Finset.sum_congr rfl fun r _ => congrArg₂ (· * ·) (pz0 m c t r i _ (E0_eq m c t)) (pd0 m c t r j)))
theorem ps1 : k0_pay40 (b15 m c t) (l1 m c t) o (ix2 0 j) = o (ix2 0 j) + ∑ r : Fin 1024, qZl m c (row t) (tok t r) 1 j * qDmc m c (row t) (tok t r) (hi (col 1 j)) := by
  refine (r40 ..).trans (add_right _ (Finset.sum_congr rfl fun r _ => ?_))
  exact (congrArg₂ (· * ·) (pa1 m c t r j) (pl1 m c t r j)).trans (mul_comm _ _)
theorem pb1 : k0_pay42 (a1 m c t) (s1 m c t) o (ix2 0 j) = o (ix2 0 j) + ∑ r : Fin 1024, qDzl m c (row t) (tok t r) 1 j :=
  (r42 ..).trans (add_right _ (Finset.sum_congr rfl fun r _ => pd1 m c t r j))
theorem pw1 : k0_pay44 (z1 m c t (E0 m c t)) (a1 m c t) (s1 m c t) M (ix3 0 i j) = M (ix3 0 i j) + ∑ r : Fin 1024, qDev m c (row t) (tok t r) 1 i * qDzl m c (row t) (tok t r) 1 j :=
  (r44 ..).trans (add_right _ (Finset.sum_congr rfl fun r _ => congrArg₂ (· * ·) (pz1 m c t r i _ (E0_eq m c t)) (pd1 m c t r j)))
theorem ps2 : k0_pay50 (k0_pay48 o) (k0_pay49 (b15 m c t) (l2 m c t)) (ix2 0 j) = o (ix2 0 j) + ∑ r : Fin 1024, qZl m c (row t) (tok t r) 2 j * qDmc m c (row t) (tok t r) (hi (col 2 j)) := by
  refine (r50 ..).trans (add_right _ (Finset.sum_congr rfl fun r _ => ?_))
  exact (congrArg₂ (· * ·) (pa2 m c t r j) (pl2 m c t r j)).trans (mul_comm _ _)
theorem pb2 : k0_pay52 (a2 m c t) (s2 m c t) o (ix2 0 j) = o (ix2 0 j) + ∑ r : Fin 1024, qDzl m c (row t) (tok t r) 2 j :=
  (r52 ..).trans (add_right _ (Finset.sum_congr rfl fun r _ => pd2 m c t r j))
theorem pw2 : k0_pay54 (z2 m c t (E0 m c t)) (a2 m c t) (s2 m c t) M (ix3 0 i j) = M (ix3 0 i j) + ∑ r : Fin 1024, qDev m c (row t) (tok t r) 2 i * qDzl m c (row t) (tok t r) 2 j :=
  (r54 ..).trans (add_right _ (Finset.sum_congr rfl fun r _ => congrArg₂ (· * ·) (pz2 m c t r i _ (E0_eq m c t)) (pd2 m c t r j)))
theorem ps3 : k0_pay58 (l3 m c t) (a3 m c t) o (ix2 0 j) = o (ix2 0 j) + ∑ r : Fin 1024, qZl m c (row t) (tok t r) 3 j * qDmc m c (row t) (tok t r) (hi (col 3 j)) := by
  refine (r58 ..).trans (add_right _ (Finset.sum_congr rfl fun r _ => ?_))
  exact (congrArg₂ (· * ·) (pa3 m c t r j) (pl3 m c t r j)).trans (mul_comm _ _)
theorem pb3 : k0_pay60 (a3 m c t) (s3 m c t) o (ix2 0 j) = o (ix2 0 j) + ∑ r : Fin 1024, qDzl m c (row t) (tok t r) 3 j :=
  (r60 ..).trans (add_right _ (Finset.sum_congr rfl fun r _ => pd3 m c t r j))
theorem pw3 : k0_pay62 (z3 m c t (E0 m c t)) (a3 m c t) (s3 m c t) M (ix3 0 i j) = M (ix3 0 i j) + ∑ r : Fin 1024, qDev m c (row t) (tok t r) 3 i * qDzl m c (row t) (tok t r) 3 j :=
  (r62 ..).trans (add_right _ (Finset.sum_congr rfl fun r _ => congrArg₂ (· * ·) (pz3 m c t r i _ (E0_eq m c t)) (pd3 m c t r j)))
end sums

abbrev e0 := k0_pay37 (d0 m c t) (w0 m c t)
abbrev q0 := k0_pay38 (seen t) (d0 m c t) (w0 m c t)
theorem pe0 : e0 m c t (ix2 r i) = qDz m c (row t) (tok t r) 0 i :=
  (r37 ..).trans (Finset.sum_congr rfl fun j _ => congrArg₂ (· * ·) (pd0 m c t r j) (hw0 m c t i j))
theorem pq0 : q0 m c t (ix2 r i) = qDq m c (row t) (tok t r) 0 i :=
  (r38 ..).trans (congrArg₂ Ideal.div (pe0 m c t r i) (congrArg (min · _) (p19 t r)))
abbrev e1 := k0_pay45 (a1 m c t) (s1 m c t) (w1 m c t)
abbrev q1 := k0_pay46 (seen t) (a1 m c t) (s1 m c t) (w1 m c t)
theorem pe1 : e1 m c t (ix2 r i) = qDz m c (row t) (tok t r) 1 i :=
  (r45 ..).trans (Finset.sum_congr rfl fun j _ => congrArg₂ (· * ·) (pd1 m c t r j) (hw1 m c t i j))
theorem pq1 : q1 m c t (ix2 r i) = qDq m c (row t) (tok t r) 1 i :=
  (r46 ..).trans (congrArg₂ Ideal.div (pe1 m c t r i) (congrArg (min · _) (p19 t r)))
abbrev e2 := k0_pay55 (a2 m c t) (s2 m c t) (w2 m c t)
abbrev q2 := k0_pay56 (seen t) (a2 m c t) (s2 m c t) (w2 m c t)
theorem pe2 : e2 m c t (ix2 r i) = qDz m c (row t) (tok t r) 2 i :=
  (r55 ..).trans (Finset.sum_congr rfl fun j _ => congrArg₂ (· * ·) (pd2 m c t r j) (hw2 m c t i j))
theorem pq2 : q2 m c t (ix2 r i) = qDq m c (row t) (tok t r) 2 i :=
  (r56 ..).trans (congrArg₂ Ideal.div (pe2 m c t r i) (congrArg (min · _) (p19 t r)))
abbrev e3 := k0_pay63 (a3 m c t) (s3 m c t) (w3 m c t)
abbrev q3 := k0_pay65 (k0_pay64 (seen t) (a3 m c t) (s3 m c t) (w3 m c t))
theorem pe3 : e3 m c t (ix2 r i) = qDz m c (row t) (tok t r) 3 i :=
  (r63 ..).trans (Finset.sum_congr rfl fun j _ => congrArg₂ (· * ·) (pd3 m c t r j) (hw3 m c t i j))
theorem pq3 : q3 m c t (ix2 r i) = qDq m c (row t) (tok t r) 3 i :=
  (r65 ..).trans (congrArg₂ Ideal.div (pe3 m c t r i) (congrArg (min · _) (p19 t r)))

/-! ### The quotients' scratch -/

/-- What the second scratch holds: the tile's quotients and the first of the next tile's. -/
def qx (i : ℕ) (k : Fin 512) : EReal :=
  if h : (1 - t.val % 2) * 1024 + i < 2048 then qDq m c (row t) ⟨(1 - t.val % 2) * 1024 + i, h⟩ (grp k) (lane k) else 0

theorem piece_read (P : Vec Ideal S1024x128 .f32) (o : ℕ) (inb) (f) (L : List (View.Piece (Elt Ideal) S1040x512 .f32)) (i : Fin 1040) :
    View.read (Elt Ideal) (View.whole cc0_scratch1) ((View.whole cc0_scratch1).writes (Elt Ideal) f (⟨Rect.unit ![0, o] ![1024, 128] inb, P⟩ :: L)) (ix2 i k)
      = if h : i.val < 1024 ∧ o ≤ k.val ∧ k.val < o + 128 then P (ix2 ⟨i.val, h.1⟩ ⟨k.val - o, by omega⟩)
        else View.read (Elt Ideal) (View.whole cc0_scratch1) ((View.whole cc0_scratch1).writes (Elt Ideal) f L) (ix2 i k) := by
  rw [View.read_writes_cons_unit _ _ _ _ _ _ rfl]
  split
  next hr =>
    have h0 := (hr 0).2
    have h1 := hr 1
    simp at h0 h1
    rw [dif_pos ⟨h0, h1⟩]
    refine congrArg P ?_
    funext a; apply Fin.ext; rw [Rect.unitLocal_val]; fin_cases a <;> simp
  next hr =>
    rw [dif_neg fun h => hr fun a => by fin_cases a <;> simp <;> omega]

/-- The pieces that a point stores in it. -/

abbrev Q : List (View.Piece (Elt Ideal) S1040x512 .f32) := [⟨Rect.unit ![0, 384] ![1024, 128] inb_S1040x512_S1024x128_0_384, q3 m c t⟩,
  ⟨Rect.unit ![0, 256] ![1024, 128] inb_S1040x512_S1024x128_0_256, q2 m c t⟩,
  ⟨Rect.unit ![0, 128] ![1024, 128] inb_S1040x512_S1024x128_0_128, q1 m c t⟩,
  ⟨Rect.unit ![0, 0] ![1024, 128] inb_S1040x512_S1024x128_0_0, q0 m c t⟩]

theorem Q_read (f) (L : List (View.Piece (Elt Ideal) S1040x512 .f32)) (i : Fin 1040) :
    View.read (Elt Ideal) (View.whole cc0_scratch1) ((View.whole cc0_scratch1).writes (Elt Ideal) f (Q m c t ++ L)) (ix2 i k)
      = if i.val < 1024 then qx m c t i k
        else View.read (Elt Ideal) (View.whole cc0_scratch1) ((View.whole cc0_scratch1).writes (Elt Ideal) f L) (ix2 i k) := by
  have h3 := piece_read k (q3 m c t) 384 inb_S1040x512_S1024x128_0_384 f (Q m c t ++ L).tail i
  have h2 := piece_read k (q2 m c t) 256 inb_S1040x512_S1024x128_0_256 f (Q m c t ++ L).tail.tail i
  have h1 := piece_read k (q1 m c t) 128 inb_S1040x512_S1024x128_0_128 f (Q m c t ++ L).tail.tail.tail i
  have h0 := piece_read k (q0 m c t) 0 inb_S1040x512_S1024x128_0_0 f L i
  refine h3.trans ?_
  by_cases hi : i.val < 1024
  · rw [if_pos hi]
    have hx : ∀ (g : Fin 4) (h : g.val * 128 ≤ k.val ∧ k.val < g.val * 128 + 128),
        qDq m c (row t) (tok t ⟨i.val, hi⟩) g ⟨k.val - g.val * 128, by omega⟩ = qx m c t i k := by
      intro g h
      have eg : g = grp k := Fin.ext (by simp only [grp]; omega)
      subst eg
      unfold qx
      rw [dif_pos (by omega)]
      exact congrArg (qDq m c (row t) (tok t ⟨i.val, hi⟩) (grp k)) (Fin.ext (by simp only [lane, grp]; omega))
    by_cases c3 : 384 ≤ k.val
    · rw [dif_pos ⟨hi, c3, by omega⟩]; exact (pq3 ..).trans (hx 3 ⟨c3, by simp⟩)
    rw [dif_neg (by omega)]; refine h2.trans ?_
    by_cases c2 : 256 ≤ k.val
    · rw [dif_pos ⟨hi, c2, by omega⟩]; exact (pq2 ..).trans (hx 2 ⟨c2, by simp; omega⟩)
    rw [dif_neg (by omega)]; refine h1.trans ?_
    by_cases c1 : 128 ≤ k.val
    · rw [dif_pos ⟨hi, c1, by omega⟩]; exact (pq1 ..).trans (hx 1 ⟨c1, by simp; omega⟩)
    rw [dif_neg (by omega)]; refine h0.trans ?_
    rw [dif_pos ⟨hi, by omega, by omega⟩]; exact (pq0 ..).trans (hx 0 ⟨by simp, by simp; omega⟩)
  · rw [if_neg hi, dif_neg (by omega)]; refine h2.trans ?_
    rw [dif_neg (by omega)]; refine h1.trans ?_
    rw [dif_neg (by omega)]; refine h0.trans ?_
    rw [dif_neg (by omega)]

/-- The second scratch as the shifted rows are read, at a batch row's first step and at its second. -/
abbrev R0 : Vec Ideal S1040x512 .f32 := View.readCov (Val := Elt Ideal) (s := S1040x512) (e := .f32) (View.whole cc0_scratch1)
  (Q m c t ++ [⟨Rect.unit ![1024, 0] ![16, 512] inb_S1040x512_S16x512_1024_0, k0_pay9 (F := Ideal)⟩])
  (Rect.unit (s := S1040x512) ![0, 0] ![1040, 512] inb_S1040x512_S1040x512_0_0).toLoadRect
abbrev R1 (h : (Memref.whole cc0_scratch1).IsWhole) (P : Vec Ideal S1040x512 .f32) : Vec Ideal S1040x512 .f32 :=
  View.read (Elt Ideal) (View.whole cc0_scratch1) ((View.whole cc0_scratch1).writes (Elt Ideal) (h.unread P) (Q m c t ++ []))

theorem R0_eq (h1 : t.val % 2 = 0) (i : Fin 1040) : R0 m c t (ix2 i k) = qx m c t i k := by
  have e : (Rect.unit (s := S1040x512) ![0, 0] ![1040, 512] inb_S1040x512_S1040x512_0_0).toLoadRect.idx (ix2 i k) = ix2 i k := by
    show (Rect.unit (s := S1040x512) ![0, 0] ![1040, 512] inb_S1040x512_S1040x512_0_0).emb (ix2 i k) = _
    blk_ext
  unfold R0 View.readCov
  rw [View.readAt_apply, e, Q_read]
  split
  · rfl
  next hi =>
    have e' : (ix2 i k : S1040x512.Idx) = (Rect.unit (s := S1040x512) ![1024, 0] ![16, 512] inb_S1040x512_S16x512_1024_0).emb (ix2 ⟨i.val - 1024, by omega⟩ k) := by blk_ext
    rw [e']
    refine (View.read_writes_cons_emb _ _ _ _ _ _).trans ?_
    rw [qx, dif_neg (by omega)]
    pointwise [k0_pay9]

theorem R1_eq (h) (P) (h1 : t.val % 2 ≠ 0) (hP : ∀ q : Fin 16, ∀ k, P (ix2 ⟨1024 + q, by omega⟩ k) = qx m c ⟨t.val - 1, by omega⟩ q k) (i : Fin 1040) :
    R1 m c t h P (ix2 i k) = qx m c t i k := by
  unfold R1
  rw [Q_read]
  split
  · rfl
  next hi =>
    have e : (ix2 i k : S1040x512.Idx) = ix2 ⟨1024 + (⟨i.val - 1024, by omega⟩ : Fin 16), by simp only; omega⟩ k := by blk_ext
    refine (congrFun (read_unread_whole _ h P) _).trans ?_
    rw [e, hP]
    unfold qx
    have hrow : row ⟨t.val - 1, by omega⟩ = row t := Fin.ext (by simp only [row]; omega)
    have ht : (1 - (t.val - 1) % 2) * 1024 + (i.val - 1024) = (1 - t.val % 2) * 1024 + i.val := by omega
    simp only [ht, hrow]

theorem p66 (L) (q : Fin 16) : k0_pay66 (View.readCov (Val := Elt Ideal) (s := S1040x512) (e := .f32) (View.whole cc0_scratch1) (Q m c t ++ L)
    (Rect.unit (s := S1040x512) ![0, 0] ![16, 512] inb_S1040x512_S16x512_0_0).toLoadRect) (ix2 q k) = qx m c t q k := by
  have g : ∀ X : Vec Ideal S16x512 .f32, k0_pay66 X (ix2 q k) = X (ix2 q k) := fun X => by pointwise [k0_pay66]
  have e : (Rect.unit (s := S1040x512) ![0, 0] ![16, 512] inb_S1040x512_S16x512_0_0).toLoadRect.idx (ix2 q k) = ix2 ⟨q.val, by omega⟩ k := by
    show (Rect.unit (s := S1040x512) ![0, 0] ![16, 512] inb_S1040x512_S16x512_0_0).emb (ix2 q k) = _
    blk_ext
  refine (g _).trans ?_
  unfold View.readCov
  rw [View.readAt_apply, e, Q_read, if_pos (by simp only; omega)]

theorem carry (q : Fin 16) : (outsAt0 m c t.val t.isLt).2.2.2.2.2.2.2.2.2 (ix2 ⟨1024 + q, by omega⟩ k) = qx m c t q k := by
  have e : (ix2 ⟨1024 + q, by omega⟩ k : S1040x512.Idx)
    = (Rect.unit ![1024, 0] ![16, 512] inb_S1040x512_S16x512_1024_0 : Rect S1040x512).emb (ix2 q k) := by blk_ext
  by_cases h0 : t.val % 8 = 0
  · have h1 : t.val % 2 = 0 := by omega
    rw [outsAt0_A m c t h0 h1]; frame_out; rw [e]
    exact (View.canon_cons_emb _ _ _ _).trans (p66 m c t k _ q)
  · by_cases h1 : t.val % 2 = 0
    · rw [outsAt0_C m c t h0 h1]; frame_out; rw [e]
      exact (View.canon_cons_emb _ _ _ _).trans (p66 m c t k _ q)
    · rw [outsAt0_B m c t h0 h1]; frame_out; rw [e]
      exact (View.canon_cons_emb _ _ _ _).trans (p66 m c t k [] q)

/-! ### The sums of the quotients ahead -/

/-- A row of the scratch and the rows after it. -/
def ahead (w i : ℕ) (k : Fin 512) : EReal := ∑ d : Fin w, qx m c t (i + d.val) k

theorem ahead_one (i : ℕ) : ahead m c t 1 i k = qx m c t i k := by unfold ahead; rw [Fin.sum_univ_one]; rfl

theorem ahead_double (w i : ℕ) : ahead m c t (w + w) i k = ahead m c t w i k + ahead m c t w (i + w) k := by
  unfold ahead
  rw [Fin.sum_univ_add]
  refine congrArg₂ (· + ·) rfl (Finset.sum_congr rfl fun d _ => ?_)
  rw [Fin.val_natAdd, Nat.add_assoc]

theorem ahead_win (w : ℕ) : ahead m c t w r (col g j)
    = ∑ s : Fin 2048, if (tok t r).val ≤ s.val ∧ s.val < (tok t r).val + w then qDq m c (row t) s g j else 0 := by
  rw [← ahead_sum (fun s => qDq m c (row t) s g j) (tok t r) w]
  unfold ahead
  refine Finset.sum_congr rfl fun d _ => ?_
  have eg : grp (col g j) = g := Fin.ext (by simp only [grp, col]; omega)
  have ej : lane (col g j) = j := Fin.ext (by simp only [lane, col]; omega)
  have et : (1 - t.val % 2) * 1024 + (r.val + d.val) = (tok t r).val + d.val := by simp only [tok]; omega
  unfold qx
  simp only [eg, ej, et]

/-- The four doublings. -/
def f1 (X : FVec Ideal S1040x512 .f32) : FVec Ideal S1040x512 .f32 := addf X (dynamicRotate 0 1039#32 none X rotates_S1040x512_d0)
def f2 (X : FVec Ideal S1040x512 .f32) : FVec Ideal S1040x384 .f32 :=
  addf (extractStridedSlice S1040x384 ![0, 128] X slices_S1040x512_o0_128_S1040x384)
    (dynamicRotate 0 1038#32 none (extractStridedSlice S1040x384 ![0, 128] X slices_S1040x512_o0_128_S1040x384) rotates_S1040x384_d0)
def f3 (X : FVec Ideal S1040x384 .f32) : FVec Ideal S1040x256 .f32 :=
  addf (extractStridedSlice S1040x256 ![0, 128] X slices_S1040x384_o0_128_S1040x256)
    (dynamicRotate 0 1036#32 none (extractStridedSlice S1040x256 ![0, 128] X slices_S1040x384_o0_128_S1040x256) rotates_S1040x256_d0)
def f4 (X : FVec Ideal S1040x256 .f32) : FVec Ideal S1040x128 .f32 :=
  addf (extractStridedSlice S1040x128 ![0, 128] X slices_S1040x256_o0_128_S1040x128)
    (dynamicRotate 0 1032#32 none (extractStridedSlice S1040x128 ![0, 128] X slices_S1040x256_o0_128_S1040x128) rotates_S1040x128_d0)

theorem rf1 (X : FVec Ideal S1040x512 .f32) (i : Fin 1040) (k : Fin 512) (h : i.val + 1 < 1040) :
    f1 X (ix2 i k) = X (ix2 i k) + X (ix2 ⟨i.val + 1, h⟩ k) := by
  pointwise [f1]
  exact congrArg (fun s => _ + X (ix2 s _)) (Fin.ext (by simp only; omega))
theorem rf2 (X : FVec Ideal S1040x512 .f32) (i : Fin 1040) (k : Fin 384) (h : i.val + 2 < 1040) :
    f2 X (ix2 i k) = X (ix2 i ⟨128 + k.val, by omega⟩) + X (ix2 ⟨i.val + 2, h⟩ ⟨128 + k.val, by omega⟩) := by
  pointwise [f2]
  exact congrArg (fun s => _ + X (ix2 s _)) (Fin.ext (by simp only; omega))
theorem rf3 (X : FVec Ideal S1040x384 .f32) (i : Fin 1040) (k : Fin 256) (h : i.val + 4 < 1040) :
    f3 X (ix2 i k) = X (ix2 i ⟨128 + k.val, by omega⟩) + X (ix2 ⟨i.val + 4, h⟩ ⟨128 + k.val, by omega⟩) := by
  pointwise [f3]
  exact congrArg (fun s => _ + X (ix2 s _)) (Fin.ext (by simp only; omega))
theorem rf4 (X : FVec Ideal S1040x256 .f32) (i : Fin 1040) (k : Fin 128) (h : i.val + 8 < 1040) :
    f4 X (ix2 i k) = X (ix2 i ⟨128 + k.val, by omega⟩) + X (ix2 ⟨i.val + 8, h⟩ ⟨128 + k.val, by omega⟩) := by
  pointwise [f4]
  exact congrArg (fun s => _ + X (ix2 s _)) (Fin.ext (by simp only; omega))

/-- The four groups' sums less what each token itself gives, side by side. -/
def joined (F1 : FVec Ideal S1040x512 .f32) (F2 : FVec Ideal S1040x384 .f32) (F3 : FVec Ideal S1040x256 .f32) (F4 : FVec Ideal S1040x128 .f32)
    (v0 v1 v2 v3 : FVec Ideal S1024x128 .f32) : FVec Ideal S1x1024x512 .f32 :=
  shapeCast S1x1024x512 (concatenate S1024x512 1 [⟨S1024x128, subf (extractStridedSlice S1024x128 ![0, 0] F1 slices_S1040x512_o0_0_S1024x128) v0⟩,
    ⟨S1024x128, subf (extractStridedSlice S1024x128 ![0, 0] F2 slices_S1040x384_o0_0_S1024x128) v1⟩,
    ⟨S1024x128, subf (extractStridedSlice S1024x128 ![0, 0] F3 slices_S1040x256_o0_0_S1024x128) v2⟩,
    ⟨S1024x128, subf (extractStridedSlice S1024x128 ![0, 0] F4 slices_S1040x128_o0_0_S1024x128) v3⟩]
    concatenates_S1024x128_S1024x128_S1024x128_S1024x128_S1024x512_d1) shapeCasts_S1024x512_S1x1024x512

section ahead
variable (v0 v1 v2 v3 : FVec Ideal S1024x128 .f32) (X : Vec Ideal S1040x512 .f32)

theorem r67_0 : k0_pay67 v0 v1 v2 v3 X (ix3 0 r (col 0 j)) = f1 X (ix2 ⟨r.val, by omega⟩ ⟨j.val, by omega⟩) - v0 (ix2 r j) := by
  have h : k0_pay67 v0 v1 v2 v3 X = joined (f1 X) (f2 (f1 X)) (f3 (f2 (f1 X))) (f4 (f3 (f2 (f1 X)))) v0 v1 v2 v3 := rfl
  rw [h]
  generalize f4 (f3 (f2 (f1 X))) = F4
  generalize f3 (f2 (f1 X)) = F3
  generalize f2 (f1 X) = F2
  generalize f1 X = F1
  pointwise [joined, col]
theorem r67_1 : k0_pay67 v0 v1 v2 v3 X (ix3 0 r (col 1 j)) = f2 (f1 X) (ix2 ⟨r.val, by omega⟩ ⟨j.val, by omega⟩) - v1 (ix2 r j) := by
  have h : k0_pay67 v0 v1 v2 v3 X = joined (f1 X) (f2 (f1 X)) (f3 (f2 (f1 X))) (f4 (f3 (f2 (f1 X)))) v0 v1 v2 v3 := rfl
  rw [h]
  generalize f4 (f3 (f2 (f1 X))) = F4
  generalize f3 (f2 (f1 X)) = F3
  generalize f2 (f1 X) = F2
  generalize f1 X = F1
  pointwise [joined, col]
theorem r67_2 : k0_pay67 v0 v1 v2 v3 X (ix3 0 r (col 2 j)) = f3 (f2 (f1 X)) (ix2 ⟨r.val, by omega⟩ ⟨j.val, by omega⟩) - v2 (ix2 r j) := by
  have h : k0_pay67 v0 v1 v2 v3 X = joined (f1 X) (f2 (f1 X)) (f3 (f2 (f1 X))) (f4 (f3 (f2 (f1 X)))) v0 v1 v2 v3 := rfl
  rw [h]
  generalize f4 (f3 (f2 (f1 X))) = F4
  generalize f3 (f2 (f1 X)) = F3
  generalize f2 (f1 X) = F2
  generalize f1 X = F1
  pointwise [joined, col]
  simp (disch := omega) only [dif_neg, dif_pos]
  exact congrArg₂ (· - ·) (congrArg (fun k => F3 (ix2 _ k)) (Fin.ext (by simp only; omega))) (congrArg (fun k => v2 (ix2 r k)) (Fin.ext (by simp only; omega)))
theorem r67_3 : k0_pay67 v0 v1 v2 v3 X (ix3 0 r (col 3 j)) = f4 (f3 (f2 (f1 X))) (ix2 ⟨r.val, by omega⟩ ⟨j.val, by omega⟩) - v3 (ix2 r j) := by
  have h : k0_pay67 v0 v1 v2 v3 X = joined (f1 X) (f2 (f1 X)) (f3 (f2 (f1 X))) (f4 (f3 (f2 (f1 X)))) v0 v1 v2 v3 := rfl
  rw [h]
  generalize f4 (f3 (f2 (f1 X))) = F4
  generalize f3 (f2 (f1 X)) = F3
  generalize f2 (f1 X) = F2
  generalize f1 X = F1
  pointwise [joined, col]
  simp (disch := omega) only [dif_neg, dif_pos]
  exact congrArg₂ (· - ·) (congrArg (fun k => F4 (ix2 _ k)) (Fin.ext (by simp only; omega))) (congrArg (fun k => v3 (ix2 r k)) (Fin.ext (by simp only; omega)))

variable (hX : ∀ i : Fin 1040, ∀ k, X (ix2 i k) = qx m c t i k)
include hX

theorem wf1 (i : Fin 1040) (h : i.val + 1 < 1040) (k : Fin 512) : f1 X (ix2 i k) = ahead m c t 2 i k := by
  rw [rf1 X i k h, hX, hX, ahead_double m c t k 1, ahead_one, ahead_one]
theorem wf2 (i : Fin 1040) (h : i.val + 3 < 1040) (k : Fin 384) : f2 (f1 X) (ix2 i k) = ahead m c t 4 i ⟨128 + k.val, by omega⟩ := by
  rw [rf2 _ i k (by omega), wf1 m c t X hX _ (by omega), wf1 m c t X hX _ (by simp only; omega)]
  exact (ahead_double m c t _ 2 _).symm
theorem wf3 (i : Fin 1040) (h : i.val + 7 < 1040) (k : Fin 256) : f3 (f2 (f1 X)) (ix2 i k) = ahead m c t 8 i ⟨256 + k.val, by omega⟩ := by
  rw [rf3 _ i k (by omega), wf2 m c t X hX _ (by omega), wf2 m c t X hX _ (by simp only; omega)]
  have e : (⟨128 + (128 + k.val), by omega⟩ : Fin 512) = ⟨256 + k.val, by omega⟩ := Fin.ext (by simp only; omega)
  exact (congrArg (fun k => ahead m c t 4 i k + ahead m c t 4 (i + 4) k) e).trans (ahead_double m c t _ 4 _).symm
theorem wf4 (i : Fin 1040) (h : i.val + 15 < 1040) (k : Fin 128) : f4 (f3 (f2 (f1 X))) (ix2 i k) = ahead m c t 16 i ⟨384 + k.val, by omega⟩ := by
  rw [rf4 _ i k (by omega), wf3 m c t X hX _ (by omega), wf3 m c t X hX _ (by simp only; omega)]
  have e : (⟨256 + (128 + k.val), by omega⟩ : Fin 512) = ⟨384 + k.val, by omega⟩ := Fin.ext (by simp only; omega)
  exact (congrArg (fun k => ahead m c t 8 i k + ahead m c t 8 (i + 8) k) e).trans (ahead_double m c t _ 8 _).symm

theorem p67 (i : Fin 128) : k0_pay67 (e0 m c t) (e1 m c t) (e2 m c t) (e3 m c t) X (ix3 0 r (col g i)) = qDp m c (row t) (tok t r) g i := by
  have key : ∀ (g : Fin 4) (F z : EReal), F = ahead m c t (W g) r (col g i) → z = qDz m c (row t) (tok t r) g i → F - z = qDp m c (row t) (tok t r) g i := by
    intro g F z hF hz
    rw [hF, hz, ahead_win, sub_eq_add_neg, add_comm]; rfl
  fin_cases g
  · refine (r67_0 ..).trans (key 0 _ _ ((wf1 m c t X hX _ (by simp only; omega) _).trans ?_) (pe0 m c t r i))
    exact congrArg (ahead m c t 2 r.val) (Fin.ext (by simp [col]))
  · refine (r67_1 ..).trans (key 1 _ _ ((wf2 m c t X hX _ (by simp only; omega) _).trans ?_) (pe1 m c t r i))
    exact congrArg (ahead m c t 4 r.val) (Fin.ext (by simp [col]))
  · refine (r67_2 ..).trans (key 2 _ _ ((wf3 m c t X hX _ (by simp only; omega) _).trans ?_) (pe2 m c t r i))
    exact congrArg (ahead m c t 8 r.val) (Fin.ext (by simp [col]))
  · refine (r67_3 ..).trans (key 3 _ _ ((wf4 m c t X hX _ (by simp only; omega) _).trans ?_) (pe3 m c t r i))
    exact congrArg (ahead m c t 16 r.val) (Fin.ext (by simp [col]))
end ahead

end Cert.MixOutMath

end
-- ==== Proof.MixOutMath.Steps.lean ====
/- Every output window after a grid point: what the point stores, and what it adds. -/
module

public import proofs.«01_k».proof.Proof.MixOutMath.Carry

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

variable (m : (ℓ : Loc nD τ sig) → Buf (Elt Ideal) ℓ) (c : Dev nD)
variable (t : Fin cfg0.N) (r : Fin 1024) (k : Fin 512) (n : Fin 1024) (g : Fin 4) (i j : Fin 128)

theorem zero2 (j) : k0_pay2 (F := Ideal) j = 0 := by pointwise [k0_pay2]
theorem zero3 (j) : k0_pay3 (F := Ideal) j = 0 := by pointwise [k0_pay3]
theorem zero4 (j) : k0_pay4 (F := Ideal) j = 0 := by pointwise [k0_pay4]
theorem zero5 (j) : k0_pay5 (F := Ideal) j = 0 := by pointwise [k0_pay5]
theorem zero6 (j) : k0_pay6 (F := Ideal) j = 0 := by pointwise [k0_pay6]
theorem zero7 (j) : k0_pay7 (F := Ideal) j = 0 := by pointwise [k0_pay7]
theorem zero8 (j) : k0_pay8 (F := Ideal) j = 0 := by pointwise [k0_pay8]

/-! ### Four pieces side by side -/

theorem lane_skip (o : ℕ) (inb) (w : (Rect.unit (s := S1x512) ![0, o] ![1, 128] inb).shape.Idx → Elt Ideal .f32)
    (L : List (View.Piece (Elt Ideal) S1x512 .f32)) (h : g.val * 128 + 128 ≤ o) :
    View.canon ((⟨Rect.unit (s := S1x512) ![0, o] ![1, 128] inb, w⟩ : View.Piece (Elt Ideal) S1x512 .f32) :: L) (ix2 0 (col g j)) = View.canon L (ix2 0 (col g j)) := by
  refine View.canon_cons_of_not_mem _ _ ?_
  rw [Rect.mem_set_unit]
  intro hm
  have := hm 1
  simp [col] at this
  omega

theorem mat_skip (o : ℕ) (inb) (w : (Rect.unit (s := S4x128x128) ![o, 0, 0] ![1, 128, 128] inb).shape.Idx → Elt Ideal .f32)
    (L : List (View.Piece (Elt Ideal) S4x128x128 .f32)) (h : g.val < o) :
    View.canon ((⟨Rect.unit (s := S4x128x128) ![o, 0, 0] ![1, 128, 128] inb, w⟩ : View.Piece (Elt Ideal) S4x128x128 .f32) :: L) (ix3 g i j) = View.canon L (ix3 g i j) := by
  refine View.canon_cons_of_not_mem _ _ ?_
  rw [Rect.mem_set_unit]
  intro hm
  have := hm 0
  simp at this
  omega

/-- The four groups' lanes of a row, and the four groups' matrices, as a point stores them. -/
abbrev lanes4 (P0 P1 P2 P3 : Vec Ideal S1x128 .f32) (L : List (View.Piece (Elt Ideal) S1x512 .f32)) : List (View.Piece (Elt Ideal) S1x512 .f32) :=
  ⟨Rect.unit ![0, 384] ![1, 128] inb_S1x512_S1x128_0_384, P3⟩ :: ⟨Rect.unit ![0, 256] ![1, 128] inb_S1x512_S1x128_0_256, P2⟩
    :: ⟨Rect.unit ![0, 128] ![1, 128] inb_S1x512_S1x128_0_128, P1⟩ :: ⟨Rect.unit ![0, 0] ![1, 128] inb_S1x512_S1x128_0_0, P0⟩ :: L
abbrev mats4 (P0 P1 P2 P3 : Vec Ideal S1x128x128 .f32) (L : List (View.Piece (Elt Ideal) S4x128x128 .f32)) : List (View.Piece (Elt Ideal) S4x128x128 .f32) :=
  ⟨Rect.unit ![3, 0, 0] ![1, 128, 128] inb_S4x128x128_S1x128x128_3_0_0, P3⟩ :: ⟨Rect.unit ![2, 0, 0] ![1, 128, 128] inb_S4x128x128_S1x128x128_2_0_0, P2⟩
    :: ⟨Rect.unit ![1, 0, 0] ![1, 128, 128] inb_S4x128x128_S1x128x128_1_0_0, P1⟩ :: ⟨Rect.unit ![0, 0, 0] ![1, 128, 128] inb_S4x128x128_S1x128x128_0_0_0, P0⟩ :: L

section pieces
variable (P0 P1 P2 P3 : Vec Ideal S1x128 .f32) (L : List (View.Piece (Elt Ideal) S1x512 .f32))
variable (M0 M1 M2 M3 : Vec Ideal S1x128x128 .f32) (K : List (View.Piece (Elt Ideal) S4x128x128 .f32))

theorem lanes4_0 : View.canon (lanes4 P0 P1 P2 P3 L) (ix2 0 (col 0 j)) = P0 (ix2 0 j) := by
  refine (lane_skip 0 j 384 inb_S1x512_S1x128_0_384 _ _ (by decide)).trans ?_
  refine (lane_skip 0 j 256 inb_S1x512_S1x128_0_256 _ _ (by decide)).trans ?_
  refine (lane_skip 0 j 128 inb_S1x512_S1x128_0_128 _ _ (by decide)).trans ?_
  rw [show (ix2 0 (col 0 j) : S1x512.Idx) = (Rect.unit (s := S1x512) ![0, 0] ![1, 128] inb_S1x512_S1x128_0_0).emb (ix2 0 j) by blk_ext [col]]
  exact View.canon_cons_emb _ _ _ _
theorem lanes4_1 : View.canon (lanes4 P0 P1 P2 P3 L) (ix2 0 (col 1 j)) = P1 (ix2 0 j) := by
  refine (lane_skip 1 j 384 inb_S1x512_S1x128_0_384 _ _ (by decide)).trans ?_
  refine (lane_skip 1 j 256 inb_S1x512_S1x128_0_256 _ _ (by decide)).trans ?_
  rw [show (ix2 0 (col 1 j) : S1x512.Idx) = (Rect.unit (s := S1x512) ![0, 128] ![1, 128] inb_S1x512_S1x128_0_128).emb (ix2 0 j) by blk_ext [col]]
  exact View.canon_cons_emb _ _ _ _
theorem lanes4_2 : View.canon (lanes4 P0 P1 P2 P3 L) (ix2 0 (col 2 j)) = P2 (ix2 0 j) := by
  refine (lane_skip 2 j 384 inb_S1x512_S1x128_0_384 _ _ (by decide)).trans ?_
  rw [show (ix2 0 (col 2 j) : S1x512.Idx) = (Rect.unit (s := S1x512) ![0, 256] ![1, 128] inb_S1x512_S1x128_0_256).emb (ix2 0 j) by blk_ext [col]]
  exact View.canon_cons_emb _ _ _ _
theorem lanes4_3 : View.canon (lanes4 P0 P1 P2 P3 L) (ix2 0 (col 3 j)) = P3 (ix2 0 j) := by
  rw [show (ix2 0 (col 3 j) : S1x512.Idx) = (Rect.unit (s := S1x512) ![0, 384] ![1, 128] inb_S1x512_S1x128_0_384).emb (ix2 0 j) by blk_ext [col]]
  exact View.canon_cons_emb _ _ _ _
theorem mats4_0 : View.canon (mats4 M0 M1 M2 M3 K) (ix3 0 i j) = M0 (ix3 0 i j) := by
  refine (mat_skip 0 i j 3 inb_S4x128x128_S1x128x128_3_0_0 _ _ (by decide)).trans ?_
  refine (mat_skip 0 i j 2 inb_S4x128x128_S1x128x128_2_0_0 _ _ (by decide)).trans ?_
  refine (mat_skip 0 i j 1 inb_S4x128x128_S1x128x128_1_0_0 _ _ (by decide)).trans ?_
  rw [show (ix3 0 i j : S4x128x128.Idx) = (Rect.unit (s := S4x128x128) ![0, 0, 0] ![1, 128, 128] inb_S4x128x128_S1x128x128_0_0_0).emb (ix3 0 i j) by blk_ext]
  exact View.canon_cons_emb _ _ _ _
theorem mats4_1 : View.canon (mats4 M0 M1 M2 M3 K) (ix3 1 i j) = M1 (ix3 0 i j) := by
  refine (mat_skip 1 i j 3 inb_S4x128x128_S1x128x128_3_0_0 _ _ (by decide)).trans ?_
  refine (mat_skip 1 i j 2 inb_S4x128x128_S1x128x128_2_0_0 _ _ (by decide)).trans ?_
  rw [show (ix3 1 i j : S4x128x128.Idx) = (Rect.unit (s := S4x128x128) ![1, 0, 0] ![1, 128, 128] inb_S4x128x128_S1x128x128_1_0_0).emb (ix3 0 i j) by blk_ext]
  exact View.canon_cons_emb _ _ _ _
theorem mats4_2 : View.canon (mats4 M0 M1 M2 M3 K) (ix3 2 i j) = M2 (ix3 0 i j) := by
  refine (mat_skip 2 i j 3 inb_S4x128x128_S1x128x128_3_0_0 _ _ (by decide)).trans ?_
  rw [show (ix3 2 i j : S4x128x128.Idx) = (Rect.unit (s := S4x128x128) ![2, 0, 0] ![1, 128, 128] inb_S4x128x128_S1x128x128_2_0_0).emb (ix3 0 i j) by blk_ext]
  exact View.canon_cons_emb _ _ _ _
theorem mats4_3 : View.canon (mats4 M0 M1 M2 M3 K) (ix3 3 i j) = M3 (ix3 0 i j) := by
  rw [show (ix3 3 i j : S4x128x128.Idx) = (Rect.unit (s := S4x128x128) ![3, 0, 0] ![1, 128, 128] inb_S4x128x128_S1x128x128_3_0_0).emb (ix3 0 i j) by blk_ext]
  exact View.canon_cons_emb _ _ _ _
end pieces

/-- One step's additions to the pooled branch's gradients. -/
def qS (g : Fin 4) (j : Fin 128) (b : Fin 4) (s : Fin 2048) : EReal := qZl m c b s g j * qDmc m c b s (hi (col g j))
def qW (g : Fin 4) (i j : Fin 128) (b : Fin 4) (s : Fin 2048) : EReal := qDev m c b s g i * qDzl m c b s g j

section sums
variable (L : List (View.Piece (Elt Ideal) S1x512 .f32)) (K : List (View.Piece (Elt Ideal) S4x128x128 .f32))

theorem ps_all (o0 o1 o2 o3 : Vec Ideal S1x128 .f32) (X : Vec Ideal S1x512 .f32)
    (h0 : ∀ j, o0 (ix2 0 j) = X (ix2 0 (col 0 j))) (h1 : ∀ j, o1 (ix2 0 j) = X (ix2 0 (col 1 j)))
    (h2 : ∀ j, o2 (ix2 0 j) = X (ix2 0 (col 2 j))) (h3 : ∀ j, o3 (ix2 0 j) = X (ix2 0 (col 3 j))) :
    View.canon (lanes4 (k0_pay32 (b15 m c t) (l0 m c t) o0) (k0_pay40 (b15 m c t) (l1 m c t) o1) (k0_pay50 (k0_pay48 o2) (k0_pay49 (b15 m c t) (l2 m c t))) (k0_pay58 (l3 m c t) (a3 m c t) o3) L) (ix2 0 (col g j))
      = X (ix2 0 (col g j)) + ∑ r : Fin 1024, qS m c g j (row t) (tok t r) := by
  fin_cases g
  · exact (lanes4_0 j _ _ _ _ L).trans ((ps0 m c t j o0).trans (congrArg (· + _) (h0 j)))
  · exact (lanes4_1 j _ _ _ _ L).trans ((ps1 m c t j o1).trans (congrArg (· + _) (h1 j)))
  · exact (lanes4_2 j _ _ _ _ L).trans ((ps2 m c t j o2).trans (congrArg (· + _) (h2 j)))
  · exact (lanes4_3 j _ _ _ _ L).trans ((ps3 m c t j o3).trans (congrArg (· + _) (h3 j)))
theorem pb_all (o0 o1 o2 o3 : Vec Ideal S1x128 .f32) (X : Vec Ideal S1x512 .f32)
    (h0 : ∀ j, o0 (ix2 0 j) = X (ix2 0 (col 0 j))) (h1 : ∀ j, o1 (ix2 0 j) = X (ix2 0 (col 1 j)))
    (h2 : ∀ j, o2 (ix2 0 j) = X (ix2 0 (col 2 j))) (h3 : ∀ j, o3 (ix2 0 j) = X (ix2 0 (col 3 j))) :
    View.canon (lanes4 (k0_pay34 (d0 m c t) o0) (k0_pay42 (a1 m c t) (s1 m c t) o1) (k0_pay52 (a2 m c t) (s2 m c t) o2) (k0_pay60 (a3 m c t) (s3 m c t) o3) L) (ix2 0 (col g j))
      = X (ix2 0 (col g j)) + ∑ r : Fin 1024, qDzl m c (row t) (tok t r) g j := by
  fin_cases g
  · exact (lanes4_0 j _ _ _ _ L).trans ((pb0 m c t j o0).trans (congrArg (· + _) (h0 j)))
  · exact (lanes4_1 j _ _ _ _ L).trans ((pb1 m c t j o1).trans (congrArg (· + _) (h1 j)))
  · exact (lanes4_2 j _ _ _ _ L).trans ((pb2 m c t j o2).trans (congrArg (· + _) (h2 j)))
  · exact (lanes4_3 j _ _ _ _ L).trans ((pb3 m c t j o3).trans (congrArg (· + _) (h3 j)))
theorem pw_all (o0 o1 o2 o3 : Vec Ideal S1x128x128 .f32) (X : Vec Ideal S4x128x128 .f32)
    (h0 : ∀ i j, o0 (ix3 0 i j) = X (ix3 0 i j)) (h1 : ∀ i j, o1 (ix3 0 i j) = X (ix3 1 i j))
    (h2 : ∀ i j, o2 (ix3 0 i j) = X (ix3 2 i j)) (h3 : ∀ i j, o3 (ix3 0 i j) = X (ix3 3 i j)) :
    View.canon (mats4 (k0_pay36 (z0 m c t (E0 m c t)) (d0 m c t) o0) (k0_pay44 (z1 m c t (E0 m c t)) (a1 m c t) (s1 m c t) o1) (k0_pay54 (z2 m c t (E0 m c t)) (a2 m c t) (s2 m c t) o2) (k0_pay62 (z3 m c t (E0 m c t)) (a3 m c t) (s3 m c t) o3) K) (ix3 g i j)
      = X (ix3 g i j) + ∑ r : Fin 1024, qW m c g i j (row t) (tok t r) := by
  fin_cases g
  · exact (mats4_0 i j _ _ _ _ K).trans ((pw0 m c t i j o0).trans (congrArg (· + _) (h0 i j)))
  · exact (mats4_1 i j _ _ _ _ K).trans ((pw1 m c t i j o1).trans (congrArg (· + _) (h1 i j)))
  · exact (mats4_2 i j _ _ _ _ K).trans ((pw2 m c t i j o2).trans (congrArg (· + _) (h2 i j)))
  · exact (mats4_3 i j _ _ _ _ K).trans ((pw3 m c t i j o3).trans (congrArg (· + _) (h3 i j)))
end sums

theorem t18A (h0 : t.val % 8 = 0) : (outsAt0 m c t.val t.isLt).2.2.2.2.2.1 (ix3 g i j) = ∑ r : Fin 1024, qW m c g i j (row t) (tok t r) := by
  rw [outsAt0_A m c t h0 (by omega)]; frame_out
  simp (disch := decide) only [↓ View.readCov_skip, ↓ View.readCov_fill]
  refine (pw_all m c t g i j _ _ _ _ _ (k0_pay5 (F := Ideal)) (fun i j => ld_mat 0 i j _ _) (fun i j => ld_mat 1 i j _ _) (fun i j => ld_mat 2 i j _ _) (fun i j => ld_mat 3 i j _ _)).trans ?_
  rw [zero5, zero_add]
theorem t18 (h0 : ¬t.val % 8 = 0) : (outsAt0 m c t.val t.isLt).2.2.2.2.2.1 (ix3 g i j)
    = (outsAt0 m c (t.val - 1) (by omega)).2.2.2.2.2.1 (ix3 g i j) + ∑ r : Fin 1024, qW m c g i j (row t) (tok t r) := by
  by_cases h1 : t.val % 2 = 0
  · rw [outsAt0_C m c t h0 h1]; frame_out
    exact pw_all m c t g i j [] _ _ _ _ _ (fun i j => ld_mat 0 i j _ _) (fun i j => ld_mat 1 i j _ _) (fun i j => ld_mat 2 i j _ _) (fun i j => ld_mat 3 i j _ _)
  · rw [outsAt0_B m c t h0 h1]; frame_out
    exact pw_all m c t g i j [] _ _ _ _ _ (fun i j => ld_mat 0 i j _ _) (fun i j => ld_mat 1 i j _ _) (fun i j => ld_mat 2 i j _ _) (fun i j => ld_mat 3 i j _ _)
theorem t19A (h0 : t.val % 8 = 0) : (outsAt0 m c t.val t.isLt).2.2.2.2.2.2.1 (ix2 0 (col g j)) = ∑ r : Fin 1024, qDzl m c (row t) (tok t r) g j := by
  rw [outsAt0_A m c t h0 (by omega)]; frame_out
  simp (disch := decide) only [↓ View.readCov_skip, ↓ View.readCov_fill]
  refine (pb_all m c t g j _ _ _ _ _ (k0_pay6 (F := Ideal)) (fun j => ld_lane 0 j _ _ _ rfl) (fun j => ld_lane 1 j _ _ _ rfl) (fun j => ld_lane 2 j _ _ _ rfl) (fun j => ld_lane 3 j _ _ _ rfl)).trans ?_
  rw [zero6, zero_add]
theorem t19 (h0 : ¬t.val % 8 = 0) : (outsAt0 m c t.val t.isLt).2.2.2.2.2.2.1 (ix2 0 (col g j))
    = (outsAt0 m c (t.val - 1) (by omega)).2.2.2.2.2.2.1 (ix2 0 (col g j)) + ∑ r : Fin 1024, qDzl m c (row t) (tok t r) g j := by
  by_cases h1 : t.val % 2 = 0
  · rw [outsAt0_C m c t h0 h1]; frame_out
    exact pb_all m c t g j [] _ _ _ _ _ (fun j => ld_lane 0 j _ _ _ rfl) (fun j => ld_lane 1 j _ _ _ rfl) (fun j => ld_lane 2 j _ _ _ rfl) (fun j => ld_lane 3 j _ _ _ rfl)
  · rw [outsAt0_B m c t h0 h1]; frame_out
    exact pb_all m c t g j [] _ _ _ _ _ (fun j => ld_lane 0 j _ _ _ rfl) (fun j => ld_lane 1 j _ _ _ rfl) (fun j => ld_lane 2 j _ _ _ rfl) (fun j => ld_lane 3 j _ _ _ rfl)
theorem t20A (h0 : t.val % 8 = 0) : (outsAt0 m c t.val t.isLt).2.2.2.2.2.2.2.1 (ix2 0 (col g j)) = ∑ r : Fin 1024, qS m c g j (row t) (tok t r) := by
  rw [outsAt0_A m c t h0 (by omega)]; frame_out
  simp (disch := decide) only [↓ View.readCov_skip, ↓ View.readCov_fill]
  refine (ps_all m c t g j _ _ _ _ _ (k0_pay7 (F := Ideal)) (fun j => ld_lane 0 j _ _ _ rfl) (fun j => ld_lane 1 j _ _ _ rfl) (fun j => ld_lane 2 j _ _ _ rfl) (fun j => ld_lane 3 j _ _ _ rfl)).trans ?_
  rw [zero7, zero_add]
theorem t20 (h0 : ¬t.val % 8 = 0) : (outsAt0 m c t.val t.isLt).2.2.2.2.2.2.2.1 (ix2 0 (col g j))
    = (outsAt0 m c (t.val - 1) (by omega)).2.2.2.2.2.2.2.1 (ix2 0 (col g j)) + ∑ r : Fin 1024, qS m c g j (row t) (tok t r) := by
  by_cases h1 : t.val % 2 = 0
  · rw [outsAt0_C m c t h0 h1]; frame_out
    exact ps_all m c t g j [] _ _ _ _ _ (fun j => ld_lane 0 j _ _ _ rfl) (fun j => ld_lane 1 j _ _ _ rfl) (fun j => ld_lane 2 j _ _ _ rfl) (fun j => ld_lane 3 j _ _ _ rfl)
  · rw [outsAt0_B m c t h0 h1]; frame_out
    exact ps_all m c t g j [] _ _ _ _ _ (fun j => ld_lane 0 j _ _ _ rfl) (fun j => ld_lane 1 j _ _ _ rfl) (fun j => ld_lane 2 j _ _ _ rfl) (fun j => ld_lane 3 j _ _ _ rfl)
theorem t14 : (outsAt0 m c t.val t.isLt).2.1 (ix3 0 r (col g j)) = qDp m c (row t) (tok t r) g j := by
  by_cases h0 : t.val % 8 = 0
  · have h1 : t.val % 2 = 0 := by omega
    rw [outsAt0_A m c t h0 h1]; frame_out; exact p67 m c t r g _ (fun i k => R0_eq m c t k h1 i) j
  · by_cases h1 : t.val % 2 = 0
    · rw [outsAt0_C m c t h0 h1]; frame_out; exact p67 m c t r g _ (fun i k => R0_eq m c t k h1 i) j
    · rw [outsAt0_B m c t h0 h1]; frame_out
      exact p67 m c t r g _ (fun i k => R1_eq m c t k _ _ h1 (fun q k => carry m c ⟨t.val - 1, by omega⟩ k q) i) j
section saved
variable (hp : ∀ i, Real' (aP m c i))
include hp

theorem t15 (y : S1024x1024.Idx) : (outsAt0 m c t.val t.isLt).2.2.1 y
    = (if h : t.val % 8 = 0 then 0 else (outsAt0 m c (t.val - 1) (by omega)).2.2.1 y) + ∑ r : Fin 1024, qMc m c (row t) (tok t r) (y 0) * qDmx m c (row t) (tok t r) (y 1) := by
  have hy : y = ix2 (y 0) (y 1) := by blk_ext
  by_cases h0 : t.val % 8 = 0
  · have h1 : t.val % 2 = 0 := by omega
    rw [outsAt0_A m c t h0 h1, dif_pos h0]; frame_out; rw [hy]; refine (p14 m c t _ hp _ _).trans ?_; rw [zero2]; rfl
  · rw [dif_neg h0]
    by_cases h1 : t.val % 2 = 0
    · rw [outsAt0_C m c t h0 h1]; frame_out; rw [hy]; exact p14 m c t _ hp _ _
    · rw [outsAt0_B m c t h0 h1]; frame_out; rw [hy]; exact p14 m c t _ hp _ _
theorem t21 (y : S1x1x1024.Idx) : (outsAt0 m c t.val t.isLt).2.2.2.2.2.2.2.2.1 y
    = (if h : t.val % 2 = 0 then 0 else (outsAt0 m c (t.val - 1) (by omega)).2.2.2.2.2.2.2.2.1 y)
      + ∑ r : Fin 1024, aDx m c (ix3 (row t) (tok t r) (y 2)) * qMixed m c (row t) (tok t r) (y 2) := by
  have hy : y = ix3 0 0 (y 2) := by blk_ext
  by_cases h1 : t.val % 2 = 0
  · rw [dif_pos h1]
    by_cases h0 : t.val % 8 = 0
    · rw [outsAt0_A m c t h0 h1]; frame_out; rw [hy]; refine (p12 m c t _ hp _).trans ?_; rw [zero8]; rfl
    · rw [outsAt0_C m c t h0 h1]; frame_out; rw [hy]; refine (p12 m c t _ hp _).trans ?_; rw [zero8]; rfl
  · have h0 : ¬t.val % 8 = 0 := by omega
    rw [dif_neg h1, outsAt0_B m c t h0 h1]; frame_out; rw [hy]; exact p12 m c t _ hp _
end saved

section gelu
variable (hy : ∀ i, Real' (aY m c i))
include hy

theorem t16 (y : S512x1024.Idx) : (outsAt0 m c t.val t.isLt).2.2.2.1 y
    = (if h : t.val % 8 = 0 then 0 else (outsAt0 m c (t.val - 1) (by omega)).2.2.2.1 y) + ∑ r : Fin 1024, qAct m c (row t) (tok t r) (y 0) * qDgl m c (row t) (tok t r) (y 1) := by
  have hy2 : y = ix2 (y 0) (y 1) := by blk_ext
  by_cases h0 : t.val % 8 = 0
  · have h1 : t.val % 2 = 0 := by omega
    rw [outsAt0_A m c t h0 h1, dif_pos h0]; frame_out; rw [hy2]; refine (p75 m c t _ _ hy _).trans ?_; rw [zero3]; rfl
  · rw [dif_neg h0]
    by_cases h1 : t.val % 2 = 0
    · rw [outsAt0_C m c t h0 h1]; frame_out; rw [hy2]; exact p75 m c t _ _ hy _
    · rw [outsAt0_B m c t h0 h1]; frame_out; rw [hy2]; exact p75 m c t _ _ hy _
theorem t17 (y : S1x1024.Idx) : (outsAt0 m c t.val t.isLt).2.2.2.2.1 y
    = (if h : t.val % 8 = 0 then 0 else (outsAt0 m c (t.val - 1) (by omega)).2.2.2.2.1 y) + ∑ r : Fin 1024, qDgl m c (row t) (tok t r) (y 1) := by
  have hy2 : y = ix2 0 (y 1) := by blk_ext
  by_cases h0 : t.val % 8 = 0
  · have h1 : t.val % 2 = 0 := by omega
    rw [outsAt0_A m c t h0 h1, dif_pos h0]; frame_out; rw [hy2]; refine (p73 m c t _ hy _).trans ?_; rw [zero4]; rfl
  · rw [dif_neg h0]
    by_cases h1 : t.val % 2 = 0
    · rw [outsAt0_C m c t h0 h1]; frame_out; rw [hy2]; exact p73 m c t _ hy _
    · rw [outsAt0_B m c t h0 h1]; frame_out; rw [hy2]; exact p73 m c t _ hy _
theorem t13 (hda : ∀ b t k, Real' (qDa m c b t k)) (y : S1024x512.Idx) : (outsAt0 m c t.val t.isLt).1 y = qDy m c (row t) (tok t (y 0)) (y 1) := by
  have hy2 : y = ix2 (y 0) (y 1) := by blk_ext
  by_cases h0 : t.val % 8 = 0
  · have h1 : t.val % 2 = 0 := by omega
    rw [outsAt0_A m c t h0 h1]; frame_out; rw [hy2]; exact p1 m c t _ _ hy hda
  · by_cases h1 : t.val % 2 = 0
    · rw [outsAt0_C m c t h0 h1]; frame_out; rw [hy2]; exact p1 m c t _ _ hy hda
    · rw [outsAt0_B m c t h0 h1]; frame_out; rw [hy2]; exact p1 m c t _ _ hy hda
end gelu

end Cert.MixOutMath

end
-- ==== Proof.MixOutMath.Final.lean ====
/- Every output array of the run as a function of the arguments. -/
module

public import proofs.«01_k».proof.Proof.MixOutMath.Steps

@[expose] public section

set_option maxRecDepth 16384

noncomputable section

open Idealize.ShloMosaic Idealize.ShloMosaic.TcCoe Idealize.SL.Sem
open Idealize.ShloMosaic.Pipeline (Dat)
open scoped BigOperators

namespace Cert.MixOutMath

open Cert.MixOutIdeal Cert.MixOutIdeal.Gen
open Cert.Shared

/-! ### Finite arguments give finite gradients -/

section finite
variable {y : FVec Ideal S4x2048x512 .f32} {gt : FVec Ideal S4x1024 .f32} {wg : FVec Ideal S1x512x1024 .f32} {bg : FVec Ideal S1x1024 .f32}
  {wp : FVec Ideal S1x4x128x128 .f32} {ps : FVec Ideal S1x512 .f32} {wo : FVec Ideal S1x1024x1024 .f32} {dx : FVec Ideal S4x2048x1024 .f32}
variable (hy : ∀ i, Real' (y i)) (hgt : ∀ i, Real' (gt i)) (hwg : ∀ i, Real' (wg i)) (hbg : ∀ i, Real' (bg i)) (hwp : ∀ i, Real' (wp i))
  (hps : ∀ i, Real' (ps i)) (hwo : ∀ i, Real' (wo i)) (hdx : ∀ i, Real' (dx i))

include hgt hwo hdx in
theorem dmc_real (b : Fin 4) (t : Fin 2048) (k : Fin 1024) : Real' (dmc gt wo dx b t k) :=
  Real'.sum _ fun _ => ((hgt _).mul (hdx _)).mul (hwo _)

theorem wf_real : ∀ g : Fin 4, ∃ r : ℝ, 0 < r ∧ wf g = (r : EReal) := by
  intro g
  fin_cases g
  · exact ⟨2, by norm_num, by show Ideal.ofBits .f32 0x40000000#32 = _; simp [Ideal.ofBits, Ideal.ieee, -EReal.coe_mul]; norm_num⟩
  · exact ⟨4, by norm_num, by show Ideal.ofBits .f32 0x40800000#32 = _; simp [Ideal.ofBits, Ideal.ieee, -EReal.coe_mul]; norm_num⟩
  · exact ⟨8, by norm_num, by show Ideal.ofBits .f32 0x41000000#32 = _; simp [Ideal.ofBits, Ideal.ieee, -EReal.coe_mul]; norm_num⟩
  · exact ⟨16, by norm_num, by show Ideal.ofBits .f32 0x41800000#32 = _; simp [Ideal.ofBits, Ideal.ieee, -EReal.coe_mul]; norm_num⟩

include hgt hwp hps hwo hdx in
theorem dq_real (b : Fin 4) (t : Fin 2048) (g : Fin 4) (i : Fin 128) : Real' (dq gt wp ps wo dx b t g i) := by
  have hz : Real' (dz gt wp ps wo dx b t g i) := Real'.sum _ fun _ => ((dmc_real hgt hwo hdx _ _ _).mul (hps _)).mul (hwp _)
  obtain ⟨r, hr, e⟩ := wf_real g
  have hc : cnt g t = ((min ((t.val + 1 : ℕ) : ℝ) r : ℝ) : EReal) := by
    unfold cnt pos
    rw [e]
    exact (EReal.coe_strictMono.monotone.map_min).symm
  have hm : min ((t.val + 1 : ℕ) : ℝ) r ≠ 0 := ne_of_gt (lt_min (by positivity) hr)
  unfold dq
  rw [hc, Ideal.div_coe hm]
  exact hz.mul (Real'.coe _)

include hy in
theorem act_real (b : Fin 4) (t : Fin 2048) (k : Fin 512) : Real' (act y b t k) := by
  refine (hy _).mul (Real'.mul ?_ (Real'.one.add (th_real hy _ _ _)))
  rw [f32_half]; exact Real'.coe _

include hy hwg hbg in
theorem gl_real (b : Fin 4) (t : Fin 2048) (j : Fin 1024) : Real' (gl y wg bg b t j) :=
  (Real'.sum _ fun _ => (act_real hy _ _ _).mul (hwg _)).add (hbg _)

include hy hwg hbg in
theorem lgt_real (b : Fin 4) (t : Fin 2048) (j : Fin 512) : Real' (lgt y wg bg b t j) := by
  obtain ⟨x, hx⟩ := gl_real hy hwg hbg b t ⟨512 + j, by omega⟩
  exact ⟨(1 + Real.exp (-x))⁻¹, (logistic_eq _).symm.trans ((congrArg Ideal.logistic hx).trans (Ideal.logistic_coe x))⟩

include hy hgt hwg hbg hwo hdx in
theorem da_real (b : Fin 4) (t : Fin 2048) (k : Fin 512) : Real' (da y gt wg bg wo dx b t k) := by
  refine Real'.sum _ fun j => Real'.mul ?_ (hwg _)
  have hl := lgt_real hy hwg hbg
  unfold dgl
  split
  · exact (dmc_real hgt hwo hdx _ _ _).mul (hl _ _ _)
  · exact ((gl_real hy hwg hbg _ _ _).mul (dmc_real hgt hwo hdx _ _ _)).mul ((hl _ _ _).mul (Real'.one.sub (hl _ _ _)))
end finite

variable (m : (ℓ : Loc nD τ sig) → Buf (Elt Ideal) ℓ) (c : Dev nD) (t : Fin cfg0.N)

/-! ### Sums over the visited points -/

/-- A sum over the tiles from the last to the first, and their rows, is the sum over the tokens. -/
theorem rev_sum (f : Fin 2048 → EReal) :
    ∑ s : Fin 2, ∑ r : Fin 1024, f ⟨(1 - s.val) * 1024 + r.val, by omega⟩ = ∑ l : Fin 2048, f l := by
  rw [← Equiv.sum_comp Fin.revPerm fun s : Fin 2 => ∑ r : Fin 1024, f ⟨(1 - s.val) * 1024 + r.val, by omega⟩]
  refine Fin.sum_mul_add_congr fun s k hl => congrArg f (Fin.ext ?_)
  simp only [Fin.revPerm_apply, Fin.val_rev]
  omega

theorem row_sum (g : Fin 4 → Fin 2048 → EReal) (h : ∀ s : Fin 2, 2 * (t.val / 2) + s.val < cfg0.N) :
    ∑ s : Fin 2, ∑ r : Fin 1024, g (row ⟨2 * (t.val / 2) + s.val, h s⟩) (tok ⟨2 * (t.val / 2) + s.val, h s⟩ r) = ∑ l : Fin 2048, g (row t) l := by
  rw [← rev_sum]
  refine Finset.sum_congr rfl fun s _ => Finset.sum_congr rfl fun r _ => congrArg₂ g (Fin.ext ?_) (Fin.ext ?_) <;> simp only [row, tok] <;> omega

theorem all_sum (g : Fin 4 → Fin 2048 → EReal) (h : ∀ s : Fin 8, 8 * (t.val / 8) + s.val < cfg0.N) :
    ∑ s : Fin 8, ∑ r : Fin 1024, g (row ⟨8 * (t.val / 8) + s.val, h s⟩) (tok ⟨8 * (t.val / 8) + s.val, h s⟩ r)
      = ∑ b : Fin 4, ∑ l : Fin 2048, g b l := by
  have hb : ∀ b : Fin 4, ∑ l : Fin 2048, g b l = ∑ s : Fin 2, ∑ r : Fin 1024, g b ⟨(1 - s.val) * 1024 + r.val, by omega⟩ := fun b => (rev_sum _).symm
  have ht := lt8 t
  simp only [hb]
  refine Eq.symm (Fin.sum_mul_add_congr fun b s hl => Finset.sum_congr rfl fun r _ => congrArg₂ g (Fin.ext ?_) (Fin.ext ?_)) <;>
    simp only [row, tok] <;> omega

/-! ### The arrays -/

/-- The batch row of a column of the wide array, which holds the rows' channels one after another. -/
def bat (k : Fin 2048) : Fin 4 := ⟨k.val / 512, by omega⟩
/-- The channel of a column of the wide array. -/
def chn (k : Fin 2048) : Fin 512 := ⟨k.val % 512, by omega⟩

theorem final_13 (hy : ∀ i, Real' (aY m c i)) (hda : ∀ b t k, Real' (qDa m c b t k)) : (dats m 0 c).arrAt 13 (cfgs 0).N
    = fun i : S2048x2048.Idx => qDy m c (bat (i 1)) (i 0) (chn (i 1)) := by
  refine (dats m 0 c).arrAt_eq_of_covers 13 _ (by decide +kernel) fun t hf y => ?_
  have hi : (win0_13.blk t).view.emb y = ix2 (tok t (y 0)) ⟨(row t).val * 512 + (y 1).val, by have := (y 1).isLt; simp at this; have := (row t).isLt; omega⟩ := by
    blk_ext [idx t, row, tok]
  show (dats m 0 c).after 13 t y = qDy m c (bat ((win0_13.blk t).view.emb y 1)) ((win0_13.blk t).view.emb y 0) (chn ((win0_13.blk t).view.emb y 1))
  rw [after0_13, hi]
  have hk : (y 1).val < 512 := (y 1).isLt
  refine (t13 m c t hy hda y).trans ?_
  exact congrArg₂ (fun b k => qDy m c b (tok t (y 0)) k) (Fin.ext (by simp [bat]; omega)) (Fin.ext (by simp [chn]; omega))

theorem final_14 : (dats m 0 c).arrAt 14 (cfgs 0).N = fun i : S4x2048x512.Idx => qDp m c (i 0) (i 1) (grp (i 2)) (lane (i 2)) := by
  refine (dats m 0 c).arrAt_eq_of_covers 14 _ (by decide +kernel) fun t hf y => ?_
  blk_simp; rw [after0_14]
  have hi : (win0_14.blk t).view.emb y = ix3 (row t) (tok t (y 1)) (y 2) := by blk_ext [idx t, row, tok]
  have hy : y = ix3 0 (y 1) (col (grp (y 2)) (lane (y 2))) := by blk_ext [col, grp, lane]
  rw [hi]
  exact (congrArg _ hy).trans (t14 m c t (y 1) (grp (y 2)) (lane (y 2)))

theorem final_15 (hp : ∀ i, Real' (aP m c i)) : (dats m 0 c).arrAt 15 (cfgs 0).N = fun i : S1024x1024.Idx => ∑ b : Fin 4, ∑ s : Fin 2048, qMc m c b s (i 0) * qDmx m c b s (i 1) := by
  refine (dats m 0 c).arrAt_eq_of_covers 15 _ (by decide +kernel) fun t hf y => ?_
  blk_simp
  rw [after0_15, Pipeline.eq_sum_fin_of_reset_step_apply_of_flush (fun n h => (outsAt0 m c n h).2.2.1) 8 (fun _ => 0)
    (fun t (j : S1024x1024.Idx) => ∑ r : Fin 1024, qMc m c (row t) (tok t r) (j 0) * qDmx m c (row t) (tok t r) (j 1))
    (fun t h j => (t15 m c t hp j).trans (by rw [dif_pos h]))
    (fun t h j => (t15 m c t hp j).trans (by rw [dif_neg h]))
    t ((flush0_15 t).mp hf) _, zero_add]
  have hi : (win0_15.blk t).view.emb y = ix2 (y 0) (y 1) := by blk_ext [idx t, row, tok]
  rw [hi]
  exact all_sum t (fun b s => qMc m c b s (y 0) * qDmx m c b s (y 1)) _

theorem final_16 (hy : ∀ i, Real' (aY m c i)) : (dats m 0 c).arrAt 16 (cfgs 0).N = fun i : S512x1024.Idx => ∑ b : Fin 4, ∑ s : Fin 2048, qAct m c b s (i 0) * qDgl m c b s (i 1) := by
  refine (dats m 0 c).arrAt_eq_of_covers 16 _ (by decide +kernel) fun t hf y => ?_
  blk_simp
  rw [after0_16, Pipeline.eq_sum_fin_of_reset_step_apply_of_flush (fun n h => (outsAt0 m c n h).2.2.2.1) 8 (fun _ => 0)
    (fun t (j : S512x1024.Idx) => ∑ r : Fin 1024, qAct m c (row t) (tok t r) (j 0) * qDgl m c (row t) (tok t r) (j 1))
    (fun t h j => (t16 m c t hy j).trans (by rw [dif_pos h]))
    (fun t h j => (t16 m c t hy j).trans (by rw [dif_neg h]))
    t ((flush0_16 t).mp hf) _, zero_add]
  have hi : (win0_16.blk t).view.emb y = ix2 (y 0) (y 1) := by blk_ext [idx t, row, tok]
  rw [hi]
  exact all_sum t (fun b s => qAct m c b s (y 0) * qDgl m c b s (y 1)) _

theorem final_17 (hy : ∀ i, Real' (aY m c i)) : (dats m 0 c).arrAt 17 (cfgs 0).N = fun i : S1x1024.Idx => ∑ b : Fin 4, ∑ s : Fin 2048, qDgl m c b s (i 1) := by
  refine (dats m 0 c).arrAt_eq_of_covers 17 _ (by decide +kernel) fun t hf y => ?_
  blk_simp
  rw [after0_17, Pipeline.eq_sum_fin_of_reset_step_apply_of_flush (fun n h => (outsAt0 m c n h).2.2.2.2.1) 8 (fun _ => 0)
    (fun t (j : S1x1024.Idx) => ∑ r : Fin 1024, qDgl m c (row t) (tok t r) (j 1))
    (fun t h j => (t17 m c t hy j).trans (by rw [dif_pos h]))
    (fun t h j => (t17 m c t hy j).trans (by rw [dif_neg h]))
    t ((flush0_17 t).mp hf) _, zero_add]
  have hi : (win0_17.blk t).view.emb y = ix2 0 (y 1) := by blk_ext [idx t, row, tok]
  rw [hi]
  exact all_sum t (fun b s => qDgl m c b s (y 1)) _

theorem final_18 : (dats m 0 c).arrAt 18 (cfgs 0).N = fun i : S4x128x128.Idx => ∑ b : Fin 4, ∑ s : Fin 2048, qW m c (i 0) (i 1) (i 2) b s := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.1) 8 (fun _ => 0)
    (fun t (j : S4x128x128.Idx) => ∑ r : Fin 1024, qW m c (j 0) (j 1) (j 2) (row t) (tok t r))
    (fun t h j => by
      have hj : j = ix3 (j 0) (j 1) (j 2) := by blk_ext [col, grp, lane]
      rw [hj, zero_add]; exact t18A m c t (j 0) (j 1) (j 2) h)
    (fun t h j => by
      have hj : j = ix3 (j 0) (j 1) (j 2) := by blk_ext [col, grp, lane]
      rw [hj]; exact t18 m c t (j 0) (j 1) (j 2) h)
    t ((flush0_18 t).mp hf) _, zero_add]
  have hi : (win0_18.blk t).view.emb y = ix3 (y 0) (y 1) (y 2) := by blk_ext [idx t, row, tok]
  rw [hi]
  exact all_sum t (fun b s => qW m c (y 0) (y 1) (y 2) b s) _

theorem final_19 : (dats m 0 c).arrAt 19 (cfgs 0).N = fun i : S1x512.Idx => ∑ b : Fin 4, ∑ s : Fin 2048, qDzl m c b s (grp (i 1)) (lane (i 1)) := by
  refine (dats m 0 c).arrAt_eq_of_covers 19 _ (by decide +kernel) fun t hf y => ?_
  have hc : ∀ j : S1x512.Idx, j = ix2 0 (col (grp (j 1)) (lane (j 1))) := fun j => by blk_ext [col, grp, lane]
  blk_simp
  rw [after0_19, Pipeline.eq_sum_fin_of_reset_step_apply_of_flush (fun n h => (outsAt0 m c n h).2.2.2.2.2.2.1) 8 (fun _ => 0)
    (fun t (j : S1x512.Idx) => ∑ r : Fin 1024, qDzl m c (row t) (tok t r) (grp (j 1)) (lane (j 1)))
    (fun t h j => by
      rw [zero_add]; exact (congrArg _ (hc j)).trans (t19A m c t (grp (j 1)) (lane (j 1)) h))
    (fun t h j => by
      exact (congrArg _ (hc j)).trans ((t19 m c t (grp (j 1)) (lane (j 1)) h).trans (congrArg (· + _) (congrArg _ (hc j).symm))))
    t ((flush0_19 t).mp hf) _, zero_add]
  have hi : (win0_19.blk t).view.emb y = ix2 0 (y 1) := by blk_ext [idx t, row, tok]
  rw [hi]
  exact all_sum t (fun b s => qDzl m c b s (grp (y 1)) (lane (y 1))) _

theorem final_20 : (dats m 0 c).arrAt 20 (cfgs 0).N = fun i : S1x512.Idx => ∑ b : Fin 4, ∑ s : Fin 2048, qS m c (grp (i 1)) (lane (i 1)) b s := by
  refine (dats m 0 c).arrAt_eq_of_covers 20 _ (by decide +kernel) fun t hf y => ?_
  have hc : ∀ j : S1x512.Idx, j = ix2 0 (col (grp (j 1)) (lane (j 1))) := fun j => by blk_ext [col, grp, lane]
  blk_simp
  rw [after0_20, Pipeline.eq_sum_fin_of_reset_step_apply_of_flush (fun n h => (outsAt0 m c n h).2.2.2.2.2.2.2.1) 8 (fun _ => 0)
    (fun t (j : S1x512.Idx) => ∑ r : Fin 1024, qS m c (grp (j 1)) (lane (j 1)) (row t) (tok t r))
    (fun t h j => by
      rw [zero_add]; exact (congrArg _ (hc j)).trans (t20A m c t (grp (j 1)) (lane (j 1)) h))
    (fun t h j => by
      exact (congrArg _ (hc j)).trans ((t20 m c t (grp (j 1)) (lane (j 1)) h).trans (congrArg (· + _) (congrArg _ (hc j).symm))))
    t ((flush0_20 t).mp hf) _, zero_add]
  have hi : (win0_20.blk t).view.emb y = ix2 0 (y 1) := by blk_ext [idx t, row, tok]
  rw [hi]
  exact all_sum t (fun b s => qS m c (grp (y 1)) (lane (y 1)) b s) _

theorem final_21 (hp : ∀ i, Real' (aP m c i)) : (dats m 0 c).arrAt 21 (cfgs 0).N = fun i : S4x1x1024.Idx => ∑ s : Fin 2048, aDx m c (ix3 (i 0) s (i 2)) * qMixed m c (i 0) s (i 2) := by
  refine (dats m 0 c).arrAt_eq_of_covers 21 _ (by decide +kernel) fun t hf y => ?_
  blk_simp
  rw [after0_21, Pipeline.eq_sum_fin_of_reset_step_apply_of_flush (fun n h => (outsAt0 m c n h).2.2.2.2.2.2.2.2.1) 2 (fun _ => 0)
    (fun t (j : S1x1x1024.Idx) => ∑ r : Fin 1024, aDx m c (ix3 (row t) (tok t r) (j 2)) * qMixed m c (row t) (tok t r) (j 2))
    (fun t h j => (t21 m c t hp j).trans (by rw [dif_pos h]))
    (fun t h j => (t21 m c t hp j).trans (by rw [dif_neg h]))
    t ((flush0_21 t).mp hf) _, zero_add]
  have hi : (win0_21.blk t).view.emb y = ix3 (row t) 0 (y 2) := by blk_ext [idx t, row, tok]
  rw [hi]
  exact row_sum t (fun b s => aDx m c (ix3 b s (y 2)) * qMixed m c b s (y 2)) _

end Cert.MixOutMath

end
-- ==== Proof.MixOutMath.Claim.lean ====
/- The kernel's nine results are the reference's, under the stated finiteness. -/
module

public import proofs.«01_k».proof.Defs
public import proofs.«01_k».proof.Proof.Gen.Pre_mixer_out_bwd_finite
public import proofs.«01_k».proof.Proof.Gen.MixOutRefIdeal.Run
public import proofs.«01_k».proof.Proof.MixOutMath.Final

@[expose] public section

set_option maxRecDepth 16384

noncomputable section

open Idealize.ShloMosaic Idealize.ShloMosaic.TcCoe Idealize.SL.Sem
open scoped BigOperators

namespace Cert.MixOutMath

open Cert.Shared

/-- The names' values in the table of constants. -/
theorem preserves : Cert.preserves_MixOut_MixOutIdeal :=
  ⟨IdealRules.named_const.statement Cert.MixOutIdeal.κ "gelu_a" .f32 0x3D372713#32 _ rfl,
    IdealRules.named_const.statement Cert.MixOutIdeal.κ "gelu_3a" .f32 0x3E095D4F#32 _ rfl⟩

/-- What the precondition says of the arguments. -/
theorem args_real {y : FVec Ideal Cert.MixOutIdeal.S4x2048x512 .f32} {p : FVec Ideal Cert.MixOutIdeal.S4x2048x512 .f32} {gt : FVec Ideal Cert.MixOutIdeal.S4x1024 .f32} {wg : FVec Ideal Cert.MixOutIdeal.S1x512x1024 .f32} {bg : FVec Ideal Cert.MixOutIdeal.S1x1024 .f32} {wp : FVec Ideal Cert.MixOutIdeal.S1x4x128x128 .f32} {bp : FVec Ideal Cert.MixOutIdeal.S1x4x128 .f32} {ps : FVec Ideal Cert.MixOutIdeal.S1x512 .f32} {wo : FVec Ideal Cert.MixOutIdeal.S1x1024x1024 .f32} {dx : FVec Ideal Cert.MixOutIdeal.S4x2048x1024 .f32}
    (h : Cert.Pre_mixer_out_bwd_finite.fn (F := Ideal) y p gt wg bg wp bp ps wo dx = fun _ => 1#1) :
    (∀ i, Real' (y i)) ∧ (∀ i, Real' (p i)) ∧ (∀ i, Real' (gt i)) ∧ (∀ i, Real' (wg i)) ∧ (∀ i, Real' (bg i)) ∧ (∀ i, Real' (wp i)) ∧ (∀ i, Real' (ps i)) ∧ (∀ i, Real' (wo i)) ∧ (∀ i, Real' (dx i)) := by
  obtain ⟨h, hdx⟩ := and_split (congrFun h ix0)
  obtain ⟨h, hwo⟩ := and_split h
  obtain ⟨h, hps⟩ := and_split h
  obtain ⟨h, hwp⟩ := and_split h
  obtain ⟨h, hbg⟩ := and_split h
  obtain ⟨h, hwg⟩ := and_split h
  obtain ⟨h, hgt⟩ := and_split h
  obtain ⟨hy, hp⟩ := and_split h
  exact ⟨real_of_all hy fun _ => f32_top,
    real_of_all hp fun _ => f32_top,
    real_of_all hgt fun _ => f32_top,
    real_of_all hwg fun _ => f32_top,
    real_of_all hbg fun _ => f32_top,
    real_of_all hwp fun _ => f32_top,
    real_of_all hps fun _ => f32_top,
    real_of_all hwo fun _ => f32_top,
    real_of_all hdx fun _ => f32_top⟩

variable (m : (ℓ : Loc Cert.MixOutIdeal.nD Cert.MixOutIdeal.τ Cert.MixOutIdeal.sig) → Buf (Elt Ideal) ℓ) (c : Dev Cert.MixOutIdeal.nD)

/-- The reference's gradient of the recurrence's result, as a whole array. -/
theorem whole_13 : Cert.MixOutRefIdeal.Read.val_main_v246 (F := Ideal) (aY m c) (aGt m c) (aWg m c) (aBg m c) (aWo m c) (aDx m c)
    = fun i => qDy m c (bat (i 1)) (i 0) (chn (i 1)) := by
  funext i
  have hi : i = ix2 (i 0) ⟨(bat (i 1)).val * 512 + (chn (i 1)).val, by have := (bat (i 1)).isLt; have := (chn (i 1)).isLt; omega⟩ := by
    blk_ext [bat, chn]
  exact (congrArg _ hi).trans (ref_dy2 ..)

/-- The reference's gradient of the pooled branch's input, as a whole array. -/
theorem whole_14 (hq : ∀ b t g i, Real' (qDq m c b t g i)) : Cert.MixOutRefIdeal.Read.val_main_v214 (F := Ideal) (aGt m c) (aWp m c) (aPs m c) (aWo m c) (aDx m c)
    = fun i => qDp m c (i 0) (i 1) (grp (i 2)) (lane (i 2)) := by
  funext i
  have hi : i = ix3 (i 0) (i 1) (col (grp (i 2)) (lane (i 2))) := by blk_ext [col, grp, lane]
  exact (congrArg _ hi).trans (ref_dp _ _ _ _ _ _ _ _ _ fun s => hq _ _ _ _)

/-- The reference's gradient of the output weight, as a whole array. -/
theorem whole_15 (hp : ∀ i, Real' (aP m c i)) : Cert.MixOutRefIdeal.Read.val_main_v247 (F := Ideal) (aY m c) (aP m c) (aGt m c) (aWg m c) (aBg m c) (aWp m c) (aBp m c) (aPs m c) (aDx m c)
    = fun i => ∑ b : Fin 4, ∑ s : Fin 2048, qMc m c b s (i 0) * qDmx m c b s (i 1) := by
  funext i
  have hi : i = ix2 (i 0) (i 1) := by blk_ext
  rw [hi]
  exact ref_dwo (hp := hp) ..

/-- The reference's gradient of the gated unit's weight, as a whole array. -/
theorem whole_16 : Cert.MixOutRefIdeal.Read.val_main_v248 (F := Ideal) (aY m c) (aGt m c) (aWg m c) (aBg m c) (aWo m c) (aDx m c)
    = fun i => ∑ b : Fin 4, ∑ s : Fin 2048, qAct m c b s (i 0) * qDgl m c b s (i 1) := by
  funext i
  have hi : i = ix2 (i 0) (i 1) := by blk_ext
  rw [hi]
  exact ref_dwg ..

/-- The reference's gradient of the gated unit's bias, as a whole array. -/
theorem whole_17 : Cert.MixOutRefIdeal.Read.val_main_v225 (F := Ideal) (aY m c) (aGt m c) (aWg m c) (aBg m c) (aWo m c) (aDx m c)
    = fun i => ∑ b : Fin 4, ∑ s : Fin 2048, qDgl m c b s (i 1) := by
  funext i
  have hi : i = ix2 0 (i 1) := by blk_ext
  rw [hi]
  exact ref_dbg ..

/-- The reference's gradient of the pooled branch's weights, as a whole array. -/
theorem whole_18 (hp : ∀ i, Real' (aP m c i)) : Cert.MixOutRefIdeal.Read.val_main_v249 (F := Ideal) (aP m c) (aGt m c) (aPs m c) (aWo m c) (aDx m c)
    = fun i => ∑ b : Fin 4, ∑ s : Fin 2048, qW m c (i 0) (i 1) (i 2) b s := by
  funext i
  have hi : i = ix3 (i 0) (i 1) (i 2) := by blk_ext
  rw [hi]
  exact ref_dwp (hp := hp) ..

/-- The reference's gradient of its biases, as a whole array. -/
theorem whole_19 : Cert.MixOutRefIdeal.Read.val_main_v250 (F := Ideal) (aGt m c) (aPs m c) (aWo m c) (aDx m c)
    = fun i => ∑ b : Fin 4, ∑ s : Fin 2048, qDzl m c b s (grp (i 1)) (lane (i 1)) := by
  funext i
  have hi : i = ix2 0 (col (grp (i 1)) (lane (i 1))) := by blk_ext [col, grp, lane]
  exact (congrArg _ hi).trans (ref_dbp ..)

/-- The reference's gradient of its scales, as a whole array. -/
theorem whole_20 (hp : ∀ i, Real' (aP m c i)) : Cert.MixOutRefIdeal.Read.val_main_v215 (F := Ideal) (aP m c) (aGt m c) (aWp m c) (aBp m c) (aWo m c) (aDx m c)
    = fun i => ∑ b : Fin 4, ∑ s : Fin 2048, qS m c (grp (i 1)) (lane (i 1)) b s := by
  funext i
  have hi : i = ix2 0 (i 1) := by blk_ext
  have hc : col (grp (i 1)) (lane (i 1)) = i 1 := Fin.ext (by simp only [col, grp, lane]; omega)
  unfold qS
  rw [hc, hi]
  exact ref_dps (hp := hp) ..

/-- The reference's gradient of the gate, as a whole array. -/
theorem whole_21 (hp : ∀ i, Real' (aP m c i)) : Cert.MixOutRefIdeal.Read.val_main_v251 (F := Ideal) (aY m c) (aP m c) (aWg m c) (aBg m c) (aWp m c) (aBp m c) (aPs m c) (aWo m c) (aDx m c)
    = fun i => ∑ s : Fin 2048, aDx m c (ix3 (i 0) s (i 2)) * qMixed m c (i 0) s (i 2) := by
  funext i
  have hi : i = ix3 (i 0) 0 (i 2) := by blk_ext
  rw [hi]
  exact ref_dgt (hp := hp) ..

set_option maxHeartbeats 2000000 in
theorem algebraic : Cert.algebraic_MixOutIdeal_MixOutRefIdeal_pre_mixer_out_bwd_finite := by
  intro m g m' g' hpre hagree
  refine ⟨_, _, _, _, _, _, _, _, _, Cert.MixOutIdeal.Value.run_blocks m g, θ_run_mono (Cert.MixOutRefIdeal.Value.run m' g') fun r h c => ?_⟩
  obtain ⟨hy, hp, hgt, hwg, hbg, hwp, hps, hwo, hdx⟩ := args_real (hpre c)
  have hda : ∀ b t k, Real' (qDa m c b t k) := da_real hy hgt hwg hbg hwo hdx
  have hq : ∀ b t g i, Real' (qDq m c b t g i) := dq_real hgt hwp hps hwo hdx
  obtain ⟨e0, e1, e2, e3, e4, e5, e6, e7, e8, e9⟩ := hagree c
  have f0 : StableHlo.launchContents m' c (Proc.devRef .tc Cert.MixOutRefIdeal.main_arg0) = aY m c := e0
  have f1 : StableHlo.launchContents m' c (Proc.devRef .tc Cert.MixOutRefIdeal.main_arg1) = aP m c := e1
  have f2 : StableHlo.launchContents m' c (Proc.devRef .tc Cert.MixOutRefIdeal.main_arg2) = aGt m c := e2
  have f3 : StableHlo.launchContents m' c (Proc.devRef .tc Cert.MixOutRefIdeal.main_arg3) = aWg m c := e3
  have f4 : StableHlo.launchContents m' c (Proc.devRef .tc Cert.MixOutRefIdeal.main_arg4) = aBg m c := e4
  have f5 : StableHlo.launchContents m' c (Proc.devRef .tc Cert.MixOutRefIdeal.main_arg5) = aWp m c := e5
  have f6 : StableHlo.launchContents m' c (Proc.devRef .tc Cert.MixOutRefIdeal.main_arg6) = aBp m c := e6
  have f7 : StableHlo.launchContents m' c (Proc.devRef .tc Cert.MixOutRefIdeal.main_arg7) = aPs m c := e7
  have f8 : StableHlo.launchContents m' c (Proc.devRef .tc Cert.MixOutRefIdeal.main_arg8) = aWo m c := e8
  have f9 : StableHlo.launchContents m' c (Proc.devRef .tc Cert.MixOutRefIdeal.main_arg9) = aDx m c := e9
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  · refine (Cert.MixOutRefIdeal.Read.val_main_v246_eq (StableHlo.launchContents m' c)).trans ?_
    rw [f0, f2, f3, f4, f8, f9]
    exact (whole_13 m c).trans (final_13 m c hy hda).symm
  · refine (Cert.MixOutRefIdeal.Read.val_main_v214_eq (StableHlo.launchContents m' c)).trans ?_
    rw [f2, f5, f7, f8, f9]
    exact (whole_14 m c hq).trans (final_14 m c).symm
  · refine (Cert.MixOutRefIdeal.Read.val_main_v247_eq (StableHlo.launchContents m' c)).trans ?_
    rw [f0, f1, f2, f3, f4, f5, f6, f7, f9]
    exact (whole_15 m c hp).trans (final_15 m c hp).symm
  · refine (Cert.MixOutRefIdeal.Read.val_main_v248_eq (StableHlo.launchContents m' c)).trans ?_
    rw [f0, f2, f3, f4, f8, f9]
    exact (whole_16 m c).trans (final_16 m c hy).symm
  · refine (Cert.MixOutRefIdeal.Read.val_main_v225_eq (StableHlo.launchContents m' c)).trans ?_
    rw [f0, f2, f3, f4, f8, f9]
    exact (whole_17 m c).trans (final_17 m c hy).symm
  · refine (Cert.MixOutRefIdeal.Read.val_main_v249_eq (StableHlo.launchContents m' c)).trans ?_
    rw [f1, f2, f7, f8, f9]
    exact (whole_18 m c hp).trans (final_18 m c).symm
  · refine (Cert.MixOutRefIdeal.Read.val_main_v250_eq (StableHlo.launchContents m' c)).trans ?_
    rw [f2, f7, f8, f9]
    exact (whole_19 m c).trans (final_19 m c).symm
  · refine (Cert.MixOutRefIdeal.Read.val_main_v215_eq (StableHlo.launchContents m' c)).trans ?_
    rw [f1, f2, f5, f6, f8, f9]
    exact (whole_20 m c hp).trans (final_20 m c).symm
  · refine (Cert.MixOutRefIdeal.Read.val_main_v251_eq (StableHlo.launchContents m' c)).trans ?_
    rw [f0, f1, f3, f4, f5, f6, f7, f8, f9]
    exact (whole_21 m c hp).trans (final_21 m c hp).symm

end Cert.MixOutMath

end
-- ==== Proof.SsmParamMath.Run.lean ====
/- The kernel's results and arguments after its run. -/
module

public import proofs.«01_k».proof.Proof.Gen.SsmParamBwdIdeal.Frame
public import Idealize.ShloMosaic.Lib.Pipeline.Value

@[expose] public section

noncomputable section

namespace Cert.SsmParamMath.Run

open Cert.SsmParamBwdIdeal Cert.SsmParamBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Each result is what the one grid point leaves in its array, and no argument changes. -/
theorem run_blocks : θ_run defs (onTc (τ := τ) (main (F := F))) ⟨m, fun _ => 0, ρ⟩ fun r => ∀ c : Dev nD,
      r.2.mem ((c : Thread nD τ).loc main_v24_0) = (dats m 0 c).arrAt 9 cfg0.N
      ∧ r.2.mem ((c : Thread nD τ).loc main_v24_1) = (dats m 0 c).arrAt 10 cfg0.N
      ∧ r.2.mem ((c : Thread nD τ).loc main_v24_2) = (dats m 0 c).arrAt 11 cfg0.N
      ∧ r.2.mem ((c : Thread nD τ).loc main_v24_3) = (dats m 0 c).arrAt 12 cfg0.N
      ∧ r.2.mem ((c : Thread nD τ).loc main_v24_4) = (dats m 0 c).arrAt 13 cfg0.N
      ∧ r.2.mem ((c : Thread nD τ).loc main_v24_5) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 9,
      (h c).1 10,
      (h c).1 11,
      (h c).1 12,
      (h c).1 13,
      (h c).1 14,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.SsmParamMath.Run

end
-- ==== Proof.SsmParamMath.Spec.lean ====
/- One state's gradients: what differentiation of the discretisation writes, over the extended reals. -/
module

public import proofs.«01_k».proof.Proof.Shared.Reals

@[expose] public section

noncomputable section

open Idealize.ShloMosaic
open scoped BigOperators

namespace Cert.SsmParamMath

open Cert.Shared

/-- What a state's gradients read: the pole, the log step size, the input weights, and the cotangents of the discretised
    pole (summed over the examples) and of the discretised input weights. -/
structure St where
  lr : EReal
  li : EReal
  ldt : EReal
  ar : EReal
  ai : EReal
  br : Fin 16 → EReal
  bi : Fin 16 → EReal
  cr : Fin 16 → EReal
  ci : Fin 16 → EReal

namespace St

variable (s : St)

/-- The step size, the discretised pole's modulus, cosine and sine, and its two parts (the first less one). -/
def dt : EReal := Ideal.exp s.ldt
def mag : EReal := Ideal.exp (s.lr * s.dt)
def co : EReal := Ideal.cos (s.li * s.dt)
def si : EReal := Ideal.sin (s.li * s.dt)
def nr : EReal := s.mag * s.co - 1
def ni : EReal := s.mag * s.si
/-- The quotient by the pole: its denominator and its two numerators. -/
def den : EReal := s.lr * s.lr + s.li * s.li
def pr : EReal := s.nr * s.lr + s.ni * s.li
def pi : EReal := s.ni * s.lr - s.nr * s.li
def inv2 : EReal := Ideal.div 1 (s.den * s.den)
/-- The cotangents of the quotient's two parts, -/
def dqi : EReal := (∑ h, s.ci h * s.br h) + ∑ h, -s.cr h * s.bi h
def dqr : EReal := (∑ h, s.ci h * s.bi h) + ∑ h, s.cr h * s.br h
def ei : EReal := Ideal.div s.dqi s.den
def er : EReal := Ideal.div s.dqr s.den
/-- of its denominator, -/
def dden : EReal := -(s.dqi * s.inv2 * s.pi) + -(s.dqr * s.inv2 * s.pr)
/-- and of the discretised pole. -/
def dr : EReal := s.ar + -s.ei * s.li + s.er * s.lr
def di : EReal := s.ai + s.ei * s.lr + s.er * s.li
/-- The angle's cotangent has two parts, the modulus' one. -/
def ta : EReal := s.mag * s.di * s.co
def tb : EReal := -(s.mag * s.dr) * s.si
def tm : EReal := (s.di * s.si + s.dr * s.co) * s.mag

/-- The gradients of the pole, of the log step size and of the input weights. -/
def glr : EReal := s.ni * s.ei + s.nr * s.er + s.lr * s.dden + s.dden * s.lr + s.tm * s.dt
def gliHead : EReal := s.nr * -s.ei + s.ni * s.er + s.li * s.dden + s.dden * s.li
def gli : EReal := s.gliHead + s.ta * s.dt + s.tb * s.dt
def gldt : EReal := (s.li * s.ta + s.li * s.tb + s.lr * s.tm) * s.dt
def gbr (h : Fin 16) : EReal := Ideal.div s.pi s.den * s.ci h + Ideal.div s.pr s.den * s.cr h
def gbi (h : Fin 16) : EReal := Ideal.div s.pr s.den * s.ci h + Ideal.div s.pi s.den * -s.cr h

/-- The two that the kernel writes with the angle's cotangent as one. -/
def gliK : EReal := s.gliHead + (s.ta + s.tb) * s.dt
def gldtK : EReal := (s.li * (s.ta + s.tb) + s.lr * s.tm) * s.dt

/-- Everything that the gradients read is a real number. -/
def Fin' : Prop := Real' s.lr ∧ Real' s.li ∧ Real' s.ldt ∧ Real' s.ar ∧ Real' s.ai
  ∧ (∀ h, Real' (s.br h)) ∧ (∀ h, Real' (s.bi h)) ∧ (∀ h, Real' (s.cr h)) ∧ ∀ h, Real' (s.ci h)

theorem real_exp {a : EReal} : Real' a → Real' (Ideal.exp a) := by rintro ⟨r, rfl⟩; exact ⟨_, Ideal.exp_coe _⟩
theorem real_cos {a : EReal} : Real' a → Real' (Ideal.cos a) := by rintro ⟨r, rfl⟩; exact ⟨_, Ideal.cos_coe _⟩
theorem real_sin {a : EReal} : Real' a → Real' (Ideal.sin a) := by rintro ⟨r, rfl⟩; exact ⟨_, Ideal.sin_coe _⟩
theorem real_div {a b : EReal} (hb0 : b ≠ 0) : Real' a → Real' b → Real' (Ideal.div a b) := by
  rintro ⟨x, rfl⟩ ⟨y, rfl⟩
  rw [Ideal.div_coe (fun h => hb0 (by rw [h]; rfl)), ← EReal.coe_mul]
  exact ⟨_, rfl⟩

variable {s}

theorem right_distrib {a b e : EReal} (h0 : 0 ≤ e) (h1 : e ≠ ⊤) : (a + b) * e = a * e + b * e :=
  EReal.right_distrib_of_nonneg_of_ne_top h0 h1 a b

theorem gliK_eq (h : s.Fin') : s.gliK = s.gli := by
  obtain ⟨-, -, ⟨r, hr⟩, -⟩ := h
  have e : s.dt = ((Real.exp r : ℝ) : EReal) := by unfold dt; rw [hr]; exact Ideal.exp_coe _
  unfold gliK gli
  rw [add_assoc s.gliHead, right_distrib (by rw [e]; exact_mod_cast (Real.exp_pos r).le) (by rw [e]; exact EReal.coe_ne_top _)]

/-- With a pole other than zero everything is real; at zero the product by it vanishes. -/
theorem split (h : s.Fin') : s.li * (s.ta + s.tb) = s.li * s.ta + s.li * s.tb := by
  obtain ⟨hlr, hli, hldt, har, hai, hbr, hbi, hcr, hci⟩ := h
  by_cases h0 : s.den = 0
  · obtain ⟨x, hx⟩ := hlr
    obtain ⟨y, hy⟩ := hli
    have : x * x + y * y = 0 := by
      have := h0
      unfold den at this
      rw [hx, hy, ← EReal.coe_mul, ← EReal.coe_mul, ← EReal.coe_add] at this
      exact_mod_cast this
    have hy0 : y = 0 := by nlinarith [mul_self_nonneg x, mul_self_nonneg y]
    rw [hy, hy0]; simp
  · have hden : Real' s.den := (hlr.mul hlr).add (hli.mul hli)
    have hdt : Real' s.dt := real_exp hldt
    have hmag : Real' s.mag := real_exp (hlr.mul hdt)
    have hqi : Real' s.dqi := (Real'.sum _ fun i => (hci i).mul (hbr i)).add (Real'.sum _ fun i => (hcr i).neg.mul (hbi i))
    have hqr : Real' s.dqr := (Real'.sum _ fun i => (hci i).mul (hbi i)).add (Real'.sum _ fun i => (hcr i).mul (hbr i))
    have hei : Real' s.ei := real_div h0 hqi hden
    have her : Real' s.er := real_div h0 hqr hden
    have hdr : Real' s.dr := (har.add (hei.neg.mul hli)).add (her.mul hlr)
    have hdi : Real' s.di := (hai.add (hei.mul hlr)).add (her.mul hli)
    have hta : Real' s.ta := (hmag.mul hdi).mul (real_cos (hli.mul hdt))
    have htb : Real' s.tb := (hmag.mul hdr).neg.mul (real_sin (hli.mul hdt))
    obtain ⟨a, ha⟩ := hta
    obtain ⟨b, hb⟩ := htb
    obtain ⟨y, hy⟩ := hli
    rw [ha, hb, hy, ← EReal.coe_add, ← EReal.coe_mul, ← EReal.coe_mul, ← EReal.coe_mul, ← EReal.coe_add, mul_add]

theorem gldtK_eq (h : s.Fin') : s.gldtK = s.gldt := by
  unfold gldtK gldt; rw [split h]

end St

theorem zero_sub' (a : EReal) : 0 - a = -a := by rw [sub_eq_add_neg, zero_add]

end Cert.SsmParamMath

end
-- ==== Proof.SsmParamMath.Pay.lean ====
/- The kernel's payloads at one state. -/
module

public import proofs.«01_k».proof.Proof.SsmParamMath.Spec
public import proofs.«01_k».proof.Proof.Gen.SsmParamBwdIdeal.Frame
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.SsmParamMath

open Cert.SsmParamBwdIdeal Cert.SsmParamBwdIdeal.Gen
open Cert.Shared

section rows
variable (v0 v1 v2 v3 v4 v5 v6 v7 v8 v9 v10 v11 v12 v13 v14 v15 v16 v17 v18 : FVec Ideal S1x2048 .f32)
  (w0 w1 w2 w3 : FVec Ideal S16x2048 .f32) (j : Fin 2048) (h : Fin 16)

theorem sumCol (w : FVec Ideal S16x2048 .f32) :
    shapeCast S1x2048 (multiReduction (φ := .f32) .add [0] S2048 w 0x00000000#32 reduces_S16x2048_S2048 (.inl rfl) rfl) shapeCasts_S2048_S1x2048 (ix2 0 j)
      = ∑ h : Fin 16, w (ix2 h j) := by
  pointwise

theorem q36 : k0_pay36 w0 w1 w2 w3 (ix2 0 j) = (∑ h, w3 (ix2 h j) * w0 (ix2 h j)) + ∑ h, -w2 (ix2 h j) * w1 (ix2 h j) := by
  pointwise [k0_pay36, k0_pay33, k0_pay34, k0_pay32, zero_sub']
theorem q38 : k0_pay38 w0 w1 w2 w3 (ix2 0 j) = (∑ h, w3 (ix2 h j) * w1 (ix2 h j)) + ∑ h, w2 (ix2 h j) * w0 (ix2 h j) := by
  pointwise [k0_pay38, k0_pay33, k0_pay32]

/-- The payloads that have no sum, at an index. -/
theorem q39 : k0_pay39 v0 v1 w0 w1 v2 v3 v4 w2 w3 (ix2 0 j)
    = -(k0_pay36 w0 w1 w2 w3 (ix2 0 j) * Ideal.div 1 (v4 (ix2 0 j) * v4 (ix2 0 j)) * (v2 (ix2 0 j) * v0 (ix2 0 j) - v3 (ix2 0 j) * v1 (ix2 0 j))) := by
  pointwise [k0_pay39, k0_pay30, zero_sub']
theorem q40 : k0_pay40 w0 w1 v4 w2 w3 (ix2 0 j) = Ideal.div (k0_pay36 w0 w1 w2 w3 (ix2 0 j)) (v4 (ix2 0 j)) := by
  pointwise [k0_pay40]
theorem q41 : k0_pay41 w0 w1 v4 w2 w3 (ix2 0 j) = -k0_pay40 w0 w1 v4 w2 w3 (ix2 0 j) := by
  pointwise [k0_pay41, zero_sub']
theorem q42 : k0_pay42 w0 w1 v3 v4 w2 w3 (ix2 0 j) = v3 (ix2 0 j) * k0_pay41 w0 w1 v4 w2 w3 (ix2 0 j) := by
  pointwise [k0_pay42]
theorem q43 : k0_pay43 v0 v1 w0 w1 v4 w2 w3 (ix2 0 j) = v0 (ix2 0 j) + k0_pay41 w0 w1 v4 w2 w3 (ix2 0 j) * v1 (ix2 0 j) := by
  pointwise [k0_pay43]
theorem q44 : k0_pay44 v0 v1 v2 v3 (ix2 0 j) = v3 (ix2 0 j) + -(v2 (ix2 0 j) * v1 (ix2 0 j) * v0 (ix2 0 j)) := by
  pointwise [k0_pay44, zero_sub']
theorem q45 : k0_pay45 v0 v1 (ix2 0 j) = Ideal.div (v1 (ix2 0 j)) (v0 (ix2 0 j)) := by
  pointwise [k0_pay45]
theorem q46 : k0_pay46 v0 v1 v2 v3 v4 v5 (ix2 0 j)
    = v0 (ix2 0 j) + v5 (ix2 0 j) * v1 (ix2 0 j) + k0_pay45 v3 v4 (ix2 0 j) * v2 (ix2 0 j) := by
  pointwise [k0_pay46]
theorem q47 : k0_pay47 v0 v1 v2 v3 (ix2 0 j) = v3 (ix2 0 j) + k0_pay45 v1 v2 (ix2 0 j) * v0 (ix2 0 j) := by
  pointwise [k0_pay47]
theorem q48 : k0_pay48 v0 v1 v2 v3 v4 v5 v6 v7 v8 v9 (ix2 0 j)
    = v3 (ix2 0 j) * k0_pay46 v0 v1 v2 v6 v7 v8 (ix2 0 j) * v5 (ix2 0 j) + -(v3 (ix2 0 j) * k0_pay47 v1 v6 v7 v9 (ix2 0 j)) * v4 (ix2 0 j) := by
  pointwise [k0_pay48, zero_sub']
theorem q50 : k0_pay50 v0 v1 v2 v3 v4 v5 v6 v7 v8 v9 (ix2 0 j)
    = (k0_pay46 v0 v1 v2 v6 v7 v8 (ix2 0 j) * v5 (ix2 0 j) + k0_pay47 v1 v6 v7 v9 (ix2 0 j) * v4 (ix2 0 j)) * v3 (ix2 0 j) := by
  pointwise [k0_pay50]
theorem q49 : k0_pay49 v0 v1 v2 v3 v4 v5 v6 v7 v8 v9 v10 v11 v12 v13 v14 v15 (ix2 0 j) = v14 (ix2 0 j) + v7 (ix2 0 j) * k0_pay45 v8 v11 (ix2 0 j) + v2 (ix2 0 j) * k0_pay44 v9 v10 v11 v12 (ix2 0 j)
      + k0_pay44 v9 v10 v11 v12 (ix2 0 j) * v2 (ix2 0 j) + k0_pay48 v0 v1 v2 v4 v5 v6 v8 v11 v13 v15 (ix2 0 j) * v3 (ix2 0 j) := by
  pointwise [k0_pay49]
theorem q51 : k0_pay51 v0 v1 v2 v3 v4 v5 v6 v7 v8 v9 v10 v11 v12 v13 v14 v15 (ix2 0 j) = v7 (ix2 0 j) * v14 (ix2 0 j) + v8 (ix2 0 j) * k0_pay45 v9 v12 (ix2 0 j) + v1 (ix2 0 j) * k0_pay44 v10 v11 v12 v13 (ix2 0 j)
      + k0_pay44 v10 v11 v12 v13 (ix2 0 j) * v1 (ix2 0 j) + k0_pay50 v0 v1 v2 v4 v5 v6 v9 v12 v14 v15 (ix2 0 j) * v3 (ix2 0 j) := by
  pointwise [k0_pay51]
theorem q52 : k0_pay52 v0 v1 v2 v3 v4 v5 v6 v7 v8 v9 v10 v11 v12 (ix2 0 j) = (v2 (ix2 0 j) * k0_pay48 v0 v1 v2 v4 v6 v8 v9 v10 v11 v12 (ix2 0 j)
      + v1 (ix2 0 j) * k0_pay50 v0 v1 v2 v4 v5 v7 v9 v10 v11 v12 (ix2 0 j)) * v3 (ix2 0 j) := by
  pointwise [k0_pay52]
theorem q37 : k0_pay37 v0 v1 v2 v3 v4 v5 w2 w3 (ix2 h j)
    = Ideal.div (v2 (ix2 0 j) * v0 (ix2 0 j) - v3 (ix2 0 j) * v1 (ix2 0 j)) (v4 (ix2 0 j)) * w3 (ix2 h j) + v5 (ix2 0 j) * w2 (ix2 h j) := by
  pointwise [k0_pay37, k0_pay30, k0_pay31, k0_pay32, k0_pay33]
theorem q35 : k0_pay35 v0 v1 v2 v3 v4 v5 w2 w3 (ix2 h j)
    = v5 (ix2 0 j) * w3 (ix2 h j) + Ideal.div (v2 (ix2 0 j) * v0 (ix2 0 j) - v3 (ix2 0 j) * v1 (ix2 0 j)) (v4 (ix2 0 j)) * -w2 (ix2 h j) := by
  pointwise [k0_pay35, k0_pay30, k0_pay31, k0_pay32, k0_pay33, k0_pay34, zero_sub']

end rows

section blocks
variable (x0 x1 x2 : Vec Ideal S1x2048 .f32) (x3 x4 : Vec Ideal S16x2048 .f32) (x5 : Vec Ideal S2x8x1024 .f32) (x6 x7 : Vec Ideal S16x2048 .f32)
  (x8 : Vec Ideal S8x256 .f32) (j : Fin 2048) (h : Fin 16)

/-- The cotangent of the discretised pole's real part, summed over the examples; the imaginary part's is `k0_pay53`. -/
abbrev sumRe : FVec Ideal S1x2048 .f32 :=
  k0_pay8 (k0_pay2 (View.ld x5 r0_0) (View.ld x5 r0_3) (View.ld x5 r0_6) (View.ld x5 r0_9)) (k0_pay7 (View.ld x5 r0_12) (View.ld x5 r0_15) (View.ld x5 r0_18) (View.ld x5 r0_21))

/-- What the kernel's blocks hold at a state. -/
def kst : St where
  lr := x0 (ix2 0 j)
  li := x1 (ix2 0 j)
  ldt := x2 (ix2 0 j)
  ar := sumRe x5 (ix2 0 j)
  ai := k0_pay53 x0 x1 x2 x3 x4 x5 x6 x7 x8 (ix2 0 j)
  br := fun h => x3 (ix2 h j)
  bi := fun h => x4 (ix2 h j)
  cr := fun h => x6 (ix2 h j)
  ci := fun h => x7 (ix2 h j)

theorem p54 : k0_pay54 x0 x1 x2 x3 x4 x5 x6 x7 x8 (ix2 0 j) = (kst x0 x1 x2 x3 x4 x5 x6 x7 x8 j).lr := by
  pointwise [k0_pay54, k0_pay11, kst]
theorem p55 : k0_pay55 x0 x1 x2 x3 x4 x5 x6 x7 x8 (ix2 0 j) = (kst x0 x1 x2 x3 x4 x5 x6 x7 x8 j).li := by
  pointwise [k0_pay55, k0_pay12, kst]
theorem p58 : k0_pay58 x0 x1 x2 x3 x4 x5 x6 x7 x8 (ix2 0 j) = (kst x0 x1 x2 x3 x4 x5 x6 x7 x8 j).dt := by
  pointwise [k0_pay58, k0_pay15, kst, St.dt]
theorem p59 : k0_pay59 x0 x1 x2 x3 x4 x5 x6 x7 x8 (ix2 0 j) = (kst x0 x1 x2 x3 x4 x5 x6 x7 x8 j).mag := by
  pointwise [k0_pay59, k0_pay16, k0_pay11, k0_pay15, kst, St.dt, St.mag]
theorem p60 : k0_pay60 x0 x1 x2 x3 x4 x5 x6 x7 x8 (ix2 0 j) = (kst x0 x1 x2 x3 x4 x5 x6 x7 x8 j).co := by
  pointwise [k0_pay60, k0_pay18, k0_pay17, k0_pay12, k0_pay15, kst, St.dt, St.co]
theorem p61 : k0_pay61 x0 x1 x2 x3 x4 x5 x6 x7 x8 (ix2 0 j) = (kst x0 x1 x2 x3 x4 x5 x6 x7 x8 j).si := by
  pointwise [k0_pay61, k0_pay19, k0_pay17, k0_pay12, k0_pay15, kst, St.dt, St.si]
theorem p62 : k0_pay62 x0 x1 x2 x3 x4 x5 x6 x7 x8 (ix2 0 j) = (kst x0 x1 x2 x3 x4 x5 x6 x7 x8 j).si := by
  pointwise [k0_pay62, k0_pay20, k0_pay17, k0_pay12, k0_pay15, kst, St.dt, St.si]
theorem p63 : k0_pay63 x0 x1 x2 x3 x4 x5 x6 x7 x8 (ix2 0 j) = (kst x0 x1 x2 x3 x4 x5 x6 x7 x8 j).co := by
  pointwise [k0_pay63, k0_pay21, k0_pay17, k0_pay12, k0_pay15, kst, St.dt, St.co]
theorem p64 : k0_pay64 x0 x1 x2 x3 x4 x5 x6 x7 x8 (ix2 0 j) = (kst x0 x1 x2 x3 x4 x5 x6 x7 x8 j).ni := by
  pointwise [k0_pay64, k0_pay22, k0_pay20, k0_pay17, k0_pay12, k0_pay16, k0_pay11, k0_pay15, kst, St.dt, St.mag, St.si, St.ni]
theorem p65 : k0_pay65 x0 x1 x2 x3 x4 x5 x6 x7 x8 (ix2 0 j) = (kst x0 x1 x2 x3 x4 x5 x6 x7 x8 j).nr := by
  pointwise [k0_pay65, k0_pay23, k0_pay18, k0_pay17, k0_pay12, k0_pay16, k0_pay11, k0_pay15, kst, St.dt, St.mag, St.co, St.nr]
theorem p66 : k0_pay66 x0 x1 x2 x3 x4 x5 x6 x7 x8 (ix2 0 j) = (kst x0 x1 x2 x3 x4 x5 x6 x7 x8 j).den := by
  pointwise [k0_pay66, k0_pay24, k0_pay12, k0_pay11, kst, St.den]
theorem p67 : k0_pay67 x0 x1 x2 x3 x4 x5 x6 x7 x8 (ix2 0 j) = (kst x0 x1 x2 x3 x4 x5 x6 x7 x8 j).pr := by
  pointwise [k0_pay67, k0_pay25, k0_pay22, k0_pay20, k0_pay23, k0_pay18, k0_pay17, k0_pay12, k0_pay16, k0_pay11, k0_pay15, kst, St.dt, St.mag, St.co, St.si, St.ni, St.nr, St.pr]
theorem p68 : k0_pay68 x0 x1 x2 x3 x4 x5 x6 x7 x8 (ix2 0 j) = Ideal.div (kst x0 x1 x2 x3 x4 x5 x6 x7 x8 j).pr (kst x0 x1 x2 x3 x4 x5 x6 x7 x8 j).den := by
  pointwise [k0_pay68, k0_pay26, k0_pay25, k0_pay24, k0_pay22, k0_pay20, k0_pay23, k0_pay18, k0_pay17, k0_pay12, k0_pay16, k0_pay11, k0_pay15, kst, St.dt, St.mag, St.co, St.si, St.ni, St.nr, St.pr, St.den]
theorem p69 : k0_pay69 x0 x1 x2 x3 x4 x5 x6 x7 x8 (ix2 0 j) = (kst x0 x1 x2 x3 x4 x5 x6 x7 x8 j).inv2 := by
  pointwise [k0_pay69, k0_pay29, k0_pay27, k0_pay28, k0_pay24, k0_pay12, k0_pay11, kst, St.den, St.inv2]
theorem ld26 (x : Vec Ideal S16x2048 .f32) : View.ld x r0_26 (ix2 h j) = x (ix2 h j) := by
  pointwise
theorem p56 : k0_pay56 x0 x1 x2 x3 x4 x5 x6 x7 x8 (ix2 h j) = x3 (ix2 h j) := by pointwise [k0_pay56, k0_pay13]
theorem p57 : k0_pay57 x0 x1 x2 x3 x4 x5 x6 x7 x8 (ix2 h j) = x4 (ix2 h j) := by pointwise [k0_pay57, k0_pay14]
theorem pq36 : k0_pay36 (k0_pay56 x0 x1 x2 x3 x4 x5 x6 x7 x8) (k0_pay57 x0 x1 x2 x3 x4 x5 x6 x7 x8) (View.ld x6 r0_26) (View.ld x7 r0_26) (ix2 0 j) = (kst x0 x1 x2 x3 x4 x5 x6 x7 x8 j).dqi :=
  (q36 _ _ _ _ j).trans (congrArg₂ (fun a b : EReal => a + b)
    (Finset.sum_congr rfl fun i _ => congrArg₂ (fun a b : EReal => a * b) (ld26 j i _) (p56 x0 x1 x2 x3 x4 x5 x6 x7 x8 j i))
    (Finset.sum_congr rfl fun i _ => congrArg₂ (fun a b : EReal => -a * b) (ld26 j i _) (p57 x0 x1 x2 x3 x4 x5 x6 x7 x8 j i)))
theorem p70 : k0_pay70 x0 x1 x2 x3 x4 x5 x6 x7 x8 (ix2 0 j) = (kst x0 x1 x2 x3 x4 x5 x6 x7 x8 j).dqr :=
  (q38 _ _ _ _ j).trans (congrArg₂ (fun a b : EReal => a + b)
    (Finset.sum_congr rfl fun i _ => congrArg₂ (fun a b : EReal => a * b) (ld26 j i _) (p57 x0 x1 x2 x3 x4 x5 x6 x7 x8 j i))
    (Finset.sum_congr rfl fun i _ => congrArg₂ (fun a b : EReal => a * b) (ld26 j i _) (p56 x0 x1 x2 x3 x4 x5 x6 x7 x8 j i)))
theorem p71 : k0_pay71 x0 x1 x2 x3 x4 x5 x6 x7 x8 (ix2 0 j) = -((kst x0 x1 x2 x3 x4 x5 x6 x7 x8 j).dqi * (kst x0 x1 x2 x3 x4 x5 x6 x7 x8 j).inv2 * (kst x0 x1 x2 x3 x4 x5 x6 x7 x8 j).pi) := by
  unfold k0_pay71; rw [q39, pq36, p54, p55, p64, p65, p66]; rfl
theorem p72 : k0_pay72 x0 x1 x2 x3 x4 x5 x6 x7 x8 (ix2 0 j) = (kst x0 x1 x2 x3 x4 x5 x6 x7 x8 j).ei := by
  unfold k0_pay72; rw [q40, pq36, p66]; rfl
theorem pq41 : k0_pay41 (k0_pay56 x0 x1 x2 x3 x4 x5 x6 x7 x8) (k0_pay57 x0 x1 x2 x3 x4 x5 x6 x7 x8) (k0_pay66 x0 x1 x2 x3 x4 x5 x6 x7 x8) (View.ld x6 r0_26) (View.ld x7 r0_26) (ix2 0 j) = -(kst x0 x1 x2 x3 x4 x5 x6 x7 x8 j).ei := by
  rw [q41, q40, pq36, p66]; rfl
theorem p73 : k0_pay73 x0 x1 x2 x3 x4 x5 x6 x7 x8 (ix2 0 j) = (kst x0 x1 x2 x3 x4 x5 x6 x7 x8 j).ar + -(kst x0 x1 x2 x3 x4 x5 x6 x7 x8 j).ei * (kst x0 x1 x2 x3 x4 x5 x6 x7 x8 j).li := by
  unfold k0_pay73; rw [q43, pq41, p55]; rfl

theorem p53 : k0_pay53 x0 x1 x2 x3 x4 x5 x6 x7 x8 (ix2 0 j) = (kst x0 x1 x2 x3 x4 x5 x6 x7 x8 j).ai := rfl
/-- The cotangents of the denominator and of the discretised pole's parts. -/
theorem pq44 : k0_pay44 (k0_pay67 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) (ix2 0 j) = (kst x0 x1 x2 x3 x4 x5 x6 x7 x8 j).dden := by
  rw [q44, p67, p69, p70, p71]; rfl
theorem pq45 : k0_pay45 (k0_pay66 x0 x1 x2 x3 x4 x5 x6 x7 x8) (k0_pay70 x0 x1 x2 x3 x4 x5 x6 x7 x8) (ix2 0 j) = (kst x0 x1 x2 x3 x4 x5 x6 x7 x8 j).er := by
  rw [q45, p66, p70]; rfl
theorem pq46 : k0_pay46 (k0_pay53 x0 x1 x2 x3 x4 x5 x6 x7 x8) (k0_pay54 x0 x1 x2 x3 x4 x5 x6 x7 x8) (k0_pay55 x0 x1 x2 x3 x4 x5 x6 x7 x8) (k0_pay66 x0 x1 x2 x3 x4 x5 x6 x7 x8) (k0_pay70 x0 x1 x2 x3 x4 x5 x6 x7 x8) (k0_pay72 x0 x1 x2 x3 x4 x5 x6 x7 x8) (ix2 0 j) = (kst x0 x1 x2 x3 x4 x5 x6 x7 x8 j).di := by
  rw [q46, pq45, p53, p54, p55, p72]; rfl
theorem pq47 : k0_pay47 (k0_pay54 x0 x1 x2 x3 x4 x5 x6 x7 x8) (k0_pay66 x0 x1 x2 x3 x4 x5 x6 x7 x8) (k0_pay70 x0 x1 x2 x3 x4 x5 x6 x7 x8) (k0_pay73 x0 x1 x2 x3 x4 x5 x6 x7 x8) (ix2 0 j) = (kst x0 x1 x2 x3 x4 x5 x6 x7 x8 j).dr := by
  rw [q47, pq45, p54, p73]; rfl
/-- The modulus' cotangent and the angle's. -/
theorem pq48 : k0_pay48 (k0_pay53 x0 x1 x2 x3 x4 x5 x6 x7 x8) (k0_pay54 x0 x1 x2 x3 x4 x5 x6 x7 x8) (k0_pay55 x0 x1 x2 x3 x4 x5 x6 x7 x8) (k0_pay59 x0 x1 x2 x3 x4 x5 x6 x7 x8) (k0_pay61 x0 x1 x2 x3 x4 x5 x6 x7 x8) (k0_pay63 x0 x1 x2 x3 x4 x5 x6 x7 x8) (k0_pay66 x0 x1 x2 x3 x4 x5 x6 x7 x8) (k0_pay70 x0 x1 x2 x3 x4 x5 x6 x7 x8) (k0_pay72 x0 x1 x2 x3 x4 x5 x6 x7 x8) (k0_pay73 x0 x1 x2 x3 x4 x5 x6 x7 x8) (ix2 0 j) = (kst x0 x1 x2 x3 x4 x5 x6 x7 x8 j).ta + (kst x0 x1 x2 x3 x4 x5 x6 x7 x8 j).tb := by
  rw [q48, pq46, pq47, p59, p61, p63]; rfl
theorem pq50 : k0_pay50 (k0_pay53 x0 x1 x2 x3 x4 x5 x6 x7 x8) (k0_pay54 x0 x1 x2 x3 x4 x5 x6 x7 x8) (k0_pay55 x0 x1 x2 x3 x4 x5 x6 x7 x8) (k0_pay59 x0 x1 x2 x3 x4 x5 x6 x7 x8) (k0_pay60 x0 x1 x2 x3 x4 x5 x6 x7 x8) (k0_pay62 x0 x1 x2 x3 x4 x5 x6 x7 x8) (k0_pay66 x0 x1 x2 x3 x4 x5 x6 x7 x8) (k0_pay70 x0 x1 x2 x3 x4 x5 x6 x7 x8) (k0_pay72 x0 x1 x2 x3 x4 x5 x6 x7 x8) (k0_pay73 x0 x1 x2 x3 x4 x5 x6 x7 x8) (ix2 0 j) = (kst x0 x1 x2 x3 x4 x5 x6 x7 x8 j).tm := by
  rw [q50, pq46, pq47, p59, p60, p62]; rfl

/-- One store of the whole block leaves its payload. -/
theorem whole25 (w : FVec Ideal S1x2048 .f32) : View.canon (Val := Elt Ideal) (e := .f32) [⟨r0_25, w⟩] = w :=
  View.canon_unit_zero (by decide +kernel) _ _
theorem whole26 (w : FVec Ideal S16x2048 .f32) : View.canon (Val := Elt Ideal) (e := .f32) [⟨r0_26, w⟩] = w :=
  View.canon_unit_zero (by decide +kernel) _ _

/-- The five gradients at a state. -/
theorem out9 : out0_9 x0 x1 x2 x3 x4 x5 x6 x7 x8 (ix2 0 j) = (kst x0 x1 x2 x3 x4 x5 x6 x7 x8 j).glr := by
  refine (congrFun (whole25 _) _).trans ((q51 _ _ _ _ _ _ _ _ _ _ _ _ _ _ _ _ j).trans ?_)
  rw [pq50, pq44, pq45, p54, p58, p64, p65, p72]; rfl
theorem out10 : out0_10 x0 x1 x2 x3 x4 x5 x6 x7 x8 (ix2 0 j) = (kst x0 x1 x2 x3 x4 x5 x6 x7 x8 j).gliK := by
  refine (congrFun (whole25 _) _).trans ((q49 _ _ _ _ _ _ _ _ _ _ _ _ _ _ _ _ j).trans ?_)
  rw [pq48, pq44, pq45, q42, pq41, p55, p58, p64, p65]; rfl
theorem out11 : out0_11 x0 x1 x2 x3 x4 x5 x6 x7 x8 (ix2 0 j) = (kst x0 x1 x2 x3 x4 x5 x6 x7 x8 j).gldtK := by
  refine (congrFun (whole25 _) _).trans ((q52 _ _ _ _ _ _ _ _ _ _ _ _ _ j).trans ?_)
  rw [pq48, pq50, p54, p55, p58]; rfl
theorem out12 : out0_12 x0 x1 x2 x3 x4 x5 x6 x7 x8 (ix2 h j) = (kst x0 x1 x2 x3 x4 x5 x6 x7 x8 j).gbr h := by
  refine (congrFun (whole26 _) _).trans ((q37 _ _ _ _ _ _ _ _ j h).trans ?_)
  rw [p54, p55, p64, p65, p66, p68]
  exact congrArg₂ (fun a b : EReal => _ * a + _ * b) (ld26 j h x7) (ld26 j h x6)
theorem out13 : out0_13 x0 x1 x2 x3 x4 x5 x6 x7 x8 (ix2 h j) = (kst x0 x1 x2 x3 x4 x5 x6 x7 x8 j).gbi h := by
  refine (congrFun (whole26 _) _).trans ((q35 _ _ _ _ _ _ _ _ j h).trans ?_)
  rw [p54, p55, p64, p65, p66, p68]
  exact congrArg₂ (fun a b : EReal => _ * a + _ * -b) (ld26 j h x7) (ld26 j h x6)

end blocks

end Cert.SsmParamMath

end
-- ==== Proof.SsmParamMath.Ref.lean ====
/- The reference's results at one state. -/
module

public import proofs.«01_k».proof.Proof.SsmParamMath.Spec
public import proofs.«01_k».proof.Proof.Gen.SsmParamBwdRefIdeal.Read
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.SsmParamMath.Ref

open Cert.SsmParamBwdRefIdeal Cert.SsmParamBwdRefIdeal.Gen Cert.SsmParamBwdRefIdeal.Read
open Cert.Shared Cert.SsmParamMath

/-- A group's state among the states of all groups. -/
abbrev stt (g : Fin 32) (p : Fin 64) : Fin 2048 := ⟨g.val * 64 + p.val, by omega⟩

variable (x0 x1 : FVec Ideal S1x32x64 .f32) (x2 : FVec Ideal S1x32 .f32) (x3 x4 : FVec Ideal S1x32x64x16 .f32) (x5 x6 : FVec Ideal S4x32x64 .f32)
  (x7 x8 : FVec Ideal S32x64x16 .f32) (g : Fin 32) (p : Fin 64) (h : Fin 16)

/-- What the arguments hold at a state. -/
def rst : St where
  lr := x0 (ix3 0 g p)
  li := x1 (ix3 0 g p)
  ldt := x2 (ix2 0 g)
  ar := ∑ b : Fin 4, x5 (ix3 b g p)
  ai := ∑ b : Fin 4, x6 (ix3 b g p)
  br := fun h => x3 (ix4 0 g p h)
  bi := fun h => x4 (ix4 0 g p h)
  cr := fun h => x7 (ix3 g p h)
  ci := fun h => x8 (ix3 g p h)

/-- The gradient of the direct term. -/
theorem ref_gd (x9 : FVec Ideal S4x512 .f32) (k : Fin 512) : val_main_v144 (F := Ideal) x9 (ix2 0 k) = ∑ b : Fin 4, x9 (ix2 b k) := by
  rw [val_main_v144_apply, val_main_v143_apply]
  rw [show val_main_cst_11 (F := Ideal) (Shape.Idx.first h_S_) = 0 by pointwise [val_main_cst_11]]
  exact (zero_add _).trans (Finset.sum_congr rfl fun b _ => congrArg x9 (by blk_ext))

/-! Every operation of the reference, at the state. -/
include x0 x1 x2 x3 x4 x5 x6 x7 x8 h

theorem r2 : val_main_v2 (F := Ideal) x2 (ix2 g p) = x2 (ix2 0 g) := by
  rw [val_main_v2_apply, val_main_v1_apply, val_main_v0_apply]; exact congrArg x2 (by blk_ext)
theorem r3 : val_main_v3 (F := Ideal) x5 (ix2 g p) = (rst x0 x1 x2 x3 x4 x5 x6 x7 x8 g p).ar := by
  rw [val_main_v3_apply]
  rw [show val_main_cst (F := Ideal) (Shape.Idx.first h_S_) = 0 by pointwise [val_main_cst]]
  rw [zero_add]; show _ = ∑ b : Fin 4, x5 (ix3 b g p)
  exact Finset.sum_congr rfl fun b _ => congrArg x5 (by blk_ext)
theorem r4 : val_main_v4 (F := Ideal) x6 (ix2 g p) = (rst x0 x1 x2 x3 x4 x5 x6 x7 x8 g p).ai := by
  rw [val_main_v4_apply]
  rw [show val_main_cst_0 (F := Ideal) (Shape.Idx.first h_S_) = 0 by pointwise [val_main_cst_0]]
  rw [zero_add]; show _ = ∑ b : Fin 4, x6 (ix3 b g p)
  exact Finset.sum_congr rfl fun b _ => congrArg x6 (by blk_ext)
theorem r5 : val_main_v5 (F := Ideal) x0 (ix2 g p) = (rst x0 x1 x2 x3 x4 x5 x6 x7 x8 g p).lr := by
  rw [val_main_v5_apply]; exact congrArg x0 (by blk_ext)
theorem r6 : val_main_v6 (F := Ideal) x1 (ix2 g p) = (rst x0 x1 x2 x3 x4 x5 x6 x7 x8 g p).li := by
  rw [val_main_v6_apply]; exact congrArg x1 (by blk_ext)
theorem r7 : val_main_v7 (F := Ideal) x3 (ix3 g p h) = x3 (ix4 0 g p h) := by
  rw [val_main_v7_apply]; exact congrArg x3 (by blk_ext)
theorem r8 : val_main_v8 (F := Ideal) x4 (ix3 g p h) = x4 (ix4 0 g p h) := by
  rw [val_main_v8_apply]; exact congrArg x4 (by blk_ext)
theorem r23 : val_main_v23 (F := Ideal) (ix2 g p) = 1 := by
  rw [val_main_v23_apply]; pointwise [val_main_cst_1]
theorem r30 : val_main_v30 (F := Ideal) (ix2 g p) = 1 := by
  rw [val_main_v30_apply]; pointwise [val_main_cst_2]
theorem r34 : val_main_v34 (F := Ideal) (ix2 g p) = 1 := by
  rw [val_main_v34_apply]; pointwise [val_main_cst_3]
theorem r40 : val_main_v40 (F := Ideal) (ix2 g p) = 1 := by
  rw [val_main_v40_apply]; pointwise [val_main_cst_4]
theorem r53 : val_main_v53 (F := Ideal) x8 (ix3 g p h) = x8 (ix3 g p h) := by
  rw [val_main_v53_apply]; exact congrArg x8 (by blk_ext)
theorem r54 : val_main_v54 (F := Ideal) x8 (ix3 g p h) = x8 (ix3 g p h) := by
  rw [val_main_v54_apply]; exact congrArg x8 (by blk_ext)
theorem r65 : val_main_v65 (F := Ideal) x7 (ix3 g p h) = x7 (ix3 g p h) := by
  rw [val_main_v65_apply]; exact congrArg x7 (by blk_ext)
theorem r66 : val_main_v66 (F := Ideal) x7 (ix3 g p h) = -x7 (ix3 g p h) := rfl
theorem r57 : val_main_v57 (F := Ideal) x3 x8 (ix3 g p h) = x8 (ix3 g p h) * x3 (ix4 0 g p h) := congrArg₂ (fun a b : EReal => a * b) (r54 x0 x1 x2 x3 x4 x5 x6 x7 x8 g p h) (r7 x0 x1 x2 x3 x4 x5 x6 x7 x8 g p h)
theorem r62 : val_main_v62 (F := Ideal) x4 x8 (ix3 g p h) = x8 (ix3 g p h) * x4 (ix4 0 g p h) := congrArg₂ (fun a b : EReal => a * b) (r53 x0 x1 x2 x3 x4 x5 x6 x7 x8 g p h) (r8 x0 x1 x2 x3 x4 x5 x6 x7 x8 g p h)
theorem r70 : val_main_v70 (F := Ideal) x4 x7 (ix3 g p h) = -x7 (ix3 g p h) * x4 (ix4 0 g p h) := congrArg₂ (fun a b : EReal => a * b) (r66 x0 x1 x2 x3 x4 x5 x6 x7 x8 g p h) (r8 x0 x1 x2 x3 x4 x5 x6 x7 x8 g p h)
theorem r77 : val_main_v77 (F := Ideal) x3 x7 (ix3 g p h) = x7 (ix3 g p h) * x3 (ix4 0 g p h) := congrArg₂ (fun a b : EReal => a * b) (r65 x0 x1 x2 x3 x4 x5 x6 x7 x8 g p h) (r7 x0 x1 x2 x3 x4 x5 x6 x7 x8 g p h)
theorem r58 : val_main_v58 (F := Ideal) x3 x8 (ix2 g p) = ∑ h : Fin 16, x8 (ix3 g p h) * x3 (ix4 0 g p h) := by
  rw [val_main_v58_apply]
  rw [show val_main_cst_5 (F := Ideal) (Shape.Idx.first h_S_) = 0 by pointwise [val_main_cst_5]]
  exact (zero_add _).trans (Finset.sum_congr rfl fun h _ => (congrArg _ (show idx_main_v58 (ix2 g p) h = ix3 g p h by blk_ext)).trans (r57 x0 x1 x2 x3 x4 x5 x6 x7 x8 g p h))
theorem r63 : val_main_v63 (F := Ideal) x4 x8 (ix2 g p) = ∑ h : Fin 16, x8 (ix3 g p h) * x4 (ix4 0 g p h) := by
  rw [val_main_v63_apply]
  rw [show val_main_cst_6 (F := Ideal) (Shape.Idx.first h_S_) = 0 by pointwise [val_main_cst_6]]
  exact (zero_add _).trans (Finset.sum_congr rfl fun h _ => (congrArg _ (show idx_main_v63 (ix2 g p) h = ix3 g p h by blk_ext)).trans (r62 x0 x1 x2 x3 x4 x5 x6 x7 x8 g p h))
theorem r71 : val_main_v71 (F := Ideal) x4 x7 (ix2 g p) = ∑ h : Fin 16, -x7 (ix3 g p h) * x4 (ix4 0 g p h) := by
  rw [val_main_v71_apply]
  rw [show val_main_cst_7 (F := Ideal) (Shape.Idx.first h_S_) = 0 by pointwise [val_main_cst_7]]
  exact (zero_add _).trans (Finset.sum_congr rfl fun h _ => (congrArg _ (show idx_main_v71 (ix2 g p) h = ix3 g p h by blk_ext)).trans (r70 x0 x1 x2 x3 x4 x5 x6 x7 x8 g p h))
theorem r78 : val_main_v78 (F := Ideal) x3 x7 (ix2 g p) = ∑ h : Fin 16, x7 (ix3 g p h) * x3 (ix4 0 g p h) := by
  rw [val_main_v78_apply]
  rw [show val_main_cst_8 (F := Ideal) (Shape.Idx.first h_S_) = 0 by pointwise [val_main_cst_8]]
  exact (zero_add _).trans (Finset.sum_congr rfl fun h _ => (congrArg _ (show idx_main_v78 (ix2 g p) h = ix3 g p h by blk_ext)).trans (r77 x0 x1 x2 x3 x4 x5 x6 x7 x8 g p h))
theorem r59 : val_main_v59 (F := Ideal) x3 x8 (ix3 g p 0) = ∑ h : Fin 16, x8 (ix3 g p h) * x3 (ix4 0 g p h) := by
  rw [val_main_v59_apply]
  exact (congrArg _ (show idx_main_v59 (ix3 g p 0) = ix2 g p by blk_ext)).trans (r58 x0 x1 x2 x3 x4 x5 x6 x7 x8 g p h)
theorem r72 : val_main_v72 (F := Ideal) x4 x7 (ix3 g p 0) = ∑ h : Fin 16, -x7 (ix3 g p h) * x4 (ix4 0 g p h) := by
  rw [val_main_v72_apply]
  exact (congrArg _ (show idx_main_v72 (ix3 g p 0) = ix2 g p by blk_ext)).trans (r71 x0 x1 x2 x3 x4 x5 x6 x7 x8 g p h)
theorem r64 : val_main_v64 (F := Ideal) x4 x8 (ix3 g p 0) = ∑ h : Fin 16, x8 (ix3 g p h) * x4 (ix4 0 g p h) := by
  rw [val_main_v64_apply]
  exact (congrArg _ (show idx_main_v64 (ix3 g p 0) = ix2 g p by blk_ext)).trans (r63 x0 x1 x2 x3 x4 x5 x6 x7 x8 g p h)
theorem r79 : val_main_v79 (F := Ideal) x3 x7 (ix3 g p 0) = ∑ h : Fin 16, x7 (ix3 g p h) * x3 (ix4 0 g p h) := by
  rw [val_main_v79_apply]
  exact (congrArg _ (show idx_main_v79 (ix3 g p 0) = ix2 g p by blk_ext)).trans (r78 x0 x1 x2 x3 x4 x5 x6 x7 x8 g p h)
theorem r81 : val_main_v81 (F := Ideal) x3 x4 x7 x8 (ix2 g p) = (rst x0 x1 x2 x3 x4 x5 x6 x7 x8 g p).dqi := by
  rw [val_main_v81_apply]
  rw [show val_main_cst_9 (F := Ideal) (Shape.Idx.first h_S_) = 0 by pointwise [val_main_cst_9]]
  refine (zero_add _).trans (Eq.trans (Fin.sum_univ_one _) ((congrArg _ (show idx_main_v81 (ix2 g p) 0 = ix3 g p 0 by blk_ext)).trans ?_))
  exact congrArg₂ (fun a b : EReal => a + b) (r59 x0 x1 x2 x3 x4 x5 x6 x7 x8 g p h) (r72 x0 x1 x2 x3 x4 x5 x6 x7 x8 g p h)
theorem r93 : val_main_v93 (F := Ideal) x3 x4 x7 x8 (ix2 g p) = (rst x0 x1 x2 x3 x4 x5 x6 x7 x8 g p).dqr := by
  rw [val_main_v93_apply]
  rw [show val_main_cst_10 (F := Ideal) (Shape.Idx.first h_S_) = 0 by pointwise [val_main_cst_10]]
  refine (zero_add _).trans (Eq.trans (Fin.sum_univ_one _) ((congrArg _ (show idx_main_v93 (ix2 g p) 0 = ix3 g p 0 by blk_ext)).trans ?_))
  exact congrArg₂ (fun a b : EReal => a + b) (r64 x0 x1 x2 x3 x4 x5 x6 x7 x8 g p h) (r79 x0 x1 x2 x3 x4 x5 x6 x7 x8 g p h)
theorem r9 : val_main_v9 (F := Ideal) x2 (ix2 g p) = (rst x0 x1 x2 x3 x4 x5 x6 x7 x8 g p).dt := congrArg (fun a : EReal => Ideal.exp a) (r2 x0 x1 x2 x3 x4 x5 x6 x7 x8 g p h)
theorem r10 : val_main_v10 (F := Ideal) x0 x2 (ix2 g p) = (rst x0 x1 x2 x3 x4 x5 x6 x7 x8 g p).lr * (rst x0 x1 x2 x3 x4 x5 x6 x7 x8 g p).dt := congrArg₂ (fun a b : EReal => a * b) (r5 x0 x1 x2 x3 x4 x5 x6 x7 x8 g p h) (r9 x0 x1 x2 x3 x4 x5 x6 x7 x8 g p h)
theorem r11 : val_main_v11 (F := Ideal) x0 x2 (ix2 g p) = (rst x0 x1 x2 x3 x4 x5 x6 x7 x8 g p).mag := congrArg (fun a : EReal => Ideal.exp a) (r10 x0 x1 x2 x3 x4 x5 x6 x7 x8 g p h)
theorem r16 : val_main_v16 (F := Ideal) x1 x2 (ix2 g p) = (rst x0 x1 x2 x3 x4 x5 x6 x7 x8 g p).li * (rst x0 x1 x2 x3 x4 x5 x6 x7 x8 g p).dt := congrArg₂ (fun a b : EReal => a * b) (r6 x0 x1 x2 x3 x4 x5 x6 x7 x8 g p h) (r9 x0 x1 x2 x3 x4 x5 x6 x7 x8 g p h)
theorem r17 : val_main_v17 (F := Ideal) x1 x2 (ix2 g p) = (rst x0 x1 x2 x3 x4 x5 x6 x7 x8 g p).si := congrArg (fun a : EReal => Ideal.sin a) (r16 x0 x1 x2 x3 x4 x5 x6 x7 x8 g p h)
theorem r19 : val_main_v19 (F := Ideal) x0 x1 x2 (ix2 g p) = (rst x0 x1 x2 x3 x4 x5 x6 x7 x8 g p).ni := congrArg₂ (fun a b : EReal => a * b) (r11 x0 x1 x2 x3 x4 x5 x6 x7 x8 g p h) (r17 x0 x1 x2 x3 x4 x5 x6 x7 x8 g p h)
theorem r20 : val_main_v20 (F := Ideal) x0 (ix2 g p) = (rst x0 x1 x2 x3 x4 x5 x6 x7 x8 g p).lr * (rst x0 x1 x2 x3 x4 x5 x6 x7 x8 g p).lr := congrArg₂ (fun a b : EReal => a * b) (r5 x0 x1 x2 x3 x4 x5 x6 x7 x8 g p h) (r5 x0 x1 x2 x3 x4 x5 x6 x7 x8 g p h)
theorem r21 : val_main_v21 (F := Ideal) x1 (ix2 g p) = (rst x0 x1 x2 x3 x4 x5 x6 x7 x8 g p).li * (rst x0 x1 x2 x3 x4 x5 x6 x7 x8 g p).li := congrArg₂ (fun a b : EReal => a * b) (r6 x0 x1 x2 x3 x4 x5 x6 x7 x8 g p h) (r6 x0 x1 x2 x3 x4 x5 x6 x7 x8 g p h)
theorem r22 : val_main_v22 (F := Ideal) x0 x1 (ix2 g p) = (rst x0 x1 x2 x3 x4 x5 x6 x7 x8 g p).den := congrArg₂ (fun a b : EReal => a + b) (r20 x0 x1 x2 x3 x4 x5 x6 x7 x8 g p h) (r21 x0 x1 x2 x3 x4 x5 x6 x7 x8 g p h)
theorem r85 : val_main_v85 (F := Ideal) x0 x1 x3 x4 x7 x8 (ix2 g p) = (rst x0 x1 x2 x3 x4 x5 x6 x7 x8 g p).ei := congrArg₂ (fun a b : EReal => Ideal.div a b) (r81 x0 x1 x2 x3 x4 x5 x6 x7 x8 g p h) (r22 x0 x1 x2 x3 x4 x5 x6 x7 x8 g p h)
theorem r90 : val_main_v90 (F := Ideal) x0 x1 x2 x3 x4 x7 x8 (ix2 g p) = (rst x0 x1 x2 x3 x4 x5 x6 x7 x8 g p).ni * (rst x0 x1 x2 x3 x4 x5 x6 x7 x8 g p).ei := congrArg₂ (fun a b : EReal => a * b) (r19 x0 x1 x2 x3 x4 x5 x6 x7 x8 g p h) (r85 x0 x1 x2 x3 x4 x5 x6 x7 x8 g p h)
theorem r12 : val_main_v12 (F := Ideal) x1 x2 (ix2 g p) = (rst x0 x1 x2 x3 x4 x5 x6 x7 x8 g p).li * (rst x0 x1 x2 x3 x4 x5 x6 x7 x8 g p).dt := congrArg₂ (fun a b : EReal => a * b) (r6 x0 x1 x2 x3 x4 x5 x6 x7 x8 g p h) (r9 x0 x1 x2 x3 x4 x5 x6 x7 x8 g p h)
theorem r13 : val_main_v13 (F := Ideal) x1 x2 (ix2 g p) = (rst x0 x1 x2 x3 x4 x5 x6 x7 x8 g p).co := congrArg (fun a : EReal => Ideal.cos a) (r12 x0 x1 x2 x3 x4 x5 x6 x7 x8 g p h)
theorem r15 : val_main_v15 (F := Ideal) x0 x1 x2 (ix2 g p) = (rst x0 x1 x2 x3 x4 x5 x6 x7 x8 g p).mag * (rst x0 x1 x2 x3 x4 x5 x6 x7 x8 g p).co := congrArg₂ (fun a b : EReal => a * b) (r11 x0 x1 x2 x3 x4 x5 x6 x7 x8 g p h) (r13 x0 x1 x2 x3 x4 x5 x6 x7 x8 g p h)
theorem r24 : val_main_v24 (F := Ideal) x0 x1 x2 (ix2 g p) = (rst x0 x1 x2 x3 x4 x5 x6 x7 x8 g p).nr := congrArg₂ (fun a b : EReal => a - b) (r15 x0 x1 x2 x3 x4 x5 x6 x7 x8 g p h) (r23 x0 x1 x2 x3 x4 x5 x6 x7 x8 g p h)
theorem r98 : val_main_v98 (F := Ideal) x0 x1 x3 x4 x7 x8 (ix2 g p) = (rst x0 x1 x2 x3 x4 x5 x6 x7 x8 g p).er := congrArg₂ (fun a b : EReal => Ideal.div a b) (r93 x0 x1 x2 x3 x4 x5 x6 x7 x8 g p h) (r22 x0 x1 x2 x3 x4 x5 x6 x7 x8 g p h)
theorem r103 : val_main_v103 (F := Ideal) x0 x1 x2 x3 x4 x7 x8 (ix2 g p) = (rst x0 x1 x2 x3 x4 x5 x6 x7 x8 g p).nr * (rst x0 x1 x2 x3 x4 x5 x6 x7 x8 g p).er := congrArg₂ (fun a b : EReal => a * b) (r24 x0 x1 x2 x3 x4 x5 x6 x7 x8 g p h) (r98 x0 x1 x2 x3 x4 x5 x6 x7 x8 g p h)
theorem r104 : val_main_v104 (F := Ideal) x0 x1 x2 x3 x4 x7 x8 (ix2 g p) = ((rst x0 x1 x2 x3 x4 x5 x6 x7 x8 g p).ni * (rst x0 x1 x2 x3 x4 x5 x6 x7 x8 g p).ei) + ((rst x0 x1 x2 x3 x4 x5 x6 x7 x8 g p).nr * (rst x0 x1 x2 x3 x4 x5 x6 x7 x8 g p).er) := congrArg₂ (fun a b : EReal => a + b) (r90 x0 x1 x2 x3 x4 x5 x6 x7 x8 g p h) (r103 x0 x1 x2 x3 x4 x5 x6 x7 x8 g p h)
theorem r39 : val_main_v39 (F := Ideal) x0 x1 (ix2 g p) = (rst x0 x1 x2 x3 x4 x5 x6 x7 x8 g p).den * (rst x0 x1 x2 x3 x4 x5 x6 x7 x8 g p).den := congrArg₂ (fun a b : EReal => a * b) (r22 x0 x1 x2 x3 x4 x5 x6 x7 x8 g p h) (r22 x0 x1 x2 x3 x4 x5 x6 x7 x8 g p h)
theorem r41 : val_main_v41 (F := Ideal) x0 x1 (ix2 g p) = (rst x0 x1 x2 x3 x4 x5 x6 x7 x8 g p).inv2 := congrArg₂ (fun a b : EReal => Ideal.div a b) (r40 x0 x1 x2 x3 x4 x5 x6 x7 x8 g p h) (r39 x0 x1 x2 x3 x4 x5 x6 x7 x8 g p h)
theorem r82 : val_main_v82 (F := Ideal) x0 x1 x3 x4 x7 x8 (ix2 g p) = (rst x0 x1 x2 x3 x4 x5 x6 x7 x8 g p).dqi * (rst x0 x1 x2 x3 x4 x5 x6 x7 x8 g p).inv2 := congrArg₂ (fun a b : EReal => a * b) (r81 x0 x1 x2 x3 x4 x5 x6 x7 x8 g p h) (r41 x0 x1 x2 x3 x4 x5 x6 x7 x8 g p h)
theorem r33 : val_main_v33 (F := Ideal) x0 x1 x2 (ix2 g p) = (rst x0 x1 x2 x3 x4 x5 x6 x7 x8 g p).ni * (rst x0 x1 x2 x3 x4 x5 x6 x7 x8 g p).lr := congrArg₂ (fun a b : EReal => a * b) (r19 x0 x1 x2 x3 x4 x5 x6 x7 x8 g p h) (r5 x0 x1 x2 x3 x4 x5 x6 x7 x8 g p h)
theorem r35 : val_main_v35 (F := Ideal) x0 x1 x2 (ix2 g p) = (rst x0 x1 x2 x3 x4 x5 x6 x7 x8 g p).nr := congrArg₂ (fun a b : EReal => a - b) (r15 x0 x1 x2 x3 x4 x5 x6 x7 x8 g p h) (r34 x0 x1 x2 x3 x4 x5 x6 x7 x8 g p h)
theorem r36 : val_main_v36 (F := Ideal) x0 x1 x2 (ix2 g p) = (rst x0 x1 x2 x3 x4 x5 x6 x7 x8 g p).nr * (rst x0 x1 x2 x3 x4 x5 x6 x7 x8 g p).li := congrArg₂ (fun a b : EReal => a * b) (r35 x0 x1 x2 x3 x4 x5 x6 x7 x8 g p h) (r6 x0 x1 x2 x3 x4 x5 x6 x7 x8 g p h)
theorem r37 : val_main_v37 (F := Ideal) x0 x1 x2 (ix2 g p) = (rst x0 x1 x2 x3 x4 x5 x6 x7 x8 g p).pi := congrArg₂ (fun a b : EReal => a - b) (r33 x0 x1 x2 x3 x4 x5 x6 x7 x8 g p h) (r36 x0 x1 x2 x3 x4 x5 x6 x7 x8 g p h)
theorem r83 : val_main_v83 (F := Ideal) x0 x1 x2 x3 x4 x7 x8 (ix2 g p) = ((rst x0 x1 x2 x3 x4 x5 x6 x7 x8 g p).dqi * (rst x0 x1 x2 x3 x4 x5 x6 x7 x8 g p).inv2) * (rst x0 x1 x2 x3 x4 x5 x6 x7 x8 g p).pi := congrArg₂ (fun a b : EReal => a * b) (r82 x0 x1 x2 x3 x4 x5 x6 x7 x8 g p h) (r37 x0 x1 x2 x3 x4 x5 x6 x7 x8 g p h)
theorem r84 : val_main_v84 (F := Ideal) x0 x1 x2 x3 x4 x7 x8 (ix2 g p) = -(((rst x0 x1 x2 x3 x4 x5 x6 x7 x8 g p).dqi * (rst x0 x1 x2 x3 x4 x5 x6 x7 x8 g p).inv2) * (rst x0 x1 x2 x3 x4 x5 x6 x7 x8 g p).pi) := congrArg (fun a : EReal => -a) (r83 x0 x1 x2 x3 x4 x5 x6 x7 x8 g p h)
theorem r29 : val_main_v29 (F := Ideal) x0 x1 (ix2 g p) = (rst x0 x1 x2 x3 x4 x5 x6 x7 x8 g p).den * (rst x0 x1 x2 x3 x4 x5 x6 x7 x8 g p).den := congrArg₂ (fun a b : EReal => a * b) (r22 x0 x1 x2 x3 x4 x5 x6 x7 x8 g p h) (r22 x0 x1 x2 x3 x4 x5 x6 x7 x8 g p h)
theorem r31 : val_main_v31 (F := Ideal) x0 x1 (ix2 g p) = (rst x0 x1 x2 x3 x4 x5 x6 x7 x8 g p).inv2 := congrArg₂ (fun a b : EReal => Ideal.div a b) (r30 x0 x1 x2 x3 x4 x5 x6 x7 x8 g p h) (r29 x0 x1 x2 x3 x4 x5 x6 x7 x8 g p h)
theorem r94 : val_main_v94 (F := Ideal) x0 x1 x3 x4 x7 x8 (ix2 g p) = (rst x0 x1 x2 x3 x4 x5 x6 x7 x8 g p).dqr * (rst x0 x1 x2 x3 x4 x5 x6 x7 x8 g p).inv2 := congrArg₂ (fun a b : EReal => a * b) (r93 x0 x1 x2 x3 x4 x5 x6 x7 x8 g p h) (r31 x0 x1 x2 x3 x4 x5 x6 x7 x8 g p h)
theorem r25 : val_main_v25 (F := Ideal) x0 x1 x2 (ix2 g p) = (rst x0 x1 x2 x3 x4 x5 x6 x7 x8 g p).nr * (rst x0 x1 x2 x3 x4 x5 x6 x7 x8 g p).lr := congrArg₂ (fun a b : EReal => a * b) (r24 x0 x1 x2 x3 x4 x5 x6 x7 x8 g p h) (r5 x0 x1 x2 x3 x4 x5 x6 x7 x8 g p h)
theorem r26 : val_main_v26 (F := Ideal) x0 x1 x2 (ix2 g p) = (rst x0 x1 x2 x3 x4 x5 x6 x7 x8 g p).ni * (rst x0 x1 x2 x3 x4 x5 x6 x7 x8 g p).li := congrArg₂ (fun a b : EReal => a * b) (r19 x0 x1 x2 x3 x4 x5 x6 x7 x8 g p h) (r6 x0 x1 x2 x3 x4 x5 x6 x7 x8 g p h)
theorem r27 : val_main_v27 (F := Ideal) x0 x1 x2 (ix2 g p) = (rst x0 x1 x2 x3 x4 x5 x6 x7 x8 g p).pr := congrArg₂ (fun a b : EReal => a + b) (r25 x0 x1 x2 x3 x4 x5 x6 x7 x8 g p h) (r26 x0 x1 x2 x3 x4 x5 x6 x7 x8 g p h)
theorem r95 : val_main_v95 (F := Ideal) x0 x1 x2 x3 x4 x7 x8 (ix2 g p) = ((rst x0 x1 x2 x3 x4 x5 x6 x7 x8 g p).dqr * (rst x0 x1 x2 x3 x4 x5 x6 x7 x8 g p).inv2) * (rst x0 x1 x2 x3 x4 x5 x6 x7 x8 g p).pr := congrArg₂ (fun a b : EReal => a * b) (r94 x0 x1 x2 x3 x4 x5 x6 x7 x8 g p h) (r27 x0 x1 x2 x3 x4 x5 x6 x7 x8 g p h)
theorem r96 : val_main_v96 (F := Ideal) x0 x1 x2 x3 x4 x7 x8 (ix2 g p) = -(((rst x0 x1 x2 x3 x4 x5 x6 x7 x8 g p).dqr * (rst x0 x1 x2 x3 x4 x5 x6 x7 x8 g p).inv2) * (rst x0 x1 x2 x3 x4 x5 x6 x7 x8 g p).pr) := congrArg (fun a : EReal => -a) (r95 x0 x1 x2 x3 x4 x5 x6 x7 x8 g p h)
theorem r97 : val_main_v97 (F := Ideal) x0 x1 x2 x3 x4 x7 x8 (ix2 g p) = (rst x0 x1 x2 x3 x4 x5 x6 x7 x8 g p).dden := congrArg₂ (fun a b : EReal => a + b) (r84 x0 x1 x2 x3 x4 x5 x6 x7 x8 g p h) (r96 x0 x1 x2 x3 x4 x5 x6 x7 x8 g p h)
theorem r111 : val_main_v111 (F := Ideal) x0 x1 x2 x3 x4 x7 x8 (ix2 g p) = (rst x0 x1 x2 x3 x4 x5 x6 x7 x8 g p).lr * (rst x0 x1 x2 x3 x4 x5 x6 x7 x8 g p).dden := congrArg₂ (fun a b : EReal => a * b) (r5 x0 x1 x2 x3 x4 x5 x6 x7 x8 g p h) (r97 x0 x1 x2 x3 x4 x5 x6 x7 x8 g p h)
theorem r112 : val_main_v112 (F := Ideal) x0 x1 x2 x3 x4 x7 x8 (ix2 g p) = (((rst x0 x1 x2 x3 x4 x5 x6 x7 x8 g p).ni * (rst x0 x1 x2 x3 x4 x5 x6 x7 x8 g p).ei) + ((rst x0 x1 x2 x3 x4 x5 x6 x7 x8 g p).nr * (rst x0 x1 x2 x3 x4 x5 x6 x7 x8 g p).er)) + ((rst x0 x1 x2 x3 x4 x5 x6 x7 x8 g p).lr * (rst x0 x1 x2 x3 x4 x5 x6 x7 x8 g p).dden) := congrArg₂ (fun a b : EReal => a + b) (r104 x0 x1 x2 x3 x4 x5 x6 x7 x8 g p h) (r111 x0 x1 x2 x3 x4 x5 x6 x7 x8 g p h)
theorem r113 : val_main_v113 (F := Ideal) x0 x1 x2 x3 x4 x7 x8 (ix2 g p) = (rst x0 x1 x2 x3 x4 x5 x6 x7 x8 g p).dden * (rst x0 x1 x2 x3 x4 x5 x6 x7 x8 g p).lr := congrArg₂ (fun a b : EReal => a * b) (r97 x0 x1 x2 x3 x4 x5 x6 x7 x8 g p h) (r5 x0 x1 x2 x3 x4 x5 x6 x7 x8 g p h)
theorem r114 : val_main_v114 (F := Ideal) x0 x1 x2 x3 x4 x7 x8 (ix2 g p) = ((((rst x0 x1 x2 x3 x4 x5 x6 x7 x8 g p).ni * (rst x0 x1 x2 x3 x4 x5 x6 x7 x8 g p).ei) + ((rst x0 x1 x2 x3 x4 x5 x6 x7 x8 g p).nr * (rst x0 x1 x2 x3 x4 x5 x6 x7 x8 g p).er)) + ((rst x0 x1 x2 x3 x4 x5 x6 x7 x8 g p).lr * (rst x0 x1 x2 x3 x4 x5 x6 x7 x8 g p).dden)) + ((rst x0 x1 x2 x3 x4 x5 x6 x7 x8 g p).dden * (rst x0 x1 x2 x3 x4 x5 x6 x7 x8 g p).lr) := congrArg₂ (fun a b : EReal => a + b) (r112 x0 x1 x2 x3 x4 x5 x6 x7 x8 g p h) (r113 x0 x1 x2 x3 x4 x5 x6 x7 x8 g p h)
theorem r91 : val_main_v91 (F := Ideal) x0 x1 x3 x4 x7 x8 (ix2 g p) = (rst x0 x1 x2 x3 x4 x5 x6 x7 x8 g p).ei * (rst x0 x1 x2 x3 x4 x5 x6 x7 x8 g p).lr := congrArg₂ (fun a b : EReal => a * b) (r85 x0 x1 x2 x3 x4 x5 x6 x7 x8 g p h) (r5 x0 x1 x2 x3 x4 x5 x6 x7 x8 g p h)
theorem r92 : val_main_v92 (F := Ideal) x0 x1 x3 x4 x6 x7 x8 (ix2 g p) = (rst x0 x1 x2 x3 x4 x5 x6 x7 x8 g p).ai + ((rst x0 x1 x2 x3 x4 x5 x6 x7 x8 g p).ei * (rst x0 x1 x2 x3 x4 x5 x6 x7 x8 g p).lr) := congrArg₂ (fun a b : EReal => a + b) (r4 x0 x1 x2 x3 x4 x5 x6 x7 x8 g p h) (r91 x0 x1 x2 x3 x4 x5 x6 x7 x8 g p h)
theorem r101 : val_main_v101 (F := Ideal) x0 x1 x3 x4 x7 x8 (ix2 g p) = (rst x0 x1 x2 x3 x4 x5 x6 x7 x8 g p).er * (rst x0 x1 x2 x3 x4 x5 x6 x7 x8 g p).li := congrArg₂ (fun a b : EReal => a * b) (r98 x0 x1 x2 x3 x4 x5 x6 x7 x8 g p h) (r6 x0 x1 x2 x3 x4 x5 x6 x7 x8 g p h)
theorem r102 : val_main_v102 (F := Ideal) x0 x1 x3 x4 x6 x7 x8 (ix2 g p) = (rst x0 x1 x2 x3 x4 x5 x6 x7 x8 g p).di := congrArg₂ (fun a b : EReal => a + b) (r92 x0 x1 x2 x3 x4 x5 x6 x7 x8 g p h) (r101 x0 x1 x2 x3 x4 x5 x6 x7 x8 g p h)
theorem r116 : val_main_v116 (F := Ideal) x0 x1 x2 x3 x4 x6 x7 x8 (ix2 g p) = (rst x0 x1 x2 x3 x4 x5 x6 x7 x8 g p).di * (rst x0 x1 x2 x3 x4 x5 x6 x7 x8 g p).si := congrArg₂ (fun a b : EReal => a * b) (r102 x0 x1 x2 x3 x4 x5 x6 x7 x8 g p h) (r17 x0 x1 x2 x3 x4 x5 x6 x7 x8 g p h)
theorem r86 : val_main_v86 (F := Ideal) x0 x1 x3 x4 x7 x8 (ix2 g p) = -(rst x0 x1 x2 x3 x4 x5 x6 x7 x8 g p).ei := congrArg (fun a : EReal => -a) (r85 x0 x1 x2 x3 x4 x5 x6 x7 x8 g p h)
theorem r88 : val_main_v88 (F := Ideal) x0 x1 x3 x4 x7 x8 (ix2 g p) = (-(rst x0 x1 x2 x3 x4 x5 x6 x7 x8 g p).ei) * (rst x0 x1 x2 x3 x4 x5 x6 x7 x8 g p).li := congrArg₂ (fun a b : EReal => a * b) (r86 x0 x1 x2 x3 x4 x5 x6 x7 x8 g p h) (r6 x0 x1 x2 x3 x4 x5 x6 x7 x8 g p h)
theorem r89 : val_main_v89 (F := Ideal) x0 x1 x3 x4 x5 x7 x8 (ix2 g p) = (rst x0 x1 x2 x3 x4 x5 x6 x7 x8 g p).ar + ((-(rst x0 x1 x2 x3 x4 x5 x6 x7 x8 g p).ei) * (rst x0 x1 x2 x3 x4 x5 x6 x7 x8 g p).li) := congrArg₂ (fun a b : EReal => a + b) (r3 x0 x1 x2 x3 x4 x5 x6 x7 x8 g p h) (r88 x0 x1 x2 x3 x4 x5 x6 x7 x8 g p h)
theorem r105 : val_main_v105 (F := Ideal) x0 x1 x3 x4 x7 x8 (ix2 g p) = (rst x0 x1 x2 x3 x4 x5 x6 x7 x8 g p).er * (rst x0 x1 x2 x3 x4 x5 x6 x7 x8 g p).lr := congrArg₂ (fun a b : EReal => a * b) (r98 x0 x1 x2 x3 x4 x5 x6 x7 x8 g p h) (r5 x0 x1 x2 x3 x4 x5 x6 x7 x8 g p h)
theorem r106 : val_main_v106 (F := Ideal) x0 x1 x3 x4 x5 x7 x8 (ix2 g p) = (rst x0 x1 x2 x3 x4 x5 x6 x7 x8 g p).dr := congrArg₂ (fun a b : EReal => a + b) (r89 x0 x1 x2 x3 x4 x5 x6 x7 x8 g p h) (r105 x0 x1 x2 x3 x4 x5 x6 x7 x8 g p h)
theorem r122 : val_main_v122 (F := Ideal) x0 x1 x2 x3 x4 x5 x7 x8 (ix2 g p) = (rst x0 x1 x2 x3 x4 x5 x6 x7 x8 g p).dr * (rst x0 x1 x2 x3 x4 x5 x6 x7 x8 g p).co := congrArg₂ (fun a b : EReal => a * b) (r106 x0 x1 x2 x3 x4 x5 x6 x7 x8 g p h) (r13 x0 x1 x2 x3 x4 x5 x6 x7 x8 g p h)
theorem r123 : val_main_v123 (F := Ideal) x0 x1 x2 x3 x4 x5 x6 x7 x8 (ix2 g p) = ((rst x0 x1 x2 x3 x4 x5 x6 x7 x8 g p).di * (rst x0 x1 x2 x3 x4 x5 x6 x7 x8 g p).si) + ((rst x0 x1 x2 x3 x4 x5 x6 x7 x8 g p).dr * (rst x0 x1 x2 x3 x4 x5 x6 x7 x8 g p).co) := congrArg₂ (fun a b : EReal => a + b) (r116 x0 x1 x2 x3 x4 x5 x6 x7 x8 g p h) (r122 x0 x1 x2 x3 x4 x5 x6 x7 x8 g p h)
theorem r130 : val_main_v130 (F := Ideal) x0 x1 x2 x3 x4 x5 x6 x7 x8 (ix2 g p) = (rst x0 x1 x2 x3 x4 x5 x6 x7 x8 g p).tm := congrArg₂ (fun a b : EReal => a * b) (r123 x0 x1 x2 x3 x4 x5 x6 x7 x8 g p h) (r11 x0 x1 x2 x3 x4 x5 x6 x7 x8 g p h)
theorem r133 : val_main_v133 (F := Ideal) x0 x1 x2 x3 x4 x5 x6 x7 x8 (ix2 g p) = (rst x0 x1 x2 x3 x4 x5 x6 x7 x8 g p).tm * (rst x0 x1 x2 x3 x4 x5 x6 x7 x8 g p).dt := congrArg₂ (fun a b : EReal => a * b) (r130 x0 x1 x2 x3 x4 x5 x6 x7 x8 g p h) (r9 x0 x1 x2 x3 x4 x5 x6 x7 x8 g p h)
theorem r134 : val_main_v134 (F := Ideal) x0 x1 x2 x3 x4 x5 x6 x7 x8 (ix2 g p) = (rst x0 x1 x2 x3 x4 x5 x6 x7 x8 g p).glr := congrArg₂ (fun a b : EReal => a + b) (r114 x0 x1 x2 x3 x4 x5 x6 x7 x8 g p h) (r133 x0 x1 x2 x3 x4 x5 x6 x7 x8 g p h)
theorem r87 : val_main_v87 (F := Ideal) x0 x1 x2 x3 x4 x7 x8 (ix2 g p) = (rst x0 x1 x2 x3 x4 x5 x6 x7 x8 g p).nr * (-(rst x0 x1 x2 x3 x4 x5 x6 x7 x8 g p).ei) := congrArg₂ (fun a b : EReal => a * b) (r35 x0 x1 x2 x3 x4 x5 x6 x7 x8 g p h) (r86 x0 x1 x2 x3 x4 x5 x6 x7 x8 g p h)
theorem r99 : val_main_v99 (F := Ideal) x0 x1 x2 x3 x4 x7 x8 (ix2 g p) = (rst x0 x1 x2 x3 x4 x5 x6 x7 x8 g p).ni * (rst x0 x1 x2 x3 x4 x5 x6 x7 x8 g p).er := congrArg₂ (fun a b : EReal => a * b) (r19 x0 x1 x2 x3 x4 x5 x6 x7 x8 g p h) (r98 x0 x1 x2 x3 x4 x5 x6 x7 x8 g p h)
theorem r100 : val_main_v100 (F := Ideal) x0 x1 x2 x3 x4 x7 x8 (ix2 g p) = ((rst x0 x1 x2 x3 x4 x5 x6 x7 x8 g p).nr * (-(rst x0 x1 x2 x3 x4 x5 x6 x7 x8 g p).ei)) + ((rst x0 x1 x2 x3 x4 x5 x6 x7 x8 g p).ni * (rst x0 x1 x2 x3 x4 x5 x6 x7 x8 g p).er) := congrArg₂ (fun a b : EReal => a + b) (r87 x0 x1 x2 x3 x4 x5 x6 x7 x8 g p h) (r99 x0 x1 x2 x3 x4 x5 x6 x7 x8 g p h)
theorem r107 : val_main_v107 (F := Ideal) x0 x1 x2 x3 x4 x7 x8 (ix2 g p) = (rst x0 x1 x2 x3 x4 x5 x6 x7 x8 g p).li * (rst x0 x1 x2 x3 x4 x5 x6 x7 x8 g p).dden := congrArg₂ (fun a b : EReal => a * b) (r6 x0 x1 x2 x3 x4 x5 x6 x7 x8 g p h) (r97 x0 x1 x2 x3 x4 x5 x6 x7 x8 g p h)
theorem r108 : val_main_v108 (F := Ideal) x0 x1 x2 x3 x4 x7 x8 (ix2 g p) = (((rst x0 x1 x2 x3 x4 x5 x6 x7 x8 g p).nr * (-(rst x0 x1 x2 x3 x4 x5 x6 x7 x8 g p).ei)) + ((rst x0 x1 x2 x3 x4 x5 x6 x7 x8 g p).ni * (rst x0 x1 x2 x3 x4 x5 x6 x7 x8 g p).er)) + ((rst x0 x1 x2 x3 x4 x5 x6 x7 x8 g p).li * (rst x0 x1 x2 x3 x4 x5 x6 x7 x8 g p).dden) := congrArg₂ (fun a b : EReal => a + b) (r100 x0 x1 x2 x3 x4 x5 x6 x7 x8 g p h) (r107 x0 x1 x2 x3 x4 x5 x6 x7 x8 g p h)
theorem r109 : val_main_v109 (F := Ideal) x0 x1 x2 x3 x4 x7 x8 (ix2 g p) = (rst x0 x1 x2 x3 x4 x5 x6 x7 x8 g p).dden * (rst x0 x1 x2 x3 x4 x5 x6 x7 x8 g p).li := congrArg₂ (fun a b : EReal => a * b) (r97 x0 x1 x2 x3 x4 x5 x6 x7 x8 g p h) (r6 x0 x1 x2 x3 x4 x5 x6 x7 x8 g p h)
theorem r110 : val_main_v110 (F := Ideal) x0 x1 x2 x3 x4 x7 x8 (ix2 g p) = (rst x0 x1 x2 x3 x4 x5 x6 x7 x8 g p).gliHead := congrArg₂ (fun a b : EReal => a + b) (r108 x0 x1 x2 x3 x4 x5 x6 x7 x8 g p h) (r109 x0 x1 x2 x3 x4 x5 x6 x7 x8 g p h)
theorem r115 : val_main_v115 (F := Ideal) x0 x1 x2 x3 x4 x6 x7 x8 (ix2 g p) = (rst x0 x1 x2 x3 x4 x5 x6 x7 x8 g p).mag * (rst x0 x1 x2 x3 x4 x5 x6 x7 x8 g p).di := congrArg₂ (fun a b : EReal => a * b) (r11 x0 x1 x2 x3 x4 x5 x6 x7 x8 g p h) (r102 x0 x1 x2 x3 x4 x5 x6 x7 x8 g p h)
theorem r18 : val_main_v18 (F := Ideal) x1 x2 (ix2 g p) = (rst x0 x1 x2 x3 x4 x5 x6 x7 x8 g p).co := congrArg (fun a : EReal => Ideal.cos a) (r16 x0 x1 x2 x3 x4 x5 x6 x7 x8 g p h)
theorem r117 : val_main_v117 (F := Ideal) x0 x1 x2 x3 x4 x6 x7 x8 (ix2 g p) = (rst x0 x1 x2 x3 x4 x5 x6 x7 x8 g p).ta := congrArg₂ (fun a b : EReal => a * b) (r115 x0 x1 x2 x3 x4 x5 x6 x7 x8 g p h) (r18 x0 x1 x2 x3 x4 x5 x6 x7 x8 g p h)
theorem r119 : val_main_v119 (F := Ideal) x0 x1 x2 x3 x4 x6 x7 x8 (ix2 g p) = (rst x0 x1 x2 x3 x4 x5 x6 x7 x8 g p).ta * (rst x0 x1 x2 x3 x4 x5 x6 x7 x8 g p).dt := congrArg₂ (fun a b : EReal => a * b) (r117 x0 x1 x2 x3 x4 x5 x6 x7 x8 g p h) (r9 x0 x1 x2 x3 x4 x5 x6 x7 x8 g p h)
theorem r120 : val_main_v120 (F := Ideal) x0 x1 x2 x3 x4 x6 x7 x8 (ix2 g p) = (rst x0 x1 x2 x3 x4 x5 x6 x7 x8 g p).gliHead + ((rst x0 x1 x2 x3 x4 x5 x6 x7 x8 g p).ta * (rst x0 x1 x2 x3 x4 x5 x6 x7 x8 g p).dt) := congrArg₂ (fun a b : EReal => a + b) (r110 x0 x1 x2 x3 x4 x5 x6 x7 x8 g p h) (r119 x0 x1 x2 x3 x4 x5 x6 x7 x8 g p h)
theorem r121 : val_main_v121 (F := Ideal) x0 x1 x2 x3 x4 x5 x7 x8 (ix2 g p) = (rst x0 x1 x2 x3 x4 x5 x6 x7 x8 g p).mag * (rst x0 x1 x2 x3 x4 x5 x6 x7 x8 g p).dr := congrArg₂ (fun a b : EReal => a * b) (r11 x0 x1 x2 x3 x4 x5 x6 x7 x8 g p h) (r106 x0 x1 x2 x3 x4 x5 x6 x7 x8 g p h)
theorem r124 : val_main_v124 (F := Ideal) x0 x1 x2 x3 x4 x5 x7 x8 (ix2 g p) = -((rst x0 x1 x2 x3 x4 x5 x6 x7 x8 g p).mag * (rst x0 x1 x2 x3 x4 x5 x6 x7 x8 g p).dr) := congrArg (fun a : EReal => -a) (r121 x0 x1 x2 x3 x4 x5 x6 x7 x8 g p h)
theorem r14 : val_main_v14 (F := Ideal) x1 x2 (ix2 g p) = (rst x0 x1 x2 x3 x4 x5 x6 x7 x8 g p).si := congrArg (fun a : EReal => Ideal.sin a) (r12 x0 x1 x2 x3 x4 x5 x6 x7 x8 g p h)
theorem r125 : val_main_v125 (F := Ideal) x0 x1 x2 x3 x4 x5 x7 x8 (ix2 g p) = (rst x0 x1 x2 x3 x4 x5 x6 x7 x8 g p).tb := congrArg₂ (fun a b : EReal => a * b) (r124 x0 x1 x2 x3 x4 x5 x6 x7 x8 g p h) (r14 x0 x1 x2 x3 x4 x5 x6 x7 x8 g p h)
theorem r128 : val_main_v128 (F := Ideal) x0 x1 x2 x3 x4 x5 x7 x8 (ix2 g p) = (rst x0 x1 x2 x3 x4 x5 x6 x7 x8 g p).tb * (rst x0 x1 x2 x3 x4 x5 x6 x7 x8 g p).dt := congrArg₂ (fun a b : EReal => a * b) (r125 x0 x1 x2 x3 x4 x5 x6 x7 x8 g p h) (r9 x0 x1 x2 x3 x4 x5 x6 x7 x8 g p h)
theorem r129 : val_main_v129 (F := Ideal) x0 x1 x2 x3 x4 x5 x6 x7 x8 (ix2 g p) = (rst x0 x1 x2 x3 x4 x5 x6 x7 x8 g p).gli := congrArg₂ (fun a b : EReal => a + b) (r120 x0 x1 x2 x3 x4 x5 x6 x7 x8 g p h) (r128 x0 x1 x2 x3 x4 x5 x6 x7 x8 g p h)
theorem r118 : val_main_v118 (F := Ideal) x0 x1 x2 x3 x4 x6 x7 x8 (ix2 g p) = (rst x0 x1 x2 x3 x4 x5 x6 x7 x8 g p).li * (rst x0 x1 x2 x3 x4 x5 x6 x7 x8 g p).ta := congrArg₂ (fun a b : EReal => a * b) (r6 x0 x1 x2 x3 x4 x5 x6 x7 x8 g p h) (r117 x0 x1 x2 x3 x4 x5 x6 x7 x8 g p h)
theorem r126 : val_main_v126 (F := Ideal) x0 x1 x2 x3 x4 x5 x7 x8 (ix2 g p) = (rst x0 x1 x2 x3 x4 x5 x6 x7 x8 g p).li * (rst x0 x1 x2 x3 x4 x5 x6 x7 x8 g p).tb := congrArg₂ (fun a b : EReal => a * b) (r6 x0 x1 x2 x3 x4 x5 x6 x7 x8 g p h) (r125 x0 x1 x2 x3 x4 x5 x6 x7 x8 g p h)
theorem r127 : val_main_v127 (F := Ideal) x0 x1 x2 x3 x4 x5 x6 x7 x8 (ix2 g p) = ((rst x0 x1 x2 x3 x4 x5 x6 x7 x8 g p).li * (rst x0 x1 x2 x3 x4 x5 x6 x7 x8 g p).ta) + ((rst x0 x1 x2 x3 x4 x5 x6 x7 x8 g p).li * (rst x0 x1 x2 x3 x4 x5 x6 x7 x8 g p).tb) := congrArg₂ (fun a b : EReal => a + b) (r118 x0 x1 x2 x3 x4 x5 x6 x7 x8 g p h) (r126 x0 x1 x2 x3 x4 x5 x6 x7 x8 g p h)
theorem r131 : val_main_v131 (F := Ideal) x0 x1 x2 x3 x4 x5 x6 x7 x8 (ix2 g p) = (rst x0 x1 x2 x3 x4 x5 x6 x7 x8 g p).lr * (rst x0 x1 x2 x3 x4 x5 x6 x7 x8 g p).tm := congrArg₂ (fun a b : EReal => a * b) (r5 x0 x1 x2 x3 x4 x5 x6 x7 x8 g p h) (r130 x0 x1 x2 x3 x4 x5 x6 x7 x8 g p h)
theorem r132 : val_main_v132 (F := Ideal) x0 x1 x2 x3 x4 x5 x6 x7 x8 (ix2 g p) = (((rst x0 x1 x2 x3 x4 x5 x6 x7 x8 g p).li * (rst x0 x1 x2 x3 x4 x5 x6 x7 x8 g p).ta) + ((rst x0 x1 x2 x3 x4 x5 x6 x7 x8 g p).li * (rst x0 x1 x2 x3 x4 x5 x6 x7 x8 g p).tb)) + ((rst x0 x1 x2 x3 x4 x5 x6 x7 x8 g p).lr * (rst x0 x1 x2 x3 x4 x5 x6 x7 x8 g p).tm) := congrArg₂ (fun a b : EReal => a + b) (r127 x0 x1 x2 x3 x4 x5 x6 x7 x8 g p h) (r131 x0 x1 x2 x3 x4 x5 x6 x7 x8 g p h)
theorem r135 : val_main_v135 (F := Ideal) x0 x1 x2 x3 x4 x5 x6 x7 x8 (ix2 g p) = (rst x0 x1 x2 x3 x4 x5 x6 x7 x8 g p).gldt := congrArg₂ (fun a b : EReal => a * b) (r132 x0 x1 x2 x3 x4 x5 x6 x7 x8 g p h) (r9 x0 x1 x2 x3 x4 x5 x6 x7 x8 g p h)
theorem r28 : val_main_v28 (F := Ideal) x0 x1 x2 (ix2 g p) = Ideal.div (rst x0 x1 x2 x3 x4 x5 x6 x7 x8 g p).pr (rst x0 x1 x2 x3 x4 x5 x6 x7 x8 g p).den := congrArg₂ (fun a b : EReal => Ideal.div a b) (r27 x0 x1 x2 x3 x4 x5 x6 x7 x8 g p h) (r22 x0 x1 x2 x3 x4 x5 x6 x7 x8 g p h)
theorem r38 : val_main_v38 (F := Ideal) x0 x1 x2 (ix2 g p) = Ideal.div (rst x0 x1 x2 x3 x4 x5 x6 x7 x8 g p).pi (rst x0 x1 x2 x3 x4 x5 x6 x7 x8 g p).den := congrArg₂ (fun a b : EReal => Ideal.div a b) (r37 x0 x1 x2 x3 x4 x5 x6 x7 x8 g p h) (r22 x0 x1 x2 x3 x4 x5 x6 x7 x8 g p h)
theorem r32 : val_main_v32 (F := Ideal) x0 x1 x2 (ix3 g p 0) = Ideal.div (rst x0 x1 x2 x3 x4 x5 x6 x7 x8 g p).pr (rst x0 x1 x2 x3 x4 x5 x6 x7 x8 g p).den := by
  rw [val_main_v32_apply]
  exact (congrArg _ (show idx_main_v32 (ix3 g p 0) = ix2 g p by blk_ext)).trans (r28 x0 x1 x2 x3 x4 x5 x6 x7 x8 g p h)
theorem r42 : val_main_v42 (F := Ideal) x0 x1 x2 (ix3 g p 0) = Ideal.div (rst x0 x1 x2 x3 x4 x5 x6 x7 x8 g p).pi (rst x0 x1 x2 x3 x4 x5 x6 x7 x8 g p).den := by
  rw [val_main_v42_apply]
  exact (congrArg _ (show idx_main_v42 (ix3 g p 0) = ix2 g p by blk_ext)).trans (r38 x0 x1 x2 x3 x4 x5 x6 x7 x8 g p h)
theorem r55 : val_main_v55 (F := Ideal) x0 x1 x2 (ix3 g p h) = Ideal.div (rst x0 x1 x2 x3 x4 x5 x6 x7 x8 g p).pi (rst x0 x1 x2 x3 x4 x5 x6 x7 x8 g p).den := by
  rw [val_main_v55_apply]
  exact (congrArg _ (show idx_main_v55 (ix3 g p h) = ix3 g p 0 by blk_ext)).trans (r42 x0 x1 x2 x3 x4 x5 x6 x7 x8 g p h)
theorem r60 : val_main_v60 (F := Ideal) x0 x1 x2 (ix3 g p h) = Ideal.div (rst x0 x1 x2 x3 x4 x5 x6 x7 x8 g p).pr (rst x0 x1 x2 x3 x4 x5 x6 x7 x8 g p).den := by
  rw [val_main_v60_apply]
  exact (congrArg _ (show idx_main_v60 (ix3 g p h) = ix3 g p 0 by blk_ext)).trans (r32 x0 x1 x2 x3 x4 x5 x6 x7 x8 g p h)
theorem r67 : val_main_v67 (F := Ideal) x0 x1 x2 (ix3 g p h) = Ideal.div (rst x0 x1 x2 x3 x4 x5 x6 x7 x8 g p).pi (rst x0 x1 x2 x3 x4 x5 x6 x7 x8 g p).den := by
  rw [val_main_v67_apply]
  exact (congrArg _ (show idx_main_v67 (ix3 g p h) = ix3 g p 0 by blk_ext)).trans (r42 x0 x1 x2 x3 x4 x5 x6 x7 x8 g p h)
theorem r74 : val_main_v74 (F := Ideal) x0 x1 x2 (ix3 g p h) = Ideal.div (rst x0 x1 x2 x3 x4 x5 x6 x7 x8 g p).pr (rst x0 x1 x2 x3 x4 x5 x6 x7 x8 g p).den := by
  rw [val_main_v74_apply]
  exact (congrArg _ (show idx_main_v74 (ix3 g p h) = ix3 g p 0 by blk_ext)).trans (r32 x0 x1 x2 x3 x4 x5 x6 x7 x8 g p h)
theorem r76 : val_main_v76 (F := Ideal) x0 x1 x2 x7 x8 (ix3 g p h) = (rst x0 x1 x2 x3 x4 x5 x6 x7 x8 g p).gbr h := congrArg₂ (fun a b : EReal => a + b) (congrArg₂ (fun a b : EReal => a * b) (r55 x0 x1 x2 x3 x4 x5 x6 x7 x8 g p h) (r54 x0 x1 x2 x3 x4 x5 x6 x7 x8 g p h)) (congrArg₂ (fun a b : EReal => a * b) (r74 x0 x1 x2 x3 x4 x5 x6 x7 x8 g p h) (r65 x0 x1 x2 x3 x4 x5 x6 x7 x8 g p h))
theorem r69 : val_main_v69 (F := Ideal) x0 x1 x2 x7 x8 (ix3 g p h) = (rst x0 x1 x2 x3 x4 x5 x6 x7 x8 g p).gbi h := congrArg₂ (fun a b : EReal => a + b) (congrArg₂ (fun a b : EReal => a * b) (r60 x0 x1 x2 x3 x4 x5 x6 x7 x8 g p h) (r53 x0 x1 x2 x3 x4 x5 x6 x7 x8 g p h)) (congrArg₂ (fun a b : EReal => a * b) (r67 x0 x1 x2 x3 x4 x5 x6 x7 x8 g p h) (r66 x0 x1 x2 x3 x4 x5 x6 x7 x8 g p h))

/-! The five results. -/
theorem ref_glr : val_main_v136 (F := Ideal) x0 x1 x2 x3 x4 x5 x6 x7 x8 (ix2 0 (stt g p)) = (rst x0 x1 x2 x3 x4 x5 x6 x7 x8 g p).glr := by
  rw [val_main_v136_apply]
  exact (congrArg _ (show idx_main_v136 (ix2 0 (stt g p)) = ix2 g p by blk_ext)).trans (r134 x0 x1 x2 x3 x4 x5 x6 x7 x8 g p h)
theorem ref_gli : val_main_v137 (F := Ideal) x0 x1 x2 x3 x4 x5 x6 x7 x8 (ix2 0 (stt g p)) = (rst x0 x1 x2 x3 x4 x5 x6 x7 x8 g p).gli := by
  rw [val_main_v137_apply]
  exact (congrArg _ (show idx_main_v137 (ix2 0 (stt g p)) = ix2 g p by blk_ext)).trans (r129 x0 x1 x2 x3 x4 x5 x6 x7 x8 g p h)
theorem ref_gldt : val_main_v138 (F := Ideal) x0 x1 x2 x3 x4 x5 x6 x7 x8 (ix2 0 (stt g p)) = (rst x0 x1 x2 x3 x4 x5 x6 x7 x8 g p).gldt := by
  rw [val_main_v138_apply]
  exact (congrArg _ (show idx_main_v138 (ix2 0 (stt g p)) = ix2 g p by blk_ext)).trans (r135 x0 x1 x2 x3 x4 x5 x6 x7 x8 g p h)
theorem ref_gbr : val_main_v140 (F := Ideal) x0 x1 x2 x7 x8 (ix2 h (stt g p)) = (rst x0 x1 x2 x3 x4 x5 x6 x7 x8 g p).gbr h := by
  rw [val_main_v140_apply, val_main_v139_apply]
  exact (congrArg _ (show idx_main_v139 (idx_main_v140 (ix2 h (stt g p))) = ix3 g p h by blk_ext)).trans (r76 x0 x1 x2 x3 x4 x5 x6 x7 x8 g p h)
theorem ref_gbi : val_main_v142 (F := Ideal) x0 x1 x2 x7 x8 (ix2 h (stt g p)) = (rst x0 x1 x2 x3 x4 x5 x6 x7 x8 g p).gbi h := by
  rw [val_main_v142_apply, val_main_v141_apply]
  exact (congrArg _ (show idx_main_v141 (idx_main_v142 (ix2 h (stt g p))) = ix3 g p h by blk_ext)).trans (r69 x0 x1 x2 x3 x4 x5 x6 x7 x8 g p h)

end Cert.SsmParamMath.Ref

end
-- ==== Proof.SsmParamMath.Host.lean ====
/- The arrays that the host prepares for the kernel, and the kernel's sums over the examples. -/
module

public import proofs.«01_k».proof.Proof.SsmParamMath.Pay
public import proofs.«01_k».proof.Proof.SsmParamMath.Ref

@[expose] public section

set_option maxRecDepth 16384

noncomputable section

open Idealize.ShloMosaic Idealize.ShloMosaic.TcCoe Idealize.SL.Sem
open scoped BigOperators

namespace Cert.SsmParamMath

open Cert.SsmParamBwdIdeal Cert.SsmParamBwdIdeal.Gen
open Cert.Shared
open Ref (stt rst)

section sums
variable (x0 x1 x2 : Vec Ideal S1x2048 .f32) (x3 x4 : Vec Ideal S16x2048 .f32) (x5 : Vec Ideal S2x8x1024 .f32) (x6 x7 : Vec Ideal S16x2048 .f32)
  (x8 : Vec Ideal S8x256 .f32) (l : Fin 1024) (q : Fin 256) (b : Fin 4) (g : Fin 32) (p : Fin 64)

/-- The row of an example and a half, the lane of a state and of a channel in a half. -/
abbrev row (b : Fin 4) (g : Fin 32) : Fin 8 := ⟨2 * b.val + g.val / 16, by omega⟩
abbrev lane (g : Fin 32) (p : Fin 64) : Fin 1024 := ⟨g.val % 16 * 64 + p.val, by omega⟩

theorem re_lo : sumRe x5 (ix2 0 ⟨l.val, by omega⟩) = x5 (ix3 0 0 l) + x5 (ix3 0 2 l) + x5 (ix3 0 4 l) + x5 (ix3 0 6 l) := by
  pointwise [sumRe, k0_pay8, k0_pay2]
theorem re_hi : sumRe x5 (ix2 0 ⟨1024 + l.val, by omega⟩) = x5 (ix3 0 1 l) + x5 (ix3 0 3 l) + x5 (ix3 0 5 l) + x5 (ix3 0 7 l) := by
  pointwise [sumRe, k0_pay8, k0_pay7]
theorem im_lo : k0_pay53 x0 x1 x2 x3 x4 x5 x6 x7 x8 (ix2 0 ⟨l.val, by omega⟩) = x5 (ix3 1 0 l) + x5 (ix3 1 2 l) + x5 (ix3 1 4 l) + x5 (ix3 1 6 l) := by
  pointwise [k0_pay53, k0_pay9, k0_pay3]
theorem im_hi : k0_pay53 x0 x1 x2 x3 x4 x5 x6 x7 x8 (ix2 0 ⟨1024 + l.val, by omega⟩) = x5 (ix3 1 1 l) + x5 (ix3 1 3 l) + x5 (ix3 1 5 l) + x5 (ix3 1 7 l) := by
  pointwise [k0_pay53, k0_pay9, k0_pay5]
theorem whole24 (w : FVec Ideal S1x512 .f32) : View.canon (Val := Elt Ideal) (e := .f32) [⟨r0_24, w⟩] = w :=
  View.canon_unit_zero (by decide +kernel) _ _
theorem gd_lo : out0_14 x0 x1 x2 x3 x4 x5 x6 x7 x8 (ix2 0 ⟨q.val, by omega⟩) = x8 (ix2 0 q) + x8 (ix2 2 q) + x8 (ix2 4 q) + x8 (ix2 6 q) := by
  refine (congrFun (whole24 _) _).trans ?_
  pointwise [k0_pay10, k0_pay4, k0_pay1]
theorem gd_hi : out0_14 x0 x1 x2 x3 x4 x5 x6 x7 x8 (ix2 0 ⟨256 + q.val, by omega⟩) = x8 (ix2 1 q) + x8 (ix2 3 q) + x8 (ix2 5 q) + x8 (ix2 7 q) := by
  refine (congrFun (whole24 _) _).trans ?_
  pointwise [k0_pay10, k0_pay6]

theorem re_sum : sumRe x5 (ix2 0 (stt g p)) = ∑ b : Fin 4, x5 (ix3 0 (row b g) (lane g p)) := by
  rw [Fin.sum_univ_four]
  by_cases h : g.val < 16
  · rw [show ix2 0 (stt g p) = (ix2 0 ⟨(lane g p).val, by omega⟩ : S1x2048.Idx) by blk_ext, re_lo]
    have e : ∀ b : Fin 4, row b g = ⟨2 * b.val, by omega⟩ := fun b => Fin.ext (by show 2 * b.val + g.val / 16 = 2 * b.val; omega)
    simp only [e]; rfl
  · rw [show ix2 0 (stt g p) = (ix2 0 ⟨1024 + (lane g p).val, by omega⟩ : S1x2048.Idx) by blk_ext, re_hi]
    have e : ∀ b : Fin 4, row b g = ⟨2 * b.val + 1, by omega⟩ := fun b => Fin.ext (by show 2 * b.val + g.val / 16 = 2 * b.val + 1; omega)
    simp only [e]; rfl
theorem im_sum : k0_pay53 x0 x1 x2 x3 x4 x5 x6 x7 x8 (ix2 0 (stt g p)) = ∑ b : Fin 4, x5 (ix3 1 (row b g) (lane g p)) := by
  rw [Fin.sum_univ_four]
  by_cases h : g.val < 16
  · rw [show ix2 0 (stt g p) = (ix2 0 ⟨(lane g p).val, by omega⟩ : S1x2048.Idx) by blk_ext, im_lo]
    have e : ∀ b : Fin 4, row b g = ⟨2 * b.val, by omega⟩ := fun b => Fin.ext (by show 2 * b.val + g.val / 16 = 2 * b.val; omega)
    simp only [e]; rfl
  · rw [show ix2 0 (stt g p) = (ix2 0 ⟨1024 + (lane g p).val, by omega⟩ : S1x2048.Idx) by blk_ext, im_hi]
    have e : ∀ b : Fin 4, row b g = ⟨2 * b.val + 1, by omega⟩ := fun b => Fin.ext (by show 2 * b.val + g.val / 16 = 2 * b.val + 1; omega)
    simp only [e]; rfl
end sums

variable (m : (ℓ : Loc nD τ sig) → Buf (Elt Ideal) ℓ) (c : Dev nD)

/-- The kernel's arguments. -/
abbrev a0 : FVec Ideal S1x32x64 .f32 := m ((c : Thread nD τ).loc main_arg0)
abbrev a1 : FVec Ideal S1x32x64 .f32 := m ((c : Thread nD τ).loc main_arg1)
abbrev a2 : FVec Ideal S1x32 .f32 := m ((c : Thread nD τ).loc main_arg2)
abbrev a3 : FVec Ideal S1x32x64x16 .f32 := m ((c : Thread nD τ).loc main_arg3)
abbrev a4 : FVec Ideal S1x32x64x16 .f32 := m ((c : Thread nD τ).loc main_arg4)
abbrev a5 : FVec Ideal S4x32x64 .f32 := m ((c : Thread nD τ).loc main_arg5)
abbrev a6 : FVec Ideal S4x32x64 .f32 := m ((c : Thread nD τ).loc main_arg6)
abbrev a7 : FVec Ideal S32x64x16 .f32 := m ((c : Thread nD τ).loc main_arg7)
abbrev a8 : FVec Ideal S32x64x16 .f32 := m ((c : Thread nD τ).loc main_arg8)
abbrev a9 : FVec Ideal S4x512 .f32 := m ((c : Thread nD τ).loc main_arg9)

section host
variable (b : Fin 4) (g : Fin 32) (p : Fin 64) (h : Fin 16) (e : Fin 2) (q : Fin 256)

theorem h0 : V m c main_v1 (ix2 0 (stt g p)) = a0 m c (ix3 0 g p) := by
  unfold V; after_reads_at; exact congrArg (a0 m c) (by blk_ext)
theorem h1 : V m c main_v3 (ix2 0 (stt g p)) = a1 m c (ix3 0 g p) := by
  unfold V; after_reads_at; exact congrArg (a1 m c) (by blk_ext)
theorem h2 : V m c main_v7 (ix2 0 (stt g p)) = a2 m c (ix2 0 g) := by
  unfold V; after_reads_at; exact congrArg (a2 m c) (by blk_ext)
theorem h3 : V m c main_v10 (ix2 h (stt g p)) = a3 m c (ix4 0 g p h) := by
  unfold V; after_reads_at; exact congrArg (a3 m c) (by blk_ext)
theorem h4 : V m c main_v13 (ix2 h (stt g p)) = a4 m c (ix4 0 g p h) := by
  unfold V; after_reads_at; exact congrArg (a4 m c) (by blk_ext)
theorem h5r : V m c main_v18 (ix3 0 (row b g) (lane g p)) = a5 m c (ix3 b g p) := by
  unfold V; after_reads_at; exact congrArg (a5 m c) (by blk_ext)
theorem h5i : V m c main_v18 (ix3 1 (row b g) (lane g p)) = a6 m c (ix3 b g p) := by
  unfold V; after_reads_at; exact congrArg (a6 m c) (by blk_ext)
theorem h6 : V m c main_v20 (ix2 h (stt g p)) = a7 m c (ix3 g p h) := by
  unfold V; after_reads_at; exact congrArg (a7 m c) (by blk_ext)
theorem h7 : V m c main_v22 (ix2 h (stt g p)) = a8 m c (ix3 g p h) := by
  unfold V; after_reads_at; exact congrArg (a8 m c) (by blk_ext)
theorem h8 : V m c main_v23 (ix2 ⟨2 * b.val + e.val, by omega⟩ q) = a9 m c (ix2 b ⟨e.val * 256 + q.val, by omega⟩) := by
  unfold V; after_reads_at; exact congrArg (a9 m c) (by blk_ext)
end host

end Cert.SsmParamMath

end
-- ==== Proof.SsmParamMath.Final.lean ====
/- The kernel's six result arrays after the run. -/
module

public import proofs.«01_k».proof.Proof.SsmParamMath.Host

@[expose] public section

set_option maxRecDepth 16384

noncomputable section

open Idealize.ShloMosaic Idealize.ShloMosaic.TcCoe Idealize.SL.Sem
open Idealize.ShloMosaic.Pipeline (Dat)
open scoped BigOperators

namespace Cert.SsmParamMath

open Cert.SsmParamBwdIdeal Cert.SsmParamBwdIdeal.Gen
open Cert.Shared
open Ref (stt rst)

variable (m : (ℓ : Loc nD τ sig) → Buf (Elt Ideal) ℓ) (c : Dev nD)

section blocks
variable (t : Fin cfg0.N) (j : Fin 2048) (h : Fin 16) (k : Fin 2) (r : Fin 8) (l : Fin 1024) (q : Fin 256)

/-- Every window is a whole array, and stands at its start. -/
theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem rd0 : iblk m c 0 t (ix2 0 j) = V m c main_v1 (ix2 0 j) := by
  have e : ∀ X : (b : Ref sig .tc) → Buf (Elt Ideal) ((c : Thread nD τ).loc b),
      ((cfg0.win 0).blk t).view.read (Elt Ideal) (X (cfg0.win 0).arr.view.ref) (ix2 0 j) = X main_v1 (ix2 0 j) := by
    intro X; blk_simp; exact congrArg (X main_v1) (by blk_ext [idx0 t])
  exact e _
theorem rd1 : iblk m c 1 t (ix2 0 j) = V m c main_v3 (ix2 0 j) := by
  have e : ∀ X : (b : Ref sig .tc) → Buf (Elt Ideal) ((c : Thread nD τ).loc b),
      ((cfg0.win 1).blk t).view.read (Elt Ideal) (X (cfg0.win 1).arr.view.ref) (ix2 0 j) = X main_v3 (ix2 0 j) := by
    intro X; blk_simp; exact congrArg (X main_v3) (by blk_ext [idx1 t])
  exact e _
theorem rd2 : iblk m c 2 t (ix2 0 j) = V m c main_v7 (ix2 0 j) := by
  have e : ∀ X : (b : Ref sig .tc) → Buf (Elt Ideal) ((c : Thread nD τ).loc b),
      ((cfg0.win 2).blk t).view.read (Elt Ideal) (X (cfg0.win 2).arr.view.ref) (ix2 0 j) = X main_v7 (ix2 0 j) := by
    intro X; blk_simp; exact congrArg (X main_v7) (by blk_ext [idx2 t])
  exact e _
theorem rd3 : iblk m c 3 t (ix2 h j) = V m c main_v10 (ix2 h j) := by
  have e : ∀ X : (b : Ref sig .tc) → Buf (Elt Ideal) ((c : Thread nD τ).loc b),
      ((cfg0.win 3).blk t).view.read (Elt Ideal) (X (cfg0.win 3).arr.view.ref) (ix2 h j) = X main_v10 (ix2 h j) := by
    intro X; blk_simp; exact congrArg (X main_v10) (by blk_ext [idx3 t])
  exact e _
theorem rd4 : iblk m c 4 t (ix2 h j) = V m c main_v13 (ix2 h j) := by
  have e : ∀ X : (b : Ref sig .tc) → Buf (Elt Ideal) ((c : Thread nD τ).loc b),
      ((cfg0.win 4).blk t).view.read (Elt Ideal) (X (cfg0.win 4).arr.view.ref) (ix2 h j) = X main_v13 (ix2 h j) := by
    intro X; blk_simp; exact congrArg (X main_v13) (by blk_ext [idx4 t])
  exact e _
theorem rd5 : iblk m c 5 t (ix3 k r l) = V m c main_v18 (ix3 k r l) := by
  have e : ∀ X : (b : Ref sig .tc) → Buf (Elt Ideal) ((c : Thread nD τ).loc b),
      ((cfg0.win 5).blk t).view.read (Elt Ideal) (X (cfg0.win 5).arr.view.ref) (ix3 k r l) = X main_v18 (ix3 k r l) := by
    intro X; blk_simp; exact congrArg (X main_v18) (by blk_ext [idx5 t])
  exact e _
theorem rd6 : iblk m c 6 t (ix2 h j) = V m c main_v20 (ix2 h j) := by
  have e : ∀ X : (b : Ref sig .tc) → Buf (Elt Ideal) ((c : Thread nD τ).loc b),
      ((cfg0.win 6).blk t).view.read (Elt Ideal) (X (cfg0.win 6).arr.view.ref) (ix2 h j) = X main_v20 (ix2 h j) := by
    intro X; blk_simp; exact congrArg (X main_v20) (by blk_ext [idx6 t])
  exact e _
theorem rd7 : iblk m c 7 t (ix2 h j) = V m c main_v22 (ix2 h j) := by
  have e : ∀ X : (b : Ref sig .tc) → Buf (Elt Ideal) ((c : Thread nD τ).loc b),
      ((cfg0.win 7).blk t).view.read (Elt Ideal) (X (cfg0.win 7).arr.view.ref) (ix2 h j) = X main_v22 (ix2 h j) := by
    intro X; blk_simp; exact congrArg (X main_v22) (by blk_ext [idx7 t])
  exact e _
theorem rd8 : iblk m c 8 t (ix2 r q) = V m c main_v23 (ix2 r q) := by
  have e : ∀ X : (b : Ref sig .tc) → Buf (Elt Ideal) ((c : Thread nD τ).loc b),
      ((cfg0.win 8).blk t).view.read (Elt Ideal) (X (cfg0.win 8).arr.view.ref) (ix2 r q) = X main_v23 (ix2 r q) := by
    intro X; blk_simp; exact congrArg (X main_v23) (by blk_ext [idx8 t])
  exact e _
end blocks

/-- What the arguments hold at a state. -/
abbrev ast (g : Fin 32) (p : Fin 64) : St := rst (a0 m c) (a1 m c) (a2 m c) (a3 m c) (a4 m c) (a5 m c) (a6 m c) (a7 m c) (a8 m c) g p

theorem kst_eq (t : Fin cfg0.N) (g : Fin 32) (p : Fin 64) :
    kst (iblk m c 0 t) (iblk m c 1 t) (iblk m c 2 t) (iblk m c 3 t) (iblk m c 4 t) (iblk m c 5 t) (iblk m c 6 t) (iblk m c 7 t) (iblk m c 8 t) (stt g p)
      = ast m c g p := by
  have e : ∀ {s s' : St}, s.lr = s'.lr → s.li = s'.li → s.ldt = s'.ldt → s.ar = s'.ar → s.ai = s'.ai → s.br = s'.br → s.bi = s'.bi → s.cr = s'.cr →
      s.ci = s'.ci → s = s' := by
    rintro ⟨⟩ ⟨⟩; intros; simp_all
  have e0 : iblk m c 0 t (ix2 0 (stt g p)) = _ := (rd0 m c t (stt g p)).trans (h0 m c g p)
  have e1 : iblk m c 1 t (ix2 0 (stt g p)) = _ := (rd1 m c t (stt g p)).trans (h1 m c g p)
  have e2 : iblk m c 2 t (ix2 0 (stt g p)) = _ := (rd2 m c t (stt g p)).trans (h2 m c g p)
  have e3 := fun h => (rd3 m c t (stt g p) h).trans (h3 m c g p h)
  have e4 := fun h => (rd4 m c t (stt g p) h).trans (h4 m c g p h)
  have e6 := fun h => (rd6 m c t (stt g p) h).trans (h6 m c g p h)
  have e7 := fun h => (rd7 m c t (stt g p) h).trans (h7 m c g p h)
  have e5r : ∀ b : Fin 4, iblk m c 5 t (ix3 0 (row b g) (lane g p)) = a5 m c (ix3 b g p) := fun b => (rd5 m c t 0 (row b g) (lane g p)).trans (h5r m c b g p)
  have e5i : ∀ b : Fin 4, iblk m c 5 t (ix3 1 (row b g) (lane g p)) = a6 m c (ix3 b g p) := fun b => (rd5 m c t 1 (row b g) (lane g p)).trans (h5i m c b g p)
  refine e e0 e1 e2 ?_ ?_ (funext e3) (funext e4) (funext e6) (funext e7)
  · exact (re_sum (iblk m c 5 t) g p).trans (congrArg (fun f : Fin 4 → EReal => ∑ b, f b) (funext e5r))
  · exact (im_sum (iblk m c 0 t) (iblk m c 1 t) (iblk m c 2 t) (iblk m c 3 t) (iblk m c 4 t) (iblk m c 5 t) (iblk m c 6 t) (iblk m c 7 t) (iblk m c 8 t) g p).trans
      (congrArg (fun f : Fin 4 → EReal => ∑ b, f b) (funext e5i))

/-- The group and the number of a state. -/
abbrev sg (j : Fin 2048) : Fin 32 := ⟨j.val / 64, by omega⟩
abbrev sp (j : Fin 2048) : Fin 64 := ⟨j.val % 64, by omega⟩
theorem stt_eta (j : Fin 2048) : stt (sg j) (sp j) = j := Fin.ext (by show j.val / 64 * 64 + j.val % 64 = j.val; omega)

theorem kst_eta (t : Fin cfg0.N) (j : Fin 2048) : kst (iblk m c 0 t) (iblk m c 1 t) (iblk m c 2 t) (iblk m c 3 t) (iblk m c 4 t) (iblk m c 5 t) (iblk m c 6 t) (iblk m c 7 t) (iblk m c 8 t) j = ast m c (sg j) (sp j) :=
  (congrArg (kst (iblk m c 0 t) (iblk m c 1 t) (iblk m c 2 t) (iblk m c 3 t) (iblk m c 4 t) (iblk m c 5 t) (iblk m c 6 t) (iblk m c 7 t) (iblk m c 8 t)) (stt_eta j).symm).trans (kst_eq m c t _ _)

theorem final_9 : (dats m 0 c).arrAt 9 (cfgs 0).N = fun y : S1x2048.Idx => (ast m c (sg (y 1)) (sp (y 1))).glr := by
  refine (dats m 0 c).arrAt_eq_of_after_last 9 t0_0 (by decide +kernel) _ fun (y : S1x2048.Idx) => ?_
  blk_simp; rw [after0_9]
  have hy : y = ix2 0 (y 1) := by blk_ext
  exact (congrArg _ hy).trans ((out9 _ _ _ _ _ _ _ _ _ (y 1)).trans (congrArg (fun s => St.glr s) (kst_eta m c t0_0 (y 1))))
theorem final_10 : (dats m 0 c).arrAt 10 (cfgs 0).N = fun y : S1x2048.Idx => (ast m c (sg (y 1)) (sp (y 1))).gliK := by
  refine (dats m 0 c).arrAt_eq_of_after_last 10 t0_0 (by decide +kernel) _ fun (y : S1x2048.Idx) => ?_
  blk_simp; rw [after0_10]
  have hy : y = ix2 0 (y 1) := by blk_ext
  exact (congrArg _ hy).trans ((out10 _ _ _ _ _ _ _ _ _ (y 1)).trans (congrArg (fun s => St.gliK s) (kst_eta m c t0_0 (y 1))))
theorem final_11 : (dats m 0 c).arrAt 11 (cfgs 0).N = fun y : S1x2048.Idx => (ast m c (sg (y 1)) (sp (y 1))).gldtK := by
  refine (dats m 0 c).arrAt_eq_of_after_last 11 t0_0 (by decide +kernel) _ fun (y : S1x2048.Idx) => ?_
  blk_simp; rw [after0_11]
  have hy : y = ix2 0 (y 1) := by blk_ext
  exact (congrArg _ hy).trans ((out11 _ _ _ _ _ _ _ _ _ (y 1)).trans (congrArg (fun s => St.gldtK s) (kst_eta m c t0_0 (y 1))))
theorem final_12 : (dats m 0 c).arrAt 12 (cfgs 0).N = fun y : S16x2048.Idx => (ast m c (sg (y 1)) (sp (y 1))).gbr (y 0) := by
  refine (dats m 0 c).arrAt_eq_of_after_last 12 t0_0 (by decide +kernel) _ fun (y : S16x2048.Idx) => ?_
  blk_simp; rw [after0_12]
  have hy : y = ix2 (y 0) (y 1) := by blk_ext
  exact (congrArg _ hy).trans ((out12 _ _ _ _ _ _ _ _ _ (y 1) (y 0)).trans (congrArg (fun s => St.gbr s (y 0)) (kst_eta m c t0_0 (y 1))))
theorem final_13 : (dats m 0 c).arrAt 13 (cfgs 0).N = fun y : S16x2048.Idx => (ast m c (sg (y 1)) (sp (y 1))).gbi (y 0) := by
  refine (dats m 0 c).arrAt_eq_of_after_last 13 t0_0 (by decide +kernel) _ fun (y : S16x2048.Idx) => ?_
  blk_simp; rw [after0_13]
  have hy : y = ix2 (y 0) (y 1) := by blk_ext
  exact (congrArg _ hy).trans ((out13 _ _ _ _ _ _ _ _ _ (y 1) (y 0)).trans (congrArg (fun s => St.gbi s (y 0)) (kst_eta m c t0_0 (y 1))))

theorem gd_blk (t : Fin cfg0.N) (k : Fin 512) :
    out0_14 (iblk m c 0 t) (iblk m c 1 t) (iblk m c 2 t) (iblk m c 3 t) (iblk m c 4 t) (iblk m c 5 t) (iblk m c 6 t) (iblk m c 7 t) (iblk m c 8 t) (ix2 0 k)
      = ∑ b : Fin 4, a9 m c (ix2 b k) := by
  rw [Fin.sum_univ_four]
  by_cases h : k.val < 256
  · have hk : k = ⟨(⟨k.val, h⟩ : Fin 256).val, by omega⟩ := rfl
    have e : ∀ b : Fin 4, iblk m c 8 t (ix2 ⟨2 * b.val, by omega⟩ ⟨k.val, h⟩) = a9 m c (ix2 b k) := fun b =>
      ((rd8 m c t _ _).trans (h8 m c b 0 ⟨k.val, h⟩)).trans (congrArg (a9 m c) (by blk_ext))
    refine (gd_lo _ _ _ _ _ _ _ _ _ ⟨k.val, h⟩).trans ?_
    rw [← e 0, ← e 1, ← e 2, ← e 3]; rfl
  · have e : ∀ b : Fin 4, iblk m c 8 t (ix2 ⟨2 * b.val + 1, by omega⟩ ⟨k.val - 256, by omega⟩) = a9 m c (ix2 b k) := fun b =>
      ((rd8 m c t _ _).trans (h8 m c b 1 ⟨k.val - 256, by omega⟩)).trans (congrArg (a9 m c) (by blk_ext))
    have hk : (ix2 0 k : S1x512.Idx) = ix2 0 ⟨256 + (⟨k.val - 256, by omega⟩ : Fin 256).val, by simp only; omega⟩ := by blk_ext
    refine (congrArg _ hk).trans ((gd_hi _ _ _ _ _ _ _ _ _ ⟨k.val - 256, by omega⟩).trans ?_)
    rw [← e 0, ← e 1, ← e 2, ← e 3]; rfl

theorem final_14 : (dats m 0 c).arrAt 14 (cfgs 0).N = fun y : S1x512.Idx => ∑ b : Fin 4, a9 m c (ix2 b (y 1)) := by
  refine (dats m 0 c).arrAt_eq_of_after_last 14 t0_0 (by decide +kernel) _ fun (y : S1x512.Idx) => ?_
  blk_simp; rw [after0_14]
  have hy : y = ix2 0 (y 1) := by blk_ext
  exact (congrArg _ hy).trans (gd_blk m c t0_0 (y 1))

end Cert.SsmParamMath

end
-- ==== Proof.SsmParamMath.Claim.lean ====
/- The kernel's six results are the reference's, under the stated finiteness. -/
module

public import proofs.«01_k».proof.Defs
public import proofs.«01_k».proof.Proof.Gen.Pre_ssm_param_bwd_finite
public import proofs.«01_k».proof.Proof.SsmParamMath.Run
public import proofs.«01_k».proof.Proof.Gen.SsmParamBwdRefIdeal.Run
public import proofs.«01_k».proof.Proof.SsmParamMath.Final

@[expose] public section

set_option maxRecDepth 16384

noncomputable section

open Idealize.ShloMosaic Idealize.ShloMosaic.TcCoe Idealize.SL.Sem
open scoped BigOperators

namespace Cert.SsmParamMath

open Shared
open Ref (stt rst)
open Cert.SsmParamBwdIdeal (S1x32x64 S1x32 S1x32x64x16 S4x32x64 S32x64x16 S4x512)

/-- What the precondition says of the arguments: at every state everything that the gradients read is real. -/
theorem args_real {x0 x1 : FVec Ideal S1x32x64 .f32} {x2 : FVec Ideal S1x32 .f32} {x3 x4 : FVec Ideal S1x32x64x16 .f32}
    {x5 x6 : FVec Ideal S4x32x64 .f32} {x7 x8 : FVec Ideal S32x64x16 .f32} {x9 : FVec Ideal S4x512 .f32}
    (h : Cert.Pre_ssm_param_bwd_finite.fn (F := Ideal) x0 x1 x2 x3 x4 x5 x6 x7 x8 x9 = fun _ => 1#1) (g : Fin 32) (p : Fin 64) :
    (rst x0 x1 x2 x3 x4 x5 x6 x7 x8 g p).Fin' := by
  obtain ⟨h, h8⟩ := and_split (congrFun h ix0)
  obtain ⟨h, h7⟩ := and_split h
  obtain ⟨h, h6⟩ := and_split h
  obtain ⟨h, h5⟩ := and_split h
  obtain ⟨h, h4⟩ := and_split h
  obtain ⟨h, h3⟩ := and_split h
  obtain ⟨h, h2⟩ := and_split h
  obtain ⟨h0, h1⟩ := and_split h
  have r0 := real_of_all h0 fun _ => f32_top
  have r1 := real_of_all h1 fun _ => f32_top
  have r2 := real_of_all h2 fun _ => f32_top
  have r3 := real_of_all h3 fun _ => f32_top
  have r4 := real_of_all h4 fun _ => f32_top
  have r5 := real_of_all h5 fun _ => f32_top
  have r6 := real_of_all h6 fun _ => f32_top
  have r7 := real_of_all h7 fun _ => f32_top
  have r8 := real_of_all h8 fun _ => f32_top
  exact ⟨r0 _, r1 _, r2 _, Real'.sum Finset.univ (f := fun b : Fin 4 => x5 (ix3 b g p)) fun b => r5 _, Real'.sum Finset.univ (f := fun b : Fin 4 => x6 (ix3 b g p)) fun b => r6 _, fun _ => r3 _, fun _ => r4 _, fun _ => r7 _, fun _ => r8 _⟩

theorem row_eta (i : Cert.SsmParamBwdIdeal.S1x2048.Idx) : i = ix2 0 (stt (sg (i 1)) (sp (i 1))) :=
  (show i = ix2 0 (i 1) by blk_ext).trans (congrArg (fun j : Fin 2048 => (ix2 0 j : Cert.SsmParamBwdIdeal.S1x2048.Idx)) (stt_eta (i 1)).symm)
theorem mat_eta (i : Cert.SsmParamBwdIdeal.S16x2048.Idx) : i = ix2 (i 0) (stt (sg (i 1)) (sp (i 1))) :=
  (show i = ix2 (i 0) (i 1) by blk_ext).trans (congrArg (fun j : Fin 2048 => (ix2 (i 0) j : Cert.SsmParamBwdIdeal.S16x2048.Idx)) (stt_eta (i 1)).symm)

theorem algebraic : Cert.algebraic_SsmParamBwdIdeal_SsmParamBwdRefIdeal_pre_ssm_param_bwd_finite := by
  intro m g m' g' hpre hagree
  refine ⟨_, _, _, _, _, _, Run.run_blocks m g, θ_run_mono (Cert.SsmParamBwdRefIdeal.Value.run m' g') fun r h c => ?_⟩
  have hf : ∀ a b, (ast m c a b).Fin' := fun a b => args_real (hpre c) a b
  obtain ⟨e0, e1, e2, e3, e4, e5, e6, e7, e8, e9⟩ := hagree c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · refine (Cert.SsmParamBwdRefIdeal.Read.val_main_v136_eq m' c).trans ?_
    rw [e0, e1, e2, e3, e4, e5, e6, e7, e8]
    refine Eq.trans ?_ (final_9 m c).symm
    funext i
    exact (congrArg _ (row_eta i)).trans (Ref.ref_glr _ _ _ _ _ _ _ _ _ _ _ 0)
  · refine (Cert.SsmParamBwdRefIdeal.Read.val_main_v137_eq m' c).trans ?_
    rw [e0, e1, e2, e3, e4, e5, e6, e7, e8]
    refine Eq.trans ?_ (final_10 m c).symm
    funext i
    exact ((congrArg _ (row_eta i)).trans (Ref.ref_gli _ _ _ _ _ _ _ _ _ _ _ 0)).trans
      (St.gliK_eq (hf _ _)).symm
  · refine (Cert.SsmParamBwdRefIdeal.Read.val_main_v138_eq m' c).trans ?_
    rw [e0, e1, e2, e3, e4, e5, e6, e7, e8]
    refine Eq.trans ?_ (final_11 m c).symm
    funext i
    exact ((congrArg _ (row_eta i)).trans (Ref.ref_gldt _ _ _ _ _ _ _ _ _ _ _ 0)).trans
      (St.gldtK_eq (hf _ _)).symm
  · refine (Cert.SsmParamBwdRefIdeal.Read.val_main_v140_eq m' c).trans ?_
    rw [e0, e1, e2, e7, e8]
    refine Eq.trans ?_ (final_12 m c).symm
    funext i
    exact (congrArg _ (mat_eta i)).trans
      (Ref.ref_gbr (a0 m c) (a1 m c) (a2 m c) (a3 m c) (a4 m c) (a5 m c) (a6 m c) (a7 m c) (a8 m c) _ _ (i 0))
  · refine (Cert.SsmParamBwdRefIdeal.Read.val_main_v142_eq m' c).trans ?_
    rw [e0, e1, e2, e7, e8]
    refine Eq.trans ?_ (final_13 m c).symm
    funext i
    exact (congrArg _ (mat_eta i)).trans
      (Ref.ref_gbi (a0 m c) (a1 m c) (a2 m c) (a3 m c) (a4 m c) (a5 m c) (a6 m c) (a7 m c) (a8 m c) _ _ (i 0))
  · refine (Cert.SsmParamBwdRefIdeal.Read.val_main_v144_eq _).trans ?_
    rw [e9]
    refine Eq.trans ?_ (final_14 m c).symm
    funext i
    exact (congrArg _ (show i = ix2 0 (i 1) by blk_ext)).trans (Ref.ref_gd _ _)

end Cert.SsmParamMath

end
-- ==== Proof.SsmFwdRun.Body.lean ====
module

public import proofs.«01_k».proof.Proof.Gen.SsmFwdIdeal.Launch
public import proofs.«01_k».proof.Proof.Gen.SsmFwdIdeal.Skeleton
public import proofs.«01_k».proof.Proof.Gen.SsmFwdIdeal.Loops
public import proofs.«01_k».proof.Proof.Gen.SsmFwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SsmFwdRun

open Cert.SsmFwdIdeal Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The recurrence starts at the first chunk of the sequence: there the carried state is set to zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

variable (c : Dev nD) (i : grid0.Coords)
  (arg1 : Memref sig .tc .vmem S1024x256 .bf16) (harg1 : arg1.IsWhole)
  (arg2 : Memref sig .tc .vmem S256x4096 .bf16) (harg2 : arg2.IsWhole)
  (arg3 : Memref sig .tc .vmem S2048x512 .bf16) (harg3 : arg3.IsWhole)
  (arg4 : Memref sig .tc .vmem S2x8x1024 .f32) (harg4 : arg4.IsWhole)
  (arg5 : Memref sig .tc .vmem S8x256 .f32) (harg5 : arg5.IsWhole)
  (arg6 : Memref sig .tc .vmem S1024x256 .bf16) (harg6 : arg6.IsWhole)
  (arg7 : Memref sig .tc .vmem S1x2x8x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S128x8x1024 .f32) (harg10 : arg10.IsWhole)
  (arg11 : Memref sig .tc .vmem S128x8x1024 .f32) (harg11 : arg11.IsWhole)
  (arg12 : Memref sig .tc .vmem S2x8x1024 .f32) (harg12 : arg12.IsWhole)
  (x0 : Vec F S1024x256 .bf16) (x1 : Vec F S256x4096 .bf16) (x2 : Vec F S2048x512 .bf16) (x3 : Vec F S2x8x1024 .f32) (x4 : Vec F S8x256 .f32)

set_option maxHeartbeats 1000000 in
/-- The body at the first chunk: whatever the state held, the stores it makes into each output and into the state. -/
def kernelRun0_A (hc0 : cond0_0 i) :
    Σ' (L5 : List (View.Piece (Elt F) S1024x256 .bf16)), Σ' (L6 : List (View.Piece (Elt F) S1x2x8x1024 .f32)), Σ' (L7 : List (View.Piece (Elt F) S1024x1024 .bf16)), Σ' (L8 : List (View.Piece (Elt F) S1024x1024 .bf16)), { LS2 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_ssm_fwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_ssm_fwd_eq_skeleton]; unfold cc0_ssm_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _; iexact HS2

set_option maxHeartbeats 1000000 in
/-- The body at a later chunk, started from the state `xs2` that the chunk before left. -/
def kernelRun0_B (hc0 : ¬cond0_0 i)
    (xs2 : Vec F S2x8x1024 .f32) :
    Σ' (L5 : List (View.Piece (Elt F) S1024x256 .bf16)), Σ' (L6 : List (View.Piece (Elt F) S1x2x8x1024 .f32)), Σ' (L7 : List (View.Piece (Elt F) S1024x1024 .bf16)), Σ' (L8 : List (View.Piece (Elt F) S1024x1024 .bf16)), { LS2 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS2)) -∗ K ⟨⟩))
          ⊢ wp frame (wpE (defs₀ (F := F)) Variants.none c none) E (cc0_ssm_fwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_ssm_fwd_eq_skeleton]; unfold cc0_ssm_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _, _; isplitr; swap; · iexact HS0
      ipureintro; rfl
    isplitl [HS1]
    · iexists _, _; isplitr; swap; · iexact HS1
      ipureintro; rfl
    iexists _; iexact HS2

end Cert.SsmFwdRun

end
-- ==== Proof.SsmFwdRun.Data.lean ====
module

public import proofs.«01_k».proof.Proof.SsmFwdRun.Body

@[expose] public section

set_option maxRecDepth 16384

noncomputable section

namespace Cert.SsmFwdRun

open Cert.SsmFwdIdeal Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VO0_5 : View sig .tc .vmem S1024x256 .bf16 := (Memref.whole cc0_stg5_0 : Memref sig .tc .vmem S1024x256 .bf16).view
abbrev VO0_6 : View sig .tc .vmem S1x2x8x1024 .f32 := (Memref.whole cc0_stg6_0 : Memref sig .tc .vmem S1x2x8x1024 .f32).view
abbrev VO0_7 : View sig .tc .vmem S1024x1024 .bf16 := (Memref.whole cc0_stg7_0 : Memref sig .tc .vmem S1024x1024 .bf16).view
abbrev VO0_8 : View sig .tc .vmem S1024x1024 .bf16 := (Memref.whole cc0_stg8_0 : Memref sig .tc .vmem S1024x1024 .bf16).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev scM0_0 : Memref sig .tc .vmem S128x8x1024 .f32 := Memref.whole cc0_scratch0
abbrev scM0_1 : Memref sig .tc .vmem S128x8x1024 .f32 := Memref.whole cc0_scratch1
abbrev scM0_2 : Memref sig .tc .vmem S2x8x1024 .f32 := Memref.whole cc0_scratch2
abbrev VS0_2 : View sig .tc .vmem S2x8x1024 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (V : (c : Dev nD) → (b : Ref sig .tc) → Buf (Elt F) ((c : Thread nD τ).loc b))

/-- Window `w`'s block at point `t` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's run at the first chunk. -/
abbrev runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk V c 0 t) (iblk V c 1 t) (iblk V c 2 t) (iblk V c 3 t) (iblk V c 4 t) ((hcond0_0 t).mpr h0)

/-- The body's run at a later chunk, from the state `s`. -/
abbrev runB (c : Dev nD) (t : Fin cfg0.N) (h0 : ¬t.val % 16 = 0) (s : Vec F S2x8x1024 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk V c 0 t) (iblk V c 1 t) (iblk V c 2 t) (iblk V c 3 t) (iblk V c 4 t) (fun h => h0 ((hcond0_0 t).mp h)) s

theorem coverA_5 (c : Dev nD) (t : Fin cfg0.N) (h0 : t.val % 16 = 0) (y : S1024x256.Idx) :
    ∃ pc ∈ (runA V c t h0).1, y ∈ pc.1.set :=
  View.cover_of_tiledL (runA V c t h0).1 S1024x256.size (by sl_kernel_rfl) y

theorem coverA_6 (c : Dev nD) (t : Fin cfg0.N) (h0 : t.val % 16 = 0) (y : S1x2x8x1024.Idx) :
    ∃ pc ∈ (runA V c t h0).2.1, y ∈ pc.1.set :=
  View.cover_of_tiledL (runA V c t h0).2.1 S1x2x8x1024.size (by sl_kernel_rfl) y

theorem coverA_7 (c : Dev nD) (t : Fin cfg0.N) (h0 : t.val % 16 = 0) (y : S1024x1024.Idx) :
    ∃ pc ∈ (runA V c t h0).2.2.1, y ∈ pc.1.set :=
  View.cover_of_tiledL (runA V c t h0).2.2.1 S1024x1024.size (by sl_kernel_rfl) y

theorem coverA_8 (c : Dev nD) (t : Fin cfg0.N) (h0 : t.val % 16 = 0) (y : S1024x1024.Idx) :
    ∃ pc ∈ (runA V c t h0).2.2.2.1, y ∈ pc.1.set :=
  View.cover_of_tiledL (runA V c t h0).2.2.2.1 S1024x1024.size (by sl_kernel_rfl) y

theorem coverA_s (c : Dev nD) (t : Fin cfg0.N) (h0 : t.val % 16 = 0) (y : S2x8x1024.Idx) :
    ∃ pc ∈ (runA V c t h0).2.2.2.2.1, y ∈ pc.1.set :=
  View.cover_of_wholeMem (runA V c t h0).2.2.2.2.1 (by sl_whole_mem) y

theorem coverB_5 (c : Dev nD) (t : Fin cfg0.N) (h0 : ¬t.val % 16 = 0) (s : Vec F S2x8x1024 .f32) (y : S1024x256.Idx) :
    ∃ pc ∈ (runB V c t h0 s).1, y ∈ pc.1.set :=
  View.cover_of_tiledL (runB V c t h0 s).1 S1024x256.size (by sl_kernel_rfl) y

theorem coverB_6 (c : Dev nD) (t : Fin cfg0.N) (h0 : ¬t.val % 16 = 0) (s : Vec F S2x8x1024 .f32) (y : S1x2x8x1024.Idx) :
    ∃ pc ∈ (runB V c t h0 s).2.1, y ∈ pc.1.set :=
  View.cover_of_tiledL (runB V c t h0 s).2.1 S1x2x8x1024.size (by sl_kernel_rfl) y

theorem coverB_7 (c : Dev nD) (t : Fin cfg0.N) (h0 : ¬t.val % 16 = 0) (s : Vec F S2x8x1024 .f32) (y : S1024x1024.Idx) :
    ∃ pc ∈ (runB V c t h0 s).2.2.1, y ∈ pc.1.set :=
  View.cover_of_tiledL (runB V c t h0 s).2.2.1 S1024x1024.size (by sl_kernel_rfl) y

theorem coverB_8 (c : Dev nD) (t : Fin cfg0.N) (h0 : ¬t.val % 16 = 0) (s : Vec F S2x8x1024 .f32) (y : S1024x1024.Idx) :
    ∃ pc ∈ (runB V c t h0 s).2.2.2.1, y ∈ pc.1.set :=
  View.cover_of_tiledL (runB V c t h0 s).2.2.2.1 S1024x1024.size (by sl_kernel_rfl) y

theorem coverB_s (c : Dev nD) (t : Fin cfg0.N) (h0 : ¬t.val % 16 = 0) (s : Vec F S2x8x1024 .f32) (y : S2x8x1024.Idx) :
    ∃ pc ∈ (runB V c t h0 s).2.2.2.2.1, y ∈ pc.1.set :=
  View.cover_of_tiledL (runB V c t h0 s).2.2.2.2.1 S1x8x512.size (by sl_kernel_rfl) y

/-- What the four outputs' buffers and the carried state hold after the first chunk, -/
def ptA (c : Dev nD) (t : Fin cfg0.N) (h0 : t.val % 16 = 0) : Vec F S1024x256 .bf16 × Vec F S1x2x8x1024 .f32 × Vec F S1024x1024 .bf16 × Vec F S1024x1024 .bf16 × Vec F S2x8x1024 .f32 :=
  (VO0_5.read (Elt F) (VO0_5.writes (Elt F) VO0_5.junk (runA V c t h0).1),
   VO0_6.read (Elt F) (VO0_6.writes (Elt F) VO0_6.junk (runA V c t h0).2.1),
   VO0_7.read (Elt F) (VO0_7.writes (Elt F) VO0_7.junk (runA V c t h0).2.2.1),
   VO0_8.read (Elt F) (VO0_8.writes (Elt F) VO0_8.junk (runA V c t h0).2.2.2.1),
   VS0_2.read (Elt F) (VS0_2.writes (Elt F) VS0_2.junk (runA V c t h0).2.2.2.2.1))

/-- and after a later one, over the state `s`. -/
def ptB (c : Dev nD) (t : Fin cfg0.N) (h0 : ¬t.val % 16 = 0) (s : Vec F S2x8x1024 .f32) : Vec F S1024x256 .bf16 × Vec F S1x2x8x1024 .f32 × Vec F S1024x1024 .bf16 × Vec F S1024x1024 .bf16 × Vec F S2x8x1024 .f32 :=
  (VO0_5.read (Elt F) (VO0_5.writes (Elt F) VO0_5.junk (runB V c t h0 s).1),
   VO0_6.read (Elt F) (VO0_6.writes (Elt F) VO0_6.junk (runB V c t h0 s).2.1),
   VO0_7.read (Elt F) (VO0_7.writes (Elt F) VO0_7.junk (runB V c t h0 s).2.2.1),
   VO0_8.read (Elt F) (VO0_8.writes (Elt F) VO0_8.junk (runB V c t h0 s).2.2.2.1),
   VS0_2.read (Elt F) (VS0_2.writes (Elt F) VS0_2.junk (runB V c t h0 s).2.2.2.2.1))

/-- What they hold after each point, one after the other. -/
def outsAt (c : Dev nD) : (n : ℕ) → n < cfg0.N → Vec F S1024x256 .bf16 × Vec F S1x2x8x1024 .f32 × Vec F S1024x1024 .bf16 × Vec F S1024x1024 .bf16 × Vec F S2x8x1024 .f32
  | 0, hn => ptA V c ⟨0, hn⟩ (Nat.zero_mod _)
  | n + 1, hn =>
    if h0 : (n + 1) % 16 = 0 then ptA V c ⟨n + 1, hn⟩ h0
    else ptB V c ⟨n + 1, hn⟩ h0 (outsAt c n (Nat.lt_of_succ_lt hn)).2.2.2.2

theorem outsAt_A (c : Dev nD) (t : Fin cfg0.N) (h0 : t.val % 16 = 0) : outsAt V c t.val t.isLt = ptA V c t h0 := by
  obtain ⟨n, hn⟩ := t
  cases n with
  | zero => exact rfl
  | succ n => exact dif_pos h0

theorem outsAt_B (c : Dev nD) (t : Fin cfg0.N) (h0 : ¬t.val % 16 = 0) :
    outsAt V c t.val t.isLt = ptB V c t h0 (outsAt V c (t.val - 1) (Nat.lt_of_le_of_lt (Nat.sub_le _ _) t.isLt)).2.2.2.2 := by
  obtain ⟨n, hn⟩ := t
  cases n with
  | zero => exact absurd (Nat.zero_mod _) h0
  | succ n => exact dif_neg h0

def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt V c n hn).2.2.2.2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop((∃ d, owns (c : Thread nD τ) scM0_0 fullShare d) ∗ (∃ d, owns (c : Thread nD τ) scM0_1 fullShare d) ∗ owns (c : Thread nD τ) scM0_2 fullShare ((outsAt V c n hn).2.2.2.2)) ∗ (∃ r, prngReg c r)) := rfl

theorem PhiS_pos (c : Dev nD) (n : ℕ) (h : n ≤ cfg0.N) (hz : n ≠ 0) :
    PhiS V c n h = iprop(iprop((∃ d, owns (c : Thread nD τ) scM0_0 fullShare d) ∗ (∃ d, owns (c : Thread nD τ) scM0_1 fullShare d) ∗ owns (c : Thread nD τ) scM0_2 fullShare ((outsAt V c (n - 1) (by omega)).2.2.2.2)) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
    | ⟨7, _⟩ => (outsAt V c t.val t.isLt).2.2.1
    | ⟨8, _⟩ => (outsAt V c t.val t.isLt).2.2.2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = (outsAt V c t.val t.isLt).1 := by dsimp only [dat]
theorem after0_6 (c : Dev nD) (t : Fin cfg0.N) : (dat V c).after 6 t = (outsAt V c t.val t.isLt).2.1 := by dsimp only [dat]
theorem after0_7 (c : Dev nD) (t : Fin cfg0.N) : (dat V c).after 7 t = (outsAt V c t.val t.isLt).2.2.1 := by dsimp only [dat]
theorem after0_8 (c : Dev nD) (t : Fin cfg0.N) : (dat V c).after 8 t = (outsAt V c t.val t.isLt).2.2.2.1 := by dsimp only [dat]

theorem before0_0 (c : Dev nD) (t : Fin cfg0.N) (d) : (dat V c).before 0 t d = iblk V c 0 t :=
  ((dat V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat V c).before 1 t d = iblk V c 1 t :=
  ((dat V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dat V c).before 2 t d = iblk V c 2 t :=
  ((dat V c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dat V c).before 3 t d = iblk V c 3 t :=
  ((dat V c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dat V c).before 4 t d = iblk V c 4 t :=
  ((dat V c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d)))

def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t))

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat V c).owesAt () t.succ = (dat V c).owesAt () t.castSucc from rfl,
    after0_0, after0_1, after0_2, after0_3, after0_4, after0_5, after0_6, after0_7, after0_8]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc V c t, PhiS_zero V c _ _ hz, PhiA0_eq]
      rw [outsAt_A V c t h0]
      unfold ptA; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA V c t h0).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (coverA_s V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t h0)
      isplitl [H6]
      · unfold owns; iexists _; isplitr
        swap; · iexact H6
        ipureintro; exact View.read_writes_of_cover _ _ _ _ _ (coverA_6 V c t h0)
      isplitl [H7]
      · unfold owns; iexists _; isplitr
        swap; · iexact H7
        ipureintro; exact View.read_writes_of_cover _ _ _ _ _ (coverA_7 V c t h0)
      unfold owns; iexists _; isplitr
      swap; · iexact H8
      ipureintro; exact View.read_writes_of_cover _ _ _ _ _ (coverA_8 V c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc V c t, PhiS_pos V c _ _ hz]
      rw [outsAt_B V c t h0]
      unfold ptB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB V c t h0 _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%e8, H8⟩, HS0, HS1, ⟨%es2, HS2⟩⟩
      isplitl [HS0 HS1 HS2 Hg]
      · isplitl [HS0 HS1 HS2]
        · isplitl [HS0]
          · iexact HS0
          isplitl [HS1]
          · iexact HS1
          unfold owns; iexists _; isplitr
          swap; · iexact HS2
          ipureintro; exact View.read_writes_of_cover _ _ _ _ _ (coverB_s V c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 V c t h0 _)
      isplitl [H6]
      · unfold owns; iexists _; isplitr
        swap; · iexact H6
        ipureintro; exact View.read_writes_of_cover _ _ _ _ _ (coverB_6 V c t h0 _)
      isplitl [H7]
      · unfold owns; iexists _; isplitr
        swap; · iexact H7
        ipureintro; exact View.read_writes_of_cover _ _ _ _ _ (coverB_7 V c t h0 _)
      unfold owns; iexists _; isplitr
      swap; · iexact H8
      ipureintro; exact View.read_writes_of_cover _ _ _ _ _ (coverB_8 V c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HS1, HS2⟩, Hg⟩
  isplitl [HS0 HS1 HS2]
  · isplitl [HS0]
    · iexact HS0
    isplitl [HS1]
    · iexact HS1
    iexists _; iexact HS2
  iexact Hg

theorem hout (c : Dev nD) : (dat V c).Φ (Fin.last cfg0.N) ⊢ Pipeline.ΦA spec0 c :=
  Phi_out V c _ (by rw [Fin.val_last]; have : cfg0.N = 16 := N_0; omega)

end Cert.SsmFwdRun

end
-- ==== Proof.SsmFwdRun.Frame.lean ====
module

public import proofs.«01_k».proof.Proof.SsmFwdRun.Data
public import Idealize.ShloMosaic.Lib.Claim

@[expose] public section

set_option maxRecDepth 16384

noncomputable section

namespace Cert.SsmFwdRun

open Cert.SsmFwdIdeal Cert.SsmFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host lines before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- No host line writes an argument. -/
theorem V_arg (c : Dev nD) (b : Ref sig .tc) (hb : b ∈ [main_arg0, main_arg1, main_arg2, main_arg3, main_arg4, main_arg5, main_arg6, main_arg7]) : V m c b = m ((c : Thread nD τ).loc b) := by
  simp only [List.mem_cons, List.not_mem_nil, or_false] at hb
  refine StableHlo.after_of_forall_not_mem (b := Proc.devRef .tc b) _ _ (List.forall_iff_forall_mem.mp ?_)
  rcases hb with rfl | rfl | rfl | rfl | rfl | rfl | rfl | rfl <;>
  · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- The region's data, entered after the host lines. -/
abbrev dats (_ : Fin 1) (c : Dev nD) : Dat τ (Elt F) Unit ℕ (UR sig nD τ) ℕ cfg0 c := dat (V m) c

set_option backward.isDefEq.respectTransparency.types false in
/-- The run: every array of the region ends at what its data say, every other buffer as the region found it, every
    counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation (V m) c).loose) (hshare := fun c => (dats m 0 c).share_full fun _ => rfl)
    (howed := fun _ _ => rfl) (V := V m) (hmain := hmain m Variants.none) (hA := A_eq (V m)) (hin := hin (V m)) (hout := hout (V m))

/-- The four results after the run, the arguments as they were, every counter at zero. -/
theorem run_main : θ_run defs (onTc (τ := τ) (main (F := F))) ⟨m, fun _ => 0, ρ⟩ (fun r => (∀ c : Dev nD,
      (r.2.mem ((c.tc : Thread nD τ).loc main_v106_0) = (dats m 0 c).arrAt 5 cfg0.N
      ∧ r.2.mem ((c.tc : Thread nD τ).loc main_v106_1) = (dats m 0 c).arrAt 6 cfg0.N
      ∧ r.2.mem ((c.tc : Thread nD τ).loc main_v106_2) = (dats m 0 c).arrAt 7 cfg0.N
      ∧ r.2.mem ((c.tc : Thread nD τ).loc main_v106_3) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨⟨(h.1 c).1 5, (h.1 c).1 6, (h.1 c).1 7, (h.1 c).1 8⟩,
    ((h.1 c).2 main_arg0 (Pipeline.mem_restRefs_of main_arg0 (by decide) (by decide))).trans (V_arg m c main_arg0 (by decide)),
    ((h.1 c).2 main_arg1 (Pipeline.mem_restRefs_of main_arg1 (by decide) (by decide))).trans (V_arg m c main_arg1 (by decide)),
    ((h.1 c).2 main_arg2 (Pipeline.mem_restRefs_of main_arg2 (by decide) (by decide))).trans (V_arg m c main_arg2 (by decide)),
    ((h.1 c).2 main_arg3 (Pipeline.mem_restRefs_of main_arg3 (by decide) (by decide))).trans (V_arg m c main_arg3 (by decide)),
    ((h.1 c).2 main_arg4 (Pipeline.mem_restRefs_of main_arg4 (by decide) (by decide))).trans (V_arg m c main_arg4 (by decide)),
    ((h.1 c).2 main_arg5 (Pipeline.mem_restRefs_of main_arg5 (by decide) (by decide))).trans (V_arg m c main_arg5 (by decide)),
    ((h.1 c).2 main_arg6 (Pipeline.mem_restRefs_of main_arg6 (by decide) (by decide))).trans (V_arg m c main_arg6 (by decide)),
    ((h.1 c).2 main_arg7 (Pipeline.mem_restRefs_of main_arg7 (by decide) (by decide))).trans (V_arg m c main_arg7 (by decide))⟩, h.2⟩) (run_quiescent m ρ)

/-- The program's arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m ρ)

end Cert.SsmFwdRun

end
-- ==== Proof.SsmFwdRun.Bits.lean ====
/- The bit-level program and the one read over the extended reals are the same text, so the run written for any
   number type is the run of both. -/
module

public import proofs.«01_k».proof.Proof.SsmFwdRun.Frame
public import proofs.«01_k».proof.Proof.Gen.SsmFwd
public import proofs.«01_k».proof.Defs

@[expose] public section

set_option maxRecDepth 16384

namespace Cert.SsmFwdRun

open Idealize.ShloMosaic Idealize.ShloMosaic.TcCoe Idealize.ShloMosaic.Tactic Idealize.SL.Sem

/-- The frame of the bit-level program, said of the other text's program at the bits. -/
abbrev FrameBits [hI : Cert.SsmFwdIdeal.Facts] : Prop :=
  ∀ (m : (ℓ : Loc Cert.SsmFwdIdeal.nD Cert.SsmFwdIdeal.τ Cert.SsmFwdIdeal.sig) → Buf (Elt Bits) ℓ) (g : Dev Cert.SsmFwdIdeal.nD → PrngReg), True →
    θ_run (Cert.SsmFwdIdeal.defs (F := Bits)) (onTc (τ := Cert.SsmFwdIdeal.τ) (Cert.SsmFwdIdeal.main (F := Bits))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1)
      ∧ r.2.mem ((c.tc : Thread Cert.SsmFwdIdeal.nD Cert.SsmFwdIdeal.τ).loc Cert.SsmFwdIdeal.main_arg2) = m ((c.tc : Thread Cert.SsmFwdIdeal.nD Cert.SsmFwdIdeal.τ).loc Cert.SsmFwdIdeal.main_arg2)
      ∧ r.2.mem ((c.tc : Thread Cert.SsmFwdIdeal.nD Cert.SsmFwdIdeal.τ).loc Cert.SsmFwdIdeal.main_arg3) = m ((c.tc : Thread Cert.SsmFwdIdeal.nD Cert.SsmFwdIdeal.τ).loc Cert.SsmFwdIdeal.main_arg3)
      ∧ r.2.mem ((c.tc : Thread Cert.SsmFwdIdeal.nD Cert.SsmFwdIdeal.τ).loc Cert.SsmFwdIdeal.main_arg4) = m ((c.tc : Thread Cert.SsmFwdIdeal.nD Cert.SsmFwdIdeal.τ).loc Cert.SsmFwdIdeal.main_arg4)
      ∧ r.2.mem ((c.tc : Thread Cert.SsmFwdIdeal.nD Cert.SsmFwdIdeal.τ).loc Cert.SsmFwdIdeal.main_arg5) = m ((c.tc : Thread Cert.SsmFwdIdeal.nD Cert.SsmFwdIdeal.τ).loc Cert.SsmFwdIdeal.main_arg5)
      ∧ r.2.mem ((c.tc : Thread Cert.SsmFwdIdeal.nD Cert.SsmFwdIdeal.τ).loc Cert.SsmFwdIdeal.main_arg6) = m ((c.tc : Thread Cert.SsmFwdIdeal.nD Cert.SsmFwdIdeal.τ).loc Cert.SsmFwdIdeal.main_arg6)
      ∧ r.2.mem ((c.tc : Thread Cert.SsmFwdIdeal.nD Cert.SsmFwdIdeal.τ).loc Cert.SsmFwdIdeal.main_arg7) = m ((c.tc : Thread Cert.SsmFwdIdeal.nD Cert.SsmFwdIdeal.τ).loc Cert.SsmFwdIdeal.main_arg7))
      ∧ r.2.sem = fun _ => 0)

theorem frame_eq [hK : Cert.SsmFwd.Facts] [hI : Cert.SsmFwdIdeal.Facts] :
    Cert.quiescent_SsmFwd = FrameBits := by sl_kernel_rfl

theorem frame_kernel : Cert.quiescent_SsmFwd (hSsmFwd := Cert.SsmFwd.Gen.facts) :=
  (frame_eq (hK := Cert.SsmFwd.Gen.facts) (hI := Cert.SsmFwdIdeal.Gen.facts)).mpr
    fun m g _ => frame (F := Bits) m g

end Cert.SsmFwdRun
-- ==== Proof.SsmMath.Loop.lean ====
/- A complex linear recurrence, and a loop that runs it down the rows of two arrays, one half of the lanes at a time. -/
module

public import proofs.«01_k».proof.Proof.Shared.Reals
public import Idealize.ShloMosaic.Lib.WritesUnit

@[expose] public section

set_option maxRecDepth 16384

noncomputable section

open Idealize.ShloMosaic Idealize.ShloMosaic.TcCoe Idealize.SL.Sem
open scoped BigOperators

namespace Cert.SsmMath

open Cert.Shared

/-- The state after `k` steps of `x ← l x + b`, complex numbers as pairs. -/
def scn (l : EReal × EReal) (b : ℕ → EReal × EReal) (x : EReal × EReal) : ℕ → EReal × EReal
  | 0 => x
  | k + 1 => (l.1 * (scn l b x k).1 - l.2 * (scn l b x k).2 + (b k).1, l.1 * (scn l b x k).2 + l.2 * (scn l b x k).1 + (b k).2)

/-- Going on from where `n` steps ended. -/
theorem scn_add (l : EReal × EReal) (b : ℕ → EReal × EReal) (x : EReal × EReal) (n : ℕ) :
    ∀ k, scn l (fun t => b (n + t)) (scn l b x n) k = scn l b x (n + k)
  | 0 => rfl
  | k + 1 => by
    show _ = scn l b x ((n + k) + 1)
    simp only [scn, scn_add l b x n k]

/-- The state depends on the inputs of the steps run only. -/
theorem scn_congr (l : EReal × EReal) (b b' : ℕ → EReal × EReal) (x : EReal × EReal) :
    ∀ k, (∀ t < k, b t = b' t) → scn l b x k = scn l b' x k
  | 0, _ => rfl
  | k + 1, h => by
    simp only [scn, scn_congr l b b' x k (fun t ht => h t (by omega)), h k (by omega)]

/-- Reading a box of an array at a place: the array at the place moved by the box's corner. -/
theorem at_unit {rs : RefSig} {κ : Kind} {sp : Space} {S : Shape} {e : EltTy} (V : View rs κ sp S e) (f : V.ty.Contents (Elt Ideal)) (off size : Fin S.rank → ℕ)
    (inb : ∀ a, off a + size a ≤ S.size a) (x : (Rect.unit (s := S) off size inb).shape.Idx) (y : S.Idx) (h : ∀ a, (y a).val = off a + (x a).val) :
    V.readAt (Elt Ideal) (Rect.unit (s := S) off size inb).toLoadRect f x = V.read (Elt Ideal) f y := by
  rw [View.readAt_apply]
  congr 1
  funext a
  apply Fin.ext
  rw [h a]
  show off a + 1 * (x a).val = _
  rw [Nat.one_mul]

/-- Rows of 8 by 1024 lanes, and the lanes of one half. -/
abbrev Rows : Shape := ⟨3, ![128, 8, 1024]⟩
abbrev Lanes : Shape := ⟨2, ![8, 512]⟩
abbrev Row : Shape := ⟨3, ![1, 8, 512]⟩

/-- Lane `j` of the half that starts at `o`. -/
abbrev lane (o : ℕ) (ho : o + 512 ≤ 1024) (j : Fin 512) : Fin 1024 := ⟨o + j.val, by omega⟩

section
variable {rs : RefSig} {κ : Kind} {sp : Space} (V W : View rs κ sp Rows .f32)
variable (G : V.ty.Contents (Elt Ideal)) (H : W.ty.Contents (Elt Ideal))

/-- A store of row `k`'s half, read at an element of the half. -/
theorem row_read (L : List (View.Piece (Elt Ideal) Rows .f32)) (k : ℕ) (hk : k < 128) (o : ℕ) (ho : o + 512 ≤ 1024)
    (off : Fin 3 → ℕ) (inb : ∀ a, off a + (![1, 8, 512] : Fin 3 → ℕ) a ≤ Rows.size a) (he : off = ![k, 0, o])
    (w : (Rect.unit (s := Rows) off ![1, 8, 512] inb).shape.Idx → Elt Ideal .f32) (t : Fin 128) (b : Fin 8) (j : Fin 512) :
    V.read (Elt Ideal) (V.writes (Elt Ideal) G ((⟨Rect.unit (s := Rows) off ![1, 8, 512] inb, w⟩ : View.Piece (Elt Ideal) Rows .f32) :: L)) (ix3 t b (lane o ho j))
      = if t.val = k then w (ix3 0 b j) else V.read (Elt Ideal) (V.writes (Elt Ideal) G L) (ix3 t b (lane o ho j)) := by
  split
  · next h =>
    refine View.read_writes_cons_unit_of_mem V G inb w L _ (ix3 0 b j) he ?_
    intro a
    match a with
    | ⟨0, _⟩ => simpa using h
    | ⟨1, _⟩ => simp
    | ⟨2, _⟩ => simp
  · next h =>
    refine View.read_writes_cons_unit_of_not_mem V G inb w L _ he 0 ?_
    simp only [Matrix.cons_val_zero]
    show t.val < k ∨ k + 1 ≤ t.val
    omega

/-- A store of one half of row `k`, read at a lane outside the half. -/
theorem row_skip (L : List (View.Piece (Elt Ideal) Rows .f32)) (k : ℕ) (o : ℕ)
    (off : Fin 3 → ℕ) (inb : ∀ a, off a + (![1, 8, 512] : Fin 3 → ℕ) a ≤ Rows.size a) (he : off = ![k, 0, o])
    (w : (Rect.unit (s := Rows) off ![1, 8, 512] inb).shape.Idx → Elt Ideal .f32) (t : Fin 128) (b : Fin 8) (q : Fin 1024)
    (hq : q.val < o ∨ o + 512 ≤ q.val) :
    V.read (Elt Ideal) (V.writes (Elt Ideal) G ((⟨Rect.unit (s := Rows) off ![1, 8, 512] inb, w⟩ : View.Piece (Elt Ideal) Rows .f32) :: L)) (ix3 t b q)
      = V.read (Elt Ideal) (V.writes (Elt Ideal) G L) (ix3 t b q) := by
  refine View.read_writes_cons_unit_of_not_mem V G inb w L _ he 2 ?_
  simpa using hq

/-- One trip of the loop over `k`: the carried pair steps, and each array takes the new pair in row `k` of the half. -/
structure Trip (o : ℕ) (ho : o + 512 ≤ 1024) (l : Fin 8 → Fin 512 → EReal × EReal) (k : ℕ) (hk : k < 128)
    (s s' : (FVec Ideal Lanes .f32 × FVec Ideal Lanes .f32) × List (View.Piece (Elt Ideal) Rows .f32) × List (View.Piece (Elt Ideal) Rows .f32)) : Prop where
  re : ∀ b j, s'.1.1 (ix2 b j) = (l b j).1 * s.1.1 (ix2 b j) - (l b j).2 * s.1.2 (ix2 b j)
    + V.read (Elt Ideal) (V.writes (Elt Ideal) G s.2.1) (ix3 ⟨k, hk⟩ b (lane o ho j))
  im : ∀ b j, s'.1.2 (ix2 b j) = (l b j).1 * s.1.2 (ix2 b j) + (l b j).2 * s.1.1 (ix2 b j)
    + W.read (Elt Ideal) (W.writes (Elt Ideal) H s.2.2) (ix3 ⟨k, hk⟩ b (lane o ho j))
  st : ∃ (off : Fin 3 → ℕ) (inb : ∀ a, off a + (![1, 8, 512] : Fin 3 → ℕ) a ≤ Rows.size a)
    (w w' : (Rect.unit (s := Rows) off ![1, 8, 512] inb).shape.Idx → Elt Ideal .f32), off = ![k, 0, o]
      ∧ s'.2.1 = (⟨Rect.unit (s := Rows) off ![1, 8, 512] inb, w⟩ : View.Piece (Elt Ideal) Rows .f32) :: s.2.1
      ∧ s'.2.2 = (⟨Rect.unit (s := Rows) off ![1, 8, 512] inb, w'⟩ : View.Piece (Elt Ideal) Rows .f32) :: s.2.2
      ∧ (∀ b j, w (ix3 0 b j) = s'.1.1 (ix2 b j)) ∧ (∀ b j, w' (ix3 0 b j) = s'.1.2 (ix2 b j))

variable (o : ℕ) (ho : o + 512 ≤ 1024) (l : Fin 8 → Fin 512 → EReal × EReal)
variable (s : ℕ → (FVec Ideal Lanes .f32 × FVec Ideal Lanes .f32) × List (View.Piece (Elt Ideal) Rows .f32) × List (View.Piece (Elt Ideal) Rows .f32))
variable (x : Fin 8 → Fin 512 → EReal × EReal) (inp : Fin 8 → Fin 512 → ℕ → EReal × EReal)

/-- Before trip `k`: the carried pair is the state after `k` steps; rows below `k` hold the states, the others the inputs;
    the other half's lanes are untouched. -/
theorem loop_rows (h0 : (s 0).2 = ([], [])) (hx : ∀ b j, ((s 0).1.1 (ix2 b j), (s 0).1.2 (ix2 b j)) = x b j)
    (hG : ∀ (t : Fin 128) b j, V.read (Elt Ideal) G (ix3 t b (lane o ho j)) = (inp b j t.val).1)
    (hH : ∀ (t : Fin 128) b j, W.read (Elt Ideal) H (ix3 t b (lane o ho j)) = (inp b j t.val).2)
    (ht : ∀ k hk, Trip V W G H o ho l k hk (s k) (s (k + 1))) :
    ∀ k, k ≤ 128 → (∀ b j, ((s k).1.1 (ix2 b j), (s k).1.2 (ix2 b j)) = scn (l b j) (inp b j) (x b j) k)
      ∧ (∀ (t : Fin 128) b j, V.read (Elt Ideal) (V.writes (Elt Ideal) G (s k).2.1) (ix3 t b (lane o ho j))
          = if t.val < k then (scn (l b j) (inp b j) (x b j) (t.val + 1)).1 else (inp b j t.val).1)
      ∧ (∀ (t : Fin 128) b j, W.read (Elt Ideal) (W.writes (Elt Ideal) H (s k).2.2) (ix3 t b (lane o ho j))
          = if t.val < k then (scn (l b j) (inp b j) (x b j) (t.val + 1)).2 else (inp b j t.val).2)
      ∧ (∀ (t : Fin 128) b (q : Fin 1024), (q.val < o ∨ o + 512 ≤ q.val) →
          V.read (Elt Ideal) (V.writes (Elt Ideal) G (s k).2.1) (ix3 t b q) = V.read (Elt Ideal) G (ix3 t b q)
          ∧ W.read (Elt Ideal) (W.writes (Elt Ideal) H (s k).2.2) (ix3 t b q) = W.read (Elt Ideal) H (ix3 t b q)) := by
  intro k
  induction k with
  | zero =>
    intro _
    refine ⟨fun b j => hx b j, fun t b j => ?_, fun t b j => ?_, fun t b q _ => ?_⟩
    · rw [h0]; simpa using hG t b j
    · rw [h0]; simpa using hH t b j
    · rw [h0]; exact ⟨rfl, rfl⟩
  | succ k ih =>
    intro hk
    obtain ⟨ia, ib, ic, id⟩ := ih (by omega)
    obtain ⟨hre, him, off, inb, w, w', he, h1, h2, hw, hw'⟩ := ht k (by omega)
    have acc : ∀ b j, ((s (k + 1)).1.1 (ix2 b j), (s (k + 1)).1.2 (ix2 b j)) = scn (l b j) (inp b j) (x b j) (k + 1) := by
      intro b j
      have e := ia b j
      have e1 : (s k).1.1 (ix2 b j) = (scn (l b j) (inp b j) (x b j) k).1 := congrArg Prod.fst e
      have e2 : (s k).1.2 (ix2 b j) = (scn (l b j) (inp b j) (x b j) k).2 := congrArg Prod.snd e
      rw [hre, him, ib, ic, e1, e2, if_neg (Nat.lt_irrefl _), if_neg (Nat.lt_irrefl _)]
      rfl
    refine ⟨acc, fun t b j => ?_, fun t b j => ?_, fun t b q hq => ?_⟩
    · rw [h1, row_read V G _ k (by omega) o ho off inb he, ib]
      by_cases h : t.val = k
      · rw [if_pos h, if_pos (by omega), hw, h]; exact congrArg Prod.fst (acc b j)
      · rw [if_neg h]
        by_cases h' : t.val < k
        · rw [if_pos h', if_pos (by omega)]
        · rw [if_neg h', if_neg (by omega)]
    · rw [h2, row_read W H _ k (by omega) o ho off inb he, ic]
      by_cases h : t.val = k
      · rw [if_pos h, if_pos (by omega), hw', h]; exact congrArg Prod.snd (acc b j)
      · rw [if_neg h]
        by_cases h' : t.val < k
        · rw [if_pos h', if_pos (by omega)]
        · rw [if_neg h', if_neg (by omega)]
    · rw [h1, h2, row_skip V G _ k o off inb he w t b q hq, row_skip W H _ k o off inb he w' t b q hq]
      exact id t b q hq

end

/-- The two halves of an array stored one after the other, read at any lane. -/
theorem halves_read {rs : RefSig} {κ : Kind} {sp : Space} (V : View rs κ sp Rows .f32) (D : V.ty.Contents (Elt Ideal))
    (inb : ∀ a, (![0, 0, 0] : Fin 3 → ℕ) a + (![128, 8, 512] : Fin 3 → ℕ) a ≤ Rows.size a) (inb' : ∀ a, (![0, 0, 512] : Fin 3 → ℕ) a + (![128, 8, 512] : Fin 3 → ℕ) a ≤ Rows.size a)
    (w : (Rect.unit (s := Rows) ![0, 0, 0] ![128, 8, 512] inb).shape.Idx → Elt Ideal .f32) (w' : (Rect.unit (s := Rows) ![0, 0, 512] ![128, 8, 512] inb').shape.Idx → Elt Ideal .f32)
    (t : Fin 128) (b : Fin 8) (q : Fin 1024) (g : EReal)
    (h : ∀ hq : q.val < 512, w (ix3 t b ⟨q.val, hq⟩) = g) (h' : ∀ hq : 512 ≤ q.val, w' (ix3 t b ⟨q.val - 512, by omega⟩) = g) :
    V.read (Elt Ideal) (V.writes (Elt Ideal) D [(⟨Rect.unit (s := Rows) ![0, 0, 512] ![128, 8, 512] inb', w'⟩ : View.Piece (Elt Ideal) Rows .f32),
      ⟨Rect.unit (s := Rows) ![0, 0, 0] ![128, 8, 512] inb, w⟩]) (ix3 t b q) = g := by
  by_cases hq : q.val < 512
  · rw [View.read_writes_cons_unit_of_not_mem V D inb' w' _ _ rfl 2 (Or.inl hq)]
    refine (View.read_writes_cons_unit_of_mem V D inb w [] _ (ix3 t b ⟨q.val, hq⟩) rfl ?_).trans (h hq)
    intro a
    match a with
    | ⟨0, _⟩ => simp
    | ⟨1, _⟩ => simp
    | ⟨2, _⟩ => simp
  · refine (View.read_writes_cons_unit_of_mem V D inb' w' _ _ (ix3 t b ⟨q.val - 512, by omega⟩) rfl ?_).trans (h' (by omega))
    intro a
    match a with
    | ⟨0, _⟩ => simp
    | ⟨1, _⟩ => simp
    | ⟨2, _⟩ => show q.val = 512 + (q.val - 512); omega

theorem lo : (0 : ℕ) + 512 ≤ 1024 := by decide
theorem up : (512 : ℕ) + 512 ≤ 1024 := by decide

/-- Every lane lies in one of the halves. -/
theorem lane_cases (q : Fin 1024) : (∃ j, q = lane 0 lo j) ∨ ∃ j, q = lane 512 up j := by
  by_cases h : q.val < 512
  · exact Or.inl ⟨⟨q.val, h⟩, Fin.ext (by show _ = 0 + q.val; omega)⟩
  · exact Or.inr ⟨⟨q.val - 512, by omega⟩, Fin.ext (by show _ = 512 + (q.val - 512); omega)⟩

/-- Both loops, one after the other, over arrays that hold the inputs: the states after the last step, and every row's state. -/
theorem two_loops {rs : RefSig} {κ : Kind} {sp : Space} (V W : View rs κ sp Rows .f32) (D : V.ty.Contents (Elt Ideal)) (E : W.ty.Contents (Elt Ideal))
    (P Q : List (View.Piece (Elt Ideal) Rows .f32)) (l x : Fin 8 → Fin 1024 → EReal × EReal) (inp : Fin 8 → Fin 1024 → ℕ → EReal × EReal)
    (s1 s2 : ℕ → (FVec Ideal Lanes .f32 × FVec Ideal Lanes .f32) × List (View.Piece (Elt Ideal) Rows .f32) × List (View.Piece (Elt Ideal) Rows .f32))
    (hP : ∀ (t : Fin 128) b q, V.read (Elt Ideal) (V.writes (Elt Ideal) D P) (ix3 t b q) = (inp b q t.val).1)
    (hQ : ∀ (t : Fin 128) b q, W.read (Elt Ideal) (W.writes (Elt Ideal) E Q) (ix3 t b q) = (inp b q t.val).2)
    (a0 : (s1 0).2 = ([], [])) (ax : ∀ b j, ((s1 0).1.1 (ix2 b j), (s1 0).1.2 (ix2 b j)) = x b (lane 0 lo j))
    (al : ∀ k hk, Trip V W (V.writes (Elt Ideal) D P) (W.writes (Elt Ideal) E Q) 0 lo (fun b j => l b (lane 0 lo j)) k hk (s1 k) (s1 (k + 1)))
    (b0 : (s2 0).2 = ([], [])) (bx : ∀ b j, ((s2 0).1.1 (ix2 b j), (s2 0).1.2 (ix2 b j)) = x b (lane 512 up j))
    (bl : ∀ k hk, Trip V W (V.writes (Elt Ideal) D ((s1 128).2.1 ++ P)) (W.writes (Elt Ideal) E ((s1 128).2.2 ++ Q)) 512 up (fun b j => l b (lane 512 up j)) k hk (s2 k) (s2 (k + 1))) :
    (∀ b j, ((s1 128).1.1 (ix2 b j), (s1 128).1.2 (ix2 b j)) = scn (l b (lane 0 lo j)) (inp b (lane 0 lo j)) (x b (lane 0 lo j)) 128)
      ∧ (∀ b j, ((s2 128).1.1 (ix2 b j), (s2 128).1.2 (ix2 b j)) = scn (l b (lane 512 up j)) (inp b (lane 512 up j)) (x b (lane 512 up j)) 128)
      ∧ (∀ (t : Fin 128) b q, V.read (Elt Ideal) (V.writes (Elt Ideal) D ((s2 128).2.1 ++ ((s1 128).2.1 ++ P))) (ix3 t b q) = (scn (l b q) (inp b q) (x b q) (t.val + 1)).1)
      ∧ (∀ (t : Fin 128) b q, W.read (Elt Ideal) (W.writes (Elt Ideal) E ((s2 128).2.2 ++ ((s1 128).2.2 ++ Q))) (ix3 t b q) = (scn (l b q) (inp b q) (x b q) (t.val + 1)).2) := by
  obtain ⟨a1, a2, a3, a4⟩ := loop_rows V W _ _ 0 lo (fun b j => l b (lane 0 lo j)) s1 (fun b j => x b (lane 0 lo j)) (fun b j => inp b (lane 0 lo j)) a0 ax
    (fun t b j => hP t b _) (fun t b j => hQ t b _) al 128 (le_refl _)
  have g1 : V.writes (Elt Ideal) D ((s1 128).2.1 ++ P) = V.writes (Elt Ideal) (V.writes (Elt Ideal) D P) (s1 128).2.1 := View.writes_append ..
  have g2 : W.writes (Elt Ideal) E ((s1 128).2.2 ++ Q) = W.writes (Elt Ideal) (W.writes (Elt Ideal) E Q) (s1 128).2.2 := View.writes_append ..
  obtain ⟨c1, c2, c3, c4⟩ := loop_rows V W _ _ 512 up (fun b j => l b (lane 512 up j)) s2 (fun b j => x b (lane 512 up j)) (fun b j => inp b (lane 512 up j)) b0 bx
    (fun t b j => by rw [g1, (a4 t b _ (Or.inr (by show 0 + 512 ≤ 512 + j.val; omega))).1]; exact hP t b _)
    (fun t b j => by rw [g2, (a4 t b _ (Or.inr (by show 0 + 512 ≤ 512 + j.val; omega))).2]; exact hQ t b _) bl 128 (le_refl _)
  refine ⟨a1, c1, fun t b q => ?_, fun t b q => ?_⟩
  · rw [View.writes_append]
    rcases lane_cases q with ⟨j, rfl⟩ | ⟨j, rfl⟩
    · rw [(c4 t b _ (Or.inl (by show 0 + j.val < 512; omega))).1, g1, a2, if_pos t.isLt]
    · rw [c2, if_pos t.isLt]
  · rw [View.writes_append]
    rcases lane_cases q with ⟨j, rfl⟩ | ⟨j, rfl⟩
    · rw [(c4 t b _ (Or.inl (by show 0 + j.val < 512; omega))).2, g2, a3, if_pos t.isLt]
    · rw [c3, if_pos t.isLt]

end Cert.SsmMath
end
-- ==== Proof.SsmFwdMath.Loops.lean ====
/- The two loops of a chunk, one per half of the lanes: each trip is one step of the recurrence on every lane of its half. -/
module

public import proofs.«01_k».proof.Proof.SsmFwdRun.Data
public import proofs.«01_k».proof.Proof.SsmMath.Loop
public import Idealize.ShloMosaic.Lib.Pipeline.ValueKit
public import Idealize.ShloMosaic.Lib.Claim
public import Idealize.ShloMosaic.Lib.StableHlo.RunRead
public import Idealize.ShloMosaic.Lib.StableHlo.ReadAt
public import Idealize.ShloMosaic.Lib.Pipeline.ReadBack

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath

section
variable (v v' : Vec Ideal S1x8x512 .f32) (p q : FVec Ideal S8x512 .f32) (z : Vec Ideal S1x8x512 .f32) (b : Fin 8) (j : Fin 512)
theorem step_re1 : k0_pay17 v v' p q z (ix2 b j) = v (ix3 0 b j) * p (ix2 b j) - v' (ix3 0 b j) * q (ix2 b j) + z (ix3 0 b j) := by
  pointwise [k0_pay17, k0_pay13, k0_pay14]
theorem step_im1 : k0_pay18 v v' p q z (ix2 b j) = v (ix3 0 b j) * q (ix2 b j) + v' (ix3 0 b j) * p (ix2 b j) + z (ix3 0 b j) := by
  pointwise [k0_pay18, k0_pay13, k0_pay14]
theorem step_re2 : k0_pay27 v v' p q z (ix2 b j) = v (ix3 0 b j) * p (ix2 b j) - v' (ix3 0 b j) * q (ix2 b j) + z (ix3 0 b j) := by
  pointwise [k0_pay27, k0_pay23, k0_pay24]
theorem step_im2 : k0_pay28 v v' p q z (ix2 b j) = v (ix3 0 b j) * q (ix2 b j) + v' (ix3 0 b j) * p (ix2 b j) + z (ix3 0 b j) := by
  pointwise [k0_pay28, k0_pay23, k0_pay24]
theorem put_re1 : k0_pay19 v v' p q z (ix3 0 b j) = k0_pay17 v v' p q z (ix2 b j) := by
  rw [step_re1]; pointwise [k0_pay19, k0_pay17, k0_pay13, k0_pay14]
theorem put_im1 : k0_pay20 v v' p q z (ix3 0 b j) = k0_pay18 v v' p q z (ix2 b j) := by
  rw [step_im1]; pointwise [k0_pay20, k0_pay18, k0_pay13, k0_pay14]
theorem put_re2 : k0_pay29 v v' p q z (ix3 0 b j) = k0_pay27 v v' p q z (ix2 b j) := by
  rw [step_re2]; pointwise [k0_pay29, k0_pay27, k0_pay23, k0_pay24]
theorem put_im2 : k0_pay30 v v' p q z (ix3 0 b j) = k0_pay28 v v' p q z (ix2 b j) := by
  rw [step_im2]; pointwise [k0_pay30, k0_pay28, k0_pay23, k0_pay24]
end

theorem trips1 : k0_t1_loop.trips = 128 := by decide +kernel
theorem trips2 : k0_t2_loop.trips = 128 := by decide +kernel

/-- Reading one row's half of an array. -/
theorem row_at {rs : RefSig} {κ : Kind} {sp : Space} (V : View rs κ sp Rows .f32) (f : V.ty.Contents (Elt Ideal)) (off : Fin 3 → ℕ)
    (inb : ∀ a, off a + (![1, 8, 512] : Fin 3 → ℕ) a ≤ Rows.size a) (k : ℕ) (hk : k < 128) (o : ℕ) (ho : o + 512 ≤ 1024) (he : off = ![k, 0, o]) (b : Fin 8) (j : Fin 512) :
    V.readAt (Elt Ideal) (Rect.unit (s := Rows) off ![1, 8, 512] inb).toLoadRect f (ix3 0 b j) = V.read (Elt Ideal) f (ix3 ⟨k, hk⟩ b (lane o ho j)) := by
  subst he
  refine at_unit V f _ _ inb _ _ fun a => ?_
  match a with
  | ⟨0, _⟩ => simp
  | ⟨1, _⟩ => simp
  | ⟨2, _⟩ => simp

variable (c : Dev nD) (i : grid0.Coords)
  (arg1 : Memref sig .tc .vmem S1024x256 .bf16) (harg1 : arg1.IsWhole)
  (arg2 : Memref sig .tc .vmem S256x4096 .bf16) (harg2 : arg2.IsWhole)
  (arg3 : Memref sig .tc .vmem S2048x512 .bf16) (harg3 : arg3.IsWhole)
  (arg4 : Memref sig .tc .vmem S2x8x1024 .f32) (harg4 : arg4.IsWhole)
  (arg5 : Memref sig .tc .vmem S8x256 .f32) (harg5 : arg5.IsWhole)
  (arg6 : Memref sig .tc .vmem S1024x256 .bf16) (harg6 : arg6.IsWhole)
  (arg7 : Memref sig .tc .vmem S1x2x8x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S128x8x1024 .f32) (harg10 : arg10.IsWhole)
  (arg11 : Memref sig .tc .vmem S128x8x1024 .f32) (harg11 : arg11.IsWhole)
  (arg12 : Memref sig .tc .vmem S2x8x1024 .f32) (harg12 : arg12.IsWhole)

variable (v8 : FVec Ideal S1024x256 .bf16) (v28 : IVec S1024x1 1) (e8 : FVec Ideal S8x512 .f32)

variable (w w' : Vec Ideal S1x8x512 .f32)
theorem trip1 (G : BufTy.Contents (Elt Ideal) arg10.view.ty) (H : BufTy.Contents (Elt Ideal) arg11.view.ty) (init : FVec Ideal S8x512 .f32 × FVec Ideal S8x512 .f32) (k : ℕ) (hk : k < 128) :
    Trip arg10.view arg11.view G H 0 lo (fun b j => (w (ix3 0 b j), w' (ix3 0 b j))) k hk
      (st_k0_t1 (F := Ideal) Variants.none c none i arg1 harg1 arg2 harg2 arg3 harg3 arg4 harg4 arg5 harg5 arg6 harg6 arg7 harg7 arg8 harg8 arg9 harg9 arg10 harg10 arg11 harg11 arg12 harg12 v8 v28 w w' G H init k) (st_k0_t1 (F := Ideal) Variants.none c none i arg1 harg1 arg2 harg2 arg3 harg3 arg4 harg4 arg5 harg5 arg6 harg6 arg7 harg7 arg8 harg8 arg9 harg9 arg10 harg10 arg11 harg11 arg12 harg12 v8 v28 w w' G H init (k + 1)) := by
  have hk' : k < k0_t1_loop.trips := by rw [trips1]; exact hk
  have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 v8 v28 w w' G H init ⟨k, hk'⟩
  unfold tripR_k0_t1 tripL_k0_t1 trip_k0_t1 at e
  dsimp only at e
  refine ⟨?_, ?_, ?_⟩
  · intro b j
    rw [e]
    refine (step_re1 _ _ _ _ _ b j).trans ?_
    rw [row_at arg10.view _ _ _ k hk 0 lo (k0_off1_eq ⟨k, hk'⟩)]
  · intro b j
    rw [e]
    refine (step_im1 _ _ _ _ _ b j).trans ?_
    rw [row_at arg11.view _ _ _ k hk 0 lo (k0_off1_eq ⟨k, hk'⟩)]
  · rw [e]
    exact ⟨_, _, _, _, k0_off1_eq ⟨k, hk'⟩, rfl, rfl, fun b j => put_re1 _ _ _ _ _ b j, fun b j => put_im1 _ _ _ _ _ b j⟩

variable (w w' : Vec Ideal S1x8x512 .f32)
theorem trip2 (G : BufTy.Contents (Elt Ideal) arg10.view.ty) (H : BufTy.Contents (Elt Ideal) arg11.view.ty) (init : FVec Ideal S8x512 .f32 × FVec Ideal S8x512 .f32) (k : ℕ) (hk : k < 128) :
    Trip arg10.view arg11.view G H 512 up (fun b j => (w (ix3 0 b j), w' (ix3 0 b j))) k hk
      (st_k0_t2 (F := Ideal) Variants.none c none i arg1 harg1 arg2 harg2 arg3 harg3 arg4 harg4 arg5 harg5 arg6 harg6 arg7 harg7 arg8 harg8 arg9 harg9 arg10 harg10 arg11 harg11 arg12 harg12 e8 w w' G H init k) (st_k0_t2 (F := Ideal) Variants.none c none i arg1 harg1 arg2 harg2 arg3 harg3 arg4 harg4 arg5 harg5 arg6 harg6 arg7 harg7 arg8 harg8 arg9 harg9 arg10 harg10 arg11 harg11 arg12 harg12 e8 w w' G H init (k + 1)) := by
  have hk' : k < k0_t2_loop.trips := by rw [trips2]; exact hk
  have e := st_k0_t2_succ (F := Ideal) Variants.none c none i arg1 harg1 arg2 harg2 arg3 harg3 arg4 harg4 arg5 harg5 arg6 harg6 arg7 harg7 arg8 harg8 arg9 harg9 arg10 harg10 arg11 harg11 arg12 harg12 e8 w w' G H init ⟨k, hk'⟩
  unfold tripR_k0_t2 tripL_k0_t2 trip_k0_t2 at e
  dsimp only at e
  refine ⟨?_, ?_, ?_⟩
  · intro b j
    rw [e]
    refine (step_re2 _ _ _ _ _ b j).trans ?_
    rw [row_at arg10.view _ _ _ k hk 512 up (k0_off2_eq ⟨k, hk'⟩)]
  · intro b j
    rw [e]
    refine (step_im2 _ _ _ _ _ b j).trans ?_
    rw [row_at arg11.view _ _ _ k hk 512 up (k0_off2_eq ⟨k, hk'⟩)]
  · rw [e]
    exact ⟨_, _, _, _, k0_off2_eq ⟨k, hk'⟩, rfl, rfl, fun b j => put_re2 _ _ _ _ _ b j, fun b j => put_im2 _ _ _ _ _ b j⟩

end Cert.SsmFwdMath
end
-- ==== Proof.SsmFwdMath.Pay.lean ====
/- A chunk's values row by row: the projections by the row's half, the read-out, and what is stored of the states. -/
module

public import proofs.«01_k».proof.Proof.SsmFwdMath.Loops

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath

/-- The row of step `t` and example-half `b`. -/
abbrev rw8 (t : Fin 128) (b : Fin 8) : Fin 1024 := ⟨t.val * 8 + b.val, by omega⟩

theorem dv (t : Fin 128) (b : Fin 8) (h) : (⟨(t.val * 8 + b.val) / 8, h⟩ : Fin 128) = t := Fin.ext (by show _ / 8 = _; omega)
theorem md (t : Fin 128) (b : Fin 8) (h) : (⟨(t.val * 8 + b.val) % 8, h⟩ : Fin 8) = b := Fin.ext (by show _ % 8 = _; omega)
theorem dm (t : Fin 128) (b : Fin 8) (h) : (⟨(t.val * 8 + b.val) / 8 * 8 + (t.val * 8 + b.val) % 8, h⟩ : Fin 1024) = rw8 t b := Fin.ext (by show (t.val * 8 + b.val) / 8 * 8 + (t.val * 8 + b.val) % 8 = t.val * 8 + b.val; omega)

theorem par_even : ∀ r : Fin 1024, r.val % 2 = 0 → k0_pay6 (ix2 r 0) = 1#1 := by decide +kernel
theorem par_odd : ∀ r : Fin 1024, ¬r.val % 2 = 0 → k0_pay6 (ix2 r 0) = 0#1 := by decide +kernel

/-- Choosing by the row's half. -/
theorem par_pick {α : Type} (t : Fin 128) (b : Fin 8) (x y : α) :
    Scalar.select (k0_pay6 (ix2 (rw8 t b) 0)) x y = if b.val % 2 = 0 then x else y := by
  by_cases h : b.val % 2 = 0
  · rw [par_even _ (by show (t.val * 8 + b.val) % 2 = 0; omega), if_pos h]; rfl
  · rw [par_odd _ (by show ¬(t.val * 8 + b.val) % 2 = 0; omega), if_neg h]; rfl

section
variable (X : FVec Ideal S1024x256 .bf16) (A B : Vec Ideal S256x512 .bf16) (t : Fin 128) (b : Fin 8) (j : Fin 512)

/-- A projection: the row times the columns of its half. -/
abbrev proj : EReal := if b.val % 2 = 0 then ∑ k : Fin 256, X (ix2 (rw8 t b) k) * A (ix2 k j) else ∑ k : Fin 256, X (ix2 (rw8 t b) k) * B (ix2 k j)

theorem p9 : k0_pay9 (k0_pay4 X) k0_pay6 (k0_pay7 X A) (k0_pay8 B) (ix3 t b j) = proj X A B t b j := by
  rw [proj, ← par_pick t]; pointwise [k0_pay9, k0_pay4, k0_pay7, k0_pay8]
theorem p10 : k0_pay10 (k0_pay4 X) k0_pay6 A B (ix3 t b j) = proj X A B t b j := by
  rw [proj, ← par_pick t]; pointwise [k0_pay10, k0_pay4]
theorem p11 : k0_pay11 (k0_pay4 X) k0_pay6 A B (ix3 t b j) = proj X A B t b j := by
  rw [proj, ← par_pick t]; pointwise [k0_pay11, k0_pay4]
theorem p12 : k0_pay12 (k0_pay4 X) k0_pay6 A B (ix3 t b j) = proj X A B t b j := by
  rw [proj, ← par_pick t]; pointwise [k0_pay12, k0_pay4]
end

section
variable (S : Vec Ideal S128x8x1024 .f32) (t : Fin 128) (b : Fin 8) (q : Fin 1024)
theorem p33 : k0_pay33 S (ix2 (rw8 t b) q) = S (ix3 t b q) := by pointwise [k0_pay33]; simp only [dv, md]
theorem p34 : k0_pay34 S (ix2 (rw8 t b) q) = S (ix3 t b q) := by pointwise [k0_pay34]; simp only [dv, md]
end

section
variable (v : Vec Ideal S1x8x512 .f32) (p : FVec Ideal S8x512 .f32) (b : Fin 8) (j : Fin 512)
theorem p15 : k0_pay15 v (ix2 b j) = v (ix3 0 b j) := by pointwise [k0_pay15]
theorem p16 : k0_pay16 v (ix2 b j) = v (ix3 0 b j) := by pointwise [k0_pay16]
theorem p25 : k0_pay25 v (ix2 b j) = v (ix3 0 b j) := by pointwise [k0_pay25]
theorem p26 : k0_pay26 v (ix2 b j) = v (ix3 0 b j) := by pointwise [k0_pay26]
theorem p21 : k0_pay21 p (ix3 0 b j) = p (ix2 b j) := by pointwise [k0_pay21]
theorem p22 : k0_pay22 p (ix3 0 b j) = p (ix2 b j) := by pointwise [k0_pay22]
theorem p31 : k0_pay31 p (ix3 0 b j) = p (ix2 b j) := by pointwise [k0_pay31]
theorem p32 : k0_pay32 p (ix3 0 b j) = p (ix2 b j) := by pointwise [k0_pay32]
end

theorem p2 (i : S2x8x1024.Idx) : k0_pay2 (F := Ideal) i = 0 := by
  show Ideal.ofBits .f32 0x00000000#32 = 0
  simp [Ideal.ofBits, Ideal.ieee]
theorem p3 (v : Vec Ideal S2x8x1024 .f32) (z : Fin 2) (b : Fin 8) (q : Fin 1024) : k0_pay3 v (ix4 0 z b q) = v (ix3 z b q) := by pointwise [k0_pay3]

section
variable (X : Vec Ideal S1024x256 .bf16) (R I : FVec Ideal S1024x1024 .bf16) (A B : Vec Ideal S1024x512 .bf16) (D : Vec Ideal S8x256 .f32)
variable (t : Fin 128) (b : Fin 8) (h : Fin 256)

/-- The read-out of a row, by its half, and the direct term. -/
abbrev outY : EReal :=
  (if b.val % 2 = 0 then ∑ k : Fin 1024, R (ix2 (rw8 t b) k) * A (ix2 k ⟨h.val, by omega⟩) + ∑ k : Fin 1024, I (ix2 (rw8 t b) k) * B (ix2 k ⟨h.val, by omega⟩)
   else ∑ k : Fin 1024, R (ix2 (rw8 t b) k) * A (ix2 k ⟨256 + h.val, by omega⟩) + ∑ k : Fin 1024, I (ix2 (rw8 t b) k) * B (ix2 k ⟨256 + h.val, by omega⟩))
  + X (ix2 (rw8 t b) h) * D (ix2 b h)

theorem p1 : k0_pay1 (k0_pay5 X) k0_pay6 R I A B D (ix2 (rw8 t b) h) = outY X R I A B D t b h := by
  rw [outY, ← par_pick t]; pointwise [k0_pay1, k0_pay5, k0_pay4]; simp only [dm, md]
end

end Cert.SsmFwdMath
end
-- ==== Proof.SsmFwdMath.Chunk.lean ====
/- One chunk: what it leaves in the outputs and in the carried state, from the chunk's blocks and the state it starts from. -/
module

public import proofs.«01_k».proof.Proof.SsmFwdMath.Pay

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath

open Cert.SsmFwdRun

/-- A chunk's inputs to the recurrence on one lane, by the row's half. -/
def inpC (X0 : Vec Ideal S1024x256 .bf16) (X1 : Vec Ideal S256x4096 .bf16) (b : Fin 8) (q : Fin 1024) (t : ℕ) : EReal × EReal :=
  if h : t < 128 then
    (if b.val % 2 = 0 then ∑ k : Fin 256, X0 (ix2 (rw8 ⟨t, h⟩ b) k) * X1 (ix2 k ⟨q.val, by omega⟩) else ∑ k : Fin 256, X0 (ix2 (rw8 ⟨t, h⟩ b) k) * X1 (ix2 k ⟨2048 + q.val, by omega⟩),
     if b.val % 2 = 0 then ∑ k : Fin 256, X0 (ix2 (rw8 ⟨t, h⟩ b) k) * X1 (ix2 k ⟨1024 + q.val, by omega⟩) else ∑ k : Fin 256, X0 (ix2 (rw8 ⟨t, h⟩ b) k) * X1 (ix2 k ⟨3072 + q.val, by omega⟩))
  else (0, 0)

/-- The state on one lane after `k` steps of the chunk. -/
abbrev stC (X0 : Vec Ideal S1024x256 .bf16) (X1 : Vec Ideal S256x4096 .bf16) (X3 s : Vec Ideal S2x8x1024 .f32) (b : Fin 8) (q : Fin 1024) (k : ℕ) : EReal × EReal :=
  scn (X3 (ix3 0 b q), X3 (ix3 1 b q)) (inpC X0 X1 b q) (s (ix3 0 b q), s (ix3 1 b q)) k

/-- What a chunk leaves: the outputs, the incoming state, every row's state, and the state after its last step. -/
structure ChunkOut (X0 : Vec Ideal S1024x256 .bf16) (X1 : Vec Ideal S256x4096 .bf16) (X2 : Vec Ideal S2048x512 .bf16) (X3 : Vec Ideal S2x8x1024 .f32) (X4 : Vec Ideal S8x256 .f32) (s : Vec Ideal S2x8x1024 .f32)
    (o : Vec Ideal S1024x256 .bf16 × Vec Ideal S1x2x8x1024 .f32 × Vec Ideal S1024x1024 .bf16 × Vec Ideal S1024x1024 .bf16 × Vec Ideal S2x8x1024 .f32) : Prop where
  y : ∀ (t : Fin 128) b (h : Fin 256), o.1 (ix2 (rw8 t b) h)
    = (if b.val % 2 = 0 then ∑ k : Fin 1024, (stC X0 X1 X3 s b k (t.val + 1)).1 * X2 (ix2 ⟨k.val, by omega⟩ ⟨h.val, by omega⟩)
          + ∑ k : Fin 1024, (stC X0 X1 X3 s b k (t.val + 1)).2 * X2 (ix2 ⟨1024 + k.val, by omega⟩ ⟨h.val, by omega⟩)
        else ∑ k : Fin 1024, (stC X0 X1 X3 s b k (t.val + 1)).1 * X2 (ix2 ⟨k.val, by omega⟩ ⟨256 + h.val, by omega⟩)
          + ∑ k : Fin 1024, (stC X0 X1 X3 s b k (t.val + 1)).2 * X2 (ix2 ⟨1024 + k.val, by omega⟩ ⟨256 + h.val, by omega⟩))
      + X0 (ix2 (rw8 t b) h) * X4 (ix2 b h)
  xc : ∀ z b q, o.2.1 (ix4 0 z b q) = s (ix3 z b q)
  re : ∀ (t : Fin 128) b q, o.2.2.1 (ix2 (rw8 t b) q) = (stC X0 X1 X3 s b q (t.val + 1)).1
  im : ∀ (t : Fin 128) b q, o.2.2.2.1 (ix2 (rw8 t b) q) = (stC X0 X1 X3 s b q (t.val + 1)).2
  re' : ∀ b q, o.2.2.2.2 (ix3 0 b q) = (stC X0 X1 X3 s b q 128).1
  im' : ∀ b q, o.2.2.2.2 (ix3 1 b q) = (stC X0 X1 X3 s b q 128).2

section
variable {rs : RefSig} {κ : Kind} {sp : Space}

/-- A store over a whole array, read anywhere. -/
theorem whole2 {n k : ℕ} {e : EltTy} (V : View rs κ sp ⟨2, ![n, k]⟩ e) (f : V.ty.Contents (Elt Ideal)) (inb : ∀ a, (![0, 0] : Fin 2 → ℕ) a + (![n, k] : Fin 2 → ℕ) a ≤ (⟨2, ![n, k]⟩ : Shape).size a)
    (w : (Rect.unit (s := ⟨2, ![n, k]⟩) ![0, 0] ![n, k] inb).shape.Idx → Elt Ideal e) (L : List (View.Piece (Elt Ideal) ⟨2, ![n, k]⟩ e)) (i : Fin n) (j : Fin k) :
    V.read (Elt Ideal) (V.writes (Elt Ideal) f ((⟨Rect.unit (s := ⟨2, ![n, k]⟩) ![0, 0] ![n, k] inb, w⟩ : View.Piece (Elt Ideal) ⟨2, ![n, k]⟩ e) :: L)) (ix2 i j) = w (ix2 i j) := by
  refine View.read_writes_cons_unit_of_mem V f inb w L _ (ix2 i j) rfl fun a => ?_
  match a with
  | ⟨0, _⟩ => simp
  | ⟨1, _⟩ => simp

/-- A store of a quarter of the state, read in it and outside it. -/
theorem quarter (V : View rs κ sp S2x8x1024 .f32) (f : V.ty.Contents (Elt Ideal)) (z o : ℕ) (hz : z < 2) (ho : o + 512 ≤ 1024)
    (inb : ∀ a, (![z, 0, o] : Fin 3 → ℕ) a + (![1, 8, 512] : Fin 3 → ℕ) a ≤ S2x8x1024.size a)
    (w : (Rect.unit (s := S2x8x1024) ![z, 0, o] ![1, 8, 512] inb).shape.Idx → Elt Ideal .f32) (L : List (View.Piece (Elt Ideal) S2x8x1024 .f32)) (b : Fin 8) (j : Fin 512) :
    V.read (Elt Ideal) (V.writes (Elt Ideal) f ((⟨Rect.unit (s := S2x8x1024) ![z, 0, o] ![1, 8, 512] inb, w⟩ : View.Piece (Elt Ideal) S2x8x1024 .f32) :: L)) (ix3 ⟨z, hz⟩ b (lane o ho j)) = w (ix3 0 b j) := by
  refine View.read_writes_cons_unit_of_mem V f inb w L _ (ix3 0 b j) rfl fun a => ?_
  match a with
  | ⟨0, _⟩ => simp
  | ⟨1, _⟩ => simp
  | ⟨2, _⟩ => simp
theorem quarter_skip (V : View rs κ sp S2x8x1024 .f32) (f : V.ty.Contents (Elt Ideal)) (z o : ℕ)
    (inb : ∀ a, (![z, 0, o] : Fin 3 → ℕ) a + (![1, 8, 512] : Fin 3 → ℕ) a ≤ S2x8x1024.size a)
    (w : (Rect.unit (s := S2x8x1024) ![z, 0, o] ![1, 8, 512] inb).shape.Idx → Elt Ideal .f32) (L : List (View.Piece (Elt Ideal) S2x8x1024 .f32)) (z' : Fin 2) (b : Fin 8) (q : Fin 1024)
    (h : (z'.val < z ∨ z + 1 ≤ z'.val) ∨ (q.val < o ∨ o + 512 ≤ q.val)) :
    V.read (Elt Ideal) (V.writes (Elt Ideal) f ((⟨Rect.unit (s := S2x8x1024) ![z, 0, o] ![1, 8, 512] inb, w⟩ : View.Piece (Elt Ideal) S2x8x1024 .f32) :: L)) (ix3 z' b q)
      = V.read (Elt Ideal) (V.writes (Elt Ideal) f L) (ix3 z' b q) := by
  rcases h with h | h
  · exact View.read_writes_cons_unit_of_not_mem V f inb w L _ rfl 0 h
  · exact View.read_writes_cons_unit_of_not_mem V f inb w L _ rfl 2 h

/-- The zero fill under quarters of the lower lanes. -/
theorem zeros_read (V : View rs κ sp S2x8x1024 .f32) (f : V.ty.Contents (Elt Ideal)) (z : Fin 2) (b : Fin 8) (q : Fin 1024) :
    V.read (Elt Ideal) (V.writes (Elt Ideal) f [(⟨Rect.unit (s := S2x8x1024) ![0, 0, 0] ![2, 8, 1024] inb_S2x8x1024_S2x8x1024_0_0_0, k0_pay2 (F := Ideal)⟩ : View.Piece (Elt Ideal) S2x8x1024 .f32)]) (ix3 z b q) = 0 := by
  refine (View.read_writes_cons_unit_of_mem V f _ _ [] _ (ix3 z b q) rfl fun a => ?_).trans (p2 _)
  match a with
  | ⟨0, _⟩ => simp
  | ⟨1, _⟩ => simp
  | ⟨2, _⟩ => simp
end

variable (c : Dev nD) (i : grid0.Coords)
  (arg1 : Memref sig .tc .vmem S1024x256 .bf16) (harg1 : arg1.IsWhole)
  (arg2 : Memref sig .tc .vmem S256x4096 .bf16) (harg2 : arg2.IsWhole)
  (arg3 : Memref sig .tc .vmem S2048x512 .bf16) (harg3 : arg3.IsWhole)
  (arg4 : Memref sig .tc .vmem S2x8x1024 .f32) (harg4 : arg4.IsWhole)
  (arg5 : Memref sig .tc .vmem S8x256 .f32) (harg5 : arg5.IsWhole)
  (arg6 : Memref sig .tc .vmem S1024x256 .bf16) (harg6 : arg6.IsWhole)
  (arg7 : Memref sig .tc .vmem S1x2x8x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S128x8x1024 .f32) (harg10 : arg10.IsWhole)
  (arg11 : Memref sig .tc .vmem S128x8x1024 .f32) (harg11 : arg11.IsWhole)
  (arg12 : Memref sig .tc .vmem S2x8x1024 .f32) (harg12 : arg12.IsWhole)

variable (x0 : Vec Ideal S1024x256 .bf16) (x1 : Vec Ideal S256x4096 .bf16) (x2 : Vec Ideal S2048x512 .bf16) (x3 : Vec Ideal S2x8x1024 .f32) (x4 : Vec Ideal S8x256 .f32)

theorem ld1 (r : Fin 1024) (k : Fin 256) : (View.readAt (Elt Ideal) arg1.view (Rect.unit (s := S1024x256) ![0, 0] ![1024, 256] inb_S1024x256_S1024x256_0_0).toLoadRect (harg1.unread x0)) (ix2 r k) = x0 (ix2 r k) := by
  rw [at_unit arg1.view _ _ _ _ _ (ix2 r k) (fun a => by match a with | ⟨0, _⟩ => simp | ⟨1, _⟩ => simp), harg1.read_unread]
theorem ld2 (o : ℕ) (inb) (hq : o + 512 ≤ 4096) (k : Fin 256) (j : Fin 512) :
    (View.readAt (Elt Ideal) arg2.view (Rect.unit (s := S256x4096) ![0, o] ![256, 512] inb).toLoadRect (harg2.unread x1)) (ix2 k j) = x1 (ix2 k ⟨o + j.val, by omega⟩) := by
  rw [at_unit arg2.view _ _ _ _ _ (ix2 k ⟨o + j.val, by omega⟩) (fun a => by match a with | ⟨0, _⟩ => simp | ⟨1, _⟩ => simp), harg2.read_unread]
theorem ld3 (o : ℕ) (inb) (hq : o + 1024 ≤ 2048) (k : Fin 1024) (j : Fin 512) :
    (View.readAt (Elt Ideal) arg3.view (Rect.unit (s := S2048x512) ![o, 0] ![1024, 512] inb).toLoadRect (harg3.unread x2)) (ix2 k j) = x2 (ix2 ⟨o + k.val, by omega⟩ j) := by
  rw [at_unit arg3.view _ _ _ _ _ (ix2 ⟨o + k.val, by omega⟩ j) (fun a => by match a with | ⟨0, _⟩ => simp | ⟨1, _⟩ => simp), harg3.read_unread]
theorem ld4 (z o : ℕ) (inb) (hz : z < 2) (ho : o + 512 ≤ 1024) (b : Fin 8) (j : Fin 512) :
    (View.readAt (Elt Ideal) arg4.view (Rect.unit (s := S2x8x1024) ![z, 0, o] ![1, 8, 512] inb).toLoadRect (harg4.unread x3)) (ix3 0 b j) = x3 (ix3 ⟨z, hz⟩ b (lane o ho j)) := by
  rw [at_unit arg4.view _ _ _ _ _ (ix3 ⟨z, hz⟩ b (lane o ho j)) (fun a => by match a with | ⟨0, _⟩ => simp | ⟨1, _⟩ => simp | ⟨2, _⟩ => simp), harg4.read_unread]
theorem ld5 (b : Fin 8) (h : Fin 256) : (View.readAt (Elt Ideal) arg5.view (Rect.unit (s := S8x256) ![0, 0] ![8, 256] inb_S8x256_S8x256_0_0).toLoadRect (harg5.unread x4)) (ix2 b h) = x4 (ix2 b h) := by
  rw [at_unit arg5.view _ _ _ _ _ (ix2 b h) (fun a => by match a with | ⟨0, _⟩ => simp | ⟨1, _⟩ => simp), harg5.read_unread]
theorem whole_scratch (V : View sig .tc .vmem S128x8x1024 .f32) (f : V.ty.Contents (Elt Ideal)) (t : Fin 128) (b : Fin 8) (q : Fin 1024) :
    V.readAt (Elt Ideal) (Rect.unit (s := S128x8x1024) ![0, 0, 0] ![128, 8, 1024] inb_S128x8x1024_S128x8x1024_0_0_0).toLoadRect f (ix3 t b q) = V.read (Elt Ideal) f (ix3 t b q) :=
  at_unit V _ _ _ _ _ (ix3 t b q) (fun a => by match a with | ⟨0, _⟩ => simp | ⟨1, _⟩ => simp | ⟨2, _⟩ => simp)

/-- The stores of the inputs, real and imaginary parts. -/
abbrev P10 : List (View.Piece (Elt Ideal) S128x8x1024 .f32) :=
  [⟨Rect.unit ![0, 0, 512] ![128, 8, 512] inb_S128x8x1024_S128x8x512_0_0_512, k0_pay10 (k0_pay4 (View.readAt (Elt Ideal) arg1.view (Rect.unit (s := S1024x256) ![0, 0] ![1024, 256] inb_S1024x256_S1024x256_0_0).toLoadRect (harg1.unread x0))) k0_pay6 (View.readAt (Elt Ideal) arg2.view (Rect.unit (s := S256x4096) ![0, 512] ![256, 512] inb_S256x4096_S256x512_0_512).toLoadRect (harg2.unread x1)) (View.readAt (Elt Ideal) arg2.view (Rect.unit (s := S256x4096) ![0, 2560] ![256, 512] inb_S256x4096_S256x512_0_2560).toLoadRect (harg2.unread x1))⟩,
   ⟨Rect.unit ![0, 0, 0] ![128, 8, 512] inb_S128x8x1024_S128x8x512_0_0_0, k0_pay9 (k0_pay4 (View.readAt (Elt Ideal) arg1.view (Rect.unit (s := S1024x256) ![0, 0] ![1024, 256] inb_S1024x256_S1024x256_0_0).toLoadRect (harg1.unread x0))) k0_pay6 (k0_pay7 (View.readAt (Elt Ideal) arg1.view (Rect.unit (s := S1024x256) ![0, 0] ![1024, 256] inb_S1024x256_S1024x256_0_0).toLoadRect (harg1.unread x0)) (View.readAt (Elt Ideal) arg2.view (Rect.unit (s := S256x4096) ![0, 0] ![256, 512] inb_S256x4096_S256x512_0_0).toLoadRect (harg2.unread x1))) (k0_pay8 (View.readAt (Elt Ideal) arg2.view (Rect.unit (s := S256x4096) ![0, 2048] ![256, 512] inb_S256x4096_S256x512_0_2048).toLoadRect (harg2.unread x1)))⟩]
abbrev P11 : List (View.Piece (Elt Ideal) S128x8x1024 .f32) :=
  [⟨Rect.unit ![0, 0, 512] ![128, 8, 512] inb_S128x8x1024_S128x8x512_0_0_512, k0_pay12 (k0_pay4 (View.readAt (Elt Ideal) arg1.view (Rect.unit (s := S1024x256) ![0, 0] ![1024, 256] inb_S1024x256_S1024x256_0_0).toLoadRect (harg1.unread x0))) k0_pay6 (View.readAt (Elt Ideal) arg2.view (Rect.unit (s := S256x4096) ![0, 1536] ![256, 512] inb_S256x4096_S256x512_0_1536).toLoadRect (harg2.unread x1)) (View.readAt (Elt Ideal) arg2.view (Rect.unit (s := S256x4096) ![0, 3584] ![256, 512] inb_S256x4096_S256x512_0_3584).toLoadRect (harg2.unread x1))⟩,
   ⟨Rect.unit ![0, 0, 0] ![128, 8, 512] inb_S128x8x1024_S128x8x512_0_0_0, k0_pay11 (k0_pay4 (View.readAt (Elt Ideal) arg1.view (Rect.unit (s := S1024x256) ![0, 0] ![1024, 256] inb_S1024x256_S1024x256_0_0).toLoadRect (harg1.unread x0))) k0_pay6 (View.readAt (Elt Ideal) arg2.view (Rect.unit (s := S256x4096) ![0, 1024] ![256, 512] inb_S256x4096_S256x512_0_1024).toLoadRect (harg2.unread x1)) (View.readAt (Elt Ideal) arg2.view (Rect.unit (s := S256x4096) ![0, 3072] ![256, 512] inb_S256x4096_S256x512_0_3072).toLoadRect (harg2.unread x1))⟩]

/-- A projection of the loaded blocks, in the blocks themselves. -/
theorem proj_ld (o o' : ℕ) (inb inb') (ho : o + 512 ≤ 4096) (ho' : o' + 512 ≤ 4096) (t : Fin 128) (b : Fin 8) (j : Fin 512) (u u' : Fin 4096) (hu : u.val = o + j.val) (hu' : u'.val = o' + j.val) :
    proj (View.readAt (Elt Ideal) arg1.view (Rect.unit (s := S1024x256) ![0, 0] ![1024, 256] inb_S1024x256_S1024x256_0_0).toLoadRect (harg1.unread x0)) (View.readAt (Elt Ideal) arg2.view (Rect.unit (s := S256x4096) ![0, o] ![256, 512] inb).toLoadRect (harg2.unread x1)) (View.readAt (Elt Ideal) arg2.view (Rect.unit (s := S256x4096) ![0, o'] ![256, 512] inb').toLoadRect (harg2.unread x1)) t b j
      = if b.val % 2 = 0 then ∑ k : Fin 256, x0 (ix2 (rw8 t b) k) * x1 (ix2 k u) else ∑ k : Fin 256, x0 (ix2 (rw8 t b) k) * x1 (ix2 k u') := by
  rw [show u = ⟨o + j.val, by omega⟩ from Fin.ext hu, show u' = ⟨o' + j.val, by omega⟩ from Fin.ext hu']
  unfold proj
  simp only [ld1 arg1 harg1 x0, ld2 arg2 harg2 x1 o inb ho, ld2 arg2 harg2 x1 o' inb' ho']

theorem in_re (t : Fin 128) (b : Fin 8) (q : Fin 1024) :
    arg10.view.read (Elt Ideal) (arg10.view.writes (Elt Ideal) arg10.view.junk (P10 arg1 harg1 arg2 harg2 x0 x1)) (ix3 t b q) = (inpC x0 x1 b q t.val).1 := by
  rw [inpC, dif_pos t.isLt]
  refine halves_read arg10.view _ _ _ _ _ t b q _ (fun hq => ?_) (fun hq => ?_)
  · exact (p9 _ _ _ t b _).trans (proj_ld arg1 harg1 arg2 harg2 x0 x1 0 2048 _ _ (by decide) (by decide) t b _ _ _ (by simp) (by simp))
  · exact (p10 _ _ _ t b _).trans (proj_ld arg1 harg1 arg2 harg2 x0 x1 512 2560 _ _ (by decide) (by decide) t b _ _ _ (by show q.val = 512 + (q.val - 512); omega) (by show 2048 + q.val = 2560 + (q.val - 512); omega))
theorem in_im (t : Fin 128) (b : Fin 8) (q : Fin 1024) :
    arg11.view.read (Elt Ideal) (arg11.view.writes (Elt Ideal) arg11.view.junk (P11 arg1 harg1 arg2 harg2 x0 x1)) (ix3 t b q) = (inpC x0 x1 b q t.val).2 := by
  rw [inpC, dif_pos t.isLt]
  refine halves_read arg11.view _ _ _ _ _ t b q _ (fun hq => ?_) (fun hq => ?_)
  · exact (p11 _ _ _ t b _).trans (proj_ld arg1 harg1 arg2 harg2 x0 x1 1024 3072 _ _ (by decide) (by decide) t b _ _ _ (by simp) (by simp))
  · exact (p12 _ _ _ t b _).trans (proj_ld arg1 harg1 arg2 harg2 x0 x1 1536 3584 _ _ (by decide) (by decide) t b _ _ _ (by show 1024 + q.val = 1536 + (q.val - 512); omega) (by show 3072 + q.val = 3584 + (q.val - 512); omega))

section
variable (v85 v87 v101 v103 : Vec Ideal S1x8x512 .f32) (e8 : FVec Ideal S8x512 .f32)

/-- The two loops' running state. -/
abbrev lp1 (k : ℕ) := st_k0_t1 (F := Ideal) Variants.none c none i arg1 harg1 arg2 harg2 arg3 harg3 arg4 harg4 arg5 harg5 arg6 harg6 arg7 harg7 arg8 harg8 arg9 harg9 arg10 harg10 arg11 harg11 arg12 harg12 (k0_pay4 (View.readAt (Elt Ideal) arg1.view (Rect.unit (s := S1024x256) ![0, 0] ![1024, 256] inb_S1024x256_S1024x256_0_0).toLoadRect (harg1.unread x0))) k0_pay6 (View.readAt (Elt Ideal) arg4.view (Rect.unit (s := S2x8x1024) ![0, 0, 0] ![1, 8, 512] inb_S2x8x1024_S1x8x512_0_0_0).toLoadRect (harg4.unread x3)) (View.readAt (Elt Ideal) arg4.view (Rect.unit (s := S2x8x1024) ![1, 0, 0] ![1, 8, 512] inb_S2x8x1024_S1x8x512_1_0_0).toLoadRect (harg4.unread x3))
  (arg10.view.writes (Elt Ideal) arg10.view.junk (P10 arg1 harg1 arg2 harg2 x0 x1)) (arg11.view.writes (Elt Ideal) arg11.view.junk (P11 arg1 harg1 arg2 harg2 x0 x1)) (k0_pay15 v85, k0_pay16 v87) k
abbrev lp2 (k : ℕ) := st_k0_t2 (F := Ideal) Variants.none c none i arg1 harg1 arg2 harg2 arg3 harg3 arg4 harg4 arg5 harg5 arg6 harg6 arg7 harg7 arg8 harg8 arg9 harg9 arg10 harg10 arg11 harg11 arg12 harg12 e8 (View.readAt (Elt Ideal) arg4.view (Rect.unit (s := S2x8x1024) ![0, 0, 512] ![1, 8, 512] inb_S2x8x1024_S1x8x512_0_0_512).toLoadRect (harg4.unread x3)) (View.readAt (Elt Ideal) arg4.view (Rect.unit (s := S2x8x1024) ![1, 0, 512] ![1, 8, 512] inb_S2x8x1024_S1x8x512_1_0_512).toLoadRect (harg4.unread x3))
  (arg10.view.writes (Elt Ideal) arg10.view.junk ((lp1 c i arg1 harg1 arg2 harg2 arg3 harg3 arg4 harg4 arg5 harg5 arg6 harg6 arg7 harg7 arg8 harg8 arg9 harg9 arg10 harg10 arg11 harg11 arg12 harg12 x0 x1 x3 v85 v87 128).2.1 ++ P10 arg1 harg1 arg2 harg2 x0 x1)) (arg11.view.writes (Elt Ideal) arg11.view.junk ((lp1 c i arg1 harg1 arg2 harg2 arg3 harg3 arg4 harg4 arg5 harg5 arg6 harg6 arg7 harg7 arg8 harg8 arg9 harg9 arg10 harg10 arg11 harg11 arg12 harg12 x0 x1 x3 v85 v87 128).2.2 ++ P11 arg1 harg1 arg2 harg2 x0 x1)) (k0_pay25 v101, k0_pay26 v103) k

theorem core (s : Vec Ideal S2x8x1024 .f32)
    (h85 : ∀ b j, v85 (ix3 0 b j) = s (ix3 0 b (lane 0 lo j))) (h87 : ∀ b j, v87 (ix3 0 b j) = s (ix3 1 b (lane 0 lo j)))
    (h101 : ∀ b j, v101 (ix3 0 b j) = s (ix3 0 b (lane 512 up j))) (h103 : ∀ b j, v103 (ix3 0 b j) = s (ix3 1 b (lane 512 up j))) :
    (∀ b j, ((lp1 c i arg1 harg1 arg2 harg2 arg3 harg3 arg4 harg4 arg5 harg5 arg6 harg6 arg7 harg7 arg8 harg8 arg9 harg9 arg10 harg10 arg11 harg11 arg12 harg12 x0 x1 x3 v85 v87 128).1.1 (ix2 b j), (lp1 c i arg1 harg1 arg2 harg2 arg3 harg3 arg4 harg4 arg5 harg5 arg6 harg6 arg7 harg7 arg8 harg8 arg9 harg9 arg10 harg10 arg11 harg11 arg12 harg12 x0 x1 x3 v85 v87 128).1.2 (ix2 b j)) = stC x0 x1 x3 s b (lane 0 lo j) 128)
      ∧ (∀ b j, ((lp2 c i arg1 harg1 arg2 harg2 arg3 harg3 arg4 harg4 arg5 harg5 arg6 harg6 arg7 harg7 arg8 harg8 arg9 harg9 arg10 harg10 arg11 harg11 arg12 harg12 x0 x1 x3 v85 v87 v101 v103 e8 128).1.1 (ix2 b j), (lp2 c i arg1 harg1 arg2 harg2 arg3 harg3 arg4 harg4 arg5 harg5 arg6 harg6 arg7 harg7 arg8 harg8 arg9 harg9 arg10 harg10 arg11 harg11 arg12 harg12 x0 x1 x3 v85 v87 v101 v103 e8 128).1.2 (ix2 b j)) = stC x0 x1 x3 s b (lane 512 up j) 128)
      ∧ (∀ (t : Fin 128) b q, arg10.view.read (Elt Ideal) (arg10.view.writes (Elt Ideal) arg10.view.junk ((lp2 c i arg1 harg1 arg2 harg2 arg3 harg3 arg4 harg4 arg5 harg5 arg6 harg6 arg7 harg7 arg8 harg8 arg9 harg9 arg10 harg10 arg11 harg11 arg12 harg12 x0 x1 x3 v85 v87 v101 v103 e8 128).2.1 ++ ((lp1 c i arg1 harg1 arg2 harg2 arg3 harg3 arg4 harg4 arg5 harg5 arg6 harg6 arg7 harg7 arg8 harg8 arg9 harg9 arg10 harg10 arg11 harg11 arg12 harg12 x0 x1 x3 v85 v87 128).2.1 ++ P10 arg1 harg1 arg2 harg2 x0 x1))) (ix3 t b q) = (stC x0 x1 x3 s b q (t.val + 1)).1)
      ∧ (∀ (t : Fin 128) b q, arg11.view.read (Elt Ideal) (arg11.view.writes (Elt Ideal) arg11.view.junk ((lp2 c i arg1 harg1 arg2 harg2 arg3 harg3 arg4 harg4 arg5 harg5 arg6 harg6 arg7 harg7 arg8 harg8 arg9 harg9 arg10 harg10 arg11 harg11 arg12 harg12 x0 x1 x3 v85 v87 v101 v103 e8 128).2.2 ++ ((lp1 c i arg1 harg1 arg2 harg2 arg3 harg3 arg4 harg4 arg5 harg5 arg6 harg6 arg7 harg7 arg8 harg8 arg9 harg9 arg10 harg10 arg11 harg11 arg12 harg12 x0 x1 x3 v85 v87 128).2.2 ++ P11 arg1 harg1 arg2 harg2 x0 x1))) (ix3 t b q) = (stC x0 x1 x3 s b q (t.val + 1)).2) :=
  two_loops arg10.view arg11.view arg10.view.junk arg11.view.junk (P10 arg1 harg1 arg2 harg2 x0 x1) (P11 arg1 harg1 arg2 harg2 x0 x1)
    (fun b q => (x3 (ix3 0 b q), x3 (ix3 1 b q))) (fun b q => (s (ix3 0 b q), s (ix3 1 b q))) (inpC x0 x1)
    (lp1 c i arg1 harg1 arg2 harg2 arg3 harg3 arg4 harg4 arg5 harg5 arg6 harg6 arg7 harg7 arg8 harg8 arg9 harg9 arg10 harg10 arg11 harg11 arg12 harg12 x0 x1 x3 v85 v87) (lp2 c i arg1 harg1 arg2 harg2 arg3 harg3 arg4 harg4 arg5 harg5 arg6 harg6 arg7 harg7 arg8 harg8 arg9 harg9 arg10 harg10 arg11 harg11 arg12 harg12 x0 x1 x3 v85 v87 v101 v103 e8)
    (in_re arg1 harg1 arg2 harg2 arg10 x0 x1) (in_im arg1 harg1 arg2 harg2 arg11 x0 x1) rfl
    (fun b j => Prod.ext ((p15 v85 b j).trans (h85 b j)) ((p16 v87 b j).trans (h87 b j)))
    (fun k hk => by
      have e := trip1 c i arg1 harg1 arg2 harg2 arg3 harg3 arg4 harg4 arg5 harg5 arg6 harg6 arg7 harg7 arg8 harg8 arg9 harg9 arg10 harg10 arg11 harg11 arg12 harg12 (k0_pay4 (View.readAt (Elt Ideal) arg1.view (Rect.unit (s := S1024x256) ![0, 0] ![1024, 256] inb_S1024x256_S1024x256_0_0).toLoadRect (harg1.unread x0))) k0_pay6 (View.readAt (Elt Ideal) arg4.view (Rect.unit (s := S2x8x1024) ![0, 0, 0] ![1, 8, 512] inb_S2x8x1024_S1x8x512_0_0_0).toLoadRect (harg4.unread x3)) (View.readAt (Elt Ideal) arg4.view (Rect.unit (s := S2x8x1024) ![1, 0, 0] ![1, 8, 512] inb_S2x8x1024_S1x8x512_1_0_0).toLoadRect (harg4.unread x3)) (arg10.view.writes (Elt Ideal) arg10.view.junk (P10 arg1 harg1 arg2 harg2 x0 x1)) (arg11.view.writes (Elt Ideal) arg11.view.junk (P11 arg1 harg1 arg2 harg2 x0 x1)) (k0_pay15 v85, k0_pay16 v87) k hk
      simp only [ld4 arg4 harg4 x3 0 0 _ (by decide) lo, ld4 arg4 harg4 x3 1 0 _ (by decide) lo] at e
      exact e) rfl
    (fun b j => Prod.ext ((p25 v101 b j).trans (h101 b j)) ((p26 v103 b j).trans (h103 b j)))
    (fun k hk => by
      have e := trip2 c i arg1 harg1 arg2 harg2 arg3 harg3 arg4 harg4 arg5 harg5 arg6 harg6 arg7 harg7 arg8 harg8 arg9 harg9 arg10 harg10 arg11 harg11 arg12 harg12 e8 (View.readAt (Elt Ideal) arg4.view (Rect.unit (s := S2x8x1024) ![0, 0, 512] ![1, 8, 512] inb_S2x8x1024_S1x8x512_0_0_512).toLoadRect (harg4.unread x3)) (View.readAt (Elt Ideal) arg4.view (Rect.unit (s := S2x8x1024) ![1, 0, 512] ![1, 8, 512] inb_S2x8x1024_S1x8x512_1_0_512).toLoadRect (harg4.unread x3)) (arg10.view.writes (Elt Ideal) arg10.view.junk ((lp1 c i arg1 harg1 arg2 harg2 arg3 harg3 arg4 harg4 arg5 harg5 arg6 harg6 arg7 harg7 arg8 harg8 arg9 harg9 arg10 harg10 arg11 harg11 arg12 harg12 x0 x1 x3 v85 v87 128).2.1 ++ P10 arg1 harg1 arg2 harg2 x0 x1)) (arg11.view.writes (Elt Ideal) arg11.view.junk ((lp1 c i arg1 harg1 arg2 harg2 arg3 harg3 arg4 harg4 arg5 harg5 arg6 harg6 arg7 harg7 arg8 harg8 arg9 harg9 arg10 harg10 arg11 harg11 arg12 harg12 x0 x1 x3 v85 v87 128).2.2 ++ P11 arg1 harg1 arg2 harg2 x0 x1)) (k0_pay25 v101, k0_pay26 v103) k hk
      simp only [ld4 arg4 harg4 x3 0 512 _ (by decide) up, ld4 arg4 harg4 x3 1 512 _ (by decide) up] at e
      exact e)
end

end Cert.SsmFwdMath
end
-- ==== Proof.SsmFwdMath.Out.lean ====
/- The first chunk and the later ones: the stores each makes, and what they leave. -/
module

public import proofs.«01_k».proof.Proof.SsmFwdMath.Chunk

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath

open Cert.SsmFwdRun

variable (c : Dev nD) (i : grid0.Coords)
  (arg1 : Memref sig .tc .vmem S1024x256 .bf16) (harg1 : arg1.IsWhole)
  (arg2 : Memref sig .tc .vmem S256x4096 .bf16) (harg2 : arg2.IsWhole)
  (arg3 : Memref sig .tc .vmem S2048x512 .bf16) (harg3 : arg3.IsWhole)
  (arg4 : Memref sig .tc .vmem S2x8x1024 .f32) (harg4 : arg4.IsWhole)
  (arg5 : Memref sig .tc .vmem S8x256 .f32) (harg5 : arg5.IsWhole)
  (arg6 : Memref sig .tc .vmem S1024x256 .bf16) (harg6 : arg6.IsWhole)
  (arg7 : Memref sig .tc .vmem S1x2x8x1024 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S128x8x1024 .f32) (harg10 : arg10.IsWhole)
  (arg11 : Memref sig .tc .vmem S128x8x1024 .f32) (harg11 : arg11.IsWhole)
  (arg12 : Memref sig .tc .vmem S2x8x1024 .f32) (harg12 : arg12.IsWhole)

variable (x0 : Vec Ideal S1024x256 .bf16) (x1 : Vec Ideal S256x4096 .bf16) (x2 : Vec Ideal S2048x512 .bf16) (x3 : Vec Ideal S2x8x1024 .f32) (x4 : Vec Ideal S8x256 .f32)

theorem ld12 (s : Vec Ideal S2x8x1024 .f32) (z o : ℕ) (inb) (hz : z < 2) (ho : o + 512 ≤ 1024) (b : Fin 8) (j : Fin 512) :
    (View.readAt (Elt Ideal) arg12.view (Rect.unit (s := S2x8x1024) ![z, 0, o] ![1, 8, 512] inb).toLoadRect (harg12.unread s)) (ix3 0 b j) = s (ix3 ⟨z, hz⟩ b (lane o ho j)) := by
  rw [at_unit arg12.view _ _ _ _ _ (ix3 ⟨z, hz⟩ b (lane o ho j)) (fun a => by match a with | ⟨0, _⟩ => simp | ⟨1, _⟩ => simp | ⟨2, _⟩ => simp), harg12.read_unread]

/-- The first chunk's quarters of the state, read back from the zero fill. -/
abbrev z85 : Vec Ideal S1x8x512 .f32 := arg12.view.readCov (Val := Elt Ideal) (s := S2x8x1024) (e := .f32) [(⟨Rect.unit ![0, 0, 0] ![2, 8, 1024] inb_S2x8x1024_S2x8x1024_0_0_0, k0_pay2 (F := Ideal)⟩ : View.Piece (Elt Ideal) S2x8x1024 .f32)] (Rect.unit (s := S2x8x1024) ![0, 0, 0] ![1, 8, 512] inb_S2x8x1024_S1x8x512_0_0_0).toLoadRect
abbrev z87 : Vec Ideal S1x8x512 .f32 := arg12.view.readCov (Val := Elt Ideal) (s := S2x8x1024) (e := .f32) [(⟨Rect.unit ![0, 0, 0] ![2, 8, 1024] inb_S2x8x1024_S2x8x1024_0_0_0, k0_pay2 (F := Ideal)⟩ : View.Piece (Elt Ideal) S2x8x1024 .f32)] (Rect.unit (s := S2x8x1024) ![1, 0, 0] ![1, 8, 512] inb_S2x8x1024_S1x8x512_1_0_0).toLoadRect
abbrev z101 : Vec Ideal S1x8x512 .f32 := arg12.view.readCov (Val := Elt Ideal) (s := S2x8x1024) (e := .f32) (⟨Rect.unit ![1, 0, 0] ![1, 8, 512] inb_S2x8x1024_S1x8x512_1_0_0, k0_pay22 (lp1 c i arg1 harg1 arg2 harg2 arg3 harg3 arg4 harg4 arg5 harg5 arg6 harg6 arg7 harg7 arg8 harg8 arg9 harg9 arg10 harg10 arg11 harg11 arg12 harg12 x0 x1 x3 (z85 arg12) (z87 arg12) 128).1.2⟩ :: ⟨Rect.unit ![0, 0, 0] ![1, 8, 512] inb_S2x8x1024_S1x8x512_0_0_0, k0_pay21 (lp1 c i arg1 harg1 arg2 harg2 arg3 harg3 arg4 harg4 arg5 harg5 arg6 harg6 arg7 harg7 arg8 harg8 arg9 harg9 arg10 harg10 arg11 harg11 arg12 harg12 x0 x1 x3 (z85 arg12) (z87 arg12) 128).1.1⟩ :: [(⟨Rect.unit ![0, 0, 0] ![2, 8, 1024] inb_S2x8x1024_S2x8x1024_0_0_0, k0_pay2 (F := Ideal)⟩ : View.Piece (Elt Ideal) S2x8x1024 .f32)]) (Rect.unit (s := S2x8x1024) ![0, 0, 512] ![1, 8, 512] inb_S2x8x1024_S1x8x512_0_0_512).toLoadRect
abbrev z103 : Vec Ideal S1x8x512 .f32 := arg12.view.readCov (Val := Elt Ideal) (s := S2x8x1024) (e := .f32) (⟨Rect.unit ![1, 0, 0] ![1, 8, 512] inb_S2x8x1024_S1x8x512_1_0_0, k0_pay22 (lp1 c i arg1 harg1 arg2 harg2 arg3 harg3 arg4 harg4 arg5 harg5 arg6 harg6 arg7 harg7 arg8 harg8 arg9 harg9 arg10 harg10 arg11 harg11 arg12 harg12 x0 x1 x3 (z85 arg12) (z87 arg12) 128).1.2⟩ :: ⟨Rect.unit ![0, 0, 0] ![1, 8, 512] inb_S2x8x1024_S1x8x512_0_0_0, k0_pay21 (lp1 c i arg1 harg1 arg2 harg2 arg3 harg3 arg4 harg4 arg5 harg5 arg6 harg6 arg7 harg7 arg8 harg8 arg9 harg9 arg10 harg10 arg11 harg11 arg12 harg12 x0 x1 x3 (z85 arg12) (z87 arg12) 128).1.1⟩ :: [(⟨Rect.unit ![0, 0, 0] ![2, 8, 1024] inb_S2x8x1024_S2x8x1024_0_0_0, k0_pay2 (F := Ideal)⟩ : View.Piece (Elt Ideal) S2x8x1024 .f32)]) (Rect.unit (s := S2x8x1024) ![1, 0, 512] ![1, 8, 512] inb_S2x8x1024_S1x8x512_1_0_512).toLoadRect
theorem z85_eq (b : Fin 8) (j : Fin 512) : z85 arg12 (ix3 0 b j) = 0 := by
  unfold z85 View.readCov
  rw [at_unit arg12.view _ _ _ _ _ (ix3 0 b (lane 0 lo j)) (fun a => by match a with | ⟨0, _⟩ => simp | ⟨1, _⟩ => simp | ⟨2, _⟩ => simp)]
  exact zeros_read arg12.view _ _ b _
theorem z87_eq (b : Fin 8) (j : Fin 512) : z87 arg12 (ix3 0 b j) = 0 := by
  unfold z87 View.readCov
  rw [at_unit arg12.view _ _ _ _ _ (ix3 1 b (lane 0 lo j)) (fun a => by match a with | ⟨0, _⟩ => simp | ⟨1, _⟩ => simp | ⟨2, _⟩ => simp)]
  exact zeros_read arg12.view _ _ b _
theorem z101_eq (b : Fin 8) (j : Fin 512) : z101 c i arg1 harg1 arg2 harg2 arg3 harg3 arg4 harg4 arg5 harg5 arg6 harg6 arg7 harg7 arg8 harg8 arg9 harg9 arg10 harg10 arg11 harg11 arg12 harg12 x0 x1 x3 (ix3 0 b j) = 0 := by
  unfold z101 View.readCov
  rw [at_unit arg12.view _ _ _ _ _ (ix3 0 b (lane 512 up j)) (fun a => by match a with | ⟨0, _⟩ => simp | ⟨1, _⟩ => simp | ⟨2, _⟩ => simp)]
  refine (quarter_skip arg12.view _ 1 0 _ _ _ 0 b _ (Or.inl (Or.inl (by decide)))).trans ((quarter_skip arg12.view _ 0 0 _ _ _ 0 b _ (Or.inr (Or.inr (by show 0 + 512 ≤ 512 + j.val; omega)))).trans (zeros_read arg12.view _ _ b _))
theorem z103_eq (b : Fin 8) (j : Fin 512) : z103 c i arg1 harg1 arg2 harg2 arg3 harg3 arg4 harg4 arg5 harg5 arg6 harg6 arg7 harg7 arg8 harg8 arg9 harg9 arg10 harg10 arg11 harg11 arg12 harg12 x0 x1 x3 (ix3 0 b j) = 0 := by
  unfold z103 View.readCov
  rw [at_unit arg12.view _ _ _ _ _ (ix3 1 b (lane 512 up j)) (fun a => by match a with | ⟨0, _⟩ => simp | ⟨1, _⟩ => simp | ⟨2, _⟩ => simp)]
  refine (quarter_skip arg12.view _ 1 0 _ _ _ 1 b _ (Or.inr (Or.inr (by show 0 + 512 ≤ 512 + j.val; omega)))).trans ((quarter_skip arg12.view _ 0 0 _ _ _ 1 b _ (Or.inl (Or.inr (by decide)))).trans (zeros_read arg12.view _ _ b _))

/-- A later chunk: both loops' last running state, and the two arrays of states as they are read after the loops. -/
abbrev l1B (s : Vec Ideal S2x8x1024 .f32) := lp1 c i arg1 harg1 arg2 harg2 arg3 harg3 arg4 harg4 arg5 harg5 arg6 harg6 arg7 harg7 arg8 harg8 arg9 harg9 arg10 harg10 arg11 harg11 arg12 harg12 x0 x1 x3 (View.readAt (Elt Ideal) arg12.view (Rect.unit (s := S2x8x1024) ![0, 0, 0] ![1, 8, 512] inb_S2x8x1024_S1x8x512_0_0_0).toLoadRect (harg12.unread s)) (View.readAt (Elt Ideal) arg12.view (Rect.unit (s := S2x8x1024) ![1, 0, 0] ![1, 8, 512] inb_S2x8x1024_S1x8x512_1_0_0).toLoadRect (harg12.unread s)) 128
abbrev l2B (s : Vec Ideal S2x8x1024 .f32) := lp2 c i arg1 harg1 arg2 harg2 arg3 harg3 arg4 harg4 arg5 harg5 arg6 harg6 arg7 harg7 arg8 harg8 arg9 harg9 arg10 harg10 arg11 harg11 arg12 harg12 x0 x1 x3 (View.readAt (Elt Ideal) arg12.view (Rect.unit (s := S2x8x1024) ![0, 0, 0] ![1, 8, 512] inb_S2x8x1024_S1x8x512_0_0_0).toLoadRect (harg12.unread s)) (View.readAt (Elt Ideal) arg12.view (Rect.unit (s := S2x8x1024) ![1, 0, 0] ![1, 8, 512] inb_S2x8x1024_S1x8x512_1_0_0).toLoadRect (harg12.unread s)) (View.readAt (Elt Ideal) arg12.view (Rect.unit (s := S2x8x1024) ![0, 0, 512] ![1, 8, 512] inb_S2x8x1024_S1x8x512_0_0_512).toLoadRect (harg12.unread s)) (View.readAt (Elt Ideal) arg12.view (Rect.unit (s := S2x8x1024) ![1, 0, 512] ![1, 8, 512] inb_S2x8x1024_S1x8x512_1_0_512).toLoadRect (harg12.unread s)) (l1B c i arg1 harg1 arg2 harg2 arg3 harg3 arg4 harg4 arg5 harg5 arg6 harg6 arg7 harg7 arg8 harg8 arg9 harg9 arg10 harg10 arg11 harg11 arg12 harg12 x0 x1 x3 s).1.2 128
abbrev s10B (s : Vec Ideal S2x8x1024 .f32) : Vec Ideal S128x8x1024 .f32 := arg10.view.readAt (Elt Ideal) (Rect.unit (s := S128x8x1024) ![0, 0, 0] ![128, 8, 1024] inb_S128x8x1024_S128x8x1024_0_0_0).toLoadRect (arg10.view.writes (Elt Ideal) arg10.view.junk ((l2B c i arg1 harg1 arg2 harg2 arg3 harg3 arg4 harg4 arg5 harg5 arg6 harg6 arg7 harg7 arg8 harg8 arg9 harg9 arg10 harg10 arg11 harg11 arg12 harg12 x0 x1 x3 s).2.1 ++ ((l1B c i arg1 harg1 arg2 harg2 arg3 harg3 arg4 harg4 arg5 harg5 arg6 harg6 arg7 harg7 arg8 harg8 arg9 harg9 arg10 harg10 arg11 harg11 arg12 harg12 x0 x1 x3 s).2.1 ++ P10 arg1 harg1 arg2 harg2 x0 x1)))
abbrev s11B (s : Vec Ideal S2x8x1024 .f32) : Vec Ideal S128x8x1024 .f32 := arg11.view.readAt (Elt Ideal) (Rect.unit (s := S128x8x1024) ![0, 0, 0] ![128, 8, 1024] inb_S128x8x1024_S128x8x1024_0_0_0).toLoadRect (arg11.view.writes (Elt Ideal) arg11.view.junk ((l2B c i arg1 harg1 arg2 harg2 arg3 harg3 arg4 harg4 arg5 harg5 arg6 harg6 arg7 harg7 arg8 harg8 arg9 harg9 arg10 harg10 arg11 harg11 arg12 harg12 x0 x1 x3 s).2.2 ++ ((l1B c i arg1 harg1 arg2 harg2 arg3 harg3 arg4 harg4 arg5 harg5 arg6 harg6 arg7 harg7 arg8 harg8 arg9 harg9 arg10 harg10 arg11 harg11 arg12 harg12 x0 x1 x3 s).2.2 ++ P11 arg1 harg1 arg2 harg2 x0 x1)))

section
variable (hc0 : ¬cond0_0 i) (s : Vec Ideal S2x8x1024 .f32)
theorem pcsB5 : (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).1 = [⟨Rect.unit ![0, 0] ![1024, 256] inb_S1024x256_S1024x256_0_0, k0_pay1 (k0_pay5 (View.readAt (Elt Ideal) arg1.view (Rect.unit (s := S1024x256) ![0, 0] ![1024, 256] inb_S1024x256_S1024x256_0_0).toLoadRect (harg1.unread x0))) k0_pay6 (k0_pay33 (s10B c i arg1 harg1 arg2 harg2 arg3 harg3 arg4 harg4 arg5 harg5 arg6 harg6 arg7 harg7 arg8 harg8 arg9 harg9 arg10 harg10 arg11 harg11 arg12 harg12 x0 x1 x3 s)) (k0_pay34 (s11B c i arg1 harg1 arg2 harg2 arg3 harg3 arg4 harg4 arg5 harg5 arg6 harg6 arg7 harg7 arg8 harg8 arg9 harg9 arg10 harg10 arg11 harg11 arg12 harg12 x0 x1 x3 s)) (View.readAt (Elt Ideal) arg3.view (Rect.unit (s := S2048x512) ![0, 0] ![1024, 512] inb_S2048x512_S1024x512_0_0).toLoadRect (harg3.unread x2)) (View.readAt (Elt Ideal) arg3.view (Rect.unit (s := S2048x512) ![1024, 0] ![1024, 512] inb_S2048x512_S1024x512_1024_0).toLoadRect (harg3.unread x2)) (View.readAt (Elt Ideal) arg5.view (Rect.unit (s := S8x256) ![0, 0] ![8, 256] inb_S8x256_S8x256_0_0).toLoadRect (harg5.unread x4))⟩] := by sl_kernel_rfl
theorem pcsB6 : (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.1 = [⟨Rect.unit ![0, 0, 0, 0] ![1, 2, 8, 1024] inb_S1x2x8x1024_S1x2x8x1024_0_0_0_0, k0_pay3 (arg12.view.readAt (Elt Ideal) (Rect.unit (s := S2x8x1024) ![0, 0, 0] ![2, 8, 1024] inb_S2x8x1024_S2x8x1024_0_0_0).toLoadRect (harg12.unread s))⟩] := by sl_kernel_rfl
theorem pcsB7 : (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.1 = [⟨Rect.unit ![0, 0] ![1024, 1024] inb_S1024x1024_S1024x1024_0_0, k0_pay33 (s10B c i arg1 harg1 arg2 harg2 arg3 harg3 arg4 harg4 arg5 harg5 arg6 harg6 arg7 harg7 arg8 harg8 arg9 harg9 arg10 harg10 arg11 harg11 arg12 harg12 x0 x1 x3 s)⟩] := by sl_kernel_rfl
theorem pcsB8 : (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.2.1 = [⟨Rect.unit ![0, 0] ![1024, 1024] inb_S1024x1024_S1024x1024_0_0, k0_pay34 (s11B c i arg1 harg1 arg2 harg2 arg3 harg3 arg4 harg4 arg5 harg5 arg6 harg6 arg7 harg7 arg8 harg8 arg9 harg9 arg10 harg10 arg11 harg11 arg12 harg12 x0 x1 x3 s)⟩] := by sl_kernel_rfl
theorem pcsBs : (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.2.2.1 = ⟨Rect.unit ![1, 0, 512] ![1, 8, 512] inb_S2x8x1024_S1x8x512_1_0_512, k0_pay32 (l2B c i arg1 harg1 arg2 harg2 arg3 harg3 arg4 harg4 arg5 harg5 arg6 harg6 arg7 harg7 arg8 harg8 arg9 harg9 arg10 harg10 arg11 harg11 arg12 harg12 x0 x1 x3 s).1.2⟩ :: ⟨Rect.unit ![0, 0, 512] ![1, 8, 512] inb_S2x8x1024_S1x8x512_0_0_512, k0_pay31 (l2B c i arg1 harg1 arg2 harg2 arg3 harg3 arg4 harg4 arg5 harg5 arg6 harg6 arg7 harg7 arg8 harg8 arg9 harg9 arg10 harg10 arg11 harg11 arg12 harg12 x0 x1 x3 s).1.1⟩
    :: ⟨Rect.unit ![1, 0, 0] ![1, 8, 512] inb_S2x8x1024_S1x8x512_1_0_0, k0_pay22 (l1B c i arg1 harg1 arg2 harg2 arg3 harg3 arg4 harg4 arg5 harg5 arg6 harg6 arg7 harg7 arg8 harg8 arg9 harg9 arg10 harg10 arg11 harg11 arg12 harg12 x0 x1 x3 s).1.2⟩ :: ⟨Rect.unit ![0, 0, 0] ![1, 8, 512] inb_S2x8x1024_S1x8x512_0_0_0, k0_pay21 (l1B c i arg1 harg1 arg2 harg2 arg3 harg3 arg4 harg4 arg5 harg5 arg6 harg6 arg7 harg7 arg8 harg8 arg9 harg9 arg10 harg10 arg11 harg11 arg12 harg12 x0 x1 x3 s).1.1⟩ :: [] := by sl_kernel_rfl

variable (V5 : View sig .tc .vmem S1024x256 .bf16) (f5 : V5.ty.Contents (Elt Ideal)) (V6 : View sig .tc .vmem S1x2x8x1024 .f32) (f6 : V6.ty.Contents (Elt Ideal)) (V7 V8 : View sig .tc .vmem S1024x1024 .bf16) (f7 : V7.ty.Contents (Elt Ideal)) (f8 : V8.ty.Contents (Elt Ideal))
  (VS : View sig .tc .vmem S2x8x1024 .f32) (fs : VS.ty.Contents (Elt Ideal))
theorem outB : ChunkOut x0 x1 x2 x3 x4 s (V5.read (Elt Ideal) (V5.writes (Elt Ideal) f5 (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).1), V6.read (Elt Ideal) (V6.writes (Elt Ideal) f6 (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.1),
    V7.read (Elt Ideal) (V7.writes (Elt Ideal) f7 (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.1), V8.read (Elt Ideal) (V8.writes (Elt Ideal) f8 (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.2.1), VS.read (Elt Ideal) (VS.writes (Elt Ideal) fs (kernelRun0_B (F := Ideal) c i arg1 harg1 arg2 harg2 arg3 harg3 arg4 harg4 arg5 harg5 arg6 harg6 arg7 harg7 arg8 harg8 arg9 harg9 arg10 harg10 arg11 harg11 arg12 harg12 x0 x1 x2 x3 x4 hc0 s).2.2.2.2.1)) := by
  have C := core c i arg1 harg1 arg2 harg2 arg3 harg3 arg4 harg4 arg5 harg5 arg6 harg6 arg7 harg7 arg8 harg8 arg9 harg9 arg10 harg10 arg11 harg11 arg12 harg12 x0 x1 x3 (View.readAt (Elt Ideal) arg12.view (Rect.unit (s := S2x8x1024) ![0, 0, 0] ![1, 8, 512] inb_S2x8x1024_S1x8x512_0_0_0).toLoadRect (harg12.unread s)) (View.readAt (Elt Ideal) arg12.view (Rect.unit (s := S2x8x1024) ![1, 0, 0] ![1, 8, 512] inb_S2x8x1024_S1x8x512_1_0_0).toLoadRect (harg12.unread s)) (View.readAt (Elt Ideal) arg12.view (Rect.unit (s := S2x8x1024) ![0, 0, 512] ![1, 8, 512] inb_S2x8x1024_S1x8x512_0_0_512).toLoadRect (harg12.unread s)) (View.readAt (Elt Ideal) arg12.view (Rect.unit (s := S2x8x1024) ![1, 0, 512] ![1, 8, 512] inb_S2x8x1024_S1x8x512_1_0_512).toLoadRect (harg12.unread s)) (l1B c i arg1 harg1 arg2 harg2 arg3 harg3 arg4 harg4 arg5 harg5 arg6 harg6 arg7 harg7 arg8 harg8 arg9 harg9 arg10 harg10 arg11 harg11 arg12 harg12 x0 x1 x3 s).1.2 s (ld12 arg12 harg12 s 0 0 _ (by decide) lo) (ld12 arg12 harg12 s 1 0 _ (by decide) lo) (ld12 arg12 harg12 s 0 512 _ (by decide) up) (ld12 arg12 harg12 s 1 512 _ (by decide) up)
  obtain ⟨c1, c2, c3, c4⟩ := C
  have r10 : ∀ (t : Fin 128) b q, k0_pay33 (s10B c i arg1 harg1 arg2 harg2 arg3 harg3 arg4 harg4 arg5 harg5 arg6 harg6 arg7 harg7 arg8 harg8 arg9 harg9 arg10 harg10 arg11 harg11 arg12 harg12 x0 x1 x3 s) (ix2 (rw8 t b) q) = (stC x0 x1 x3 s b q (t.val + 1)).1 := fun t b q => (p33 _ t b q).trans ((whole_scratch arg10.view _ t b q).trans (c3 t b q))
  have r11 : ∀ (t : Fin 128) b q, k0_pay34 (s11B c i arg1 harg1 arg2 harg2 arg3 harg3 arg4 harg4 arg5 harg5 arg6 harg6 arg7 harg7 arg8 harg8 arg9 harg9 arg10 harg10 arg11 harg11 arg12 harg12 x0 x1 x3 s) (ix2 (rw8 t b) q) = (stC x0 x1 x3 s b q (t.val + 1)).2 := fun t b q => (p34 _ t b q).trans ((whole_scratch arg11.view _ t b q).trans (c4 t b q))
  refine ⟨fun t b h => ?_, fun z b q => ?_, fun t b q => ?_, fun t b q => ?_, fun b q => ?_, fun b q => ?_⟩
  · refine (congrArg (fun L => V5.read (Elt Ideal) (V5.writes (Elt Ideal) f5 L) (ix2 (rw8 t b) h)) (pcsB5 c i arg1 harg1 arg2 harg2 arg3 harg3 arg4 harg4 arg5 harg5 arg6 harg6 arg7 harg7 arg8 harg8 arg9 harg9 arg10 harg10 arg11 harg11 arg12 harg12 x0 x1 x2 x3 x4 hc0 s)).trans ((whole2 V5 f5 _ _ [] _ _).trans ((p1 _ _ _ _ _ _ t b h).trans ?_))
    unfold outY
    rw [ld1 arg1 harg1 x0, ld5 arg5 harg5 x4]
    refine congrArg (· + _) ?_
    refine congrArg₂ (fun x y : EReal => if b.val % 2 = 0 then x else y) (congrArg₂ (· + ·) ?_ ?_) (congrArg₂ (· + ·) ?_ ?_)
    · exact Finset.sum_congr rfl fun k _ => congrArg₂ (· * ·) (r10 t b k) ((ld3 arg3 harg3 x2 0 _ (by decide) k _).trans (congrArg (fun r => x2 (ix2 r _)) (Fin.ext (Nat.zero_add _))))
    · exact Finset.sum_congr rfl fun k _ => congrArg₂ (· * ·) (r11 t b k) (ld3 arg3 harg3 x2 1024 _ (by decide) k _)
    · exact Finset.sum_congr rfl fun k _ => congrArg₂ (· * ·) (r10 t b k) ((ld3 arg3 harg3 x2 0 _ (by decide) k _).trans (congrArg (fun r => x2 (ix2 r _)) (Fin.ext (Nat.zero_add _))))
    · exact Finset.sum_congr rfl fun k _ => congrArg₂ (· * ·) (r11 t b k) (ld3 arg3 harg3 x2 1024 _ (by decide) k _)
  · refine (congrArg (fun L => V6.read (Elt Ideal) (V6.writes (Elt Ideal) f6 L) (ix4 0 z b q)) (pcsB6 c i arg1 harg1 arg2 harg2 arg3 harg3 arg4 harg4 arg5 harg5 arg6 harg6 arg7 harg7 arg8 harg8 arg9 harg9 arg10 harg10 arg11 harg11 arg12 harg12 x0 x1 x2 x3 x4 hc0 s)).trans ((View.read_writes_cons_unit_of_mem V6 f6 _ _ [] _ (ix4 0 z b q) rfl fun a => ?_).trans ((p3 _ z b q).trans ((at_unit arg12.view _ _ _ _ _ (ix3 z b q) (fun a => by match a with | ⟨0, _⟩ => simp | ⟨1, _⟩ => simp | ⟨2, _⟩ => simp)).trans (congrFun (harg12.read_unread s) _))))
    match a with
    | ⟨0, _⟩ => simp
    | ⟨1, _⟩ => simp
    | ⟨2, _⟩ => simp
    | ⟨3, _⟩ => simp
  · exact (congrArg (fun L => V7.read (Elt Ideal) (V7.writes (Elt Ideal) f7 L) (ix2 (rw8 t b) q)) (pcsB7 c i arg1 harg1 arg2 harg2 arg3 harg3 arg4 harg4 arg5 harg5 arg6 harg6 arg7 harg7 arg8 harg8 arg9 harg9 arg10 harg10 arg11 harg11 arg12 harg12 x0 x1 x2 x3 x4 hc0 s)).trans ((whole2 V7 f7 _ _ [] _ _).trans (r10 t b q))
  · exact (congrArg (fun L => V8.read (Elt Ideal) (V8.writes (Elt Ideal) f8 L) (ix2 (rw8 t b) q)) (pcsB8 c i arg1 harg1 arg2 harg2 arg3 harg3 arg4 harg4 arg5 harg5 arg6 harg6 arg7 harg7 arg8 harg8 arg9 harg9 arg10 harg10 arg11 harg11 arg12 harg12 x0 x1 x2 x3 x4 hc0 s)).trans ((whole2 V8 f8 _ _ [] _ _).trans (r11 t b q))
  · refine (congrArg (fun L => VS.read (Elt Ideal) (VS.writes (Elt Ideal) fs L) (ix3 0 b q)) (pcsBs c i arg1 harg1 arg2 harg2 arg3 harg3 arg4 harg4 arg5 harg5 arg6 harg6 arg7 harg7 arg8 harg8 arg9 harg9 arg10 harg10 arg11 harg11 arg12 harg12 x0 x1 x2 x3 x4 hc0 s)).trans (?_)
    rcases lane_cases q with ⟨j, rfl⟩ | ⟨j, rfl⟩
    · refine (quarter_skip VS fs 1 512 _ _ _ 0 b _ (Or.inl (Or.inl (by decide)))).trans ((quarter_skip VS fs 0 512 _ _ _ 0 b _ (Or.inr (Or.inl (by show 0 + j.val < 512; omega)))).trans
        ((quarter_skip VS fs 1 0 _ _ _ 0 b _ (Or.inl (Or.inl (by decide)))).trans ((quarter VS fs 0 0 (by decide) lo _ _ _ b j).trans ((p21 _ b j).trans ?_))))
      exact congrArg Prod.fst (c1 b j)
    · refine (quarter_skip VS fs 1 512 _ _ _ 0 b _ (Or.inl (Or.inl (by decide)))).trans ((quarter VS fs 0 512 (by decide) up _ _ _ b j).trans ((p31 _ b j).trans ?_))
      exact congrArg Prod.fst (c2 b j)
  · refine (congrArg (fun L => VS.read (Elt Ideal) (VS.writes (Elt Ideal) fs L) (ix3 1 b q)) (pcsBs c i arg1 harg1 arg2 harg2 arg3 harg3 arg4 harg4 arg5 harg5 arg6 harg6 arg7 harg7 arg8 harg8 arg9 harg9 arg10 harg10 arg11 harg11 arg12 harg12 x0 x1 x2 x3 x4 hc0 s)).trans (?_)
    rcases lane_cases q with ⟨j, rfl⟩ | ⟨j, rfl⟩
    · refine (quarter_skip VS fs 1 512 _ _ _ 1 b _ (Or.inr (Or.inl (by show 0 + j.val < 512; omega)))).trans ((quarter_skip VS fs 0 512 _ _ _ 1 b _ (Or.inl (Or.inr (by decide)))).trans
        ((quarter VS fs 1 0 (by decide) lo _ _ _ b j).trans ((p22 _ b j).trans ?_)))
      exact congrArg Prod.snd (c1 b j)
    · refine (quarter VS fs 1 512 (by decide) up _ _ _ b j).trans ((p32 _ b j).trans ?_)
      exact congrArg Prod.snd (c2 b j)
end

/-- The first chunk: both loops' last running state, and the two arrays of states as they are read after the loops. -/
abbrev l1A := lp1 c i arg1 harg1 arg2 harg2 arg3 harg3 arg4 harg4 arg5 harg5 arg6 harg6 arg7 harg7 arg8 harg8 arg9 harg9 arg10 harg10 arg11 harg11 arg12 harg12 x0 x1 x3 (z85 arg12) (z87 arg12) 128
abbrev l2A := lp2 c i arg1 harg1 arg2 harg2 arg3 harg3 arg4 harg4 arg5 harg5 arg6 harg6 arg7 harg7 arg8 harg8 arg9 harg9 arg10 harg10 arg11 harg11 arg12 harg12 x0 x1 x3 (z85 arg12) (z87 arg12) (z101 c i arg1 harg1 arg2 harg2 arg3 harg3 arg4 harg4 arg5 harg5 arg6 harg6 arg7 harg7 arg8 harg8 arg9 harg9 arg10 harg10 arg11 harg11 arg12 harg12 x0 x1 x3) (z103 c i arg1 harg1 arg2 harg2 arg3 harg3 arg4 harg4 arg5 harg5 arg6 harg6 arg7 harg7 arg8 harg8 arg9 harg9 arg10 harg10 arg11 harg11 arg12 harg12 x0 x1 x3) (l1A c i arg1 harg1 arg2 harg2 arg3 harg3 arg4 harg4 arg5 harg5 arg6 harg6 arg7 harg7 arg8 harg8 arg9 harg9 arg10 harg10 arg11 harg11 arg12 harg12 x0 x1 x3).1.2 128
abbrev s10A : Vec Ideal S128x8x1024 .f32 := arg10.view.readAt (Elt Ideal) (Rect.unit (s := S128x8x1024) ![0, 0, 0] ![128, 8, 1024] inb_S128x8x1024_S128x8x1024_0_0_0).toLoadRect (arg10.view.writes (Elt Ideal) arg10.view.junk ((l2A c i arg1 harg1 arg2 harg2 arg3 harg3 arg4 harg4 arg5 harg5 arg6 harg6 arg7 harg7 arg8 harg8 arg9 harg9 arg10 harg10 arg11 harg11 arg12 harg12 x0 x1 x3).2.1 ++ ((l1A c i arg1 harg1 arg2 harg2 arg3 harg3 arg4 harg4 arg5 harg5 arg6 harg6 arg7 harg7 arg8 harg8 arg9 harg9 arg10 harg10 arg11 harg11 arg12 harg12 x0 x1 x3).2.1 ++ P10 arg1 harg1 arg2 harg2 x0 x1)))
abbrev s11A : Vec Ideal S128x8x1024 .f32 := arg11.view.readAt (Elt Ideal) (Rect.unit (s := S128x8x1024) ![0, 0, 0] ![128, 8, 1024] inb_S128x8x1024_S128x8x1024_0_0_0).toLoadRect (arg11.view.writes (Elt Ideal) arg11.view.junk ((l2A c i arg1 harg1 arg2 harg2 arg3 harg3 arg4 harg4 arg5 harg5 arg6 harg6 arg7 harg7 arg8 harg8 arg9 harg9 arg10 harg10 arg11 harg11 arg12 harg12 x0 x1 x3).2.2 ++ ((l1A c i arg1 harg1 arg2 harg2 arg3 harg3 arg4 harg4 arg5 harg5 arg6 harg6 arg7 harg7 arg8 harg8 arg9 harg9 arg10 harg10 arg11 harg11 arg12 harg12 x0 x1 x3).2.2 ++ P11 arg1 harg1 arg2 harg2 x0 x1)))

section
variable (hc0 : cond0_0 i)
theorem pcsA5 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).1 = [⟨Rect.unit ![0, 0] ![1024, 256] inb_S1024x256_S1024x256_0_0, k0_pay1 (k0_pay5 (View.readAt (Elt Ideal) arg1.view (Rect.unit (s := S1024x256) ![0, 0] ![1024, 256] inb_S1024x256_S1024x256_0_0).toLoadRect (harg1.unread x0))) k0_pay6 (k0_pay33 (s10A c i arg1 harg1 arg2 harg2 arg3 harg3 arg4 harg4 arg5 harg5 arg6 harg6 arg7 harg7 arg8 harg8 arg9 harg9 arg10 harg10 arg11 harg11 arg12 harg12 x0 x1 x3)) (k0_pay34 (s11A c i arg1 harg1 arg2 harg2 arg3 harg3 arg4 harg4 arg5 harg5 arg6 harg6 arg7 harg7 arg8 harg8 arg9 harg9 arg10 harg10 arg11 harg11 arg12 harg12 x0 x1 x3)) (View.readAt (Elt Ideal) arg3.view (Rect.unit (s := S2048x512) ![0, 0] ![1024, 512] inb_S2048x512_S1024x512_0_0).toLoadRect (harg3.unread x2)) (View.readAt (Elt Ideal) arg3.view (Rect.unit (s := S2048x512) ![1024, 0] ![1024, 512] inb_S2048x512_S1024x512_1024_0).toLoadRect (harg3.unread x2)) (View.readAt (Elt Ideal) arg5.view (Rect.unit (s := S8x256) ![0, 0] ![8, 256] inb_S8x256_S8x256_0_0).toLoadRect (harg5.unread x4))⟩] := by sl_kernel_rfl
theorem pcsA6 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.1 = [⟨Rect.unit ![0, 0, 0, 0] ![1, 2, 8, 1024] inb_S1x2x8x1024_S1x2x8x1024_0_0_0_0, k0_pay3 (arg12.view.readCov (Val := Elt Ideal) (s := S2x8x1024) (e := .f32) [⟨Rect.unit ![0, 0, 0] ![2, 8, 1024] inb_S2x8x1024_S2x8x1024_0_0_0, k0_pay2 (F := Ideal)⟩] (Rect.unit (s := S2x8x1024) ![0, 0, 0] ![2, 8, 1024] inb_S2x8x1024_S2x8x1024_0_0_0).toLoadRect)⟩] := by sl_kernel_rfl
theorem pcsA7 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.1 = [⟨Rect.unit ![0, 0] ![1024, 1024] inb_S1024x1024_S1024x1024_0_0, k0_pay33 (s10A c i arg1 harg1 arg2 harg2 arg3 harg3 arg4 harg4 arg5 harg5 arg6 harg6 arg7 harg7 arg8 harg8 arg9 harg9 arg10 harg10 arg11 harg11 arg12 harg12 x0 x1 x3)⟩] := by sl_kernel_rfl
theorem pcsA8 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.2.1 = [⟨Rect.unit ![0, 0] ![1024, 1024] inb_S1024x1024_S1024x1024_0_0, k0_pay34 (s11A c i arg1 harg1 arg2 harg2 arg3 harg3 arg4 harg4 arg5 harg5 arg6 harg6 arg7 harg7 arg8 harg8 arg9 harg9 arg10 harg10 arg11 harg11 arg12 harg12 x0 x1 x3)⟩] := by sl_kernel_rfl
theorem pcsAs : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.2.2.1 = ⟨Rect.unit ![1, 0, 512] ![1, 8, 512] inb_S2x8x1024_S1x8x512_1_0_512, k0_pay32 (l2A c i arg1 harg1 arg2 harg2 arg3 harg3 arg4 harg4 arg5 harg5 arg6 harg6 arg7 harg7 arg8 harg8 arg9 harg9 arg10 harg10 arg11 harg11 arg12 harg12 x0 x1 x3).1.2⟩ :: ⟨Rect.unit ![0, 0, 512] ![1, 8, 512] inb_S2x8x1024_S1x8x512_0_0_512, k0_pay31 (l2A c i arg1 harg1 arg2 harg2 arg3 harg3 arg4 harg4 arg5 harg5 arg6 harg6 arg7 harg7 arg8 harg8 arg9 harg9 arg10 harg10 arg11 harg11 arg12 harg12 x0 x1 x3).1.1⟩
    :: ⟨Rect.unit ![1, 0, 0] ![1, 8, 512] inb_S2x8x1024_S1x8x512_1_0_0, k0_pay22 (l1A c i arg1 harg1 arg2 harg2 arg3 harg3 arg4 harg4 arg5 harg5 arg6 harg6 arg7 harg7 arg8 harg8 arg9 harg9 arg10 harg10 arg11 harg11 arg12 harg12 x0 x1 x3).1.2⟩ :: ⟨Rect.unit ![0, 0, 0] ![1, 8, 512] inb_S2x8x1024_S1x8x512_0_0_0, k0_pay21 (l1A c i arg1 harg1 arg2 harg2 arg3 harg3 arg4 harg4 arg5 harg5 arg6 harg6 arg7 harg7 arg8 harg8 arg9 harg9 arg10 harg10 arg11 harg11 arg12 harg12 x0 x1 x3).1.1⟩ :: [⟨Rect.unit ![0, 0, 0] ![2, 8, 1024] inb_S2x8x1024_S2x8x1024_0_0_0, k0_pay2 (F := Ideal)⟩] := by sl_kernel_rfl

variable (V5 : View sig .tc .vmem S1024x256 .bf16) (f5 : V5.ty.Contents (Elt Ideal)) (V6 : View sig .tc .vmem S1x2x8x1024 .f32) (f6 : V6.ty.Contents (Elt Ideal)) (V7 V8 : View sig .tc .vmem S1024x1024 .bf16) (f7 : V7.ty.Contents (Elt Ideal)) (f8 : V8.ty.Contents (Elt Ideal))
  (VS : View sig .tc .vmem S2x8x1024 .f32) (fs : VS.ty.Contents (Elt Ideal))
theorem outA : ChunkOut x0 x1 x2 x3 x4 (fun _ => (0 : EReal)) (V5.read (Elt Ideal) (V5.writes (Elt Ideal) f5 (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).1), V6.read (Elt Ideal) (V6.writes (Elt Ideal) f6 (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.1),
    V7.read (Elt Ideal) (V7.writes (Elt Ideal) f7 (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.1), V8.read (Elt Ideal) (V8.writes (Elt Ideal) f8 (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.2.1), VS.read (Elt Ideal) (VS.writes (Elt Ideal) fs (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 hc0).2.2.2.2.1)) := by
  have C := core c i arg1 harg1 arg2 harg2 arg3 harg3 arg4 harg4 arg5 harg5 arg6 harg6 arg7 harg7 arg8 harg8 arg9 harg9 arg10 harg10 arg11 harg11 arg12 harg12 x0 x1 x3 (z85 arg12) (z87 arg12) (z101 c i arg1 harg1 arg2 harg2 arg3 harg3 arg4 harg4 arg5 harg5 arg6 harg6 arg7 harg7 arg8 harg8 arg9 harg9 arg10 harg10 arg11 harg11 arg12 harg12 x0 x1 x3) (z103 c i arg1 harg1 arg2 harg2 arg3 harg3 arg4 harg4 arg5 harg5 arg6 harg6 arg7 harg7 arg8 harg8 arg9 harg9 arg10 harg10 arg11 harg11 arg12 harg12 x0 x1 x3) (l1A c i arg1 harg1 arg2 harg2 arg3 harg3 arg4 harg4 arg5 harg5 arg6 harg6 arg7 harg7 arg8 harg8 arg9 harg9 arg10 harg10 arg11 harg11 arg12 harg12 x0 x1 x3).1.2 (fun _ => (0 : EReal)) (z85_eq arg12) (z87_eq arg12) (z101_eq c i arg1 harg1 arg2 harg2 arg3 harg3 arg4 harg4 arg5 harg5 arg6 harg6 arg7 harg7 arg8 harg8 arg9 harg9 arg10 harg10 arg11 harg11 arg12 harg12 x0 x1 x3) (z103_eq c i arg1 harg1 arg2 harg2 arg3 harg3 arg4 harg4 arg5 harg5 arg6 harg6 arg7 harg7 arg8 harg8 arg9 harg9 arg10 harg10 arg11 harg11 arg12 harg12 x0 x1 x3)
  obtain ⟨c1, c2, c3, c4⟩ := C
  have r10 : ∀ (t : Fin 128) b q, k0_pay33 (s10A c i arg1 harg1 arg2 harg2 arg3 harg3 arg4 harg4 arg5 harg5 arg6 harg6 arg7 harg7 arg8 harg8 arg9 harg9 arg10 harg10 arg11 harg11 arg12 harg12 x0 x1 x3) (ix2 (rw8 t b) q) = (stC x0 x1 x3 (fun _ => (0 : EReal)) b q (t.val + 1)).1 := fun t b q => (p33 _ t b q).trans ((whole_scratch arg10.view _ t b q).trans (c3 t b q))
  have r11 : ∀ (t : Fin 128) b q, k0_pay34 (s11A c i arg1 harg1 arg2 harg2 arg3 harg3 arg4 harg4 arg5 harg5 arg6 harg6 arg7 harg7 arg8 harg8 arg9 harg9 arg10 harg10 arg11 harg11 arg12 harg12 x0 x1 x3) (ix2 (rw8 t b) q) = (stC x0 x1 x3 (fun _ => (0 : EReal)) b q (t.val + 1)).2 := fun t b q => (p34 _ t b q).trans ((whole_scratch arg11.view _ t b q).trans (c4 t b q))
  refine ⟨fun t b h => ?_, fun z b q => ?_, fun t b q => ?_, fun t b q => ?_, fun b q => ?_, fun b q => ?_⟩
  · refine (congrArg (fun L => V5.read (Elt Ideal) (V5.writes (Elt Ideal) f5 L) (ix2 (rw8 t b) h)) (pcsA5 c i arg1 harg1 arg2 harg2 arg3 harg3 arg4 harg4 arg5 harg5 arg6 harg6 arg7 harg7 arg8 harg8 arg9 harg9 arg10 harg10 arg11 harg11 arg12 harg12 x0 x1 x2 x3 x4 hc0)).trans ((whole2 V5 f5 _ _ [] _ _).trans ((p1 _ _ _ _ _ _ t b h).trans ?_))
    unfold outY
    rw [ld1 arg1 harg1 x0, ld5 arg5 harg5 x4]
    refine congrArg (· + _) ?_
    refine congrArg₂ (fun x y : EReal => if b.val % 2 = 0 then x else y) (congrArg₂ (· + ·) ?_ ?_) (congrArg₂ (· + ·) ?_ ?_)
    · exact Finset.sum_congr rfl fun k _ => congrArg₂ (· * ·) (r10 t b k) ((ld3 arg3 harg3 x2 0 _ (by decide) k _).trans (congrArg (fun r => x2 (ix2 r _)) (Fin.ext (Nat.zero_add _))))
    · exact Finset.sum_congr rfl fun k _ => congrArg₂ (· * ·) (r11 t b k) (ld3 arg3 harg3 x2 1024 _ (by decide) k _)
    · exact Finset.sum_congr rfl fun k _ => congrArg₂ (· * ·) (r10 t b k) ((ld3 arg3 harg3 x2 0 _ (by decide) k _).trans (congrArg (fun r => x2 (ix2 r _)) (Fin.ext (Nat.zero_add _))))
    · exact Finset.sum_congr rfl fun k _ => congrArg₂ (· * ·) (r11 t b k) (ld3 arg3 harg3 x2 1024 _ (by decide) k _)
  · refine (congrArg (fun L => V6.read (Elt Ideal) (V6.writes (Elt Ideal) f6 L) (ix4 0 z b q)) (pcsA6 c i arg1 harg1 arg2 harg2 arg3 harg3 arg4 harg4 arg5 harg5 arg6 harg6 arg7 harg7 arg8 harg8 arg9 harg9 arg10 harg10 arg11 harg11 arg12 harg12 x0 x1 x2 x3 x4 hc0)).trans ((View.read_writes_cons_unit_of_mem V6 f6 _ _ [] _ (ix4 0 z b q) rfl fun a => ?_).trans ((p3 _ z b q).trans ((at_unit arg12.view _ _ _ _ _ (ix3 z b q) (fun a => by match a with | ⟨0, _⟩ => simp | ⟨1, _⟩ => simp | ⟨2, _⟩ => simp)).trans (zeros_read arg12.view _ z b q))))
    match a with
    | ⟨0, _⟩ => simp
    | ⟨1, _⟩ => simp
    | ⟨2, _⟩ => simp
    | ⟨3, _⟩ => simp
  · exact (congrArg (fun L => V7.read (Elt Ideal) (V7.writes (Elt Ideal) f7 L) (ix2 (rw8 t b) q)) (pcsA7 c i arg1 harg1 arg2 harg2 arg3 harg3 arg4 harg4 arg5 harg5 arg6 harg6 arg7 harg7 arg8 harg8 arg9 harg9 arg10 harg10 arg11 harg11 arg12 harg12 x0 x1 x2 x3 x4 hc0)).trans ((whole2 V7 f7 _ _ [] _ _).trans (r10 t b q))
  · exact (congrArg (fun L => V8.read (Elt Ideal) (V8.writes (Elt Ideal) f8 L) (ix2 (rw8 t b) q)) (pcsA8 c i arg1 harg1 arg2 harg2 arg3 harg3 arg4 harg4 arg5 harg5 arg6 harg6 arg7 harg7 arg8 harg8 arg9 harg9 arg10 harg10 arg11 harg11 arg12 harg12 x0 x1 x2 x3 x4 hc0)).trans ((whole2 V8 f8 _ _ [] _ _).trans (r11 t b q))
  · refine (congrArg (fun L => VS.read (Elt Ideal) (VS.writes (Elt Ideal) fs L) (ix3 0 b q)) (pcsAs c i arg1 harg1 arg2 harg2 arg3 harg3 arg4 harg4 arg5 harg5 arg6 harg6 arg7 harg7 arg8 harg8 arg9 harg9 arg10 harg10 arg11 harg11 arg12 harg12 x0 x1 x2 x3 x4 hc0)).trans (?_)
    rcases lane_cases q with ⟨j, rfl⟩ | ⟨j, rfl⟩
    · refine (quarter_skip VS fs 1 512 _ _ _ 0 b _ (Or.inl (Or.inl (by decide)))).trans ((quarter_skip VS fs 0 512 _ _ _ 0 b _ (Or.inr (Or.inl (by show 0 + j.val < 512; omega)))).trans
        ((quarter_skip VS fs 1 0 _ _ _ 0 b _ (Or.inl (Or.inl (by decide)))).trans ((quarter VS fs 0 0 (by decide) lo _ _ _ b j).trans ((p21 _ b j).trans ?_))))
      exact congrArg Prod.fst (c1 b j)
    · refine (quarter_skip VS fs 1 512 _ _ _ 0 b _ (Or.inl (Or.inl (by decide)))).trans ((quarter VS fs 0 512 (by decide) up _ _ _ b j).trans ((p31 _ b j).trans ?_))
      exact congrArg Prod.fst (c2 b j)
  · refine (congrArg (fun L => VS.read (Elt Ideal) (VS.writes (Elt Ideal) fs L) (ix3 1 b q)) (pcsAs c i arg1 harg1 arg2 harg2 arg3 harg3 arg4 harg4 arg5 harg5 arg6 harg6 arg7 harg7 arg8 harg8 arg9 harg9 arg10 harg10 arg11 harg11 arg12 harg12 x0 x1 x2 x3 x4 hc0)).trans (?_)
    rcases lane_cases q with ⟨j, rfl⟩ | ⟨j, rfl⟩
    · refine (quarter_skip VS fs 1 512 _ _ _ 1 b _ (Or.inr (Or.inl (by show 0 + j.val < 512; omega)))).trans ((quarter_skip VS fs 0 512 _ _ _ 1 b _ (Or.inl (Or.inr (by decide)))).trans
        ((quarter VS fs 1 0 (by decide) lo _ _ _ b j).trans ((p22 _ b j).trans ?_)))
      exact congrArg Prod.snd (c1 b j)
    · refine (quarter VS fs 1 512 (by decide) up _ _ _ b j).trans ((p32 _ b j).trans ?_)
      exact congrArg Prod.snd (c2 b j)
end

variable (V : (c : Dev nD) → (b : Ref sig .tc) → Buf (Elt Ideal) ((c : Thread nD τ).loc b))

/-- At a point of the grid. -/
theorem atB (t : Fin cfg0.N) (h0 : ¬t.val % 16 = 0) (s : Vec Ideal S2x8x1024 .f32) : ChunkOut (iblk V c 0 t) (iblk V c 1 t) (iblk V c 2 t) (iblk V c 3 t) (iblk V c 4 t) s (ptB V c t h0 s) := outB ..
theorem atA (t : Fin cfg0.N) (h0 : t.val % 16 = 0) : ChunkOut (iblk V c 0 t) (iblk V c 1 t) (iblk V c 2 t) (iblk V c 3 t) (iblk V c 4 t) (fun _ => (0 : EReal)) (ptA V c t h0) := outA ..

end Cert.SsmFwdMath
end
-- ==== Proof.SsmMath.Spec.lean ====
/- The recurrence of the step's state-space layer over the tokens, as functions of its arguments: inputs, states, outputs. -/
module

public import proofs.«01_k».proof.Proof.SsmMath.Loop
public import proofs.«01_k».proof.Proof.Shared.Reals
public import Idealize.ShloMosaic.Lib.Pipeline.ValueKit

@[expose] public section

noncomputable section

open Idealize.ShloMosaic Idealize.ShloMosaic.TcCoe
open scoped BigOperators

namespace Cert.SsmMath

open Cert.Shared

/-- A group's channel. -/
abbrev uch (G : Fin 32) (h : Fin 16) : Fin 512 := ⟨G.val * 16 + h.val, by omega⟩

section
variable (u : FVec Ideal ⟨3, ![4, 2048, 512]⟩ .f32) (lr li : FVec Ideal ⟨2, ![32, 64]⟩ .f32) (br bi : FVec Ideal ⟨3, ![32, 64, 16]⟩ .f32)
  (cr ci : FVec Ideal ⟨3, ![32, 16, 64]⟩ .f32) (d : FVec Ideal ⟨1, ![512]⟩ .f32) (b : Fin 4) (G : Fin 32) (p : Fin 64)

/-- A token's input to one lane of the state. -/
def gin (t : ℕ) : EReal × EReal :=
  if ht : t < 2048 then (∑ h : Fin 16, u (ix3 b ⟨t, ht⟩ (uch G h)) * br (ix3 G p h), ∑ h : Fin 16, u (ix3 b ⟨t, ht⟩ (uch G h)) * bi (ix3 G p h)) else (0, 0)

/-- One lane of the state after `k` tokens. -/
abbrev gst (k : ℕ) : EReal × EReal := scn (lr (ix2 G p), li (ix2 G p)) (gin u br bi b G p) (0, 0) k

/-- One channel of the output at a token. -/
def gy (t : Fin 2048) (h : Fin 16) : EReal :=
  ∑ p : Fin 64, (gst u lr li br bi b G p (t.val + 1)).1 * cr (ix3 G h p) - ∑ p : Fin 64, (gst u lr li br bi b G p (t.val + 1)).2 * ci (ix3 G h p)
    + d (ix1 (uch G h)) * u (ix3 b t (uch G h))
end

/-- A sum over columns is a sum over groups and their columns. -/
theorem sum_cols {m n : ℕ} (f : Fin (m * n) → EReal) (k : (g : Fin m) → Fin n → Fin (m * n)) (hk : ∀ g h, (k g h).val = g.val * n + h.val) :
    ∑ i, f i = ∑ g, ∑ h, f (k g h) := by
  rw [← Equiv.sum_comp finProdFinEquiv f, Fintype.sum_prod_type]
  refine Finset.sum_congr rfl fun g _ => Finset.sum_congr rfl fun h _ => congrArg f (Fin.ext ?_)
  rw [hk, finProdFinEquiv_apply_val]
  show h.val + n * g.val = _
  rw [Nat.mul_comm, Nat.add_comm]

/-- One where two groups agree, else zero. -/
abbrev dl (g g' : Fin 16) : EReal := if g = g' then 1 else 0

/-- A product with a block-diagonal matrix is a product with one block. -/
theorem sum_block {n N : ℕ} (hN : N = 16 * n) (f B : Fin N → EReal) (k : Fin 16 → Fin n → Fin N) (hk : ∀ g h, (k g h).val = g.val * n + h.val) (g' : Fin 16)
    (W : Fin 16 → Fin n → EReal) (hB : ∀ g h, B (k g h) = W g h * dl g g') : ∑ i, f i * B i = ∑ h, f (k g' h) * W g' h := by
  subst hN
  rw [sum_cols _ k hk, Finset.sum_eq_single g']
  · exact Finset.sum_congr rfl fun h _ => by rw [hB, dl, if_pos rfl, mul_one]
  · intro g _ hg
    exact Finset.sum_eq_zero fun h _ => by rw [hB, dl, if_neg hg, mul_zero, mul_zero]
  · exact fun h => absurd (Finset.mem_univ _) h
theorem sum_block_neg {n N : ℕ} (hN : N = 16 * n) (f B : Fin N → EReal) (k : Fin 16 → Fin n → Fin N) (hk : ∀ g h, (k g h).val = g.val * n + h.val) (g' : Fin 16)
    (W : Fin 16 → Fin n → EReal) (hB : ∀ g h, B (k g h) = -(W g h * dl g g')) : ∑ i, f i * B i = ∑ h, f (k g' h) * -W g' h :=
  sum_block hN f B k hk g' (fun g h => -W g h) fun g h => (hB g h).trans (by by_cases e : g = g' <;> simp [dl, e])

/-- A finite sum with its sign outside. -/
theorem sum_neg {n : ℕ} (f w : Fin n → EReal) (hf : ∀ i, Real' (f i)) (hw : ∀ i, Real' (w i)) : ∑ i, f i * -w i = -∑ i, f i * w i := by
  choose x hx using hf
  choose y hy using hw
  simp only [hx, hy, ← EReal.coe_neg, ← EReal.coe_mul]
  rw [← coe_sum, ← coe_sum, ← EReal.coe_neg]
  simp

/-- From finite arguments the states are finite. -/
theorem scn_real (l : EReal × EReal) (f : ℕ → EReal × EReal) (hl : Real' l.1 ∧ Real' l.2) (hf : ∀ t, Real' (f t).1 ∧ Real' (f t).2) :
    ∀ k, Real' (scn l f (0, 0) k).1 ∧ Real' (scn l f (0, 0) k).2
  | 0 => ⟨.zero, .zero⟩
  | k + 1 => by
    have h := scn_real l f hl hf k
    exact ⟨((hl.1.mul h.1).sub (hl.2.mul h.2)).add (hf k).1, ((hl.1.mul h.2).add (hl.2.mul h.1)).add (hf k).2⟩
theorem gin_real (u : FVec Ideal ⟨3, ![4, 2048, 512]⟩ .f32) (br bi : FVec Ideal ⟨3, ![32, 64, 16]⟩ .f32) (hu : ∀ i, Real' (u i)) (hr : ∀ i, Real' (br i)) (hi : ∀ i, Real' (bi i))
    (b : Fin 4) (G : Fin 32) (p : Fin 64) (t : ℕ) : Real' (gin u br bi b G p t).1 ∧ Real' (gin u br bi b G p t).2 := by
  unfold gin
  split
  · have key : ∀ X : FVec Ideal ⟨3, ![32, 64, 16]⟩ .f32, (∀ i, Real' (X i)) → ∀ t : Fin 2048, Real' (∑ h : Fin 16, u (ix3 b t (uch G h)) * X (ix3 G p h)) := fun X hX t =>
      Real'.sum _ fun h => (hu _).mul (hX _)
    exact ⟨key br hr _, key bi hi _⟩
  · exact ⟨.zero, .zero⟩

end Cert.SsmMath
end
-- ==== Proof.SsmFwdMath.Host.lean ====
/- The arrays that the host prepares for the recurrence's kernel. -/
module

public import proofs.«01_k».proof.Proof.SsmFwdMath.Out
public import proofs.«01_k».proof.Proof.SsmFwdRun.Frame
public import proofs.«01_k».proof.Proof.SsmMath.Spec
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath
open Cert.SsmFwdRun (V iblk)

variable (m : (ℓ : Loc nD τ sig) → Buf (Elt Ideal) ℓ) (c : Dev nD)

/-- The kernel's arguments. -/
abbrev aU : FVec Ideal S4x2048x512 .f32 := m ((c : Thread nD τ).loc main_arg0)
abbrev aLr : FVec Ideal S32x64 .f32 := m ((c : Thread nD τ).loc main_arg1)
abbrev aLi : FVec Ideal S32x64 .f32 := m ((c : Thread nD τ).loc main_arg2)
abbrev aBr : FVec Ideal S32x64x16 .f32 := m ((c : Thread nD τ).loc main_arg3)
abbrev aBi : FVec Ideal S32x64x16 .f32 := m ((c : Thread nD τ).loc main_arg4)
abbrev aCr : FVec Ideal S32x16x64 .f32 := m ((c : Thread nD τ).loc main_arg5)
abbrev aCi : FVec Ideal S32x16x64 .f32 := m ((c : Thread nD τ).loc main_arg6)
abbrev aD : FVec Ideal S512 .f32 := m ((c : Thread nD τ).loc main_arg7)

/-- A half's group, and the columns that a group takes up. -/
abbrev grp (e : Fin 2) (g : Fin 16) : Fin 32 := ⟨e.val * 16 + g.val, by omega⟩
abbrev ch (g h : Fin 16) : Fin 256 := ⟨g.val * 16 + h.val, by omega⟩
abbrev stt (g : Fin 16) (p : Fin 64) : Fin 1024 := ⟨g.val * 64 + p.val, by omega⟩
abbrev rw2 (b : Fin 4) (e : Fin 2) : Fin 8 := ⟨b.val * 2 + e.val, by omega⟩

theorem hU (t : Fin 2048) (b : Fin 4) (e : Fin 2) (k : Fin 256) :
    V m c main_v105 (ix2 ⟨t.val * 8 + b.val * 2 + e.val, by omega⟩ k) = aU m c (ix3 b t ⟨e.val * 256 + k.val, by omega⟩) := by
  unfold V; after_reads_at
  exact congrArg (aU m c) (by blk_ext)

section generic
variable (b : Fin 4) (e : Fin 2) (g h g' : Fin 16) (p : Fin 64) (k : Fin 256) (q : Fin 1024)

/-- A row per batch row and half, laid out eight to a tile. -/
theorem eight (X : FVec Ideal S4x2x1x1024 .f32) : shapeCast S8x1024 X shapeCasts_S4x2x1x1024_S8x1024 (ix2 (rw2 b e) q) = X (ix4 b e 0 q) := by
  pointwise; exact congrArg X (by blk_ext)
theorem eightD (X : FVec Ideal S4x2x1x256 .f32) : shapeCast S8x256 X shapeCasts_S4x2x1x256_S8x256 (ix2 (rw2 b e) k) = X (ix4 b e 0 k) := by
  pointwise; exact congrArg X (by blk_ext)
theorem spread (X : FVec Ideal S32x64 .f32) :
    broadcastInDim S4x2x1x1024 ![0, 1, 2, 3] bcast_S1x2x1x1024_S4x2x1x1024_0_1_2_3 (shapeCast S1x2x1x1024 (shapeCast S2x1024 X shapeCasts_S32x64_S2x1024) shapeCasts_S2x1024_S1x2x1x1024) (ix4 b e 0 (stt g p)) = X (ix2 (grp e g) p) := by
  have s1 : ∀ Y : FVec Ideal S2x1024 .f32, broadcastInDim S4x2x1x1024 ![0, 1, 2, 3] bcast_S1x2x1x1024_S4x2x1x1024_0_1_2_3 (shapeCast S1x2x1x1024 Y shapeCasts_S2x1024_S1x2x1x1024) (ix4 b e 0 (stt g p)) = Y (ix2 e (stt g p)) := by
    intro Y; pointwise
  rw [s1]; pointwise; exact congrArg X (by blk_ext)
theorem spreadD (X : FVec Ideal S512 .f32) :
    broadcastInDim S4x2x1x256 ![0, 1, 2, 3] bcast_S1x2x1x256_S4x2x1x256_0_1_2_3 (shapeCast S1x2x1x256 (shapeCast S2x256 X shapeCasts_S512_S2x256) shapeCasts_S2x256_S1x2x1x256) (ix4 b e 0 k) = X (ix1 ⟨e.val * 256 + k.val, by omega⟩) := by
  have s1 : ∀ Y : FVec Ideal S2x256 .f32, broadcastInDim S4x2x1x256 ![0, 1, 2, 3] bcast_S1x2x1x256_S4x2x1x256_0_1_2_3 (shapeCast S1x2x1x256 Y shapeCasts_S2x256_S1x2x1x256) (ix4 b e 0 k) = Y (ix2 e k) := by
    intro Y; pointwise
  rw [s1]; pointwise

/-- The identity matrix. -/
abbrev eyeM : FVec Ideal S16x16 .f32 :=
  uitofp .f32 (cmpi .eq (addi (iotaInDim S16x16 32 0) (broadcastInDim (s := S_) S16x16 ![] bcast_S_S16x16 (constantI S_ 32 0#32))) (iotaInDim S16x16 32 1))
theorem eye_at : eyeM (ix2 g g') = dl g g' := by
  pointwise
  have h : IntOp.cmpi CmpIPredicate.eq (IntOp.addi (BitVec.ofNat 32 g.val) 0#32) (BitVec.ofNat 32 g'.val) = if g = g' then 1#1 else 0#1 := by
    revert g g'; decide +kernel
  rw [h]
  by_cases e : g = g'
  · simp [dl, e, FloatOps.uitofp]
  · simp [dl, e, FloatOps.uitofp]

/-- A block-diagonal matrix with a block per group: the input weights of a half, and its output weights. -/
abbrev packB (X : FVec Ideal S32x64x16 .f32) : FVec Ideal S2x16x16x64 .f32 :=
  transpose S2x16x16x64 [1, 2, 0, 3] (shapeCast S16x2x16x64 (shapeCast S16x2048 (transpose S16x32x64 [2, 0, 1] X transposes_S32x64x16_S16x32x64_2_0_1) shapeCasts_S16x32x64_S16x2048) shapeCasts_S16x2048_S16x2x16x64) transposes_S16x2x16x64_S2x16x16x64_1_2_0_3
theorem packB_at (X : FVec Ideal S32x64x16 .f32) : packB X (ix4 e g h p) = X (ix3 (grp e g) p h) := by
  have s1 : ∀ Y : FVec Ideal S16x2048 .f32, transpose S2x16x16x64 [1, 2, 0, 3] (shapeCast S16x2x16x64 Y shapeCasts_S16x2048_S16x2x16x64) transposes_S16x2x16x64_S2x16x16x64_1_2_0_3 (ix4 e g h p) = Y (ix2 h ⟨(e.val * 16 + g.val) * 64 + p.val, by omega⟩) := by
    intro Y; pointwise; exact congrArg Y (by blk_ext)
  rw [packB, s1]; pointwise; exact congrArg X (by blk_ext)
abbrev bigB (E : FVec Ideal S16x16 .f32) (Y : FVec Ideal S2x16x16x64 .f32) : FVec Ideal S2x256x1024 .f32 :=
  shapeCast S2x256x1024 (mulf (broadcastInDim S2x16x16x16x64 ![0, 1, 2, 3, 4] bcast_S2x16x16x1x64_S2x16x16x16x64_0_1_2_3_4 (broadcastInDim S2x16x16x1x64 ![0, 1, 2, 4] bcast_S2x16x16x64_S2x16x16x1x64_0_1_2_4 Y))
    (broadcastInDim S2x16x16x16x64 ![0, 1, 2, 3, 4] bcast_S1x16x1x16x1_S2x16x16x16x64_0_1_2_3_4 (broadcastInDim S1x16x1x16x1 ![1, 2, 3, 4] bcast_S16x1x16x1_S1x16x1x16x1_1_2_3_4 (broadcastInDim S16x1x16x1 ![0, 2] bcast_S16x16_S16x1x16x1_0_2 E)))) shapeCasts_S2x16x16x16x64_S2x256x1024
theorem bigB_at (E : FVec Ideal S16x16 .f32) (Y : FVec Ideal S2x16x16x64 .f32) : bigB E Y (ix3 e (ch g h) (stt g' p)) = Y (ix4 e g h p) * E (ix2 g g') := by
  have s1 : ∀ Z : FVec Ideal S2x16x16x16x64 .f32, shapeCast S2x256x1024 Z shapeCasts_S2x16x16x16x64_S2x256x1024 (ix3 e (ch g h) (stt g' p)) = Z (ix5 e g h g' p) := by
    intro Z; pointwise; exact congrArg Z (by blk_ext)
  rw [bigB, s1]; pointwise
abbrev packC (X : FVec Ideal S32x16x64 .f32) : FVec Ideal S2x16x64x16 .f32 :=
  transpose S2x16x64x16 [0, 1, 3, 2] (shapeCast S2x16x16x64 X shapeCasts_S32x16x64_S2x16x16x64) transposes_S2x16x16x64_S2x16x64x16_0_1_3_2
theorem packC_at (X : FVec Ideal S32x16x64 .f32) : packC X (ix4 e g p h) = X (ix3 (grp e g) h p) := by
  pointwise
abbrev bigC (E : FVec Ideal S16x16 .f32) (Y : FVec Ideal S2x16x64x16 .f32) : FVec Ideal S2x1024x256 .f32 :=
  shapeCast S2x1024x256 (mulf (broadcastInDim S2x16x64x16x16 ![0, 1, 2, 3, 4] bcast_S2x16x64x1x16_S2x16x64x16x16_0_1_2_3_4 (broadcastInDim S2x16x64x1x16 ![0, 1, 2, 4] bcast_S2x16x64x16_S2x16x64x1x16_0_1_2_4 Y))
    (broadcastInDim S2x16x64x16x16 ![0, 1, 2, 3, 4] bcast_S1x16x1x16x1_S2x16x64x16x16_0_1_2_3_4 (broadcastInDim S1x16x1x16x1 ![1, 2, 3, 4] bcast_S16x1x16x1_S1x16x1x16x1_1_2_3_4 (broadcastInDim S16x1x16x1 ![0, 2] bcast_S16x16_S16x1x16x1_0_2 E)))) shapeCasts_S2x16x64x16x16_S2x1024x256
theorem bigC_at (E : FVec Ideal S16x16 .f32) (Y : FVec Ideal S2x16x64x16 .f32) : bigC E Y (ix3 e (stt g p) (ch g' h)) = Y (ix4 e g p h) * E (ix2 g g') := by
  have s1 : ∀ Z : FVec Ideal S2x16x64x16x16 .f32, shapeCast S2x1024x256 Z shapeCasts_S2x16x64x16x16_S2x1024x256 (ix3 e (stt g p) (ch g' h)) = Z (ix5 e g p g' h) := by
    intro Z; pointwise; exact congrArg Z (by blk_ext)
  rw [bigC, s1]; pointwise
end generic

section host
variable (b : Fin 4) (e : Fin 2) (g h g' : Fin 16) (p : Fin 64) (k : Fin 256) (q : Fin 1024)

/-- A row per batch row and half of the recurrence's factors. -/
abbrev lam8 (X : FVec Ideal S32x64 .f32) : FVec Ideal S8x1024 .f32 :=
  shapeCast S8x1024 (broadcastInDim S4x2x1x1024 ![0, 1, 2, 3] bcast_S1x2x1x1024_S4x2x1x1024_0_1_2_3 (shapeCast S1x2x1x1024 (shapeCast S2x1024 X shapeCasts_S32x64_S2x1024) shapeCasts_S2x1024_S1x2x1x1024)) shapeCasts_S4x2x1x1024_S8x1024
theorem lam8_at (X : FVec Ideal S32x64 .f32) : lam8 X (ix2 (rw2 b e) (stt g p)) = X (ix2 (grp e g) p) :=
  (eight _ _ _ _).trans (spread _ _ _ _ _)
abbrev lam (A B : FVec Ideal S8x1024 .f32) : FVec Ideal S2x8x1024 .f32 :=
  concatenate S2x8x1024 0 [⟨S1x8x1024, broadcastInDim S1x8x1024 ![1, 2] bcast_S8x1024_S1x8x1024_1_2 A⟩,
    ⟨S1x8x1024, broadcastInDim S1x8x1024 ![1, 2] bcast_S8x1024_S1x8x1024_1_2 B⟩] concatenates_S1x8x1024_S1x8x1024_S2x8x1024_d0
theorem lam_at (A B : FVec Ideal S8x1024 .f32) (z : Fin 2) (b : Fin 8) : lam A B (ix3 z b q) = if z.val < 1 then A (ix2 b q) else B (ix2 b q) := by
  pointwise; rfl
theorem v10 : V m c main_v10 = lam (lam8 (aLr m c)) (lam8 (aLi m c)) := by
  unfold V; after_reads_simp; sl_kernel_rfl
theorem hLr : V m c main_v10 (ix3 0 (rw2 b e) (stt g p)) = aLr m c (ix2 (grp e g) p) :=
  (congrFun (v10 m c) _).trans ((lam_at _ _ _ 0 _).trans (lam8_at _ _ _ _ _))
theorem hLi : V m c main_v10 (ix3 1 (rw2 b e) (stt g p)) = aLi m c (ix2 (grp e g) p) :=
  (congrFun (v10 m c) _).trans ((lam_at _ _ _ 1 _).trans (lam8_at _ _ _ _ _))
theorem v102 : V m c main_v102 = shapeCast S8x256 (broadcastInDim S4x2x1x256 ![0, 1, 2, 3] bcast_S1x2x1x256_S4x2x1x256_0_1_2_3 (shapeCast S1x2x1x256 (shapeCast S2x256 (aD m c) shapeCasts_S512_S2x256) shapeCasts_S2x256_S1x2x1x256)) shapeCasts_S4x2x1x256_S8x256 := by
  unfold V; after_reads_simp; sl_kernel_rfl
theorem hD : V m c main_v102 (ix2 (rw2 b e) k) = aD m c (ix1 ⟨e.val * 256 + k.val, by omega⟩) :=
  (congrFun (v102 m c) _).trans ((eightD _ _ _ _).trans (spreadD _ _ _ _))

end host

end Cert.SsmFwdMath
end
-- ==== Proof.SsmFwdMath.Packed.lean ====
/- The block-diagonal matrices that the host prepares. -/
module

public import proofs.«01_k».proof.Proof.SsmFwdMath.Host

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath
open Cert.SsmFwdRun (V iblk)

variable (m : (ℓ : Loc nD τ sig) → Buf (Elt Ideal) ℓ) (c : Dev nD)

theorem v54 : V m c main_v54 = truncf (F := Ideal) .bf16 (concatenate S256x4096 1 [⟨S256x1024, shapeCast S256x1024 (extractStridedSlice S1x256x1024 ![0, 0, 0] (bigB eyeM (packB (aBr m c))) slices_S2x256x1024_S1x256x1024_0_0_0) shapeCasts_S1x256x1024_S256x1024⟩,
    ⟨S256x1024, shapeCast S256x1024 (extractStridedSlice S1x256x1024 ![0, 0, 0] (bigB eyeM (packB (aBi m c))) slices_S2x256x1024_S1x256x1024_0_0_0) shapeCasts_S1x256x1024_S256x1024⟩,
    ⟨S256x1024, shapeCast S256x1024 (extractStridedSlice S1x256x1024 ![1, 0, 0] (bigB eyeM (packB (aBr m c))) slices_S2x256x1024_S1x256x1024_1_0_0) shapeCasts_S1x256x1024_S256x1024⟩,
    ⟨S256x1024, shapeCast S256x1024 (extractStridedSlice S1x256x1024 ![1, 0, 0] (bigB eyeM (packB (aBi m c))) slices_S2x256x1024_S1x256x1024_1_0_0) shapeCasts_S1x256x1024_S256x1024⟩] concatenates_S256x1024_S256x1024_S256x1024_S256x1024_S256x4096_d1) bitsLt_bf16_f32 := by
  unfold V; after_reads_simp; sl_kernel_rfl
theorem v98 : V m c main_v98 = truncf (F := Ideal) .bf16 (concatenate S2048x512 0 [⟨S1024x512, concatenate S1024x512 1 [⟨S1024x256, shapeCast S1024x256 (extractStridedSlice S1x1024x256 ![0, 0, 0] (bigC eyeM (packC (aCr m c))) slices_S2x1024x256_S1x1024x256_0_0_0) shapeCasts_S1x1024x256_S1024x256⟩,
      ⟨S1024x256, shapeCast S1024x256 (extractStridedSlice S1x1024x256 ![1, 0, 0] (bigC eyeM (packC (aCr m c))) slices_S2x1024x256_S1x1024x256_1_0_0) shapeCasts_S1x1024x256_S1024x256⟩] concatenates_S1024x256_S1024x256_S1024x512_d1⟩,
    ⟨S1024x512, concatenate S1024x512 1 [⟨S1024x256, Host.negf (F := Ideal) (φ := .f32) (shapeCast S1024x256 (extractStridedSlice S1x1024x256 ![0, 0, 0] (bigC eyeM (packC (aCi m c))) slices_S2x1024x256_S1x1024x256_0_0_0) shapeCasts_S1x1024x256_S1024x256)⟩,
      ⟨S1024x256, Host.negf (F := Ideal) (φ := .f32) (shapeCast S1024x256 (extractStridedSlice S1x1024x256 ![1, 0, 0] (bigC eyeM (packC (aCi m c))) slices_S2x1024x256_S1x1024x256_1_0_0) shapeCasts_S1x1024x256_S1024x256)⟩] concatenates_S1024x256_S1024x256_S1024x512_d1⟩] concatenates_S1024x512_S1024x512_S2048x512_d0) bitsLt_bf16_f32 := by
  unfold V; after_reads_simp; sl_kernel_rfl

end Cert.SsmFwdMath
end
-- ==== Proof.SsmFwdMath.Kernel.lean ====
/- The recurrence's kernel chunk by chunk: its blocks read at an index, and the state it carries. -/
module

public import proofs.«01_k».proof.Proof.SsmFwdMath.Packed

@[expose] public section

set_option maxRecDepth 16384

noncomputable section

open Idealize.ShloMosaic Idealize.ShloMosaic.TcCoe Idealize.SL.Sem
open scoped BigOperators

namespace Cert.SsmFwdMath

open Cert.SsmFwdIdeal Cert.SsmFwdIdeal.Gen
open Cert.Shared Cert.SsmMath
open Cert.SsmFwdRun (V iblk outsAt outsAt_A outsAt_B)

section generic
variable (e : Fin 2) (g h g' : Fin 16) (p : Fin 64) (k : Fin 256) (q : Fin 1024)

/-- The input weights' four parts side by side, and the output weights' four parts. -/
abbrev catB (P Q : FVec Ideal S2x256x1024 .f32) : FVec Ideal S256x4096 .bf16 :=
  truncf (F := Ideal) .bf16 (concatenate S256x4096 1 [⟨S256x1024, shapeCast S256x1024 (extractStridedSlice S1x256x1024 ![0, 0, 0] P slices_S2x256x1024_S1x256x1024_0_0_0) shapeCasts_S1x256x1024_S256x1024⟩,
    ⟨S256x1024, shapeCast S256x1024 (extractStridedSlice S1x256x1024 ![0, 0, 0] Q slices_S2x256x1024_S1x256x1024_0_0_0) shapeCasts_S1x256x1024_S256x1024⟩,
    ⟨S256x1024, shapeCast S256x1024 (extractStridedSlice S1x256x1024 ![1, 0, 0] P slices_S2x256x1024_S1x256x1024_1_0_0) shapeCasts_S1x256x1024_S256x1024⟩,
    ⟨S256x1024, shapeCast S256x1024 (extractStridedSlice S1x256x1024 ![1, 0, 0] Q slices_S2x256x1024_S1x256x1024_1_0_0) shapeCasts_S1x256x1024_S256x1024⟩] concatenates_S256x1024_S256x1024_S256x1024_S256x1024_S256x4096_d1) bitsLt_bf16_f32
theorem catB_0 (P Q : FVec Ideal S2x256x1024 .f32) : catB P Q (ix2 k ⟨q.val, by omega⟩) = P (ix3 0 k q) := by
  pointwise
theorem catB_1 (P Q : FVec Ideal S2x256x1024 .f32) : catB P Q (ix2 k ⟨1024 + q.val, by omega⟩) = Q (ix3 0 k q) := by
  pointwise
theorem catB_2 (P Q : FVec Ideal S2x256x1024 .f32) : catB P Q (ix2 k ⟨2048 + q.val, by omega⟩) = P (ix3 1 k q) := by
  pointwise
  rw [dif_neg (by omega), dif_neg (by omega), dif_pos (by omega)]; exact congrArg P (by blk_ext)
theorem catB_3 (P Q : FVec Ideal S2x256x1024 .f32) : catB P Q (ix2 k ⟨3072 + q.val, by omega⟩) = Q (ix3 1 k q) := by
  pointwise
  rw [dif_neg (by omega), dif_neg (by omega), dif_neg (by omega)]; exact congrArg Q (by blk_ext)
abbrev catC (P Q : FVec Ideal S2x1024x256 .f32) : FVec Ideal S2048x512 .bf16 :=
  truncf (F := Ideal) .bf16 (concatenate S2048x512 0 [⟨S1024x512, concatenate S1024x512 1 [⟨S1024x256, shapeCast S1024x256 (extractStridedSlice S1x1024x256 ![0, 0, 0] P slices_S2x1024x256_S1x1024x256_0_0_0) shapeCasts_S1x1024x256_S1024x256⟩,
      ⟨S1024x256, shapeCast S1024x256 (extractStridedSlice S1x1024x256 ![1, 0, 0] P slices_S2x1024x256_S1x1024x256_1_0_0) shapeCasts_S1x1024x256_S1024x256⟩] concatenates_S1024x256_S1024x256_S1024x512_d1⟩,
    ⟨S1024x512, concatenate S1024x512 1 [⟨S1024x256, Host.negf (F := Ideal) (φ := .f32) (shapeCast S1024x256 (extractStridedSlice S1x1024x256 ![0, 0, 0] Q slices_S2x1024x256_S1x1024x256_0_0_0) shapeCasts_S1x1024x256_S1024x256)⟩,
      ⟨S1024x256, Host.negf (F := Ideal) (φ := .f32) (shapeCast S1024x256 (extractStridedSlice S1x1024x256 ![1, 0, 0] Q slices_S2x1024x256_S1x1024x256_1_0_0) shapeCasts_S1x1024x256_S1024x256)⟩] concatenates_S1024x256_S1024x256_S1024x512_d1⟩] concatenates_S1024x512_S1024x512_S2048x512_d0) bitsLt_bf16_f32
theorem catC_0 (P Q : FVec Ideal S2x1024x256 .f32) : catC P Q (ix2 ⟨q.val, by omega⟩ ⟨k.val, by omega⟩) = P (ix3 0 q k) := by
  pointwise
theorem catC_1 (P Q : FVec Ideal S2x1024x256 .f32) : catC P Q (ix2 ⟨q.val, by omega⟩ ⟨256 + k.val, by omega⟩) = P (ix3 1 q k) := by
  pointwise
theorem catC_2 (P Q : FVec Ideal S2x1024x256 .f32) : catC P Q (ix2 ⟨1024 + q.val, by omega⟩ ⟨k.val, by omega⟩) = -Q (ix3 0 q k) := by
  pointwise
theorem catC_3 (P Q : FVec Ideal S2x1024x256 .f32) : catC P Q (ix2 ⟨1024 + q.val, by omega⟩ ⟨256 + k.val, by omega⟩) = -Q (ix3 1 q k) := by
  pointwise

/-- One entry of a block-diagonal matrix. -/
theorem matB (X : FVec Ideal S32x64x16 .f32) : bigB eyeM (packB X) (ix3 e (ch g h) (stt g' p)) = X (ix3 (grp e g) p h) * dl g g' := by
  rw [bigB_at, packB_at, eye_at]
theorem matC (X : FVec Ideal S32x16x64 .f32) : bigC eyeM (packC X) (ix3 e (stt g p) (ch g' h)) = X (ix3 (grp e g) h p) * dl g g' := by
  rw [bigC_at, packC_at, eye_at]
end generic

variable (m : (ℓ : Loc nD τ sig) → Buf (Elt Ideal) ℓ) (c : Dev nD)

/-- Every window's block at a chunk. -/
theorem idx : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] ∧ win0_6.index t = ![t.val, 0, 0, 0] ∧ win0_7.index t = ![t.val, 0] ∧ win0_8.index t = ![t.val, 0] :=
  (by decide +kernel : ∀ t : Fin grid0.N, _)

theorem lt16 (t : Fin cfg0.N) : t.val < 16 := lt_of_lt_of_eq t.2 N_0

/-- A chunk's blocks. -/
abbrev b0 (n : Fin cfg0.N) : FVec Ideal S1024x256 .bf16 := iblk (V m) c 0 n
abbrev b1 (n : Fin cfg0.N) : FVec Ideal S256x4096 .bf16 := iblk (V m) c 1 n
abbrev b2 (n : Fin cfg0.N) : FVec Ideal S2048x512 .bf16 := iblk (V m) c 2 n
abbrev b3 (n : Fin cfg0.N) : FVec Ideal S2x8x1024 .f32 := iblk (V m) c 3 n
abbrev b4 (n : Fin cfg0.N) : FVec Ideal S8x256 .f32 := iblk (V m) c 4 n

section blocks
variable (n : Fin cfg0.N) (b : Fin 4) (e : Fin 2) (g h g' : Fin 16) (p : Fin 64) (k : Fin 256) (q : Fin 1024)

theorem rd0 (t : Fin 128) : b0 m c n (ix2 (rw8 t (rw2 b e)) k) = aU m c (ix3 b ⟨128 * n.val + t.val, by have := lt16 n; omega⟩ ⟨e.val * 256 + k.val, by omega⟩) := by
  have ln := lt16 n
  have E : (win0_0.blk n).view.emb (ix2 (rw8 t (rw2 b e)) k) = ix2 (⟨(128 * n.val + t.val) * 8 + b.val * 2 + e.val, by omega⟩ : Fin 16384) k := by blk_ext [idx n, rw8, rw2]
  rw [show b0 m c n _ = V m c main_v105 ((win0_0.blk n).view.emb (ix2 (rw8 t (rw2 b e)) k)) from rfl, E]
  exact hU m c ⟨128 * n.val + t.val, by omega⟩ b e k
theorem rd1 (j : Fin 4096) : b1 m c n (ix2 k j) = catB (bigB eyeM (packB (aBr m c))) (bigB eyeM (packB (aBi m c))) (ix2 k j) := by
  have E : (win0_1.blk n).view.emb (ix2 k j) = ix2 k j := by blk_ext [idx n]
  rw [show b1 m c n _ = V m c main_v54 ((win0_1.blk n).view.emb (ix2 k j)) from rfl, E]
  exact congrFun (v54 m c) _
theorem rd2 (i : Fin 2048) (j : Fin 512) : b2 m c n (ix2 i j) = catC (bigC eyeM (packC (aCr m c))) (bigC eyeM (packC (aCi m c))) (ix2 i j) := by
  have E : (win0_2.blk n).view.emb (ix2 i j) = ix2 i j := by blk_ext [idx n]
  rw [show b2 m c n _ = V m c main_v98 ((win0_2.blk n).view.emb (ix2 i j)) from rfl, E]
  exact congrFun (v98 m c) _
theorem rd3r : b3 m c n (ix3 0 (rw2 b e) (stt g p)) = aLr m c (ix2 (grp e g) p) := by
  have E : (win0_3.blk n).view.emb (ix3 (0 : Fin 2) (rw2 b e) (stt g p)) = ix3 0 (rw2 b e) (stt g p) := by blk_ext [idx n]
  rw [show b3 m c n _ = V m c main_v10 ((win0_3.blk n).view.emb (ix3 0 (rw2 b e) (stt g p))) from rfl, E]
  exact hLr m c b e g p
theorem rd3i : b3 m c n (ix3 1 (rw2 b e) (stt g p)) = aLi m c (ix2 (grp e g) p) := by
  have E : (win0_3.blk n).view.emb (ix3 (1 : Fin 2) (rw2 b e) (stt g p)) = ix3 1 (rw2 b e) (stt g p) := by blk_ext [idx n]
  rw [show b3 m c n _ = V m c main_v10 ((win0_3.blk n).view.emb (ix3 1 (rw2 b e) (stt g p))) from rfl, E]
  exact hLi m c b e g p
theorem rd4 : b4 m c n (ix2 (rw2 b e) k) = aD m c (ix1 ⟨e.val * 256 + k.val, by omega⟩) := by
  have E : (win0_4.blk n).view.emb (ix2 (rw2 b e) k) = ix2 (rw2 b e) k := by blk_ext [idx n]
  rw [show b4 m c n _ = V m c main_v102 ((win0_4.blk n).view.emb (ix2 (rw2 b e) k)) from rfl, E]
  exact hD m c b e k
end blocks

/-- The recurrence of the kernel's arguments. -/
abbrev kin (b : Fin 4) (G : Fin 32) (p : Fin 64) : ℕ → EReal × EReal := gin (aU m c) (aBr m c) (aBi m c) b G p
abbrev kst (b : Fin 4) (G : Fin 32) (p : Fin 64) (k : ℕ) : EReal × EReal := gst (aU m c) (aLr m c) (aLi m c) (aBr m c) (aBi m c) b G p k

theorem par (b : Fin 4) (e : Fin 2) {α : Type} (x y : α) : (if (rw2 b e).val % 2 = 0 then x else y) = if e.val = 0 then x else y := by
  have : (rw2 b e).val % 2 = e.val := by show (b.val * 2 + e.val) % 2 = e.val; omega
  rw [this]

/-- A chunk's input to the recurrence is that of the chunk's tokens: one part, then both. -/
theorem inp_block (e : Fin 2) (g : Fin 16) (p : Fin 64) (X : FVec Ideal S32x64x16 .f32) (f B : Fin 256 → EReal) (w : Fin 16 → EReal)
    (hf : ∀ h, f (ch g h) = w h) (hB : ∀ k, B k = bigB eyeM (packB X) (ix3 e k (stt g p))) : ∑ k, f k * B k = ∑ h, w h * X (ix3 (grp e g) p h) := by
  refine (sum_block (n := 16) rfl f B ch (fun _ _ => rfl) g (fun g' h => X (ix3 (grp e g') p h)) fun g' h => (hB _).trans (matB e g' h g p X)).trans ?_
  exact Finset.sum_congr rfl fun h _ => congrArg (· * X (ix3 (grp e g) p h)) (hf h)
theorem inp_row (n : Fin cfg0.N) (b : Fin 4) (e : Fin 2) (g : Fin 16) (t : Fin 128) (h : Fin 16) : b0 m c n (ix2 (rw8 t (rw2 b e)) (ch g h))
    = aU m c (ix3 b ⟨128 * n.val + t.val, by have := lt16 n; omega⟩ (uch (grp e g) h)) :=
  (rd0 m c n b e (ch g h) t).trans (congrArg (fun q => aU m c (ix3 b _ q)) (Fin.ext (by show e.val * 256 + (g.val * 16 + h.val) = (e.val * 16 + g.val) * 16 + h.val; omega)))
theorem inp_part (n : Fin cfg0.N) (b : Fin 4) (e : Fin 2) (g : Fin 16) (p : Fin 64) (t : Fin 128) (X : FVec Ideal S32x64x16 .f32) (j : Fin 4096)
    (hj : ∀ k, b1 m c n (ix2 k j) = bigB eyeM (packB X) (ix3 e k (stt g p))) :
    ∑ k : Fin 256, b0 m c n (ix2 (rw8 t (rw2 b e)) k) * b1 m c n (ix2 k j)
      = ∑ h : Fin 16, aU m c (ix3 b ⟨128 * n.val + t.val, by have := lt16 n; omega⟩ (uch (grp e g) h)) * X (ix3 (grp e g) p h) :=
  inp_block e g p X (fun k => b0 m c n (ix2 (rw8 t (rw2 b e)) k)) (fun k => b1 m c n (ix2 k j)) (fun h => aU m c (ix3 b ⟨128 * n.val + t.val, by have := lt16 n; omega⟩ (uch (grp e g) h))) (inp_row m c n b e g t) hj
theorem inp_eq (n : Fin cfg0.N) (b : Fin 4) (e : Fin 2) (g : Fin 16) (p : Fin 64) (t : ℕ) (ht : t < 128) :
    inpC (b0 m c n) (b1 m c n) (rw2 b e) (stt g p) t = kin m c b (grp e g) p (128 * n.val + t) := by
  have ln := lt16 n
  rw [inpC, dif_pos ht, kin, gin, dif_pos (by omega : 128 * n.val + t < 2048), par, par]
  rcases (show e = 0 ∨ e = 1 by omega) with rfl | rfl
  · exact congrArg₂ Prod.mk (inp_part m c n b 0 g p ⟨t, ht⟩ (aBr m c) _ fun k => (rd1 m c n k _).trans (catB_0 k (stt g p) _ _)) (inp_part m c n b 0 g p ⟨t, ht⟩ (aBi m c) _ fun k => (rd1 m c n k _).trans (catB_1 k (stt g p) _ _))
  · exact congrArg₂ Prod.mk (inp_part m c n b 1 g p ⟨t, ht⟩ (aBr m c) _ fun k => (rd1 m c n k _).trans (catB_2 k (stt g p) _ _)) (inp_part m c n b 1 g p ⟨t, ht⟩ (aBi m c) _ fun k => (rd1 m c n k _).trans (catB_3 k (stt g p) _ _))

/-- The state inside a chunk that starts from the recurrence's state. -/
theorem st_eq (n : Fin cfg0.N) (s : Vec Ideal S2x8x1024 .f32) (b : Fin 4) (e : Fin 2) (g : Fin 16) (p : Fin 64)
    (hr : s (ix3 0 (rw2 b e) (stt g p)) = (kst m c b (grp e g) p (128 * n.val)).1) (hi : s (ix3 1 (rw2 b e) (stt g p)) = (kst m c b (grp e g) p (128 * n.val)).2) (k : ℕ) (hk : k ≤ 128) :
    stC (b0 m c n) (b1 m c n) (b3 m c n) s (rw2 b e) (stt g p) k = kst m c b (grp e g) p (128 * n.val + k) := by
  refine Eq.trans ?_ (scn_add _ _ _ (128 * n.val) k)
  rw [stC, rd3r, rd3i, hr, hi]
  exact scn_congr _ _ _ _ k fun t ht => inp_eq m c n b e g p t (by omega)

/-- Every chunk starts from the recurrence's state and leaves what such a chunk leaves. -/
theorem chunk : ∀ (n : ℕ) (hn : n < cfg0.N), ∃ s : Vec Ideal S2x8x1024 .f32,
    ChunkOut (b0 m c ⟨n, hn⟩) (b1 m c ⟨n, hn⟩) (b2 m c ⟨n, hn⟩) (b3 m c ⟨n, hn⟩) (b4 m c ⟨n, hn⟩) s (outsAt (V m) c n hn)
      ∧ ∀ b e g p, s (ix3 0 (rw2 b e) (stt g p)) = (kst m c b (grp e g) p (128 * n)).1 ∧ s (ix3 1 (rw2 b e) (stt g p)) = (kst m c b (grp e g) p (128 * n)).2
  | 0, hn => ⟨fun _ => (0 : EReal), (outsAt_A (V m) c ⟨0, hn⟩ (Nat.zero_mod _)) ▸ atA c (V m) ⟨0, hn⟩ (Nat.zero_mod _), fun _ _ _ _ => ⟨rfl, rfl⟩⟩
  | n + 1, hn => by
    have hn' : n < cfg0.N := Nat.lt_of_succ_lt hn
    obtain ⟨s, C, hs⟩ := chunk n hn'
    have l16 : n + 1 < 16 := lt16 ⟨n + 1, hn⟩
    have h0 : ¬(n + 1) % 16 = 0 := by omega
    refine ⟨(outsAt (V m) c n hn').2.2.2.2, ?_, fun b e g p => ?_⟩
    · have := atB c (V m) ⟨n + 1, hn⟩ h0 (outsAt (V m) c n hn').2.2.2.2
      rw [show outsAt (V m) c (n + 1) hn = _ from outsAt_B (V m) c ⟨n + 1, hn⟩ h0]
      exact this
    · have E := st_eq m c ⟨n, hn'⟩ s b e g p (hs b e g p).1 (hs b e g p).2 128 (Nat.le_refl _)
      exact ⟨(C.re' _ _).trans (congrArg Prod.fst E), (C.im' _ _).trans (congrArg Prod.snd E)⟩

end Cert.SsmFwdMath
end
-- ==== Proof.SsmMath.Outs.lean ====
/- The recurrence's four results, in the layout of a token's eight rows. -/
module

public import proofs.«01_k».proof.Proof.SsmMath.Spec

@[expose] public section

noncomputable section

open Idealize.ShloMosaic Idealize.ShloMosaic.TcCoe
open scoped BigOperators

namespace Cert.SsmMath
open Cert.Shared

section
variable {u : FVec Ideal ⟨3, ![4, 2048, 512]⟩ .f32} {lr li : FVec Ideal ⟨2, ![32, 64]⟩ .f32} {br bi : FVec Ideal ⟨3, ![32, 64, 16]⟩ .f32}
  {cr ci : FVec Ideal ⟨3, ![32, 16, 64]⟩ .f32} {d : FVec Ideal ⟨1, ![512]⟩ .f32}
theorem gst_congr {b b' : Fin 4} {G G' : Fin 32} {p p' : Fin 64} {k k' : ℕ} (hb : b = b') (hG : G = G') (hp : p = p') (hk : k = k') : gst u lr li br bi b G p k = gst u lr li br bi b' G' p' k' := by
  subst hb hG hp hk; rfl
theorem gy_congr {b b' : Fin 4} {G G' : Fin 32} {t t' : Fin 2048} {h h' : Fin 16} (hb : b = b') (hG : G = G') (ht : t = t') (hh : h = h') : gy u lr li br bi cr ci d b G t h = gy u lr li br bi cr ci d b' G' t' h' := by
  subst hb hG ht hh; rfl
end

/-- A complex number's real or imaginary part. -/
abbrev pick (z : Fin 2) (x : EReal × EReal) : EReal := if z.val = 0 then x.1 else x.2

section
variable (u : FVec Ideal ⟨3, ![4, 2048, 512]⟩ .f32) (lr li : FVec Ideal ⟨2, ![32, 64]⟩ .f32) (br bi : FVec Ideal ⟨3, ![32, 64, 16]⟩ .f32)
  (cr ci : FVec Ideal ⟨3, ![32, 16, 64]⟩ .f32) (d : FVec Ideal ⟨1, ![512]⟩ .f32)

/-- The state's parts at a row and a lane, after `k` tokens. -/
abbrev rowst (r : ℕ) (q : Fin 1024) (k : ℕ) : EReal × EReal :=
  gst u lr li br bi ⟨r % 8 / 2, by omega⟩ ⟨r % 2 * 16 + q.val / 64, by omega⟩ ⟨q.val % 64, by omega⟩ k

/-- The output. -/
def resY : FVec Ideal ⟨2, ![16384, 256]⟩ .bf16 := fun i =>
  (fun (r : Fin 16384) (k : Fin 256) => gy u lr li br bi cr ci d ⟨r.val % 8 / 2, by omega⟩ ⟨r.val % 2 * 16 + k.val / 16, by omega⟩ ⟨r.val / 8, by omega⟩ ⟨k.val % 16, by omega⟩) (i 0) (i 1)
/-- The states before every chunk of 128 tokens. -/
def resC : FVec Ideal ⟨4, ![16, 2, 8, 1024]⟩ .f32 := fun i =>
  (fun (n : Fin 16) (z : Fin 2) (r : Fin 8) (q : Fin 1024) => pick z (gst u lr li br bi ⟨r.val / 2, by omega⟩ ⟨r.val % 2 * 16 + q.val / 64, by omega⟩ ⟨q.val % 64, by omega⟩ (128 * n.val))) (i 0) (i 1) (i 2) (i 3)
/-- The states after every token. -/
def resRe : FVec Ideal ⟨2, ![16384, 1024]⟩ .bf16 := fun i =>
  (fun (r : Fin 16384) (q : Fin 1024) => (rowst u lr li br bi r.val q (r.val / 8 + 1)).1) (i 0) (i 1)
def resIm : FVec Ideal ⟨2, ![16384, 1024]⟩ .bf16 := fun i =>
  (fun (r : Fin 16384) (q : Fin 1024) => (rowst u lr li br bi r.val q (r.val / 8 + 1)).2) (i 0) (i 1)
end

end Cert.SsmMath
end
-- ==== Proof.SsmFwdMath.Final.lean ====
/- The kernel's four result arrays after the run, in terms of the recurrence. -/
module

public import proofs.«01_k».proof.Proof.SsmFwdMath.Kernel
public import proofs.«01_k».proof.Proof.SsmMath.Outs
public import proofs.«01_k».proof.Proof.SsmFwdRun.Frame

@[expose] public section

set_option maxRecDepth 16384

noncomputable section

open Idealize.ShloMosaic Idealize.ShloMosaic.TcCoe Idealize.SL.Sem
open Idealize.ShloMosaic.Pipeline (Dat)
open scoped BigOperators

namespace Cert.SsmFwdMath

open Cert.SsmFwdIdeal Cert.SsmFwdIdeal.Gen
open Cert.Shared Cert.SsmMath
open Cert.SsmFwdRun (V iblk outsAt outsAt_A outsAt_B dats after0_5 after0_6 after0_7 after0_8)

/-- A row of a block names a token, an example and a half. -/
theorem row_split (r : Fin 1024) : r = rw8 ⟨r.val / 8, by omega⟩ (rw2 ⟨r.val % 8 / 2, by omega⟩ ⟨r.val % 2, by omega⟩) :=
  Fin.ext (by show r.val = r.val / 8 * 8 + (r.val % 8 / 2 * 2 + r.val % 2); omega)
theorem half_split (r : Fin 8) : r = rw2 ⟨r.val / 2, by omega⟩ ⟨r.val % 2, by omega⟩ := Fin.ext (by show r.val = r.val / 2 * 2 + r.val % 2; omega)
theorem lane_split (q : Fin 1024) : q = stt ⟨q.val / 64, by omega⟩ ⟨q.val % 64, by omega⟩ := Fin.ext (by show q.val = q.val / 64 * 64 + q.val % 64; omega)
theorem chan_split (k : Fin 256) : k = ch ⟨k.val / 16, by omega⟩ ⟨k.val % 16, by omega⟩ := Fin.ext (by show k.val = k.val / 16 * 16 + k.val % 16; omega)

variable (m : (ℓ : Loc nD τ sig) → Buf (Elt Ideal) ℓ) (c : Dev nD)

/-- A product of a token's states with one half of the output weights, real and imaginary parts. -/
theorem out_re (e : Fin 2) (g h : Fin 16) (X : FVec Ideal S32x16x64 .f32) (f B : Fin 1024 → EReal) (w : Fin 64 → EReal)
    (hf : ∀ p, f (stt g p) = w p) (hB : ∀ k, B k = bigC eyeM (packC X) (ix3 e k (ch g h))) : ∑ k, f k * B k = ∑ p, w p * X (ix3 (grp e g) h p) := by
  refine (sum_block (n := 64) rfl f B stt (fun _ _ => rfl) g (fun g' p => X (ix3 (grp e g') h p)) fun g' p => (hB _).trans (matC e g' h g p X)).trans ?_
  exact Finset.sum_congr rfl fun p _ => congrArg (· * X (ix3 (grp e g) h p)) (hf p)
theorem out_im (e : Fin 2) (g h : Fin 16) (X : FVec Ideal S32x16x64 .f32) (f B : Fin 1024 → EReal) (w : Fin 64 → EReal)
    (hf : ∀ p, f (stt g p) = w p) (hB : ∀ k, B k = -bigC eyeM (packC X) (ix3 e k (ch g h))) (hw : ∀ p, Real' (w p)) (hX : ∀ i, Real' (X i)) :
    ∑ k, f k * B k = -∑ p, w p * X (ix3 (grp e g) h p) := by
  refine (sum_block_neg (n := 64) rfl f B stt (fun _ _ => rfl) g (fun g' p => X (ix3 (grp e g') h p)) fun g' p => (hB _).trans (congrArg (fun x : EReal => -x) (matC e g' h g p X))).trans ?_
  exact (Finset.sum_congr rfl fun p _ => congrArg (· * -X (ix3 (grp e g) h p)) (hf p)).trans (sum_neg w _ hw fun p => hX _)

/-- The direct term. -/
theorem dir_eq (n : Fin cfg0.N) (t : Fin 128) (b : Fin 4) (e : Fin 2) (g h : Fin 16) : b0 m c n (ix2 (rw8 t (rw2 b e)) (ch g h)) * b4 m c n (ix2 (rw2 b e) (ch g h))
    = aD m c (ix1 (uch (grp e g) h)) * aU m c (ix3 b ⟨128 * n.val + t.val, by have := lt16 n; omega⟩ (uch (grp e g) h)) := by
  have E : (⟨e.val * 256 + (ch g h).val, by have := (ch g h).isLt; omega⟩ : Fin 512) = uch (grp e g) h := Fin.ext (by show e.val * 256 + (g.val * 16 + h.val) = (e.val * 16 + g.val) * 16 + h.val; omega)
  refine (congrArg₂ (· * ·) (inp_row m c n b e g t h) ((rd4 m c n b e (ch g h)).trans (congrArg (fun q => aD m c (ix1 q)) E))).trans (mul_comm _ _)

section y
variable (hu : ∀ i, Real' (aU m c i)) (hlr : ∀ i, Real' (aLr m c i)) (hli : ∀ i, Real' (aLi m c i)) (hbr : ∀ i, Real' (aBr m c i)) (hbi : ∀ i, Real' (aBi m c i)) (hci : ∀ i, Real' (aCi m c i))
include hu hlr hli hbr hbi hci

/-- A chunk's output at a token. -/
theorem y_eq (n : Fin cfg0.N) (t : Fin 128) (b : Fin 4) (e : Fin 2) (g h : Fin 16) :
    (outsAt (V m) c n.val n.isLt).1 (ix2 (rw8 t (rw2 b e)) (ch g h))
      = gy (aU m c) (aLr m c) (aLi m c) (aBr m c) (aBi m c) (aCr m c) (aCi m c) (aD m c) b (grp e g) ⟨128 * n.val + t.val, by have := lt16 n; omega⟩ h := by
  have ln := lt16 n
  obtain ⟨s, C, hs⟩ := chunk m c n.val n.isLt
  have st : ∀ p, stC (b0 m c n) (b1 m c n) (b3 m c n) s (rw2 b e) (stt g p) (t.val + 1) = kst m c b (grp e g) p (128 * n.val + t.val + 1) :=
    fun p => st_eq m c n s b e g p (hs b e g p).1 (hs b e g p).2 (t.val + 1) (by omega)
  have re : ∀ B : Fin 1024 → EReal, (∀ k, B k = bigC eyeM (packC (aCr m c)) (ix3 e k (ch g h))) →
      ∑ k : Fin 1024, (stC (b0 m c n) (b1 m c n) (b3 m c n) s (rw2 b e) k (t.val + 1)).1 * B k = ∑ p : Fin 64, (kst m c b (grp e g) p (128 * n.val + t.val + 1)).1 * aCr m c (ix3 (grp e g) h p) :=
    fun B hB => out_re e g h (aCr m c) (fun k => (stC (b0 m c n) (b1 m c n) (b3 m c n) s (rw2 b e) k (t.val + 1)).1) B (fun p => (kst m c b (grp e g) p (128 * n.val + t.val + 1)).1) (fun p => congrArg Prod.fst (st p)) hB
  have im : ∀ B : Fin 1024 → EReal, (∀ k, B k = -bigC eyeM (packC (aCi m c)) (ix3 e k (ch g h))) →
      ∑ k : Fin 1024, (stC (b0 m c n) (b1 m c n) (b3 m c n) s (rw2 b e) k (t.val + 1)).2 * B k = -∑ p : Fin 64, (kst m c b (grp e g) p (128 * n.val + t.val + 1)).2 * aCi m c (ix3 (grp e g) h p) :=
    fun B hB => out_im e g h (aCi m c) (fun k => (stC (b0 m c n) (b1 m c n) (b3 m c n) s (rw2 b e) k (t.val + 1)).2) B (fun p => (kst m c b (grp e g) p (128 * n.val + t.val + 1)).2) (fun p => congrArg Prod.snd (st p)) hB
      (fun p => (scn_real _ _ ⟨hlr _, hli _⟩ (gin_real _ _ _ hu hbr hbi b _ p) _).2) hci
  refine (C.y t (rw2 b e) (ch g h)).trans ?_
  rw [par]
  refine congrArg₂ (· + ·) ?_ (dir_eq m c n t b e g h)
  refine Eq.trans ?_ (sub_eq_add_neg _ _).symm
  rcases (show e = 0 ∨ e = 1 by omega) with rfl | rfl
  · exact congrArg₂ (· + ·) (re (fun k => b2 m c n (ix2 ⟨k.val, by omega⟩ ⟨(ch g h).val, by have := (ch g h).isLt; omega⟩)) fun k => (rd2 m c n _ _).trans (catC_0 (ch g h) k _ _))
      (im (fun k => b2 m c n (ix2 ⟨1024 + k.val, by omega⟩ ⟨(ch g h).val, by have := (ch g h).isLt; omega⟩)) fun k => (rd2 m c n _ _).trans (catC_2 (ch g h) k _ _))
  · exact congrArg₂ (· + ·) (re (fun k => b2 m c n (ix2 ⟨k.val, by omega⟩ ⟨256 + (ch g h).val, by have := (ch g h).isLt; omega⟩)) fun k => (rd2 m c n _ _).trans (catC_1 (ch g h) k _ _))
      (im (fun k => b2 m c n (ix2 ⟨1024 + k.val, by omega⟩ ⟨256 + (ch g h).val, by have := (ch g h).isLt; omega⟩)) fun k => (rd2 m c n _ _).trans (catC_3 (ch g h) k _ _))

/-- The same at any entry of the block. -/
theorem y_at (n : Fin cfg0.N) (r : Fin 1024) (k : Fin 256) : (outsAt (V m) c n.val n.isLt).1 (ix2 r k)
    = gy (aU m c) (aLr m c) (aLi m c) (aBr m c) (aBi m c) (aCr m c) (aCi m c) (aD m c)
        ⟨r.val % 8 / 2, by omega⟩ ⟨r.val % 2 * 16 + k.val / 16, by omega⟩ ⟨128 * n.val + r.val / 8, by have := lt16 n; omega⟩ ⟨k.val % 16, by omega⟩ :=
  (congrArg₂ (fun r k => (outsAt (V m) c n.val n.isLt).1 (ix2 r k)) (row_split r) (chan_split k)).trans (y_eq m c hu hlr hli hbr hbi hci n _ _ _ _ _)

/-- The output. -/
theorem final_5 : (dats m 0 c).arrAt 5 (cfgs 0).N = resY (aU m c) (aLr m c) (aLi m c) (aBr m c) (aBi m c) (aCr m c) (aCi m c) (aD m c) := by
  refine (dats m 0 c).arrAt_eq_of_covers 5 _ (by decide +kernel) fun t hf y => ?_
  blk_simp; rw [after0_5]
  have ln := lt16 t
  have E : (win0_5.blk t).view.emb y = ix2 (⟨t.val * 1024 + (y 0).val, by have h : (y 0).val < 1024 := (y 0).isLt; omega⟩ : Fin 16384) (y 1) := by blk_ext [idx t]
  rw [E]
  have hy : y = ix2 (y 0) (y 1) := by blk_ext
  refine (congrArg (outsAt (V m) c t.val t.isLt).1 hy).trans ((y_at m c hu hlr hli hbr hbi hci t (y 0) (y 1)).trans ?_)
  have h : (y 0).val < 1024 := (y 0).isLt
  exact gy_congr (Fin.ext (by show (y 0).val % 8 / 2 = (t.val * 1024 + (y 0).val) % 8 / 2; omega)) (Fin.ext (by show (y 0).val % 2 * 16 + (y 1).val / 16 = (t.val * 1024 + (y 0).val) % 2 * 16 + (y 1).val / 16; omega))
    (Fin.ext (by show 128 * t.val + (y 0).val / 8 = (t.val * 1024 + (y 0).val) / 8; omega)) rfl
end y

/-- The carried state a chunk starts from, at any entry. -/
theorem xc_at (n : Fin cfg0.N) (z : Fin 2) (r : Fin 8) (q : Fin 1024) : (outsAt (V m) c n.val n.isLt).2.1 (ix4 0 z r q)
    = pick z (kst m c ⟨r.val / 2, by omega⟩ ⟨r.val % 2 * 16 + q.val / 64, by omega⟩ ⟨q.val % 64, by omega⟩ (128 * n.val)) := by
  obtain ⟨s, C, hs⟩ := chunk m c n.val n.isLt
  refine (C.xc z r q).trans ((congrArg₂ (fun r q => s (ix3 z r q)) (half_split r) (lane_split q)).trans ?_)
  rcases (show z = 0 ∨ z = 1 by omega) with rfl | rfl
  · exact (hs _ _ _ _).1
  · exact (hs _ _ _ _).2
/-- The states after a chunk's tokens, at any entry. -/
theorem re_at (n : Fin cfg0.N) (r q : Fin 1024) : (outsAt (V m) c n.val n.isLt).2.2.1 (ix2 r q)
    = (kst m c ⟨r.val % 8 / 2, by omega⟩ ⟨r.val % 2 * 16 + q.val / 64, by omega⟩ ⟨q.val % 64, by omega⟩ (128 * n.val + (r.val / 8 + 1))).1 := by
  obtain ⟨s, C, hs⟩ := chunk m c n.val n.isLt
  refine (congrArg₂ (fun r q => (outsAt (V m) c n.val n.isLt).2.2.1 (ix2 r q)) (row_split r) (lane_split q)).trans ((C.re _ _ _).trans (congrArg Prod.fst ?_))
  exact st_eq m c n s _ _ _ _ (hs _ _ _ _).1 (hs _ _ _ _).2 _ (by show r.val / 8 + 1 ≤ 128; omega)
theorem im_at (n : Fin cfg0.N) (r q : Fin 1024) : (outsAt (V m) c n.val n.isLt).2.2.2.1 (ix2 r q)
    = (kst m c ⟨r.val % 8 / 2, by omega⟩ ⟨r.val % 2 * 16 + q.val / 64, by omega⟩ ⟨q.val % 64, by omega⟩ (128 * n.val + (r.val / 8 + 1))).2 := by
  obtain ⟨s, C, hs⟩ := chunk m c n.val n.isLt
  refine (congrArg₂ (fun r q => (outsAt (V m) c n.val n.isLt).2.2.2.1 (ix2 r q)) (row_split r) (lane_split q)).trans ((C.im _ _ _).trans (congrArg Prod.snd ?_))
  exact st_eq m c n s _ _ _ _ (hs _ _ _ _).1 (hs _ _ _ _).2 _ (by show r.val / 8 + 1 ≤ 128; omega)

/-- The states before every chunk. -/
theorem final_6 : (dats m 0 c).arrAt 6 (cfgs 0).N = resC (aU m c) (aLr m c) (aLi m c) (aBr m c) (aBi m c) := by
  refine (dats m 0 c).arrAt_eq_of_covers 6 _ (by decide +kernel) fun t hf y => ?_
  blk_simp; rw [after0_6]
  have ln := lt16 t
  have E : (win0_6.blk t).view.emb y = ix4 (⟨t.val, ln⟩ : Fin 16) (y 1) (y 2) (y 3) := by blk_ext [idx t]
  rw [E]
  have hy : y = ix4 0 (y 1) (y 2) (y 3) := by blk_ext
  exact (congrArg (outsAt (V m) c t.val t.isLt).2.1 hy).trans (xc_at m c t (y 1) (y 2) (y 3))
/-- The states after every token, real part. -/
theorem final_7 : (dats m 0 c).arrAt 7 (cfgs 0).N = resRe (aU m c) (aLr m c) (aLi m c) (aBr m c) (aBi m c) := by
  refine (dats m 0 c).arrAt_eq_of_covers 7 _ (by decide +kernel) fun t hf y => ?_
  blk_simp; rw [after0_7]
  have ln := lt16 t
  have E : (win0_7.blk t).view.emb y = ix2 (⟨t.val * 1024 + (y 0).val, by have h : (y 0).val < 1024 := (y 0).isLt; omega⟩ : Fin 16384) (y 1) := by blk_ext [idx t]
  rw [E]
  have hy : y = ix2 (y 0) (y 1) := by blk_ext
  refine (congrArg (outsAt (V m) c t.val t.isLt).2.2.1 hy).trans ((re_at m c t (y 0) (y 1)).trans (congrArg Prod.fst ?_))
  have h : (y 0).val < 1024 := (y 0).isLt
  exact gst_congr (Fin.ext (by show (y 0).val % 8 / 2 = (t.val * 1024 + (y 0).val) % 8 / 2; omega)) (Fin.ext (by show (y 0).val % 2 * 16 + (y 1).val / 64 = (t.val * 1024 + (y 0).val) % 2 * 16 + (y 1).val / 64; omega))
    rfl (by show 128 * t.val + ((y 0).val / 8 + 1) = (t.val * 1024 + (y 0).val) / 8 + 1; omega)
/-- The states after every token, imaginary part. -/
theorem final_8 : (dats m 0 c).arrAt 8 (cfgs 0).N = resIm (aU m c) (aLr m c) (aLi m c) (aBr m c) (aBi m c) := by
  refine (dats m 0 c).arrAt_eq_of_covers 8 _ (by decide +kernel) fun t hf y => ?_
  blk_simp; rw [after0_8]
  have ln := lt16 t
  have E : (win0_8.blk t).view.emb y = ix2 (⟨t.val * 1024 + (y 0).val, by have h : (y 0).val < 1024 := (y 0).isLt; omega⟩ : Fin 16384) (y 1) := by blk_ext [idx t]
  rw [E]
  have hy : y = ix2 (y 0) (y 1) := by blk_ext
  refine (congrArg (outsAt (V m) c t.val t.isLt).2.2.2.1 hy).trans ((im_at m c t (y 0) (y 1)).trans (congrArg Prod.snd ?_))
  have h : (y 0).val < 1024 := (y 0).isLt
  exact gst_congr (Fin.ext (by show (y 0).val % 8 / 2 = (t.val * 1024 + (y 0).val) % 8 / 2; omega)) (Fin.ext (by show (y 0).val % 2 * 16 + (y 1).val / 64 = (t.val * 1024 + (y 0).val) % 2 * 16 + (y 1).val / 64; omega))
    rfl (by show 128 * t.val + ((y 0).val / 8 + 1) = (t.val * 1024 + (y 0).val) / 8 + 1; omega)

end Cert.SsmFwdMath
end
-- ==== Proof.SsmFwdMath.RefLoop.lean ====
/- The recurrence's reference: what its loop over the tokens leaves, by the number of trips. -/
module

public import proofs.«01_k».proof.Proof.Gen.SsmFwdRefIdeal.Run
public import proofs.«01_k».proof.Proof.SsmMath.Loop
public import Idealize.ShloMosaic.Lib.Pipeline.ValueKit
public import Idealize.ShloMosaic.Lib.Claim
public import Idealize.ShloMosaic.Lib.DynamicIndex
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open scoped BigOperators

namespace Cert.SsmFwdMath.Ref

open Cert.SsmFwdRefIdeal Cert.SsmFwdRefIdeal.Gen Cert.SsmFwdRefIdeal.Value
open Cert.Shared Cert.SsmMath
open Idealize.ShloMosaic.StableHlo

section generic
variable (b : Fin 4) (g : Fin 32) (p : Fin 64)

/-- Where a slice of one token starts. -/
abbrev start (C : IVec S_ 32) : Fin 4 → ℤ := fun k => (((![C, constantI S_ 32 0#32, constantI S_ 32 0#32, constantI S_ 32 0#32] : Fin 4 → (⟨S_, .i32⟩ : BufTy).Contents (Elt Ideal))) k (Shape.Idx.first h_S_)).toInt

theorem start_at (C : IVec S_ 32) (k : ℕ) (hk : k < 2048) (hC : C = fun _ => BitVec.ofNat 32 k) : ∀ a, start C a = ((![k, 0, 0, 0] : Fin 4 → ℕ) a : ℤ) := by
  subst hC
  intro a
  match a with
  | ⟨0, _⟩ => exact toInt_ofNat_of_lt (by omega)
  | ⟨1, _⟩ => rfl
  | ⟨2, _⟩ => rfl
  | ⟨3, _⟩ => rfl

/-- One token's row of an array over the tokens. -/
theorem take_at (X : FVec Ideal S2048x4x32x64 .f32) (C : IVec S_ 32) (k : ℕ) (hk : k < 2048) (hC : C = fun _ => BitVec.ofNat 32 k) :
    shapeCast S4x32x64 (Host.dynamicSlice S1x4x32x64 X (start C) sliceFits_S2048x4x32x64_S1x4x32x64) shapeCasts_S1x4x32x64_S4x32x64 (ix3 b g p) = X (ix4 ⟨k, hk⟩ b g p) := by
  have s1 : ∀ Y : FVec Ideal S1x4x32x64 .f32, shapeCast S4x32x64 Y shapeCasts_S1x4x32x64_S4x32x64 (ix3 b g p) = Y (ix4 0 b g p) := by
    intro Y; pointwise
  have hs : S2048x4x32x64.Slices ![k, 0, 0, 0] S1x4x32x64 := ⟨rfl, fun a => by
    match a with
    | ⟨0, _⟩ => show k + 1 ≤ 2048; omega
    | ⟨1, _⟩ => exact Nat.le_refl _
    | ⟨2, _⟩ => exact Nat.le_refl _
    | ⟨3, _⟩ => exact Nat.le_refl _⟩
  rw [s1, Host.dynamicSlice_eq_extractStridedSlice S1x4x32x64 X (start C) ![k, 0, 0, 0] _ hs (start_at C k hk hC)]
  pointwise

/-- One token's row written into an array over the tokens. -/
theorem put_at (X : FVec Ideal S2048x4x32x64 .f32) (u : FVec Ideal S4x32x64 .f32) (C : IVec S_ 32) (k : ℕ) (hk : k < 2048) (hC : C = fun _ => BitVec.ofNat 32 k) (t : Fin 2048) :
    Host.dynamicUpdateSlice X (broadcastInDim S1x4x32x64 ![1, 2, 3] bcast_S4x32x64_S1x4x32x64_1_2_3 u) (start C) updateFits_S2048x4x32x64_S1x4x32x64 (ix4 t b g p)
      = if t.val = k then u (ix3 b g p) else X (ix4 t b g p) := by
  have cl : ∀ a, Host.clampedStart S2048x4x32x64 S1x4x32x64 updateFits_S2048x4x32x64_S1x4x32x64.1 (start C) a = (![k, 0, 0, 0] : Fin 4 → ℕ) a := fun a =>
    Host.clampedStart_of_le _ _ a _ (start_at C k hk hC a) (by
      match a with
      | ⟨0, _⟩ => show k + 1 ≤ 2048; omega
      | ⟨1, _⟩ => exact Nat.le_refl _
      | ⟨2, _⟩ => exact Nat.le_refl _
      | ⟨3, _⟩ => exact Nat.le_refl _)
  rw [Host.dynamicUpdateSlice_apply]
  by_cases h : t.val = k
  · rw [if_pos h, dif_pos fun a => by
      rw [cl a]
      match a with
      | ⟨0, _⟩ => show k ≤ t.val ∧ t.val < k + 1; omega
      | ⟨1, _⟩ => exact ⟨Nat.zero_le _, by show b.val < 0 + 4; omega⟩
      | ⟨2, _⟩ => exact ⟨Nat.zero_le _, by show g.val < 0 + 32; omega⟩
      | ⟨3, _⟩ => exact ⟨Nat.zero_le _, by show p.val < 0 + 64; omega⟩]
    have bc : broadcastInDim S1x4x32x64 ![1, 2, 3] bcast_S4x32x64_S1x4x32x64_1_2_3 u (ix4 0 b g p) = u (ix3 b g p) := by pointwise
    refine Eq.trans (congrArg (broadcastInDim S1x4x32x64 ![1, 2, 3] bcast_S4x32x64_S1x4x32x64_1_2_3 u) ?_) bc
    funext a
    apply Fin.ext
    rw [Shape.Idx.norm_def]
    show (ix4 t b g p a).val - Host.clampedStart S2048x4x32x64 S1x4x32x64 updateFits_S2048x4x32x64_S1x4x32x64.1 (start C) a = _
    rw [cl a]
    match a with
    | ⟨0, _⟩ => show t.val - k = 0; omega
    | ⟨1, _⟩ => exact Nat.sub_zero _
    | ⟨2, _⟩ => exact Nat.sub_zero _
    | ⟨3, _⟩ => exact Nat.sub_zero _
  · rw [if_neg h, dif_neg fun H => h (by
      have := H 0
      rw [cl 0] at this
      exact le_antisymm (Nat.le_of_lt_succ this.2) this.1)]
end generic

variable (m : (ℓ : Loc nD τ sig) → Buf (Elt Ideal) ℓ) (c : Dev nD)

/-- The buffers before the loop, and what the recurrence reads there. -/
abbrev E0 : Valuation τ sig (Elt Ideal) := entryContents preI m c
abbrev W (k : ℕ) : Valuation τ sig (Elt Ideal) := STEP^[k] (E0 m c)
abbrev eBr : FVec Ideal S2048x4x32x64 .f32 := E0 m c (Proc.devRef .tc main_v13_0)
abbrev eBi : FVec Ideal S2048x4x32x64 .f32 := E0 m c (Proc.devRef .tc main_v13_1)
abbrev eLr : FVec Ideal S4x32x64 .f32 := E0 m c (Proc.devRef .tc main_v13_2)
abbrev eLi : FVec Ideal S4x32x64 .f32 := E0 m c (Proc.devRef .tc main_v13_3)

theorem W_succ (k : ℕ) : W m c (k + 1) = STEP (W m c k) := Function.iterate_succ_apply' ..

/-- What the loop never writes. -/
theorem W0 : ∀ k, W m c k (Proc.devRef .tc main_v13_0) = eBr m c
  | 0 => rfl
  | k + 1 => by rw [W_succ, STEP_main_v13_0, W0 k]
theorem W1 : ∀ k, W m c k (Proc.devRef .tc main_v13_1) = eBi m c
  | 0 => rfl
  | k + 1 => by rw [W_succ, STEP_main_v13_1, W1 k]
theorem W2 : ∀ k, W m c k (Proc.devRef .tc main_v13_2) = eLr m c
  | 0 => rfl
  | k + 1 => by rw [W_succ, STEP_main_v13_2, W2 k]
theorem W3 : ∀ k, W m c k (Proc.devRef .tc main_v13_3) = eLi m c
  | 0 => rfl
  | k + 1 => by rw [W_succ, STEP_main_v13_3, W3 k]
theorem W4 (k : ℕ) : W m c k (Proc.devRef .tc main_v13_4) = fun _ => BitVec.ofNat 32 k := by
  refine (atK_agree m c k main_v13_4 (by decide)).symm.trans ((atK_ctr m c k).trans ?_)
  funext i
  simp [Scf.iv]

/-- One group's input at a token. -/
def bin (b : Fin 4) (g : Fin 32) (p : Fin 64) (t : ℕ) : EReal × EReal :=
  if h : t < 2048 then (eBr m c (ix4 ⟨t, h⟩ b g p), eBi m c (ix4 ⟨t, h⟩ b g p)) else (0, 0)

/-- The state after `k` tokens. -/
abbrev sta (b : Fin 4) (g : Fin 32) (p : Fin 64) (k : ℕ) : EReal × EReal :=
  scn (eLr m c (ix3 b g p), eLi m c (ix3 b g p)) (bin m c b g p) (0, 0) k

theorem new_re (k : ℕ) (hk : k < 2048) (b : Fin 4) (g : Fin 32) (p : Fin 64)
    (h5 : (W m c k (Proc.devRef .tc main_v13_5) : FVec Ideal S4x32x64 .f32) (ix3 b g p) = (sta m c b g p k).1)
    (h6 : (W m c k (Proc.devRef .tc main_v13_6) : FVec Ideal S4x32x64 .f32) (ix3 b g p) = (sta m c b g p k).2) :
    (res_main_while0b_v47 (W m c k) : FVec Ideal S4x32x64 .f32) (ix3 b g p) = (sta m c b g p (k + 1)).1 := by
  have gen : ∀ (L M S R T : FVec Ideal S4x32x64 .f32), addf (subf (mulf L S) (mulf M R)) T (ix3 b g p) = L (ix3 b g p) * S (ix3 b g p) - M (ix3 b g p) * R (ix3 b g p) + T (ix3 b g p) := by
    intro L M S R T; pointwise
  refine (gen _ _ _ _ _).trans ?_
  refine congrArg₂ (· + ·) (congrArg₂ (· - ·) (congrArg₂ (· * ·) (congrFun (W2 m c k) _) h5) (congrArg₂ (· * ·) (congrFun (W3 m c k) _) h6)) ?_
  refine (take_at b g p _ _ k hk (W4 m c k)).trans ?_
  show _ = (bin m c b g p k).1
  rw [bin, dif_pos hk]
  exact congrFun (W0 m c k) _
theorem new_im (k : ℕ) (hk : k < 2048) (b : Fin 4) (g : Fin 32) (p : Fin 64)
    (h5 : (W m c k (Proc.devRef .tc main_v13_5) : FVec Ideal S4x32x64 .f32) (ix3 b g p) = (sta m c b g p k).1)
    (h6 : (W m c k (Proc.devRef .tc main_v13_6) : FVec Ideal S4x32x64 .f32) (ix3 b g p) = (sta m c b g p k).2) :
    (res_main_while0b_v51 (W m c k) : FVec Ideal S4x32x64 .f32) (ix3 b g p) = (sta m c b g p (k + 1)).2 := by
  have gen : ∀ (L M S R T : FVec Ideal S4x32x64 .f32), addf (addf (mulf L S) (mulf M R)) T (ix3 b g p) = L (ix3 b g p) * S (ix3 b g p) + M (ix3 b g p) * R (ix3 b g p) + T (ix3 b g p) := by
    intro L M S R T; pointwise
  refine (gen _ _ _ _ _).trans ?_
  refine congrArg₂ (· + ·) (congrArg₂ (· + ·) (congrArg₂ (· * ·) (congrFun (W2 m c k) _) h6) (congrArg₂ (· * ·) (congrFun (W3 m c k) _) h5)) ?_
  refine (take_at b g p _ _ k hk (W4 m c k)).trans ?_
  show _ = (bin m c b g p k).2
  rw [bin, dif_pos hk]
  exact congrFun (W1 m c k) _

theorem zero_at (b : Fin 4) (g : Fin 32) (p : Fin 64) : broadcastInDim (s := S_) S4x32x64 ![] bcast_S_S4x32x64 (constant (F := Ideal) S_ .f32 0x00000000#32) (ix3 b g p) = (0 : EReal) := by
  pointwise
theorem e5 : (E0 m c (Proc.devRef .tc main_v13_5) : FVec Ideal S4x32x64 .f32) = broadcastInDim (s := S_) S4x32x64 ![] bcast_S_S4x32x64 (constant (F := Ideal) S_ .f32 0x00000000#32) := by
  simp only [E0, entryContents, afterL_cons, afterL_nil]; after_reads_simp; rfl
theorem e6 : (E0 m c (Proc.devRef .tc main_v13_6) : FVec Ideal S4x32x64 .f32) = broadcastInDim (s := S_) S4x32x64 ![] bcast_S_S4x32x64 (constant (F := Ideal) S_ .f32 0x00000000#32) := by
  simp only [E0, entryContents, afterL_cons, afterL_nil]; after_reads_simp; rfl

/-- After `k` trips the carried state is the recurrence's. -/
theorem state (b : Fin 4) (g : Fin 32) (p : Fin 64) : ∀ k, k ≤ 2048 →
    (W m c k (Proc.devRef .tc main_v13_5) : FVec Ideal S4x32x64 .f32) (ix3 b g p) = (sta m c b g p k).1
      ∧ (W m c k (Proc.devRef .tc main_v13_6) : FVec Ideal S4x32x64 .f32) (ix3 b g p) = (sta m c b g p k).2
  | 0, _ => ⟨(congrFun (e5 m c) _).trans (zero_at b g p), (congrFun (e6 m c) _).trans (zero_at b g p)⟩
  | k + 1, hk => by
    have ih := state b g p k (by omega)
    rw [W_succ, STEP_main_v13_5, STEP_main_v13_6]
    exact ⟨new_re m c k (by omega) b g p ih.1 ih.2, new_im m c k (by omega) b g p ih.1 ih.2⟩

theorem step7 (X : Valuation τ sig (Elt Ideal)) : (step_main_v13_7 X : FVec Ideal S2048x4x32x64 .f32)
    = Host.dynamicUpdateSlice (X (Proc.devRef .tc main_v13_7) : FVec Ideal S2048x4x32x64 .f32) (broadcastInDim S1x4x32x64 ![1, 2, 3] bcast_S4x32x64_S1x4x32x64_1_2_3 (res_main_while0b_v47 X : FVec Ideal S4x32x64 .f32)) (start (X (Proc.devRef .tc main_v13_4))) updateFits_S2048x4x32x64_S1x4x32x64 := by sl_kernel_rfl
theorem step8 (X : Valuation τ sig (Elt Ideal)) : (step_main_v13_8 X : FVec Ideal S2048x4x32x64 .f32)
    = Host.dynamicUpdateSlice (X (Proc.devRef .tc main_v13_8) : FVec Ideal S2048x4x32x64 .f32) (broadcastInDim S1x4x32x64 ![1, 2, 3] bcast_S4x32x64_S1x4x32x64_1_2_3 (res_main_while0b_v51 X : FVec Ideal S4x32x64 .f32)) (start (X (Proc.devRef .tc main_v13_4))) updateFits_S2048x4x32x64_S1x4x32x64 := by sl_kernel_rfl

/-- And the rows written are the states after the tokens so far. -/
theorem rows (b : Fin 4) (g : Fin 32) (p : Fin 64) (t : Fin 2048) : ∀ k, k ≤ 2048 → t.val < k →
    (W m c k (Proc.devRef .tc main_v13_7) : FVec Ideal S2048x4x32x64 .f32) (ix4 t b g p) = (sta m c b g p (t.val + 1)).1
      ∧ (W m c k (Proc.devRef .tc main_v13_8) : FVec Ideal S2048x4x32x64 .f32) (ix4 t b g p) = (sta m c b g p (t.val + 1)).2
  | 0, _, h => absurd h (by omega)
  | k + 1, hk, h => by
    have hk' : k < 2048 := hk
    have st := state m c b g p k (by omega)
    have a := (congrFun ((congrFun (W_succ m c k) _).trans ((STEP_main_v13_7 _).trans (step7 _))) (ix4 t b g p)).trans (put_at b g p _ _ _ k hk' (W4 m c k) t)
    have d := (congrFun ((congrFun (W_succ m c k) _).trans ((STEP_main_v13_8 _).trans (step8 _))) (ix4 t b g p)).trans (put_at b g p _ _ _ k hk' (W4 m c k) t)
    by_cases e : t.val = k
    · have a' := (new_re m c k hk' b g p st.1 st.2).trans (congrArg (fun n => (sta m c b g p (n + 1)).1) e.symm)
      have d' := (new_im m c k hk' b g p st.1 st.2).trans (congrArg (fun n => (sta m c b g p (n + 1)).2) e.symm)
      exact ⟨a.trans ((if_pos e).trans a'), d.trans ((if_pos e).trans d')⟩
    · have ih := rows b g p t k (by omega) (by omega)
      exact ⟨a.trans ((if_neg e).trans ih.1), d.trans ((if_neg e).trans ih.2)⟩

end Cert.SsmFwdMath.Ref
end
-- ==== Proof.SsmFwdMath.RefOut.lean ====
/- The recurrence's reference: its results at an index, in terms of the recurrence. -/
module

public import proofs.«01_k».proof.Proof.SsmFwdMath.RefLoop
public import proofs.«01_k».proof.Proof.SsmMath.Spec

@[expose] public section

set_option maxRecDepth 16384

noncomputable section

open Idealize.ShloMosaic Idealize.ShloMosaic.TcCoe Idealize.SL.Sem
open scoped BigOperators

namespace Cert.SsmFwdMath.Ref

open Cert.SsmFwdRefIdeal Cert.SsmFwdRefIdeal.Gen Cert.SsmFwdRefIdeal.Value
open Cert.Shared Cert.SsmMath
open Idealize.ShloMosaic.StableHlo

section generic
variable (b : Fin 4) (G : Fin 32) (p : Fin 64) (h : Fin 16) (t : Fin 2048)

/-- One part of the recurrence's input, over all tokens. -/
abbrev inT (A : FVec Ideal S32x64x16 .f32) (U : FVec Ideal S4x2048x512 .f32) : FVec Ideal S2048x4x32x64 .f32 :=
  transpose S2048x4x32x64 [1, 0, 2, 3] (transpose S4x2048x32x64 [2, 3, 0, 1] (Host.dotGeneral dot_S32x64x16_S4x2048x32x16_S32x64x4x2048_2_3_1_01_0_2 none A (shapeCast S4x2048x32x16 U shapeCasts_S4x2048x512_S4x2048x32x16)) transposes_S32x64x4x2048_S4x2048x32x64_2_3_0_1) transposes_S4x2048x32x64_S2048x4x32x64_1_0_2_3
theorem inT_at (A : FVec Ideal S32x64x16 .f32) (U : FVec Ideal S4x2048x512 .f32) : inT A U (ix4 t b G p) = ∑ h : Fin 16, U (ix3 b t (uch G h)) * A (ix3 G p h) := by
  have s1 : ∀ X : FVec Ideal S32x64x4x2048 .f32, transpose S2048x4x32x64 [1, 0, 2, 3] (transpose S4x2048x32x64 [2, 3, 0, 1] X transposes_S32x64x4x2048_S4x2048x32x64_2_3_0_1) transposes_S4x2048x32x64_S2048x4x32x64_1_0_2_3 (ix4 t b G p) = X (ix4 G p b t) := by
    intro X; pointwise
  have s2 : ∀ h : Fin 16, shapeCast S4x2048x32x16 U shapeCasts_S4x2048x512_S4x2048x32x16 (ix4 b t G h) = U (ix3 b t (uch G h)) := by
    intro h; pointwise
  have s3 : ∀ B : FVec Ideal S4x2048x32x16 .f32, Host.dotGeneral (F := Ideal) dot_S32x64x16_S4x2048x32x16_S32x64x4x2048_2_3_1_01_0_2 none A B (ix4 G p b t) = ∑ h : Fin 16, A (ix3 G p h) * B (ix4 b t G h) := by
    intro B; pointwise
  rw [inT, s1, s3]
  exact Finset.sum_congr rfl fun h _ => (congrArg (A (ix3 G p h) * ·) (s2 h)).trans (mul_comm _ _)
/-- One part of the read-out, over all tokens. -/
abbrev outT (A : FVec Ideal S32x16x64 .f32) (X : FVec Ideal S2048x4x32x64 .f32) : FVec Ideal S4x2048x32x16 .f32 :=
  transpose S4x2048x32x16 [3, 2, 0, 1] (Host.dotGeneral dot_S32x16x64_S2048x4x32x64_S32x16x2048x4_2_3_1_01_0_2 none A X) transposes_S32x16x2048x4_S4x2048x32x16_3_2_0_1
theorem outT_at (A : FVec Ideal S32x16x64 .f32) (X : FVec Ideal S2048x4x32x64 .f32) : outT A X (ix4 b t G h) = ∑ p : Fin 64, X (ix4 t b G p) * A (ix3 G h p) := by
  have s1 : ∀ X : FVec Ideal S32x16x2048x4 .f32, transpose S4x2048x32x16 [3, 2, 0, 1] X transposes_S32x16x2048x4_S4x2048x32x16_3_2_0_1 (ix4 b t G h) = X (ix4 G h t b) := by
    intro X; pointwise
  have s3 : Host.dotGeneral (F := Ideal) dot_S32x16x64_S2048x4x32x64_S32x16x2048x4_2_3_1_01_0_2 none A X (ix4 G h t b) = ∑ p : Fin 64, A (ix3 G h p) * X (ix4 t b G p) := by
    pointwise
  rw [outT, s1, s3]
  exact Finset.sum_congr rfl fun p _ => mul_comm _ _
/-- The read-out and the direct term, in the kernel's layout. -/
abbrev yT (Y Z : FVec Ideal S4x2048x32x16 .f32) (D : FVec Ideal S4x512 .f32) (U : FVec Ideal S4x2048x512 .f32) : FVec Ideal S16384x256 .bf16 :=
  truncf (F := Ideal) .bf16 (shapeCast S16384x256 (transpose S2048x4x512 [1, 0, 2] (addf (F := Ideal) (φ := .f32) (shapeCast S4x2048x512 (subf (F := Ideal) (φ := .f32) Y Z) shapeCasts_S4x2048x32x16_S4x2048x512)
    (mulf (F := Ideal) (φ := .f32) (broadcastInDim (s := S4x1x512) S4x2048x512 ![0, 1, 2] bcast_S4x1x512_S4x2048x512_0_1_2 (broadcastInDim (s := S4x512) S4x1x512 ![0, 2] bcast_S4x512_S4x1x512_0_2 D)) U)) transposes_S4x2048x512_S2048x4x512_1_0_2) shapeCasts_S2048x4x512_S16384x256) bitsLt_bf16_f32
theorem yT_at (e : Fin 2) (g : Fin 16) (Y Z : FVec Ideal S4x2048x32x16 .f32) (D : FVec Ideal S4x512 .f32) (U : FVec Ideal S4x2048x512 .f32) :
    yT Y Z D U (ix2 (⟨t.val * 8 + b.val * 2 + e.val, by omega⟩ : Fin 16384) (⟨g.val * 16 + h.val, by omega⟩ : Fin 256))
      = Y (ix4 b t ⟨e.val * 16 + g.val, by omega⟩ h) - Z (ix4 b t ⟨e.val * 16 + g.val, by omega⟩ h) + D (ix2 b (uch ⟨e.val * 16 + g.val, by omega⟩ h)) * U (ix3 b t (uch ⟨e.val * 16 + g.val, by omega⟩ h)) := by
  have s1 : ∀ X : FVec Ideal S4x2048x512 .f32, truncf (F := Ideal) .bf16 (shapeCast S16384x256 (transpose S2048x4x512 [1, 0, 2] X transposes_S4x2048x512_S2048x4x512_1_0_2) shapeCasts_S2048x4x512_S16384x256) bitsLt_bf16_f32 (ix2 (⟨t.val * 8 + b.val * 2 + e.val, by omega⟩ : Fin 16384) (⟨g.val * 16 + h.val, by omega⟩ : Fin 256))
      = X (ix3 b t (uch ⟨e.val * 16 + g.val, by omega⟩ h)) := by
    intro X; pointwise
    exact congrArg X (by blk_ext [uch])
  have s2 : ∀ (G : Fin 32) (X : FVec Ideal S4x2048x32x16 .f32), shapeCast S4x2048x512 X shapeCasts_S4x2048x32x16_S4x2048x512 (ix3 b t (uch G h)) = X (ix4 b t G h) := by
    intro G X; pointwise
    exact congrArg X (by blk_ext [uch])
  have s4 : ∀ (P Q R : FVec Ideal S4x2048x512 .f32) (i : S4x2048x512.Idx), addf (F := Ideal) (φ := .f32) P (mulf (F := Ideal) (φ := .f32) Q R) i = P i + Q i * R i := fun _ _ _ _ => rfl
  have s3 : ∀ q : Fin 512, broadcastInDim (s := S4x1x512) S4x2048x512 ![0, 1, 2] bcast_S4x1x512_S4x2048x512_0_1_2 (broadcastInDim (s := S4x512) S4x1x512 ![0, 2] bcast_S4x512_S4x1x512_0_2 D) (ix3 b t q) = D (ix2 b q) := by
    intro q; pointwise
  rw [yT, s1, s4, s2, s3]
  rfl
/-- The states before every chunk but the first, which starts from zero. -/
abbrev xcT (X : FVec Ideal S2048x4x32x64 .f32) : FVec Ideal S16x1x8x1024 .f32 :=
  broadcastInDim (s := S16x8x1024) S16x1x8x1024 ![0, 2, 3] bcast_S16x8x1024_S16x1x8x1024_0_2_3 (concatenate S16x8x1024 0 [⟨S1x8x1024, broadcastInDim (s := S_) S1x8x1024 ![] bcast_S_S1x8x1024 (constant (F := Ideal) S_ .f32 0x00000000#32)⟩,
    ⟨S15x8x1024, Host.slice S15x8x1024 ![127, 0, 0] ![128, 1, 1] (shapeCast S2048x8x1024 X shapeCasts_S2048x4x32x64_S2048x8x1024) slicesBy_S2048x8x1024_S15x8x1024_127s128_0s1_0s1⟩] concatenates_S1x8x1024_S15x8x1024_S16x8x1024_d0)
theorem xcT_at (e : Fin 2) (g : Fin 16) (n : Fin 16) (X : FVec Ideal S2048x4x32x64 .f32) :
    xcT X (ix4 n 0 (⟨b.val * 2 + e.val, by omega⟩ : Fin 8) (⟨g.val * 64 + p.val, by omega⟩ : Fin 1024))
      = if hn : n.val = 0 then (0 : EReal) else X (ix4 ⟨128 * n.val - 1, by omega⟩ b ⟨e.val * 16 + g.val, by omega⟩ p) := by
  pointwise
  by_cases hn : n.val = 0
  · rw [dif_pos (by omega), dif_pos hn]
  · rw [dif_neg (by omega), dif_neg hn]
    exact congrArg X (by blk_ext)
abbrev xcP (P Q : FVec Ideal S16x1x8x1024 .f32) : FVec Ideal S16x2x8x1024 .f32 :=
  concatenate S16x2x8x1024 1 [⟨S16x1x8x1024, P⟩, ⟨S16x1x8x1024, Q⟩] concatenates_S16x1x8x1024_S16x1x8x1024_S16x2x8x1024_d1
theorem xcP_re (P Q : FVec Ideal S16x1x8x1024 .f32) (n : Fin 16) (r : Fin 8) (q : Fin 1024) : xcP P Q (ix4 n 0 r q) = P (ix4 n 0 r q) := by
  pointwise
theorem xcP_im (P Q : FVec Ideal S16x1x8x1024 .f32) (n : Fin 16) (r : Fin 8) (q : Fin 1024) : xcP P Q (ix4 n 1 r q) = Q (ix4 n 0 r q) := by
  pointwise
/-- One part of the states over the tokens, in the kernel's layout. -/
abbrev xsT (X : FVec Ideal S2048x4x32x64 .f32) : FVec Ideal S16384x1024 .bf16 :=
  truncf (F := Ideal) .bf16 (shapeCast S16384x1024 X shapeCasts_S2048x4x32x64_S16384x1024) bitsLt_bf16_f32
theorem xsT_at (e : Fin 2) (g : Fin 16) (X : FVec Ideal S2048x4x32x64 .f32) :
    xsT X (ix2 (⟨t.val * 8 + b.val * 2 + e.val, by omega⟩ : Fin 16384) (⟨g.val * 64 + p.val, by omega⟩ : Fin 1024)) = X (ix4 t b ⟨e.val * 16 + g.val, by omega⟩ p) := by
  pointwise
  exact congrArg X (by blk_ext)
end generic

/-- The results from the buffers after the loop. -/
theorem r26 (X : Valuation τ sig (Elt Ideal)) : after hostOps0_1 X (Proc.devRef .tc main_v26)
    = yT (outT (X (Proc.devRef .tc main_arg5)) (X (Proc.devRef .tc main_v13_7))) (outT (X (Proc.devRef .tc main_arg6)) (X (Proc.devRef .tc main_v13_8))) (X (Proc.devRef .tc main_v2)) (X (Proc.devRef .tc main_arg0)) := by
  after_reads_simp; sl_kernel_rfl
theorem r37 (X : Valuation τ sig (Elt Ideal)) : after hostOps0_1 X (Proc.devRef .tc main_v37) = xcP (xcT (X (Proc.devRef .tc main_v13_7))) (xcT (X (Proc.devRef .tc main_v13_8))) := by
  after_reads_simp; sl_kernel_rfl
theorem r39 (X : Valuation τ sig (Elt Ideal)) : after hostOps0_1 X (Proc.devRef .tc main_v39) = xsT (X (Proc.devRef .tc main_v13_7)) := by
  after_reads_simp; sl_kernel_rfl
theorem r41 (X : Valuation τ sig (Elt Ideal)) : after hostOps0_1 X (Proc.devRef .tc main_v41) = xsT (X (Proc.devRef .tc main_v13_8)) := by
  after_reads_simp; sl_kernel_rfl

variable (m : (ℓ : Loc nD τ sig) → Buf (Elt Ideal) ℓ) (c : Dev nD)

/-- The buffers when the loop is left. -/
abbrev Q : Valuation τ sig (Elt Ideal) := after condOps (atK m 2048 c)

/-- A buffer the loop does not write keeps its contents. -/
theorem atK_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) :
    ∀ k, atK m k c (Proc.devRef .tc r) = E0 m c (Proc.devRef .tc r)
  | 0 => rfl
  | k + 1 => by
    refine Eq.trans ?_ (atK_keep r hc h0 h1 h2 h3 h4 h5 k)
    refine (after_of_writes_sub while0Ops0_5 _ while0Ops0_5_writes h5).trans ?_
    refine (after_of_writes_sub while0Ops0_4 _ while0Ops0_4_writes h4).trans ?_
    refine (after_of_writes_sub while0Ops0_3 _ while0Ops0_3_writes h3).trans ?_
    refine (after_of_writes_sub while0Ops0_2 _ while0Ops0_2_writes h2).trans ?_
    refine (after_of_writes_sub while0Ops0_1 _ while0Ops0_1_writes h1).trans ?_
    refine (after_of_writes_sub while0Ops0 _ while0Ops0_writes h0).trans ?_
    exact after_of_writes_sub condOps _ condOps_writes hc
theorem Q_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W) :
    Q m c (Proc.devRef .tc r) = E0 m c (Proc.devRef .tc r) :=
  (after_of_writes_sub condOps _ condOps_writes hc).trans (atK_keep m c r hc h0 h1 h2 h3 h4 h5 2048)

abbrev aU : FVec Ideal S4x2048x512 .f32 := m (c, main_arg0)
abbrev aLr : FVec Ideal S32x64 .f32 := m (c, main_arg1)
abbrev aLi : FVec Ideal S32x64 .f32 := m (c, main_arg2)
abbrev aBr : FVec Ideal S32x64x16 .f32 := m (c, main_arg3)
abbrev aBi : FVec Ideal S32x64x16 .f32 := m (c, main_arg4)
abbrev aCr : FVec Ideal S32x16x64 .f32 := m (c, main_arg5)
abbrev aCi : FVec Ideal S32x16x64 .f32 := m (c, main_arg6)
abbrev aD : FVec Ideal S512 .f32 := m (c, main_arg7)

theorem q0 : Q m c (Proc.devRef .tc main_arg0) = aU m c :=
  (Q_keep m c main_arg0 (by decide) (by decide) (by decide) (by decide) (by decide) (by decide) (by decide)).trans (by simp only [E0, entryContents, afterL_cons, afterL_nil]; after_reads_simp)
theorem q5 : Q m c (Proc.devRef .tc main_arg5) = aCr m c :=
  (Q_keep m c main_arg5 (by decide) (by decide) (by decide) (by decide) (by decide) (by decide) (by decide)).trans (by simp only [E0, entryContents, afterL_cons, afterL_nil]; after_reads_simp)
theorem q6 : Q m c (Proc.devRef .tc main_arg6) = aCi m c :=
  (Q_keep m c main_arg6 (by decide) (by decide) (by decide) (by decide) (by decide) (by decide) (by decide)).trans (by simp only [E0, entryContents, afterL_cons, afterL_nil]; after_reads_simp)
theorem q2 : (Q m c (Proc.devRef .tc main_v2) : FVec Ideal S4x512 .f32) = broadcastInDim (s := S512) S4x512 ![1] bcast_S512_S4x512_1 (aD m c) :=
  (Q_keep m c main_v2 (by decide) (by decide) (by decide) (by decide) (by decide) (by decide) (by decide)).trans (by simp only [E0, entryContents, afterL_cons, afterL_nil]; after_reads_simp)
theorem eBr_eq : eBr m c = inT (aBr m c) (aU m c) := by simp only [eBr, E0, entryContents, afterL_cons, afterL_nil]; after_reads_simp; sl_kernel_rfl
theorem eBi_eq : eBi m c = inT (aBi m c) (aU m c) := by simp only [eBi, E0, entryContents, afterL_cons, afterL_nil]; after_reads_simp; sl_kernel_rfl
theorem eLr_eq : eLr m c = broadcastInDim (s := S32x64) S4x32x64 ![1, 2] bcast_S32x64_S4x32x64_1_2 (aLr m c) := by simp only [eLr, E0, entryContents, afterL_cons, afterL_nil]; after_reads_simp; rfl
theorem eLi_eq : eLi m c = broadcastInDim (s := S32x64) S4x32x64 ![1, 2] bcast_S32x64_S4x32x64_1_2 (aLi m c) := by simp only [eLi, E0, entryContents, afterL_cons, afterL_nil]; after_reads_simp; rfl

/-- The loop's recurrence is the arguments'. -/
theorem sta_eq (b : Fin 4) (G : Fin 32) (p : Fin 64) (k : ℕ) : sta m c b G p k = gst (aU m c) (aLr m c) (aLi m c) (aBr m c) (aBi m c) b G p k := by
  have hl : ∀ A : FVec Ideal S32x64 .f32, broadcastInDim (s := S32x64) S4x32x64 ![1, 2] bcast_S32x64_S4x32x64_1_2 A (ix3 b G p) = A (ix2 G p) := by
    intro A; pointwise
  have hb : bin m c b G p = gin (aU m c) (aBr m c) (aBi m c) b G p := by
    funext t
    unfold bin gin
    split
    · exact congrArg₂ Prod.mk ((congrFun (eBr_eq m c) _).trans (inT_at b G p _ _ _)) ((congrFun (eBi_eq m c) _).trans (inT_at b G p _ _ _))
    · rfl
  rw [sta, gst, hb]
  exact congrArg (fun l => scn l _ _ k) (congrArg₂ Prod.mk ((congrFun (eLr_eq m c) _).trans (hl _)) ((congrFun (eLi_eq m c) _).trans (hl _)))

/-- The states the loop has written. -/
theorem x7 (b : Fin 4) (G : Fin 32) (p : Fin 64) (t : Fin 2048) : (Q m c (Proc.devRef .tc main_v13_7) : FVec Ideal S2048x4x32x64 .f32) (ix4 t b G p) = (gst (aU m c) (aLr m c) (aLi m c) (aBr m c) (aBi m c) b G p (t.val + 1)).1 :=
  (congrFun ((cond_keeps _ main_v13_7 (by decide)).trans (atK_agree m c 2048 main_v13_7 (by decide))) _).trans ((rows m c b G p t 2048 (Nat.le_refl _) t.2).1.trans (congrArg Prod.fst (sta_eq m c b G p _)))
theorem x8 (b : Fin 4) (G : Fin 32) (p : Fin 64) (t : Fin 2048) : (Q m c (Proc.devRef .tc main_v13_8) : FVec Ideal S2048x4x32x64 .f32) (ix4 t b G p) = (gst (aU m c) (aLr m c) (aLi m c) (aBr m c) (aBi m c) b G p (t.val + 1)).2 :=
  (congrFun ((cond_keeps _ main_v13_8 (by decide)).trans (atK_agree m c 2048 main_v13_8 (by decide))) _).trans ((rows m c b G p t 2048 (Nat.le_refl _) t.2).2.trans (congrArg Prod.snd (sta_eq m c b G p _)))

/-- The buffers at the end, and the four results at an index. -/
abbrev Z : Valuation τ sig (Elt Ideal) := finalContents condOps preI bodyI postI 2048 m c

section results
variable (b : Fin 4) (e : Fin 2) (g h : Fin 16) (p : Fin 64) (t : Fin 2048) (n : Fin 16)

theorem z26 : (Z m c (Proc.devRef .tc main_v26) : FVec Ideal S16384x256 .bf16) (ix2 (⟨t.val * 8 + b.val * 2 + e.val, by omega⟩ : Fin 16384) (⟨g.val * 16 + h.val, by omega⟩ : Fin 256))
    = gy (aU m c) (aLr m c) (aLi m c) (aBr m c) (aBi m c) (aCr m c) (aCi m c) (aD m c) b ⟨e.val * 16 + g.val, by omega⟩ t h := by
  refine (congrFun (r26 (Q m c)) _).trans ((yT_at b h t e g _ _ _ _).trans ?_)
  have hd : ∀ (A : FVec Ideal S512 .f32) (q : Fin 512), broadcastInDim (s := S512) S4x512 ![1] bcast_S512_S4x512_1 A (ix2 b q) = A (ix1 q) := by
    intro A q; pointwise
  refine congrArg₂ (· + ·) (congrArg₂ (· - ·) ((outT_at b _ h t _ _).trans (Finset.sum_congr rfl fun p _ => ?_)) ((outT_at b _ h t _ _).trans (Finset.sum_congr rfl fun p _ => ?_))) ?_
  · exact congrArg₂ (· * ·) (x7 m c b _ p t) (congrFun (q5 m c) _)
  · exact congrArg₂ (· * ·) (x8 m c b _ p t) (congrFun (q6 m c) _)
  · exact congrArg₂ (· * ·) ((congrFun (q2 m c) _).trans (hd _ _)) (congrFun (q0 m c) _)
theorem z37r : (Z m c (Proc.devRef .tc main_v37) : FVec Ideal S16x2x8x1024 .f32) (ix4 n 0 (⟨b.val * 2 + e.val, by omega⟩ : Fin 8) (⟨g.val * 64 + p.val, by omega⟩ : Fin 1024))
    = (gst (aU m c) (aLr m c) (aLi m c) (aBr m c) (aBi m c) b ⟨e.val * 16 + g.val, by omega⟩ p (128 * n.val)).1 := by
  refine (congrFun (r37 (Q m c)) _).trans ((xcP_re _ _ n _ _).trans ((xcT_at b p e g n _).trans ?_))
  by_cases hn : n.val = 0
  · rw [dif_pos hn, hn]; rfl
  · rw [dif_neg hn]
    exact (x7 m c b _ p _).trans (congrArg (fun k => (gst (aU m c) (aLr m c) (aLi m c) (aBr m c) (aBi m c) b ⟨e.val * 16 + g.val, by omega⟩ p k).1) (show 128 * n.val - 1 + 1 = 128 * n.val by omega))
theorem z37i : (Z m c (Proc.devRef .tc main_v37) : FVec Ideal S16x2x8x1024 .f32) (ix4 n 1 (⟨b.val * 2 + e.val, by omega⟩ : Fin 8) (⟨g.val * 64 + p.val, by omega⟩ : Fin 1024))
    = (gst (aU m c) (aLr m c) (aLi m c) (aBr m c) (aBi m c) b ⟨e.val * 16 + g.val, by omega⟩ p (128 * n.val)).2 := by
  refine (congrFun (r37 (Q m c)) _).trans ((xcP_im _ _ n _ _).trans ((xcT_at b p e g n _).trans ?_))
  by_cases hn : n.val = 0
  · rw [dif_pos hn, hn]; rfl
  · rw [dif_neg hn]
    exact (x8 m c b _ p _).trans (congrArg (fun k => (gst (aU m c) (aLr m c) (aLi m c) (aBr m c) (aBi m c) b ⟨e.val * 16 + g.val, by omega⟩ p k).2) (show 128 * n.val - 1 + 1 = 128 * n.val by omega))
theorem z39 : (Z m c (Proc.devRef .tc main_v39) : FVec Ideal S16384x1024 .bf16) (ix2 (⟨t.val * 8 + b.val * 2 + e.val, by omega⟩ : Fin 16384) (⟨g.val * 64 + p.val, by omega⟩ : Fin 1024))
    = (gst (aU m c) (aLr m c) (aLi m c) (aBr m c) (aBi m c) b ⟨e.val * 16 + g.val, by omega⟩ p (t.val + 1)).1 :=
  (congrFun (r39 (Q m c)) _).trans ((xsT_at b p t e g _).trans (x7 m c b _ p t))
theorem z41 : (Z m c (Proc.devRef .tc main_v41) : FVec Ideal S16384x1024 .bf16) (ix2 (⟨t.val * 8 + b.val * 2 + e.val, by omega⟩ : Fin 16384) (⟨g.val * 64 + p.val, by omega⟩ : Fin 1024))
    = (gst (aU m c) (aLr m c) (aLi m c) (aBr m c) (aBi m c) b ⟨e.val * 16 + g.val, by omega⟩ p (t.val + 1)).2 :=
  (congrFun (r41 (Q m c)) _).trans ((xsT_at b p t e g _).trans (x8 m c b _ p t))
end results

end Cert.SsmFwdMath.Ref
end
-- ==== Proof.SsmFwdMath.RefRun.lean ====
/- The recurrence's reference: its run, with its results and its arguments at the end. -/
module

public import proofs.«01_k».proof.Defs
public import proofs.«01_k».proof.Proof.SsmFwdMath.RefOut
public import proofs.«01_k».proof.Proof.SsmMath.Outs

@[expose] public section

set_option maxRecDepth 16384

noncomputable section

open Idealize.ShloMosaic Idealize.ShloMosaic.TcCoe Idealize.SL.Sem
open scoped BigOperators

namespace Cert.SsmFwdMath.Ref

open Cert.SsmFwdRefIdeal Cert.SsmFwdRefIdeal.Gen Cert.SsmFwdRefIdeal.Value
open Cert.Shared Cert.SsmMath
open Idealize.ShloMosaic.StableHlo

variable (m : (ℓ : Loc nD τ sig) → Buf (Elt Ideal) ℓ) (c : Dev nD)

/-- An argument keeps its contents. -/
theorem z_keep (r : Ref sig .tc) (h : r ∉ condOps_W) (h0 : r ∉ while0Ops0_W) (h1 : r ∉ while0Ops0_1_W) (h2 : r ∉ while0Ops0_2_W) (h3 : r ∉ while0Ops0_3_W) (h4 : r ∉ while0Ops0_4_W) (h5 : r ∉ while0Ops0_5_W)
    (hp : r ∉ hostOps0_W) (hq : ∀ X : Valuation τ sig (Elt Ideal), after hostOps0_1 X (Proc.devRef .tc r) = X (Proc.devRef .tc r)) :
    Z m c (Proc.devRef .tc r) = launchContents m c (Proc.devRef .tc r) :=
  (hq (Q m c)).trans ((Q_keep m c r h h0 h1 h2 h3 h4 h5).trans (after_of_writes_sub hostOps0 _ hostOps0_writes hp))

theorem args : Z m c (Proc.devRef .tc main_arg0) = m (c, main_arg0) ∧ Z m c (Proc.devRef .tc main_arg1) = m (c, main_arg1) ∧ Z m c (Proc.devRef .tc main_arg2) = m (c, main_arg2) ∧ Z m c (Proc.devRef .tc main_arg3) = m (c, main_arg3)
    ∧ Z m c (Proc.devRef .tc main_arg4) = m (c, main_arg4) ∧ Z m c (Proc.devRef .tc main_arg5) = m (c, main_arg5) ∧ Z m c (Proc.devRef .tc main_arg6) = m (c, main_arg6) ∧ Z m c (Proc.devRef .tc main_arg7) = m (c, main_arg7) :=
  ⟨z_keep m c main_arg0 (by decide) (by decide) (by decide) (by decide) (by decide) (by decide) (by decide) (by decide) (fun X => by after_reads_simp),
    z_keep m c main_arg1 (by decide) (by decide) (by decide) (by decide) (by decide) (by decide) (by decide) (by decide) (fun X => by after_reads_simp),
    z_keep m c main_arg2 (by decide) (by decide) (by decide) (by decide) (by decide) (by decide) (by decide) (by decide) (fun X => by after_reads_simp),
    z_keep m c main_arg3 (by decide) (by decide) (by decide) (by decide) (by decide) (by decide) (by decide) (by decide) (fun X => by after_reads_simp),
    z_keep m c main_arg4 (by decide) (by decide) (by decide) (by decide) (by decide) (by decide) (by decide) (by decide) (fun X => by after_reads_simp),
    z_keep m c main_arg5 (by decide) (by decide) (by decide) (by decide) (by decide) (by decide) (by decide) (by decide) (fun X => by after_reads_simp),
    z_keep m c main_arg6 (by decide) (by decide) (by decide) (by decide) (by decide) (by decide) (by decide) (by decide) (fun X => by after_reads_simp),
    z_keep m c main_arg7 (by decide) (by decide) (by decide) (by decide) (by decide) (by decide) (by decide) (by decide) (fun X => by after_reads_simp)⟩

theorem frame : Cert.quiescent_SsmFwdRefIdeal := fun m g _ =>
  θ_run_mono (run_fold m g) fun r h => ⟨fun c => ⟨(h c main_arg0 rfl).trans (args m c).1, (h c main_arg1 rfl).trans (args m c).2.1, (h c main_arg2 rfl).trans (args m c).2.2.1, (h c main_arg3 rfl).trans (args m c).2.2.2.1, (h c main_arg4 rfl).trans (args m c).2.2.2.2.1, (h c main_arg5 rfl).trans (args m c).2.2.2.2.2.1, (h c main_arg6 rfl).trans (args m c).2.2.2.2.2.2.1, (h c main_arg7 rfl).trans (args m c).2.2.2.2.2.2.2⟩, sem_eq_zero_of_no_sems (by decide) r.2⟩

/-- The four results. -/
theorem out26 : Z m c (Proc.devRef .tc main_v26) = resY (aU m c) (aLr m c) (aLi m c) (aBr m c) (aBi m c) (aCr m c) (aCi m c) (aD m c) := by
  funext i
  have hi : i = ix2 (⟨(i 0).val / 8 * 8 + (i 0).val % 8 / 2 * 2 + (i 0).val % 2, by have h : (i 0).val < 16384 := (i 0).isLt; omega⟩ : Fin 16384) (⟨(i 1).val / 16 * 16 + (i 1).val % 16, by have h : (i 1).val < 256 := (i 1).isLt; omega⟩ : Fin 256) := by blk_ext
  have h0 : (i 0).val < 16384 := (i 0).isLt
  have h1 : (i 1).val < 256 := (i 1).isLt
  exact (congrArg (Z m c (Proc.devRef .tc main_v26) : FVec Ideal S16384x256 .bf16) hi).trans (z26 m c ⟨(i 0).val % 8 / 2, by omega⟩ ⟨(i 0).val % 2, by omega⟩ ⟨(i 1).val / 16, by omega⟩ ⟨(i 1).val % 16, by omega⟩ ⟨(i 0).val / 8, by omega⟩)
theorem out37 : Z m c (Proc.devRef .tc main_v37) = resC (aU m c) (aLr m c) (aLi m c) (aBr m c) (aBi m c) := by
  funext i
  have h2 : (i 2).val < 8 := (i 2).isLt
  have h3 : (i 3).val < 1024 := (i 3).isLt
  have hi : i = ix4 (i 0) (i 1) (⟨(i 2).val / 2 * 2 + (i 2).val % 2, by omega⟩ : Fin 8) (⟨(i 3).val / 64 * 64 + (i 3).val % 64, by omega⟩ : Fin 1024) := by blk_ext
  have key : ∀ (n : Fin 16) (z : Fin 2) (b : Fin 4) (e : Fin 2) (g : Fin 16) (p : Fin 64), (Z m c (Proc.devRef .tc main_v37) : FVec Ideal S16x2x8x1024 .f32) (ix4 n z (⟨b.val * 2 + e.val, by omega⟩ : Fin 8) (⟨g.val * 64 + p.val, by omega⟩ : Fin 1024))
      = pick z (gst (aU m c) (aLr m c) (aLi m c) (aBr m c) (aBi m c) b ⟨e.val * 16 + g.val, by omega⟩ p (128 * n.val)) := by
    intro n z b e g p
    rcases (show z = 0 ∨ z = 1 by omega) with rfl | rfl
    · exact z37r m c b e g p n
    · exact z37i m c b e g p n
  exact (congrArg (Z m c (Proc.devRef .tc main_v37) : FVec Ideal S16x2x8x1024 .f32) hi).trans (key (i 0) (i 1) ⟨(i 2).val / 2, by omega⟩ ⟨(i 2).val % 2, by omega⟩ ⟨(i 3).val / 64, by omega⟩ ⟨(i 3).val % 64, by omega⟩)
theorem out39 : Z m c (Proc.devRef .tc main_v39) = resRe (aU m c) (aLr m c) (aLi m c) (aBr m c) (aBi m c) := by
  funext i
  have h0 : (i 0).val < 16384 := (i 0).isLt
  have h1 : (i 1).val < 1024 := (i 1).isLt
  have hi : i = ix2 (⟨(i 0).val / 8 * 8 + (i 0).val % 8 / 2 * 2 + (i 0).val % 2, by omega⟩ : Fin 16384) (⟨(i 1).val / 64 * 64 + (i 1).val % 64, by omega⟩ : Fin 1024) := by blk_ext
  exact (congrArg (Z m c (Proc.devRef .tc main_v39) : FVec Ideal S16384x1024 .bf16) hi).trans (z39 m c ⟨(i 0).val % 8 / 2, by omega⟩ ⟨(i 0).val % 2, by omega⟩ ⟨(i 1).val / 64, by omega⟩ ⟨(i 1).val % 64, by omega⟩ ⟨(i 0).val / 8, by omega⟩)
theorem out41 : Z m c (Proc.devRef .tc main_v41) = resIm (aU m c) (aLr m c) (aLi m c) (aBr m c) (aBi m c) := by
  funext i
  have h0 : (i 0).val < 16384 := (i 0).isLt
  have h1 : (i 1).val < 1024 := (i 1).isLt
  have hi : i = ix2 (⟨(i 0).val / 8 * 8 + (i 0).val % 8 / 2 * 2 + (i 0).val % 2, by omega⟩ : Fin 16384) (⟨(i 1).val / 64 * 64 + (i 1).val % 64, by omega⟩ : Fin 1024) := by blk_ext
  exact (congrArg (Z m c (Proc.devRef .tc main_v41) : FVec Ideal S16384x1024 .bf16) hi).trans (z41 m c ⟨(i 0).val % 8 / 2, by omega⟩ ⟨(i 0).val % 2, by omega⟩ ⟨(i 1).val / 64, by omega⟩ ⟨(i 1).val % 64, by omega⟩ ⟨(i 0).val / 8, by omega⟩)

end Cert.SsmFwdMath.Ref
end
-- ==== Proof.SsmFwdMath.Claim.lean ====
/- The kernel's four results are the reference's, under the stated finiteness. -/
module

public import proofs.«01_k».proof.Defs
public import proofs.«01_k».proof.Proof.Gen.Pre_ssm_fwd_finite
public import proofs.«01_k».proof.Proof.SsmFwdMath.Final
public import proofs.«01_k».proof.Proof.SsmFwdMath.RefRun

@[expose] public section

set_option maxRecDepth 16384

noncomputable section

open Idealize.ShloMosaic Idealize.ShloMosaic.TcCoe Idealize.SL.Sem

namespace Cert.SsmFwdMath

open Cert.Shared Cert.SsmMath

/-- What the precondition says of the arguments. -/
theorem args_real {u : FVec Ideal Cert.SsmFwdIdeal.S4x2048x512 .f32} {lr li : FVec Ideal Cert.SsmFwdIdeal.S32x64 .f32} {br bi : FVec Ideal Cert.SsmFwdIdeal.S32x64x16 .f32}
    {cr ci : FVec Ideal Cert.SsmFwdIdeal.S32x16x64 .f32} {d : FVec Ideal Cert.SsmFwdIdeal.S512 .f32}
    (h : Cert.Pre_ssm_fwd_finite.fn (F := Ideal) u lr li br bi cr ci d = fun _ => 1#1) :
    (∀ i, Real' (u i)) ∧ (∀ i, Real' (lr i)) ∧ (∀ i, Real' (li i)) ∧ (∀ i, Real' (br i)) ∧ (∀ i, Real' (bi i)) ∧ (∀ i, Real' (ci i)) := by
  obtain ⟨h, hci⟩ := and_split (congrFun h ix0)
  obtain ⟨h, hbi⟩ := and_split h
  obtain ⟨h, hbr⟩ := and_split h
  obtain ⟨h, hli⟩ := and_split h
  obtain ⟨hu, hlr⟩ := and_split h
  exact ⟨real_of_all hu fun _ => f32_top, real_of_all hlr fun _ => f32_top, real_of_all hli fun _ => f32_top,
    real_of_all hbr fun _ => f32_top, real_of_all hbi fun _ => f32_top, real_of_all hci fun _ => f32_top⟩

set_option maxHeartbeats 2000000 in
theorem algebraic : Cert.algebraic_SsmFwdIdeal_SsmFwdRefIdeal_pre_ssm_fwd_finite := by
  intro m g m' g' hpre hagree
  have R : ∀ c, (∀ i, Real' (aU m c i)) ∧ (∀ i, Real' (aLr m c i)) ∧ (∀ i, Real' (aLi m c i)) ∧ (∀ i, Real' (aBr m c i)) ∧ (∀ i, Real' (aBi m c i)) ∧ (∀ i, Real' (aCi m c i)) := fun c => args_real (hpre c)
  refine ⟨fun c => resY (aU m c) (aLr m c) (aLi m c) (aBr m c) (aBi m c) (aCr m c) (aCi m c) (aD m c), fun c => resC (aU m c) (aLr m c) (aLi m c) (aBr m c) (aBi m c), fun c => resRe (aU m c) (aLr m c) (aLi m c) (aBr m c) (aBi m c), fun c => resIm (aU m c) (aLr m c) (aLi m c) (aBr m c) (aBi m c),
    θ_run_mono (Cert.SsmFwdRun.run_main (F := Ideal) m g) fun r h c => ?_, θ_run_mono (Cert.SsmFwdRefIdeal.Value.run_fold m' g') fun r h c => ?_⟩
  · obtain ⟨hu, hlr, hli, hbr, hbi, hci⟩ := R c
    obtain ⟨⟨k0, k1, k2, k3⟩, ka⟩ := h.1 c
    exact ⟨k0.trans (final_5 m c hu hlr hli hbr hbi hci), k1.trans (final_6 m c), k2.trans (final_7 m c), k3.trans (final_8 m c), ka⟩
  · obtain ⟨e0, e1, e2, e3, e4, e5, e6, e7⟩ := hagree c
    have f0 : Ref.aU m' c = aU m c := e0
    have f1 : Ref.aLr m' c = aLr m c := e1
    have f2 : Ref.aLi m' c = aLi m c := e2
    have f3 : Ref.aBr m' c = aBr m c := e3
    have f4 : Ref.aBi m' c = aBi m c := e4
    have f5 : Ref.aCr m' c = aCr m c := e5
    have f6 : Ref.aCi m' c = aCi m c := e6
    have f7 : Ref.aD m' c = aD m c := e7
    obtain ⟨z0, z1, z2, z3, z4, z5, z6, z7⟩ := Ref.args m' c
    refine ⟨(h c _ rfl).trans ((Ref.out26 m' c).trans ?_), (h c _ rfl).trans ((Ref.out37 m' c).trans ?_), (h c _ rfl).trans ((Ref.out39 m' c).trans ?_), (h c _ rfl).trans ((Ref.out41 m' c).trans ?_),
      (h c _ rfl).trans z0, (h c _ rfl).trans z1, (h c _ rfl).trans z2, (h c _ rfl).trans z3, (h c _ rfl).trans z4, (h c _ rfl).trans z5, (h c _ rfl).trans z6, (h c _ rfl).trans z7⟩
    · rw [f0, f1, f2, f3, f4, f5, f6, f7]
    · rw [f0, f1, f2, f3, f4]
    · rw [f0, f1, f2, f3, f4]
    · rw [f0, f1, f2, f3, f4]

end Cert.SsmFwdMath

end
-- ==== Proof.SsmPrepMath.Ref.lean ====
/- The discretised pole and input weights of one state, and the reference's results as these. -/
module

public import proofs.«01_k».proof.Proof.Gen.SsmPrepRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsmPrepMath

section spec
variable (lr li ldt br bi : EReal)

/-- The discretised pole, by the pole and the log step size. -/
def lbr : EReal := Ideal.exp (lr * Ideal.exp ldt) * Ideal.cos (li * Ideal.exp ldt)
def lbi : EReal := Ideal.exp (lr * Ideal.exp ldt) * Ideal.sin (li * Ideal.exp ldt)
/-- The quotient of the discretised pole less one by the pole. -/
def qr : EReal := Ideal.div ((lbr lr li ldt - 1) * lr + lbi lr li ldt * li) (lr * lr + li * li)
def qi : EReal := Ideal.div (lbi lr li ldt * lr - (lbr lr li ldt - 1) * li) (lr * lr + li * li)
/-- The discretised input weight. -/
def bbr : EReal := qr lr li ldt * br - qi lr li ldt * bi
def bbi : EReal := qr lr li ldt * bi + qi lr li ldt * br
end spec

/-- A group's state among the states of all groups; the group and the number of a state. -/
abbrev stt (g : Fin 32) (p : Fin 64) : Fin 2048 := ⟨g.val * 64 + p.val, by omega⟩
abbrev sg (j : Fin 2048) : Fin 32 := ⟨j.val / 64, by omega⟩
abbrev sp (j : Fin 2048) : Fin 64 := ⟨j.val % 64, by omega⟩
theorem stt_eta (j : Fin 2048) : stt (sg j) (sp j) = j := Fin.ext (by show j.val / 64 * 64 + j.val % 64 = j.val; omega)

namespace Ref

open Cert.SsmPrepRefIdeal Cert.SsmPrepRefIdeal.Gen Cert.SsmPrepRefIdeal.Read

variable (x0 x1 : FVec Ideal S1x32x64 .f32) (x2 : FVec Ideal S1x32 .f32) (x3 x4 : FVec Ideal S1x32x64x16 .f32)
  (g : Fin 32) (p : Fin 64) (h : Fin 16)

theorem r0 : val_main_v0 (F := Ideal) x0 (ix2 g p) = x0 (ix3 0 g p) := by
  rw [val_main_v0_apply]; exact congrArg x0 (by blk_ext)
theorem r1 : val_main_v1 (F := Ideal) x1 (ix2 g p) = x1 (ix3 0 g p) := by
  rw [val_main_v1_apply]; exact congrArg x1 (by blk_ext)
theorem r4 : val_main_v4 (F := Ideal) x2 (ix2 g p) = x2 (ix2 0 g) := by
  rw [val_main_v4_apply, val_main_v3_apply, val_main_v2_apply]; exact congrArg x2 (by blk_ext)
theorem r5 : val_main_v5 (F := Ideal) x3 (ix3 g p h) = x3 (ix4 0 g p h) := by
  rw [val_main_v5_apply]; exact congrArg x3 (by blk_ext)
theorem r6 : val_main_v6 (F := Ideal) x4 (ix3 g p h) = x4 (ix4 0 g p h) := by
  rw [val_main_v6_apply]; exact congrArg x4 (by blk_ext)
theorem r12 : val_main_v12 (F := Ideal) x0 x1 x2 (ix2 g p) = lbr (x0 (ix3 0 g p)) (x1 (ix3 0 g p)) (x2 (ix2 0 g)) := by
  pointwise [val_main_v12, val_main_v11, val_main_v10, val_main_v9, val_main_v8, val_main_v7, r0, r1, r4, lbr]
theorem r15 : val_main_v15 (F := Ideal) x0 x1 x2 (ix2 g p) = lbi (x0 (ix3 0 g p)) (x1 (ix3 0 g p)) (x2 (ix2 0 g)) := by
  pointwise [val_main_v15, val_main_v14, val_main_v13, val_main_v9, val_main_v8, val_main_v7, r0, r1, r4, lbi]
theorem r18 : val_main_v18 (F := Ideal) x0 x1 (ix2 g p) = x0 (ix3 0 g p) * x0 (ix3 0 g p) + x1 (ix3 0 g p) * x1 (ix3 0 g p) := by
  pointwise [val_main_v18, val_main_v17, val_main_v16, r0, r1]
theorem r24 : val_main_v24 (F := Ideal) x0 x1 x2 (ix2 g p) = qr (x0 (ix3 0 g p)) (x1 (ix3 0 g p)) (x2 (ix2 0 g)) := by
  pointwise [val_main_v24, val_main_v23, val_main_v22, val_main_v21, val_main_v20, val_main_v19, val_main_cst, r0, r1, r12, r15, r18, qr]
theorem r31 : val_main_v31 (F := Ideal) x0 x1 x2 (ix2 g p) = qi (x0 (ix3 0 g p)) (x1 (ix3 0 g p)) (x2 (ix2 0 g)) := by
  pointwise [val_main_v31, val_main_v30, val_main_v29, val_main_v28, val_main_v27, val_main_v26, val_main_cst_0, r0, r1, r12, r15, r18, qi]
theorem r37 : val_main_v37 (F := Ideal) x0 x1 x2 x3 x4 (ix3 g p h)
    = bbr (x0 (ix3 0 g p)) (x1 (ix3 0 g p)) (x2 (ix2 0 g)) (x3 (ix4 0 g p h)) (x4 (ix4 0 g p h)) := by
  pointwise [val_main_v37, val_main_v36, val_main_v35, val_main_v34, val_main_v33, val_main_v32, val_main_v25, r5, r6, r24, r31, bbr]
theorem r42 : val_main_v42 (F := Ideal) x0 x1 x2 x3 x4 (ix3 g p h)
    = bbi (x0 (ix3 0 g p)) (x1 (ix3 0 g p)) (x2 (ix2 0 g)) (x3 (ix4 0 g p h)) (x4 (ix4 0 g p h)) := by
  pointwise [val_main_v42, val_main_v41, val_main_v40, val_main_v39, val_main_v38, val_main_v32, val_main_v25, r5, r6, r24, r31, bbi]

/-- The four results. -/
theorem o43 : val_main_v43 (F := Ideal) x0 x1 x2 (ix2 0 (stt g p)) = lbr (x0 (ix3 0 g p)) (x1 (ix3 0 g p)) (x2 (ix2 0 g)) := by
  rw [val_main_v43_apply]
  exact (congrArg _ (show idx_main_v43 (ix2 0 (stt g p)) = ix2 g p by blk_ext)).trans (r12 x0 x1 x2 g p)
theorem o44 : val_main_v44 (F := Ideal) x0 x1 x2 (ix2 0 (stt g p)) = lbi (x0 (ix3 0 g p)) (x1 (ix3 0 g p)) (x2 (ix2 0 g)) := by
  rw [val_main_v44_apply]
  exact (congrArg _ (show idx_main_v44 (ix2 0 (stt g p)) = ix2 g p by blk_ext)).trans (r15 x0 x1 x2 g p)
theorem o46 : val_main_v46 (F := Ideal) x0 x1 x2 x3 x4 (ix2 h (stt g p))
    = bbr (x0 (ix3 0 g p)) (x1 (ix3 0 g p)) (x2 (ix2 0 g)) (x3 (ix4 0 g p h)) (x4 (ix4 0 g p h)) := by
  rw [val_main_v46_apply, val_main_v45_apply]
  exact (congrArg _ (show idx_main_v45 (idx_main_v46 (ix2 h (stt g p))) = ix3 g p h by blk_ext)).trans (r37 x0 x1 x2 x3 x4 g p h)
theorem o48 : val_main_v48 (F := Ideal) x0 x1 x2 x3 x4 (ix2 h (stt g p))
    = bbi (x0 (ix3 0 g p)) (x1 (ix3 0 g p)) (x2 (ix2 0 g)) (x3 (ix4 0 g p h)) (x4 (ix4 0 g p h)) := by
  rw [val_main_v48_apply, val_main_v47_apply]
  exact (congrArg _ (show idx_main_v47 (idx_main_v48 (ix2 h (stt g p))) = ix3 g p h by blk_ext)).trans (r42 x0 x1 x2 x3 x4 g p h)

end Ref

end Cert.SsmPrepMath

end
-- ==== Proof.SsmPrepMath.Final.lean ====
/- The kernel's four result arrays after the run. -/
module

public import proofs.«01_k».proof.Proof.Gen.SsmPrepIdeal.Frame
public import proofs.«01_k».proof.Proof.SsmPrepMath.Ref
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem

namespace Cert.SsmPrepMath

open Cert.SsmPrepIdeal Cert.SsmPrepIdeal.Gen

section payloads
variable (v0 v2 v4 : Vec Ideal S1x2048 .f32) (v6 v8 : Vec Ideal S16x2048 .f32) (j : Fin 2048) (h : Fin 16)

theorem p8 : k0_pay8 (F := Ideal) v0 v2 v4 (ix2 0 j) = lbr (v0 (ix2 0 j)) (v2 (ix2 0 j)) (v4 (ix2 0 j)) := by
  pointwise [k0_pay8, k0_pay7, k0_pay6, k0_pay5, k0_pay2, k0_pay1, lbr]
theorem p9 : k0_pay9 (F := Ideal) v0 v2 v4 (ix2 0 j) = lbi (v0 (ix2 0 j)) (v2 (ix2 0 j)) (v4 (ix2 0 j)) := by
  pointwise [k0_pay9, k0_pay7, k0_pay6, k0_pay5, k0_pay2, k0_pay1, lbi]
theorem p10 : k0_pay10 (F := Ideal) v0 v2 v4 (ix2 0 j) = lbr (v0 (ix2 0 j)) (v2 (ix2 0 j)) (v4 (ix2 0 j)) - 1 := by
  pointwise [k0_pay10, p8]
theorem p12 : k0_pay12 (F := Ideal) v0 v2 v4 (ix2 0 j) = qr (v0 (ix2 0 j)) (v2 (ix2 0 j)) (v4 (ix2 0 j)) := by
  pointwise [k0_pay12, p10, p9, k0_pay11, k0_pay2, k0_pay1, qr]
theorem p13 : k0_pay13 (F := Ideal) v0 v2 v4 (ix2 0 j) = qi (v0 (ix2 0 j)) (v2 (ix2 0 j)) (v4 (ix2 0 j)) := by
  pointwise [k0_pay13, p10, p9, k0_pay11, k0_pay2, k0_pay1, qi]
theorem p14 : k0_pay14 (F := Ideal) v0 v2 v4 v6 v8 (ix2 h j) = bbr (v0 (ix2 0 j)) (v2 (ix2 0 j)) (v4 (ix2 0 j)) (v6 (ix2 h j)) (v8 (ix2 h j)) := by
  pointwise [k0_pay14, p12, p13, k0_pay3, k0_pay4, bbr]
theorem p15 : k0_pay15 (F := Ideal) v0 v2 v4 v6 v8 (ix2 h j) = bbi (v0 (ix2 0 j)) (v2 (ix2 0 j)) (v4 (ix2 0 j)) (v6 (ix2 h j)) (v8 (ix2 h j)) := by
  pointwise [k0_pay15, p12, p13, k0_pay3, k0_pay4, bbi]

/-- Each store writes its whole block, and each load reads one. -/
theorem whole0 (w : FVec Ideal S1x2048 .f32) : View.canon (Val := Elt Ideal) (e := .f32) [⟨r0_0, w⟩] = w :=
  View.canon_unit_zero (by decide +kernel) _ _
theorem whole1 (w : FVec Ideal S16x2048 .f32) : View.canon (Val := Elt Ideal) (e := .f32) [⟨r0_1, w⟩] = w :=
  View.canon_unit_zero (by decide +kernel) _ _
theorem ld0' (x : Vec Ideal S1x2048 .f32) (j : Fin 2048) : View.ld x r0_0 (ix2 0 j) = x (ix2 0 j) := by
  pointwise
theorem ld0 (x : Vec Ideal S1x2048 .f32) : View.ld x r0_0 = x := by
  funext (y : S1x2048.Idx)
  exact (congrArg (View.ld x r0_0) (show y = ix2 0 (y 1) by blk_ext)).trans ((ld0' x (y 1)).trans (congrArg x (show ix2 0 (y 1) = y by blk_ext)))
theorem ld1' (x : Vec Ideal S16x2048 .f32) (i : Fin 16) (j : Fin 2048) : View.ld x r0_1 (ix2 i j) = x (ix2 i j) := by
  pointwise
theorem ld1 (x : Vec Ideal S16x2048 .f32) : View.ld x r0_1 = x := by
  funext (y : S16x2048.Idx)
  exact (congrArg (View.ld x r0_1) (show y = ix2 (y 0) (y 1) by blk_ext)).trans ((ld1' x (y 0) (y 1)).trans (congrArg x (show ix2 (y 0) (y 1) = y by blk_ext)))

variable {e0 e2 e4 e6 e8 : EReal} (h0 : v0 (ix2 0 j) = e0) (h2 : v2 (ix2 0 j) = e2) (h4 : v4 (ix2 0 j) = e4) (h6 : v6 (ix2 h j) = e6) (h8 : v8 (ix2 h j) = e8)

include h0 h2 h4 in
theorem out5 : out0_5 (F := Ideal) v0 v2 v4 v6 v8 (ix2 0 j) = lbr e0 e2 e4 := by
  subst h0 h2 h4
  refine (congrFun (whole0 _) _).trans ?_; rw [ld0, ld0, ld0]; exact p8 v0 v2 v4 j
include h0 h2 h4 in
theorem out6 : out0_6 (F := Ideal) v0 v2 v4 v6 v8 (ix2 0 j) = lbi e0 e2 e4 := by
  subst h0 h2 h4
  refine (congrFun (whole0 _) _).trans ?_; rw [ld0, ld0, ld0]; exact p9 v0 v2 v4 j
include h0 h2 h4 h6 h8 in
theorem out7 : out0_7 (F := Ideal) v0 v2 v4 v6 v8 (ix2 h j) = bbr e0 e2 e4 e6 e8 := by
  subst h0 h2 h4 h6 h8
  refine (congrFun (whole1 _) _).trans ?_; rw [ld0, ld0, ld0, ld1, ld1]; exact p14 v0 v2 v4 v6 v8 j h
include h0 h2 h4 h6 h8 in
theorem out8 : out0_8 (F := Ideal) v0 v2 v4 v6 v8 (ix2 h j) = bbi e0 e2 e4 e6 e8 := by
  subst h0 h2 h4 h6 h8
  refine (congrFun (whole1 _) _).trans ?_; rw [ld0, ld0, ld0, ld1, ld1]; exact p15 v0 v2 v4 v6 v8 j h
end payloads

variable (m : (ℓ : Loc nD τ sig) → Buf (Elt Ideal) ℓ) (c : Dev nD)

/-- The kernel's arguments. -/
abbrev a0 : FVec Ideal S1x32x64 .f32 := m ((c : Thread nD τ).loc main_arg0)
abbrev a1 : FVec Ideal S1x32x64 .f32 := m ((c : Thread nD τ).loc main_arg1)
abbrev a2 : FVec Ideal S1x32 .f32 := m ((c : Thread nD τ).loc main_arg2)
abbrev a3 : FVec Ideal S1x32x64x16 .f32 := m ((c : Thread nD τ).loc main_arg3)
abbrev a4 : FVec Ideal S1x32x64x16 .f32 := m ((c : Thread nD τ).loc main_arg4)

section host
variable (t : Fin cfg0.N) (g : Fin 32) (p : Fin 64) (h : Fin 16)

theorem h0 : V m c main_v1 (ix2 0 (stt g p)) = a0 m c (ix3 0 g p) := by
  unfold V; after_reads_at; exact congrArg (a0 m c) (by blk_ext)
theorem idx0 : ∀ t : Fin cfg0.N, win0_0.index t = ![0, 0] := by decide +kernel
theorem rd0 : iblk m c 0 t (ix2 0 (stt g p)) = a0 m c (ix3 0 g p) := by
  have e : ∀ X : (b : Ref sig .tc) → Buf (Elt Ideal) ((c : Thread nD τ).loc b),
      ((cfg0.win 0).blk t).view.read (Elt Ideal) (X (cfg0.win 0).arr.view.ref) (ix2 0 (stt g p)) = X main_v1 (ix2 0 (stt g p)) := by
    intro X; blk_simp; exact congrArg (X main_v1) (by blk_ext [idx0 t])
  exact (e _).trans (h0 m c g p)
theorem h1 : V m c main_v3 (ix2 0 (stt g p)) = a1 m c (ix3 0 g p) := by
  unfold V; after_reads_at; exact congrArg (a1 m c) (by blk_ext)
theorem idx1 : ∀ t : Fin cfg0.N, win0_1.index t = ![0, 0] := by decide +kernel
theorem rd1 : iblk m c 1 t (ix2 0 (stt g p)) = a1 m c (ix3 0 g p) := by
  have e : ∀ X : (b : Ref sig .tc) → Buf (Elt Ideal) ((c : Thread nD τ).loc b),
      ((cfg0.win 1).blk t).view.read (Elt Ideal) (X (cfg0.win 1).arr.view.ref) (ix2 0 (stt g p)) = X main_v3 (ix2 0 (stt g p)) := by
    intro X; blk_simp; exact congrArg (X main_v3) (by blk_ext [idx1 t])
  exact (e _).trans (h1 m c g p)
theorem h2 : V m c main_v7 (ix2 0 (stt g p)) = a2 m c (ix2 0 g) := by
  unfold V; after_reads_at; exact congrArg (a2 m c) (by blk_ext)
theorem idx2 : ∀ t : Fin cfg0.N, win0_2.index t = ![0, 0] := by decide +kernel
theorem rd2 : iblk m c 2 t (ix2 0 (stt g p)) = a2 m c (ix2 0 g) := by
  have e : ∀ X : (b : Ref sig .tc) → Buf (Elt Ideal) ((c : Thread nD τ).loc b),
      ((cfg0.win 2).blk t).view.read (Elt Ideal) (X (cfg0.win 2).arr.view.ref) (ix2 0 (stt g p)) = X main_v7 (ix2 0 (stt g p)) := by
    intro X; blk_simp; exact congrArg (X main_v7) (by blk_ext [idx2 t])
  exact (e _).trans (h2 m c g p)
theorem h3 : V m c main_v10 (ix2 h (stt g p)) = a3 m c (ix4 0 g p h) := by
  unfold V; after_reads_at; exact congrArg (a3 m c) (by blk_ext)
theorem idx3 : ∀ t : Fin cfg0.N, win0_3.index t = ![0, 0] := by decide +kernel
theorem rd3 : iblk m c 3 t (ix2 h (stt g p)) = a3 m c (ix4 0 g p h) := by
  have e : ∀ X : (b : Ref sig .tc) → Buf (Elt Ideal) ((c : Thread nD τ).loc b),
      ((cfg0.win 3).blk t).view.read (Elt Ideal) (X (cfg0.win 3).arr.view.ref) (ix2 h (stt g p)) = X main_v10 (ix2 h (stt g p)) := by
    intro X; blk_simp; exact congrArg (X main_v10) (by blk_ext [idx3 t])
  exact (e _).trans (h3 m c g p h)
theorem h4 : V m c main_v13 (ix2 h (stt g p)) = a4 m c (ix4 0 g p h) := by
  unfold V; after_reads_at; exact congrArg (a4 m c) (by blk_ext)
theorem idx4 : ∀ t : Fin cfg0.N, win0_4.index t = ![0, 0] := by decide +kernel
theorem rd4 : iblk m c 4 t (ix2 h (stt g p)) = a4 m c (ix4 0 g p h) := by
  have e : ∀ X : (b : Ref sig .tc) → Buf (Elt Ideal) ((c : Thread nD τ).loc b),
      ((cfg0.win 4).blk t).view.read (Elt Ideal) (X (cfg0.win 4).arr.view.ref) (ix2 h (stt g p)) = X main_v13 (ix2 h (stt g p)) := by
    intro X; blk_simp; exact congrArg (X main_v13) (by blk_ext [idx4 t])
  exact (e _).trans (h4 m c g p h)
end host

theorem final_5 : (dats m 0 c).arrAt 5 (cfgs 0).N = fun y : S1x2048.Idx =>
    lbr (a0 m c (ix3 0 (sg (y 1)) (sp (y 1)))) (a1 m c (ix3 0 (sg (y 1)) (sp (y 1)))) (a2 m c (ix2 0 (sg (y 1)))) := by
  refine (dats m 0 c).arrAt_eq_of_after_last 5 t0_0 (by decide +kernel) _ fun (y : S1x2048.Idx) => ?_
  blk_simp; rw [after0_5]
  have hy : y = ix2 0 (stt (sg (y 1)) (sp (y 1))) :=
    (show y = ix2 0 (y 1) by blk_ext).trans (congrArg (fun j : Fin 2048 => (ix2 0 j : S1x2048.Idx)) (stt_eta (y 1)).symm)
  exact (congrArg _ hy).trans (out5 _ _ _ _ _ _ (rd0 m c t0_0 _ _) (rd1 m c t0_0 _ _) (rd2 m c t0_0 _ _))
theorem final_6 : (dats m 0 c).arrAt 6 (cfgs 0).N = fun y : S1x2048.Idx =>
    lbi (a0 m c (ix3 0 (sg (y 1)) (sp (y 1)))) (a1 m c (ix3 0 (sg (y 1)) (sp (y 1)))) (a2 m c (ix2 0 (sg (y 1)))) := by
  refine (dats m 0 c).arrAt_eq_of_after_last 6 t0_0 (by decide +kernel) _ fun (y : S1x2048.Idx) => ?_
  blk_simp; rw [after0_6]
  have hy : y = ix2 0 (stt (sg (y 1)) (sp (y 1))) :=
    (show y = ix2 0 (y 1) by blk_ext).trans (congrArg (fun j : Fin 2048 => (ix2 0 j : S1x2048.Idx)) (stt_eta (y 1)).symm)
  exact (congrArg _ hy).trans (out6 _ _ _ _ _ _ (rd0 m c t0_0 _ _) (rd1 m c t0_0 _ _) (rd2 m c t0_0 _ _))
theorem final_7 : (dats m 0 c).arrAt 7 (cfgs 0).N = fun y : S16x2048.Idx =>
    bbr (a0 m c (ix3 0 (sg (y 1)) (sp (y 1)))) (a1 m c (ix3 0 (sg (y 1)) (sp (y 1)))) (a2 m c (ix2 0 (sg (y 1)))) (a3 m c (ix4 0 (sg (y 1)) (sp (y 1)) (y 0))) (a4 m c (ix4 0 (sg (y 1)) (sp (y 1)) (y 0))) := by
  refine (dats m 0 c).arrAt_eq_of_after_last 7 t0_0 (by decide +kernel) _ fun (y : S16x2048.Idx) => ?_
  blk_simp; rw [after0_7]
  have hy : y = ix2 (y 0) (stt (sg (y 1)) (sp (y 1))) :=
    (show y = ix2 (y 0) (y 1) by blk_ext).trans (congrArg (fun j : Fin 2048 => (ix2 (y 0) j : S16x2048.Idx)) (stt_eta (y 1)).symm)
  exact (congrArg _ hy).trans (out7 _ _ _ _ _ _ _ (rd0 m c t0_0 _ _) (rd1 m c t0_0 _ _) (rd2 m c t0_0 _ _) (rd3 m c t0_0 _ _ _) (rd4 m c t0_0 _ _ _))
theorem final_8 : (dats m 0 c).arrAt 8 (cfgs 0).N = fun y : S16x2048.Idx =>
    bbi (a0 m c (ix3 0 (sg (y 1)) (sp (y 1)))) (a1 m c (ix3 0 (sg (y 1)) (sp (y 1)))) (a2 m c (ix2 0 (sg (y 1)))) (a3 m c (ix4 0 (sg (y 1)) (sp (y 1)) (y 0))) (a4 m c (ix4 0 (sg (y 1)) (sp (y 1)) (y 0))) := by
  refine (dats m 0 c).arrAt_eq_of_after_last 8 t0_0 (by decide +kernel) _ fun (y : S16x2048.Idx) => ?_
  blk_simp; rw [after0_8]
  have hy : y = ix2 (y 0) (stt (sg (y 1)) (sp (y 1))) :=
    (show y = ix2 (y 0) (y 1) by blk_ext).trans (congrArg (fun j : Fin 2048 => (ix2 (y 0) j : S16x2048.Idx)) (stt_eta (y 1)).symm)
  exact (congrArg _ hy).trans (out8 _ _ _ _ _ _ _ (rd0 m c t0_0 _ _) (rd1 m c t0_0 _ _) (rd2 m c t0_0 _ _) (rd3 m c t0_0 _ _ _) (rd4 m c t0_0 _ _ _))

end Cert.SsmPrepMath

end
-- ==== Proof.SsmPrepMath.Claim.lean ====
/- The kernel's four results are the reference's. -/
module

public import proofs.«01_k».proof.Defs
public import proofs.«01_k».proof.Proof.Gen.SsmPrepIdeal.Value
public import proofs.«01_k».proof.Proof.Gen.SsmPrepRefIdeal.Run
public import proofs.«01_k».proof.Proof.SsmPrepMath.Final

@[expose] public section

set_option maxRecDepth 16384

noncomputable section

open Idealize.ShloMosaic Idealize.ShloMosaic.TcCoe Idealize.SL.Sem

namespace Cert.SsmPrepMath

open Cert.SsmPrepIdeal (S1x2048 S16x2048)

theorem row_eta (i : S1x2048.Idx) : i = ix2 0 (stt (sg (i 1)) (sp (i 1))) :=
  (show i = ix2 0 (i 1) by blk_ext).trans (congrArg (fun j : Fin 2048 => (ix2 0 j : S1x2048.Idx)) (stt_eta (i 1)).symm)
theorem mat_eta (i : S16x2048.Idx) : i = ix2 (i 0) (stt (sg (i 1)) (sp (i 1))) :=
  (show i = ix2 (i 0) (i 1) by blk_ext).trans (congrArg (fun j : Fin 2048 => (ix2 (i 0) j : S16x2048.Idx)) (stt_eta (i 1)).symm)

theorem algebraic : Cert.algebraic_SsmPrepIdeal_SsmPrepRefIdeal := by
  intro m g m' g' _ hagree
  refine ⟨_, _, _, _, Cert.SsmPrepIdeal.Value.run_blocks m g, θ_run_mono (Cert.SsmPrepRefIdeal.Value.run m' g') fun r h c => ?_⟩
  obtain ⟨e0, e1, e2, e3, e4⟩ := hagree c
  refine ⟨(h c).1.trans ?_, (h c).2.1.trans ?_, (h c).2.2.1.trans ?_, (h c).2.2.2.1.trans ?_, (h c).2.2.2.2⟩
  · refine (Cert.SsmPrepRefIdeal.Read.val_main_v43_eq _ _ _).trans ?_
    rw [e0, e1, e2]
    refine Eq.trans ?_ (final_5 m c).symm
    funext i
    exact (congrArg _ (row_eta i)).trans (Ref.o43 (a0 m c) (a1 m c) (a2 m c) _ _)
  · refine (Cert.SsmPrepRefIdeal.Read.val_main_v44_eq _ _ _).trans ?_
    rw [e0, e1, e2]
    refine Eq.trans ?_ (final_6 m c).symm
    funext i
    exact (congrArg _ (row_eta i)).trans (Ref.o44 (a0 m c) (a1 m c) (a2 m c) _ _)
  · refine (Cert.SsmPrepRefIdeal.Read.val_main_v46_eq m' c).trans ?_
    rw [e0, e1, e2, e3, e4]
    refine Eq.trans ?_ (final_7 m c).symm
    funext i
    exact (congrArg _ (mat_eta i)).trans (Ref.o46 (a0 m c) (a1 m c) (a2 m c) (a3 m c) (a4 m c) _ _ _)
  · refine (Cert.SsmPrepRefIdeal.Read.val_main_v48_eq m' c).trans ?_
    rw [e0, e1, e2, e3, e4]
    refine Eq.trans ?_ (final_8 m c).symm
    funext i
    exact (congrArg _ (mat_eta i)).trans (Ref.o48 (a0 m c) (a1 m c) (a2 m c) (a3 m c) (a4 m c) _ _ _)

end Cert.SsmPrepMath

end
-- ==== Proof.MixInFwdMath.Ref.lean ====
/- The modulated features and their product, and the reference's two results as these. -/
module

public import proofs.«01_k».proof.Proof.Gen.MixInFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MixInFwdMath

open Cert.MixInFwdRefIdeal Cert.MixInFwdRefIdeal.Gen Cert.MixInFwdRefIdeal.Read

variable (x : FVec Ideal S4x2048x1024 .f32) (sh sc : FVec Ideal S4x1024 .f32) (g : FVec Ideal S1x1024 .f32) (w : FVec Ideal S1x1024x1024 .f32)

/-- The mean square of a token's features plus the norm's small constant. -/
def var (b : Fin 4) (t : Fin 2048) : EReal :=
  Ideal.div (∑ k : Fin 1024, x (ix3 b t k) * x (ix3 b t k)) (Ideal.ofBits .f32 0x44800000#32) + Ideal.ofBits .f32 0x358637BD#32

/-- The modulated features. -/
def hid (b : Fin 4) (t : Fin 2048) (k : Fin 1024) : EReal :=
  x (ix3 b t k) * Ideal.rsqrt (var x b t) * g (ix2 0 k) * (1 + sc (ix2 b k)) + sh (ix2 b k)

/-- Their product with the weights. -/
def prod (b : Fin 4) (t : Fin 2048) (j : Fin 1024) : EReal := ∑ k : Fin 1024, hid x sh sc g b t k * w (ix3 0 k j)

/-- A column's example and channel; a gate's channel among all. -/
abbrev ex (j : Fin 2048) : Fin 4 := ⟨j.val / 512, by omega⟩
abbrev ch (j : Fin 2048) : Fin 1024 := ⟨j.val % 512, by omega⟩
abbrev gt (j : Fin 512) : Fin 1024 := ⟨512 + j.val, by omega⟩

/-- The recurrence's input, every example's channels side by side, and the gate's. -/
def resU (i : S2048x2048.Idx) : EReal := prod x sh sc g w (ex (i 1)) (i 0) (ch (i 1))
def resP (i : S4x2048x512.Idx) : EReal := prod x sh sc g w (i 0) (i 1) (gt (i 2))

namespace Ref

theorem ref_var (b : Fin 4) (t : Fin 2048) : val_main_v7 (F := Ideal) x (ix3 b t 0) = var x b t := by
  pointwise [val_main_v7, val_main_v6, val_main_v5, val_main_v4, val_main_v3, val_main_v2, val_main_v1, val_main_cst, val_main_cst_0,
    val_main_cst_1, var]
theorem ref_xhat (b : Fin 4) (t : Fin 2048) (k : Fin 1024) : val_main_v10 (F := Ideal) x (ix3 b t k) = x (ix3 b t k) * Ideal.rsqrt (var x b t) := by
  pointwise [val_main_v10, val_main_v9, val_main_v8, ref_var]
theorem ref_hid (b : Fin 4) (t : Fin 2048) (k : Fin 1024) : val_main_v21 (F := Ideal) x sh sc g (ix3 b t k) = hid x sh sc g b t k := by
  pointwise [val_main_v21, val_main_v20, val_main_v19, val_main_v18, val_main_v17, val_main_v16, val_main_v15, val_main_v14, val_main_v13,
    val_main_v12, val_main_v11, val_main_v0, val_main_cst_2, ref_xhat, hid]
theorem ref_prod (b : Fin 4) (t : Fin 2048) (j : Fin 1024) : val_main_v23 (F := Ideal) x sh sc g w (ix3 b t j) = prod x sh sc g w b t j := by
  pointwise [val_main_v23, val_main_v22, ref_hid, prod]

theorem ref_u (t j : Fin 2048) : val_main_v28 (F := Ideal) x sh sc g w (ix2 t j)
    = prod x sh sc g w (ex j) t (ch j) := by
  refine Eq.trans ?_ (ref_prod x sh sc g w _ _ _)
  show val_main_v27 (F := Ideal) x sh sc g w (ix2 t j) = _
  rw [val_main_v27_apply, val_main_v26_apply, val_main_v24_apply]
  exact congrArg _ (by blk_ext)
theorem ref_p (b : Fin 4) (t : Fin 2048) (j : Fin 512) : val_main_v25 (F := Ideal) x sh sc g w (ix3 b t j)
    = prod x sh sc g w b t (gt j) := by
  refine Eq.trans ?_ (ref_prod x sh sc g w _ _ _)
  rw [val_main_v25_apply]
  exact congrArg _ (by blk_ext)

theorem out_u : val_main_v28 (F := Ideal) x sh sc g w = resU x sh sc g w := by
  funext i
  exact (congrArg _ (show i = ix2 (i 0) (i 1) by blk_ext)).trans (ref_u x sh sc g w (i 0) (i 1))
theorem out_p : val_main_v25 (F := Ideal) x sh sc g w = resP x sh sc g w := by
  funext i
  exact (congrArg _ (show i = ix3 (i 0) (i 1) (i 2) by blk_ext)).trans (ref_p x sh sc g w (i 0) (i 1) (i 2))

end Ref

end Cert.MixInFwdMath

end
-- ==== Proof.MixInFwdMath.Final.lean ====
/- The kernel's two result arrays after the run. -/
module

public import proofs.«01_k».proof.Proof.Gen.MixInFwdIdeal.Frame
public import proofs.«01_k».proof.Proof.MixInFwdMath.Ref
public import Idealize.ShloMosaic.Lib.Pipeline.ValueKit
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)
open scoped BigOperators

namespace Cert.MixInFwdMath

open Cert.MixInFwdIdeal Cert.MixInFwdIdeal.Gen

variable (m : (ℓ : Loc nD τ sig) → Buf (Elt Ideal) ℓ) (c : Dev nD)

/-- The kernel's arguments. -/
abbrev aX : FVec Ideal S4x2048x1024 .f32 := m ((c : Thread nD τ).loc main_arg0)
abbrev aSh : FVec Ideal S4x1024 .f32 := m ((c : Thread nD τ).loc main_arg1)
abbrev aSc : FVec Ideal S4x1024 .f32 := m ((c : Thread nD τ).loc main_arg2)
abbrev aG : FVec Ideal S1x1024 .f32 := m ((c : Thread nD τ).loc main_arg3)
abbrev aW : FVec Ideal S1x1024x1024 .f32 := m ((c : Thread nD τ).loc main_arg4)

/-- Every window's block at a grid point. -/
theorem idx : ∀ t : Fin cfg0.N, win0_0.index t = ![t.val / 2, t.val % 2, 0]
    ∧ win0_1.index t = ![t.val / 2, 0, 0]
    ∧ win0_2.index t = ![t.val / 2, 0, 0]
    ∧ win0_3.index t = ![0, 0]
    ∧ win0_4.index t = ![0, 0]
    ∧ win0_5.index t = ![t.val % 2, t.val / 2]
    ∧ win0_6.index t = ![t.val / 2, t.val % 2, 0] :=
  (by decide +kernel : ∀ t : Fin grid0.N, _)

theorem lt8 (t : Fin cfg0.N) : t.val < 8 := lt_of_lt_of_eq t.2 N_0

/-- The example and the token of a grid point's row. -/
def row (t : Fin cfg0.N) : Fin 4 := ⟨t.val / 2, by have := lt8 t; omega⟩
def tok (t : Fin cfg0.N) (r : Fin 1024) : Fin 2048 := ⟨(t.val % 2) * 1024 + r, by omega⟩

section blocks
variable (t : Fin cfg0.N) (r k j : Fin 1024)

theorem rd0 : iblk m c 0 t (ix3 0 r k) = aX m c (ix3 (row t) (tok t r) k) := by blk_point [iblk, V, idx t, row, tok]
theorem rd1 : iblk m c 1 t (ix3 0 0 k) = aSh m c (ix2 (row t) k) := by
  blk_simp [iblk, idx t]
  entry_read
  pointwise
  blk_point [idx t, row, tok]
theorem rd2 : iblk m c 2 t (ix3 0 0 k) = aSc m c (ix2 (row t) k) := by
  blk_simp [iblk, idx t]
  entry_read
  pointwise
  blk_point [idx t, row, tok]
theorem rd3 : iblk m c 3 t (ix2 0 k) = aG m c (ix2 0 k) := by blk_point [iblk, V, idx t, row, tok]
theorem rd4 : iblk m c 4 t (ix2 k j) = aW m c (ix3 0 k j) := by
  blk_simp [iblk, idx t]
  entry_read
  pointwise
  blk_point [idx t, row, tok]

/-- The product of one block of tokens. -/
theorem p2 : k0_pay2 (iblk m c 0 t) (iblk m c 3 t) (iblk m c 2 t) (iblk m c 1 t) (iblk m c 4 t) (ix2 r j)
    = prod (aX m c) (aSh m c) (aSc m c) (aG m c) (aW m c) (row t) (tok t r) j := by
  pointwise [k0_pay2, rd0, rd1, rd2, rd3, rd4, prod, hid, var]

variable (q : Fin 512)
theorem p3 : k0_pay3 (iblk m c 0 t) (iblk m c 3 t) (iblk m c 2 t) (iblk m c 1 t) (iblk m c 4 t) (ix2 r q)
    = prod (aX m c) (aSh m c) (aSc m c) (aG m c) (aW m c) (row t) (tok t r) ⟨q.val, by omega⟩ := by
  pointwise [k0_pay3, p2]
theorem p1 : k0_pay1 (k0_pay4 (iblk m c 0 t) (iblk m c 3 t) (iblk m c 2 t) (iblk m c 1 t) (iblk m c 4 t)) (ix3 0 r q)
    = prod (aX m c) (aSh m c) (aSc m c) (aG m c) (aW m c) (row t) (tok t r) ⟨512 + q.val, by omega⟩ := by
  pointwise [k0_pay1, k0_pay4, p2]
end blocks

/-- The recurrence's input: every step writes its own tokens of its own example. -/
theorem final_5 : (dats m 0 c).arrAt 5 (cfgs 0).N = resU (aX m c) (aSh m c) (aSc m c) (aG m c) (aW m c) := by
  refine (dats m 0 c).arrAt_eq_of_covers 5 _ (by decide +kernel) fun t hf y => ?_
  blk_simp; rw [after0_5]
  have hi : (win0_5.blk t).view.emb y = ix2 (tok t (y 0)) ⟨t.val / 2 * 512 + (y 1).val, by have := lt8 t; have := (y 1).2; simp at this; omega⟩ := by
    blk_ext [idx t, row, tok]
  have hy : y = ix2 (y 0) (y 1) := by blk_ext
  rw [hi]
  frame_out
  refine (congrArg _ hy).trans ((p3 m c t (y 0) (y 1)).trans ?_)
  have h2 := (y 1).2
  simp at h2
  congr 1
  · exact Fin.ext (by show t.val / 2 = (t.val / 2 * 512 + (y 1).val) / 512; omega)
  · exact Fin.ext (by show (y 1).val = (t.val / 2 * 512 + (y 1).val) % 512; omega)

/-- The gate's input. -/
theorem final_6 : (dats m 0 c).arrAt 6 (cfgs 0).N = resP (aX m c) (aSh m c) (aSc m c) (aG m c) (aW m c) := by
  refine (dats m 0 c).arrAt_eq_of_covers 6 _ (by decide +kernel) fun t hf y => ?_
  blk_simp; rw [after0_6]
  have hi : (win0_6.blk t).view.emb y = ix3 (row t) (tok t (y 1)) (y 2) := by blk_ext [idx t, row, tok]
  have hy : y = ix3 0 (y 1) (y 2) := by blk_ext
  rw [hi]
  frame_out
  exact (congrArg _ hy).trans (p1 m c t (y 1) (y 2))

end Cert.MixInFwdMath

end
-- ==== Proof.MixInFwdMath.Claim.lean ====
/- The kernel's two results are the reference's. -/
module

public import proofs.«01_k».proof.Defs
public import proofs.«01_k».proof.Proof.Gen.MixInFwdIdeal.Value
public import proofs.«01_k».proof.Proof.Gen.MixInFwdRefIdeal.Run
public import proofs.«01_k».proof.Proof.MixInFwdMath.Final

@[expose] public section

set_option maxRecDepth 16384

noncomputable section

open Idealize.ShloMosaic Idealize.ShloMosaic.TcCoe Idealize.SL.Sem

namespace Cert.MixInFwdMath

theorem algebraic : Cert.algebraic_MixInFwdIdeal_MixInFwdRefIdeal := by
  intro m g m' g' _ hagree
  refine ⟨fun c => resU (aX m c) (aSh m c) (aSc m c) (aG m c) (aW m c), fun c => resP (aX m c) (aSh m c) (aSc m c) (aG m c) (aW m c),
    θ_run_mono (Cert.MixInFwdIdeal.Value.run_blocks m g) fun r h c => ?_, θ_run_mono (Cert.MixInFwdRefIdeal.Value.run m' g') fun r h c => ?_⟩
  · exact ⟨(h c).1.trans (final_5 m c), (h c).2.1.trans (final_6 m c), (h c).2.2⟩
  · obtain ⟨e0, e1, e2, e3, e4⟩ := hagree c
    refine ⟨(h c).1.trans ?_, (h c).2.1.trans ?_, (h c).2.2⟩
    · refine (Cert.MixInFwdRefIdeal.Read.val_main_v28_eq _ _ _ _ _).trans ?_
      rw [e0, e1, e2, e3, e4]
      exact Ref.out_u _ _ _ _ _
    · refine (Cert.MixInFwdRefIdeal.Read.val_main_v25_eq _ _ _ _ _).trans ?_
      rw [e0, e1, e2, e3, e4]
      exact Ref.out_p _ _ _ _ _

end Cert.MixInFwdMath

end
-- ==== Proof.lean ====
/- The proof of the certificate's claims: each conjunct from its own module. -/
module

public import proofs.«01_k».proof.Defs
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.Pre_mixer_in_bwd_finite
public import proofs.«01_k».proof.Proof.MixInMath.Claim
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdRefIdeal
public import proofs.«01_k».proof.Proof.FfnBwdRun.Value
public import proofs.«01_k».proof.Proof.FfnBwdRun.Bits
public import proofs.«01_k».proof.Proof.Gen.FfnBwdRefIdeal.Run
public import proofs.«01_k».proof.Proof.Gen.FfnBwdRefIdeal.Read
public import proofs.«01_k».proof.Proof.Gen.Pre_ffn_bwd_finite
public import proofs.«01_k».proof.Proof.FfnBwdMath.Claim
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.Pre_ffn_fwd_finite
public import proofs.«01_k».proof.Proof.FfnFwdMath.Claim
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.Pre_mixer_out_bwd_finite
public import proofs.«01_k».proof.Proof.MixOutMath.Claim
public import proofs.«01_k».proof.Proof.Gen.SsmParamBwd
public import proofs.«01_k».proof.Proof.Gen.SsmParamBwd.Skeleton
public import proofs.«01_k».proof.Proof.Gen.SsmParamBwd.Launch
public import proofs.«01_k».proof.Proof.Gen.SsmParamBwd.Points
public import proofs.«01_k».proof.Proof.Gen.SsmParamBwd.Frame
public import proofs.«01_k».proof.Proof.Gen.SsmParamBwdIdeal
public import proofs.«01_k».proof.Proof.Gen.SsmParamBwdIdeal.Skeleton
public import proofs.«01_k».proof.Proof.Gen.SsmParamBwdIdeal.Launch
public import proofs.«01_k».proof.Proof.Gen.SsmParamBwdIdeal.Points
public import proofs.«01_k».proof.Proof.Gen.SsmParamBwdIdeal.Frame
public import proofs.«01_k».proof.Proof.Gen.SsmParamBwdRefIdeal
public import proofs.«01_k».proof.Proof.Gen.SsmParamBwdRefIdeal.Run
public import proofs.«01_k».proof.Proof.Gen.SsmParamBwdRefIdeal.Read
public import proofs.«01_k».proof.Proof.Gen.Pre_ssm_param_bwd_finite
public import proofs.«01_k».proof.Proof.SsmParamMath.Claim
public import proofs.«01_k».proof.Proof.Gen.SsmFwd
public import proofs.«01_k».proof.Proof.Gen.SsmFwdIdeal
public import proofs.«01_k».proof.Proof.Gen.SsmFwdRefIdeal
public import proofs.«01_k».proof.Proof.SsmFwdRun.Frame
public import proofs.«01_k».proof.Proof.SsmFwdRun.Bits
public import proofs.«01_k».proof.Proof.Gen.Pre_ssm_fwd_finite
public import proofs.«01_k».proof.Proof.SsmFwdMath.Claim
public import proofs.«01_k».proof.Proof.Gen.SsmPrep
public import proofs.«01_k».proof.Proof.Gen.SsmPrep.Skeleton
public import proofs.«01_k».proof.Proof.Gen.SsmPrep.Launch
public import proofs.«01_k».proof.Proof.Gen.SsmPrep.Points
public import proofs.«01_k».proof.Proof.Gen.SsmPrep.Frame
public import proofs.«01_k».proof.Proof.Gen.SsmPrepIdeal
public import proofs.«01_k».proof.Proof.Gen.SsmPrepIdeal.Skeleton
public import proofs.«01_k».proof.Proof.Gen.SsmPrepIdeal.Launch
public import proofs.«01_k».proof.Proof.Gen.SsmPrepIdeal.Points
public import proofs.«01_k».proof.Proof.Gen.SsmPrepIdeal.Frame
public import proofs.«01_k».proof.Proof.Gen.SsmPrepRefIdeal
public import proofs.«01_k».proof.Proof.Gen.SsmPrepIdeal.Value
public import proofs.«01_k».proof.Proof.Gen.SsmPrepRefIdeal.Run
public import proofs.«01_k».proof.Proof.Gen.SsmPrepRefIdeal.Read
public import proofs.«01_k».proof.Proof.SsmPrepMath.Claim
public import proofs.«01_k».proof.Proof.Gen.MixInFwd
public import proofs.«01_k».proof.Proof.Gen.MixInFwd.Skeleton
public import proofs.«01_k».proof.Proof.Gen.MixInFwd.Launch
public import proofs.«01_k».proof.Proof.Gen.MixInFwd.Points
public import proofs.«01_k».proof.Proof.Gen.MixInFwd.Frame
public import proofs.«01_k».proof.Proof.Gen.MixInFwdIdeal
public import proofs.«01_k».proof.Proof.Gen.MixInFwdIdeal.Skeleton
public import proofs.«01_k».proof.Proof.Gen.MixInFwdIdeal.Launch
public import proofs.«01_k».proof.Proof.Gen.MixInFwdIdeal.Points
public import proofs.«01_k».proof.Proof.Gen.MixInFwdIdeal.Frame
public import proofs.«01_k».proof.Proof.Gen.MixInFwdRefIdeal
public import proofs.«01_k».proof.Proof.Gen.MixInFwdIdeal.Value
public import proofs.«01_k».proof.Proof.Gen.MixInFwdRefIdeal.Run
public import proofs.«01_k».proof.Proof.Gen.MixInFwdRefIdeal.Read
public import proofs.«01_k».proof.Proof.MixInFwdMath.Claim
public import Idealize.ShloMosaic.Adequacy
public import Idealize.ShloMosaic.Init

@[expose] public section

noncomputable section

namespace Cert.Proof

open Idealize.ShloMosaic Idealize.SL.Sem

/-- The claims about this version's gradients. -/
theorem claim : Cert.Claim := ⟨
  Cert.MixIn.Gen.facts,
  Cert.MixInIdeal.Gen.facts,
  Cert.MixInRefIdeal.Gen.facts,
  Cert.FfnBwd.Gen.facts,
  Cert.FfnBwdIdeal.Gen.facts,
  Cert.FfnBwdRefIdeal.Gen.facts,
  Cert.FfnFwd.Gen.facts,
  Cert.FfnFwdIdeal.Gen.facts,
  Cert.FfnFwdRefIdeal.Gen.facts,
  Cert.MixOut.Gen.facts,
  Cert.MixOutIdeal.Gen.facts,
  Cert.MixOutRefIdeal.Gen.facts,
  Cert.SsmParamBwd.Gen.facts,
  Cert.SsmParamBwdIdeal.Gen.facts,
  Cert.SsmParamBwdRefIdeal.Gen.facts,
  Cert.SsmFwd.Gen.facts,
  Cert.SsmFwdIdeal.Gen.facts,
  Cert.SsmFwdRefIdeal.Gen.facts,
  Cert.SsmPrep.Gen.facts,
  Cert.SsmPrepIdeal.Gen.facts,
  Cert.SsmPrepRefIdeal.Gen.facts,
  Cert.MixInFwd.Gen.facts,
  Cert.MixInFwdIdeal.Gen.facts,
  Cert.MixInFwdRefIdeal.Gen.facts,
  Cert.Pre_mixer_in_bwd_finite.Gen.facts,
  Cert.Pre_ffn_bwd_finite.Gen.facts,
  Cert.Pre_ffn_fwd_finite.Gen.facts,
  Cert.Pre_mixer_out_bwd_finite.Gen.facts,
  Cert.Pre_ssm_param_bwd_finite.Gen.facts,
  Cert.Pre_ssm_fwd_finite.Gen.facts,
  fun m g _ => Cert.MixIn.Gen.frame m g,
  fun m g _ => Cert.MixInIdeal.Gen.frame m g,
  fun m g _ => Cert.MixInIdeal.Gen.frame m g,
  fun m g _ => θ_run_mono (Cert.MixInRefIdeal.Value.run m g) fun r h =>
    ⟨fun c => (h c).2.2.2.2.2, sem_eq_zero_of_no_sems (by decide) r.2⟩,
  fun m g _ => θ_run_mono (Cert.MixInRefIdeal.Value.run m g) fun r h =>
    ⟨fun c => (h c).2.2.2.2.2, sem_eq_zero_of_no_sems (by decide) r.2⟩,
  Cert.FfnBwdRun.frame_kernel,
  fun m g _ => Cert.FfnBwdIdeal.Gen.frame m g,
  fun m g _ => Cert.FfnBwdIdeal.Gen.frame m g,
  fun m g _ => θ_run_mono (Cert.FfnBwdRefIdeal.Value.run m g) fun r h =>
    ⟨fun c => (h c).2.2.2.2.2.2.2, sem_eq_zero_of_no_sems (by decide) r.2⟩,
  fun m g _ => θ_run_mono (Cert.FfnBwdRefIdeal.Value.run m g) fun r h =>
    ⟨fun c => (h c).2.2.2.2.2.2.2, sem_eq_zero_of_no_sems (by decide) r.2⟩,
  fun m g _ => Cert.FfnFwd.Gen.frame m g,
  fun m g _ => Cert.FfnFwdIdeal.Gen.frame m g,
  fun m g _ => Cert.FfnFwdIdeal.Gen.frame m g,
  fun m g _ => θ_run_mono (Cert.FfnFwdRefIdeal.Value.run m g) fun r h =>
    ⟨fun c => (h c).2.2.2.2.2.2.2.2.2.2, sem_eq_zero_of_no_sems (by decide) r.2⟩,
  fun m g _ => θ_run_mono (Cert.FfnFwdRefIdeal.Value.run m g) fun r h =>
    ⟨fun c => (h c).2.2.2.2.2.2.2.2.2.2, sem_eq_zero_of_no_sems (by decide) r.2⟩,
  fun m g _ => Cert.MixOut.Gen.frame m g,
  fun m g _ => Cert.MixOutIdeal.Gen.frame m g,
  fun m g _ => Cert.MixOutIdeal.Gen.frame m g,
  fun m g _ => θ_run_mono (Cert.MixOutRefIdeal.Value.run m g) fun r h =>
    ⟨fun c => (h c).2.2.2.2.2.2.2.2.2, sem_eq_zero_of_no_sems (by decide) r.2⟩,
  fun m g _ => θ_run_mono (Cert.MixOutRefIdeal.Value.run m g) fun r h =>
    ⟨fun c => (h c).2.2.2.2.2.2.2.2.2, sem_eq_zero_of_no_sems (by decide) r.2⟩,
  fun m g _ => Cert.SsmParamBwd.Gen.frame m g,
  fun m g _ => Cert.SsmParamBwdIdeal.Gen.frame m g,
  fun m g _ => Cert.SsmParamBwdIdeal.Gen.frame m g,
  fun m g _ => θ_run_mono (Cert.SsmParamBwdRefIdeal.Value.run m g) fun r h =>
    ⟨fun c => (h c).2.2.2.2.2.2, sem_eq_zero_of_no_sems (by decide) r.2⟩,
  fun m g _ => θ_run_mono (Cert.SsmParamBwdRefIdeal.Value.run m g) fun r h =>
    ⟨fun c => (h c).2.2.2.2.2.2, sem_eq_zero_of_no_sems (by decide) r.2⟩,
  Cert.SsmFwdRun.frame_kernel,
  fun m g _ => Cert.SsmFwdRun.frame m g,
  fun m g _ => Cert.SsmFwdRun.frame m g,
  fun m g _ => Cert.SsmFwdMath.Ref.frame m g trivial,
  fun m g _ => Cert.SsmFwdMath.Ref.frame m g trivial,
  fun m g _ => Cert.SsmPrep.Gen.frame m g,
  fun m g _ => Cert.SsmPrepIdeal.Gen.frame m g,
  fun m g _ => θ_run_mono (Cert.SsmPrepRefIdeal.Value.run m g) fun r h =>
    ⟨fun c => (h c).2.2.2.2, sem_eq_zero_of_no_sems (by decide) r.2⟩,
  fun m g _ => Cert.MixInFwd.Gen.frame m g,
  fun m g _ => Cert.MixInFwdIdeal.Gen.frame m g,
  fun m g _ => θ_run_mono (Cert.MixInFwdRefIdeal.Value.run m g) fun r h =>
    ⟨fun c => (h c).2.2, sem_eq_zero_of_no_sems (by decide) r.2⟩,
  trivial,
  Cert.MixInMath.algebraic,
  trivial,
  Cert.FfnBwdMath.algebraic,
  trivial,
  Cert.FfnFwdMath.algebraic,
  Cert.MixOutMath.preserves,
  Cert.MixOutMath.algebraic,
  trivial,
  Cert.SsmParamMath.algebraic,
  trivial,
  Cert.SsmFwdMath.algebraic,
  trivial,
  Cert.SsmPrepMath.algebraic,
  trivial,
  Cert.MixInFwdMath.algebraic⟩

end Cert.Proof

end
